-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9)
      ∧ r.2.mem ((c.tc : Thread Cert.Kernel6.nD Cert.Kernel6.τ).loc Cert.Kernel6.main_arg10) = m ((c.tc : Thread Cert.Kernel6.nD Cert.Kernel6.τ).loc Cert.Kernel6.main_arg10)
      ∧ r.2.mem ((c.tc : Thread Cert.Kernel6.nD Cert.Kernel6.τ).loc Cert.Kernel6.main_arg11) = m ((c.tc : Thread Cert.Kernel6.nD Cert.Kernel6.τ).loc Cert.Kernel6.main_arg11))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
      ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10)
      ∧ r.2.mem ((c.tc : Thread Cert.Reference6Ideal.nD Cert.Reference6Ideal.τ).loc Cert.Reference6Ideal.main_arg11) = m ((c.tc : Thread Cert.Reference6Ideal.nD Cert.Reference6Ideal.τ).loc Cert.Reference6Ideal.main_arg11))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7)
      ∧ r.2.mem ((c.tc : Thread Cert.Kernel8.nD Cert.Kernel8.τ).loc Cert.Kernel8.main_arg8) = m ((c.tc : Thread Cert.Kernel8.nD Cert.Kernel8.τ).loc Cert.Kernel8.main_arg8))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5)
      ∧ r.2.mem ((c.tc : Thread Cert.Kernel11.nD Cert.Kernel11.τ).loc Cert.Kernel11.main_arg6) = m ((c.tc : Thread Cert.Kernel11.nD Cert.Kernel11.τ).loc Cert.Kernel11.main_arg6))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v16_0)) (v1 : (c : Dev Cert.KernelIdeal.nD) → Buf (Elt Ideal) ((c.tc : Thread Cert.KernelIdeal.nD Cert.KernelIdeal.τ).loc Cert.KernelIdeal.main_v27)) (v2 : (c : Dev Cert.KernelIdeal.nD) → Buf (Elt Ideal) ((c.tc : Thread Cert.KernelIdeal.nD Cert.KernelIdeal.τ).loc Cert.KernelIdeal.main_v30)) (v3 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16_0) = v0 c
          ∧ r.2.mem ((c.tc : Thread Cert.KernelIdeal.nD Cert.KernelIdeal.τ).loc Cert.KernelIdeal.main_v27) = v1 c
          ∧ r.2.mem ((c.tc : Thread Cert.KernelIdeal.nD Cert.KernelIdeal.τ).loc Cert.KernelIdeal.main_v30) = v2 c
          ∧ r.2.mem ((c.tc : Thread Cert.KernelIdeal.nD Cert.KernelIdeal.τ).loc Cert.KernelIdeal.main_v33) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_v64) = v1 c
          ∧ r.2.mem ((c.tc : Thread Cert.ReferenceIdeal.nD Cert.ReferenceIdeal.τ).loc Cert.ReferenceIdeal.main_v63) = v2 c
          ∧ r.2.mem ((c.tc : Thread Cert.ReferenceIdeal.nD Cert.ReferenceIdeal.τ).loc Cert.ReferenceIdeal.main_v62) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v5_0)) (v1 : (c : Dev Cert.Kernel2Ideal.nD) → Buf (Elt Ideal) ((c.tc : Thread Cert.Kernel2Ideal.nD Cert.Kernel2Ideal.τ).loc Cert.Kernel2Ideal.main_v5_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5_0) = v0 c
          ∧ r.2.mem ((c.tc : Thread Cert.Kernel2Ideal.nD Cert.Kernel2Ideal.τ).loc Cert.Kernel2Ideal.main_v5_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v12) = v0 c
          ∧ r.2.mem ((c.tc : Thread Cert.Reference2Ideal.nD Cert.Reference2Ideal.τ).loc Cert.Reference2Ideal.main_v15) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v11_0)) (v1 : (c : Dev Cert.Kernel4Ideal.nD) → Buf (Elt Ideal) ((c.tc : Thread Cert.Kernel4Ideal.nD Cert.Kernel4Ideal.τ).loc Cert.Kernel4Ideal.main_v11_1)) (v2 : (c : Dev Cert.Kernel4Ideal.nD) → Buf (Elt Ideal) ((c.tc : Thread Cert.Kernel4Ideal.nD Cert.Kernel4Ideal.τ).loc Cert.Kernel4Ideal.main_v11_2)) (v3 : (c : Dev Cert.Kernel4Ideal.nD) → Buf (Elt Ideal) ((c.tc : Thread Cert.Kernel4Ideal.nD Cert.Kernel4Ideal.τ).loc Cert.Kernel4Ideal.main_v11_3)) (v4 : (c : Dev Cert.Kernel4Ideal.nD) → Buf (Elt Ideal) ((c.tc : Thread Cert.Kernel4Ideal.nD Cert.Kernel4Ideal.τ).loc Cert.Kernel4Ideal.main_v11_4)) (v5 : (c : Dev Cert.Kernel4Ideal.nD) → Buf (Elt Ideal) ((c.tc : Thread Cert.Kernel4Ideal.nD Cert.Kernel4Ideal.τ).loc Cert.Kernel4Ideal.main_v11_5)) (v6 : (c : Dev Cert.Kernel4Ideal.nD) → Buf (Elt Ideal) ((c.tc : Thread Cert.Kernel4Ideal.nD Cert.Kernel4Ideal.τ).loc Cert.Kernel4Ideal.main_v11_6)) (v7 : (c : Dev Cert.Kernel4Ideal.nD) → Buf (Elt Ideal) ((c.tc : Thread Cert.Kernel4Ideal.nD Cert.Kernel4Ideal.τ).loc Cert.Kernel4Ideal.main_v11_7)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v11_0) = v0 c
          ∧ r.2.mem ((c.tc : Thread Cert.Kernel4Ideal.nD Cert.Kernel4Ideal.τ).loc Cert.Kernel4Ideal.main_v11_1) = v1 c
          ∧ r.2.mem ((c.tc : Thread Cert.Kernel4Ideal.nD Cert.Kernel4Ideal.τ).loc Cert.Kernel4Ideal.main_v11_2) = v2 c
          ∧ r.2.mem ((c.tc : Thread Cert.Kernel4Ideal.nD Cert.Kernel4Ideal.τ).loc Cert.Kernel4Ideal.main_v11_3) = v3 c
          ∧ r.2.mem ((c.tc : Thread Cert.Kernel4Ideal.nD Cert.Kernel4Ideal.τ).loc Cert.Kernel4Ideal.main_v11_4) = v4 c
          ∧ r.2.mem ((c.tc : Thread Cert.Kernel4Ideal.nD Cert.Kernel4Ideal.τ).loc Cert.Kernel4Ideal.main_v11_5) = v5 c
          ∧ r.2.mem ((c.tc : Thread Cert.Kernel4Ideal.nD Cert.Kernel4Ideal.τ).loc Cert.Kernel4Ideal.main_v11_6) = v6 c
          ∧ r.2.mem ((c.tc : Thread Cert.Kernel4Ideal.nD Cert.Kernel4Ideal.τ).loc Cert.Kernel4Ideal.main_v11_7) = v7 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v78) = v0 c
          ∧ r.2.mem ((c.tc : Thread Cert.Reference4Ideal.nD Cert.Reference4Ideal.τ).loc Cert.Reference4Ideal.main_v77) = v1 c
          ∧ r.2.mem ((c.tc : Thread Cert.Reference4Ideal.nD Cert.Reference4Ideal.τ).loc Cert.Reference4Ideal.main_v73) = v2 c
          ∧ r.2.mem ((c.tc : Thread Cert.Reference4Ideal.nD Cert.Reference4Ideal.τ).loc Cert.Reference4Ideal.main_v61) = v3 c
          ∧ r.2.mem ((c.tc : Thread Cert.Reference4Ideal.nD Cert.Reference4Ideal.τ).loc Cert.Reference4Ideal.main_v79) = v4 c
          ∧ r.2.mem ((c.tc : Thread Cert.Reference4Ideal.nD Cert.Reference4Ideal.τ).loc Cert.Reference4Ideal.main_v80) = v5 c
          ∧ r.2.mem ((c.tc : Thread Cert.Reference4Ideal.nD Cert.Reference4Ideal.τ).loc Cert.Reference4Ideal.main_v81) = v6 c
          ∧ r.2.mem ((c.tc : Thread Cert.Reference4Ideal.nD Cert.Reference4Ideal.τ).loc Cert.Reference4Ideal.main_v69) = v7 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)) →
    ∃ (v0 : (c : Dev Cert.Kernel5Ideal.nD) → Buf (Elt Ideal) ((c.tc : Thread Cert.Kernel5Ideal.nD Cert.Kernel5Ideal.τ).loc Cert.Kernel5Ideal.main_v3_0)) (v1 : (c : Dev Cert.Kernel5Ideal.nD) → Buf (Elt Ideal) ((c.tc : Thread Cert.Kernel5Ideal.nD Cert.Kernel5Ideal.τ).loc Cert.Kernel5Ideal.main_v3_1)) (v2 : (c : Dev Cert.Kernel5Ideal.nD) → Buf (Elt Ideal) ((c.tc : Thread Cert.Kernel5Ideal.nD Cert.Kernel5Ideal.τ).loc Cert.Kernel5Ideal.main_v3_2)) (v3 : (c : Dev Cert.Kernel5Ideal.nD) → Buf (Elt Ideal) ((c.tc : Thread Cert.Kernel5Ideal.nD Cert.Kernel5Ideal.τ).loc Cert.Kernel5Ideal.main_v3_3)) (v4 : (c : Dev Cert.Kernel5Ideal.nD) → Buf (Elt Ideal) ((c.tc : Thread Cert.Kernel5Ideal.nD Cert.Kernel5Ideal.τ).loc Cert.Kernel5Ideal.main_v3_4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3_0) = v0 c
          ∧ r.2.mem ((c.tc : Thread Cert.Kernel5Ideal.nD Cert.Kernel5Ideal.τ).loc Cert.Kernel5Ideal.main_v3_1) = v1 c
          ∧ r.2.mem ((c.tc : Thread Cert.Kernel5Ideal.nD Cert.Kernel5Ideal.τ).loc Cert.Kernel5Ideal.main_v3_2) = v2 c
          ∧ r.2.mem ((c.tc : Thread Cert.Kernel5Ideal.nD Cert.Kernel5Ideal.τ).loc Cert.Kernel5Ideal.main_v3_3) = v3 c
          ∧ r.2.mem ((c.tc : Thread Cert.Kernel5Ideal.nD Cert.Kernel5Ideal.τ).loc Cert.Kernel5Ideal.main_v3_4) = v4 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v121) = v0 c
          ∧ r.2.mem ((c.tc : Thread Cert.Reference5Ideal.nD Cert.Reference5Ideal.τ).loc Cert.Reference5Ideal.main_v68) = v1 c
          ∧ r.2.mem ((c.tc : Thread Cert.Reference5Ideal.nD Cert.Reference5Ideal.τ).loc Cert.Reference5Ideal.main_v122) = v2 c
          ∧ r.2.mem ((c.tc : Thread Cert.Reference5Ideal.nD Cert.Reference5Ideal.τ).loc Cert.Reference5Ideal.main_v123) = v3 c
          ∧ r.2.mem ((c.tc : Thread Cert.Reference5Ideal.nD Cert.Reference5Ideal.τ).loc Cert.Reference5Ideal.main_v124) = v4 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9))

def preserves_Kernel3_Kernel3Ideal : Prop :=
  IdealRules.named_const.Statement Cert.Kernel3Ideal.κ "inv_sqrt2" .f32 0x3F3504F3#32 (((Real.sqrt 2)⁻¹ : ℝ) : EReal)
  ∧ IdealRules.named_const.Statement Cert.Kernel3Ideal.κ "inv_sqrt_2pi" .f32 0x3ECC422A#32 (((9465531 / 16777216) * (Real.sqrt 2)⁻¹ : ℝ) : EReal)

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v2_0)) (v1 : (c : Dev Cert.Kernel3Ideal.nD) → Buf (Elt Ideal) ((c.tc : Thread Cert.Kernel3Ideal.nD Cert.Kernel3Ideal.τ).loc Cert.Kernel3Ideal.main_v2_1)) (v2 : (c : Dev Cert.Kernel3Ideal.nD) → Buf (Elt Ideal) ((c.tc : Thread Cert.Kernel3Ideal.nD Cert.Kernel3Ideal.τ).loc Cert.Kernel3Ideal.main_v2_2)) (v3 : (c : Dev Cert.Kernel3Ideal.nD) → Buf (Elt Ideal) ((c.tc : Thread Cert.Kernel3Ideal.nD Cert.Kernel3Ideal.τ).loc Cert.Kernel3Ideal.main_v2_3)) (v4 : (c : Dev Cert.Kernel3Ideal.nD) → Buf (Elt Ideal) ((c.tc : Thread Cert.Kernel3Ideal.nD Cert.Kernel3Ideal.τ).loc Cert.Kernel3Ideal.main_v2_4)) (v5 : (c : Dev Cert.Kernel3Ideal.nD) → Buf (Elt Ideal) ((c.tc : Thread Cert.Kernel3Ideal.nD Cert.Kernel3Ideal.τ).loc Cert.Kernel3Ideal.main_v2_5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2_0) = v0 c
          ∧ r.2.mem ((c.tc : Thread Cert.Kernel3Ideal.nD Cert.Kernel3Ideal.τ).loc Cert.Kernel3Ideal.main_v2_1) = v1 c
          ∧ r.2.mem ((c.tc : Thread Cert.Kernel3Ideal.nD Cert.Kernel3Ideal.τ).loc Cert.Kernel3Ideal.main_v2_2) = v2 c
          ∧ r.2.mem ((c.tc : Thread Cert.Kernel3Ideal.nD Cert.Kernel3Ideal.τ).loc Cert.Kernel3Ideal.main_v2_3) = v3 c
          ∧ r.2.mem ((c.tc : Thread Cert.Kernel3Ideal.nD Cert.Kernel3Ideal.τ).loc Cert.Kernel3Ideal.main_v2_4) = v4 c
          ∧ r.2.mem ((c.tc : Thread Cert.Kernel3Ideal.nD Cert.Kernel3Ideal.τ).loc Cert.Kernel3Ideal.main_v2_5) = v5 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v91) = v0 c
          ∧ r.2.mem ((c.tc : Thread Cert.Reference3Ideal.nD Cert.Reference3Ideal.τ).loc Cert.Reference3Ideal.main_v71) = v1 c
          ∧ r.2.mem ((c.tc : Thread Cert.Reference3Ideal.nD Cert.Reference3Ideal.τ).loc Cert.Reference3Ideal.main_v92) = v2 c
          ∧ r.2.mem ((c.tc : Thread Cert.Reference3Ideal.nD Cert.Reference3Ideal.τ).loc Cert.Reference3Ideal.main_v67) = v3 c
          ∧ r.2.mem ((c.tc : Thread Cert.Reference3Ideal.nD Cert.Reference3Ideal.τ).loc Cert.Reference3Ideal.main_v79) = v4 c
          ∧ r.2.mem ((c.tc : Thread Cert.Reference3Ideal.nD Cert.Reference3Ideal.τ).loc Cert.Reference3Ideal.main_v93) = v5 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel6_Kernel6Ideal : Prop :=
  True

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)) →
    ∃ (v0 : (c : Dev Cert.Kernel7Ideal.nD) → Buf (Elt Ideal) ((c.tc : Thread Cert.Kernel7Ideal.nD Cert.Kernel7Ideal.τ).loc Cert.Kernel7Ideal.main_v3_0)) (v1 : (c : Dev Cert.Kernel7Ideal.nD) → Buf (Elt Ideal) ((c.tc : Thread Cert.Kernel7Ideal.nD Cert.Kernel7Ideal.τ).loc Cert.Kernel7Ideal.main_v3_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3_0) = v0 c
          ∧ r.2.mem ((c.tc : Thread Cert.Kernel7Ideal.nD Cert.Kernel7Ideal.τ).loc Cert.Kernel7Ideal.main_v3_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v53) = v0 c
          ∧ r.2.mem ((c.tc : Thread Cert.Reference7Ideal.nD Cert.Reference7Ideal.τ).loc Cert.Reference7Ideal.main_v54) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5))

def preserves_Kernel8_Kernel8Ideal : Prop :=
  IdealRules.named_const.Statement Cert.Kernel8Ideal.κ "inv_sqrt2" .f32 0x3F3504F3#32 (((Real.sqrt 2)⁻¹ : ℝ) : EReal)

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)
      ∧ m' ((c.tc : Thread Cert.Reference8Ideal.nD Cert.Reference8Ideal.τ).loc Cert.Reference8Ideal.main_arg8) = m ((c.tc : Thread Cert.Kernel8Ideal.nD Cert.Kernel8Ideal.τ).loc Cert.Kernel8Ideal.main_arg8)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
          ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v39) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7)
          ∧ r.2.mem ((c.tc : Thread Cert.Reference8Ideal.nD Cert.Reference8Ideal.τ).loc Cert.Reference8Ideal.main_arg8) = m' ((c.tc : Thread Cert.Reference8Ideal.nD Cert.Reference8Ideal.τ).loc Cert.Reference8Ideal.main_arg8))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v19) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)) (v3 : (c : Dev Cert.Kernel10Ideal.nD) → Buf (Elt Ideal) ((c.tc : Thread Cert.Kernel10Ideal.nD Cert.Kernel10Ideal.τ).loc Cert.Kernel10Ideal.main_v0_3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_v0_3) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v1) = v0 c
          ∧ r.2.mem ((c.tc : Thread Cert.Reference10Ideal.nD Cert.Reference10Ideal.τ).loc Cert.Reference10Ideal.main_v25) = v1 c
          ∧ r.2.mem ((c.tc : Thread Cert.Reference10Ideal.nD Cert.Reference10Ideal.τ).loc Cert.Reference10Ideal.main_v6) = v2 c
          ∧ r.2.mem ((c.tc : Thread Cert.Reference10Ideal.nD Cert.Reference10Ideal.τ).loc Cert.Reference10Ideal.main_v12) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)
      ∧ m' ((c.tc : Thread Cert.Reference11Ideal.nD Cert.Reference11Ideal.τ).loc Cert.Reference11Ideal.main_arg6) = m ((c.tc : Thread Cert.Kernel11Ideal.nD Cert.Kernel11Ideal.τ).loc Cert.Kernel11Ideal.main_arg6)) →
    ∃ (v0 : (c : Dev Cert.Kernel11Ideal.nD) → Buf (Elt Ideal) ((c.tc : Thread Cert.Kernel11Ideal.nD Cert.Kernel11Ideal.τ).loc Cert.Kernel11Ideal.main_v69_2)) (v1 : (c : Dev Cert.Kernel11Ideal.nD) → Buf (Elt Ideal) ((c.tc : Thread Cert.Kernel11Ideal.nD Cert.Kernel11Ideal.τ).loc Cert.Kernel11Ideal.main_v69_3)) (v2 : (c : Dev Cert.Kernel11Ideal.nD) → Buf (Elt Ideal) ((c.tc : Thread Cert.Kernel11Ideal.nD Cert.Kernel11Ideal.τ).loc Cert.Kernel11Ideal.main_v69_4)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v69_2) = v0 c
          ∧ r.2.mem ((c.tc : Thread Cert.Kernel11Ideal.nD Cert.Kernel11Ideal.τ).loc Cert.Kernel11Ideal.main_v69_3) = v1 c
          ∧ r.2.mem ((c.tc : Thread Cert.Kernel11Ideal.nD Cert.Kernel11Ideal.τ).loc Cert.Kernel11Ideal.main_v69_4) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
          ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v56) = v0 c
          ∧ r.2.mem ((c.tc : Thread Cert.Reference11Ideal.nD Cert.Reference11Ideal.τ).loc Cert.Reference11Ideal.main_v57) = v1 c
          ∧ r.2.mem ((c.tc : Thread Cert.Reference11Ideal.nD Cert.Reference11Ideal.τ).loc Cert.Reference11Ideal.main_v58) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5)
          ∧ r.2.mem ((c.tc : Thread Cert.Reference11Ideal.nD Cert.Reference11Ideal.τ).loc Cert.Reference11Ideal.main_arg6) = m' ((c.tc : Thread Cert.Reference11Ideal.nD Cert.Reference11Ideal.τ).loc Cert.Reference11Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel3 : Cert.Kernel3.Facts) (hKernel3Ideal : Cert.Kernel3Ideal.Facts) (hReference3Ideal : Cert.Reference3Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hPre_finite : Cert.Pre_finite.Facts) (hPre_finite2 : Cert.Pre_finite2.Facts) (hPre_finite4 : Cert.Pre_finite4.Facts) (hPre_finite5 : Cert.Pre_finite5.Facts) (hPre_finite3 : Cert.Pre_finite3.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel6_Kernel6Ideal
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
-- ==== Pre_finite.lean ====
abbrev S8192x1024 : Shape := ⟨2, ![8192, 1024]⟩
abbrev S8448x256 : Shape := ⟨2, ![8448, 256]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8448x256 : S_.BroadcastsInDim S8448x256 (![] : Fin 0 → Fin S8448x256.rank)
  reducesTo_S8448x256_S_d0_1 : S8448x256.ReducesTo [0, 1] S_

variable [Facts]

def fn_part1 {F : FTy → Type} [FloatOps F] (main_v13 : IVec S_ 1) (main_v16 : IVec S8192x1024 1) : IVec S_ 1 :=
  let main_c_5 : IVec S_ 1 := constantI S_ 1 1#1
  let main_v17 : IVec S_ 1 := (fun x v => Host.reduce IntOp.andi x v reducesTo_S8192x1024_S_d0_1 h_S_) main_v16 main_c_5
  let main_v18 : IVec S_ 1 := andi main_v13 main_v17
  main_v18

def fn {F : FTy → Type} [FloatOps F] (main_arg0 : FVec F S8192x1024 .f32) (main_arg1 : FVec F S8448x256 .f32) (main_arg2 : FVec F S8448x256 .f32) (main_arg3 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8448x256 .f32 := Host.absf main_arg1
  let main_cst_0 : FVec F S_ .f32 := constant S_ .f32 0x7F800000#32
  let main_v5 : FVec F S8448x256 .f32 := broadcastInDim S8448x256 ![] bcast_S_S8448x256 main_cst_0
  let main_v6 : IVec S8448x256 1 := cmpf .olt main_v4 main_v5
  let main_c_1 : IVec S_ 1 := constantI S_ 1 1#1
  let main_v7 : IVec S_ 1 := (fun x v => Host.reduce IntOp.andi x v reducesTo_S8448x256_S_d0_1 h_S_) main_v6 main_c_1
  let main_v8 : IVec S_ 1 := andi main_v3 main_v7
  let main_v9 : FVec F S8448x256 .f32 := Host.absf main_arg2
  let main_cst_2 : FVec F S_ .f32 := constant S_ .f32 0x7F800000#32
  let main_v10 : FVec F S8448x256 .f32 := broadcastInDim S8448x256 ![] bcast_S_S8448x256 main_cst_2
  let main_v11 : IVec S8448x256 1 := cmpf .olt main_v9 main_v10
  let main_c_3 : IVec S_ 1 := constantI S_ 1 1#1
  let main_v12 : IVec S_ 1 := (fun x v => Host.reduce IntOp.andi x v reducesTo_S8448x256_S_d0_1 h_S_) main_v11 main_c_3
  let main_v13 : IVec S_ 1 := andi main_v8 main_v12
  let main_v14 : FVec F S8192x1024 .f32 := Host.absf main_arg3
  let main_cst_4 : FVec F S_ .f32 := constant S_ .f32 0x7F800000#32
  let main_v15 : FVec F S8192x1024 .f32 := broadcastInDim S8192x1024 ![] bcast_S_S8192x1024 main_cst_4
  let main_v16 : IVec S8192x1024 1 := cmpf .olt main_v14 main_v15
  fn_part1 (F := F) main_v13 main_v16
-- ==== Pre_finite2.lean ====
abbrev S8x1024 : Shape := ⟨2, ![8, 1024]⟩
abbrev S1024 : Shape := ⟨1, ![1024]⟩
abbrev S2x1024x384 : Shape := ⟨3, ![2, 1024, 384]⟩
abbrev S8x2x384 : Shape := ⟨3, ![8, 2, 384]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S2x1024x384 : S_.BroadcastsInDim S2x1024x384 (![] : Fin 0 → Fin S2x1024x384.rank)
  reducesTo_S2x1024x384_S_d0_1_2 : S2x1024x384.ReducesTo [0, 1, 2] S_
  bcast_S_S8x2x384 : S_.BroadcastsInDim S8x2x384 (![] : Fin 0 → Fin S8x2x384.rank)
  reducesTo_S8x2x384_S_d0_1_2 : S8x2x384.ReducesTo [0, 1, 2] S_

variable [Facts]

def fn {F : FTy → Type} [FloatOps F] (main_arg0 : FVec F S8x1024 .f32) (main_arg1 : FVec F S1024 .f32) (main_arg2 : FVec F S2x1024x384 .f32) (main_arg3 : FVec F S8x2x384 .f32) (main_arg4 : FVec F S8x2x384 .f32) : IVec S_ 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S2x1024x384 .f32 := Host.absf main_arg2
  let main_cst_0 : FVec F S_ .f32 := constant S_ .f32 0x7F800000#32
  let main_v5 : FVec F S2x1024x384 .f32 := broadcastInDim S2x1024x384 ![] bcast_S_S2x1024x384 main_cst_0
  let main_v6 : IVec S2x1024x384 1 := cmpf .olt main_v4 main_v5
  let main_c_1 : IVec S_ 1 := constantI S_ 1 1#1
  let main_v7 : IVec S_ 1 := (fun x v => Host.reduce IntOp.andi x v reducesTo_S2x1024x384_S_d0_1_2 h_S_) main_v6 main_c_1
  let main_v8 : IVec S_ 1 := andi main_v3 main_v7
  let main_v9 : FVec F S8x2x384 .f32 := Host.absf main_arg4
  let main_cst_2 : FVec F S_ .f32 := constant S_ .f32 0x7F800000#32
  let main_v10 : FVec F S8x2x384 .f32 := broadcastInDim S8x2x384 ![] bcast_S_S8x2x384 main_cst_2
  let main_v11 : IVec S8x2x384 1 := cmpf .olt main_v9 main_v10
  let main_c_3 : IVec S_ 1 := constantI S_ 1 1#1
  let main_v12 : IVec S_ 1 := (fun x v => Host.reduce IntOp.andi x v reducesTo_S8x2x384_S_d0_1_2 h_S_) main_v11 main_c_3
  let main_v13 : IVec S_ 1 := andi main_v8 main_v12
  main_v13
-- ==== Pre_finite3.lean ====
abbrev S8448x1024 : Shape := ⟨2, ![8448, 1024]⟩
abbrev S2x1024 : Shape := ⟨2, ![2, 1024]⟩
abbrev S1024x1024 : Shape := ⟨2, ![1024, 1024]⟩
abbrev S1024 : Shape := ⟨1, ![1024]⟩
abbrev S_ : Shape := ⟨0, ![]⟩

class Facts : Prop where
  bcast_S_S8448x1024 : S_.BroadcastsInDim S8448x1024 (![] : Fin 0 → Fin S8448x1024.rank)
  reducesTo_S8448x1024_S_d0_1 : S8448x1024.ReducesTo [0, 1] S_
  h_S_ : 0 < S_.numel
  bcast_S_S2x1024 : S_.BroadcastsInDim S2x1024 (![] : Fin 0 → Fin S2x1024.rank)
  reducesTo_S2x1024_S_d0_1 : S2x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S8448x1024 .f32) (main_v33 : IVec S_ 1) : IVec S_ 1 :=
  let main_v34 : FVec F S8448x1024 .f32 := Host.absf main_arg7
  let main_cst_12 : FVec F S_ .f32 := constant S_ .f32 0x7F800000#32
  let main_v35 : FVec F S8448x1024 .f32 := broadcastInDim S8448x1024 ![] bcast_S_S8448x1024 main_cst_12
  let main_v36 : IVec S8448x1024 1 := cmpf .olt main_v34 main_v35
  let main_c_13 : IVec S_ 1 := constantI S_ 1 1#1
  let main_v37 : IVec S_ 1 := (fun x v => Host.reduce IntOp.andi x v reducesTo_S8448x1024_S_d0_1 h_S_) main_v36 main_c_13
  let main_v38 : IVec S_ 1 := andi main_v33 main_v37
  main_v38

def fn_part1 {F : FTy → Type} [FloatOps F] (main_arg4 : FVec F S1024x1024 .f32) (main_arg5 : FVec F S1024 .f32) (main_arg6 : FVec F S1024x1024 .f32) (main_arg7 : FVec F S8448x1024 .f32) (main_v13 : IVec S_ 1) (main_v16 : IVec S2x1024 1) : IVec S_ 1 :=
  let main_c_5 : IVec S_ 1 := constantI S_ 1 1#1
  let main_v17 : IVec S_ 1 := (fun x v => Host.reduce IntOp.andi x v reducesTo_S2x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_v33

def fn {F : FTy → Type} [FloatOps F] (main_arg0 : FVec F S8448x1024 .f32) (main_arg1 : FVec F S8448x1024 .f32) (main_arg2 : FVec F S8448x1024 .f32) (main_arg3 : FVec F S2x1024 .f32) (main_arg4 : FVec F S1024x1024 .f32) (main_arg5 : FVec F S1024 .f32) (main_arg6 : FVec F S1024x1024 .f32) (main_arg7 : FVec F S8448x1024 .f32) : IVec S_ 1 :=
  let main_v0 : FVec F S8448x1024 .f32 := Host.absf main_arg0
  let main_cst : FVec F S_ .f32 := constant S_ .f32 0x7F800000#32
  let main_v1 : FVec F S8448x1024 .f32 := broadcastInDim S8448x1024 ![] bcast_S_S8448x1024 main_cst
  let main_v2 : IVec S8448x1024 1 := cmpf .olt main_v0 main_v1
  let main_c : IVec S_ 1 := constantI S_ 1 1#1
  let main_v3 : IVec S_ 1 := (fun x v => Host.reduce IntOp.andi x v reducesTo_S8448x1024_S_d0_1 h_S_) main_v2 main_c
  let main_v4 : FVec F S8448x1024 .f32 := Host.absf main_arg1
  let main_cst_0 : FVec F S_ .f32 := constant S_ .f32 0x7F800000#32
  let main_v5 : FVec F S8448x1024 .f32 := broadcastInDim S8448x1024 ![] bcast_S_S8448x1024 main_cst_0
  let main_v6 : IVec S8448x1024 1 := cmpf .olt main_v4 main_v5
  let main_c_1 : IVec S_ 1 := constantI S_ 1 1#1
  let main_v7 : IVec S_ 1 := (fun x v => Host.reduce IntOp.andi x v reducesTo_S8448x1024_S_d0_1 h_S_) main_v6 main_c_1
  let main_v8 : IVec S_ 1 := andi main_v3 main_v7
  let main_v9 : FVec F S8448x1024 .f32 := Host.absf main_arg2
  let main_cst_2 : FVec F S_ .f32 := constant S_ .f32 0x7F800000#32
  let main_v10 : FVec F S8448x1024 .f32 := broadcastInDim S8448x1024 ![] bcast_S_S8448x1024 main_cst_2
  let main_v11 : IVec S8448x1024 1 := cmpf .olt main_v9 main_v10
  let main_c_3 : IVec S_ 1 := constantI S_ 1 1#1
  let main_v12 : IVec S_ 1 := (fun x v => Host.reduce IntOp.andi x v reducesTo_S8448x1024_S_d0_1 h_S_) main_v11 main_c_3
  let main_v13 : IVec S_ 1 := andi main_v8 main_v12
  let main_v14 : FVec F S2x1024 .f32 := Host.absf main_arg3
  let main_cst_4 : FVec F S_ .f32 := constant S_ .f32 0x7F800000#32
  let main_v15 : FVec F S2x1024 .f32 := broadcastInDim S2x1024 ![] bcast_S_S2x1024 main_cst_4
  let main_v16 : IVec S2x1024 1 := cmpf .olt main_v14 main_v15
  fn_part1 (F := F) main_arg4 main_arg5 main_arg6 main_arg7 main_v13 main_v16
-- ==== Pre_finite4.lean ====
abbrev S8192x1024 : Shape := ⟨2, ![8192, 1024]⟩
abbrev S8448x1024 : Shape := ⟨2, ![8448, 1024]⟩
abbrev S2x1024 : Shape := ⟨2, ![2, 1024]⟩
abbrev S1024x1024 : Shape := ⟨2, ![1024, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8448x1024 : S_.BroadcastsInDim S8448x1024 (![] : Fin 0 → Fin S8448x1024.rank)
  reducesTo_S8448x1024_S_d0_1 : S8448x1024.ReducesTo [0, 1] S_
  bcast_S_S2x1024 : S_.BroadcastsInDim S2x1024 (![] : Fin 0 → Fin S2x1024.rank)
  reducesTo_S2x1024_S_d0_1 : S2x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024x1024 .f32) (main_arg5 : FVec F S1024 .f32) (main_arg6 : FVec F S8192x1024 .f32) (main_v13 : IVec S_ 1) (main_v16 : IVec S2x1024 1) : IVec S_ 1 :=
  let main_c_5 : IVec S_ 1 := constantI S_ 1 1#1
  let main_v17 : IVec S_ 1 := (fun x v => Host.reduce IntOp.andi x v reducesTo_S2x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S8192x1024 .f32 := Host.absf main_arg6
  let main_cst_10 : FVec F S_ .f32 := constant S_ .f32 0x7F800000#32
  let main_v30 : FVec F S8192x1024 .f32 := broadcastInDim S8192x1024 ![] bcast_S_S8192x1024 main_cst_10
  let main_v31 : IVec S8192x1024 1 := cmpf .olt main_v29 main_v30
  let main_c_11 : IVec S_ 1 := constantI S_ 1 1#1
  let main_v32 : IVec S_ 1 := (fun x v => Host.reduce IntOp.andi x v reducesTo_S8192x1024_S_d0_1 h_S_) main_v31 main_c_11
  let main_v33 : IVec S_ 1 := andi main_v28 main_v32
  main_v33

def fn {F : FTy → Type} [FloatOps F] (main_arg0 : FVec F S8192x1024 .f32) (main_arg1 : FVec F S8448x1024 .f32) (main_arg2 : FVec F S8448x1024 .f32) (main_arg3 : FVec F S2x1024 .f32) (main_arg4 : FVec F S1024x1024 .f32) (main_arg5 : FVec F S1024 .f32) (main_arg6 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8448x1024 .f32 := Host.absf main_arg1
  let main_cst_0 : FVec F S_ .f32 := constant S_ .f32 0x7F800000#32
  let main_v5 : FVec F S8448x1024 .f32 := broadcastInDim S8448x1024 ![] bcast_S_S8448x1024 main_cst_0
  let main_v6 : IVec S8448x1024 1 := cmpf .olt main_v4 main_v5
  let main_c_1 : IVec S_ 1 := constantI S_ 1 1#1
  let main_v7 : IVec S_ 1 := (fun x v => Host.reduce IntOp.andi x v reducesTo_S8448x1024_S_d0_1 h_S_) main_v6 main_c_1
  let main_v8 : IVec S_ 1 := andi main_v3 main_v7
  let main_v9 : FVec F S8448x1024 .f32 := Host.absf main_arg2
  let main_cst_2 : FVec F S_ .f32 := constant S_ .f32 0x7F800000#32
  let main_v10 : FVec F S8448x1024 .f32 := broadcastInDim S8448x1024 ![] bcast_S_S8448x1024 main_cst_2
  let main_v11 : IVec S8448x1024 1 := cmpf .olt main_v9 main_v10
  let main_c_3 : IVec S_ 1 := constantI S_ 1 1#1
  let main_v12 : IVec S_ 1 := (fun x v => Host.reduce IntOp.andi x v reducesTo_S8448x1024_S_d0_1 h_S_) main_v11 main_c_3
  let main_v13 : IVec S_ 1 := andi main_v8 main_v12
  let main_v14 : FVec F S2x1024 .f32 := Host.absf main_arg3
  let main_cst_4 : FVec F S_ .f32 := constant S_ .f32 0x7F800000#32
  let main_v15 : FVec F S2x1024 .f32 := broadcastInDim S2x1024 ![] bcast_S_S2x1024 main_cst_4
  let main_v16 : IVec S2x1024 1 := cmpf .olt main_v14 main_v15
  fn_part1 (F := F) main_arg4 main_arg5 main_arg6 main_v13 main_v16
-- ==== Pre_finite5.lean ====
abbrev S256x1024 : Shape := ⟨2, ![256, 1024]⟩
abbrev S8192x1024 : Shape := ⟨2, ![8192, 1024]⟩
abbrev S1024 : Shape := ⟨1, ![1024]⟩
abbrev S2x1024 : Shape := ⟨2, ![2, 1024]⟩
abbrev S1024x2048 : Shape := ⟨2, ![1024, 2048]⟩
abbrev S8448x1024 : Shape := ⟨2, ![8448, 1024]⟩
abbrev S_ : Shape := ⟨0, ![]⟩

class Facts : Prop where
  bcast_S_S256x1024 : S_.BroadcastsInDim S256x1024 (![] : Fin 0 → Fin S256x1024.rank)
  reducesTo_S256x1024_S_d0_1 : S256x1024.ReducesTo [0, 1] S_
  h_S_ : 0 < S_.numel
  bcast_S_S8192x1024 : S_.BroadcastsInDim S8192x1024 (![] : Fin 0 → Fin S8192x1024.rank)
  reducesTo_S8192x1024_S_d0_1 : S8192x1024.ReducesTo [0, 1] S_
  bcast_S_S1024 : S_.BroadcastsInDim S1024 (![] : Fin 0 → Fin S1024.rank)
  reducesTo_S1024_S_d0 : S1024.ReducesTo [0] S_
  bcast_S_S2x1024 : S_.BroadcastsInDim S2x1024 (![] : Fin 0 → Fin S2x1024.rank)
  reducesTo_S2x1024_S_d0_1 : S2x1024.ReducesTo [0, 1] S_
  bcast_S_S1024x2048 : S_.BroadcastsInDim S1024x2048 (![] : Fin 0 → Fin S1024x2048.rank)
  reducesTo_S1024x2048_S_d0_1 : S1024x2048.ReducesTo [0, 1] S_
  bcast_S_S8448x1024 : S_.BroadcastsInDim S8448x1024 (![] : Fin 0 → Fin S8448x1024.rank)
  reducesTo_S8448x1024_S_d0_1 : S8448x1024.ReducesTo [0, 1] S_

variable [Facts]

def fn_part2 {F : FTy → Type} [FloatOps F] (main_arg7 : FVec F S8448x1024 .f32) (main_arg8 : FVec F S8448x1024 .f32) (main_arg9 : FVec F S8448x1024 .f32) (main_v33 : IVec S_ 1) : IVec S_ 1 :=
  let main_v34 : FVec F S8448x1024 .f32 := Host.absf main_arg7
  let main_cst_12 : FVec F S_ .f32 := constant S_ .f32 0x7F800000#32
  let main_v35 : FVec F S8448x1024 .f32 := broadcastInDim S8448x1024 ![] bcast_S_S8448x1024 main_cst_12
  let main_v36 : IVec S8448x1024 1 := cmpf .olt main_v34 main_v35
  let main_c_13 : IVec S_ 1 := constantI S_ 1 1#1
  let main_v37 : IVec S_ 1 := (fun x v => Host.reduce IntOp.andi x v reducesTo_S8448x1024_S_d0_1 h_S_) main_v36 main_c_13
  let main_v38 : IVec S_ 1 := andi main_v33 main_v37
  let main_v39 : FVec F S8448x1024 .f32 := Host.absf main_arg8
  let main_cst_14 : FVec F S_ .f32 := constant S_ .f32 0x7F800000#32
  let main_v40 : FVec F S8448x1024 .f32 := broadcastInDim S8448x1024 ![] bcast_S_S8448x1024 main_cst_14
  let main_v41 : IVec S8448x1024 1 := cmpf .olt main_v39 main_v40
  let main_c_15 : IVec S_ 1 := constantI S_ 1 1#1
  let main_v42 : IVec S_ 1 := (fun x v => Host.reduce IntOp.andi x v reducesTo_S8448x1024_S_d0_1 h_S_) main_v41 main_c_15
  let main_v43 : IVec S_ 1 := andi main_v38 main_v42
  let main_v44 : FVec F S8448x1024 .f32 := Host.absf main_arg9
  let main_cst_16 : FVec F S_ .f32 := constant S_ .f32 0x7F800000#32
  let main_v45 : FVec F S8448x1024 .f32 := broadcastInDim S8448x1024 ![] bcast_S_S8448x1024 main_cst_16
  let main_v46 : IVec S8448x1024 1 := cmpf .olt main_v44 main_v45
  let main_c_17 : IVec S_ 1 := constantI S_ 1 1#1
  let main_v47 : IVec S_ 1 := (fun x v => Host.reduce IntOp.andi x v reducesTo_S8448x1024_S_d0_1 h_S_) main_v46 main_c_17
  let main_v48 : IVec S_ 1 := andi main_v43 main_v47
  main_v48

def fn_part1 {F : FTy → Type} [FloatOps F] (main_arg4 : FVec F S2x1024 .f32) (main_arg5 : FVec F S1024x2048 .f32) (main_arg6 : FVec F S8448x1024 .f32) (main_arg7 : FVec F S8448x1024 .f32) (main_arg8 : FVec F S8448x1024 .f32) (main_arg9 : FVec F S8448x1024 .f32) (main_v13 : IVec S_ 1) (main_v16 : IVec S2x1024 1) : IVec S_ 1 :=
  let main_c_5 : IVec S_ 1 := constantI S_ 1 1#1
  let main_v17 : IVec S_ 1 := (fun x v => Host.reduce IntOp.andi x v reducesTo_S2x1024_S_d0_1 h_S_) main_v16 main_c_5
  let main_v18 : IVec S_ 1 := andi main_v13 main_v17
  let main_v19 : FVec F S2x1024 .f32 := Host.absf main_arg4
  let main_cst_6 : FVec F S_ .f32 := constant S_ .f32 0x7F800000#32
  let main_v20 : FVec F S2x1024 .f32 := broadcastInDim S2x1024 ![] bcast_S_S2x1024 main_cst_6
  let main_v21 : IVec S2x1024 1 := cmpf .olt main_v19 main_v20
  let main_c_7 : IVec S_ 1 := constantI S_ 1 1#1
  let main_v22 : IVec S_ 1 := (fun x v => Host.reduce IntOp.andi x v reducesTo_S2x1024_S_d0_1 h_S_) main_v21 main_c_7
  let main_v23 : IVec S_ 1 := andi main_v18 main_v22
  let main_v24 : FVec F S1024x2048 .f32 := Host.absf main_arg5
  let main_cst_8 : FVec F S_ .f32 := constant S_ .f32 0x7F800000#32
  let main_v25 : FVec F S1024x2048 .f32 := broadcastInDim S1024x2048 ![] bcast_S_S1024x2048 main_cst_8
  let main_v26 : IVec S1024x2048 1 := cmpf .olt main_v24 main_v25
  let main_c_9 : IVec S_ 1 := constantI S_ 1 1#1
  let main_v27 : IVec S_ 1 := (fun x v => Host.reduce IntOp.andi x v reducesTo_S1024x2048_S_d0_1 h_S_) main_v26 main_c_9
  let main_v28 : IVec S_ 1 := andi main_v23 main_v27
  let main_v29 : FVec F S8448x1024 .f32 := Host.absf main_arg6
  let main_cst_10 : FVec F S_ .f32 := constant S_ .f32 0x7F800000#32
  let main_v30 : FVec F S8448x1024 .f32 := broadcastInDim S8448x1024 ![] bcast_S_S8448x1024 main_cst_10
  let main_v31 : IVec S8448x1024 1 := cmpf .olt main_v29 main_v30
  let main_c_11 : IVec S_ 1 := constantI S_ 1 1#1
  let main_v32 : IVec S_ 1 := (fun x v => Host.reduce IntOp.andi x v reducesTo_S8448x1024_S_d0_1 h_S_) main_v31 main_c_11
  let main_v33 : IVec S_ 1 := andi main_v28 main_v32
  fn_part2 (F := F) main_arg7 main_arg8 main_arg9 main_v33

def fn {F : FTy → Type} [FloatOps F] (main_arg0 : FVec F S256x1024 .f32) (main_arg1 : FVec F S8192x1024 .f32) (main_arg2 : FVec F S1024 .f32) (main_arg3 : FVec F S2x1024 .f32) (main_arg4 : FVec F S2x1024 .f32) (main_arg5 : FVec F S1024x2048 .f32) (main_arg6 : FVec F S8448x1024 .f32) (main_arg7 : FVec F S8448x1024 .f32) (main_arg8 : FVec F S8448x1024 .f32) (main_arg9 : FVec F S8448x1024 .f32) : IVec S_ 1 :=
  let main_v0 : FVec F S256x1024 .f32 := Host.absf main_arg0
  let main_cst : FVec F S_ .f32 := constant S_ .f32 0x7F800000#32
  let main_v1 : FVec F S256x1024 .f32 := broadcastInDim S256x1024 ![] bcast_S_S256x1024 main_cst
  let main_v2 : IVec S256x1024 1 := cmpf .olt main_v0 main_v1
  let main_c : IVec S_ 1 := constantI S_ 1 1#1
  let main_v3 : IVec S_ 1 := (fun x v => Host.reduce IntOp.andi x v reducesTo_S256x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S2x1024 .f32 := Host.absf main_arg3
  let main_cst_4 : FVec F S_ .f32 := constant S_ .f32 0x7F800000#32
  let main_v15 : FVec F S2x1024 .f32 := broadcastInDim S2x1024 ![] bcast_S_S2x1024 main_cst_4
  let main_v16 : IVec S2x1024 1 := cmpf .olt main_v14 main_v15
  fn_part1 (F := F) main_arg4 main_arg5 main_arg6 main_arg7 main_arg8 main_arg9 main_v13 main_v16
-- ==== Kernel.lean ====
abbrev S8192x1024 : Shape := ⟨2, ![8192, 1024]⟩
abbrev S8448x256 : Shape := ⟨2, ![8448, 256]⟩
abbrev S_ : Shape := ⟨0, ![]⟩
abbrev S8448x4x64 : Shape := ⟨3, ![8448, 4, 64]⟩
abbrev S4x8448x64 : Shape := ⟨3, ![4, 8448, 64]⟩
abbrev S4x11x768x64 : Shape := ⟨4, ![4, 11, 768, 64]⟩
abbrev S4x6x1408x64 : Shape := ⟨4, ![4, 6, 1408, 64]⟩
abbrev S4x6x64x1408 : Shape := ⟨4, ![4, 6, 64, 1408]⟩
abbrev S4x6x16x1408 : Shape := ⟨4, ![4, 6, 16, 1408]⟩
abbrev S4x6x80x1408 : Shape := ⟨4, ![4, 6, 80, 1408]⟩
abbrev S4x16x1x2048 : Shape := ⟨4, ![4, 16, 1, 2048]⟩
abbrev S512x256 : Shape := ⟨2, ![512, 256]⟩
abbrev S1x6x1408x64 : Shape := ⟨4, ![1, 6, 1408, 64]⟩
abbrev S1x6x80x1408 : Shape := ⟨4, ![1, 6, 80, 1408]⟩
abbrev S1x1x1x2048 : Shape := ⟨4, ![1, 1, 1, 2048]⟩
abbrev S512x64 : Shape := ⟨2, ![512, 64]⟩
abbrev S2048x64 : Shape := ⟨2, ![2048, 64]⟩
abbrev S1x2048 : Shape := ⟨2, ![1, 2048]⟩
abbrev S80x2048 : Shape := ⟨2, ![80, 2048]⟩
abbrev S1x1x1408x64 : Shape := ⟨4, ![1, 1, 1408, 64]⟩
abbrev S1408x64 : Shape := ⟨2, ![1408, 64]⟩
abbrev S1408x2048 : Shape := ⟨2, ![1408, 2048]⟩
abbrev S2048 : Shape := ⟨1, ![2048]⟩
abbrev S1x1x80x1408 : Shape := ⟨4, ![1, 1, 80, 1408]⟩
abbrev S80x1408 : Shape := ⟨2, ![80, 1408]⟩
abbrev S64x2048 : Shape := ⟨2, ![64, 2048]⟩
abbrev S64x512 : Shape := ⟨2, ![64, 512]⟩
abbrev S8192x16x64 : Shape := ⟨3, ![8192, 16, 64]⟩
abbrev S8192x16 : Shape := ⟨2, ![8192, 16]⟩
abbrev S4x11x64x768 : Shape := ⟨4, ![4, 11, 64, 768]⟩
abbrev S16x512x4x4 : Shape := ⟨4, ![16, 512, 4, 4]⟩
abbrev S4x16x4x512 : Shape := ⟨4, ![4, 16, 4, 512]⟩
abbrev S1x11x768x64 : Shape := ⟨4, ![1, 11, 768, 64]⟩
abbrev S1x11x64x768 : Shape := ⟨4, ![1, 11, 64, 768]⟩
abbrev S1x1x768x64 : Shape := ⟨4, ![1, 1, 768, 64]⟩
abbrev S768x64 : Shape := ⟨2, ![768, 64]⟩
abbrev S768x2048 : Shape := ⟨2, ![768, 2048]⟩
abbrev S1x1x64x768 : Shape := ⟨4, ![1, 1, 64, 768]⟩
abbrev S64x768 : Shape := ⟨2, ![64, 768]⟩

abbrev nBuf : Space → Nat
  | .hbm => 45
  | .vmem => 30
  | .smem => 0
  | _ => 0

abbrev bufTy : (tb : Table) → Fin (tcTables nBuf tb) → BufTy
  | .hbm, ⟨0, _⟩ => ⟨S8192x1024, .f32⟩
  | .hbm, ⟨1, _⟩ => ⟨S8448x256, .f32⟩
  | .hbm, ⟨2, _⟩ => ⟨S8448x256, .f32⟩
  | .hbm, ⟨3, _⟩ => ⟨S8192x1024, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S8192x1024, .bf16⟩
  | .hbm, ⟨8, _⟩ => ⟨S8448x256, .bf16⟩
  | .hbm, ⟨9, _⟩ => ⟨S8448x256, .bf16⟩
  | .hbm, ⟨10, _⟩ => ⟨S8448x4x64, .bf16⟩
  | .hbm, ⟨11, _⟩ => ⟨S4x8448x64, .bf16⟩
  | .hbm, ⟨12, _⟩ => ⟨S8448x4x64, .bf16⟩
  | .hbm, ⟨13, _⟩ => ⟨S4x8448x64, .bf16⟩
  | .hbm, ⟨14, _⟩ => ⟨S4x11x768x64, .bf16⟩
  | .hbm, ⟨15, _⟩ => ⟨S4x11x768x64, .bf16⟩
  | .hbm, ⟨16, _⟩ => ⟨S4x6x1408x64, .bf16⟩
  | .hbm, ⟨17, _⟩ => ⟨S4x6x64x1408, .bf16⟩
  | .hbm, ⟨18, _⟩ => ⟨S_, .bf16⟩
  | .hbm, ⟨19, _⟩ => ⟨S4x6x16x1408, .bf16⟩
  | .hbm, ⟨20, _⟩ => ⟨S4x6x80x1408, .bf16⟩
  | .hbm, ⟨21, _⟩ => ⟨S4x6x1408x64, .bf16⟩
  | .hbm, ⟨22, _⟩ => ⟨S8192x1024, .f32⟩
  | .hbm, ⟨23, _⟩ => ⟨S4x16x1x2048, .f32⟩
  | .hbm, ⟨24, _⟩ => ⟨S8192x1024, .f32⟩
  | .hbm, ⟨25, _⟩ => ⟨S8192x16x64, .f32⟩
  | .hbm, ⟨26, _⟩ => ⟨S_, .f32⟩
  | .hbm, ⟨27, _⟩ => ⟨S8192x16, .f32⟩
  | .hbm, ⟨28, _⟩ => ⟨S4x11x64x768, .bf16⟩
  | .hbm, ⟨29, _⟩ => ⟨S8192x1024, .bf16⟩
  | .hbm, ⟨30, _⟩ => ⟨S16x512x4x4, .f32⟩
  | .hbm, ⟨31, _⟩ => ⟨S4x16x4x512, .f32⟩
  | .hbm, ⟨32, _⟩ => ⟨S4x16x1x2048, .f32⟩
  | .hbm, ⟨33, _⟩ => ⟨S8192x1024, .f32⟩
  | .hbm, ⟨34, _⟩ => ⟨S4x11x768x64, .f32⟩
  | .hbm, ⟨35, _⟩ => ⟨S4x11x768x64, .f32⟩
  | .hbm, ⟨36, _⟩ => ⟨S_, .f32⟩
  | .hbm, ⟨37, _⟩ => ⟨S8192x1024, .f32⟩
  | .hbm, ⟨38, _⟩ => ⟨S8192x1024, .f32⟩
  | .hbm, ⟨39, _⟩ => ⟨S4x8448x64, .f32⟩
  | .hbm, ⟨40, _⟩ => ⟨S8448x4x64, .f32⟩
  | .hbm, ⟨41, _⟩ => ⟨S8448x256, .f32⟩
  | .hbm, ⟨42, _⟩ => ⟨S4x8448x64, .f32⟩
  | .hbm, ⟨43, _⟩ => ⟨S8448x4x64, .f32⟩
  | .hbm, ⟨44, _⟩ => ⟨S8448x256, .f32⟩
  | .local _ .vmem, ⟨0, _⟩ => ⟨S512x256, .bf16⟩
  | .local _ .vmem, ⟨1, _⟩ => ⟨S512x256, .bf16⟩
  | .local _ .vmem, ⟨2, _⟩ => ⟨S1x6x1408x64, .bf16⟩
  | .local _ .vmem, ⟨3, _⟩ => ⟨S1x6x1408x64, .bf16⟩
  | .local _ .vmem, ⟨4, _⟩ => ⟨S1x6x80x1408, .bf16⟩
  | .local _ .vmem, ⟨5, _⟩ => ⟨S1x6x80x1408, .bf16⟩
  | .local _ .vmem, ⟨6, _⟩ => ⟨S512x256, .f32⟩
  | .local _ .vmem, ⟨7, _⟩ => ⟨S512x256, .f32⟩
  | .local _ .vmem, ⟨8, _⟩ => ⟨S1x1x1x2048, .f32⟩
  | .local _ .vmem, ⟨9, _⟩ => ⟨S1x1x1x2048, .f32⟩
  | .local _ .vmem, ⟨10, _⟩ => ⟨S512x256, .bf16⟩
  | .local _ .vmem, ⟨11, _⟩ => ⟨S512x256, .bf16⟩
  | .local _ .vmem, ⟨12, _⟩ => ⟨S1x11x768x64, .bf16⟩
  | .local _ .vmem, ⟨13, _⟩ => ⟨S1x11x768x64, .bf16⟩
  | .local _ .vmem, ⟨14, _⟩ => ⟨S1x11x64x768, .bf16⟩
  | .local _ .vmem, ⟨15, _⟩ => ⟨S1x11x64x768, .bf16⟩
  | .local _ .vmem, ⟨16, _⟩ => ⟨S1x11x768x64, .bf16⟩
  | .local _ .vmem, ⟨17, _⟩ => ⟨S1x11x768x64, .bf16⟩
  | .local _ .vmem, ⟨18, _⟩ => ⟨S512x256, .bf16⟩
  | .local _ .vmem, ⟨19, _⟩ => ⟨S512x256, .bf16⟩
  | .local _ .vmem, ⟨20, _⟩ => ⟨S1x1x1x2048, .f32⟩
  | .local _ .vmem, ⟨21, _⟩ => ⟨S1x1x1x2048, .f32⟩
  | .local _ .vmem, ⟨22, _⟩ => ⟨S1x1x1x2048, .f32⟩
  | .local _ .vmem, ⟨23, _⟩ => ⟨S1x1x1x2048, .f32⟩
  | .local _ .vmem, ⟨24, _⟩ => ⟨S512x256, .f32⟩
  | .local _ .vmem, ⟨25, _⟩ => ⟨S512x256, .f32⟩
  | .local _ .vmem, ⟨26, _⟩ => ⟨S1x11x768x64, .f32⟩
  | .local _ .vmem, ⟨27, _⟩ => ⟨S1x11x768x64, .f32⟩
  | .local _ .vmem, ⟨28, _⟩ => ⟨S1x11x768x64, .f32⟩
  | .local _ .vmem, ⟨29, _⟩ => ⟨S1x11x768x64, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16_0 : Ref sig .tc := ⟨.hbm, 22, rfl⟩
abbrev main_v16_1 : Ref sig .tc := ⟨.hbm, 23, rfl⟩
abbrev main_v17 : Ref sig .tc := ⟨.hbm, 24, rfl⟩
abbrev main_v18 : Ref sig .tc := ⟨.hbm, 25, rfl⟩
abbrev main_cst_1 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25_0 : Ref sig .tc := ⟨.hbm, 33, rfl⟩
abbrev main_v25_1 : Ref sig .tc := ⟨.hbm, 34, rfl⟩
abbrev main_v25_2 : Ref sig .tc := ⟨.hbm, 35, rfl⟩
abbrev main_cst_2 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc1_stg7_0 : Ref sig .tc := ⟨.vmem, 24, rfl⟩
abbrev cc1_stg7_1 : Ref sig .tc := ⟨.vmem, 25, rfl⟩
abbrev cc1_stg8_0 : Ref sig .tc := ⟨.vmem, 26, rfl⟩
abbrev cc1_stg8_1 : Ref sig .tc := ⟨.vmem, 27, rfl⟩
abbrev cc1_stg9_0 : Ref sig .tc := ⟨.vmem, 28, rfl⟩
abbrev cc1_stg9_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem7_1 : DmaSem sig := 25
abbrev cc1_sem8_0 : DmaSem sig := 26
abbrev cc1_sem8_1 : DmaSem sig := 27
abbrev cc1_sem9_0 : DmaSem sig := 28
abbrev cc1_sem9_1 : DmaSem sig := 29

abbrev nD : Nat := 1
abbrev τ : Topo := Topo.v7x

variable {F : FTy → Type} [FloatOps F]

abbrev grid0 : Pipeline.Grid := ⟨2, ![4, 16], ![false, false]⟩

@[reducible] def k0_t1_loop : Scf.Loop 32 :=
  let c0_i32 : BitVec 32 := 0#32
  let c6_i32 : BitVec 32 := 6#32
  let v11 : BitVec 32 := Scalar.addi c0_i32 c6_i32
  let c1_i32 : BitVec 32 := 1#32
  ⟨c0_i32, v11, c1_i32⟩
def k0_off1 (k0_t1 : Fin k0_t1_loop.trips) : Fin 4 → Nat :=
  let c0_12 : Index := 0#32
  let c0_i32 : BitVec 32 := 0#32
  let c1_i32 : BitVec 32 := 1#32
  let arg7 : BitVec 32 := Scf.iv c0_i32 c1_i32 k0_t1
  let v32 : Index := Scalar.indexCast arg7
  let c0_13 : Index := 0#32
  let c0_14 : Index := 0#32
  ![0, v32.toNat, 0, 0]
def k0_off2 (k0_t1 : Fin k0_t1_loop.trips) : Fin 4 → Nat :=
  let c0_17 : Index := 0#32
  let c0_i32 : BitVec 32 := 0#32
  let c1_i32 : BitVec 32 := 1#32
  let arg7 : BitVec 32 := Scf.iv c0_i32 c1_i32 k0_t1
  let v46 : Index := Scalar.indexCast arg7
  let c0_18 : Index := 0#32
  let c0_19 : Index := 0#32
  ![0, v46.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x1408x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x6x80x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![4, 16], ![false, false]⟩

@[reducible] def k1_t1_loop : Scf.Loop 32 :=
  let c0_i32_21 : BitVec 32 := 0#32
  let c11_i32 : BitVec 32 := 11#32
  let v26 : BitVec 32 := Scalar.addi c0_i32_21 c11_i32
  let c1_i32 : BitVec 32 := 1#32
  ⟨c0_i32_21, v26, c1_i32⟩
def k1_off1 (k1_t1 : Fin k1_t1_loop.trips) : Fin 4 → Nat :=
  let c0_25 : Index := 0#32
  let c0_i32_21 : BitVec 32 := 0#32
  let c1_i32 : BitVec 32 := 1#32
  let arg12 : BitVec 32 := Scf.iv c0_i32_21 c1_i32 k1_t1
  let v38 : Index := Scalar.indexCast arg12
  let c0_26 : Index := 0#32
  let c0_27 : Index := 0#32
  ![0, v38.toNat, 0, 0]
def k1_off2 (k1_t1 : Fin k1_t1_loop.trips) : Fin 4 → Nat :=
  let c0_47 : Index := 0#32
  let c0_i32_21 : BitVec 32 := 0#32
  let c1_i32 : BitVec 32 := 1#32
  let arg12 : BitVec 32 := Scf.iv c0_i32_21 c1_i32 k1_t1
  let v72 : Index := Scalar.indexCast arg12
  let c0_48 : Index := 0#32
  let c0_49 : Index := 0#32
  ![0, v72.toNat, 0, 0]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_3 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_5 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_6 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_8 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_9 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 2 → Memref sig .tc .vmem S512x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x11x768x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x11x64x768 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x11x768x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S512x256 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x1x1x2048 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x1x1x2048 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S512x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S1x11x768x64 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]

abbrev stage1_9 : Fin 2 → Memref sig .tc .vmem S1x11x768x64 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, false]
-- ==== ReferenceIdeal.lean ====
abbrev S8192x1024 : Shape := ⟨2, ![8192, 1024]⟩
abbrev S8448x256 : Shape := ⟨2, ![8448, 256]⟩
abbrev S8192x4x4x64 : Shape := ⟨4, ![8192, 4, 4, 64]⟩
abbrev S8448x4x64 : Shape := ⟨3, ![8448, 4, 64]⟩
abbrev S4x8448x8192x4 : Shape := ⟨4, ![4, 8448, 8192, 4]⟩
abbrev S4x4x8192x8448 : Shape := ⟨4, ![4, 4, 8192, 8448]⟩
abbrev S_ : Shape := ⟨0, ![]⟩
abbrev S4x4x8192 : Shape := ⟨3, ![4, 4, 8192]⟩
abbrev S4x4x8192x1 : Shape := ⟨4, ![4, 4, 8192, 1]⟩
abbrev S4x64x4x8192 : Shape := ⟨4, ![4, 64, 4, 8192]⟩
abbrev S4x64x8448 : Shape := ⟨3, ![4, 64, 8448]⟩
abbrev S4x8192x4x64 : Shape := ⟨4, ![4, 8192, 4, 64]⟩
abbrev S4x8448x64 : Shape := ⟨3, ![4, 8448, 64]⟩

abbrev nBuf : Space → Nat
  | .hbm => 83
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8448x256, .f32⟩
  | .hbm, ⟨2, _⟩ => ⟨S8448x256, .f32⟩
  | .hbm, ⟨3, _⟩ => ⟨S8192x1024, .f32⟩
  | .hbm, ⟨4, _⟩ => ⟨S8192x4x4x64, .f32⟩
  | .hbm, ⟨5, _⟩ => ⟨S8448x4x64, .f32⟩
  | .hbm, ⟨6, _⟩ => ⟨S8448x4x64, .f32⟩
  | .hbm, ⟨7, _⟩ => ⟨S4x8448x8192x4, .f32⟩
  | .hbm, ⟨8, _⟩ => ⟨S4x4x8192x8448, .f32⟩
  | .hbm, ⟨9, _⟩ => ⟨S_, .f32⟩
  | .hbm, ⟨10, _⟩ => ⟨S4x4x8192x8448, .f32⟩
  | .hbm, ⟨11, _⟩ => ⟨S4x4x8192x8448, .f32⟩
  | .hbm, ⟨12, _⟩ => ⟨S_, .f32⟩
  | .hbm, ⟨13, _⟩ => ⟨S4x4x8192, .f32⟩
  | .hbm, ⟨14, _⟩ => ⟨S4x4x8192x1, .f32⟩
  | .hbm, ⟨15, _⟩ => ⟨S4x4x8192x8448, .f32⟩
  | .hbm, ⟨16, _⟩ => ⟨S4x4x8192x8448, .i1⟩
  | .hbm, ⟨17, _⟩ => ⟨S4x4x8192x8448, .f32⟩
  | .hbm, ⟨18, _⟩ => ⟨S_, .f32⟩
  | .hbm, ⟨19, _⟩ => ⟨S4x4x8192, .f32⟩
  | .hbm, ⟨20, _⟩ => ⟨S_, .f32⟩
  | .hbm, ⟨21, _⟩ => ⟨S4x4x8192, .f32⟩
  | .hbm, ⟨22, _⟩ => ⟨S4x4x8192, .f32⟩
  | .hbm, ⟨23, _⟩ => ⟨S_, .f32⟩
  | .hbm, ⟨24, _⟩ => ⟨S4x4x8192, .f32⟩
  | .hbm, ⟨25, _⟩ => ⟨S4x4x8192, .i1⟩
  | .hbm, ⟨26, _⟩ => ⟨S_, .f32⟩
  | .hbm, ⟨27, _⟩ => ⟨S4x4x8192, .f32⟩
  | .hbm, ⟨28, _⟩ => ⟨S4x4x8192, .i1⟩
  | .hbm, ⟨29, _⟩ => ⟨S_, .f32⟩
  | .hbm, ⟨30, _⟩ => ⟨S4x4x8192, .f32⟩
  | .hbm, ⟨31, _⟩ => ⟨S_, .f32⟩
  | .hbm, ⟨32, _⟩ => ⟨S4x4x8192, .f32⟩
  | .hbm, ⟨33, _⟩ => ⟨S_, .f32⟩
  | .hbm, ⟨34, _⟩ => ⟨S4x4x8192, .f32⟩
  | .hbm, ⟨35, _⟩ => ⟨S4x4x8192, .f32⟩
  | .hbm, ⟨36, _⟩ => ⟨S4x4x8192, .f32⟩
  | .hbm, ⟨37, _⟩ => ⟨S4x4x8192x1, .f32⟩
  | .hbm, ⟨38, _⟩ => ⟨S4x4x8192x8448, .f32⟩
  | .hbm, ⟨39, _⟩ => ⟨S4x4x8192x8448, .f32⟩
  | .hbm, ⟨40, _⟩ => ⟨S4x4x8192x8448, .f32⟩
  | .hbm, ⟨41, _⟩ => ⟨S_, .f32⟩
  | .hbm, ⟨42, _⟩ => ⟨S4x4x8192, .f32⟩
  | .hbm, ⟨43, _⟩ => ⟨S4x4x8192x1, .f32⟩
  | .hbm, ⟨44, _⟩ => ⟨S4x4x8192x8448, .f32⟩
  | .hbm, ⟨45, _⟩ => ⟨S4x4x8192x8448, .f32⟩
  | .hbm, ⟨46, _⟩ => ⟨S4x4x8192x1, .f32⟩
  | .hbm, ⟨47, _⟩ => ⟨S_, .f32⟩
  | .hbm, ⟨48, _⟩ => ⟨S4x4x8192x1, .f32⟩
  | .hbm, ⟨49, _⟩ => ⟨S4x4x8192x1, .f32⟩
  | .hbm, ⟨50, _⟩ => ⟨S4x64x4x8192, .f32⟩
  | .hbm, ⟨51, _⟩ => ⟨S8192x4x4x64, .f32⟩
  | .hbm, ⟨52, _⟩ => ⟨S8192x1024, .f32⟩
  | .hbm, ⟨53, _⟩ => ⟨S8192x4x4x64, .f32⟩
  | .hbm, ⟨54, _⟩ => ⟨S4x64x4x8192, .f32⟩
  | .hbm, ⟨55, _⟩ => ⟨S4x4x8192x8448, .f32⟩
  | .hbm, ⟨56, _⟩ => ⟨S4x64x8448, .f32⟩
  | .hbm, ⟨57, _⟩ => ⟨S8448x4x64, .f32⟩
  | .hbm, ⟨58, _⟩ => ⟨S4x4x8192x8448, .f32⟩
  | .hbm, ⟨59, _⟩ => ⟨S4x4x8192x8448, .f32⟩
  | .hbm, ⟨60, _⟩ => ⟨S4x4x8192x8448, .f32⟩
  | .hbm, ⟨61, _⟩ => ⟨S_, .f32⟩
  | .hbm, ⟨62, _⟩ => ⟨S4x4x8192, .f32⟩
  | .hbm, ⟨63, _⟩ => ⟨S4x4x8192x1, .f32⟩
  | .hbm, ⟨64, _⟩ => ⟨S4x4x8192x1, .f32⟩
  | .hbm, ⟨65, _⟩ => ⟨S4x4x8192x8448, .f32⟩
  | .hbm, ⟨66, _⟩ => ⟨S4x4x8192x8448, .f32⟩
  | .hbm, ⟨67, _⟩ => ⟨S_, .f32⟩
  | .hbm, ⟨68, _⟩ => ⟨S4x4x8192, .f32⟩
  | .hbm, ⟨69, _⟩ => ⟨S4x4x8192x8448, .f32⟩
  | .hbm, ⟨70, _⟩ => ⟨S4x4x8192x8448, .f32⟩
  | .hbm, ⟨71, _⟩ => ⟨S4x4x8192x8448, .f32⟩
  | .hbm, ⟨72, _⟩ => ⟨S_, .f32⟩
  | .hbm, ⟨73, _⟩ => ⟨S4x4x8192x8448, .f32⟩
  | .hbm, ⟨74, _⟩ => ⟨S4x4x8192x8448, .f32⟩
  | .hbm, ⟨75, _⟩ => ⟨S4x8448x8192x4, .f32⟩
  | .hbm, ⟨76, _⟩ => ⟨S4x8192x4x64, .f32⟩
  | .hbm, ⟨77, _⟩ => ⟨S8192x4x4x64, .f32⟩
  | .hbm, ⟨78, _⟩ => ⟨S4x8448x64, .f32⟩
  | .hbm, ⟨79, _⟩ => ⟨S8448x4x64, .f32⟩
  | .hbm, ⟨80, _⟩ => ⟨S8448x256, .f32⟩
  | .hbm, ⟨81, _⟩ => ⟨S8448x256, .f32⟩
  | .hbm, ⟨82, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_8 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_9 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_10 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_11 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_12 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩

abbrev nD : Nat := 1
abbrev τ : Topo := Topo.v7x

variable {F : FTy → Type} [FloatOps F]
-- ==== Kernel2.lean ====
abbrev S8x1024 : Shape := ⟨2, ![8, 1024]⟩
abbrev S1024 : Shape := ⟨1, ![1024]⟩
abbrev S2x1024x384 : Shape := ⟨3, ![2, 1024, 384]⟩
abbrev S8x2x384 : Shape := ⟨3, ![8, 2, 384]⟩
abbrev S1x1024 : Shape := ⟨2, ![1, 1024]⟩
abbrev S_ : Shape := ⟨0, ![]⟩
abbrev S7x1024 : Shape := ⟨2, ![7, 1024]⟩
abbrev S16x1024 : Shape := ⟨2, ![16, 1024]⟩
abbrev S2x8x384 : Shape := ⟨3, ![2, 8, 384]⟩
abbrev S8x2x1x384 : Shape := ⟨4, ![8, 2, 1, 384]⟩
abbrev S1x1x1x384 : Shape := ⟨4, ![1, 1, 1, 384]⟩
abbrev S1x384 : Shape := ⟨2, ![1, 384]⟩
abbrev S1x8x384 : Shape := ⟨3, ![1, 8, 384]⟩
abbrev S8x384 : Shape := ⟨2, ![8, 384]⟩
abbrev S7x384 : Shape := ⟨2, ![7, 384]⟩
abbrev S16x384 : Shape := ⟨2, ![16, 384]⟩
abbrev S1024x384 : Shape := ⟨2, ![1024, 384]⟩
abbrev S1x1024x384 : Shape := ⟨3, ![1, 1024, 384]⟩

abbrev nBuf : Space → Nat
  | .hbm => 13
  | .vmem => 6
  | .smem => 0
  | _ => 0

abbrev bufTy : (tb : Table) → Fin (tcTables nBuf tb) → BufTy
  | .hbm, ⟨0, _⟩ => ⟨S8x1024, .f32⟩
  | .hbm, ⟨1, _⟩ => ⟨S1024, .f32⟩
  | .hbm, ⟨2, _⟩ => ⟨S2x1024x384, .f32⟩
  | .hbm, ⟨3, _⟩ => ⟨S8x2x384, .f32⟩
  | .hbm, ⟨4, _⟩ => ⟨S8x2x384, .f32⟩
  | .hbm, ⟨5, _⟩ => ⟨S1x1024, .f32⟩
  | .hbm, ⟨6, _⟩ => ⟨S_, .f32⟩
  | .hbm, ⟨7, _⟩ => ⟨S7x1024, .f32⟩
  | .hbm, ⟨8, _⟩ => ⟨S16x1024, .f32⟩
  | .hbm, ⟨9, _⟩ => ⟨S2x8x384, .f32⟩
  | .hbm, ⟨10, _⟩ => ⟨S8x2x1x384, .f32⟩
  | .hbm, ⟨11, _⟩ => ⟨S2x1024x384, .f32⟩
  | .hbm, ⟨12, _⟩ => ⟨S1x1024, .f32⟩
  | .local _ .vmem, ⟨0, _⟩ => ⟨S16x1024, .f32⟩
  | .local _ .vmem, ⟨1, _⟩ => ⟨S2x8x384, .f32⟩
  | .local _ .vmem, ⟨2, _⟩ => ⟨S8x2x1x384, .f32⟩
  | .local _ .vmem, ⟨3, _⟩ => ⟨S2x1024x384, .f32⟩
  | .local _ .vmem, ⟨4, _⟩ => ⟨S2x1024x384, .f32⟩
  | .local _ .vmem, ⟨5, _⟩ => ⟨S1x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x8x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x2x1x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x1024x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x1024x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Reference2Ideal.lean ====
abbrev S8x1024 : Shape := ⟨2, ![8, 1024]⟩
abbrev S1024 : Shape := ⟨1, ![1024]⟩
abbrev S2x1024x384 : Shape := ⟨3, ![2, 1024, 384]⟩
abbrev S8x2x384 : Shape := ⟨3, ![8, 2, 384]⟩
abbrev S_ : Shape := ⟨0, ![]⟩
abbrev S1x1024 : Shape := ⟨2, ![1, 1024]⟩
abbrev S1x2x384 : Shape := ⟨3, ![1, 2, 384]⟩
abbrev S2x384 : Shape := ⟨2, ![2, 384]⟩
abbrev S2x384x1024 : Shape := ⟨3, ![2, 384, 1024]⟩

abbrev nBuf : Space → Nat
  | .hbm => 46
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024, .f32⟩
  | .hbm, ⟨2, _⟩ => ⟨S2x1024x384, .f32⟩
  | .hbm, ⟨3, _⟩ => ⟨S8x2x384, .f32⟩
  | .hbm, ⟨4, _⟩ => ⟨S8x2x384, .f32⟩
  | .hbm, ⟨5, _⟩ => ⟨S8x1024, .f32⟩
  | .hbm, ⟨6, _⟩ => ⟨S8x1024, .f32⟩
  | .hbm, ⟨7, _⟩ => ⟨S_, .f32⟩
  | .hbm, ⟨8, _⟩ => ⟨S8x1024, .f32⟩
  | .hbm, ⟨9, _⟩ => ⟨S8x1024, .f32⟩
  | .hbm, ⟨10, _⟩ => ⟨S_, .f32⟩
  | .hbm, ⟨11, _⟩ => ⟨S8x1024, .f32⟩
  | .hbm, ⟨12, _⟩ => ⟨S8x1024, .f32⟩
  | .hbm, ⟨13, _⟩ => ⟨S8x1024, .f32⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S_, .f32⟩
  | .hbm, ⟨18, _⟩ => ⟨S1x1024, .f32⟩
  | .hbm, ⟨19, _⟩ => ⟨S1x1024, .f32⟩
  | .hbm, ⟨20, _⟩ => ⟨S_, .f32⟩
  | .hbm, ⟨21, _⟩ => ⟨S1x1024, .f32⟩
  | .hbm, ⟨22, _⟩ => ⟨S1x1024, .f32⟩
  | .hbm, ⟨23, _⟩ => ⟨S_, .f32⟩
  | .hbm, ⟨24, _⟩ => ⟨S1x1024, .f32⟩
  | .hbm, ⟨25, _⟩ => ⟨S1x1024, .f32⟩
  | .hbm, ⟨26, _⟩ => ⟨S1x1024, .f32⟩
  | .hbm, ⟨27, _⟩ => ⟨S1x1024, .f32⟩
  | .hbm, ⟨28, _⟩ => ⟨S8x2x384, .f32⟩
  | .hbm, ⟨29, _⟩ => ⟨S1x2x384, .f32⟩
  | .hbm, ⟨30, _⟩ => ⟨S_, .f32⟩
  | .hbm, ⟨31, _⟩ => ⟨S2x384, .f32⟩
  | .hbm, ⟨32, _⟩ => ⟨S1x2x384, .f32⟩
  | .hbm, ⟨33, _⟩ => ⟨S2x384x1024, .f32⟩
  | .hbm, ⟨34, _⟩ => ⟨S2x1024x384, .f32⟩
  | .hbm, ⟨35, _⟩ => ⟨S1x1024, .f32⟩
  | .hbm, ⟨36, _⟩ => ⟨S2x384x1024, .f32⟩
  | .hbm, ⟨37, _⟩ => ⟨S2x1024x384, .f32⟩
  | .hbm, ⟨38, _⟩ => ⟨S2x1024x384, .f32⟩
  | .hbm, ⟨39, _⟩ => ⟨S1x1024, .f32⟩
  | .hbm, ⟨40, _⟩ => ⟨S1x1024, .f32⟩
  | .hbm, ⟨41, _⟩ => ⟨S1x1024, .f32⟩
  | .hbm, ⟨42, _⟩ => ⟨S1x1024, .f32⟩
  | .hbm, ⟨43, _⟩ => ⟨S_, .f32⟩
  | .hbm, ⟨44, _⟩ => ⟨S1024, .f32⟩
  | .hbm, ⟨45, _⟩ => ⟨S1x1024, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v0 : Ref sig .tc := ⟨.hbm, 13, rfl⟩
abbrev main_v1 : Ref sig .tc := ⟨.hbm, 14, rfl⟩
abbrev main_call1_v0 : Ref sig .tc := ⟨.hbm, 15, rfl⟩
abbrev main_call1_v1 : Ref sig .tc := ⟨.hbm, 16, rfl⟩
abbrev main_call1_cst : Ref sig .tc := ⟨.hbm, 17, rfl⟩
abbrev main_call1_v2 : Ref sig .tc := ⟨.hbm, 18, rfl⟩
abbrev main_call1_v3 : Ref sig .tc := ⟨.hbm, 19, rfl⟩
abbrev main_call1_cst_0 : Ref sig .tc := ⟨.hbm, 20, rfl⟩
abbrev main_call1_v4 : Ref sig .tc := ⟨.hbm, 21, rfl⟩
abbrev main_v2_2 : Ref sig .tc := ⟨.hbm, 22, rfl⟩
abbrev main_call1_cst_1 : Ref sig .tc := ⟨.hbm, 23, rfl⟩
abbrev main_call1_v6 : Ref sig .tc := ⟨.hbm, 24, rfl⟩
abbrev main_call1_v7 : Ref sig .tc := ⟨.hbm, 25, rfl⟩
abbrev main_v2_1 : Ref sig .tc := ⟨.hbm, 26, rfl⟩
abbrev main_v2_0 : Ref sig .tc := ⟨.hbm, 27, rfl⟩
abbrev main_v3 : Ref sig .tc := ⟨.hbm, 28, rfl⟩
abbrev main_v4 : Ref sig .tc := ⟨.hbm, 29, rfl⟩
abbrev main_cst : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_call2_v0 : Ref sig .tc := ⟨.hbm, 39, rfl⟩
abbrev main_call2_v1 : Ref sig .tc := ⟨.hbm, 40, rfl⟩
abbrev main_call2_v2 : Ref sig .tc := ⟨.hbm, 41, rfl⟩
abbrev main_v13 : Ref sig .tc := ⟨.hbm, 42, rfl⟩
abbrev main_cst_0 : Ref sig .tc := ⟨.hbm, 43, rfl⟩
abbrev main_v14 : Ref sig .tc := ⟨.hbm, 44, rfl⟩
abbrev main_v15 : Ref sig .tc := ⟨.hbm, 45, rfl⟩

abbrev nD : Nat := 1
abbrev τ : Topo := Topo.v7x

variable {F : FTy → Type} [FloatOps F]
-- ==== Kernel4.lean ====
abbrev S8192x1024 : Shape := ⟨2, ![8192, 1024]⟩
abbrev S8448x1024 : Shape := ⟨2, ![8448, 1024]⟩
abbrev S2x1024 : Shape := ⟨2, ![2, 1024]⟩
abbrev S1024x1024 : Shape := ⟨2, ![1024, 1024]⟩
abbrev S1024 : Shape := ⟨1, ![1024]⟩
abbrev S2x1x1024 : Shape := ⟨3, ![2, 1, 1024]⟩
abbrev S1x1024 : Shape := ⟨2, ![1, 1024]⟩
abbrev S1024x1 : Shape := ⟨2, ![1024, 1]⟩
abbrev S_ : Shape := ⟨0, ![]⟩
abbrev S128 : Shape := ⟨1, ![128]⟩
abbrev S1x128 : Shape := ⟨2, ![1, 128]⟩
abbrev S1024x128 : Shape := ⟨2, ![1024, 128]⟩
abbrev S8192x128 : Shape := ⟨2, ![8192, 128]⟩
abbrev S1x1 : Shape := ⟨2, ![1, 1]⟩
abbrev S256x1024 : Shape := ⟨2, ![256, 1024]⟩
abbrev S1x1x1024 : Shape := ⟨3, ![1, 1, 1024]⟩
abbrev S256x128 : Shape := ⟨2, ![256, 128]⟩
abbrev S256 : Shape := ⟨1, ![256]⟩
abbrev S256x1 : Shape := ⟨2, ![256, 1]⟩
abbrev S1 : Shape := ⟨1, ![1]⟩

abbrev nBuf : Space → Nat
  | .hbm => 43
  | .vmem => 24
  | .smem => 0
  | _ => 0

abbrev bufTy : (tb : Table) → Fin (tcTables nBuf tb) → BufTy
  | .hbm, ⟨0, _⟩ => ⟨S8192x1024, .f32⟩
  | .hbm, ⟨1, _⟩ => ⟨S8448x1024, .f32⟩
  | .hbm, ⟨2, _⟩ => ⟨S8448x1024, .f32⟩
  | .hbm, ⟨3, _⟩ => ⟨S2x1024, .f32⟩
  | .hbm, ⟨4, _⟩ => ⟨S1024x1024, .f32⟩
  | .hbm, ⟨5, _⟩ => ⟨S1024, .f32⟩
  | .hbm, ⟨6, _⟩ => ⟨S8192x1024, .f32⟩
  | .hbm, ⟨7, _⟩ => ⟨S2x1x1024, .f32⟩
  | .hbm, ⟨8, _⟩ => ⟨S1x1024, .f32⟩
  | .hbm, ⟨9, _⟩ => ⟨S1024, .i32⟩
  | .hbm, ⟨10, _⟩ => ⟨S1024x1, .i32⟩
  | .hbm, ⟨11, _⟩ => ⟨S_, .i32⟩
  | .hbm, ⟨12, _⟩ => ⟨S_, .i32⟩
  | .hbm, ⟨13, _⟩ => ⟨S1024x1, .i32⟩
  | .hbm, ⟨14, _⟩ => ⟨S1024x1, .i32⟩
  | .hbm, ⟨15, _⟩ => ⟨S1024x1, .i32⟩
  | .hbm, ⟨16, _⟩ => ⟨S_, .i32⟩
  | .hbm, ⟨17, _⟩ => ⟨S1024x1, .i32⟩
  | .hbm, ⟨18, _⟩ => ⟨S1024x1, .i1⟩
  | .hbm, ⟨19, _⟩ => ⟨S1024x1, .i32⟩
  | .hbm, ⟨20, _⟩ => ⟨S1024x1, .i32⟩
  | .hbm, ⟨21, _⟩ => ⟨S_, .i32⟩
  | .hbm, ⟨22, _⟩ => ⟨S1024x1, .i32⟩
  | .hbm, ⟨23, _⟩ => ⟨S1024x1, .i1⟩
  | .hbm, ⟨24, _⟩ => ⟨S1024x1, .i1⟩
  | .hbm, ⟨25, _⟩ => ⟨S_, .i32⟩
  | .hbm, ⟨26, _⟩ => ⟨S1024x1, .i32⟩
  | .hbm, ⟨27, _⟩ => ⟨S1024x1, .i32⟩
  | .hbm, ⟨28, _⟩ => ⟨S1024x1, .i32⟩
  | .hbm, ⟨29, _⟩ => ⟨S128, .i32⟩
  | .hbm, ⟨30, _⟩ => ⟨S1x128, .i32⟩
  | .hbm, ⟨31, _⟩ => ⟨S1024x128, .i32⟩
  | .hbm, ⟨32, _⟩ => ⟨S1024x128, .i32⟩
  | .hbm, ⟨33, _⟩ => ⟨S1024x128, .i1⟩
  | .hbm, ⟨34, _⟩ => ⟨S1024x128, .bf16⟩
  | .hbm, ⟨35, _⟩ => ⟨S8192x1024, .bf16⟩
  | .hbm, ⟨36, _⟩ => ⟨S8192x128, .f32⟩
  | .hbm, ⟨37, _⟩ => ⟨S8192x1024, .f32⟩
  | .hbm, ⟨38, _⟩ => ⟨S8192x1024, .f32⟩
  | .hbm, ⟨39, _⟩ => ⟨S1x1, .f32⟩
  | .hbm, ⟨40, _⟩ => ⟨S1x1024, .f32⟩
  | .hbm, ⟨41, _⟩ => ⟨S1x1024, .f32⟩
  | .hbm, ⟨42, _⟩ => ⟨S1024x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x1x1024, .f32⟩
  | .local _ .vmem, ⟨7, _⟩ => ⟨S1024x1024, .f32⟩
  | .local _ .vmem, ⟨8, _⟩ => ⟨S1x1024, .f32⟩
  | .local _ .vmem, ⟨9, _⟩ => ⟨S256x1024, .f32⟩
  | .local _ .vmem, ⟨10, _⟩ => ⟨S256x1024, .f32⟩
  | .local _ .vmem, ⟨11, _⟩ => ⟨S1024x128, .bf16⟩
  | .local _ .vmem, ⟨12, _⟩ => ⟨S256x1024, .bf16⟩
  | .local _ .vmem, ⟨13, _⟩ => ⟨S256x1024, .bf16⟩
  | .local _ .vmem, ⟨14, _⟩ => ⟨S256x128, .f32⟩
  | .local _ .vmem, ⟨15, _⟩ => ⟨S256x128, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S1x1, .f32⟩
  | .local _ .vmem, ⟨21, _⟩ => ⟨S1x1024, .f32⟩
  | .local _ .vmem, ⟨22, _⟩ => ⟨S1x1024, .f32⟩
  | .local _ .vmem, ⟨23, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11_0 : Ref sig .tc := ⟨.hbm, 35, rfl⟩
abbrev main_v11_1 : Ref sig .tc := ⟨.hbm, 36, rfl⟩
abbrev main_v11_2 : Ref sig .tc := ⟨.hbm, 37, rfl⟩
abbrev main_v11_3 : Ref sig .tc := ⟨.hbm, 38, rfl⟩
abbrev main_v11_4 : Ref sig .tc := ⟨.hbm, 39, rfl⟩
abbrev main_v11_5 : Ref sig .tc := ⟨.hbm, 40, rfl⟩
abbrev main_v11_6 : Ref sig .tc := ⟨.hbm, 41, rfl⟩
abbrev main_v11_7 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem13_0 : DmaSem sig := 21
abbrev cc0_sem14_0 : DmaSem sig := 22
abbrev cc0_sem15_0 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1024x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== Reference4Ideal.lean ====
abbrev S8192x1024 : Shape := ⟨2, ![8192, 1024]⟩
abbrev S8448x1024 : Shape := ⟨2, ![8448, 1024]⟩
abbrev S2x1024 : Shape := ⟨2, ![2, 1024]⟩
abbrev S1024x1024 : Shape := ⟨2, ![1024, 1024]⟩
abbrev S1024 : Shape := ⟨1, ![1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S8192x16x64 : Shape := ⟨3, ![8192, 16, 64]⟩
abbrev S8192x16 : Shape := ⟨2, ![8192, 16]⟩
abbrev S8192x128 : Shape := ⟨2, ![8192, 128]⟩
abbrev S1x1 : Shape := ⟨2, ![1, 1]⟩

abbrev nBuf : Space → Nat
  | .hbm => 127
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8448x1024, .f32⟩
  | .hbm, ⟨2, _⟩ => ⟨S8448x1024, .f32⟩
  | .hbm, ⟨3, _⟩ => ⟨S2x1024, .f32⟩
  | .hbm, ⟨4, _⟩ => ⟨S1024x1024, .f32⟩
  | .hbm, ⟨5, _⟩ => ⟨S1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S1x1024, .f32⟩
  | .hbm, ⟨10, _⟩ => ⟨S1024, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8192, .f32⟩
  | .hbm, ⟨36, _⟩ => ⟨S8192x1, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S8192x1, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S8192x1024, .f32⟩
  | .hbm, ⟨49, _⟩ => ⟨S8192x1024, .f32⟩
  | .hbm, ⟨50, _⟩ => ⟨S1x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S_, .f32⟩
  | .hbm, ⟨56, _⟩ => ⟨S8192x1024, .f32⟩
  | .hbm, ⟨57, _⟩ => ⟨S8192x1024, .f32⟩
  | .hbm, ⟨58, _⟩ => ⟨S_, .f32⟩
  | .hbm, ⟨59, _⟩ => ⟨S8192, .f32⟩
  | .hbm, ⟨60, _⟩ => ⟨S_, .f32⟩
  | .hbm, ⟨61, _⟩ => ⟨S8192, .f32⟩
  | .hbm, ⟨62, _⟩ => ⟨S8192, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S8192, .f32⟩
  | .hbm, ⟨71, _⟩ => ⟨S_, .f32⟩
  | .hbm, ⟨72, _⟩ => ⟨S8192, .f32⟩
  | .hbm, ⟨73, _⟩ => ⟨S8192, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S_, .f32⟩
  | .hbm, ⟨78, _⟩ => ⟨S1024, .f32⟩
  | .hbm, ⟨79, _⟩ => ⟨S1x1024, .f32⟩
  | .hbm, ⟨80, _⟩ => ⟨S8192x1024, .f32⟩
  | .hbm, ⟨81, _⟩ => ⟨S8192x1024, .f32⟩
  | .hbm, ⟨82, _⟩ => ⟨S_, .f32⟩
  | .hbm, ⟨83, _⟩ => ⟨S1024, .f32⟩
  | .hbm, ⟨84, _⟩ => ⟨S8192x1024, .f32⟩
  | .hbm, ⟨85, _⟩ => ⟨S_, .f32⟩
  | .hbm, ⟨86, _⟩ => ⟨S8192, .f32⟩
  | .hbm, ⟨87, _⟩ => ⟨S8192x1, .f32⟩
  | .hbm, ⟨88, _⟩ => ⟨S8192x1024, .f32⟩
  | .hbm, ⟨89, _⟩ => ⟨S8192x1024, .f32⟩
  | .hbm, ⟨90, _⟩ => ⟨S8192x1, .f32⟩
  | .hbm, ⟨91, _⟩ => ⟨S_, .f32⟩
  | .hbm, ⟨92, _⟩ => ⟨S8192x1, .f32⟩
  | .hbm, ⟨93, _⟩ => ⟨S8192x1, .f32⟩
  | .hbm, ⟨94, _⟩ => ⟨S_, .f32⟩
  | .hbm, ⟨95, _⟩ => ⟨S8192, .f32⟩
  | .hbm, ⟨96, _⟩ => ⟨S8192x1024, .f32⟩
  | .hbm, ⟨97, _⟩ => ⟨S8192x1024, .f32⟩
  | .hbm, ⟨98, _⟩ => ⟨S8192x1024, .f32⟩
  | .hbm, ⟨99, _⟩ => ⟨S8192x1024, .f32⟩
  | .hbm, ⟨100, _⟩ => ⟨S8192x1024, .f32⟩
  | .hbm, ⟨101, _⟩ => ⟨S8192x1024, .f32⟩
  | .hbm, ⟨102, _⟩ => ⟨S_, .f32⟩
  | .hbm, ⟨103, _⟩ => ⟨S1024, .f32⟩
  | .hbm, ⟨104, _⟩ => ⟨S1x1024, .f32⟩
  | .hbm, ⟨105, _⟩ => ⟨S_, .f32⟩
  | .hbm, ⟨106, _⟩ => ⟨S1024, .f32⟩
  | .hbm, ⟨107, _⟩ => ⟨S1024x1024, .f32⟩
  | .hbm, ⟨108, _⟩ => ⟨S1024x1024, .f32⟩
  | .hbm, ⟨109, _⟩ => ⟨S8192x1024, .f32⟩
  | .hbm, ⟨110, _⟩ => ⟨S8192x1024, .f32⟩
  | .hbm, ⟨111, _⟩ => ⟨S8192x1024, .f32⟩
  | .hbm, ⟨112, _⟩ => ⟨S8192x1024, .f32⟩
  | .hbm, ⟨113, _⟩ => ⟨S8192x1024, .f32⟩
  | .hbm, ⟨114, _⟩ => ⟨S8192x1024, .f32⟩
  | .hbm, ⟨115, _⟩ => ⟨S8192x1024, .f32⟩
  | .hbm, ⟨116, _⟩ => ⟨S8192x1024, .f32⟩
  | .hbm, ⟨117, _⟩ => ⟨S8192x16x64, .f32⟩
  | .hbm, ⟨118, _⟩ => ⟨S_, .f32⟩
  | .hbm, ⟨119, _⟩ => ⟨S8192x16, .f32⟩
  | .hbm, ⟨120, _⟩ => ⟨S_, .i32⟩
  | .hbm, ⟨121, _⟩ => ⟨S_, .f32⟩
  | .hbm, ⟨122, _⟩ => ⟨S8192x128, .f32⟩
  | .hbm, ⟨123, _⟩ => ⟨S8192x1024, .bf16⟩
  | .hbm, ⟨124, _⟩ => ⟨S1x1, .f32⟩
  | .hbm, ⟨125, _⟩ => ⟨S1x1024, .f32⟩
  | .hbm, ⟨126, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_v4_2 : Ref sig .tc := ⟨.hbm, 18, rfl⟩
abbrev main_call0_cst_1 : Ref sig .tc := ⟨.hbm, 19, rfl⟩
abbrev main_call0_v6 : Ref sig .tc := ⟨.hbm, 20, rfl⟩
abbrev main_call0_v7 : Ref sig .tc := ⟨.hbm, 21, rfl⟩
abbrev main_v4_1 : Ref sig .tc := ⟨.hbm, 22, rfl⟩
abbrev main_v4_0 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_cst : Ref sig .tc := ⟨.hbm, 31, rfl⟩
abbrev main_v12 : Ref sig .tc := ⟨.hbm, 32, rfl⟩
abbrev main_v13 : Ref sig .tc := ⟨.hbm, 33, rfl⟩
abbrev main_cst_0 : Ref sig .tc := ⟨.hbm, 34, rfl⟩
abbrev main_v14 : Ref sig .tc := ⟨.hbm, 35, rfl⟩
abbrev main_v15 : Ref sig .tc := ⟨.hbm, 36, rfl⟩
abbrev main_cst_1 : Ref sig .tc := ⟨.hbm, 37, rfl⟩
abbrev main_v16 : Ref sig .tc := ⟨.hbm, 38, rfl⟩
abbrev main_v17 : Ref sig .tc := ⟨.hbm, 39, rfl⟩
abbrev main_cst_2 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_cst_3 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_cst_4 : Ref sig .tc := ⟨.hbm, 55, rfl⟩
abbrev main_v31 : Ref sig .tc := ⟨.hbm, 56, rfl⟩
abbrev main_v32 : Ref sig .tc := ⟨.hbm, 57, rfl⟩
abbrev main_cst_5 : Ref sig .tc := ⟨.hbm, 58, rfl⟩
abbrev main_v33 : Ref sig .tc := ⟨.hbm, 59, rfl⟩
abbrev main_cst_6 : Ref sig .tc := ⟨.hbm, 60, rfl⟩
abbrev main_v34 : Ref sig .tc := ⟨.hbm, 61, rfl⟩
abbrev main_v35 : Ref sig .tc := ⟨.hbm, 62, rfl⟩
abbrev main_cst_7 : Ref sig .tc := ⟨.hbm, 63, rfl⟩
abbrev main_v36 : Ref sig .tc := ⟨.hbm, 64, rfl⟩
abbrev main_cst_8 : Ref sig .tc := ⟨.hbm, 65, rfl⟩
abbrev main_v37 : Ref sig .tc := ⟨.hbm, 66, rfl⟩
abbrev main_cst_9 : Ref sig .tc := ⟨.hbm, 67, rfl⟩
abbrev main_cst_10 : Ref sig .tc := ⟨.hbm, 68, rfl⟩
abbrev main_v38 : Ref sig .tc := ⟨.hbm, 69, rfl⟩
abbrev main_v39 : Ref sig .tc := ⟨.hbm, 70, rfl⟩
abbrev main_cst_11 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_cst_12 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_cst_13 : Ref sig .tc := ⟨.hbm, 82, rfl⟩
abbrev main_v49 : Ref sig .tc := ⟨.hbm, 83, rfl⟩
abbrev main_v50 : Ref sig .tc := ⟨.hbm, 84, rfl⟩
abbrev main_cst_14 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_cst_15 : Ref sig .tc := ⟨.hbm, 91, rfl⟩
abbrev main_v56 : Ref sig .tc := ⟨.hbm, 92, rfl⟩
abbrev main_v57 : Ref sig .tc := ⟨.hbm, 93, rfl⟩
abbrev main_cst_16 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_cst_17 : Ref sig .tc := ⟨.hbm, 102, rfl⟩
abbrev main_v65 : Ref sig .tc := ⟨.hbm, 103, rfl⟩
abbrev main_v66 : Ref sig .tc := ⟨.hbm, 104, rfl⟩
abbrev main_cst_18 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_call1_v0 : Ref sig .tc := ⟨.hbm, 112, rfl⟩
abbrev main_call1_v1 : Ref sig .tc := ⟨.hbm, 113, rfl⟩
abbrev main_call1_v2 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_cst_19 : Ref sig .tc := ⟨.hbm, 118, rfl⟩
abbrev main_v76 : Ref sig .tc := ⟨.hbm, 119, rfl⟩
abbrev main_c : Ref sig .tc := ⟨.hbm, 120, rfl⟩
abbrev main_call2_v0 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩

abbrev nD : Nat := 1
abbrev τ : Topo := Topo.v7x

variable {F : FTy → Type} [FloatOps F]
-- ==== Kernel5.lean ====
abbrev S256x1024 : Shape := ⟨2, ![256, 1024]⟩
abbrev S8192x1024 : Shape := ⟨2, ![8192, 1024]⟩
abbrev S1024 : Shape := ⟨1, ![1024]⟩
abbrev S2x1024 : Shape := ⟨2, ![2, 1024]⟩
abbrev S1024x2048 : Shape := ⟨2, ![1024, 2048]⟩
abbrev S8448x1024 : Shape := ⟨2, ![8448, 1024]⟩
abbrev S1x1024 : Shape := ⟨2, ![1, 1024]⟩
abbrev S2x1x1024 : Shape := ⟨3, ![2, 1, 1024]⟩
abbrev S1x1x1024 : Shape := ⟨3, ![1, 1, 1024]⟩
abbrev S256 : Shape := ⟨1, ![256]⟩
abbrev S256x1 : Shape := ⟨2, ![256, 1]⟩
abbrev S256x2048 : Shape := ⟨2, ![256, 2048]⟩

abbrev nBuf : Space → Nat
  | .hbm => 18
  | .vmem => 25
  | .smem => 0
  | _ => 0

abbrev bufTy : (tb : Table) → Fin (tcTables nBuf tb) → BufTy
  | .hbm, ⟨0, _⟩ => ⟨S256x1024, .f32⟩
  | .hbm, ⟨1, _⟩ => ⟨S8192x1024, .f32⟩
  | .hbm, ⟨2, _⟩ => ⟨S1024, .f32⟩
  | .hbm, ⟨3, _⟩ => ⟨S2x1024, .f32⟩
  | .hbm, ⟨4, _⟩ => ⟨S2x1024, .f32⟩
  | .hbm, ⟨5, _⟩ => ⟨S1024x2048, .f32⟩
  | .hbm, ⟨6, _⟩ => ⟨S8448x1024, .f32⟩
  | .hbm, ⟨7, _⟩ => ⟨S8448x1024, .f32⟩
  | .hbm, ⟨8, _⟩ => ⟨S8448x1024, .f32⟩
  | .hbm, ⟨9, _⟩ => ⟨S8448x1024, .f32⟩
  | .hbm, ⟨10, _⟩ => ⟨S1x1024, .f32⟩
  | .hbm, ⟨11, _⟩ => ⟨S2x1x1024, .f32⟩
  | .hbm, ⟨12, _⟩ => ⟨S2x1x1024, .f32⟩
  | .hbm, ⟨13, _⟩ => ⟨S8192x1024, .f32⟩
  | .hbm, ⟨14, _⟩ => ⟨S1024x2048, .f32⟩
  | .hbm, ⟨15, _⟩ => ⟨S1x1024, .f32⟩
  | .hbm, ⟨16, _⟩ => ⟨S2x1x1024, .f32⟩
  | .hbm, ⟨17, _⟩ => ⟨S2x1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1024x2048, .f32⟩
  | .local _ .vmem, ⟨17, _⟩ => ⟨S256x1024, .f32⟩
  | .local _ .vmem, ⟨18, _⟩ => ⟨S256x1024, .f32⟩
  | .local _ .vmem, ⟨19, _⟩ => ⟨S1024x2048, .f32⟩
  | .local _ .vmem, ⟨20, _⟩ => ⟨S1x1024, .f32⟩
  | .local _ .vmem, ⟨21, _⟩ => ⟨S1x1x1024, .f32⟩
  | .local _ .vmem, ⟨22, _⟩ => ⟨S1x1x1024, .f32⟩
  | .local _ .vmem, ⟨23, _⟩ => ⟨S1x1x1024, .f32⟩
  | .local _ .vmem, ⟨24, _⟩ => ⟨S1x1x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3_0 : Ref sig .tc := ⟨.hbm, 13, rfl⟩
abbrev main_v3_1 : Ref sig .tc := ⟨.hbm, 14, rfl⟩
abbrev main_v3_2 : Ref sig .tc := ⟨.hbm, 15, rfl⟩
abbrev main_v3_3 : Ref sig .tc := ⟨.hbm, 16, rfl⟩
abbrev main_v3_4 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17
abbrev cc0_sem10_1 : DmaSem sig := 18
abbrev cc0_sem11_0 : DmaSem sig := 19
abbrev cc0_sem12_0 : DmaSem sig := 20
abbrev cc0_sem13_0 : DmaSem sig := 21
abbrev cc0_sem13_1 : DmaSem sig := 22
abbrev cc0_sem14_0 : DmaSem sig := 23
abbrev cc0_sem14_1 : DmaSem sig := 24

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c1_i32 : BitVec 32 := 1#32
  let v0 : BitVec 32 := Scalar.minsi arg0 c1_i32
  let c0_i32 : BitVec 32 := 0#32
  let c0_i32_0 : BitVec 32 := 0#32
  let c0_i32_1 : BitVec 32 := 0#32
  ![v0.toNat, c0_i32.toNat, c0_i32_0.toNat]

def cc0_transform_8 (i : grid0.Coords) : Fin 3 → Nat :=
  let arg0 : BitVec 32 := BitVec.ofNat 32 (i 0).val
  let c1_i32 : BitVec 32 := 1#32
  let v0 : BitVec 32 := Scalar.minsi arg0 c1_i32
  let c0_i32 : BitVec 32 := 0#32
  let c0_i32_0 : BitVec 32 := 0#32
  let c0_i32_1 : BitVec 32 := 0#32
  ![v0.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c1_i32 : BitVec 32 := 1#32
  let v0 : BitVec 32 := Scalar.minsi arg0 c1_i32
  let c0_i32 : BitVec 32 := 0#32
  let c0_i32_0 : BitVec 32 := 0#32
  let c0_i32_1 : BitVec 32 := 0#32
  ![v0.toNat, c0_i32.toNat, c0_i32_0.toNat]

def cc0_transform_14 (i : grid0.Coords) : Fin 3 → Nat :=
  let arg0 : BitVec 32 := BitVec.ofNat 32 (i 0).val
  let c1_i32 : BitVec 32 := 1#32
  let v0 : BitVec 32 := Scalar.minsi arg0 c1_i32
  let c0_i32 : BitVec 32 := 0#32
  let c0_i32_0 : BitVec 32 := 0#32
  let c0_i32_1 : BitVec 32 := 0#32
  ![v0.toNat, c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1024x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1024x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S1x1x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x1x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference5Ideal.lean ====
abbrev S256x1024 : Shape := ⟨2, ![256, 1024]⟩
abbrev S8192x1024 : Shape := ⟨2, ![8192, 1024]⟩
abbrev S1024 : Shape := ⟨1, ![1024]⟩
abbrev S2x1024 : Shape := ⟨2, ![2, 1024]⟩
abbrev S1024x2048 : Shape := ⟨2, ![1024, 2048]⟩
abbrev S8448x1024 : Shape := ⟨2, ![8448, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S256 : Shape := ⟨1, ![256]⟩
abbrev S256x1 : Shape := ⟨2, ![256, 1]⟩
abbrev S256x2048 : Shape := ⟨2, ![256, 2048]⟩
abbrev S8192x2048 : Shape := ⟨2, ![8192, 2048]⟩
abbrev S8448x2048 : Shape := ⟨2, ![8448, 2048]⟩
abbrev S2048x1024 : Shape := ⟨2, ![2048, 1024]⟩
abbrev S2x1x1024 : Shape := ⟨3, ![2, 1, 1024]⟩

abbrev nBuf : Space → Nat
  | .hbm => 164
  | .vmem => 0
  | .smem => 0
  | _ => 0

abbrev hbmTy0_0 (i : Nat) : BufTy := match i % 128 with
  | 0 => ⟨S256x1024, .f32⟩
  | 1 => ⟨S8192x1024, .f32⟩
  | 2 => ⟨S1024, .f32⟩
  | 3 => ⟨S2x1024, .f32⟩
  | 4 => ⟨S2x1024, .f32⟩
  | 5 => ⟨S1024x2048, .f32⟩
  | 6 => ⟨S8448x1024, .f32⟩
  | 7 => ⟨S8448x1024, .f32⟩
  | 8 => ⟨S8448x1024, .f32⟩
  | 9 => ⟨S8448x1024, .f32⟩
  | 10 => ⟨S8192x1024, .f32⟩
  | 11 => ⟨S_, .f32⟩
  | 12 => ⟨S8192x1024, .f32⟩
  | 13 => ⟨S8192x1024, .f32⟩
  | 14 => ⟨S_, .f32⟩
  | 15 => ⟨S8192, .f32⟩
  | 16 => ⟨S8192x1, .f32⟩
  | 17 => ⟨S_, .f32⟩
  | 18 => ⟨S8192x1, .f32⟩
  | 19 => ⟨S8192x1, .f32⟩
  | 20 => ⟨S_, .f32⟩
  | 21 => ⟨S8192x1, .f32⟩
  | 22 => ⟨S8192x1, .f32⟩
  | 23 => ⟨S8192x1, .f32⟩
  | 24 => ⟨S8192x1, .f32⟩
  | 25 => ⟨S_, .f32⟩
  | 26 => ⟨S8192x1, .f32⟩
  | 27 => ⟨S8192x1, .f32⟩
  | 28 => ⟨S8192x1024, .f32⟩
  | 29 => ⟨S8192x1024, .f32⟩
  | 30 => ⟨S1x1024, .f32⟩
  | 31 => ⟨S8192x1024, .f32⟩
  | 32 => ⟨S8192x1024, .f32⟩
  | 33 => ⟨S1x1024, .f32⟩
  | 34 => ⟨S1024, .f32⟩
  | 35 => ⟨S_, .f32⟩
  | 36 => ⟨S1024, .f32⟩
  | 37 => ⟨S1024, .f32⟩
  | 38 => ⟨S1x1024, .f32⟩
  | 39 => ⟨S8192x1024, .f32⟩
  | 40 => ⟨S8192x1024, .f32⟩
  | 41 => ⟨S1x1024, .f32⟩
  | 42 => ⟨S1024, .f32⟩
  | 43 => ⟨S1x1024, .f32⟩
  | 44 => ⟨S8192x1024, .f32⟩
  | 45 => ⟨S8192x1024, .f32⟩
  | 46 => ⟨S256x1024, .f32⟩
  | 47 => ⟨S_, .f32⟩
  | 48 => ⟨S256, .f32⟩
  | 49 => ⟨S256x1, .f32⟩
  | 50 => ⟨S_, .f32⟩
  | 51 => ⟨S256x1, .f32⟩
  | 52 => ⟨S256x1, .f32⟩
  | 53 => ⟨S_, .f32⟩
  | 54 => ⟨S256x1, .f32⟩
  | 55 => ⟨S256x1, .f32⟩
  | 56 => ⟨S256x1, .f32⟩
  | 57 => ⟨S256x1024, .f32⟩
  | 58 => ⟨S256x1024, .f32⟩
  | 59 => ⟨S1x1024, .f32⟩
  | 60 => ⟨S256x1024, .f32⟩
  | 61 => ⟨S256x1024, .f32⟩
  | 62 => ⟨S1x1024, .f32⟩
  | 63 => ⟨S1024, .f32⟩
  | 64 => ⟨S_, .f32⟩
  | 65 => ⟨S1024, .f32⟩
  | 66 => ⟨S1024, .f32⟩
  | 67 => ⟨S1x1024, .f32⟩
  | 68 => ⟨S256x1024, .f32⟩
  | 69 => ⟨S256x1024, .f32⟩
  | 70 => ⟨S1x1024, .f32⟩
  | 71 => ⟨S1024, .f32⟩
  | 72 => ⟨S1x1024, .f32⟩
  | 73 => ⟨S256x1024, .f32⟩
  | 74 => ⟨S256x1024, .f32⟩
  | 75 => ⟨S256x2048, .f32⟩
  | 76 => ⟨S8192x2048, .f32⟩
  | 77 => ⟨S8448x2048, .f32⟩
  | 78 => ⟨S8448x1024, .f32⟩
  | 79 => ⟨S8448x2048, .f32⟩
  | 80 => ⟨S8192x1024, .f32⟩
  | 81 => ⟨S256x2048, .f32⟩
  | 82 => ⟨S8192x2048, .f32⟩
  | 83 => ⟨S2048x1024, .f32⟩
  | 84 => ⟨S1024x2048, .f32⟩
  | 85 => ⟨S8192x1024, .f32⟩
  | 86 => ⟨S2048x1024, .f32⟩
  | 87 => ⟨S1024x2048, .f32⟩
  | 88 => ⟨S1024x2048, .f32⟩
  | 89 => ⟨S256x1024, .f32⟩
  | 90 => ⟨S_, .f32⟩
  | 91 => ⟨S1024, .f32⟩
  | 92 => ⟨S1x1024, .f32⟩
  | 93 => ⟨S_, .f32⟩
  | 94 => ⟨S1024, .f32⟩
  | 95 => ⟨S1x1024, .f32⟩
  | 96 => ⟨S_, .f32⟩
  | 97 => ⟨S2x1024, .f32⟩
  | 98 => ⟨S256x1024, .f32⟩
  | 99 => ⟨S_, .f32⟩
  | 100 => ⟨S1024, .f32⟩
  | 101 => ⟨S1x1024, .f32⟩
  | 102 => ⟨S256x1024, .f32⟩
  | 103 => ⟨S256x1024, .f32⟩
  | 104 => ⟨S_, .f32⟩
  | 105 => ⟨S1024, .f32⟩
  | 106 => ⟨S1x1024, .f32⟩
  | 107 => ⟨S_, .f32⟩
  | 108 => ⟨S2x1024, .f32⟩
  | 109 => ⟨S256x1024, .f32⟩
  | 110 => ⟨S_, .f32⟩
  | 111 => ⟨S1024, .f32⟩
  | 112 => ⟨S1x1024, .f32⟩
  | 113 => ⟨S_, .f32⟩
  | 114 => ⟨S1024, .f32⟩
  | 115 => ⟨S_, .f32⟩
  | 116 => ⟨S1024, .f32⟩
  | 117 => ⟨S1x1024, .f32⟩
  | 118 => ⟨S_, .f32⟩
  | 119 => ⟨S1024, .f32⟩
  | 120 => ⟨S1x1024, .f32⟩
  | 121 => ⟨S_, .f32⟩
  | 122 => ⟨S2x1024, .f32⟩
  | 123 => ⟨S2x1024, .f32⟩
  | 124 => ⟨S8192x1024, .f32⟩
  | 125 => ⟨S_, .f32⟩
  | 126 => ⟨S1024, .f32⟩
  | 127 => ⟨S1x1024, .f32⟩
  | _ => ⟨S256x1024, .f32⟩

abbrev hbmTy0_1 (i : Nat) : BufTy := match i % 128 with
  | 0 => ⟨S8192x1024, .f32⟩
  | 1 => ⟨S8192x1024, .f32⟩
  | 2 => ⟨S_, .f32⟩
  | 3 => ⟨S1024, .f32⟩
  | 4 => ⟨S1x1024, .f32⟩
  | 5 => ⟨S_, .f32⟩
  | 6 => ⟨S2x1024, .f32⟩
  | 7 => ⟨S2x1024, .f32⟩
  | 8 => ⟨S8192x1024, .f32⟩
  | 9 => ⟨S_, .f32⟩
  | 10 => ⟨S1024, .f32⟩
  | 11 => ⟨S1x1024, .f32⟩
  | 12 => ⟨S8192x1024, .f32⟩
  | 13 => ⟨S8192x1024, .f32⟩
  | 14 => ⟨S_, .f32⟩
  | 15 => ⟨S1024, .f32⟩
  | 16 => ⟨S1024, .f32⟩
  | 17 => ⟨S8192x1024, .f32⟩
  | 18 => ⟨S_, .f32⟩
  | 19 => ⟨S8192, .f32⟩
  | 20 => ⟨S8192x1, .f32⟩
  | 21 => ⟨S8192x1024, .f32⟩
  | 22 => ⟨S8192x1024, .f32⟩
  | 23 => ⟨S8192x1024, .f32⟩
  | 24 => ⟨S8192x1, .f32⟩
  | 25 => ⟨S_, .f32⟩
  | 26 => ⟨S8192x1, .f32⟩
  | 27 => ⟨S8192x1, .f32⟩
  | 28 => ⟨S_, .f32⟩
  | 29 => ⟨S8192, .f32⟩
  | 30 => ⟨S8192x1024, .f32⟩
  | 31 => ⟨S8192x1024, .f32⟩
  | 32 => ⟨S8192x1024, .f32⟩
  | 33 => ⟨S1x1024, .f32⟩
  | 34 => ⟨S2x1x1024, .f32⟩
  | 35 => ⟨S2x1x1024, .f32⟩
  | _ => ⟨S256x1024, .f32⟩

abbrev hbmTy (i : Nat) : BufTy := match i / 128 with
  | 0 => hbmTy0_0 i
  | 1 => hbmTy0_1 i
  | _ => ⟨S256x1024, .f32⟩

abbrev bufTy : (tb : Table) → Fin (tcTables nBuf tb) → BufTy
  | .hbm, ⟨i, _⟩ => hbmTy i
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_cst_2 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_3 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_5 : Ref sig .tc := ⟨.hbm, 47, rfl⟩
abbrev main_v31 : Ref sig .tc := ⟨.hbm, 48, rfl⟩
abbrev main_v32 : Ref sig .tc := ⟨.hbm, 49, rfl⟩
abbrev main_cst_6 : Ref sig .tc := ⟨.hbm, 50, rfl⟩
abbrev main_v33 : Ref sig .tc := ⟨.hbm, 51, rfl⟩
abbrev main_v34 : Ref sig .tc := ⟨.hbm, 52, rfl⟩
abbrev main_cst_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_8 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_cst_9 : Ref sig .tc := ⟨.hbm, 90, rfl⟩
abbrev main_v70 : Ref sig .tc := ⟨.hbm, 91, rfl⟩
abbrev main_v71 : Ref sig .tc := ⟨.hbm, 92, rfl⟩
abbrev main_cst_10 : Ref sig .tc := ⟨.hbm, 93, rfl⟩
abbrev main_v72 : Ref sig .tc := ⟨.hbm, 94, rfl⟩
abbrev main_v73 : Ref sig .tc := ⟨.hbm, 95, rfl⟩
abbrev main_cst_11 : Ref sig .tc := ⟨.hbm, 96, rfl⟩
abbrev main_v74 : Ref sig .tc := ⟨.hbm, 97, rfl⟩
abbrev main_v75 : Ref sig .tc := ⟨.hbm, 98, rfl⟩
abbrev main_cst_12 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_cst_13 : Ref sig .tc := ⟨.hbm, 104, rfl⟩
abbrev main_v80 : Ref sig .tc := ⟨.hbm, 105, rfl⟩
abbrev main_v81 : Ref sig .tc := ⟨.hbm, 106, rfl⟩
abbrev main_cst_14 : Ref sig .tc := ⟨.hbm, 107, rfl⟩
abbrev main_v82 : Ref sig .tc := ⟨.hbm, 108, rfl⟩
abbrev main_v83 : Ref sig .tc := ⟨.hbm, 109, rfl⟩
abbrev main_cst_15 : Ref sig .tc := ⟨.hbm, 110, rfl⟩
abbrev main_v84 : Ref sig .tc := ⟨.hbm, 111, rfl⟩
abbrev main_v85 : Ref sig .tc := ⟨.hbm, 112, rfl⟩
abbrev main_cst_16 : Ref sig .tc := ⟨.hbm, 113, rfl⟩
abbrev main_v86 : Ref sig .tc := ⟨.hbm, 114, rfl⟩
abbrev main_cst_17 : Ref sig .tc := ⟨.hbm, 115, rfl⟩
abbrev main_v87 : Ref sig .tc := ⟨.hbm, 116, rfl⟩
abbrev main_v88 : Ref sig .tc := ⟨.hbm, 117, rfl⟩
abbrev main_cst_18 : Ref sig .tc := ⟨.hbm, 118, rfl⟩
abbrev main_v89 : Ref sig .tc := ⟨.hbm, 119, rfl⟩
abbrev main_v90 : Ref sig .tc := ⟨.hbm, 120, rfl⟩
abbrev main_cst_19 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_cst_20 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_cst_21 : Ref sig .tc := ⟨.hbm, 130, rfl⟩
abbrev main_v98 : Ref sig .tc := ⟨.hbm, 131, rfl⟩
abbrev main_v99 : Ref sig .tc := ⟨.hbm, 132, rfl⟩
abbrev main_cst_22 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_cst_23 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_cst_24 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_cst_25 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_cst_26 : Ref sig .tc := ⟨.hbm, 153, rfl⟩
abbrev main_v116 : Ref sig .tc := ⟨.hbm, 154, rfl⟩
abbrev main_v117 : Ref sig .tc := ⟨.hbm, 155, rfl⟩
abbrev main_cst_27 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩

abbrev nD : Nat := 1
abbrev τ : Topo := Topo.v7x

variable {F : FTy → Type} [FloatOps F]
-- ==== Kernel3.lean ====
abbrev S8448x1024 : Shape := ⟨2, ![8448, 1024]⟩
abbrev S2x1024 : Shape := ⟨2, ![2, 1024]⟩
abbrev S1024x1024 : Shape := ⟨2, ![1024, 1024]⟩
abbrev S1024 : Shape := ⟨1, ![1024]⟩
abbrev S2x1x1024 : Shape := ⟨3, ![2, 1, 1024]⟩
abbrev S1x1024 : Shape := ⟨2, ![1, 1024]⟩
abbrev S256x1024 : Shape := ⟨2, ![256, 1024]⟩
abbrev S1x1x1024 : Shape := ⟨3, ![1, 1, 1024]⟩

abbrev nBuf : Space → Nat
  | .hbm => 16
  | .vmem => 22
  | .smem => 0
  | _ => 0

abbrev bufTy : (tb : Table) → Fin (tcTables nBuf tb) → BufTy
  | .hbm, ⟨0, _⟩ => ⟨S8448x1024, .f32⟩
  | .hbm, ⟨1, _⟩ => ⟨S8448x1024, .f32⟩
  | .hbm, ⟨2, _⟩ => ⟨S8448x1024, .f32⟩
  | .hbm, ⟨3, _⟩ => ⟨S2x1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S8448x1024, .f32⟩
  | .hbm, ⟨8, _⟩ => ⟨S2x1x1024, .f32⟩
  | .hbm, ⟨9, _⟩ => ⟨S1x1024, .f32⟩
  | .hbm, ⟨10, _⟩ => ⟨S8448x1024, .f32⟩
  | .hbm, ⟨11, _⟩ => ⟨S8448x1024, .f32⟩
  | .hbm, ⟨12, _⟩ => ⟨S2x1x1024, .f32⟩
  | .hbm, ⟨13, _⟩ => ⟨S1024x1024, .f32⟩
  | .hbm, ⟨14, _⟩ => ⟨S1024x1024, .f32⟩
  | .hbm, ⟨15, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S1x1x1024, .f32⟩
  | .local _ .vmem, ⟨9, _⟩ => ⟨S1x1x1024, .f32⟩
  | .local _ .vmem, ⟨10, _⟩ => ⟨S1024x1024, .f32⟩
  | .local _ .vmem, ⟨11, _⟩ => ⟨S1x1024, .f32⟩
  | .local _ .vmem, ⟨12, _⟩ => ⟨S1024x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S1x1x1024, .f32⟩
  | .local _ .vmem, ⟨18, _⟩ => ⟨S1x1x1024, .f32⟩
  | .local _ .vmem, ⟨19, _⟩ => ⟨S1024x1024, .f32⟩
  | .local _ .vmem, ⟨20, _⟩ => ⟨S1024x1024, .f32⟩
  | .local _ .vmem, ⟨21, _⟩ => ⟨S1x1024, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev main_v2_2 : Ref sig .tc := ⟨.hbm, 12, rfl⟩
abbrev main_v2_3 : Ref sig .tc := ⟨.hbm, 13, rfl⟩
abbrev main_v2_4 : Ref sig .tc := ⟨.hbm, 14, rfl⟩
abbrev main_v2_5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem12_0 : DmaSem sig := 20
abbrev cc0_sem13_0 : DmaSem sig := 21

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c1_i32 : BitVec 32 := 1#32
  let v0 : BitVec 32 := Scalar.minsi arg0 c1_i32
  let c0_i32 : BitVec 32 := 0#32
  let c0_i32_0 : BitVec 32 := 0#32
  let c0_i32_1 : BitVec 32 := 0#32
  ![v0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c1_i32 : BitVec 32 := 1#32
  let v0 : BitVec 32 := Scalar.minsi arg0 c1_i32
  let c0_i32 : BitVec 32 := 0#32
  let c0_i32_0 : BitVec 32 := 0#32
  let c0_i32_1 : BitVec 32 := 0#32
  ![v0.toNat, c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1024x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Kernel3Ideal.lean ====
variable {F : FTy → Type} [FloatOps F] [Named F]
def κ : String → Option EReal := fun
  | "inv_sqrt2" => some (((Real.sqrt 2)⁻¹ : ℝ) : EReal)
  | "inv_sqrt_2pi" => some (((9465531 / 16777216) * (Real.sqrt 2)⁻¹ : ℝ) : EReal)
  | _ => none
-- ==== Reference3Ideal.lean ====
abbrev S8448x1024 : Shape := ⟨2, ![8448, 1024]⟩
abbrev S2x1024 : Shape := ⟨2, ![2, 1024]⟩
abbrev S1024x1024 : Shape := ⟨2, ![1024, 1024]⟩
abbrev S1024 : Shape := ⟨1, ![1024]⟩
abbrev S_ : Shape := ⟨0, ![]⟩
abbrev S1x1024 : Shape := ⟨2, ![1, 1024]⟩
abbrev S256x1024 : Shape := ⟨2, ![256, 1024]⟩
abbrev S8192x1024 : Shape := ⟨2, ![8192, 1024]⟩
abbrev S2x1x1024 : Shape := ⟨3, ![2, 1, 1024]⟩

abbrev nBuf : Space → Nat
  | .hbm => 135
  | .vmem => 0
  | .smem => 0
  | _ => 0

abbrev hbmTy0_0 (i : Nat) : BufTy := match i % 128 with
  | 0 => ⟨S8448x1024, .f32⟩
  | 1 => ⟨S8448x1024, .f32⟩
  | 2 => ⟨S8448x1024, .f32⟩
  | 3 => ⟨S2x1024, .f32⟩
  | 4 => ⟨S1024x1024, .f32⟩
  | 5 => ⟨S1024, .f32⟩
  | 6 => ⟨S1024x1024, .f32⟩
  | 7 => ⟨S8448x1024, .f32⟩
  | 8 => ⟨S8448x1024, .f32⟩
  | 9 => ⟨S_, .f32⟩
  | 10 => ⟨S8448x1024, .f32⟩
  | 11 => ⟨S8448x1024, .f32⟩
  | 12 => ⟨S_, .f32⟩
  | 13 => ⟨S_, .f32⟩
  | 14 => ⟨S_, .f32⟩
  | 15 => ⟨S8448x1024, .f32⟩
  | 16 => ⟨S8448x1024, .f32⟩
  | 17 => ⟨S8448x1024, .f32⟩
  | 18 => ⟨S8448x1024, .f32⟩
  | 19 => ⟨S8448x1024, .f32⟩
  | 20 => ⟨S8448x1024, .f32⟩
  | 21 => ⟨S_, .f32⟩
  | 22 => ⟨S8448x1024, .f32⟩
  | 23 => ⟨S8448x1024, .f32⟩
  | 24 => ⟨S8448x1024, .f32⟩
  | 25 => ⟨S8448x1024, .f32⟩
  | 26 => ⟨S1x1024, .f32⟩
  | 27 => ⟨S8448x1024, .f32⟩
  | 28 => ⟨S8448x1024, .f32⟩
  | 29 => ⟨S8448x1024, .f32⟩
  | 30 => ⟨S8448x1024, .f32⟩
  | 31 => ⟨S_, .f32⟩
  | 32 => ⟨S8448x1024, .f32⟩
  | 33 => ⟨S8448x1024, .f32⟩
  | 34 => ⟨S_, .f32⟩
  | 35 => ⟨S8448x1024, .f32⟩
  | 36 => ⟨S8448x1024, .f32⟩
  | 37 => ⟨S_, .f32⟩
  | 38 => ⟨S8448x1024, .f32⟩
  | 39 => ⟨S8448x1024, .f32⟩
  | 40 => ⟨S8448x1024, .f32⟩
  | 41 => ⟨S8448x1024, .f32⟩
  | 42 => ⟨S8448x1024, .f32⟩
  | 43 => ⟨S8448x1024, .f32⟩
  | 44 => ⟨S_, .f32⟩
  | 45 => ⟨S8448x1024, .f32⟩
  | 46 => ⟨S8448x1024, .f32⟩
  | 47 => ⟨S_, .f32⟩
  | 48 => ⟨S8448x1024, .f32⟩
  | 49 => ⟨S8448x1024, .f32⟩
  | 50 => ⟨S_, .f32⟩
  | 51 => ⟨S8448x1024, .f32⟩
  | 52 => ⟨S8448x1024, .f32⟩
  | 53 => ⟨S8448x1024, .f32⟩
  | 54 => ⟨S8448x1024, .f32⟩
  | 55 => ⟨S8448x1024, .f32⟩
  | 56 => ⟨S8448x1024, .f32⟩
  | 57 => ⟨S1x1024, .f32⟩
  | 58 => ⟨S1024, .f32⟩
  | 59 => ⟨S256x1024, .f32⟩
  | 60 => ⟨S1x1024, .f32⟩
  | 61 => ⟨S256x1024, .f32⟩
  | 62 => ⟨S256x1024, .f32⟩
  | 63 => ⟨S1x1024, .f32⟩
  | 64 => ⟨S1024, .f32⟩
  | 65 => ⟨S8192x1024, .f32⟩
  | 66 => ⟨S1x1024, .f32⟩
  | 67 => ⟨S8192x1024, .f32⟩
  | 68 => ⟨S8192x1024, .f32⟩
  | 69 => ⟨S8448x1024, .f32⟩
  | 70 => ⟨S256x1024, .f32⟩
  | 71 => ⟨S8192x1024, .f32⟩
  | 72 => ⟨S8192x1024, .f32⟩
  | 73 => ⟨S8192x1024, .f32⟩
  | 74 => ⟨S8192x1024, .f32⟩
  | 75 => ⟨S_, .f32⟩
  | 76 => ⟨S1024, .f32⟩
  | 77 => ⟨S1x1024, .f32⟩
  | 78 => ⟨S_, .f32⟩
  | 79 => ⟨S1024, .f32⟩
  | 80 => ⟨S_, .f32⟩
  | 81 => ⟨S8448x1024, .f32⟩
  | 82 => ⟨S1x1024, .f32⟩
  | 83 => ⟨S_, .f32⟩
  | 84 => ⟨S2x1024, .f32⟩
  | 85 => ⟨S256x1024, .f32⟩
  | 86 => ⟨S256x1024, .f32⟩
  | 87 => ⟨S256x1024, .f32⟩
  | 88 => ⟨S_, .f32⟩
  | 89 => ⟨S1024, .f32⟩
  | 90 => ⟨S1x1024, .f32⟩
  | 91 => ⟨S_, .f32⟩
  | 92 => ⟨S1024, .f32⟩
  | 93 => ⟨S_, .f32⟩
  | 94 => ⟨S8448x1024, .f32⟩
  | 95 => ⟨S8448x1024, .f32⟩
  | 96 => ⟨S1x1024, .f32⟩
  | 97 => ⟨S_, .f32⟩
  | 98 => ⟨S2x1024, .f32⟩
  | 99 => ⟨S2x1024, .f32⟩
  | 100 => ⟨S1024x1024, .f32⟩
  | 101 => ⟨S1024x1024, .f32⟩
  | 102 => ⟨S8448x1024, .f32⟩
  | 103 => ⟨S8448x1024, .f32⟩
  | 104 => ⟨S8448x1024, .f32⟩
  | 105 => ⟨S8448x1024, .f32⟩
  | 106 => ⟨S8448x1024, .f32⟩
  | 107 => ⟨S8448x1024, .f32⟩
  | 108 => ⟨S8448x1024, .f32⟩
  | 109 => ⟨S8448x1024, .f32⟩
  | 110 => ⟨S8448x1024, .f32⟩
  | 111 => ⟨S8448x1024, .f32⟩
  | 112 => ⟨S_, .f32⟩
  | 113 => ⟨S1024, .f32⟩
  | 114 => ⟨S1x1024, .f32⟩
  | 115 => ⟨S_, .f32⟩
  | 116 => ⟨S1024, .f32⟩
  | 117 => ⟨S1024x1024, .f32⟩
  | 118 => ⟨S1024x1024, .f32⟩
  | 119 => ⟨S8448x1024, .f32⟩
  | 120 => ⟨S8448x1024, .f32⟩
  | 121 => ⟨S8448x1024, .f32⟩
  | 122 => ⟨S8448x1024, .f32⟩
  | 123 => ⟨S_, .f32⟩
  | 124 => ⟨S8448x1024, .f32⟩
  | 125 => ⟨S8448x1024, .f32⟩
  | 126 => ⟨S8448x1024, .f32⟩
  | 127 => ⟨S8448x1024, .f32⟩
  | _ => ⟨S8448x1024, .f32⟩

abbrev hbmTy0_1 (i : Nat) : BufTy := match i % 128 with
  | 0 => ⟨S8448x1024, .f32⟩
  | 1 => ⟨S_, .f32⟩
  | 2 => ⟨S8448x1024, .f32⟩
  | 3 => ⟨S8448x1024, .f32⟩
  | 4 => ⟨S8448x1024, .f32⟩
  | 5 => ⟨S2x1x1024, .f32⟩
  | 6 => ⟨S1x1024, .f32⟩
  | _ => ⟨S8448x1024, .f32⟩

abbrev hbmTy (i : Nat) : BufTy := match i / 128 with
  | 0 => hbmTy0_0 i
  | 1 => hbmTy0_1 i
  | _ => ⟨S8448x1024, .f32⟩

abbrev bufTy : (tb : Table) → Fin (tcTables nBuf tb) → BufTy
  | .hbm, ⟨i, _⟩ => hbmTy i
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_cst_4 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_call0_v0 : Ref sig .tc := ⟨.hbm, 42, rfl⟩
abbrev main_call0_v1 : Ref sig .tc := ⟨.hbm, 43, rfl⟩
abbrev main_call0_cst : Ref sig .tc := ⟨.hbm, 44, rfl⟩
abbrev main_call0_v2 : Ref sig .tc := ⟨.hbm, 45, rfl⟩
abbrev main_call0_v3 : Ref sig .tc := ⟨.hbm, 46, rfl⟩
abbrev main_call0_cst_0 : Ref sig .tc := ⟨.hbm, 47, rfl⟩
abbrev main_call0_v4 : Ref sig .tc := ⟨.hbm, 48, rfl⟩
abbrev main_v28_2 : Ref sig .tc := ⟨.hbm, 49, rfl⟩
abbrev main_call0_cst_1 : Ref sig .tc := ⟨.hbm, 50, rfl⟩
abbrev main_call0_v6 : Ref sig .tc := ⟨.hbm, 51, rfl⟩
abbrev main_call0_v7 : Ref sig .tc := ⟨.hbm, 52, rfl⟩
abbrev main_v28_1 : Ref sig .tc := ⟨.hbm, 53, rfl⟩
abbrev main_v28_0 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_5 : Ref sig .tc := ⟨.hbm, 75, rfl⟩
abbrev main_v49 : Ref sig .tc := ⟨.hbm, 76, rfl⟩
abbrev main_v50 : Ref sig .tc := ⟨.hbm, 77, rfl⟩
abbrev main_cst_6 : Ref sig .tc := ⟨.hbm, 78, rfl⟩
abbrev main_v51 : Ref sig .tc := ⟨.hbm, 79, rfl⟩
abbrev main_cst_7 : Ref sig .tc := ⟨.hbm, 80, rfl⟩
abbrev main_v52 : Ref sig .tc := ⟨.hbm, 81, rfl⟩
abbrev main_v53 : Ref sig .tc := ⟨.hbm, 82, rfl⟩
abbrev main_cst_8 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_cst_9 : Ref sig .tc := ⟨.hbm, 88, rfl⟩
abbrev main_v58 : Ref sig .tc := ⟨.hbm, 89, rfl⟩
abbrev main_v59 : Ref sig .tc := ⟨.hbm, 90, rfl⟩
abbrev main_cst_10 : Ref sig .tc := ⟨.hbm, 91, rfl⟩
abbrev main_v60 : Ref sig .tc := ⟨.hbm, 92, rfl⟩
abbrev main_cst_11 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_cst_12 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_call1_v0 : Ref sig .tc := ⟨.hbm, 105, rfl⟩
abbrev main_call1_v1 : Ref sig .tc := ⟨.hbm, 106, rfl⟩
abbrev main_call1_v2 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_cst_13 : Ref sig .tc := ⟨.hbm, 112, rfl⟩
abbrev main_v75 : Ref sig .tc := ⟨.hbm, 113, rfl⟩
abbrev main_v76 : Ref sig .tc := ⟨.hbm, 114, rfl⟩
abbrev main_cst_14 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_cst_15 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_cst_16 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩

abbrev nD : Nat := 1
abbrev τ : Topo := Topo.v7x

variable {F : FTy → Type} [FloatOps F]
-- ==== Kernel6.lean ====
abbrev S8448x1024 : Shape := ⟨2, ![8448, 1024]⟩
abbrev S1024 : Shape := ⟨1, ![1024]⟩
abbrev S2x1024 : Shape := ⟨2, ![2, 1024]⟩
abbrev S1024x2560 : Shape := ⟨2, ![1024, 2560]⟩
abbrev S64 : Shape := ⟨1, ![64]⟩
abbrev S8192x1024 : Shape := ⟨2, ![8192, 1024]⟩
abbrev S8448x256 : Shape := ⟨2, ![8448, 256]⟩
abbrev S1x1024 : Shape := ⟨2, ![1, 1024]⟩
abbrev S2x1x1024 : Shape := ⟨3, ![2, 1, 1024]⟩
abbrev S1x64 : Shape := ⟨2, ![1, 64]⟩
abbrev S1x1x1x64 : Shape := ⟨4, ![1, 1, 1, 64]⟩
abbrev S1x1x16x64 : Shape := ⟨4, ![1, 1, 16, 64]⟩
abbrev S1x1x4x64 : Shape := ⟨4, ![1, 1, 4, 64]⟩
abbrev S1x256 : Shape := ⟨2, ![1, 256]⟩
abbrev S8192 : Shape := ⟨1, ![8192]⟩
abbrev S_ : Shape := ⟨0, ![]⟩
abbrev S8192x1 : Shape := ⟨2, ![8192, 1]⟩
abbrev S8192x2 : Shape := ⟨2, ![8192, 2]⟩
abbrev S16 : Shape := ⟨1, ![16]⟩
abbrev S8192x2x1 : Shape := ⟨3, ![8192, 2, 1]⟩
abbrev S1x1x16 : Shape := ⟨3, ![1, 1, 16]⟩
abbrev S8192x2x16 : Shape := ⟨3, ![8192, 2, 16]⟩
abbrev S8192x2x1x16 : Shape := ⟨4, ![8192, 2, 1, 16]⟩
abbrev S8192x2x1x2x16 : Shape := ⟨5, ![8192, 2, 1, 2, 16]⟩
abbrev S8192x2x2x16 : Shape := ⟨4, ![8192, 2, 2, 16]⟩
abbrev S8192x64 : Shape := ⟨2, ![8192, 64]⟩
abbrev S256x64 : Shape := ⟨2, ![256, 64]⟩
abbrev S8448x64 : Shape := ⟨2, ![8448, 64]⟩
abbrev S1x8448x1x64 : Shape := ⟨4, ![1, 8448, 1, 64]⟩
abbrev S1x8448x2x64 : Shape := ⟨4, ![1, 8448, 2, 64]⟩
abbrev S8448x128 : Shape := ⟨2, ![8448, 128]⟩
abbrev S1024x1 : Shape := ⟨2, ![1024, 1]⟩
abbrev S128 : Shape := ⟨1, ![128]⟩
abbrev S1x128 : Shape := ⟨2, ![1, 128]⟩
abbrev S1024x128 : Shape := ⟨2, ![1024, 128]⟩
abbrev S256 : Shape := ⟨1, ![256]⟩
abbrev S256x1 : Shape := ⟨2, ![256, 1]⟩
abbrev S256x128 : Shape := ⟨2, ![256, 128]⟩
abbrev S8448x1280 : Shape := ⟨2, ![8448, 1280]⟩
abbrev S256x1024 : Shape := ⟨2, ![256, 1024]⟩
abbrev S1x1x1024 : Shape := ⟨3, ![1, 1, 1024]⟩
abbrev S256x256 : Shape := ⟨2, ![256, 256]⟩
abbrev S256x1280 : Shape := ⟨2, ![256, 1280]⟩
abbrev S256x2560 : Shape := ⟨2, ![256, 2560]⟩
abbrev S16x64 : Shape := ⟨2, ![16, 64]⟩
abbrev S4x64 : Shape := ⟨2, ![4, 64]⟩

abbrev nBuf : Space → Nat
  | .hbm => 234
  | .vmem => 64
  | .smem => 0
  | _ => 0

abbrev hbmTy0_0 (i : Nat) : BufTy := match i % 128 with
  | 0 => ⟨S8448x1024, .f32⟩
  | 1 => ⟨S1024, .f32⟩
  | 2 => ⟨S2x1024, .f32⟩
  | 3 => ⟨S2x1024, .f32⟩
  | 4 => ⟨S1024x2560, .f32⟩
  | 5 => ⟨S64, .f32⟩
  | 6 => ⟨S64, .f32⟩
  | 7 => ⟨S8192x1024, .f32⟩
  | 8 => ⟨S8192x1024, .f32⟩
  | 9 => ⟨S8448x256, .f32⟩
  | 10 => ⟨S8448x256, .f32⟩
  | 11 => ⟨S8192x1024, .f32⟩
  | 12 => ⟨S1x1024, .f32⟩
  | 13 => ⟨S2x1x1024, .f32⟩
  | 14 => ⟨S2x1x1024, .f32⟩
  | 15 => ⟨S1x64, .f32⟩
  | 16 => ⟨S1x1x1x64, .f32⟩
  | 17 => ⟨S1x1x16x64, .f32⟩
  | 18 => ⟨S1x1024, .f32⟩
  | 19 => ⟨S1x64, .f32⟩
  | 20 => ⟨S1x1x1x64, .f32⟩
  | 21 => ⟨S1x1x4x64, .f32⟩
  | 22 => ⟨S1x256, .f32⟩
  | 23 => ⟨S8192, .i32⟩
  | 24 => ⟨S_, .i32⟩
  | 25 => ⟨S_, .i32⟩
  | 26 => ⟨S8192, .i32⟩
  | 27 => ⟨S8192, .i32⟩
  | 28 => ⟨S8192, .i32⟩
  | 29 => ⟨S_, .i32⟩
  | 30 => ⟨S8192, .i32⟩
  | 31 => ⟨S8192, .i1⟩
  | 32 => ⟨S8192, .i32⟩
  | 33 => ⟨S8192, .i32⟩
  | 34 => ⟨S_, .i32⟩
  | 35 => ⟨S8192, .i32⟩
  | 36 => ⟨S8192, .i1⟩
  | 37 => ⟨S8192, .i1⟩
  | 38 => ⟨S_, .i32⟩
  | 39 => ⟨S8192, .i32⟩
  | 40 => ⟨S8192, .i32⟩
  | 41 => ⟨S8192, .i32⟩
  | 42 => ⟨S8192, .f32⟩
  | 43 => ⟨S_, .i32⟩
  | 44 => ⟨S_, .i32⟩
  | 45 => ⟨S_, .i32⟩
  | 46 => ⟨S_, .i1⟩
  | 47 => ⟨S_, .i32⟩
  | 48 => ⟨S_, .i32⟩
  | 49 => ⟨S8192, .i32⟩
  | 50 => ⟨S8192, .i32⟩
  | 51 => ⟨S_, .i32⟩
  | 52 => ⟨S8192, .i32⟩
  | 53 => ⟨S8192, .i1⟩
  | 54 => ⟨S_, .i32⟩
  | 55 => ⟨S8192, .i32⟩
  | 56 => ⟨S8192, .i1⟩
  | 57 => ⟨S_, .i32⟩
  | 58 => ⟨S_, .i1⟩
  | 59 => ⟨S8192, .i1⟩
  | 60 => ⟨S8192, .i1⟩
  | 61 => ⟨S8192, .i1⟩
  | 62 => ⟨S8192, .i32⟩
  | 63 => ⟨S8192, .i32⟩
  | 64 => ⟨S8192, .i32⟩
  | 65 => ⟨S8192, .f32⟩
  | 66 => ⟨S8192x1, .f32⟩
  | 67 => ⟨S8192x1, .f32⟩
  | 68 => ⟨S8192x2, .f32⟩
  | 69 => ⟨S16, .f32⟩
  | 70 => ⟨S16, .f32⟩
  | 71 => ⟨S_, .f32⟩
  | 72 => ⟨S16, .f32⟩
  | 73 => ⟨S16, .f32⟩
  | 74 => ⟨S_, .f32⟩
  | 75 => ⟨S16, .f32⟩
  | 76 => ⟨S16, .f32⟩
  | 77 => ⟨S8192x2x1, .f32⟩
  | 78 => ⟨S1x1x16, .f32⟩
  | 79 => ⟨S8192x2x16, .f32⟩
  | 80 => ⟨S8192x2x16, .f32⟩
  | 81 => ⟨S8192x2x16, .f32⟩
  | 82 => ⟨S8192x2x16, .f32⟩
  | 83 => ⟨S8192x2x1x16, .f32⟩
  | 84 => ⟨S8192x2x1x2x16, .f32⟩
  | 85 => ⟨S8192x2x2x16, .f32⟩
  | 86 => ⟨S8192x64, .f32⟩
  | 87 => ⟨S8192x2x16, .f32⟩
  | 88 => ⟨S8192x2x16, .f32⟩
  | 89 => ⟨S8192x2x1x16, .f32⟩
  | 90 => ⟨S8192x2x1x16, .f32⟩
  | 91 => ⟨S8192x2x2x16, .f32⟩
  | 92 => ⟨S8192x64, .f32⟩
  | 93 => ⟨S_, .f32⟩
  | 94 => ⟨S256x64, .f32⟩
  | 95 => ⟨S8448x64, .f32⟩
  | 96 => ⟨S_, .f32⟩
  | 97 => ⟨S256x64, .f32⟩
  | 98 => ⟨S8448x64, .f32⟩
  | 99 => ⟨S1x8448x1x64, .f32⟩
  | 100 => ⟨S1x8448x2x64, .f32⟩
  | 101 => ⟨S8448x128, .f32⟩
  | 102 => ⟨S1x8448x1x64, .f32⟩
  | 103 => ⟨S1x8448x2x64, .f32⟩
  | 104 => ⟨S8448x128, .f32⟩
  | 105 => ⟨S1024, .i32⟩
  | 106 => ⟨S1024x1, .i32⟩
  | 107 => ⟨S_, .i32⟩
  | 108 => ⟨S_, .i32⟩
  | 109 => ⟨S1024x1, .i32⟩
  | 110 => ⟨S1024x1, .i32⟩
  | 111 => ⟨S1024x1, .i32⟩
  | 112 => ⟨S_, .i32⟩
  | 113 => ⟨S1024x1, .i32⟩
  | 114 => ⟨S1024x1, .i1⟩
  | 115 => ⟨S1024x1, .i32⟩
  | 116 => ⟨S1024x1, .i32⟩
  | 117 => ⟨S_, .i32⟩
  | 118 => ⟨S1024x1, .i32⟩
  | 119 => ⟨S1024x1, .i1⟩
  | 120 => ⟨S1024x1, .i1⟩
  | 121 => ⟨S_, .i32⟩
  | 122 => ⟨S1024x1, .i32⟩
  | 123 => ⟨S1024x1, .i32⟩
  | 124 => ⟨S1024x1, .i32⟩
  | 125 => ⟨S128, .i32⟩
  | 126 => ⟨S1x128, .i32⟩
  | 127 => ⟨S1024x128, .i32⟩
  | _ => ⟨S8448x1024, .f32⟩

abbrev hbmTy0_1 (i : Nat) : BufTy := match i % 128 with
  | 0 => ⟨S1024x128, .i32⟩
  | 1 => ⟨S1024x128, .i1⟩
  | 2 => ⟨S1024x128, .bf16⟩
  | 3 => ⟨S256, .i32⟩
  | 4 => ⟨S256x1, .i32⟩
  | 5 => ⟨S_, .i32⟩
  | 6 => ⟨S_, .i32⟩
  | 7 => ⟨S256x1, .i32⟩
  | 8 => ⟨S256x1, .i32⟩
  | 9 => ⟨S256x1, .i32⟩
  | 10 => ⟨S_, .i32⟩
  | 11 => ⟨S256x1, .i32⟩
  | 12 => ⟨S256x1, .i1⟩
  | 13 => ⟨S256x1, .i32⟩
  | 14 => ⟨S256x1, .i32⟩
  | 15 => ⟨S_, .i32⟩
  | 16 => ⟨S256x1, .i32⟩
  | 17 => ⟨S256x1, .i1⟩
  | 18 => ⟨S256x1, .i1⟩
  | 19 => ⟨S_, .i32⟩
  | 20 => ⟨S256x1, .i32⟩
  | 21 => ⟨S256x1, .i32⟩
  | 22 => ⟨S256x1, .i32⟩
  | 23 => ⟨S128, .i32⟩
  | 24 => ⟨S1x128, .i32⟩
  | 25 => ⟨S256x128, .i32⟩
  | 26 => ⟨S256x128, .i32⟩
  | 27 => ⟨S256x128, .i1⟩
  | 28 => ⟨S256x128, .bf16⟩
  | 29 => ⟨S8192x1024, .bf16⟩
  | 30 => ⟨S8448x256, .bf16⟩
  | 31 => ⟨S8448x256, .bf16⟩
  | 32 => ⟨S8448x1024, .f32⟩
  | 33 => ⟨S8448x1280, .f32⟩
  | 34 => ⟨S1024, .i32⟩
  | 35 => ⟨S1024x1, .i32⟩
  | 36 => ⟨S_, .i32⟩
  | 37 => ⟨S_, .i32⟩
  | 38 => ⟨S1024x1, .i32⟩
  | 39 => ⟨S1024x1, .i32⟩
  | 40 => ⟨S1024x1, .i32⟩
  | 41 => ⟨S_, .i32⟩
  | 42 => ⟨S1024x1, .i32⟩
  | 43 => ⟨S1024x1, .i1⟩
  | 44 => ⟨S1024x1, .i32⟩
  | 45 => ⟨S1024x1, .i32⟩
  | 46 => ⟨S_, .i32⟩
  | 47 => ⟨S1024x1, .i32⟩
  | 48 => ⟨S1024x1, .i1⟩
  | 49 => ⟨S1024x1, .i1⟩
  | 50 => ⟨S_, .i32⟩
  | 51 => ⟨S1024x1, .i32⟩
  | 52 => ⟨S1024x1, .i32⟩
  | 53 => ⟨S1024x1, .i32⟩
  | 54 => ⟨S128, .i32⟩
  | 55 => ⟨S1x128, .i32⟩
  | 56 => ⟨S1024x128, .i32⟩
  | 57 => ⟨S1024x128, .i32⟩
  | 58 => ⟨S1024x128, .i1⟩
  | 59 => ⟨S1024x128, .bf16⟩
  | 60 => ⟨S256, .i32⟩
  | 61 => ⟨S256x1, .i32⟩
  | 62 => ⟨S_, .i32⟩
  | 63 => ⟨S_, .i32⟩
  | 64 => ⟨S256x1, .i32⟩
  | 65 => ⟨S256x1, .i32⟩
  | 66 => ⟨S256x1, .i32⟩
  | 67 => ⟨S_, .i32⟩
  | 68 => ⟨S256x1, .i32⟩
  | 69 => ⟨S256x1, .i1⟩
  | 70 => ⟨S256x1, .i32⟩
  | 71 => ⟨S256x1, .i32⟩
  | 72 => ⟨S_, .i32⟩
  | 73 => ⟨S256x1, .i32⟩
  | 74 => ⟨S256x1, .i1⟩
  | 75 => ⟨S256x1, .i1⟩
  | 76 => ⟨S_, .i32⟩
  | 77 => ⟨S256x1, .i32⟩
  | 78 => ⟨S256x1, .i32⟩
  | 79 => ⟨S256x1, .i32⟩
  | 80 => ⟨S128, .i32⟩
  | 81 => ⟨S1x128, .i32⟩
  | 82 => ⟨S256x128, .i32⟩
  | 83 => ⟨S256x128, .i32⟩
  | 84 => ⟨S256x128, .i1⟩
  | 85 => ⟨S256x128, .bf16⟩
  | 86 => ⟨S8448x1024, .f32⟩
  | 87 => ⟨S1024x2560, .f32⟩
  | 88 => ⟨S1x1024, .f32⟩
  | 89 => ⟨S1x256, .f32⟩
  | 90 => ⟨S1x1024, .f32⟩
  | 91 => ⟨S2x1x1024, .f32⟩
  | 92 => ⟨S2x1x1024, .f32⟩
  | 93 => ⟨S8192x1024, .f32⟩
  | 94 => ⟨S8448x256, .f32⟩
  | 95 => ⟨S8448x256, .f32⟩
  | 96 => ⟨S8192x1024, .f32⟩
  | 97 => ⟨S16x64, .f32⟩
  | 98 => ⟨S_, .f32⟩
  | 99 => ⟨S64, .f32⟩
  | 100 => ⟨S4x64, .f32⟩
  | 101 => ⟨S_, .f32⟩
  | 102 => ⟨S64, .f32⟩
  | 103 => ⟨S1024, .f32⟩
  | 104 => ⟨S2x1024, .f32⟩
  | 105 => ⟨S2x1024, .f32⟩
  | _ => ⟨S8448x1024, .f32⟩

abbrev hbmTy (i : Nat) : BufTy := match i / 128 with
  | 0 => hbmTy0_0 i
  | 1 => hbmTy0_1 i
  | _ => ⟨S8448x1024, .f32⟩

abbrev bufTy : (tb : Table) → Fin (tcTables nBuf tb) → BufTy
  | .hbm, ⟨i, _⟩ => hbmTy i
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x2560, .f32⟩
  | .local _ .vmem, ⟨8, _⟩ => ⟨S1x1024, .f32⟩
  | .local _ .vmem, ⟨9, _⟩ => ⟨S1x256, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S1024x128, .bf16⟩
  | .local _ .vmem, ⟨15, _⟩ => ⟨S256x128, .bf16⟩
  | .local _ .vmem, ⟨16, _⟩ => ⟨S256x1024, .bf16⟩
  | .local _ .vmem, ⟨17, _⟩ => ⟨S256x1024, .bf16⟩
  | .local _ .vmem, ⟨18, _⟩ => ⟨S256x256, .bf16⟩
  | .local _ .vmem, ⟨19, _⟩ => ⟨S256x256, .bf16⟩
  | .local _ .vmem, ⟨20, _⟩ => ⟨S256x256, .bf16⟩
  | .local _ .vmem, ⟨21, _⟩ => ⟨S256x256, .bf16⟩
  | .local _ .vmem, ⟨22, _⟩ => ⟨S256x1024, .f32⟩
  | .local _ .vmem, ⟨23, _⟩ => ⟨S256x1024, .f32⟩
  | .local _ .vmem, ⟨24, _⟩ => ⟨S256x1280, .f32⟩
  | .local _ .vmem, ⟨25, _⟩ => ⟨S256x1280, .f32⟩
  | .local _ .vmem, ⟨26, _⟩ => ⟨S256x1024, .f32⟩
  | .local _ .vmem, ⟨27, _⟩ => ⟨S256x1024, .f32⟩
  | .local _ .vmem, ⟨28, _⟩ => ⟨S256x256, .f32⟩
  | .local _ .vmem, ⟨29, _⟩ => ⟨S256x256, .f32⟩
  | .local _ .vmem, ⟨30, _⟩ => ⟨S256x256, .f32⟩
  | .local _ .vmem, ⟨31, _⟩ => ⟨S256x256, .f32⟩
  | .local _ .vmem, ⟨32, _⟩ => ⟨S256x1024, .f32⟩
  | .local _ .vmem, ⟨33, _⟩ => ⟨S256x1024, .f32⟩
  | .local _ .vmem, ⟨34, _⟩ => ⟨S256x1280, .f32⟩
  | .local _ .vmem, ⟨35, _⟩ => ⟨S256x1280, .f32⟩
  | .local _ .vmem, ⟨36, _⟩ => ⟨S256x1024, .f32⟩
  | .local _ .vmem, ⟨37, _⟩ => ⟨S256x1024, .f32⟩
  | .local _ .vmem, ⟨38, _⟩ => ⟨S256x1024, .f32⟩
  | .local _ .vmem, ⟨39, _⟩ => ⟨S256x1024, .f32⟩
  | .local _ .vmem, ⟨40, _⟩ => ⟨S1x1024, .f32⟩
  | .local _ .vmem, ⟨41, _⟩ => ⟨S1x1x1024, .f32⟩
  | .local _ .vmem, ⟨42, _⟩ => ⟨S1x1x1024, .f32⟩
  | .local _ .vmem, ⟨43, _⟩ => ⟨S1x1x1024, .f32⟩
  | .local _ .vmem, ⟨44, _⟩ => ⟨S1x1x1024, .f32⟩
  | .local _ .vmem, ⟨45, _⟩ => ⟨S1x1024, .f32⟩
  | .local _ .vmem, ⟨46, _⟩ => ⟨S1x256, .f32⟩
  | .local _ .vmem, ⟨47, _⟩ => ⟨S256x128, .f32⟩
  | .local _ .vmem, ⟨48, _⟩ => ⟨S256x128, .f32⟩
  | .local _ .vmem, ⟨49, _⟩ => ⟨S256x128, .f32⟩
  | .local _ .vmem, ⟨50, _⟩ => ⟨S256x128, .f32⟩
  | .local _ .vmem, ⟨51, _⟩ => ⟨S1024x2560, .f32⟩
  | .local _ .vmem, ⟨52, _⟩ => ⟨S1024x128, .bf16⟩
  | .local _ .vmem, ⟨53, _⟩ => ⟨S256x128, .bf16⟩
  | .local _ .vmem, ⟨54, _⟩ => ⟨S256x1024, .f32⟩
  | .local _ .vmem, ⟨55, _⟩ => ⟨S256x1024, .f32⟩
  | .local _ .vmem, ⟨56, _⟩ => ⟨S1024x2560, .f32⟩
  | .local _ .vmem, ⟨57, _⟩ => ⟨S1x1024, .f32⟩
  | .local _ .vmem, ⟨58, _⟩ => ⟨S1x256, .f32⟩
  | .local _ .vmem, ⟨59, _⟩ => ⟨S1x1024, .f32⟩
  | .local _ .vmem, ⟨60, _⟩ => ⟨S1x1x1024, .f32⟩
  | .local _ .vmem, ⟨61, _⟩ => ⟨S1x1x1024, .f32⟩
  | .local _ .vmem, ⟨62, _⟩ => ⟨S1x1x1024, .f32⟩
  | .local _ .vmem, ⟨63, _⟩ => ⟨S1x1x1024, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | _, _ => false

abbrev semScoped : Fin 0 → Bool
  | ⟨_, h⟩ => absurd h (Nat.not_lt_zero _)

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  ofTc nBuf bufTy 0 64 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_c : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_c_0 : Ref sig .tc := ⟨.hbm, 38, rfl⟩
abbrev main_call0_v12 : Ref sig .tc := ⟨.hbm, 39, rfl⟩
abbrev main_call0_v13 : Ref sig .tc := ⟨.hbm, 40, rfl⟩
abbrev main_v12 : Ref sig .tc := ⟨.hbm, 41, rfl⟩
abbrev main_v13 : Ref sig .tc := ⟨.hbm, 42, rfl⟩
abbrev main_c_0 : Ref sig .tc := ⟨.hbm, 43, rfl⟩
abbrev main_call1_v0 : Ref sig .tc := ⟨.hbm, 44, rfl⟩
abbrev main_call1_c : Ref sig .tc := ⟨.hbm, 45, rfl⟩
abbrev main_call1_v1 : Ref sig .tc := ⟨.hbm, 46, rfl⟩
abbrev main_call1_c_0 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_c_1 : Ref sig .tc := ⟨.hbm, 51, rfl⟩
abbrev main_call1_v5 : Ref sig .tc := ⟨.hbm, 52, rfl⟩
abbrev main_call1_v6 : Ref sig .tc := ⟨.hbm, 53, rfl⟩
abbrev main_call1_c_2 : Ref sig .tc := ⟨.hbm, 54, rfl⟩
abbrev main_call1_v7 : Ref sig .tc := ⟨.hbm, 55, rfl⟩
abbrev main_call1_v8 : Ref sig .tc := ⟨.hbm, 56, rfl⟩
abbrev main_call1_c_3 : Ref sig .tc := ⟨.hbm, 57, rfl⟩
abbrev main_call1_v9 : Ref sig .tc := ⟨.hbm, 58, rfl⟩
abbrev main_call1_v10 : Ref sig .tc := ⟨.hbm, 59, rfl⟩
abbrev main_call1_v11 : Ref sig .tc := ⟨.hbm, 60, rfl⟩
abbrev main_call1_v12 : Ref sig .tc := ⟨.hbm, 61, rfl⟩
abbrev main_call1_v13 : Ref sig .tc := ⟨.hbm, 62, rfl⟩
abbrev main_call1_v14 : Ref sig .tc := ⟨.hbm, 63, rfl⟩
abbrev main_v14 : Ref sig .tc := ⟨.hbm, 64, rfl⟩
abbrev main_v15 : Ref sig .tc := ⟨.hbm, 65, rfl⟩
abbrev main_v16 : Ref sig .tc := ⟨.hbm, 66, rfl⟩
abbrev main_v17 : Ref sig .tc := ⟨.hbm, 67, rfl⟩
abbrev main_v18 : Ref sig .tc := ⟨.hbm, 68, rfl⟩
abbrev main_v19 : Ref sig .tc := ⟨.hbm, 69, rfl⟩
abbrev main_v20 : Ref sig .tc := ⟨.hbm, 70, rfl⟩
abbrev main_cst : Ref sig .tc := ⟨.hbm, 71, rfl⟩
abbrev main_v21 : Ref sig .tc := ⟨.hbm, 72, rfl⟩
abbrev main_v22 : Ref sig .tc := ⟨.hbm, 73, rfl⟩
abbrev main_cst_1 : Ref sig .tc := ⟨.hbm, 74, rfl⟩
abbrev main_v23 : Ref sig .tc := ⟨.hbm, 75, rfl⟩
abbrev main_v24 : Ref sig .tc := ⟨.hbm, 76, rfl⟩
abbrev main_v25 : Ref sig .tc := ⟨.hbm, 77, rfl⟩
abbrev main_v26 : Ref sig .tc := ⟨.hbm, 78, rfl⟩
abbrev main_v27 : Ref sig .tc := ⟨.hbm, 79, rfl⟩
abbrev main_v28 : Ref sig .tc := ⟨.hbm, 80, rfl⟩
abbrev main_v29 : Ref sig .tc := ⟨.hbm, 81, rfl⟩
abbrev main_v30 : Ref sig .tc := ⟨.hbm, 82, rfl⟩
abbrev main_v31 : Ref sig .tc := ⟨.hbm, 83, rfl⟩
abbrev main_v32 : Ref sig .tc := ⟨.hbm, 84, rfl⟩
abbrev main_v33 : Ref sig .tc := ⟨.hbm, 85, rfl⟩
abbrev main_v34 : Ref sig .tc := ⟨.hbm, 86, rfl⟩
abbrev main_v35 : Ref sig .tc := ⟨.hbm, 87, rfl⟩
abbrev main_v36 : Ref sig .tc := ⟨.hbm, 88, rfl⟩
abbrev main_v37 : Ref sig .tc := ⟨.hbm, 89, rfl⟩
abbrev main_v38 : Ref sig .tc := ⟨.hbm, 90, rfl⟩
abbrev main_v39 : Ref sig .tc := ⟨.hbm, 91, rfl⟩
abbrev main_v40 : Ref sig .tc := ⟨.hbm, 92, rfl⟩
abbrev main_cst_2 : Ref sig .tc := ⟨.hbm, 93, rfl⟩
abbrev main_v41 : Ref sig .tc := ⟨.hbm, 94, rfl⟩
abbrev main_v42 : Ref sig .tc := ⟨.hbm, 95, rfl⟩
abbrev main_cst_3 : Ref sig .tc := ⟨.hbm, 96, rfl⟩
abbrev main_v43 : Ref sig .tc := ⟨.hbm, 97, rfl⟩
abbrev main_v44 : Ref sig .tc := ⟨.hbm, 98, rfl⟩
abbrev main_v45 : Ref sig .tc := ⟨.hbm, 99, rfl⟩
abbrev main_v46 : Ref sig .tc := ⟨.hbm, 100, rfl⟩
abbrev main_v47 : Ref sig .tc := ⟨.hbm, 101, rfl⟩
abbrev main_v48 : Ref sig .tc := ⟨.hbm, 102, rfl⟩
abbrev main_v49 : Ref sig .tc := ⟨.hbm, 103, rfl⟩
abbrev main_v50 : Ref sig .tc := ⟨.hbm, 104, rfl⟩
abbrev main_v51 : Ref sig .tc := ⟨.hbm, 105, rfl⟩
abbrev main_v52 : Ref sig .tc := ⟨.hbm, 106, rfl⟩
abbrev main_c_4 : Ref sig .tc := ⟨.hbm, 107, rfl⟩
abbrev main_call2_v0 : Ref sig .tc := ⟨.hbm, 108, rfl⟩
abbrev main_call2_v1 : Ref sig .tc := ⟨.hbm, 109, rfl⟩
abbrev main_call2_v2 : Ref sig .tc := ⟨.hbm, 110, rfl⟩
abbrev main_call2_v3 : Ref sig .tc := ⟨.hbm, 111, rfl⟩
abbrev main_call2_v4 : Ref sig .tc := ⟨.hbm, 112, rfl⟩
abbrev main_call2_v5 : Ref sig .tc := ⟨.hbm, 113, rfl⟩
abbrev main_call2_v6 : Ref sig .tc := ⟨.hbm, 114, rfl⟩
abbrev main_call2_v7 : Ref sig .tc := ⟨.hbm, 115, rfl⟩
abbrev main_call2_v8 : Ref sig .tc := ⟨.hbm, 116, rfl⟩
abbrev main_call2_c : Ref sig .tc := ⟨.hbm, 117, rfl⟩
abbrev main_call2_v9 : Ref sig .tc := ⟨.hbm, 118, rfl⟩
abbrev main_call2_v10 : Ref sig .tc := ⟨.hbm, 119, rfl⟩
abbrev main_call2_v11 : Ref sig .tc := ⟨.hbm, 120, rfl⟩
abbrev main_call2_c_0 : Ref sig .tc := ⟨.hbm, 121, rfl⟩
abbrev main_call2_v12 : Ref sig .tc := ⟨.hbm, 122, rfl⟩
abbrev main_call2_v13 : Ref sig .tc := ⟨.hbm, 123, rfl⟩
abbrev main_v53 : Ref sig .tc := ⟨.hbm, 124, rfl⟩
abbrev main_v54 : Ref sig .tc := ⟨.hbm, 125, rfl⟩
abbrev main_v55 : Ref sig .tc := ⟨.hbm, 126, rfl⟩
abbrev main_v56 : Ref sig .tc := ⟨.hbm, 127, rfl⟩
abbrev main_v57 : Ref sig .tc := ⟨.hbm, 128, rfl⟩
abbrev main_v58 : Ref sig .tc := ⟨.hbm, 129, rfl⟩
abbrev main_v59 : Ref sig .tc := ⟨.hbm, 130, rfl⟩
abbrev main_v60 : Ref sig .tc := ⟨.hbm, 131, rfl⟩
abbrev main_v61 : Ref sig .tc := ⟨.hbm, 132, rfl⟩
abbrev main_c_5 : Ref sig .tc := ⟨.hbm, 133, rfl⟩
abbrev main_call3_v0 : Ref sig .tc := ⟨.hbm, 134, rfl⟩
abbrev main_call3_v1 : Ref sig .tc := ⟨.hbm, 135, rfl⟩
abbrev main_call3_v2 : Ref sig .tc := ⟨.hbm, 136, rfl⟩
abbrev main_call3_v3 : Ref sig .tc := ⟨.hbm, 137, rfl⟩
abbrev main_call3_v4 : Ref sig .tc := ⟨.hbm, 138, rfl⟩
abbrev main_call3_v5 : Ref sig .tc := ⟨.hbm, 139, rfl⟩
abbrev main_call3_v6 : Ref sig .tc := ⟨.hbm, 140, rfl⟩
abbrev main_call3_v7 : Ref sig .tc := ⟨.hbm, 141, rfl⟩
abbrev main_call3_v8 : Ref sig .tc := ⟨.hbm, 142, rfl⟩
abbrev main_call3_c : Ref sig .tc := ⟨.hbm, 143, rfl⟩
abbrev main_call3_v9 : Ref sig .tc := ⟨.hbm, 144, rfl⟩
abbrev main_call3_v10 : Ref sig .tc := ⟨.hbm, 145, rfl⟩
abbrev main_call3_v11 : Ref sig .tc := ⟨.hbm, 146, rfl⟩
abbrev main_call3_c_0 : Ref sig .tc := ⟨.hbm, 147, rfl⟩
abbrev main_call3_v12 : Ref sig .tc := ⟨.hbm, 148, rfl⟩
abbrev main_call3_v13 : Ref sig .tc := ⟨.hbm, 149, rfl⟩
abbrev main_v62 : Ref sig .tc := ⟨.hbm, 150, rfl⟩
abbrev main_v63 : Ref sig .tc := ⟨.hbm, 151, rfl⟩
abbrev main_v64 : Ref sig .tc := ⟨.hbm, 152, rfl⟩
abbrev main_v65 : Ref sig .tc := ⟨.hbm, 153, rfl⟩
abbrev main_v66 : Ref sig .tc := ⟨.hbm, 154, rfl⟩
abbrev main_v67 : Ref sig .tc := ⟨.hbm, 155, rfl⟩
abbrev main_v68 : Ref sig .tc := ⟨.hbm, 156, rfl⟩
abbrev main_v69_0 : Ref sig .tc := ⟨.hbm, 157, rfl⟩
abbrev main_v69_1 : Ref sig .tc := ⟨.hbm, 158, rfl⟩
abbrev main_v69_2 : Ref sig .tc := ⟨.hbm, 159, rfl⟩
abbrev main_v69_3 : Ref sig .tc := ⟨.hbm, 160, rfl⟩
abbrev main_v69_4 : Ref sig .tc := ⟨.hbm, 161, rfl⟩
abbrev main_v70 : Ref sig .tc := ⟨.hbm, 162, rfl⟩
abbrev main_v71 : Ref sig .tc := ⟨.hbm, 163, rfl⟩
abbrev main_c_6 : Ref sig .tc := ⟨.hbm, 164, rfl⟩
abbrev main_call4_v0 : Ref sig .tc := ⟨.hbm, 165, rfl⟩
abbrev main_call4_v1 : Ref sig .tc := ⟨.hbm, 166, rfl⟩
abbrev main_call4_v2 : Ref sig .tc := ⟨.hbm, 167, rfl⟩
abbrev main_call4_v3 : Ref sig .tc := ⟨.hbm, 168, rfl⟩
abbrev main_call4_v4 : Ref sig .tc := ⟨.hbm, 169, rfl⟩
abbrev main_call4_v5 : Ref sig .tc := ⟨.hbm, 170, rfl⟩
abbrev main_call4_v6 : Ref sig .tc := ⟨.hbm, 171, rfl⟩
abbrev main_call4_v7 : Ref sig .tc := ⟨.hbm, 172, rfl⟩
abbrev main_call4_v8 : Ref sig .tc := ⟨.hbm, 173, rfl⟩
abbrev main_call4_c : Ref sig .tc := ⟨.hbm, 174, rfl⟩
abbrev main_call4_v9 : Ref sig .tc := ⟨.hbm, 175, rfl⟩
abbrev main_call4_v10 : Ref sig .tc := ⟨.hbm, 176, rfl⟩
abbrev main_call4_v11 : Ref sig .tc := ⟨.hbm, 177, rfl⟩
abbrev main_call4_c_0 : Ref sig .tc := ⟨.hbm, 178, rfl⟩
abbrev main_call4_v12 : Ref sig .tc := ⟨.hbm, 179, rfl⟩
abbrev main_call4_v13 : Ref sig .tc := ⟨.hbm, 180, rfl⟩
abbrev main_v72 : Ref sig .tc := ⟨.hbm, 181, rfl⟩
abbrev main_v73 : Ref sig .tc := ⟨.hbm, 182, rfl⟩
abbrev main_v74 : Ref sig .tc := ⟨.hbm, 183, rfl⟩
abbrev main_v75 : Ref sig .tc := ⟨.hbm, 184, rfl⟩
abbrev main_v76 : Ref sig .tc := ⟨.hbm, 185, rfl⟩
abbrev main_v77 : Ref sig .tc := ⟨.hbm, 186, rfl⟩
abbrev main_v78 : Ref sig .tc := ⟨.hbm, 187, rfl⟩
abbrev main_v79 : Ref sig .tc := ⟨.hbm, 188, rfl⟩
abbrev main_v80 : Ref sig .tc := ⟨.hbm, 189, rfl⟩
abbrev main_c_7 : Ref sig .tc := ⟨.hbm, 190, rfl⟩
abbrev main_call5_v0 : Ref sig .tc := ⟨.hbm, 191, rfl⟩
abbrev main_call5_v1 : Ref sig .tc := ⟨.hbm, 192, rfl⟩
abbrev main_call5_v2 : Ref sig .tc := ⟨.hbm, 193, rfl⟩
abbrev main_call5_v3 : Ref sig .tc := ⟨.hbm, 194, rfl⟩
abbrev main_call5_v4 : Ref sig .tc := ⟨.hbm, 195, rfl⟩
abbrev main_call5_v5 : Ref sig .tc := ⟨.hbm, 196, rfl⟩
abbrev main_call5_v6 : Ref sig .tc := ⟨.hbm, 197, rfl⟩
abbrev main_call5_v7 : Ref sig .tc := ⟨.hbm, 198, rfl⟩
abbrev main_call5_v8 : Ref sig .tc := ⟨.hbm, 199, rfl⟩
abbrev main_call5_c : Ref sig .tc := ⟨.hbm, 200, rfl⟩
abbrev main_call5_v9 : Ref sig .tc := ⟨.hbm, 201, rfl⟩
abbrev main_call5_v10 : Ref sig .tc := ⟨.hbm, 202, rfl⟩
abbrev main_call5_v11 : Ref sig .tc := ⟨.hbm, 203, rfl⟩
abbrev main_call5_c_0 : Ref sig .tc := ⟨.hbm, 204, rfl⟩
abbrev main_call5_v12 : Ref sig .tc := ⟨.hbm, 205, rfl⟩
abbrev main_call5_v13 : Ref sig .tc := ⟨.hbm, 206, rfl⟩
abbrev main_v81 : Ref sig .tc := ⟨.hbm, 207, rfl⟩
abbrev main_v82 : Ref sig .tc := ⟨.hbm, 208, rfl⟩
abbrev main_v83 : Ref sig .tc := ⟨.hbm, 209, rfl⟩
abbrev main_v84 : Ref sig .tc := ⟨.hbm, 210, rfl⟩
abbrev main_v85 : Ref sig .tc := ⟨.hbm, 211, rfl⟩
abbrev main_v86 : Ref sig .tc := ⟨.hbm, 212, rfl⟩
abbrev main_v87 : Ref sig .tc := ⟨.hbm, 213, rfl⟩
abbrev main_v88_0 : Ref sig .tc := ⟨.hbm, 214, rfl⟩
abbrev main_v88_1 : Ref sig .tc := ⟨.hbm, 215, rfl⟩
abbrev main_v88_2 : Ref sig .tc := ⟨.hbm, 216, rfl⟩
abbrev main_v88_3 : Ref sig .tc := ⟨.hbm, 217, rfl⟩
abbrev main_v88_4 : Ref sig .tc := ⟨.hbm, 218, rfl⟩
abbrev main_v88_5 : Ref sig .tc := ⟨.hbm, 219, rfl⟩
abbrev main_v88_6 : Ref sig .tc := ⟨.hbm, 220, rfl⟩
abbrev main_v89 : Ref sig .tc := ⟨.hbm, 221, rfl⟩
abbrev main_v90 : Ref sig .tc := ⟨.hbm, 222, rfl⟩
abbrev main_v91 : Ref sig .tc := ⟨.hbm, 223, rfl⟩
abbrev main_v92 : Ref sig .tc := ⟨.hbm, 224, rfl⟩
abbrev main_v93 : Ref sig .tc := ⟨.hbm, 225, rfl⟩
abbrev main_cst_8 : Ref sig .tc := ⟨.hbm, 226, rfl⟩
abbrev main_v94 : Ref sig .tc := ⟨.hbm, 227, rfl⟩
abbrev main_v95 : Ref sig .tc := ⟨.hbm, 228, rfl⟩
abbrev main_cst_9 : Ref sig .tc := ⟨.hbm, 229, rfl⟩
abbrev main_v96 : Ref sig .tc := ⟨.hbm, 230, rfl⟩
abbrev main_v97 : Ref sig .tc := ⟨.hbm, 231, rfl⟩
abbrev main_v98 : Ref sig .tc := ⟨.hbm, 232, rfl⟩
abbrev main_v99 : Ref sig .tc := ⟨.hbm, 233, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc1_stg0_0 : Ref sig .tc := ⟨.vmem, 26, rfl⟩
abbrev cc1_stg0_1 : Ref sig .tc := ⟨.vmem, 27, rfl⟩
abbrev cc1_stg1_0 : Ref sig .tc := ⟨.vmem, 28, rfl⟩
abbrev cc1_stg1_1 : Ref sig .tc := ⟨.vmem, 29, rfl⟩
abbrev cc1_stg2_0 : Ref sig .tc := ⟨.vmem, 30, rfl⟩
abbrev cc1_stg2_1 : Ref sig .tc := ⟨.vmem, 31, rfl⟩
abbrev cc1_stg3_0 : Ref sig .tc := ⟨.vmem, 32, rfl⟩
abbrev cc1_stg3_1 : Ref sig .tc := ⟨.vmem, 33, rfl⟩
abbrev cc1_stg4_0 : Ref sig .tc := ⟨.vmem, 34, rfl⟩
abbrev cc1_stg4_1 : Ref sig .tc := ⟨.vmem, 35, rfl⟩
abbrev cc1_stg5_0 : Ref sig .tc := ⟨.vmem, 36, rfl⟩
abbrev cc1_stg5_1 : Ref sig .tc := ⟨.vmem, 37, rfl⟩
abbrev cc1_stg6_0 : Ref sig .tc := ⟨.vmem, 38, rfl⟩
abbrev cc1_stg6_1 : Ref sig .tc := ⟨.vmem, 39, rfl⟩
abbrev cc1_stg7_0 : Ref sig .tc := ⟨.vmem, 40, rfl⟩
abbrev cc1_stg8_0 : Ref sig .tc := ⟨.vmem, 41, rfl⟩
abbrev cc1_stg8_1 : Ref sig .tc := ⟨.vmem, 42, rfl⟩
abbrev cc1_stg9_0 : Ref sig .tc := ⟨.vmem, 43, rfl⟩
abbrev cc1_stg9_1 : Ref sig .tc := ⟨.vmem, 44, rfl⟩
abbrev cc1_stg10_0 : Ref sig .tc := ⟨.vmem, 45, rfl⟩
abbrev cc1_stg11_0 : Ref sig .tc := ⟨.vmem, 46, rfl⟩
abbrev cc1_stg12_0 : Ref sig .tc := ⟨.vmem, 47, rfl⟩
abbrev cc1_stg12_1 : Ref sig .tc := ⟨.vmem, 48, rfl⟩
abbrev cc1_stg13_0 : Ref sig .tc := ⟨.vmem, 49, rfl⟩
abbrev cc1_stg13_1 : Ref sig .tc := ⟨.vmem, 50, rfl⟩
abbrev cc1_stg14_0 : Ref sig .tc := ⟨.vmem, 51, rfl⟩
abbrev cc1_stg15_0 : Ref sig .tc := ⟨.vmem, 52, rfl⟩
abbrev cc1_stg16_0 : Ref sig .tc := ⟨.vmem, 53, rfl⟩
abbrev cc1_stg17_0 : Ref sig .tc := ⟨.vmem, 54, rfl⟩
abbrev cc1_stg17_1 : Ref sig .tc := ⟨.vmem, 55, rfl⟩
abbrev cc1_stg18_0 : Ref sig .tc := ⟨.vmem, 56, rfl⟩
abbrev cc1_stg19_0 : Ref sig .tc := ⟨.vmem, 57, rfl⟩
abbrev cc1_stg20_0 : Ref sig .tc := ⟨.vmem, 58, rfl⟩
abbrev cc1_stg21_0 : Ref sig .tc := ⟨.vmem, 59, rfl⟩
abbrev cc1_stg22_0 : Ref sig .tc := ⟨.vmem, 60, rfl⟩
abbrev cc1_stg22_1 : Ref sig .tc := ⟨.vmem, 61, rfl⟩
abbrev cc1_stg23_0 : Ref sig .tc := ⟨.vmem, 62, rfl⟩
abbrev cc1_stg23_1 : Ref sig .tc := ⟨.vmem, 63, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc1_sem0_0 : DmaSem sig := 26
abbrev cc1_sem0_1 : DmaSem sig := 27
abbrev cc1_sem1_0 : DmaSem sig := 28
abbrev cc1_sem1_1 : DmaSem sig := 29
abbrev cc1_sem2_0 : DmaSem sig := 30
abbrev cc1_sem2_1 : DmaSem sig := 31
abbrev cc1_sem3_0 : DmaSem sig := 32
abbrev cc1_sem3_1 : DmaSem sig := 33
abbrev cc1_sem4_0 : DmaSem sig := 34
abbrev cc1_sem4_1 : DmaSem sig := 35
abbrev cc1_sem5_0 : DmaSem sig := 36
abbrev cc1_sem5_1 : DmaSem sig := 37
abbrev cc1_sem6_0 : DmaSem sig := 38
abbrev cc1_sem6_1 : DmaSem sig := 39
abbrev cc1_sem7_0 : DmaSem sig := 40
abbrev cc1_sem8_0 : DmaSem sig := 41
abbrev cc1_sem8_1 : DmaSem sig := 42
abbrev cc1_sem9_0 : DmaSem sig := 43
abbrev cc1_sem9_1 : DmaSem sig := 44
abbrev cc1_sem10_0 : DmaSem sig := 45
abbrev cc1_sem11_0 : DmaSem sig := 46
abbrev cc1_sem12_0 : DmaSem sig := 47
abbrev cc1_sem12_1 : DmaSem sig := 48
abbrev cc1_sem13_0 : DmaSem sig := 49
abbrev cc1_sem13_1 : DmaSem sig := 50
abbrev cc1_sem14_0 : DmaSem sig := 51
abbrev cc1_sem15_0 : DmaSem sig := 52
abbrev cc1_sem16_0 : DmaSem sig := 53
abbrev cc1_sem17_0 : DmaSem sig := 54
abbrev cc1_sem17_1 : DmaSem sig := 55
abbrev cc1_sem18_0 : DmaSem sig := 56
abbrev cc1_sem19_0 : DmaSem sig := 57
abbrev cc1_sem20_0 : DmaSem sig := 58
abbrev cc1_sem21_0 : DmaSem sig := 59
abbrev cc1_sem22_0 : DmaSem sig := 60
abbrev cc1_sem22_1 : DmaSem sig := 61
abbrev cc1_sem23_0 : DmaSem sig := 62
abbrev cc1_sem23_1 : DmaSem sig := 63

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c1_i32 : BitVec 32 := 1#32
  let v0 : BitVec 32 := Scalar.minsi arg0 c1_i32
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 3 → Nat :=
  let arg0 : BitVec 32 := BitVec.ofNat 32 (i 0).val
  let c1_i32 : BitVec 32 := 1#32
  let v0 : BitVec 32 := Scalar.minsi arg0 c1_i32
  let c0_i32 : BitVec 32 := 0#32
  let c0_i32_0 : BitVec 32 := 0#32
  let c0_i32_1 : BitVec 32 := 0#32
  ![v0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x2560 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1024x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1280 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev grid1 : Pipeline.Grid := ⟨1, ![33], ![false]⟩

def cc1_transform_0 (i : grid1.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 3 → Nat :=
  let arg0 : BitVec 32 := BitVec.ofNat 32 (i 0).val
  let c1_i32 : BitVec 32 := 1#32
  let v0 : BitVec 32 := Scalar.minsi arg0 c1_i32
  let c0_i32 : BitVec 32 := 0#32
  let c0_i32_0 : BitVec 32 := 0#32
  let c0_i32_1 : BitVec 32 := 0#32
  ![v0.toNat, c0_i32.toNat, c0_i32_0.toNat]

def cc1_transform_9 (i : grid1.Coords) : Fin 3 → Nat :=
  let arg0 : BitVec 32 := BitVec.ofNat 32 (i 0).val
  let c1_i32 : BitVec 32 := 1#32
  let v0 : BitVec 32 := Scalar.minsi arg0 c1_i32
  let c0_i32 : BitVec 32 := 0#32
  let c0_i32_0 : BitVec 32 := 0#32
  let c0_i32_1 : BitVec 32 := 0#32
  ![v0.toNat, c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_13 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_16 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_17 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_18 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_19 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_20 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_21 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_22 (i : grid1.Coords) : Fin 3 → Nat :=
  let arg0 : BitVec 32 := BitVec.ofNat 32 (i 0).val
  let c1_i32 : BitVec 32 := 1#32
  let v0 : BitVec 32 := Scalar.minsi arg0 c1_i32
  let c0_i32 : BitVec 32 := 0#32
  let c0_i32_0 : BitVec 32 := 0#32
  let c0_i32_1 : BitVec 32 := 0#32
  ![v0.toNat, c0_i32.toNat, c0_i32_0.toNat]

def cc1_transform_23 (i : grid1.Coords) : Fin 3 → Nat :=
  let arg0 : BitVec 32 := BitVec.ofNat 32 (i 0).val
  let c1_i32 : BitVec 32 := 1#32
  let v0 : BitVec 32 := Scalar.minsi arg0 c1_i32
  let c0_i32 : BitVec 32 := 0#32
  let c0_i32_0 : BitVec 32 := 0#32
  let c0_i32_1 : BitVec 32 := 0#32
  ![v0.toNat, c0_i32.toNat, c0_i32_0.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x1280 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S256x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S256x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 1 → Memref sig .tc .vmem S1x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S1x1x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S1x1x1024 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 1 → Memref sig .tc .vmem S1x1024 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x256 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 2 → Memref sig .tc .vmem S256x128 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S256x128 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

abbrev stage1_14 : Fin 1 → Memref sig .tc .vmem S1024x2560 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 1 → Memref sig .tc .vmem S1024x128 .bf16 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false]

abbrev stage1_16 : Fin 1 → Memref sig .tc .vmem S256x128 .bf16 := fun | 0 => Memref.whole cc1_stg16_0 | ⟨_ + 1, h⟩ => absurd h (Nat.not_lt.2 (Nat.le_add_left _ _))
abbrev sem1_16 : Fin 1 → DmaSem sig := fun | 0 => cc1_sem16_0 | ⟨_ + 1, h⟩ => absurd h (Nat.not_lt.2 (Nat.le_add_left _ _))
abbrev reads1_16 : Fin grid1.rank → Bool := ![false]

abbrev stage1_17 : Fin 2 → Memref sig .tc .vmem S256x1024 .f32 := fun | 0 => Memref.whole cc1_stg17_0 | 1 => Memref.whole cc1_stg17_1 | ⟨_ + 2, h⟩ => absurd h (Nat.not_lt.2 (Nat.le_add_left _ _))
abbrev sem1_17 : Fin 2 → DmaSem sig := fun | 0 => cc1_sem17_0 | 1 => cc1_sem17_1 | ⟨_ + 2, h⟩ => absurd h (Nat.not_lt.2 (Nat.le_add_left _ _))
abbrev reads1_17 : Fin grid1.rank → Bool := ![true]

abbrev stage1_18 : Fin 1 → Memref sig .tc .vmem S1024x2560 .f32 := fun | 0 => Memref.whole cc1_stg18_0 | ⟨_ + 1, h⟩ => absurd h (Nat.not_lt.2 (Nat.le_add_left _ _))
abbrev sem1_18 : Fin 1 → DmaSem sig := fun | 0 => cc1_sem18_0 | ⟨_ + 1, h⟩ => absurd h (Nat.not_lt.2 (Nat.le_add_left _ _))
abbrev reads1_18 : Fin grid1.rank → Bool := ![false]

abbrev stage1_19 : Fin 1 → Memref sig .tc .vmem S1x1024 .f32 := fun | 0 => Memref.whole cc1_stg19_0 | ⟨_ + 1, h⟩ => absurd h (Nat.not_lt.2 (Nat.le_add_left _ _))
abbrev sem1_19 : Fin 1 → DmaSem sig := fun | 0 => cc1_sem19_0 | ⟨_ + 1, h⟩ => absurd h (Nat.not_lt.2 (Nat.le_add_left _ _))
abbrev reads1_19 : Fin grid1.rank → Bool := ![false]

abbrev stage1_20 : Fin 1 → Memref sig .tc .vmem S1x256 .f32 := fun | 0 => Memref.whole cc1_stg20_0 | ⟨_ + 1, h⟩ => absurd h (Nat.not_lt.2 (Nat.le_add_left _ _))
abbrev sem1_20 : Fin 1 → DmaSem sig := fun | 0 => cc1_sem20_0 | ⟨_ + 1, h⟩ => absurd h (Nat.not_lt.2 (Nat.le_add_left _ _))
abbrev reads1_20 : Fin grid1.rank → Bool := ![false]

abbrev stage1_21 : Fin 1 → Memref sig .tc .vmem S1x1024 .f32 := fun | 0 => Memref.whole cc1_stg21_0 | ⟨_ + 1, h⟩ => absurd h (Nat.not_lt.2 (Nat.le_add_left _ _))
abbrev sem1_21 : Fin 1 → DmaSem sig := fun | 0 => cc1_sem21_0 | ⟨_ + 1, h⟩ => absurd h (Nat.not_lt.2 (Nat.le_add_left _ _))
abbrev reads1_21 : Fin grid1.rank → Bool := ![false]

abbrev stage1_22 : Fin 2 → Memref sig .tc .vmem S1x1x1024 .f32 := fun | 0 => Memref.whole cc1_stg22_0 | 1 => Memref.whole cc1_stg22_1 | ⟨_ + 2, h⟩ => absurd h (Nat.not_lt.2 (Nat.le_add_left _ _))
abbrev sem1_22 : Fin 2 → DmaSem sig := fun | 0 => cc1_sem22_0 | 1 => cc1_sem22_1 | ⟨_ + 2, h⟩ => absurd h (Nat.not_lt.2 (Nat.le_add_left _ _))
abbrev reads1_22 : Fin grid1.rank → Bool := ![true]

abbrev stage1_23 : Fin 2 → Memref sig .tc .vmem S1x1x1024 .f32 := fun | 0 => Memref.whole cc1_stg23_0 | 1 => Memref.whole cc1_stg23_1 | ⟨_ + 2, h⟩ => absurd h (Nat.not_lt.2 (Nat.le_add_left _ _))
abbrev sem1_23 : Fin 2 → DmaSem sig := fun | 0 => cc1_sem23_0 | 1 => cc1_sem23_1 | ⟨_ + 2, h⟩ => absurd h (Nat.not_lt.2 (Nat.le_add_left _ _))
abbrev reads1_23 : Fin grid1.rank → Bool := ![true]
-- ==== Reference6Ideal.lean ====
abbrev S8448x1024 : Shape := ⟨2, ![8448, 1024]⟩
abbrev S1024 : Shape := ⟨1, ![1024]⟩
abbrev S2x1024 : Shape := ⟨2, ![2, 1024]⟩
abbrev S1024x2560 : Shape := ⟨2, ![1024, 2560]⟩
abbrev S64 : Shape := ⟨1, ![64]⟩
abbrev S8192x1024 : Shape := ⟨2, ![8192, 1024]⟩
abbrev S8448x256 : Shape := ⟨2, ![8448, 256]⟩
abbrev S256x1024 : Shape := ⟨2, ![256, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2560 : Shape := ⟨2, ![8192, 2560]⟩
abbrev S256 : Shape := ⟨1, ![256]⟩
abbrev S256x1 : Shape := ⟨2, ![256, 1]⟩
abbrev S1024x512 : Shape := ⟨2, ![1024, 512]⟩
abbrev S256x512 : Shape := ⟨2, ![256, 512]⟩
abbrev S8192x16x64 : Shape := ⟨3, ![8192, 16, 64]⟩
abbrev S8192x16 : Shape := ⟨2, ![8192, 16]⟩
abbrev S8192x16x1 : Shape := ⟨3, ![8192, 16, 1]⟩
abbrev S1x1x64 : Shape := ⟨3, ![1, 1, 64]⟩
abbrev S128 : Shape := ⟨1, ![128]⟩
abbrev S128x64 : Shape := ⟨2, ![128, 64]⟩
abbrev S1x64 : Shape := ⟨2, ![1, 64]⟩
abbrev S16 : Shape := ⟨1, ![16]⟩
abbrev S1x16 : Shape := ⟨2, ![1, 16]⟩
abbrev S8192x16x32 : Shape := ⟨3, ![8192, 16, 32]⟩
abbrev S8192x16x16 : Shape := ⟨3, ![8192, 16, 16]⟩
abbrev S8192x1x16 : Shape := ⟨3, ![8192, 1, 16]⟩
abbrev S8192x256 : Shape := ⟨2, ![8192, 256]⟩
abbrev S8192x4x64 : Shape := ⟨3, ![8192, 4, 64]⟩
abbrev S8192x4 : Shape := ⟨2, ![8192, 4]⟩
abbrev S8192x4x1 : Shape := ⟨3, ![8192, 4, 1]⟩
abbrev S8192x4x32 : Shape := ⟨3, ![8192, 4, 32]⟩
abbrev S8192x4x16 : Shape := ⟨3, ![8192, 4, 16]⟩
abbrev S256x256 : Shape := ⟨2, ![256, 256]⟩
abbrev S256x4x64 : Shape := ⟨3, ![256, 4, 64]⟩
abbrev S256x4 : Shape := ⟨2, ![256, 4]⟩
abbrev S256x4x1 : Shape := ⟨3, ![256, 4, 1]⟩
abbrev S512x1024 : Shape := ⟨2, ![512, 1024]⟩
abbrev S2560x1024 : Shape := ⟨2, ![2560, 1024]⟩

abbrev nBuf : Space → Nat
  | .hbm => 585
  | .vmem => 0
  | .smem => 0
  | _ => 0

abbrev hbmTy0_0 (i : Nat) : BufTy := match i % 128 with
  | 0 => ⟨S8448x1024, .f32⟩
  | 1 => ⟨S1024, .f32⟩
  | 2 => ⟨S2x1024, .f32⟩
  | 3 => ⟨S2x1024, .f32⟩
  | 4 => ⟨S1024x2560, .f32⟩
  | 5 => ⟨S64, .f32⟩
  | 6 => ⟨S64, .f32⟩
  | 7 => ⟨S8192x1024, .f32⟩
  | 8 => ⟨S8192x1024, .f32⟩
  | 9 => ⟨S8448x256, .f32⟩
  | 10 => ⟨S8448x256, .f32⟩
  | 11 => ⟨S8192x1024, .f32⟩
  | 12 => ⟨S8192x1024, .f32⟩
  | 13 => ⟨S256x1024, .f32⟩
  | 14 => ⟨S8192x1024, .f32⟩
  | 15 => ⟨S_, .f32⟩
  | 16 => ⟨S8192, .f32⟩
  | 17 => ⟨S8192x1, .f32⟩
  | 18 => ⟨S_, .f32⟩
  | 19 => ⟨S8192x1, .f32⟩
  | 20 => ⟨S8192x1, .f32⟩
  | 21 => ⟨S_, .f32⟩
  | 22 => ⟨S8192x1, .f32⟩
  | 23 => ⟨S8192x1, .f32⟩
  | 24 => ⟨S8192x1, .f32⟩
  | 25 => ⟨S8192x1, .f32⟩
  | 26 => ⟨S_, .f32⟩
  | 27 => ⟨S8192x1, .f32⟩
  | 28 => ⟨S8192x1, .f32⟩
  | 29 => ⟨S8192x1024, .f32⟩
  | 30 => ⟨S8192x1024, .f32⟩
  | 31 => ⟨S1x1024, .f32⟩
  | 32 => ⟨S8192x1024, .f32⟩
  | 33 => ⟨S8192x1024, .f32⟩
  | 34 => ⟨S1x1024, .f32⟩
  | 35 => ⟨S1024, .f32⟩
  | 36 => ⟨S_, .f32⟩
  | 37 => ⟨S1024, .f32⟩
  | 38 => ⟨S1024, .f32⟩
  | 39 => ⟨S1x1024, .f32⟩
  | 40 => ⟨S8192x1024, .f32⟩
  | 41 => ⟨S8192x1024, .f32⟩
  | 42 => ⟨S1x1024, .f32⟩
  | 43 => ⟨S1024, .f32⟩
  | 44 => ⟨S1x1024, .f32⟩
  | 45 => ⟨S8192x1024, .f32⟩
  | 46 => ⟨S8192x1024, .f32⟩
  | 47 => ⟨S8192x2560, .f32⟩
  | 48 => ⟨S256x1024, .f32⟩
  | 49 => ⟨S_, .f32⟩
  | 50 => ⟨S256, .f32⟩
  | 51 => ⟨S256x1, .f32⟩
  | 52 => ⟨S_, .f32⟩
  | 53 => ⟨S256x1, .f32⟩
  | 54 => ⟨S256x1, .f32⟩
  | 55 => ⟨S_, .f32⟩
  | 56 => ⟨S256x1, .f32⟩
  | 57 => ⟨S256x1, .f32⟩
  | 58 => ⟨S256x1, .f32⟩
  | 59 => ⟨S256x1, .f32⟩
  | 60 => ⟨S_, .f32⟩
  | 61 => ⟨S256x1, .f32⟩
  | 62 => ⟨S256x1, .f32⟩
  | 63 => ⟨S256x1024, .f32⟩
  | 64 => ⟨S256x1024, .f32⟩
  | 65 => ⟨S1x1024, .f32⟩
  | 66 => ⟨S256x1024, .f32⟩
  | 67 => ⟨S256x1024, .f32⟩
  | 68 => ⟨S1x1024, .f32⟩
  | 69 => ⟨S1024, .f32⟩
  | 70 => ⟨S_, .f32⟩
  | 71 => ⟨S1024, .f32⟩
  | 72 => ⟨S1024, .f32⟩
  | 73 => ⟨S1x1024, .f32⟩
  | 74 => ⟨S256x1024, .f32⟩
  | 75 => ⟨S256x1024, .f32⟩
  | 76 => ⟨S1x1024, .f32⟩
  | 77 => ⟨S1024, .f32⟩
  | 78 => ⟨S1x1024, .f32⟩
  | 79 => ⟨S256x1024, .f32⟩
  | 80 => ⟨S256x1024, .f32⟩
  | 81 => ⟨S1024x512, .f32⟩
  | 82 => ⟨S256x512, .f32⟩
  | 83 => ⟨S8192x1024, .f32⟩
  | 84 => ⟨S8192x16x64, .f32⟩
  | 85 => ⟨S8192x16x64, .f32⟩
  | 86 => ⟨S_, .f32⟩
  | 87 => ⟨S8192x16, .f32⟩
  | 88 => ⟨S8192x16x1, .f32⟩
  | 89 => ⟨S_, .f32⟩
  | 90 => ⟨S8192x16x1, .f32⟩
  | 91 => ⟨S8192x16x1, .f32⟩
  | 92 => ⟨S_, .f32⟩
  | 93 => ⟨S8192x16x1, .f32⟩
  | 94 => ⟨S8192x16x1, .f32⟩
  | 95 => ⟨S8192x16x1, .f32⟩
  | 96 => ⟨S8192x16x1, .f32⟩
  | 97 => ⟨S_, .f32⟩
  | 98 => ⟨S8192x16x1, .f32⟩
  | 99 => ⟨S8192x16x1, .f32⟩
  | 100 => ⟨S8192x16x64, .f32⟩
  | 101 => ⟨S8192x16x64, .f32⟩
  | 102 => ⟨S1x1x64, .f32⟩
  | 103 => ⟨S8192x16x64, .f32⟩
  | 104 => ⟨S8192x16x64, .f32⟩
  | 105 => ⟨S128, .i32⟩
  | 106 => ⟨S128x64, .i32⟩
  | 107 => ⟨S8192, .i32⟩
  | 108 => ⟨S8192, .f32⟩
  | 109 => ⟨S64, .i32⟩
  | 110 => ⟨S1x64, .i32⟩
  | 111 => ⟨S128x64, .i32⟩
  | 112 => ⟨S8192, .i32⟩
  | 113 => ⟨S8192, .f32⟩
  | 114 => ⟨S16, .f32⟩
  | 115 => ⟨S16, .f32⟩
  | 116 => ⟨S_, .f32⟩
  | 117 => ⟨S16, .f32⟩
  | 118 => ⟨S16, .f32⟩
  | 119 => ⟨S_, .f32⟩
  | 120 => ⟨S16, .f32⟩
  | 121 => ⟨S16, .f32⟩
  | 122 => ⟨S8192x1, .f32⟩
  | 123 => ⟨S1x16, .f32⟩
  | 124 => ⟨S8192x16, .f32⟩
  | 125 => ⟨S8192x16, .f32⟩
  | 126 => ⟨S8192x16, .f32⟩
  | 127 => ⟨S8192x1, .f32⟩
  | _ => ⟨S8448x1024, .f32⟩

abbrev hbmTy0_1 (i : Nat) : BufTy := match i % 128 with
  | 0 => ⟨S1x16, .f32⟩
  | 1 => ⟨S8192x16, .f32⟩
  | 2 => ⟨S8192x16, .f32⟩
  | 3 => ⟨S8192x16, .f32⟩
  | 4 => ⟨S8192x16, .f32⟩
  | 5 => ⟨S8192x16, .f32⟩
  | 6 => ⟨S8192x16, .f32⟩
  | 7 => ⟨S8192x16, .f32⟩
  | 8 => ⟨S8192x16x32, .f32⟩
  | 9 => ⟨S8192x16x16, .f32⟩
  | 10 => ⟨S8192x16x16, .f32⟩
  | 11 => ⟨S8192x1x16, .f32⟩
  | 12 => ⟨S8192x1x16, .f32⟩
  | 13 => ⟨S8192x16x16, .f32⟩
  | 14 => ⟨S8192x16x16, .f32⟩
  | 15 => ⟨S8192x16x16, .f32⟩
  | 16 => ⟨S8192x16x16, .f32⟩
  | 17 => ⟨S8192x16x16, .f32⟩
  | 18 => ⟨S8192x16x16, .f32⟩
  | 19 => ⟨S8192x16x16, .f32⟩
  | 20 => ⟨S8192x16x16, .f32⟩
  | 21 => ⟨S8192x16x16, .f32⟩
  | 22 => ⟨S8192x16x16, .f32⟩
  | 23 => ⟨S8192x16x32, .f32⟩
  | 24 => ⟨S8192x16x32, .f32⟩
  | 25 => ⟨S8192x16x16, .f32⟩
  | 26 => ⟨S8192x16x16, .f32⟩
  | 27 => ⟨S8192x1x16, .f32⟩
  | 28 => ⟨S8192x1x16, .f32⟩
  | 29 => ⟨S8192x16x16, .f32⟩
  | 30 => ⟨S8192x16x16, .f32⟩
  | 31 => ⟨S8192x16x16, .f32⟩
  | 32 => ⟨S8192x16x16, .f32⟩
  | 33 => ⟨S8192x16x16, .f32⟩
  | 34 => ⟨S8192x16x16, .f32⟩
  | 35 => ⟨S8192x16x16, .f32⟩
  | 36 => ⟨S8192x16x16, .f32⟩
  | 37 => ⟨S8192x16x16, .f32⟩
  | 38 => ⟨S8192x16x16, .f32⟩
  | 39 => ⟨S8192x16x32, .f32⟩
  | 40 => ⟨S8192x16x64, .f32⟩
  | 41 => ⟨S8192x1024, .f32⟩
  | 42 => ⟨S8192x256, .f32⟩
  | 43 => ⟨S8192x4x64, .f32⟩
  | 44 => ⟨S8192x4x64, .f32⟩
  | 45 => ⟨S_, .f32⟩
  | 46 => ⟨S8192x4, .f32⟩
  | 47 => ⟨S8192x4x1, .f32⟩
  | 48 => ⟨S_, .f32⟩
  | 49 => ⟨S8192x4x1, .f32⟩
  | 50 => ⟨S8192x4x1, .f32⟩
  | 51 => ⟨S_, .f32⟩
  | 52 => ⟨S8192x4x1, .f32⟩
  | 53 => ⟨S8192x4x1, .f32⟩
  | 54 => ⟨S8192x4x1, .f32⟩
  | 55 => ⟨S8192x4x1, .f32⟩
  | 56 => ⟨S_, .f32⟩
  | 57 => ⟨S8192x4x1, .f32⟩
  | 58 => ⟨S8192x4x1, .f32⟩
  | 59 => ⟨S8192x4x64, .f32⟩
  | 60 => ⟨S8192x4x64, .f32⟩
  | 61 => ⟨S1x1x64, .f32⟩
  | 62 => ⟨S8192x4x64, .f32⟩
  | 63 => ⟨S8192x4x64, .f32⟩
  | 64 => ⟨S128, .i32⟩
  | 65 => ⟨S128x64, .i32⟩
  | 66 => ⟨S8192, .i32⟩
  | 67 => ⟨S8192, .f32⟩
  | 68 => ⟨S64, .i32⟩
  | 69 => ⟨S1x64, .i32⟩
  | 70 => ⟨S128x64, .i32⟩
  | 71 => ⟨S8192, .i32⟩
  | 72 => ⟨S8192, .f32⟩
  | 73 => ⟨S16, .f32⟩
  | 74 => ⟨S16, .f32⟩
  | 75 => ⟨S_, .f32⟩
  | 76 => ⟨S16, .f32⟩
  | 77 => ⟨S16, .f32⟩
  | 78 => ⟨S_, .f32⟩
  | 79 => ⟨S16, .f32⟩
  | 80 => ⟨S16, .f32⟩
  | 81 => ⟨S8192x1, .f32⟩
  | 82 => ⟨S1x16, .f32⟩
  | 83 => ⟨S8192x16, .f32⟩
  | 84 => ⟨S8192x16, .f32⟩
  | 85 => ⟨S8192x16, .f32⟩
  | 86 => ⟨S8192x1, .f32⟩
  | 87 => ⟨S1x16, .f32⟩
  | 88 => ⟨S8192x16, .f32⟩
  | 89 => ⟨S8192x16, .f32⟩
  | 90 => ⟨S8192x16, .f32⟩
  | 91 => ⟨S8192x16, .f32⟩
  | 92 => ⟨S8192x16, .f32⟩
  | 93 => ⟨S8192x16, .f32⟩
  | 94 => ⟨S8192x16, .f32⟩
  | 95 => ⟨S8192x4x32, .f32⟩
  | 96 => ⟨S8192x4x16, .f32⟩
  | 97 => ⟨S8192x4x16, .f32⟩
  | 98 => ⟨S8192x1x16, .f32⟩
  | 99 => ⟨S8192x1x16, .f32⟩
  | 100 => ⟨S8192x4x16, .f32⟩
  | 101 => ⟨S8192x4x16, .f32⟩
  | 102 => ⟨S8192x4x16, .f32⟩
  | 103 => ⟨S8192x4x16, .f32⟩
  | 104 => ⟨S8192x4x16, .f32⟩
  | 105 => ⟨S8192x4x16, .f32⟩
  | 106 => ⟨S8192x4x16, .f32⟩
  | 107 => ⟨S8192x4x16, .f32⟩
  | 108 => ⟨S8192x4x16, .f32⟩
  | 109 => ⟨S8192x4x16, .f32⟩
  | 110 => ⟨S8192x4x32, .f32⟩
  | 111 => ⟨S8192x4x32, .f32⟩
  | 112 => ⟨S8192x4x16, .f32⟩
  | 113 => ⟨S8192x4x16, .f32⟩
  | 114 => ⟨S8192x1x16, .f32⟩
  | 115 => ⟨S8192x1x16, .f32⟩
  | 116 => ⟨S8192x4x16, .f32⟩
  | 117 => ⟨S8192x4x16, .f32⟩
  | 118 => ⟨S8192x4x16, .f32⟩
  | 119 => ⟨S8192x4x16, .f32⟩
  | 120 => ⟨S8192x4x16, .f32⟩
  | 121 => ⟨S8192x4x16, .f32⟩
  | 122 => ⟨S8192x4x16, .f32⟩
  | 123 => ⟨S8192x4x16, .f32⟩
  | 124 => ⟨S8192x4x16, .f32⟩
  | 125 => ⟨S8192x4x16, .f32⟩
  | 126 => ⟨S8192x4x32, .f32⟩
  | 127 => ⟨S8192x4x64, .f32⟩
  | _ => ⟨S8448x1024, .f32⟩

abbrev hbmTy0_2 (i : Nat) : BufTy := match i % 128 with
  | 0 => ⟨S8192x256, .f32⟩
  | 1 => ⟨S256x256, .f32⟩
  | 2 => ⟨S256x4x64, .f32⟩
  | 3 => ⟨S256x4x64, .f32⟩
  | 4 => ⟨S_, .f32⟩
  | 5 => ⟨S256x4, .f32⟩
  | 6 => ⟨S256x4x1, .f32⟩
  | 7 => ⟨S_, .f32⟩
  | 8 => ⟨S256x4x1, .f32⟩
  | 9 => ⟨S256x4x1, .f32⟩
  | 10 => ⟨S_, .f32⟩
  | 11 => ⟨S256x4x1, .f32⟩
  | 12 => ⟨S256x4x1, .f32⟩
  | 13 => ⟨S256x4x1, .f32⟩
  | 14 => ⟨S256x4x1, .f32⟩
  | 15 => ⟨S_, .f32⟩
  | 16 => ⟨S256x4x1, .f32⟩
  | 17 => ⟨S256x4x1, .f32⟩
  | 18 => ⟨S256x4x64, .f32⟩
  | 19 => ⟨S256x4x64, .f32⟩
  | 20 => ⟨S1x1x64, .f32⟩
  | 21 => ⟨S256x4x64, .f32⟩
  | 22 => ⟨S256x4x64, .f32⟩
  | 23 => ⟨S256x256, .f32⟩
  | 24 => ⟨S_, .f32⟩
  | 25 => ⟨S8192x1024, .f32⟩
  | 26 => ⟨S8192x1024, .f32⟩
  | 27 => ⟨S8448x256, .f32⟩
  | 28 => ⟨S256x256, .f32⟩
  | 29 => ⟨S8192x256, .f32⟩
  | 30 => ⟨S8448x256, .f32⟩
  | 31 => ⟨S8192x1024, .f32⟩
  | 32 => ⟨S_, .f32⟩
  | 33 => ⟨S8192x2560, .f32⟩
  | 34 => ⟨S256x256, .f32⟩
  | 35 => ⟨S8192x256, .f32⟩
  | 36 => ⟨S_, .f32⟩
  | 37 => ⟨S8192x2560, .f32⟩
  | 38 => ⟨S8192x2560, .f32⟩
  | 39 => ⟨S_, .f32⟩
  | 40 => ⟨S256x512, .f32⟩
  | 41 => ⟨S256x256, .f32⟩
  | 42 => ⟨S8192x256, .f32⟩
  | 43 => ⟨S_, .f32⟩
  | 44 => ⟨S8192x1024, .f32⟩
  | 45 => ⟨S8192x1024, .f32⟩
  | 46 => ⟨S256x4x64, .f32⟩
  | 47 => ⟨S256x4x64, .f32⟩
  | 48 => ⟨S_, .f32⟩
  | 49 => ⟨S64, .f32⟩
  | 50 => ⟨S1x1x64, .f32⟩
  | 51 => ⟨S256x4x64, .f32⟩
  | 52 => ⟨S256x4x64, .f32⟩
  | 53 => ⟨S_, .f32⟩
  | 54 => ⟨S64, .f32⟩
  | 55 => ⟨S256x4x64, .f32⟩
  | 56 => ⟨S_, .f32⟩
  | 57 => ⟨S256x4, .f32⟩
  | 58 => ⟨S256x4x1, .f32⟩
  | 59 => ⟨S256x4x64, .f32⟩
  | 60 => ⟨S256x4x64, .f32⟩
  | 61 => ⟨S256x4x1, .f32⟩
  | 62 => ⟨S_, .f32⟩
  | 63 => ⟨S256x4x1, .f32⟩
  | 64 => ⟨S256x4x1, .f32⟩
  | 65 => ⟨S_, .f32⟩
  | 66 => ⟨S256x4, .f32⟩
  | 67 => ⟨S256x4x64, .f32⟩
  | 68 => ⟨S256x4x64, .f32⟩
  | 69 => ⟨S256x4x64, .f32⟩
  | 70 => ⟨S256x4x64, .f32⟩
  | 71 => ⟨S256x4x64, .f32⟩
  | 72 => ⟨S256x256, .f32⟩
  | 73 => ⟨S_, .f32⟩
  | 74 => ⟨S256x512, .f32⟩
  | 75 => ⟨S256x512, .f32⟩
  | 76 => ⟨S8192x4x64, .f32⟩
  | 77 => ⟨S8192x4x32, .f32⟩
  | 78 => ⟨S8192x4x32, .f32⟩
  | 79 => ⟨S8192x4x16, .f32⟩
  | 80 => ⟨S8192x4x16, .f32⟩
  | 81 => ⟨S8192x4x16, .f32⟩
  | 82 => ⟨S8192x4x16, .f32⟩
  | 83 => ⟨S8192x4x16, .f32⟩
  | 84 => ⟨S8192x4x16, .f32⟩
  | 85 => ⟨S8192x4x16, .f32⟩
  | 86 => ⟨S8192x4x16, .f32⟩
  | 87 => ⟨S8192x4x16, .f32⟩
  | 88 => ⟨S8192x4x16, .f32⟩
  | 89 => ⟨S8192x4x16, .f32⟩
  | 90 => ⟨S8192x4x16, .f32⟩
  | 91 => ⟨S8192x4x16, .f32⟩
  | 92 => ⟨S_, .f32⟩
  | 93 => ⟨S8192x4x32, .f32⟩
  | 94 => ⟨S_, .f32⟩
  | 95 => ⟨S8192x4x32, .f32⟩
  | 96 => ⟨S8192x4x32, .f32⟩
  | 97 => ⟨S_, .f32⟩
  | 98 => ⟨S8192x4x64, .f32⟩
  | 99 => ⟨S8192x4x16, .f32⟩
  | 100 => ⟨S8192x4x16, .f32⟩
  | 101 => ⟨S8192x4x16, .f32⟩
  | 102 => ⟨S8192x4x16, .f32⟩
  | 103 => ⟨S8192x4x16, .f32⟩
  | 104 => ⟨S8192x4x16, .f32⟩
  | 105 => ⟨S8192x4x16, .f32⟩
  | 106 => ⟨S8192x4x16, .f32⟩
  | 107 => ⟨S8192x4x16, .f32⟩
  | 108 => ⟨S8192x4x16, .f32⟩
  | 109 => ⟨S8192x4x16, .f32⟩
  | 110 => ⟨S8192x4x16, .f32⟩
  | 111 => ⟨S8192x4x16, .f32⟩
  | 112 => ⟨S_, .f32⟩
  | 113 => ⟨S8192x4x32, .f32⟩
  | 114 => ⟨S_, .f32⟩
  | 115 => ⟨S8192x4x32, .f32⟩
  | 116 => ⟨S8192x4x32, .f32⟩
  | 117 => ⟨S_, .f32⟩
  | 118 => ⟨S8192x4x64, .f32⟩
  | 119 => ⟨S8192x4x64, .f32⟩
  | 120 => ⟨S8192x4x64, .f32⟩
  | 121 => ⟨S_, .f32⟩
  | 122 => ⟨S64, .f32⟩
  | 123 => ⟨S1x1x64, .f32⟩
  | 124 => ⟨S8192x4x64, .f32⟩
  | 125 => ⟨S8192x4x64, .f32⟩
  | 126 => ⟨S_, .f32⟩
  | 127 => ⟨S64, .f32⟩
  | _ => ⟨S8448x1024, .f32⟩

abbrev hbmTy0_3 (i : Nat) : BufTy := match i % 128 with
  | 0 => ⟨S64, .f32⟩
  | 1 => ⟨S8192x4x64, .f32⟩
  | 2 => ⟨S_, .f32⟩
  | 3 => ⟨S8192x4, .f32⟩
  | 4 => ⟨S8192x4x1, .f32⟩
  | 5 => ⟨S8192x4x64, .f32⟩
  | 6 => ⟨S8192x4x64, .f32⟩
  | 7 => ⟨S8192x4x1, .f32⟩
  | 8 => ⟨S_, .f32⟩
  | 9 => ⟨S8192x4x1, .f32⟩
  | 10 => ⟨S8192x4x1, .f32⟩
  | 11 => ⟨S_, .f32⟩
  | 12 => ⟨S8192x4, .f32⟩
  | 13 => ⟨S8192x4x64, .f32⟩
  | 14 => ⟨S8192x4x64, .f32⟩
  | 15 => ⟨S8192x4x64, .f32⟩
  | 16 => ⟨S8192x4x64, .f32⟩
  | 17 => ⟨S8192x4x64, .f32⟩
  | 18 => ⟨S8192x256, .f32⟩
  | 19 => ⟨S_, .f32⟩
  | 20 => ⟨S8192x2560, .f32⟩
  | 21 => ⟨S8192x2560, .f32⟩
  | 22 => ⟨S8192x16x64, .f32⟩
  | 23 => ⟨S8192x16x32, .f32⟩
  | 24 => ⟨S8192x16x32, .f32⟩
  | 25 => ⟨S8192x16x16, .f32⟩
  | 26 => ⟨S8192x16x16, .f32⟩
  | 27 => ⟨S8192x16x16, .f32⟩
  | 28 => ⟨S8192x16x16, .f32⟩
  | 29 => ⟨S8192x16x16, .f32⟩
  | 30 => ⟨S8192x16x16, .f32⟩
  | 31 => ⟨S8192x16x16, .f32⟩
  | 32 => ⟨S8192x16x16, .f32⟩
  | 33 => ⟨S8192x16x16, .f32⟩
  | 34 => ⟨S8192x16x16, .f32⟩
  | 35 => ⟨S8192x16x16, .f32⟩
  | 36 => ⟨S8192x16x16, .f32⟩
  | 37 => ⟨S8192x16x16, .f32⟩
  | 38 => ⟨S_, .f32⟩
  | 39 => ⟨S8192x16x32, .f32⟩
  | 40 => ⟨S_, .f32⟩
  | 41 => ⟨S8192x16x32, .f32⟩
  | 42 => ⟨S8192x16x32, .f32⟩
  | 43 => ⟨S_, .f32⟩
  | 44 => ⟨S8192x16x64, .f32⟩
  | 45 => ⟨S8192x16x16, .f32⟩
  | 46 => ⟨S8192x16x16, .f32⟩
  | 47 => ⟨S8192x16x16, .f32⟩
  | 48 => ⟨S8192x16x16, .f32⟩
  | 49 => ⟨S8192x16x16, .f32⟩
  | 50 => ⟨S8192x16x16, .f32⟩
  | 51 => ⟨S8192x16x16, .f32⟩
  | 52 => ⟨S8192x16x16, .f32⟩
  | 53 => ⟨S8192x16x16, .f32⟩
  | 54 => ⟨S8192x16x16, .f32⟩
  | 55 => ⟨S8192x16x16, .f32⟩
  | 56 => ⟨S8192x16x16, .f32⟩
  | 57 => ⟨S8192x16x16, .f32⟩
  | 58 => ⟨S_, .f32⟩
  | 59 => ⟨S8192x16x32, .f32⟩
  | 60 => ⟨S_, .f32⟩
  | 61 => ⟨S8192x16x32, .f32⟩
  | 62 => ⟨S8192x16x32, .f32⟩
  | 63 => ⟨S_, .f32⟩
  | 64 => ⟨S8192x16x64, .f32⟩
  | 65 => ⟨S8192x16x64, .f32⟩
  | 66 => ⟨S8192x16x64, .f32⟩
  | 67 => ⟨S_, .f32⟩
  | 68 => ⟨S64, .f32⟩
  | 69 => ⟨S1x1x64, .f32⟩
  | 70 => ⟨S8192x16x64, .f32⟩
  | 71 => ⟨S8192x16x64, .f32⟩
  | 72 => ⟨S_, .f32⟩
  | 73 => ⟨S64, .f32⟩
  | 74 => ⟨S8192x16x64, .f32⟩
  | 75 => ⟨S_, .f32⟩
  | 76 => ⟨S8192x16, .f32⟩
  | 77 => ⟨S8192x16x1, .f32⟩
  | 78 => ⟨S8192x16x64, .f32⟩
  | 79 => ⟨S8192x16x64, .f32⟩
  | 80 => ⟨S8192x16x1, .f32⟩
  | 81 => ⟨S_, .f32⟩
  | 82 => ⟨S8192x16x1, .f32⟩
  | 83 => ⟨S8192x16x1, .f32⟩
  | 84 => ⟨S_, .f32⟩
  | 85 => ⟨S8192x16, .f32⟩
  | 86 => ⟨S8192x16x64, .f32⟩
  | 87 => ⟨S8192x16x64, .f32⟩
  | 88 => ⟨S8192x16x64, .f32⟩
  | 89 => ⟨S8192x16x64, .f32⟩
  | 90 => ⟨S8192x16x64, .f32⟩
  | 91 => ⟨S8192x1024, .f32⟩
  | 92 => ⟨S_, .f32⟩
  | 93 => ⟨S8192x2560, .f32⟩
  | 94 => ⟨S8192x2560, .f32⟩
  | 95 => ⟨S512x1024, .f32⟩
  | 96 => ⟨S1024x512, .f32⟩
  | 97 => ⟨S256x1024, .f32⟩
  | 98 => ⟨S_, .f32⟩
  | 99 => ⟨S1024x2560, .f32⟩
  | 100 => ⟨S_, .f32⟩
  | 101 => ⟨S1024, .f32⟩
  | 102 => ⟨S1x1024, .f32⟩
  | 103 => ⟨S_, .f32⟩
  | 104 => ⟨S1024, .f32⟩
  | 105 => ⟨S1x1024, .f32⟩
  | 106 => ⟨S_, .f32⟩
  | 107 => ⟨S2x1024, .f32⟩
  | 108 => ⟨S256x1024, .f32⟩
  | 109 => ⟨S_, .f32⟩
  | 110 => ⟨S1024, .f32⟩
  | 111 => ⟨S1x1024, .f32⟩
  | 112 => ⟨S256x1024, .f32⟩
  | 113 => ⟨S256x1024, .f32⟩
  | 114 => ⟨S_, .f32⟩
  | 115 => ⟨S1024, .f32⟩
  | 116 => ⟨S1x1024, .f32⟩
  | 117 => ⟨S_, .f32⟩
  | 118 => ⟨S2x1024, .f32⟩
  | 119 => ⟨S256x1024, .f32⟩
  | 120 => ⟨S_, .f32⟩
  | 121 => ⟨S1024, .f32⟩
  | 122 => ⟨S1x1024, .f32⟩
  | 123 => ⟨S256x1024, .f32⟩
  | 124 => ⟨S256x1024, .f32⟩
  | 125 => ⟨S_, .f32⟩
  | 126 => ⟨S1024, .f32⟩
  | 127 => ⟨S256x1024, .f32⟩
  | _ => ⟨S8448x1024, .f32⟩

abbrev hbmTy0_4 (i : Nat) : BufTy := match i % 128 with
  | 0 => ⟨S_, .f32⟩
  | 1 => ⟨S256, .f32⟩
  | 2 => ⟨S256x1, .f32⟩
  | 3 => ⟨S256x1024, .f32⟩
  | 4 => ⟨S256x1024, .f32⟩
  | 5 => ⟨S256x1, .f32⟩
  | 6 => ⟨S_, .f32⟩
  | 7 => ⟨S256x1, .f32⟩
  | 8 => ⟨S256x1, .f32⟩
  | 9 => ⟨S_, .f32⟩
  | 10 => ⟨S256, .f32⟩
  | 11 => ⟨S256x1024, .f32⟩
  | 12 => ⟨S256x1024, .f32⟩
  | 13 => ⟨S256x1024, .f32⟩
  | 14 => ⟨S256x1024, .f32⟩
  | 15 => ⟨S256x1024, .f32⟩
  | 16 => ⟨S2560x1024, .f32⟩
  | 17 => ⟨S1024x2560, .f32⟩
  | 18 => ⟨S1024x2560, .f32⟩
  | 19 => ⟨S8192x1024, .f32⟩
  | 20 => ⟨S_, .f32⟩
  | 21 => ⟨S1024, .f32⟩
  | 22 => ⟨S1x1024, .f32⟩
  | 23 => ⟨S_, .f32⟩
  | 24 => ⟨S1024, .f32⟩
  | 25 => ⟨S1x1024, .f32⟩
  | 26 => ⟨S_, .f32⟩
  | 27 => ⟨S2x1024, .f32⟩
  | 28 => ⟨S2x1024, .f32⟩
  | 29 => ⟨S8192x1024, .f32⟩
  | 30 => ⟨S_, .f32⟩
  | 31 => ⟨S1024, .f32⟩
  | 32 => ⟨S1x1024, .f32⟩
  | 33 => ⟨S8192x1024, .f32⟩
  | 34 => ⟨S8192x1024, .f32⟩
  | 35 => ⟨S_, .f32⟩
  | 36 => ⟨S1024, .f32⟩
  | 37 => ⟨S1x1024, .f32⟩
  | 38 => ⟨S_, .f32⟩
  | 39 => ⟨S2x1024, .f32⟩
  | 40 => ⟨S2x1024, .f32⟩
  | 41 => ⟨S8192x1024, .f32⟩
  | 42 => ⟨S_, .f32⟩
  | 43 => ⟨S1024, .f32⟩
  | 44 => ⟨S1x1024, .f32⟩
  | 45 => ⟨S8192x1024, .f32⟩
  | 46 => ⟨S8192x1024, .f32⟩
  | 47 => ⟨S_, .f32⟩
  | 48 => ⟨S1024, .f32⟩
  | 49 => ⟨S1024, .f32⟩
  | 50 => ⟨S8192x1024, .f32⟩
  | 51 => ⟨S_, .f32⟩
  | 52 => ⟨S8192, .f32⟩
  | 53 => ⟨S8192x1, .f32⟩
  | 54 => ⟨S8192x1024, .f32⟩
  | 55 => ⟨S8192x1024, .f32⟩
  | 56 => ⟨S8192x1024, .f32⟩
  | 57 => ⟨S8192x1, .f32⟩
  | 58 => ⟨S_, .f32⟩
  | 59 => ⟨S8192x1, .f32⟩
  | 60 => ⟨S8192x1, .f32⟩
  | 61 => ⟨S_, .f32⟩
  | 62 => ⟨S8192, .f32⟩
  | 63 => ⟨S8192x1024, .f32⟩
  | 64 => ⟨S8192x1024, .f32⟩
  | 65 => ⟨S8192x1024, .f32⟩
  | 66 => ⟨S8192x1024, .f32⟩
  | 67 => ⟨S8192x1024, .f32⟩
  | 68 => ⟨S_, .f32⟩
  | 69 => ⟨S8448x1024, .f32⟩
  | 70 => ⟨S_, .f32⟩
  | 71 => ⟨S8448x1024, .f32⟩
  | 72 => ⟨S8448x1024, .f32⟩
  | _ => ⟨S8448x1024, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S8448x1024, .f32⟩

abbrev bufTy : (tb : Table) → Fin (tcTables nBuf tb) → BufTy
  | .hbm, ⟨i, _⟩ => hbmTy i
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst : Ref sig .tc := ⟨.hbm, 15, rfl⟩
abbrev main_v3 : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_cst_1 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_2 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_3 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_4 : Ref sig .tc := ⟨.hbm, 49, rfl⟩
abbrev main_v32 : Ref sig .tc := ⟨.hbm, 50, rfl⟩
abbrev main_v33 : Ref sig .tc := ⟨.hbm, 51, rfl⟩
abbrev main_cst_5 : Ref sig .tc := ⟨.hbm, 52, rfl⟩
abbrev main_v34 : Ref sig .tc := ⟨.hbm, 53, rfl⟩
abbrev main_v35 : Ref sig .tc := ⟨.hbm, 54, rfl⟩
abbrev main_cst_6 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_7 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_8 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_cst_9 : Ref sig .tc := ⟨.hbm, 86, rfl⟩
abbrev main_v64 : Ref sig .tc := ⟨.hbm, 87, rfl⟩
abbrev main_v65 : Ref sig .tc := ⟨.hbm, 88, rfl⟩
abbrev main_cst_10 : Ref sig .tc := ⟨.hbm, 89, rfl⟩
abbrev main_v66 : Ref sig .tc := ⟨.hbm, 90, rfl⟩
abbrev main_v67 : Ref sig .tc := ⟨.hbm, 91, rfl⟩
abbrev main_cst_11 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_cst_12 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_cst_13 : Ref sig .tc := ⟨.hbm, 116, rfl⟩
abbrev main_v90 : Ref sig .tc := ⟨.hbm, 117, rfl⟩
abbrev main_v91 : Ref sig .tc := ⟨.hbm, 118, rfl⟩
abbrev main_cst_14 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_v132 : Ref sig .tc := ⟨.hbm, 160, rfl⟩
abbrev main_v133 : Ref sig .tc := ⟨.hbm, 161, rfl⟩
abbrev main_v134 : Ref sig .tc := ⟨.hbm, 162, rfl⟩
abbrev main_v135 : Ref sig .tc := ⟨.hbm, 163, rfl⟩
abbrev main_v136 : Ref sig .tc := ⟨.hbm, 164, rfl⟩
abbrev main_v137 : Ref sig .tc := ⟨.hbm, 165, rfl⟩
abbrev main_v138 : Ref sig .tc := ⟨.hbm, 166, rfl⟩
abbrev main_v139 : Ref sig .tc := ⟨.hbm, 167, rfl⟩
abbrev main_v140 : Ref sig .tc := ⟨.hbm, 168, rfl⟩
abbrev main_v141 : Ref sig .tc := ⟨.hbm, 169, rfl⟩
abbrev main_v142 : Ref sig .tc := ⟨.hbm, 170, rfl⟩
abbrev main_v143 : Ref sig .tc := ⟨.hbm, 171, rfl⟩
abbrev main_v144 : Ref sig .tc := ⟨.hbm, 172, rfl⟩
abbrev main_cst_15 : Ref sig .tc := ⟨.hbm, 173, rfl⟩
abbrev main_v145 : Ref sig .tc := ⟨.hbm, 174, rfl⟩
abbrev main_v146 : Ref sig .tc := ⟨.hbm, 175, rfl⟩
abbrev main_cst_16 : Ref sig .tc := ⟨.hbm, 176, rfl⟩
abbrev main_v147 : Ref sig .tc := ⟨.hbm, 177, rfl⟩
abbrev main_v148 : Ref sig .tc := ⟨.hbm, 178, rfl⟩
abbrev main_cst_17 : Ref sig .tc := ⟨.hbm, 179, rfl⟩
abbrev main_v149 : Ref sig .tc := ⟨.hbm, 180, rfl⟩
abbrev main_v150 : Ref sig .tc := ⟨.hbm, 181, rfl⟩
abbrev main_v151 : Ref sig .tc := ⟨.hbm, 182, rfl⟩
abbrev main_v152 : Ref sig .tc := ⟨.hbm, 183, rfl⟩
abbrev main_cst_18 : Ref sig .tc := ⟨.hbm, 184, rfl⟩
abbrev main_v153 : Ref sig .tc := ⟨.hbm, 185, rfl⟩
abbrev main_v154 : Ref sig .tc := ⟨.hbm, 186, rfl⟩
abbrev main_v155 : Ref sig .tc := ⟨.hbm, 187, rfl⟩
abbrev main_v156 : Ref sig .tc := ⟨.hbm, 188, rfl⟩
abbrev main_v157 : Ref sig .tc := ⟨.hbm, 189, rfl⟩
abbrev main_v158 : Ref sig .tc := ⟨.hbm, 190, rfl⟩
abbrev main_v159 : Ref sig .tc := ⟨.hbm, 191, rfl⟩
abbrev main_v160 : Ref sig .tc := ⟨.hbm, 192, rfl⟩
abbrev main_v161 : Ref sig .tc := ⟨.hbm, 193, rfl⟩
abbrev main_v162 : Ref sig .tc := ⟨.hbm, 194, rfl⟩
abbrev main_v163 : Ref sig .tc := ⟨.hbm, 195, rfl⟩
abbrev main_v164 : Ref sig .tc := ⟨.hbm, 196, rfl⟩
abbrev main_v165 : Ref sig .tc := ⟨.hbm, 197, rfl⟩
abbrev main_v166 : Ref sig .tc := ⟨.hbm, 198, rfl⟩
abbrev main_v167 : Ref sig .tc := ⟨.hbm, 199, rfl⟩
abbrev main_v168 : Ref sig .tc := ⟨.hbm, 200, rfl⟩
abbrev main_v169 : Ref sig .tc := ⟨.hbm, 201, rfl⟩
abbrev main_v170 : Ref sig .tc := ⟨.hbm, 202, rfl⟩
abbrev main_cst_19 : Ref sig .tc := ⟨.hbm, 203, rfl⟩
abbrev main_v171 : Ref sig .tc := ⟨.hbm, 204, rfl⟩
abbrev main_v172 : Ref sig .tc := ⟨.hbm, 205, rfl⟩
abbrev main_cst_20 : Ref sig .tc := ⟨.hbm, 206, rfl⟩
abbrev main_v173 : Ref sig .tc := ⟨.hbm, 207, rfl⟩
abbrev main_v174 : Ref sig .tc := ⟨.hbm, 208, rfl⟩
abbrev main_v175 : Ref sig .tc := ⟨.hbm, 209, rfl⟩
abbrev main_v176 : Ref sig .tc := ⟨.hbm, 210, rfl⟩
abbrev main_v177 : Ref sig .tc := ⟨.hbm, 211, rfl⟩
abbrev main_v178 : Ref sig .tc := ⟨.hbm, 212, rfl⟩
abbrev main_v179 : Ref sig .tc := ⟨.hbm, 213, rfl⟩
abbrev main_v180 : Ref sig .tc := ⟨.hbm, 214, rfl⟩
abbrev main_v181 : Ref sig .tc := ⟨.hbm, 215, rfl⟩
abbrev main_v182 : Ref sig .tc := ⟨.hbm, 216, rfl⟩
abbrev main_v183 : Ref sig .tc := ⟨.hbm, 217, rfl⟩
abbrev main_v184 : Ref sig .tc := ⟨.hbm, 218, rfl⟩
abbrev main_v185 : Ref sig .tc := ⟨.hbm, 219, rfl⟩
abbrev main_v186 : Ref sig .tc := ⟨.hbm, 220, rfl⟩
abbrev main_v187 : Ref sig .tc := ⟨.hbm, 221, rfl⟩
abbrev main_v188 : Ref sig .tc := ⟨.hbm, 222, rfl⟩
abbrev main_v189 : Ref sig .tc := ⟨.hbm, 223, rfl⟩
abbrev main_v190 : Ref sig .tc := ⟨.hbm, 224, rfl⟩
abbrev main_v191 : Ref sig .tc := ⟨.hbm, 225, rfl⟩
abbrev main_v192 : Ref sig .tc := ⟨.hbm, 226, rfl⟩
abbrev main_v193 : Ref sig .tc := ⟨.hbm, 227, rfl⟩
abbrev main_v194 : Ref sig .tc := ⟨.hbm, 228, rfl⟩
abbrev main_v195 : Ref sig .tc := ⟨.hbm, 229, rfl⟩
abbrev main_v196 : Ref sig .tc := ⟨.hbm, 230, rfl⟩
abbrev main_v197 : Ref sig .tc := ⟨.hbm, 231, rfl⟩
abbrev main_v198 : Ref sig .tc := ⟨.hbm, 232, rfl⟩
abbrev main_v199 : Ref sig .tc := ⟨.hbm, 233, rfl⟩
abbrev main_v200 : Ref sig .tc := ⟨.hbm, 234, rfl⟩
abbrev main_v201 : Ref sig .tc := ⟨.hbm, 235, rfl⟩
abbrev main_v202 : Ref sig .tc := ⟨.hbm, 236, rfl⟩
abbrev main_v203 : Ref sig .tc := ⟨.hbm, 237, rfl⟩
abbrev main_v204 : Ref sig .tc := ⟨.hbm, 238, rfl⟩
abbrev main_v205 : Ref sig .tc := ⟨.hbm, 239, rfl⟩
abbrev main_v206 : Ref sig .tc := ⟨.hbm, 240, rfl⟩
abbrev main_v207 : Ref sig .tc := ⟨.hbm, 241, rfl⟩
abbrev main_v208 : Ref sig .tc := ⟨.hbm, 242, rfl⟩
abbrev main_v209 : Ref sig .tc := ⟨.hbm, 243, rfl⟩
abbrev main_v210 : Ref sig .tc := ⟨.hbm, 244, rfl⟩
abbrev main_v211 : Ref sig .tc := ⟨.hbm, 245, rfl⟩
abbrev main_v212 : Ref sig .tc := ⟨.hbm, 246, rfl⟩
abbrev main_v213 : Ref sig .tc := ⟨.hbm, 247, rfl⟩
abbrev main_v214 : Ref sig .tc := ⟨.hbm, 248, rfl⟩
abbrev main_v215 : Ref sig .tc := ⟨.hbm, 249, rfl⟩
abbrev main_v216 : Ref sig .tc := ⟨.hbm, 250, rfl⟩
abbrev main_v217 : Ref sig .tc := ⟨.hbm, 251, rfl⟩
abbrev main_v218 : Ref sig .tc := ⟨.hbm, 252, rfl⟩
abbrev main_v219 : Ref sig .tc := ⟨.hbm, 253, rfl⟩
abbrev main_v220 : Ref sig .tc := ⟨.hbm, 254, rfl⟩
abbrev main_v221 : Ref sig .tc := ⟨.hbm, 255, rfl⟩
abbrev main_v222 : Ref sig .tc := ⟨.hbm, 256, rfl⟩
abbrev main_v223 : Ref sig .tc := ⟨.hbm, 257, rfl⟩
abbrev main_v224 : Ref sig .tc := ⟨.hbm, 258, rfl⟩
abbrev main_v225 : Ref sig .tc := ⟨.hbm, 259, rfl⟩
abbrev main_cst_21 : Ref sig .tc := ⟨.hbm, 260, rfl⟩
abbrev main_v226 : Ref sig .tc := ⟨.hbm, 261, rfl⟩
abbrev main_v227 : Ref sig .tc := ⟨.hbm, 262, rfl⟩
abbrev main_cst_22 : Ref sig .tc := ⟨.hbm, 263, rfl⟩
abbrev main_v228 : Ref sig .tc := ⟨.hbm, 264, rfl⟩
abbrev main_v229 : Ref sig .tc := ⟨.hbm, 265, rfl⟩
abbrev main_cst_23 : Ref sig .tc := ⟨.hbm, 266, rfl⟩
abbrev main_v230 : Ref sig .tc := ⟨.hbm, 267, rfl⟩
abbrev main_v231 : Ref sig .tc := ⟨.hbm, 268, rfl⟩
abbrev main_v232 : Ref sig .tc := ⟨.hbm, 269, rfl⟩
abbrev main_v233 : Ref sig .tc := ⟨.hbm, 270, rfl⟩
abbrev main_cst_24 : Ref sig .tc := ⟨.hbm, 271, rfl⟩
abbrev main_v234 : Ref sig .tc := ⟨.hbm, 272, rfl⟩
abbrev main_v235 : Ref sig .tc := ⟨.hbm, 273, rfl⟩
abbrev main_v236 : Ref sig .tc := ⟨.hbm, 274, rfl⟩
abbrev main_v237 : Ref sig .tc := ⟨.hbm, 275, rfl⟩
abbrev main_v238 : Ref sig .tc := ⟨.hbm, 276, rfl⟩
abbrev main_v239 : Ref sig .tc := ⟨.hbm, 277, rfl⟩
abbrev main_v240 : Ref sig .tc := ⟨.hbm, 278, rfl⟩
abbrev main_v241 : Ref sig .tc := ⟨.hbm, 279, rfl⟩
abbrev main_cst_25 : Ref sig .tc := ⟨.hbm, 280, rfl⟩
abbrev main_v242 : Ref sig .tc := ⟨.hbm, 281, rfl⟩
abbrev main_v243 : Ref sig .tc := ⟨.hbm, 282, rfl⟩
abbrev main_v244 : Ref sig .tc := ⟨.hbm, 283, rfl⟩
abbrev main_v245 : Ref sig .tc := ⟨.hbm, 284, rfl⟩
abbrev main_v246 : Ref sig .tc := ⟨.hbm, 285, rfl⟩
abbrev main_v247 : Ref sig .tc := ⟨.hbm, 286, rfl⟩
abbrev main_v248 : Ref sig .tc := ⟨.hbm, 287, rfl⟩
abbrev main_cst_26 : Ref sig .tc := ⟨.hbm, 288, rfl⟩
abbrev main_v249 : Ref sig .tc := ⟨.hbm, 289, rfl⟩
abbrev main_v250 : Ref sig .tc := ⟨.hbm, 290, rfl⟩
abbrev main_v251 : Ref sig .tc := ⟨.hbm, 291, rfl⟩
abbrev main_cst_27 : Ref sig .tc := ⟨.hbm, 292, rfl⟩
abbrev main_v252 : Ref sig .tc := ⟨.hbm, 293, rfl⟩
abbrev main_v253 : Ref sig .tc := ⟨.hbm, 294, rfl⟩
abbrev main_cst_28 : Ref sig .tc := ⟨.hbm, 295, rfl⟩
abbrev main_v254 : Ref sig .tc := ⟨.hbm, 296, rfl⟩
abbrev main_v255 : Ref sig .tc := ⟨.hbm, 297, rfl⟩
abbrev main_v256 : Ref sig .tc := ⟨.hbm, 298, rfl⟩
abbrev main_cst_29 : Ref sig .tc := ⟨.hbm, 299, rfl⟩
abbrev main_v257 : Ref sig .tc := ⟨.hbm, 300, rfl⟩
abbrev main_v258 : Ref sig .tc := ⟨.hbm, 301, rfl⟩
abbrev main_v259 : Ref sig .tc := ⟨.hbm, 302, rfl⟩
abbrev main_v260 : Ref sig .tc := ⟨.hbm, 303, rfl⟩
abbrev main_cst_30 : Ref sig .tc := ⟨.hbm, 304, rfl⟩
abbrev main_v261 : Ref sig .tc := ⟨.hbm, 305, rfl⟩
abbrev main_v262 : Ref sig .tc := ⟨.hbm, 306, rfl⟩
abbrev main_v263 : Ref sig .tc := ⟨.hbm, 307, rfl⟩
abbrev main_v264 : Ref sig .tc := ⟨.hbm, 308, rfl⟩
abbrev main_cst_31 : Ref sig .tc := ⟨.hbm, 309, rfl⟩
abbrev main_v265 : Ref sig .tc := ⟨.hbm, 310, rfl⟩
abbrev main_v266 : Ref sig .tc := ⟨.hbm, 311, rfl⟩
abbrev main_cst_32 : Ref sig .tc := ⟨.hbm, 312, rfl⟩
abbrev main_v267 : Ref sig .tc := ⟨.hbm, 313, rfl⟩
abbrev main_v268 : Ref sig .tc := ⟨.hbm, 314, rfl⟩
abbrev main_v269 : Ref sig .tc := ⟨.hbm, 315, rfl⟩
abbrev main_v270 : Ref sig .tc := ⟨.hbm, 316, rfl⟩
abbrev main_v271 : Ref sig .tc := ⟨.hbm, 317, rfl⟩
abbrev main_cst_33 : Ref sig .tc := ⟨.hbm, 318, rfl⟩
abbrev main_v272 : Ref sig .tc := ⟨.hbm, 319, rfl⟩
abbrev main_v273 : Ref sig .tc := ⟨.hbm, 320, rfl⟩
abbrev main_cst_34 : Ref sig .tc := ⟨.hbm, 321, rfl⟩
abbrev main_v274 : Ref sig .tc := ⟨.hbm, 322, rfl⟩
abbrev main_v275 : Ref sig .tc := ⟨.hbm, 323, rfl⟩
abbrev main_v276 : Ref sig .tc := ⟨.hbm, 324, rfl⟩
abbrev main_v277 : Ref sig .tc := ⟨.hbm, 325, rfl⟩
abbrev main_v278 : Ref sig .tc := ⟨.hbm, 326, rfl⟩
abbrev main_v279 : Ref sig .tc := ⟨.hbm, 327, rfl⟩
abbrev main_v280 : Ref sig .tc := ⟨.hbm, 328, rfl⟩
abbrev main_cst_35 : Ref sig .tc := ⟨.hbm, 329, rfl⟩
abbrev main_v281 : Ref sig .tc := ⟨.hbm, 330, rfl⟩
abbrev main_v282 : Ref sig .tc := ⟨.hbm, 331, rfl⟩
abbrev main_v283 : Ref sig .tc := ⟨.hbm, 332, rfl⟩
abbrev main_v284 : Ref sig .tc := ⟨.hbm, 333, rfl⟩
abbrev main_v285 : Ref sig .tc := ⟨.hbm, 334, rfl⟩
abbrev main_v286 : Ref sig .tc := ⟨.hbm, 335, rfl⟩
abbrev main_v287 : Ref sig .tc := ⟨.hbm, 336, rfl⟩
abbrev main_v288 : Ref sig .tc := ⟨.hbm, 337, rfl⟩
abbrev main_v289 : Ref sig .tc := ⟨.hbm, 338, rfl⟩
abbrev main_v290 : Ref sig .tc := ⟨.hbm, 339, rfl⟩
abbrev main_v291 : Ref sig .tc := ⟨.hbm, 340, rfl⟩
abbrev main_v292 : Ref sig .tc := ⟨.hbm, 341, rfl⟩
abbrev main_v293 : Ref sig .tc := ⟨.hbm, 342, rfl⟩
abbrev main_v294 : Ref sig .tc := ⟨.hbm, 343, rfl⟩
abbrev main_v295 : Ref sig .tc := ⟨.hbm, 344, rfl⟩
abbrev main_v296 : Ref sig .tc := ⟨.hbm, 345, rfl⟩
abbrev main_v297 : Ref sig .tc := ⟨.hbm, 346, rfl⟩
abbrev main_v298 : Ref sig .tc := ⟨.hbm, 347, rfl⟩
abbrev main_cst_36 : Ref sig .tc := ⟨.hbm, 348, rfl⟩
abbrev main_v299 : Ref sig .tc := ⟨.hbm, 349, rfl⟩
abbrev main_cst_37 : Ref sig .tc := ⟨.hbm, 350, rfl⟩
abbrev main_v300 : Ref sig .tc := ⟨.hbm, 351, rfl⟩
abbrev main_v301 : Ref sig .tc := ⟨.hbm, 352, rfl⟩
abbrev main_cst_38 : Ref sig .tc := ⟨.hbm, 353, rfl⟩
abbrev main_v302 : Ref sig .tc := ⟨.hbm, 354, rfl⟩
abbrev main_v303 : Ref sig .tc := ⟨.hbm, 355, rfl⟩
abbrev main_v304 : Ref sig .tc := ⟨.hbm, 356, rfl⟩
abbrev main_v305 : Ref sig .tc := ⟨.hbm, 357, rfl⟩
abbrev main_v306 : Ref sig .tc := ⟨.hbm, 358, rfl⟩
abbrev main_v307 : Ref sig .tc := ⟨.hbm, 359, rfl⟩
abbrev main_v308 : Ref sig .tc := ⟨.hbm, 360, rfl⟩
abbrev main_v309 : Ref sig .tc := ⟨.hbm, 361, rfl⟩
abbrev main_v310 : Ref sig .tc := ⟨.hbm, 362, rfl⟩
abbrev main_v311 : Ref sig .tc := ⟨.hbm, 363, rfl⟩
abbrev main_v312 : Ref sig .tc := ⟨.hbm, 364, rfl⟩
abbrev main_v313 : Ref sig .tc := ⟨.hbm, 365, rfl⟩
abbrev main_v314 : Ref sig .tc := ⟨.hbm, 366, rfl⟩
abbrev main_v315 : Ref sig .tc := ⟨.hbm, 367, rfl⟩
abbrev main_cst_39 : Ref sig .tc := ⟨.hbm, 368, rfl⟩
abbrev main_v316 : Ref sig .tc := ⟨.hbm, 369, rfl⟩
abbrev main_cst_40 : Ref sig .tc := ⟨.hbm, 370, rfl⟩
abbrev main_v317 : Ref sig .tc := ⟨.hbm, 371, rfl⟩
abbrev main_v318 : Ref sig .tc := ⟨.hbm, 372, rfl⟩
abbrev main_cst_41 : Ref sig .tc := ⟨.hbm, 373, rfl⟩
abbrev main_v319 : Ref sig .tc := ⟨.hbm, 374, rfl⟩
abbrev main_v320 : Ref sig .tc := ⟨.hbm, 375, rfl⟩
abbrev main_v321 : Ref sig .tc := ⟨.hbm, 376, rfl⟩
abbrev main_cst_42 : Ref sig .tc := ⟨.hbm, 377, rfl⟩
abbrev main_v322 : Ref sig .tc := ⟨.hbm, 378, rfl⟩
abbrev main_v323 : Ref sig .tc := ⟨.hbm, 379, rfl⟩
abbrev main_v324 : Ref sig .tc := ⟨.hbm, 380, rfl⟩
abbrev main_v325 : Ref sig .tc := ⟨.hbm, 381, rfl⟩
abbrev main_cst_43 : Ref sig .tc := ⟨.hbm, 382, rfl⟩
abbrev main_v326 : Ref sig .tc := ⟨.hbm, 383, rfl⟩
abbrev main_v327 : Ref sig .tc := ⟨.hbm, 384, rfl⟩
abbrev main_v328 : Ref sig .tc := ⟨.hbm, 385, rfl⟩
abbrev main_cst_44 : Ref sig .tc := ⟨.hbm, 386, rfl⟩
abbrev main_v329 : Ref sig .tc := ⟨.hbm, 387, rfl⟩
abbrev main_v330 : Ref sig .tc := ⟨.hbm, 388, rfl⟩
abbrev main_v331 : Ref sig .tc := ⟨.hbm, 389, rfl⟩
abbrev main_v332 : Ref sig .tc := ⟨.hbm, 390, rfl⟩
abbrev main_v333 : Ref sig .tc := ⟨.hbm, 391, rfl⟩
abbrev main_cst_45 : Ref sig .tc := ⟨.hbm, 392, rfl⟩
abbrev main_v334 : Ref sig .tc := ⟨.hbm, 393, rfl⟩
abbrev main_v335 : Ref sig .tc := ⟨.hbm, 394, rfl⟩
abbrev main_cst_46 : Ref sig .tc := ⟨.hbm, 395, rfl⟩
abbrev main_v336 : Ref sig .tc := ⟨.hbm, 396, rfl⟩
abbrev main_v337 : Ref sig .tc := ⟨.hbm, 397, rfl⟩
abbrev main_v338 : Ref sig .tc := ⟨.hbm, 398, rfl⟩
abbrev main_v339 : Ref sig .tc := ⟨.hbm, 399, rfl⟩
abbrev main_v340 : Ref sig .tc := ⟨.hbm, 400, rfl⟩
abbrev main_v341 : Ref sig .tc := ⟨.hbm, 401, rfl⟩
abbrev main_v342 : Ref sig .tc := ⟨.hbm, 402, rfl⟩
abbrev main_cst_47 : Ref sig .tc := ⟨.hbm, 403, rfl⟩
abbrev main_v343 : Ref sig .tc := ⟨.hbm, 404, rfl⟩
abbrev main_v344 : Ref sig .tc := ⟨.hbm, 405, rfl⟩
abbrev main_v345 : Ref sig .tc := ⟨.hbm, 406, rfl⟩
abbrev main_v346 : Ref sig .tc := ⟨.hbm, 407, rfl⟩
abbrev main_v347 : Ref sig .tc := ⟨.hbm, 408, rfl⟩
abbrev main_v348 : Ref sig .tc := ⟨.hbm, 409, rfl⟩
abbrev main_v349 : Ref sig .tc := ⟨.hbm, 410, rfl⟩
abbrev main_v350 : Ref sig .tc := ⟨.hbm, 411, rfl⟩
abbrev main_v351 : Ref sig .tc := ⟨.hbm, 412, rfl⟩
abbrev main_v352 : Ref sig .tc := ⟨.hbm, 413, rfl⟩
abbrev main_v353 : Ref sig .tc := ⟨.hbm, 414, rfl⟩
abbrev main_v354 : Ref sig .tc := ⟨.hbm, 415, rfl⟩
abbrev main_v355 : Ref sig .tc := ⟨.hbm, 416, rfl⟩
abbrev main_v356 : Ref sig .tc := ⟨.hbm, 417, rfl⟩
abbrev main_v357 : Ref sig .tc := ⟨.hbm, 418, rfl⟩
abbrev main_v358 : Ref sig .tc := ⟨.hbm, 419, rfl⟩
abbrev main_v359 : Ref sig .tc := ⟨.hbm, 420, rfl⟩
abbrev main_v360 : Ref sig .tc := ⟨.hbm, 421, rfl⟩
abbrev main_cst_48 : Ref sig .tc := ⟨.hbm, 422, rfl⟩
abbrev main_v361 : Ref sig .tc := ⟨.hbm, 423, rfl⟩
abbrev main_cst_49 : Ref sig .tc := ⟨.hbm, 424, rfl⟩
abbrev main_v362 : Ref sig .tc := ⟨.hbm, 425, rfl⟩
abbrev main_v363 : Ref sig .tc := ⟨.hbm, 426, rfl⟩
abbrev main_cst_50 : Ref sig .tc := ⟨.hbm, 427, rfl⟩
abbrev main_v364 : Ref sig .tc := ⟨.hbm, 428, rfl⟩
abbrev main_v365 : Ref sig .tc := ⟨.hbm, 429, rfl⟩
abbrev main_v366 : Ref sig .tc := ⟨.hbm, 430, rfl⟩
abbrev main_v367 : Ref sig .tc := ⟨.hbm, 431, rfl⟩
abbrev main_v368 : Ref sig .tc := ⟨.hbm, 432, rfl⟩
abbrev main_v369 : Ref sig .tc := ⟨.hbm, 433, rfl⟩
abbrev main_v370 : Ref sig .tc := ⟨.hbm, 434, rfl⟩
abbrev main_v371 : Ref sig .tc := ⟨.hbm, 435, rfl⟩
abbrev main_v372 : Ref sig .tc := ⟨.hbm, 436, rfl⟩
abbrev main_v373 : Ref sig .tc := ⟨.hbm, 437, rfl⟩
abbrev main_v374 : Ref sig .tc := ⟨.hbm, 438, rfl⟩
abbrev main_v375 : Ref sig .tc := ⟨.hbm, 439, rfl⟩
abbrev main_v376 : Ref sig .tc := ⟨.hbm, 440, rfl⟩
abbrev main_v377 : Ref sig .tc := ⟨.hbm, 441, rfl⟩
abbrev main_cst_51 : Ref sig .tc := ⟨.hbm, 442, rfl⟩
abbrev main_v378 : Ref sig .tc := ⟨.hbm, 443, rfl⟩
abbrev main_cst_52 : Ref sig .tc := ⟨.hbm, 444, rfl⟩
abbrev main_v379 : Ref sig .tc := ⟨.hbm, 445, rfl⟩
abbrev main_v380 : Ref sig .tc := ⟨.hbm, 446, rfl⟩
abbrev main_cst_53 : Ref sig .tc := ⟨.hbm, 447, rfl⟩
abbrev main_v381 : Ref sig .tc := ⟨.hbm, 448, rfl⟩
abbrev main_v382 : Ref sig .tc := ⟨.hbm, 449, rfl⟩
abbrev main_v383 : Ref sig .tc := ⟨.hbm, 450, rfl⟩
abbrev main_cst_54 : Ref sig .tc := ⟨.hbm, 451, rfl⟩
abbrev main_v384 : Ref sig .tc := ⟨.hbm, 452, rfl⟩
abbrev main_v385 : Ref sig .tc := ⟨.hbm, 453, rfl⟩
abbrev main_v386 : Ref sig .tc := ⟨.hbm, 454, rfl⟩
abbrev main_v387 : Ref sig .tc := ⟨.hbm, 455, rfl⟩
abbrev main_cst_55 : Ref sig .tc := ⟨.hbm, 456, rfl⟩
abbrev main_v388 : Ref sig .tc := ⟨.hbm, 457, rfl⟩
abbrev main_v389 : Ref sig .tc := ⟨.hbm, 458, rfl⟩
abbrev main_cst_56 : Ref sig .tc := ⟨.hbm, 459, rfl⟩
abbrev main_v390 : Ref sig .tc := ⟨.hbm, 460, rfl⟩
abbrev main_v391 : Ref sig .tc := ⟨.hbm, 461, rfl⟩
abbrev main_v392 : Ref sig .tc := ⟨.hbm, 462, rfl⟩
abbrev main_v393 : Ref sig .tc := ⟨.hbm, 463, rfl⟩
abbrev main_v394 : Ref sig .tc := ⟨.hbm, 464, rfl⟩
abbrev main_cst_57 : Ref sig .tc := ⟨.hbm, 465, rfl⟩
abbrev main_v395 : Ref sig .tc := ⟨.hbm, 466, rfl⟩
abbrev main_v396 : Ref sig .tc := ⟨.hbm, 467, rfl⟩
abbrev main_cst_58 : Ref sig .tc := ⟨.hbm, 468, rfl⟩
abbrev main_v397 : Ref sig .tc := ⟨.hbm, 469, rfl⟩
abbrev main_v398 : Ref sig .tc := ⟨.hbm, 470, rfl⟩
abbrev main_v399 : Ref sig .tc := ⟨.hbm, 471, rfl⟩
abbrev main_v400 : Ref sig .tc := ⟨.hbm, 472, rfl⟩
abbrev main_v401 : Ref sig .tc := ⟨.hbm, 473, rfl⟩
abbrev main_v402 : Ref sig .tc := ⟨.hbm, 474, rfl⟩
abbrev main_v403 : Ref sig .tc := ⟨.hbm, 475, rfl⟩
abbrev main_cst_59 : Ref sig .tc := ⟨.hbm, 476, rfl⟩
abbrev main_v404 : Ref sig .tc := ⟨.hbm, 477, rfl⟩
abbrev main_v405 : Ref sig .tc := ⟨.hbm, 478, rfl⟩
abbrev main_v406 : Ref sig .tc := ⟨.hbm, 479, rfl⟩
abbrev main_v407 : Ref sig .tc := ⟨.hbm, 480, rfl⟩
abbrev main_v408 : Ref sig .tc := ⟨.hbm, 481, rfl⟩
abbrev main_cst_60 : Ref sig .tc := ⟨.hbm, 482, rfl⟩
abbrev main_v409 : Ref sig .tc := ⟨.hbm, 483, rfl⟩
abbrev main_cst_61 : Ref sig .tc := ⟨.hbm, 484, rfl⟩
abbrev main_v410 : Ref sig .tc := ⟨.hbm, 485, rfl⟩
abbrev main_v411 : Ref sig .tc := ⟨.hbm, 486, rfl⟩
abbrev main_cst_62 : Ref sig .tc := ⟨.hbm, 487, rfl⟩
abbrev main_v412 : Ref sig .tc := ⟨.hbm, 488, rfl⟩
abbrev main_v413 : Ref sig .tc := ⟨.hbm, 489, rfl⟩
abbrev main_cst_63 : Ref sig .tc := ⟨.hbm, 490, rfl⟩
abbrev main_v414 : Ref sig .tc := ⟨.hbm, 491, rfl⟩
abbrev main_v415 : Ref sig .tc := ⟨.hbm, 492, rfl⟩
abbrev main_cst_64 : Ref sig .tc := ⟨.hbm, 493, rfl⟩
abbrev main_v416 : Ref sig .tc := ⟨.hbm, 494, rfl⟩
abbrev main_v417 : Ref sig .tc := ⟨.hbm, 495, rfl⟩
abbrev main_v418 : Ref sig .tc := ⟨.hbm, 496, rfl⟩
abbrev main_v419 : Ref sig .tc := ⟨.hbm, 497, rfl⟩
abbrev main_cst_65 : Ref sig .tc := ⟨.hbm, 498, rfl⟩
abbrev main_v420 : Ref sig .tc := ⟨.hbm, 499, rfl⟩
abbrev main_v421 : Ref sig .tc := ⟨.hbm, 500, rfl⟩
abbrev main_cst_66 : Ref sig .tc := ⟨.hbm, 501, rfl⟩
abbrev main_v422 : Ref sig .tc := ⟨.hbm, 502, rfl⟩
abbrev main_v423 : Ref sig .tc := ⟨.hbm, 503, rfl⟩
abbrev main_cst_67 : Ref sig .tc := ⟨.hbm, 504, rfl⟩
abbrev main_v424 : Ref sig .tc := ⟨.hbm, 505, rfl⟩
abbrev main_v425 : Ref sig .tc := ⟨.hbm, 506, rfl⟩
abbrev main_v426 : Ref sig .tc := ⟨.hbm, 507, rfl⟩
abbrev main_v427 : Ref sig .tc := ⟨.hbm, 508, rfl⟩
abbrev main_cst_68 : Ref sig .tc := ⟨.hbm, 509, rfl⟩
abbrev main_v428 : Ref sig .tc := ⟨.hbm, 510, rfl⟩
abbrev main_v429 : Ref sig .tc := ⟨.hbm, 511, rfl⟩
abbrev main_cst_69 : Ref sig .tc := ⟨.hbm, 512, rfl⟩
abbrev main_v430 : Ref sig .tc := ⟨.hbm, 513, rfl⟩
abbrev main_v431 : Ref sig .tc := ⟨.hbm, 514, rfl⟩
abbrev main_v432 : Ref sig .tc := ⟨.hbm, 515, rfl⟩
abbrev main_v433 : Ref sig .tc := ⟨.hbm, 516, rfl⟩
abbrev main_v434 : Ref sig .tc := ⟨.hbm, 517, rfl⟩
abbrev main_cst_70 : Ref sig .tc := ⟨.hbm, 518, rfl⟩
abbrev main_v435 : Ref sig .tc := ⟨.hbm, 519, rfl⟩
abbrev main_v436 : Ref sig .tc := ⟨.hbm, 520, rfl⟩
abbrev main_cst_71 : Ref sig .tc := ⟨.hbm, 521, rfl⟩
abbrev main_v437 : Ref sig .tc := ⟨.hbm, 522, rfl⟩
abbrev main_v438 : Ref sig .tc := ⟨.hbm, 523, rfl⟩
abbrev main_v439 : Ref sig .tc := ⟨.hbm, 524, rfl⟩
abbrev main_v440 : Ref sig .tc := ⟨.hbm, 525, rfl⟩
abbrev main_v441 : Ref sig .tc := ⟨.hbm, 526, rfl⟩
abbrev main_v442 : Ref sig .tc := ⟨.hbm, 527, rfl⟩
abbrev main_v443 : Ref sig .tc := ⟨.hbm, 528, rfl⟩
abbrev main_v444 : Ref sig .tc := ⟨.hbm, 529, rfl⟩
abbrev main_v445 : Ref sig .tc := ⟨.hbm, 530, rfl⟩
abbrev main_v446 : Ref sig .tc := ⟨.hbm, 531, rfl⟩
abbrev main_cst_72 : Ref sig .tc := ⟨.hbm, 532, rfl⟩
abbrev main_v447 : Ref sig .tc := ⟨.hbm, 533, rfl⟩
abbrev main_v448 : Ref sig .tc := ⟨.hbm, 534, rfl⟩
abbrev main_cst_73 : Ref sig .tc := ⟨.hbm, 535, rfl⟩
abbrev main_v449 : Ref sig .tc := ⟨.hbm, 536, rfl⟩
abbrev main_v450 : Ref sig .tc := ⟨.hbm, 537, rfl⟩
abbrev main_cst_74 : Ref sig .tc := ⟨.hbm, 538, rfl⟩
abbrev main_v451 : Ref sig .tc := ⟨.hbm, 539, rfl⟩
abbrev main_v452 : Ref sig .tc := ⟨.hbm, 540, rfl⟩
abbrev main_v453 : Ref sig .tc := ⟨.hbm, 541, rfl⟩
abbrev main_cst_75 : Ref sig .tc := ⟨.hbm, 542, rfl⟩
abbrev main_v454 : Ref sig .tc := ⟨.hbm, 543, rfl⟩
abbrev main_v455 : Ref sig .tc := ⟨.hbm, 544, rfl⟩
abbrev main_v456 : Ref sig .tc := ⟨.hbm, 545, rfl⟩
abbrev main_v457 : Ref sig .tc := ⟨.hbm, 546, rfl⟩
abbrev main_cst_76 : Ref sig .tc := ⟨.hbm, 547, rfl⟩
abbrev main_v458 : Ref sig .tc := ⟨.hbm, 548, rfl⟩
abbrev main_v459 : Ref sig .tc := ⟨.hbm, 549, rfl⟩
abbrev main_cst_77 : Ref sig .tc := ⟨.hbm, 550, rfl⟩
abbrev main_v460 : Ref sig .tc := ⟨.hbm, 551, rfl⟩
abbrev main_v461 : Ref sig .tc := ⟨.hbm, 552, rfl⟩
abbrev main_v462 : Ref sig .tc := ⟨.hbm, 553, rfl⟩
abbrev main_cst_78 : Ref sig .tc := ⟨.hbm, 554, rfl⟩
abbrev main_v463 : Ref sig .tc := ⟨.hbm, 555, rfl⟩
abbrev main_v464 : Ref sig .tc := ⟨.hbm, 556, rfl⟩
abbrev main_v465 : Ref sig .tc := ⟨.hbm, 557, rfl⟩
abbrev main_v466 : Ref sig .tc := ⟨.hbm, 558, rfl⟩
abbrev main_cst_79 : Ref sig .tc := ⟨.hbm, 559, rfl⟩
abbrev main_v467 : Ref sig .tc := ⟨.hbm, 560, rfl⟩
abbrev main_v468 : Ref sig .tc := ⟨.hbm, 561, rfl⟩
abbrev main_v469 : Ref sig .tc := ⟨.hbm, 562, rfl⟩
abbrev main_cst_80 : Ref sig .tc := ⟨.hbm, 563, rfl⟩
abbrev main_v470 : Ref sig .tc := ⟨.hbm, 564, rfl⟩
abbrev main_v471 : Ref sig .tc := ⟨.hbm, 565, rfl⟩
abbrev main_v472 : Ref sig .tc := ⟨.hbm, 566, rfl⟩
abbrev main_v473 : Ref sig .tc := ⟨.hbm, 567, rfl⟩
abbrev main_v474 : Ref sig .tc := ⟨.hbm, 568, rfl⟩
abbrev main_v475 : Ref sig .tc := ⟨.hbm, 569, rfl⟩
abbrev main_cst_81 : Ref sig .tc := ⟨.hbm, 570, rfl⟩
abbrev main_v476 : Ref sig .tc := ⟨.hbm, 571, rfl⟩
abbrev main_v477 : Ref sig .tc := ⟨.hbm, 572, rfl⟩
abbrev main_cst_82 : Ref sig .tc := ⟨.hbm, 573, rfl⟩
abbrev main_v478 : Ref sig .tc := ⟨.hbm, 574, rfl⟩
abbrev main_v479 : Ref sig .tc := ⟨.hbm, 575, rfl⟩
abbrev main_v480 : Ref sig .tc := ⟨.hbm, 576, rfl⟩
abbrev main_v481 : Ref sig .tc := ⟨.hbm, 577, rfl⟩
abbrev main_v482 : Ref sig .tc := ⟨.hbm, 578, rfl⟩
abbrev main_v483 : Ref sig .tc := ⟨.hbm, 579, rfl⟩
abbrev main_cst_83 : Ref sig .tc := ⟨.hbm, 580, rfl⟩
abbrev main_v484 : Ref sig .tc := ⟨.hbm, 581, rfl⟩
abbrev main_cst_84 : Ref sig .tc := ⟨.hbm, 582, rfl⟩
abbrev main_v485 : Ref sig .tc := ⟨.hbm, 583, rfl⟩
abbrev main_v486 : Ref sig .tc := ⟨.hbm, 584, rfl⟩

abbrev nD : Nat := 1
abbrev τ : Topo := Topo.v7x

variable {F : FTy → Type} [FloatOps F]
-- ==== Kernel7.lean ====
abbrev S256x1024 : Shape := ⟨2, ![256, 1024]⟩
abbrev S8192x1024 : Shape := ⟨2, ![8192, 1024]⟩
abbrev S1024 : Shape := ⟨1, ![1024]⟩
abbrev S2x1024 : Shape := ⟨2, ![2, 1024]⟩
abbrev S1024x2048 : Shape := ⟨2, ![1024, 2048]⟩
abbrev S1x1024 : Shape := ⟨2, ![1, 1024]⟩
abbrev S2x1x1024 : Shape := ⟨3, ![2, 1, 1024]⟩
abbrev S8448x1024 : Shape := ⟨2, ![8448, 1024]⟩
abbrev S1x1x1024 : Shape := ⟨3, ![1, 1, 1024]⟩
abbrev S256 : Shape := ⟨1, ![256]⟩
abbrev S256x1 : Shape := ⟨2, ![256, 1]⟩
abbrev S256x2048 : Shape := ⟨2, ![256, 2048]⟩

abbrev nBuf : Space → Nat
  | .hbm => 11
  | .vmem => 13
  | .smem => 0
  | _ => 0

abbrev bufTy : (tb : Table) → Fin (tcTables nBuf tb) → BufTy
  | .hbm, ⟨0, _⟩ => ⟨S256x1024, .f32⟩
  | .hbm, ⟨1, _⟩ => ⟨S8192x1024, .f32⟩
  | .hbm, ⟨2, _⟩ => ⟨S1024, .f32⟩
  | .hbm, ⟨3, _⟩ => ⟨S2x1024, .f32⟩
  | .hbm, ⟨4, _⟩ => ⟨S2x1024, .f32⟩
  | .hbm, ⟨5, _⟩ => ⟨S1024x2048, .f32⟩
  | .hbm, ⟨6, _⟩ => ⟨S1x1024, .f32⟩
  | .hbm, ⟨7, _⟩ => ⟨S2x1x1024, .f32⟩
  | .hbm, ⟨8, _⟩ => ⟨S2x1x1024, .f32⟩
  | .hbm, ⟨9, _⟩ => ⟨S8448x1024, .f32⟩
  | .hbm, ⟨10, _⟩ => ⟨S8448x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1024x2048, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c1_i32 : BitVec 32 := 1#32
  let v0 : BitVec 32 := Scalar.minsi arg0 c1_i32
  let c0_i32 : BitVec 32 := 0#32
  let c0_i32_0 : BitVec 32 := 0#32
  let c0_i32_1 : BitVec 32 := 0#32
  ![v0.toNat, c0_i32.toNat, c0_i32_0.toNat]

def cc0_transform_4 (i : grid0.Coords) : Fin 3 → Nat :=
  let arg0 : BitVec 32 := BitVec.ofNat 32 (i 0).val
  let c1_i32 : BitVec 32 := 1#32
  let v0 : BitVec 32 := Scalar.minsi arg0 c1_i32
  let c0_i32 : BitVec 32 := 0#32
  let c0_i32_0 : BitVec 32 := 0#32
  let c0_i32_1 : BitVec 32 := 0#32
  ![v0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference7Ideal.lean ====
abbrev S256x1024 : Shape := ⟨2, ![256, 1024]⟩
abbrev S8192x1024 : Shape := ⟨2, ![8192, 1024]⟩
abbrev S1024 : Shape := ⟨1, ![1024]⟩
abbrev S2x1024 : Shape := ⟨2, ![2, 1024]⟩
abbrev S1024x2048 : Shape := ⟨2, ![1024, 2048]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S256 : Shape := ⟨1, ![256]⟩
abbrev S256x1 : Shape := ⟨2, ![256, 1]⟩
abbrev S256x2048 : Shape := ⟨2, ![256, 2048]⟩
abbrev S8192x2048 : Shape := ⟨2, ![8192, 2048]⟩
abbrev S8448x2048 : Shape := ⟨2, ![8448, 2048]⟩
abbrev S8448x1024 : Shape := ⟨2, ![8448, 1024]⟩

abbrev nBuf : Space → Nat
  | .hbm => 69
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S8192x1024, .f32⟩
  | .hbm, ⟨2, _⟩ => ⟨S1024, .f32⟩
  | .hbm, ⟨3, _⟩ => ⟨S2x1024, .f32⟩
  | .hbm, ⟨4, _⟩ => ⟨S2x1024, .f32⟩
  | .hbm, ⟨5, _⟩ => ⟨S1024x2048, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S1024, .f32⟩
  | .hbm, ⟨24, _⟩ => ⟨S_, .f32⟩
  | .hbm, ⟨25, _⟩ => ⟨S1024, .f32⟩
  | .hbm, ⟨26, _⟩ => ⟨S1024, .f32⟩
  | .hbm, ⟨27, _⟩ => ⟨S1x1024, .f32⟩
  | .hbm, ⟨28, _⟩ => ⟨S8192x1024, .f32⟩
  | .hbm, ⟨29, _⟩ => ⟨S8192x1024, .f32⟩
  | .hbm, ⟨30, _⟩ => ⟨S1x1024, .f32⟩
  | .hbm, ⟨31, _⟩ => ⟨S1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S256x1024, .f32⟩
  | .hbm, ⟨36, _⟩ => ⟨S_, .f32⟩
  | .hbm, ⟨37, _⟩ => ⟨S256, .f32⟩
  | .hbm, ⟨38, _⟩ => ⟨S256x1, .f32⟩
  | .hbm, ⟨39, _⟩ => ⟨S_, .f32⟩
  | .hbm, ⟨40, _⟩ => ⟨S256x1, .f32⟩
  | .hbm, ⟨41, _⟩ => ⟨S256x1, .f32⟩
  | .hbm, ⟨42, _⟩ => ⟨S_, .f32⟩
  | .hbm, ⟨43, _⟩ => ⟨S256x1, .f32⟩
  | .hbm, ⟨44, _⟩ => ⟨S256x1, .f32⟩
  | .hbm, ⟨45, _⟩ => ⟨S256x1, .f32⟩
  | .hbm, ⟨46, _⟩ => ⟨S256x1024, .f32⟩
  | .hbm, ⟨47, _⟩ => ⟨S256x1024, .f32⟩
  | .hbm, ⟨48, _⟩ => ⟨S1x1024, .f32⟩
  | .hbm, ⟨49, _⟩ => ⟨S256x1024, .f32⟩
  | .hbm, ⟨50, _⟩ => ⟨S256x1024, .f32⟩
  | .hbm, ⟨51, _⟩ => ⟨S1x1024, .f32⟩
  | .hbm, ⟨52, _⟩ => ⟨S1024, .f32⟩
  | .hbm, ⟨53, _⟩ => ⟨S_, .f32⟩
  | .hbm, ⟨54, _⟩ => ⟨S1024, .f32⟩
  | .hbm, ⟨55, _⟩ => ⟨S1024, .f32⟩
  | .hbm, ⟨56, _⟩ => ⟨S1x1024, .f32⟩
  | .hbm, ⟨57, _⟩ => ⟨S256x1024, .f32⟩
  | .hbm, ⟨58, _⟩ => ⟨S256x1024, .f32⟩
  | .hbm, ⟨59, _⟩ => ⟨S1x1024, .f32⟩
  | .hbm, ⟨60, _⟩ => ⟨S1024, .f32⟩
  | .hbm, ⟨61, _⟩ => ⟨S1x1024, .f32⟩
  | .hbm, ⟨62, _⟩ => ⟨S256x1024, .f32⟩
  | .hbm, ⟨63, _⟩ => ⟨S256x1024, .f32⟩
  | .hbm, ⟨64, _⟩ => ⟨S256x2048, .f32⟩
  | .hbm, ⟨65, _⟩ => ⟨S8192x2048, .f32⟩
  | .hbm, ⟨66, _⟩ => ⟨S8448x2048, .f32⟩
  | .hbm, ⟨67, _⟩ => ⟨S8448x1024, .f32⟩
  | .hbm, ⟨68, _⟩ => ⟨S8448x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_6 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩

abbrev nD : Nat := 1
abbrev τ : Topo := Topo.v7x

variable {F : FTy → Type} [FloatOps F]
-- ==== Kernel8.lean ====
abbrev S256x1024 : Shape := ⟨2, ![256, 1024]⟩
abbrev S8192x1024 : Shape := ⟨2, ![8192, 1024]⟩
abbrev S8448x1024 : Shape := ⟨2, ![8448, 1024]⟩
abbrev S2x1024 : Shape := ⟨2, ![2, 1024]⟩
abbrev S1024x1024 : Shape := ⟨2, ![1024, 1024]⟩
abbrev S1024 : Shape := ⟨1, ![1024]⟩
abbrev S2x1x1024 : Shape := ⟨3, ![2, 1, 1024]⟩
abbrev S1x1024 : Shape := ⟨2, ![1, 1024]⟩
abbrev S1x1x1024 : Shape := ⟨3, ![1, 1, 1024]⟩

abbrev nBuf : Space → Nat
  | .hbm => 12
  | .vmem => 16
  | .smem => 0
  | _ => 0

abbrev bufTy : (tb : Table) → Fin (tcTables nBuf tb) → BufTy
  | .hbm, ⟨0, _⟩ => ⟨S256x1024, .f32⟩
  | .hbm, ⟨1, _⟩ => ⟨S8192x1024, .f32⟩
  | .hbm, ⟨2, _⟩ => ⟨S8448x1024, .f32⟩
  | .hbm, ⟨3, _⟩ => ⟨S8448x1024, .f32⟩
  | .hbm, ⟨4, _⟩ => ⟨S8448x1024, .f32⟩
  | .hbm, ⟨5, _⟩ => ⟨S2x1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S2x1x1024, .f32⟩
  | .hbm, ⟨10, _⟩ => ⟨S1x1024, .f32⟩
  | .hbm, ⟨11, _⟩ => ⟨S8448x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S1x1x1024, .f32⟩
  | .local _ .vmem, ⟨10, _⟩ => ⟨S1x1x1024, .f32⟩
  | .local _ .vmem, ⟨11, _⟩ => ⟨S1024x1024, .f32⟩
  | .local _ .vmem, ⟨12, _⟩ => ⟨S1x1024, .f32⟩
  | .local _ .vmem, ⟨13, _⟩ => ⟨S1024x1024, .f32⟩
  | .local _ .vmem, ⟨14, _⟩ => ⟨S256x1024, .f32⟩
  | .local _ .vmem, ⟨15, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c1_i32 : BitVec 32 := 1#32
  let v0 : BitVec 32 := Scalar.minsi arg0 c1_i32
  let c0_i32 : BitVec 32 := 0#32
  let c0_i32_0 : BitVec 32 := 0#32
  let c0_i32_1 : BitVec 32 := 0#32
  ![v0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Kernel8Ideal.lean ====
variable {F : FTy → Type} [FloatOps F] [Named F]
def κ : String → Option EReal := fun
  | "inv_sqrt2" => some (((Real.sqrt 2)⁻¹ : ℝ) : EReal)
  | _ => none
-- ==== Reference8Ideal.lean ====
abbrev S256x1024 : Shape := ⟨2, ![256, 1024]⟩
abbrev S8192x1024 : Shape := ⟨2, ![8192, 1024]⟩
abbrev S8448x1024 : Shape := ⟨2, ![8448, 1024]⟩
abbrev S2x1024 : Shape := ⟨2, ![2, 1024]⟩
abbrev S1024x1024 : Shape := ⟨2, ![1024, 1024]⟩
abbrev S1024 : Shape := ⟨1, ![1024]⟩
abbrev S_ : Shape := ⟨0, ![]⟩
abbrev S1x1024 : Shape := ⟨2, ![1, 1024]⟩

abbrev nBuf : Space → Nat
  | .hbm => 62
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S8192x1024, .f32⟩
  | .hbm, ⟨2, _⟩ => ⟨S8448x1024, .f32⟩
  | .hbm, ⟨3, _⟩ => ⟨S8448x1024, .f32⟩
  | .hbm, ⟨4, _⟩ => ⟨S8448x1024, .f32⟩
  | .hbm, ⟨5, _⟩ => ⟨S2x1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S8448x1024, .f32⟩
  | .hbm, ⟨10, _⟩ => ⟨S8448x1024, .f32⟩
  | .hbm, ⟨11, _⟩ => ⟨S_, .f32⟩
  | .hbm, ⟨12, _⟩ => ⟨S8448x1024, .f32⟩
  | .hbm, ⟨13, _⟩ => ⟨S8448x1024, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S8448x1024, .f32⟩
  | .hbm, ⟨18, _⟩ => ⟨S8448x1024, .f32⟩
  | .hbm, ⟨19, _⟩ => ⟨S8448x1024, .f32⟩
  | .hbm, ⟨20, _⟩ => ⟨S_, .f32⟩
  | .hbm, ⟨21, _⟩ => ⟨S8448x1024, .f32⟩
  | .hbm, ⟨22, _⟩ => ⟨S8448x1024, .f32⟩
  | .hbm, ⟨23, _⟩ => ⟨S8448x1024, .f32⟩
  | .hbm, ⟨24, _⟩ => ⟨S8448x1024, .f32⟩
  | .hbm, ⟨25, _⟩ => ⟨S1x1024, .f32⟩
  | .hbm, ⟨26, _⟩ => ⟨S8448x1024, .f32⟩
  | .hbm, ⟨27, _⟩ => ⟨S8448x1024, .f32⟩
  | .hbm, ⟨28, _⟩ => ⟨S8448x1024, .f32⟩
  | .hbm, ⟨29, _⟩ => ⟨S8448x1024, .f32⟩
  | .hbm, ⟨30, _⟩ => ⟨S_, .f32⟩
  | .hbm, ⟨31, _⟩ => ⟨S8448x1024, .f32⟩
  | .hbm, ⟨32, _⟩ => ⟨S8448x1024, .f32⟩
  | .hbm, ⟨33, _⟩ => ⟨S_, .f32⟩
  | .hbm, ⟨34, _⟩ => ⟨S8448x1024, .f32⟩
  | .hbm, ⟨35, _⟩ => ⟨S8448x1024, .f32⟩
  | .hbm, ⟨36, _⟩ => ⟨S8448x1024, .f32⟩
  | .hbm, ⟨37, _⟩ => ⟨S8448x1024, .f32⟩
  | .hbm, ⟨38, _⟩ => ⟨S8448x1024, .f32⟩
  | .hbm, ⟨39, _⟩ => ⟨S_, .f32⟩
  | .hbm, ⟨40, _⟩ => ⟨S8448x1024, .f32⟩
  | .hbm, ⟨41, _⟩ => ⟨S8448x1024, .f32⟩
  | .hbm, ⟨42, _⟩ => ⟨S_, .f32⟩
  | .hbm, ⟨43, _⟩ => ⟨S8448x1024, .f32⟩
  | .hbm, ⟨44, _⟩ => ⟨S8448x1024, .f32⟩
  | .hbm, ⟨45, _⟩ => ⟨S8448x1024, .f32⟩
  | .hbm, ⟨46, _⟩ => ⟨S8448x1024, .f32⟩
  | .hbm, ⟨47, _⟩ => ⟨S8448x1024, .f32⟩
  | .hbm, ⟨48, _⟩ => ⟨S1x1024, .f32⟩
  | .hbm, ⟨49, _⟩ => ⟨S1024, .f32⟩
  | .hbm, ⟨50, _⟩ => ⟨S256x1024, .f32⟩
  | .hbm, ⟨51, _⟩ => ⟨S1x1024, .f32⟩
  | .hbm, ⟨52, _⟩ => ⟨S256x1024, .f32⟩
  | .hbm, ⟨53, _⟩ => ⟨S256x1024, .f32⟩
  | .hbm, ⟨54, _⟩ => ⟨S1x1024, .f32⟩
  | .hbm, ⟨55, _⟩ => ⟨S1024, .f32⟩
  | .hbm, ⟨56, _⟩ => ⟨S8192x1024, .f32⟩
  | .hbm, ⟨57, _⟩ => ⟨S1x1024, .f32⟩
  | .hbm, ⟨58, _⟩ => ⟨S8192x1024, .f32⟩
  | .hbm, ⟨59, _⟩ => ⟨S8192x1024, .f32⟩
  | .hbm, ⟨60, _⟩ => ⟨S8448x1024, .f32⟩
  | .hbm, ⟨61, _⟩ => ⟨S8448x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_call0_v5 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩

abbrev nD : Nat := 1
abbrev τ : Topo := Topo.v7x

variable {F : FTy → Type} [FloatOps F]
-- ==== Kernel9.lean ====
abbrev S16x1024 : Shape := ⟨2, ![16, 1024]⟩
abbrev S2x1024x384 : Shape := ⟨3, ![2, 1024, 384]⟩
abbrev S2x384 : Shape := ⟨2, ![2, 384]⟩
abbrev S2x1x384 : Shape := ⟨3, ![2, 1, 384]⟩
abbrev S2x16x384 : Shape := ⟨3, ![2, 16, 384]⟩
abbrev S1x1024x384 : Shape := ⟨3, ![1, 1024, 384]⟩
abbrev S1024x384 : Shape := ⟨2, ![1024, 384]⟩
abbrev S16x384 : Shape := ⟨2, ![16, 384]⟩
abbrev S1x1x384 : Shape := ⟨3, ![1, 1, 384]⟩
abbrev S1x384 : Shape := ⟨2, ![1, 384]⟩
abbrev S1x16x384 : Shape := ⟨3, ![1, 16, 384]⟩

abbrev nBuf : Space → Nat
  | .hbm => 5
  | .vmem => 4
  | .smem => 0
  | _ => 0

abbrev bufTy : (tb : Table) → Fin (tcTables nBuf tb) → BufTy
  | .hbm, ⟨0, _⟩ => ⟨S16x1024, .f32⟩
  | .hbm, ⟨1, _⟩ => ⟨S2x1024x384, .f32⟩
  | .hbm, ⟨2, _⟩ => ⟨S2x384, .f32⟩
  | .hbm, ⟨3, _⟩ => ⟨S2x1x384, .f32⟩
  | .hbm, ⟨4, _⟩ => ⟨S2x16x384, .f32⟩
  | .local _ .vmem, ⟨0, _⟩ => ⟨S16x1024, .f32⟩
  | .local _ .vmem, ⟨1, _⟩ => ⟨S2x1024x384, .f32⟩
  | .local _ .vmem, ⟨2, _⟩ => ⟨S2x1x384, .f32⟩
  | .local _ .vmem, ⟨3, _⟩ => ⟨S2x16x384, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x1024x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x1x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x16x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Reference9Ideal.lean ====
abbrev S16x1024 : Shape := ⟨2, ![16, 1024]⟩
abbrev S2x1024x384 : Shape := ⟨3, ![2, 1024, 384]⟩
abbrev S2x384 : Shape := ⟨2, ![2, 384]⟩
abbrev S_ : Shape := ⟨0, ![]⟩
abbrev S1x1024x384 : Shape := ⟨3, ![1, 1024, 384]⟩
abbrev S1024x384 : Shape := ⟨2, ![1024, 384]⟩
abbrev S16x384 : Shape := ⟨2, ![16, 384]⟩
abbrev S1x384 : Shape := ⟨2, ![1, 384]⟩
abbrev S384 : Shape := ⟨1, ![384]⟩
abbrev S1x16x384 : Shape := ⟨3, ![1, 16, 384]⟩
abbrev S2x16x384 : Shape := ⟨3, ![2, 16, 384]⟩

abbrev nBuf : Space → Nat
  | .hbm => 31
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S2x1024x384, .f32⟩
  | .hbm, ⟨2, _⟩ => ⟨S2x384, .f32⟩
  | .hbm, ⟨3, _⟩ => ⟨S16x1024, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S1x1024x384, .f32⟩
  | .hbm, ⟨13, _⟩ => ⟨S1024x384, .f32⟩
  | .hbm, ⟨14, _⟩ => ⟨S16x384, .f32⟩
  | .hbm, ⟨15, _⟩ => ⟨S1x384, .f32⟩
  | .hbm, ⟨16, _⟩ => ⟨S384, .f32⟩
  | .hbm, ⟨17, _⟩ => ⟨S1x384, .f32⟩
  | .hbm, ⟨18, _⟩ => ⟨S16x384, .f32⟩
  | .hbm, ⟨19, _⟩ => ⟨S16x384, .f32⟩
  | .hbm, ⟨20, _⟩ => ⟨S1x1024x384, .f32⟩
  | .hbm, ⟨21, _⟩ => ⟨S1024x384, .f32⟩
  | .hbm, ⟨22, _⟩ => ⟨S16x384, .f32⟩
  | .hbm, ⟨23, _⟩ => ⟨S1x384, .f32⟩
  | .hbm, ⟨24, _⟩ => ⟨S384, .f32⟩
  | .hbm, ⟨25, _⟩ => ⟨S1x384, .f32⟩
  | .hbm, ⟨26, _⟩ => ⟨S16x384, .f32⟩
  | .hbm, ⟨27, _⟩ => ⟨S16x384, .f32⟩
  | .hbm, ⟨28, _⟩ => ⟨S1x16x384, .f32⟩
  | .hbm, ⟨29, _⟩ => ⟨S1x16x384, .f32⟩
  | .hbm, ⟨30, _⟩ => ⟨S2x16x384, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩

abbrev nD : Nat := 1
abbrev τ : Topo := Topo.v7x

variable {F : FTy → Type} [FloatOps F]
-- ==== Kernel10.lean ====
abbrev S1024x256 : Shape := ⟨2, ![1024, 256]⟩
abbrev S8x1024x256 : Shape := ⟨3, ![8, 1024, 256]⟩
abbrev S512x256 : Shape := ⟨2, ![512, 256]⟩
abbrev S8x512x256 : Shape := ⟨3, ![8, 512, 256]⟩
abbrev S1x512x256 : Shape := ⟨3, ![1, 512, 256]⟩

abbrev nBuf : Space → Nat
  | .hbm => 8
  | .vmem => 16
  | .smem => 0
  | _ => 0

abbrev bufTy : (tb : Table) → Fin (tcTables nBuf tb) → BufTy
  | .hbm, ⟨0, _⟩ => ⟨S1024x256, .f32⟩
  | .hbm, ⟨1, _⟩ => ⟨S8x1024x256, .bf16⟩
  | .hbm, ⟨2, _⟩ => ⟨S1024x256, .f32⟩
  | .hbm, ⟨3, _⟩ => ⟨S1024x256, .f32⟩
  | .hbm, ⟨4, _⟩ => ⟨S1024x256, .f32⟩
  | .hbm, ⟨5, _⟩ => ⟨S1024x256, .f32⟩
  | .hbm, ⟨6, _⟩ => ⟨S1024x256, .f32⟩
  | .hbm, ⟨7, _⟩ => ⟨S1024x256, .f32⟩
  | .local _ .vmem, ⟨0, _⟩ => ⟨S512x256, .f32⟩
  | .local _ .vmem, ⟨1, _⟩ => ⟨S512x256, .f32⟩
  | .local _ .vmem, ⟨2, _⟩ => ⟨S8x512x256, .bf16⟩
  | .local _ .vmem, ⟨3, _⟩ => ⟨S8x512x256, .bf16⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference10Ideal.lean ====
abbrev S1024x256 : Shape := ⟨2, ![1024, 256]⟩
abbrev S8x1024x256 : Shape := ⟨3, ![8, 1024, 256]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S1024x256, .f32⟩
  | .hbm, ⟨1, _⟩ => ⟨S8x1024x256, .bf16⟩
  | .hbm, ⟨2, _⟩ => ⟨S1024x256, .f32⟩
  | .hbm, ⟨3, _⟩ => ⟨S1024x256, .f32⟩
  | .hbm, ⟨4, _⟩ => ⟨S8x1024x256, .f32⟩
  | .hbm, ⟨5, _⟩ => ⟨S_, .f32⟩
  | .hbm, ⟨6, _⟩ => ⟨S1024x256, .f32⟩
  | .hbm, ⟨7, _⟩ => ⟨S_, .f32⟩
  | .hbm, ⟨8, _⟩ => ⟨S1024x256, .f32⟩
  | .hbm, ⟨9, _⟩ => ⟨S1024x256, .f32⟩
  | .hbm, ⟨10, _⟩ => ⟨S_, .f32⟩
  | .hbm, ⟨11, _⟩ => ⟨S1024x256, .f32⟩
  | .hbm, ⟨12, _⟩ => ⟨S1024x256, .f32⟩
  | .hbm, ⟨13, _⟩ => ⟨S1024x256, .f32⟩
  | .hbm, ⟨14, _⟩ => ⟨S_, .f32⟩
  | .hbm, ⟨15, _⟩ => ⟨S1024x256, .f32⟩
  | .hbm, ⟨16, _⟩ => ⟨S1024x256, .f32⟩
  | .hbm, ⟨17, _⟩ => ⟨S1024x256, .f32⟩
  | .hbm, ⟨18, _⟩ => ⟨S_, .f32⟩
  | .hbm, ⟨19, _⟩ => ⟨S1024x256, .f32⟩
  | .hbm, ⟨20, _⟩ => ⟨S1024x256, .f32⟩
  | .hbm, ⟨21, _⟩ => ⟨S1024x256, .f32⟩
  | .hbm, ⟨22, _⟩ => ⟨S_, .f32⟩
  | .hbm, ⟨23, _⟩ => ⟨S1024x256, .f32⟩
  | .hbm, ⟨24, _⟩ => ⟨S1024x256, .f32⟩
  | .hbm, ⟨25, _⟩ => ⟨S_, .f32⟩
  | .hbm, ⟨26, _⟩ => ⟨S1024x256, .f32⟩
  | .hbm, ⟨27, _⟩ => ⟨S1024x256, .f32⟩
  | .hbm, ⟨28, _⟩ => ⟨S1024x256, .f32⟩
  | .hbm, ⟨29, _⟩ => ⟨S_, .f32⟩
  | .hbm, ⟨30, _⟩ => ⟨S1024x256, .f32⟩
  | .hbm, ⟨31, _⟩ => ⟨S1024x256, .f32⟩
  | .hbm, ⟨32, _⟩ => ⟨S1024x256, .f32⟩
  | .hbm, ⟨33, _⟩ => ⟨S_, .f32⟩
  | .hbm, ⟨34, _⟩ => ⟨S1024x256, .f32⟩
  | .hbm, ⟨35, _⟩ => ⟨S1024x256, .f32⟩
  | .hbm, ⟨36, _⟩ => ⟨S1024x256, .f32⟩
  | .hbm, ⟨37, _⟩ => ⟨S_, .f32⟩
  | .hbm, ⟨38, _⟩ => ⟨S1024x256, .f32⟩
  | .hbm, ⟨39, _⟩ => ⟨S1024x256, .f32⟩
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel11.lean ====
abbrev S8448x1024 : Shape := ⟨2, ![8448, 1024]⟩
abbrev S1024 : Shape := ⟨1, ![1024]⟩
abbrev S2x1024 : Shape := ⟨2, ![2, 1024]⟩
abbrev S1024x2560 : Shape := ⟨2, ![1024, 2560]⟩
abbrev S64 : Shape := ⟨1, ![64]⟩
abbrev S1x64 : Shape := ⟨2, ![1, 64]⟩
abbrev S1x1x1x64 : Shape := ⟨4, ![1, 1, 1, 64]⟩
abbrev S1x1x16x64 : Shape := ⟨4, ![1, 1, 16, 64]⟩
abbrev S1x1024 : Shape := ⟨2, ![1, 1024]⟩
abbrev S1x1x4x64 : Shape := ⟨4, ![1, 1, 4, 64]⟩
abbrev S1x256 : Shape := ⟨2, ![1, 256]⟩
abbrev S8192 : Shape := ⟨1, ![8192]⟩
abbrev S_ : Shape := ⟨0, ![]⟩
abbrev S8192x1 : Shape := ⟨2, ![8192, 1]⟩
abbrev S8192x2 : Shape := ⟨2, ![8192, 2]⟩
abbrev S16 : Shape := ⟨1, ![16]⟩
abbrev S8192x2x1 : Shape := ⟨3, ![8192, 2, 1]⟩
abbrev S1x1x16 : Shape := ⟨3, ![1, 1, 16]⟩
abbrev S8192x2x16 : Shape := ⟨3, ![8192, 2, 16]⟩
abbrev S8192x2x1x16 : Shape := ⟨4, ![8192, 2, 1, 16]⟩
abbrev S8192x2x1x2x16 : Shape := ⟨5, ![8192, 2, 1, 2, 16]⟩
abbrev S8192x2x2x16 : Shape := ⟨4, ![8192, 2, 2, 16]⟩
abbrev S8192x64 : Shape := ⟨2, ![8192, 64]⟩
abbrev S256x64 : Shape := ⟨2, ![256, 64]⟩
abbrev S8448x64 : Shape := ⟨2, ![8448, 64]⟩
abbrev S1x8448x1x64 : Shape := ⟨4, ![1, 8448, 1, 64]⟩
abbrev S1x8448x2x64 : Shape := ⟨4, ![1, 8448, 2, 64]⟩
abbrev S8448x128 : Shape := ⟨2, ![8448, 128]⟩
abbrev S2x1x1024 : Shape := ⟨3, ![2, 1, 1024]⟩
abbrev S1024x1 : Shape := ⟨2, ![1024, 1]⟩
abbrev S128 : Shape := ⟨1, ![128]⟩
abbrev S1x128 : Shape := ⟨2, ![1, 128]⟩
abbrev S1024x128 : Shape := ⟨2, ![1024, 128]⟩
abbrev S256 : Shape := ⟨1, ![256]⟩
abbrev S256x1 : Shape := ⟨2, ![256, 1]⟩
abbrev S256x128 : Shape := ⟨2, ![256, 128]⟩
abbrev S8192x1024 : Shape := ⟨2, ![8192, 1024]⟩
abbrev S8448x256 : Shape := ⟨2, ![8448, 256]⟩
abbrev S8448x1280 : Shape := ⟨2, ![8448, 1280]⟩
abbrev S256x1024 : Shape := ⟨2, ![256, 1024]⟩
abbrev S1x1x1024 : Shape := ⟨3, ![1, 1, 1024]⟩
abbrev S256x256 : Shape := ⟨2, ![256, 256]⟩
abbrev S256x1280 : Shape := ⟨2, ![256, 1280]⟩
abbrev S256x2560 : Shape := ⟨2, ![256, 2560]⟩

abbrev nBuf : Space → Nat
  | .hbm => 157
  | .vmem => 26
  | .smem => 0
  | _ => 0

abbrev hbmTy0_0 (i : Nat) : BufTy := match i % 128 with
  | 0 => ⟨S8448x1024, .f32⟩
  | 1 => ⟨S1024, .f32⟩
  | 2 => ⟨S2x1024, .f32⟩
  | 3 => ⟨S2x1024, .f32⟩
  | 4 => ⟨S1024x2560, .f32⟩
  | 5 => ⟨S64, .f32⟩
  | 6 => ⟨S64, .f32⟩
  | 7 => ⟨S1x64, .f32⟩
  | 8 => ⟨S1x1x1x64, .f32⟩
  | 9 => ⟨S1x1x16x64, .f32⟩
  | 10 => ⟨S1x1024, .f32⟩
  | 11 => ⟨S1x64, .f32⟩
  | 12 => ⟨S1x1x1x64, .f32⟩
  | 13 => ⟨S1x1x4x64, .f32⟩
  | 14 => ⟨S1x256, .f32⟩
  | 15 => ⟨S8192, .i32⟩
  | 16 => ⟨S_, .i32⟩
  | 17 => ⟨S_, .i32⟩
  | 18 => ⟨S8192, .i32⟩
  | 19 => ⟨S8192, .i32⟩
  | 20 => ⟨S8192, .i32⟩
  | 21 => ⟨S_, .i32⟩
  | 22 => ⟨S8192, .i32⟩
  | 23 => ⟨S8192, .i1⟩
  | 24 => ⟨S8192, .i32⟩
  | 25 => ⟨S8192, .i32⟩
  | 26 => ⟨S_, .i32⟩
  | 27 => ⟨S8192, .i32⟩
  | 28 => ⟨S8192, .i1⟩
  | 29 => ⟨S8192, .i1⟩
  | 30 => ⟨S_, .i32⟩
  | 31 => ⟨S8192, .i32⟩
  | 32 => ⟨S8192, .i32⟩
  | 33 => ⟨S8192, .i32⟩
  | 34 => ⟨S8192, .f32⟩
  | 35 => ⟨S_, .i32⟩
  | 36 => ⟨S_, .i32⟩
  | 37 => ⟨S_, .i32⟩
  | 38 => ⟨S_, .i1⟩
  | 39 => ⟨S_, .i32⟩
  | 40 => ⟨S_, .i32⟩
  | 41 => ⟨S8192, .i32⟩
  | 42 => ⟨S8192, .i32⟩
  | 43 => ⟨S_, .i32⟩
  | 44 => ⟨S8192, .i32⟩
  | 45 => ⟨S8192, .i1⟩
  | 46 => ⟨S_, .i32⟩
  | 47 => ⟨S8192, .i32⟩
  | 48 => ⟨S8192, .i1⟩
  | 49 => ⟨S_, .i32⟩
  | 50 => ⟨S_, .i1⟩
  | 51 => ⟨S8192, .i1⟩
  | 52 => ⟨S8192, .i1⟩
  | 53 => ⟨S8192, .i1⟩
  | 54 => ⟨S8192, .i32⟩
  | 55 => ⟨S8192, .i32⟩
  | 56 => ⟨S8192, .i32⟩
  | 57 => ⟨S8192, .f32⟩
  | 58 => ⟨S8192x1, .f32⟩
  | 59 => ⟨S8192x1, .f32⟩
  | 60 => ⟨S8192x2, .f32⟩
  | 61 => ⟨S16, .f32⟩
  | 62 => ⟨S16, .f32⟩
  | 63 => ⟨S_, .f32⟩
  | 64 => ⟨S16, .f32⟩
  | 65 => ⟨S16, .f32⟩
  | 66 => ⟨S_, .f32⟩
  | 67 => ⟨S16, .f32⟩
  | 68 => ⟨S16, .f32⟩
  | 69 => ⟨S8192x2x1, .f32⟩
  | 70 => ⟨S1x1x16, .f32⟩
  | 71 => ⟨S8192x2x16, .f32⟩
  | 72 => ⟨S8192x2x16, .f32⟩
  | 73 => ⟨S8192x2x16, .f32⟩
  | 74 => ⟨S8192x2x16, .f32⟩
  | 75 => ⟨S8192x2x1x16, .f32⟩
  | 76 => ⟨S8192x2x1x2x16, .f32⟩
  | 77 => ⟨S8192x2x2x16, .f32⟩
  | 78 => ⟨S8192x64, .f32⟩
  | 79 => ⟨S8192x2x16, .f32⟩
  | 80 => ⟨S8192x2x16, .f32⟩
  | 81 => ⟨S8192x2x1x16, .f32⟩
  | 82 => ⟨S8192x2x1x16, .f32⟩
  | 83 => ⟨S8192x2x2x16, .f32⟩
  | 84 => ⟨S8192x64, .f32⟩
  | 85 => ⟨S_, .f32⟩
  | 86 => ⟨S256x64, .f32⟩
  | 87 => ⟨S8448x64, .f32⟩
  | 88 => ⟨S_, .f32⟩
  | 89 => ⟨S256x64, .f32⟩
  | 90 => ⟨S8448x64, .f32⟩
  | 91 => ⟨S1x8448x1x64, .f32⟩
  | 92 => ⟨S1x8448x2x64, .f32⟩
  | 93 => ⟨S8448x128, .f32⟩
  | 94 => ⟨S1x8448x1x64, .f32⟩
  | 95 => ⟨S1x8448x2x64, .f32⟩
  | 96 => ⟨S8448x128, .f32⟩
  | 97 => ⟨S1x1024, .f32⟩
  | 98 => ⟨S2x1x1024, .f32⟩
  | 99 => ⟨S2x1x1024, .f32⟩
  | 100 => ⟨S1024, .i32⟩
  | 101 => ⟨S1024x1, .i32⟩
  | 102 => ⟨S_, .i32⟩
  | 103 => ⟨S_, .i32⟩
  | 104 => ⟨S1024x1, .i32⟩
  | 105 => ⟨S1024x1, .i32⟩
  | 106 => ⟨S1024x1, .i32⟩
  | 107 => ⟨S_, .i32⟩
  | 108 => ⟨S1024x1, .i32⟩
  | 109 => ⟨S1024x1, .i1⟩
  | 110 => ⟨S1024x1, .i32⟩
  | 111 => ⟨S1024x1, .i32⟩
  | 112 => ⟨S_, .i32⟩
  | 113 => ⟨S1024x1, .i32⟩
  | 114 => ⟨S1024x1, .i1⟩
  | 115 => ⟨S1024x1, .i1⟩
  | 116 => ⟨S_, .i32⟩
  | 117 => ⟨S1024x1, .i32⟩
  | 118 => ⟨S1024x1, .i32⟩
  | 119 => ⟨S1024x1, .i32⟩
  | 120 => ⟨S128, .i32⟩
  | 121 => ⟨S1x128, .i32⟩
  | 122 => ⟨S1024x128, .i32⟩
  | 123 => ⟨S1024x128, .i32⟩
  | 124 => ⟨S1024x128, .i1⟩
  | 125 => ⟨S1024x128, .bf16⟩
  | 126 => ⟨S256, .i32⟩
  | 127 => ⟨S256x1, .i32⟩
  | _ => ⟨S8448x1024, .f32⟩

abbrev hbmTy0_1 (i : Nat) : BufTy := match i % 128 with
  | 0 => ⟨S_, .i32⟩
  | 1 => ⟨S_, .i32⟩
  | 2 => ⟨S256x1, .i32⟩
  | 3 => ⟨S256x1, .i32⟩
  | 4 => ⟨S256x1, .i32⟩
  | 5 => ⟨S_, .i32⟩
  | 6 => ⟨S256x1, .i32⟩
  | 7 => ⟨S256x1, .i1⟩
  | 8 => ⟨S256x1, .i32⟩
  | 9 => ⟨S256x1, .i32⟩
  | 10 => ⟨S_, .i32⟩
  | 11 => ⟨S256x1, .i32⟩
  | 12 => ⟨S256x1, .i1⟩
  | 13 => ⟨S256x1, .i1⟩
  | 14 => ⟨S_, .i32⟩
  | 15 => ⟨S256x1, .i32⟩
  | 16 => ⟨S256x1, .i32⟩
  | 17 => ⟨S256x1, .i32⟩
  | 18 => ⟨S128, .i32⟩
  | 19 => ⟨S1x128, .i32⟩
  | 20 => ⟨S256x128, .i32⟩
  | 21 => ⟨S256x128, .i32⟩
  | 22 => ⟨S256x128, .i1⟩
  | 23 => ⟨S256x128, .bf16⟩
  | 24 => ⟨S8192x1024, .bf16⟩
  | 25 => ⟨S8448x256, .bf16⟩
  | 26 => ⟨S8448x256, .bf16⟩
  | 27 => ⟨S8448x1024, .f32⟩
  | 28 => ⟨S8448x1280, .f32⟩
  | _ => ⟨S8448x1024, .f32⟩

abbrev hbmTy (i : Nat) : BufTy := match i / 128 with
  | 0 => hbmTy0_0 i
  | 1 => hbmTy0_1 i
  | _ => ⟨S8448x1024, .f32⟩

abbrev bufTy : (tb : Table) → Fin (tcTables nBuf tb) → BufTy
  | .hbm, ⟨i, _⟩ => hbmTy i
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x2560, .f32⟩
  | .local _ .vmem, ⟨8, _⟩ => ⟨S1x1024, .f32⟩
  | .local _ .vmem, ⟨9, _⟩ => ⟨S1x256, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S1024x128, .bf16⟩
  | .local _ .vmem, ⟨15, _⟩ => ⟨S256x128, .bf16⟩
  | .local _ .vmem, ⟨16, _⟩ => ⟨S256x1024, .bf16⟩
  | .local _ .vmem, ⟨17, _⟩ => ⟨S256x1024, .bf16⟩
  | .local _ .vmem, ⟨18, _⟩ => ⟨S256x256, .bf16⟩
  | .local _ .vmem, ⟨19, _⟩ => ⟨S256x256, .bf16⟩
  | .local _ .vmem, ⟨20, _⟩ => ⟨S256x256, .bf16⟩
  | .local _ .vmem, ⟨21, _⟩ => ⟨S256x256, .bf16⟩
  | .local _ .vmem, ⟨22, _⟩ => ⟨S256x1024, .f32⟩
  | .local _ .vmem, ⟨23, _⟩ => ⟨S256x1024, .f32⟩
  | .local _ .vmem, ⟨24, _⟩ => ⟨S256x1280, .f32⟩
  | .local _ .vmem, ⟨25, _⟩ => ⟨S256x1280, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_c : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_0 : Ref sig .tc := ⟨.hbm, 30, rfl⟩
abbrev main_call0_v12 : Ref sig .tc := ⟨.hbm, 31, rfl⟩
abbrev main_call0_v13 : Ref sig .tc := ⟨.hbm, 32, rfl⟩
abbrev main_v9 : Ref sig .tc := ⟨.hbm, 33, rfl⟩
abbrev main_v10 : Ref sig .tc := ⟨.hbm, 34, rfl⟩
abbrev main_c_0 : Ref sig .tc := ⟨.hbm, 35, rfl⟩
abbrev main_call1_v0 : Ref sig .tc := ⟨.hbm, 36, rfl⟩
abbrev main_call1_c : Ref sig .tc := ⟨.hbm, 37, rfl⟩
abbrev main_call1_v1 : Ref sig .tc := ⟨.hbm, 38, rfl⟩
abbrev main_call1_c_0 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_c_1 : Ref sig .tc := ⟨.hbm, 43, rfl⟩
abbrev main_call1_v5 : Ref sig .tc := ⟨.hbm, 44, rfl⟩
abbrev main_call1_v6 : Ref sig .tc := ⟨.hbm, 45, rfl⟩
abbrev main_call1_c_2 : Ref sig .tc := ⟨.hbm, 46, rfl⟩
abbrev main_call1_v7 : Ref sig .tc := ⟨.hbm, 47, rfl⟩
abbrev main_call1_v8 : Ref sig .tc := ⟨.hbm, 48, rfl⟩
abbrev main_call1_c_3 : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_call1_v12 : Ref sig .tc := ⟨.hbm, 53, rfl⟩
abbrev main_call1_v13 : Ref sig .tc := ⟨.hbm, 54, rfl⟩
abbrev main_call1_v14 : Ref sig .tc := ⟨.hbm, 55, rfl⟩
abbrev main_v11 : Ref sig .tc := ⟨.hbm, 56, rfl⟩
abbrev main_v12 : Ref sig .tc := ⟨.hbm, 57, rfl⟩
abbrev main_v13 : Ref sig .tc := ⟨.hbm, 58, rfl⟩
abbrev main_v14 : Ref sig .tc := ⟨.hbm, 59, rfl⟩
abbrev main_v15 : Ref sig .tc := ⟨.hbm, 60, rfl⟩
abbrev main_v16 : Ref sig .tc := ⟨.hbm, 61, rfl⟩
abbrev main_v17 : Ref sig .tc := ⟨.hbm, 62, rfl⟩
abbrev main_cst : Ref sig .tc := ⟨.hbm, 63, rfl⟩
abbrev main_v18 : Ref sig .tc := ⟨.hbm, 64, rfl⟩
abbrev main_v19 : Ref sig .tc := ⟨.hbm, 65, rfl⟩
abbrev main_cst_1 : Ref sig .tc := ⟨.hbm, 66, rfl⟩
abbrev main_v20 : Ref sig .tc := ⟨.hbm, 67, rfl⟩
abbrev main_v21 : Ref sig .tc := ⟨.hbm, 68, rfl⟩
abbrev main_v22 : Ref sig .tc := ⟨.hbm, 69, rfl⟩
abbrev main_v23 : Ref sig .tc := ⟨.hbm, 70, rfl⟩
abbrev main_v24 : Ref sig .tc := ⟨.hbm, 71, rfl⟩
abbrev main_v25 : Ref sig .tc := ⟨.hbm, 72, rfl⟩
abbrev main_v26 : Ref sig .tc := ⟨.hbm, 73, rfl⟩
abbrev main_v27 : Ref sig .tc := ⟨.hbm, 74, rfl⟩
abbrev main_v28 : Ref sig .tc := ⟨.hbm, 75, rfl⟩
abbrev main_v29 : Ref sig .tc := ⟨.hbm, 76, rfl⟩
abbrev main_v30 : Ref sig .tc := ⟨.hbm, 77, rfl⟩
abbrev main_v31 : Ref sig .tc := ⟨.hbm, 78, rfl⟩
abbrev main_v32 : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_v36 : Ref sig .tc := ⟨.hbm, 83, rfl⟩
abbrev main_v37 : Ref sig .tc := ⟨.hbm, 84, rfl⟩
abbrev main_cst_2 : Ref sig .tc := ⟨.hbm, 85, rfl⟩
abbrev main_v38 : Ref sig .tc := ⟨.hbm, 86, rfl⟩
abbrev main_v39 : Ref sig .tc := ⟨.hbm, 87, rfl⟩
abbrev main_cst_3 : Ref sig .tc := ⟨.hbm, 88, rfl⟩
abbrev main_v40 : Ref sig .tc := ⟨.hbm, 89, rfl⟩
abbrev main_v41 : Ref sig .tc := ⟨.hbm, 90, rfl⟩
abbrev main_v42 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_v46 : Ref sig .tc := ⟨.hbm, 95, rfl⟩
abbrev main_v47 : Ref sig .tc := ⟨.hbm, 96, rfl⟩
abbrev main_v48 : Ref sig .tc := ⟨.hbm, 97, rfl⟩
abbrev main_v49 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_c_4 : Ref sig .tc := ⟨.hbm, 102, rfl⟩
abbrev main_call2_v0 : Ref sig .tc := ⟨.hbm, 103, rfl⟩
abbrev main_call2_v1 : Ref sig .tc := ⟨.hbm, 104, rfl⟩
abbrev main_call2_v2 : Ref sig .tc := ⟨.hbm, 105, rfl⟩
abbrev main_call2_v3 : Ref sig .tc := ⟨.hbm, 106, rfl⟩
abbrev main_call2_v4 : Ref sig .tc := ⟨.hbm, 107, rfl⟩
abbrev main_call2_v5 : Ref sig .tc := ⟨.hbm, 108, rfl⟩
abbrev main_call2_v6 : Ref sig .tc := ⟨.hbm, 109, rfl⟩
abbrev main_call2_v7 : Ref sig .tc := ⟨.hbm, 110, rfl⟩
abbrev main_call2_v8 : Ref sig .tc := ⟨.hbm, 111, rfl⟩
abbrev main_call2_c : Ref sig .tc := ⟨.hbm, 112, rfl⟩
abbrev main_call2_v9 : Ref sig .tc := ⟨.hbm, 113, rfl⟩
abbrev main_call2_v10 : Ref sig .tc := ⟨.hbm, 114, rfl⟩
abbrev main_call2_v11 : Ref sig .tc := ⟨.hbm, 115, rfl⟩
abbrev main_call2_c_0 : Ref sig .tc := ⟨.hbm, 116, rfl⟩
abbrev main_call2_v12 : Ref sig .tc := ⟨.hbm, 117, rfl⟩
abbrev main_call2_v13 : Ref sig .tc := ⟨.hbm, 118, rfl⟩
abbrev main_v53 : Ref sig .tc := ⟨.hbm, 119, rfl⟩
abbrev main_v54 : Ref sig .tc := ⟨.hbm, 120, rfl⟩
abbrev main_v55 : Ref sig .tc := ⟨.hbm, 121, rfl⟩
abbrev main_v56 : Ref sig .tc := ⟨.hbm, 122, rfl⟩
abbrev main_v57 : Ref sig .tc := ⟨.hbm, 123, rfl⟩
abbrev main_v58 : Ref sig .tc := ⟨.hbm, 124, rfl⟩
abbrev main_v59 : Ref sig .tc := ⟨.hbm, 125, rfl⟩
abbrev main_v60 : Ref sig .tc := ⟨.hbm, 126, rfl⟩
abbrev main_v61 : Ref sig .tc := ⟨.hbm, 127, rfl⟩
abbrev main_c_5 : Ref sig .tc := ⟨.hbm, 128, rfl⟩
abbrev main_call3_v0 : Ref sig .tc := ⟨.hbm, 129, rfl⟩
abbrev main_call3_v1 : Ref sig .tc := ⟨.hbm, 130, rfl⟩
abbrev main_call3_v2 : Ref sig .tc := ⟨.hbm, 131, rfl⟩
abbrev main_call3_v3 : Ref sig .tc := ⟨.hbm, 132, rfl⟩
abbrev main_call3_v4 : Ref sig .tc := ⟨.hbm, 133, rfl⟩
abbrev main_call3_v5 : Ref sig .tc := ⟨.hbm, 134, rfl⟩
abbrev main_call3_v6 : Ref sig .tc := ⟨.hbm, 135, rfl⟩
abbrev main_call3_v7 : Ref sig .tc := ⟨.hbm, 136, rfl⟩
abbrev main_call3_v8 : Ref sig .tc := ⟨.hbm, 137, rfl⟩
abbrev main_call3_c : Ref sig .tc := ⟨.hbm, 138, rfl⟩
abbrev main_call3_v9 : Ref sig .tc := ⟨.hbm, 139, rfl⟩
abbrev main_call3_v10 : Ref sig .tc := ⟨.hbm, 140, rfl⟩
abbrev main_call3_v11 : Ref sig .tc := ⟨.hbm, 141, rfl⟩
abbrev main_call3_c_0 : Ref sig .tc := ⟨.hbm, 142, rfl⟩
abbrev main_call3_v12 : Ref sig .tc := ⟨.hbm, 143, rfl⟩
abbrev main_call3_v13 : Ref sig .tc := ⟨.hbm, 144, rfl⟩
abbrev main_v62 : Ref sig .tc := ⟨.hbm, 145, rfl⟩
abbrev main_v63 : Ref sig .tc := ⟨.hbm, 146, rfl⟩
abbrev main_v64 : Ref sig .tc := ⟨.hbm, 147, rfl⟩
abbrev main_v65 : Ref sig .tc := ⟨.hbm, 148, rfl⟩
abbrev main_v66 : Ref sig .tc := ⟨.hbm, 149, rfl⟩
abbrev main_v67 : Ref sig .tc := ⟨.hbm, 150, rfl⟩
abbrev main_v68 : Ref sig .tc := ⟨.hbm, 151, rfl⟩
abbrev main_v69_0 : Ref sig .tc := ⟨.hbm, 152, rfl⟩
abbrev main_v69_1 : Ref sig .tc := ⟨.hbm, 153, rfl⟩
abbrev main_v69_2 : Ref sig .tc := ⟨.hbm, 154, rfl⟩
abbrev main_v69_3 : Ref sig .tc := ⟨.hbm, 155, rfl⟩
abbrev main_v69_4 : Ref sig .tc := ⟨.hbm, 156, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c1_i32 : BitVec 32 := 1#32
  let v0 : BitVec 32 := Scalar.minsi arg0 c1_i32
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 3 → Nat :=
  let arg0 : BitVec 32 := BitVec.ofNat 32 (i 0).val
  let c1_i32 : BitVec 32 := 1#32
  let v0 : BitVec 32 := Scalar.minsi arg0 c1_i32
  let c0_i32 : BitVec 32 := 0#32
  let c0_i32_0 : BitVec 32 := 0#32
  let c0_i32_1 : BitVec 32 := 0#32
  ![v0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x2560 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1024x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1280 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference11Ideal.lean ====
abbrev S8448x1024 : Shape := ⟨2, ![8448, 1024]⟩
abbrev S1024 : Shape := ⟨1, ![1024]⟩
abbrev S2x1024 : Shape := ⟨2, ![2, 1024]⟩
abbrev S1024x2560 : Shape := ⟨2, ![1024, 2560]⟩
abbrev S64 : Shape := ⟨1, ![64]⟩
abbrev S8192x1024 : Shape := ⟨2, ![8192, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S256x2560 : Shape := ⟨2, ![256, 2560]⟩
abbrev S8192x2560 : Shape := ⟨2, ![8192, 2560]⟩
abbrev S8448x2560 : Shape := ⟨2, ![8448, 2560]⟩
abbrev S8448x256 : Shape := ⟨2, ![8448, 256]⟩
abbrev S8448x1280 : Shape := ⟨2, ![8448, 1280]⟩

abbrev nBuf : Space → Nat
  | .hbm => 74
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S1024, .f32⟩
  | .hbm, ⟨2, _⟩ => ⟨S2x1024, .f32⟩
  | .hbm, ⟨3, _⟩ => ⟨S2x1024, .f32⟩
  | .hbm, ⟨4, _⟩ => ⟨S1024x2560, .f32⟩
  | .hbm, ⟨5, _⟩ => ⟨S64, .f32⟩
  | .hbm, ⟨6, _⟩ => ⟨S64, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S1x1024, .f32⟩
  | .hbm, ⟨25, _⟩ => ⟨S1024, .f32⟩
  | .hbm, ⟨26, _⟩ => ⟨S_, .f32⟩
  | .hbm, ⟨27, _⟩ => ⟨S1024, .f32⟩
  | .hbm, ⟨28, _⟩ => ⟨S1024, .f32⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S1x1024, .f32⟩
  | .hbm, ⟨33, _⟩ => ⟨S1024, .f32⟩
  | .hbm, ⟨34, _⟩ => ⟨S1x1024, .f32⟩
  | .hbm, ⟨35, _⟩ => ⟨S8192x1024, .f32⟩
  | .hbm, ⟨36, _⟩ => ⟨S8192x1024, .f32⟩
  | .hbm, ⟨37, _⟩ => ⟨S256x1024, .f32⟩
  | .hbm, ⟨38, _⟩ => ⟨S256x1024, .f32⟩
  | .hbm, ⟨39, _⟩ => ⟨S_, .f32⟩
  | .hbm, ⟨40, _⟩ => ⟨S256, .f32⟩
  | .hbm, ⟨41, _⟩ => ⟨S256x1, .f32⟩
  | .hbm, ⟨42, _⟩ => ⟨S_, .f32⟩
  | .hbm, ⟨43, _⟩ => ⟨S256x1, .f32⟩
  | .hbm, ⟨44, _⟩ => ⟨S256x1, .f32⟩
  | .hbm, ⟨45, _⟩ => ⟨S_, .f32⟩
  | .hbm, ⟨46, _⟩ => ⟨S256x1, .f32⟩
  | .hbm, ⟨47, _⟩ => ⟨S256x1, .f32⟩
  | .hbm, ⟨48, _⟩ => ⟨S256x1, .f32⟩
  | .hbm, ⟨49, _⟩ => ⟨S256x1024, .f32⟩
  | .hbm, ⟨50, _⟩ => ⟨S256x1024, .f32⟩
  | .hbm, ⟨51, _⟩ => ⟨S1x1024, .f32⟩
  | .hbm, ⟨52, _⟩ => ⟨S256x1024, .f32⟩
  | .hbm, ⟨53, _⟩ => ⟨S256x1024, .f32⟩
  | .hbm, ⟨54, _⟩ => ⟨S1x1024, .f32⟩
  | .hbm, ⟨55, _⟩ => ⟨S1024, .f32⟩
  | .hbm, ⟨56, _⟩ => ⟨S_, .f32⟩
  | .hbm, ⟨57, _⟩ => ⟨S1024, .f32⟩
  | .hbm, ⟨58, _⟩ => ⟨S1024, .f32⟩
  | .hbm, ⟨59, _⟩ => ⟨S1x1024, .f32⟩
  | .hbm, ⟨60, _⟩ => ⟨S256x1024, .f32⟩
  | .hbm, ⟨61, _⟩ => ⟨S256x1024, .f32⟩
  | .hbm, ⟨62, _⟩ => ⟨S1x1024, .f32⟩
  | .hbm, ⟨63, _⟩ => ⟨S1024, .f32⟩
  | .hbm, ⟨64, _⟩ => ⟨S1x1024, .f32⟩
  | .hbm, ⟨65, _⟩ => ⟨S256x1024, .f32⟩
  | .hbm, ⟨66, _⟩ => ⟨S256x1024, .f32⟩
  | .hbm, ⟨67, _⟩ => ⟨S256x2560, .f32⟩
  | .hbm, ⟨68, _⟩ => ⟨S8192x2560, .f32⟩
  | .hbm, ⟨69, _⟩ => ⟨S8448x2560, .f32⟩
  | .hbm, ⟨70, _⟩ => ⟨S8448x256, .f32⟩
  | .hbm, ⟨71, _⟩ => ⟨S8448x256, .bf16⟩
  | .hbm, ⟨72, _⟩ => ⟨S8448x1024, .f32⟩
  | .hbm, ⟨73, _⟩ => ⟨S8448x1280, .f32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_6 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩

abbrev nD : Nat := 1
abbrev τ : Topo := Topo.v7x

variable {F : FTy → Type} [FloatOps F]
-- ==== Proof.Reals.lean ====
module

public import Idealize.ShloMosaic.Lib.ReduceAll
public import Idealize.ShloMosaic.Lib.Pipeline.ValueKit

@[expose] public section

noncomputable section
open Idealize.ShloMosaic
namespace Cert.Reals

/-- Every entry of the array is a real number. -/
abbrev AllReal {ι : Type} (x : ι → EReal) : Prop := ∃ r : ι → ℝ, x = fun i => (r i : EReal)

/-- The word of plus infinity is the top of the extended reals. -/
theorem ofBits_inf : Ideal.ofBits .f32 0x7F800000#32 = ⊤ := by simp [Ideal.ofBits, Ideal.ieee]

/-- An extended real whose magnitude is below plus infinity is a real. -/
theorem real_of_abs_lt (x : EReal) (h : max x (-x) < ⊤) : x = ((x.toReal : ℝ) : EReal) := by
  induction x using EReal.rec with
  | bot => simp at h
  | top => simp at h
  | coe r => simp

/-- A conjunction over all entries of "the magnitude is below plus infinity" says that every entry is real. -/
theorem allReal_of_all {s t u w : Shape} {axes : List (Fin s.rank)} [Subsingleton t.Idx] (x : FVec Ideal s .f32)
    (d : Fin w.rank → Fin s.rank) (hb : w.BroadcastsInDim s d) (init : u.Idx → BitVec 1) (h : s.ReducesTo axes t) (hu : 0 < u.numel) (j : t.Idx)
    (e : Host.reduce IntOp.andi (cmpf .olt (Host.absf x) (broadcastInDim s d hb (constant (F := Ideal) w .f32 0x7F800000#32))) init h hu j = 1#1) :
    AllReal x := by
  refine ⟨fun i => (x i).toReal, funext fun i => real_of_abs_lt _ ?_⟩
  have := Host.reduce_andi_all _ _ _ _ j e i
  have h2 : Ideal.cmp .olt (max (x i) (-(x i))) (Ideal.ofBits .f32 0x7F800000#32) = 1#1 := this
  rw [ofBits_inf] at h2
  by_contra hc
  simp [Ideal.cmp, hc] at h2

/-- Two one-bit words whose conjunction is one are both one. -/
theorem and_one {a b : BitVec 1} (h : IntOp.andi a b = 1#1) : a = 1#1 ∧ b = 1#1 := by
  revert h; revert a b; decide

/-! ## The ideal operations at real numbers -/

/-- The exponential of a real. -/
theorem exp_coe (r : ℝ) : Ideal.exp (r : EReal) = ((Real.exp r : ℝ) : EReal) := rfl

/-- A quotient of reals by a nonzero real. -/
theorem div_coe (a b : ℝ) (hb : b ≠ 0) : Ideal.div (a : EReal) (b : EReal) = ((a / b : ℝ) : EReal) := by
  rw [Ideal.div, if_neg (by exact_mod_cast hb), ← EReal.coe_inv, ← EReal.coe_mul, div_eq_mul_inv]

/-- The logistic function of a real number. -/
def sig (r : ℝ) : ℝ := 1 / (1 + Real.exp (-r))

/-- The logistic function of a real is real. -/
theorem logistic_coe (r : ℝ) : Ideal.logistic (r : EReal) = ((sig r : ℝ) : EReal) := by
  have h : (1 : ℝ) + Real.exp (-r) ≠ 0 := by positivity
  have e : (1 : EReal) + Ideal.exp (-(r : EReal)) = ((1 + Real.exp (-r) : ℝ) : EReal) := by
    rw [← EReal.coe_neg, exp_coe]; norm_cast
  rw [Ideal.logistic, e, sig, ← div_coe _ _ h]; norm_cast

/-- A sum of reals is real. -/
theorem sum_coe {ι : Type} (s : Finset ι) (f : ι → ℝ) : (∑ i ∈ s, (f i : EReal)) = ((∑ i ∈ s, f i : ℝ) : EReal) := by
  classical
  induction s using Finset.induction_on with
  | empty => simp
  | insert a s h ih => rw [Finset.sum_insert h, Finset.sum_insert h, ih, EReal.coe_add]

end Cert.Reals
-- ==== Proof.ModValue.lean ====
module

public import proofs.«01_k».proof.Proof.Gen.Kernel2Ideal.Value
public import proofs.«01_k».proof.Proof.Gen.Reference2Ideal.Read
public import proofs.«01_k».proof.Proof.Reals

@[expose] public section

set_option maxRecDepth 16384

noncomputable section
open Idealize.ShloMosaic Idealize.ShloMosaic.TcCoe Idealize.SL.Sem
open Idealize.ShloMosaic.Pipeline (Dat)
namespace Cert.Kernel2Ideal.Value
open Cert.Kernel2Ideal Cert.Kernel2Ideal.Gen
variable (m : (ℓ : Loc nD τ sig) → Buf (Elt Ideal) ℓ)

/-- A sum over sixteen rows, split into eight rows, one row and seven rows. -/
theorem split16 (f : Fin 16 → EReal) : ∑ x, f x = ∑ x : Fin 8, f ⟨x.val, by omega⟩ + (f ⟨8, by omega⟩ + ∑ x : Fin 7, f ⟨x.val + 9, by omega⟩) := by
  rw [show (∑ x : Fin 16, f x) = ∑ x : Fin (8 + 8), f x from rfl, Fin.sum_univ_add, Fin.sum_univ_succ (n := 7)]
  congr 2

/-- Each window of the call stays at its first block. -/
theorem widx : ∀ t : Fin cfg0.N, win0_0.index t = ![0, 0] ∧ win0_1.index t = ![0, 0, 0] ∧ win0_2.index t = ![0,0,0,0] ∧ win0_3.index t = ![0,0,0] ∧ win0_4.index t = ![0,0,0] ∧ win0_5.index t = ![0,0] :=
  (by decide +kernel : ∀ t : Fin grid0.N, _)

/-- What the call leaves in the gradient of the weights: the body's value at the whole arguments. -/
theorem final4 (c : Dev nD) : (dats m 0 c).arrAt 4 (cfgs 0).N = out0_4 (V m c main_v2) (V m c main_v3) (V m c main_v4) (V m c main_arg2) := by
  refine (dats m 0 c).arrAt_eq_of_after_last 4 t0_0 (by decide +kernel) _ fun j => ?_
  blk_simp
  rw [after0_4]
  have h0 : iblk m c 0 t0_0 = V m c main_v2 := by blk_ext! [iblk, widx t0_0]
  have h1 : iblk m c 1 t0_0 = V m c main_v3 := by blk_ext! [iblk, widx t0_0]
  have h2 : iblk m c 2 t0_0 = V m c main_v4 := by blk_ext! [iblk, widx t0_0]
  have h3 : iblk m c 3 t0_0 = V m c main_arg2 := by blk_ext! [iblk, widx t0_0]
  rw [h0, h1, h2, h3]

/-- The call's first argument: the devices' conditioning rows, the context's row, and seven rows of zeros. -/
theorem V2 (c : Dev nD) : (V m c main_v2 : FVec Ideal S16x1024 .f32) = concatenate S16x1024 0 [⟨S8x1024, (m ((c : Thread nD τ).loc main_arg0) : FVec Ideal S8x1024 .f32)⟩, ⟨S1x1024, shapeCast S1x1024 (m ((c : Thread nD τ).loc main_arg1) : FVec Ideal S1024 .f32) shapeCasts_S1024_S1x1024⟩, ⟨S7x1024, broadcastInDim S7x1024 ![] bcast_S_S7x1024 (constant (F := Ideal) S_ .f32 0x00000000#32)⟩] concatenates_S8x1024_S1x1024_S7x1024_S16x1024_d0 := by
  show StableHlo.after hostOps0 _ _ = _
  simp only [hostOps0, StableHlo.after_cons, StableHlo.after_nil]
  rw [StableHlo.unary_result_ne (h := by decide), StableHlo.unary_result_ne (h := by decide), StableHlo.nary_result]
  rfl

/-- The call's second argument: the latent cotangents with the layer axis in front. -/
theorem V3 (c : Dev nD) : (V m c main_v3 : FVec Ideal S2x8x384 .f32) = transpose S2x8x384 [1, 0, 2] (m ((c : Thread nD τ).loc main_arg3) : FVec Ideal S8x2x384 .f32) transposes_S8x2x384_S2x8x384_1_0_2 := by
  entry_read
  rfl

/-- The call's third argument: the devices' context cotangents, with a unit axis. -/
theorem V4 (c : Dev nD) : (V m c main_v4 : FVec Ideal S8x2x1x384 .f32) = broadcastInDim S8x2x1x384 ![0, 1, 3] bcast_S8x2x384_S8x2x1x384_0_1_3 (m ((c : Thread nD τ).loc main_arg4) : FVec Ideal S8x2x384 .f32) := by
  entry_read
  rfl

/-- The stacked conditioning rows. -/
abbrev X0 (y0 : FVec Ideal S8x1024 .f32) (y1 : FVec Ideal S1024 .f32) : FVec Ideal S16x1024 .f32 :=
  concatenate S16x1024 0 [⟨S8x1024, y0⟩, ⟨S1x1024, shapeCast S1x1024 y1 shapeCasts_S1024_S1x1024⟩, ⟨S7x1024, broadcastInDim S7x1024 ![] bcast_S_S7x1024 (constant (F := Ideal) S_ .f32 0x00000000#32)⟩] concatenates_S8x1024_S1x1024_S7x1024_S16x1024_d0
/-- The latent cotangents, layer axis in front. -/
abbrev X1 (y3 : FVec Ideal S8x2x384 .f32) : FVec Ideal S2x8x384 .f32 := transpose S2x8x384 [1, 0, 2] y3 transposes_S8x2x384_S2x8x384_1_0_2
/-- The context cotangents with a unit axis. -/
abbrev X2 (y4 : FVec Ideal S8x2x384 .f32) : FVec Ideal S8x2x1x384 .f32 := broadcastInDim S8x2x1x384 ![0, 1, 3] bcast_S8x2x384_S8x2x1x384_0_1_3 y4

open Cert.Reference2Ideal.Read in
/-- The first layer's weight gradient at one entry. -/
theorem pt4_0 (x3 : Vec Ideal S2x1024x384 .f32) (y0 : FVec Ideal S8x1024 .f32) (y1 : FVec Ideal S1024 .f32) (y3 y4 : FVec Ideal S8x2x384 .f32) (i : Fin 1024) (j : Fin 384) :
    k0_pay8 (F := Ideal) (k0_pay16 (X0 y0 y1) (X1 y3) (X2 y4) x3) (k0_pay17 (X0 y0 y1) (X1 y3) (X2 y4) x3) (View.ld (X2 y4) r0_8) (View.ld (X1 y3) r0_9) (ix3 0 i j)
      = (val_main_v12 (F := Ideal) y0 y1 y3 y4 : FVec Ideal S2x1024x384 .f32) (ix3 0 i j) := by
  pointwise [k0_pay8, k0_pay16, k0_pay17, k0_pay7, k0_pay6, k0_pay4, k0_pay2, k0_pay3, X0, X1, X2, val_main_v12, val_main_v11, val_main_v8, val_main_v7, val_main_v10, val_main_v6, val_main_v5, val_main_v2_0, val_main_v2_2, val_main_v1, val_main_call1_v4, val_main_call1_v3, val_main_cst, val_main_call1_cst_0, val_main_call1_v2, val_main_call1_v1, val_main_v0, val_main_call0_v0, val_main_call0_v1, val_main_call0_v2, val_main_call0_v3, val_main_call0_v4, val_main_call0_v5,val_main_call1_cst, val_main_call1_v0, val_main_call0_cst,val_main_call0_cst_0]
  rw [split16]
  simp only [dif_pos, Fin.is_lt, Nat.sub_self, Nat.lt_irrefl, dif_neg, not_false_eq_true, Nat.lt_one_iff, Nat.reduceSubDiff,
    show ∀ x : ℕ, ¬ (x + 9 < 8) from fun x => by omega, show ∀ x : ℕ, ¬ (x + 1 = 0) from fun x => by omega, mul_zero, Finset.sum_const_zero, add_zero,
    Finset.univ_unique, Finset.sum_singleton, zero_mul]
  rw [add_comm]
  refine congrArg₂ (· + ·) ?_ (Finset.sum_congr rfl fun x _ => mul_comm _ _)
  rw [mul_comm]
  simp only [Fin.sum_univ_succ (n := 7), Fin.sum_univ_seven, add_assoc]
  rfl

open Cert.Reference2Ideal.Read in
/-- The second layer's weight gradient at one entry. -/
theorem pt4_1 (x3 : Vec Ideal S2x1024x384 .f32) (y0 : FVec Ideal S8x1024 .f32) (y1 : FVec Ideal S1024 .f32) (y3 y4 : FVec Ideal S8x2x384 .f32) (i : Fin 1024) (j : Fin 384) :
    k0_pay12 (F := Ideal) (k0_pay16 (X0 y0 y1) (X1 y3) (X2 y4) x3) (k0_pay18 (X0 y0 y1) (X1 y3) (X2 y4) x3) (View.ld (X2 y4) r0_15) (View.ld (X2 y4) r0_16) (View.ld (X2 y4) r0_17) (View.ld (X2 y4) r0_18) (View.ld (X1 y3) r0_19) (ix3 0 i j)
      = (val_main_v12 (F := Ideal) y0 y1 y3 y4 : FVec Ideal S2x1024x384 .f32) (ix3 1 i j) := by
  pointwise [k0_pay12, k0_pay16, k0_pay18, k0_pay11, k0_pay10, k0_pay4, k0_pay2, k0_pay3, X0, X1, X2, val_main_v12, val_main_v11, val_main_v8, val_main_v7, val_main_v10, val_main_v6, val_main_v5, val_main_v2_0, val_main_v2_2, val_main_v1, val_main_call1_v4, val_main_call1_v3, val_main_cst, val_main_call1_cst_0, val_main_call1_v2, val_main_call1_v1, val_main_v0, val_main_call0_v0, val_main_call0_v1, val_main_call0_v2, val_main_call0_v3, val_main_call0_v4, val_main_call0_v5,val_main_call1_cst, val_main_call1_v0, val_main_call0_cst,val_main_call0_cst_0]
  rw [split16]
  simp only [dif_pos, Fin.is_lt, Nat.sub_self, Nat.lt_irrefl, dif_neg, not_false_eq_true, Nat.lt_one_iff, Nat.reduceSubDiff,
    show ∀ x : ℕ, ¬ (x + 9 < 8) from fun x => by omega, show ∀ x : ℕ, ¬ (x + 1 = 0) from fun x => by omega, mul_zero, Finset.sum_const_zero, add_zero,
    Finset.univ_unique, Finset.sum_singleton, zero_mul]
  rw [add_comm]
  refine congrArg₂ (· + ·) ?_ (Finset.sum_congr rfl fun x _ => mul_comm _ _)
  rw [mul_comm]
  simp only [Fin.sum_univ_succ (n := 7), Fin.sum_univ_seven, add_assoc]
  rfl

open Cert.Reference2Ideal.Read in
/-- The kernel's weight gradient is the reference's. -/
theorem out4_eq (x3 : Vec Ideal S2x1024x384 .f32) (y0 : FVec Ideal S8x1024 .f32) (y1 : FVec Ideal S1024 .f32) (y3 y4 : FVec Ideal S8x2x384 .f32) :
    out0_4 (F := Ideal) (X0 y0 y1) (X1 y3) (X2 y4) x3 = (val_main_v12 (F := Ideal) y0 y1 y3 y4 : FVec Ideal S2x1024x384 .f32) := by
  funext y
  unfold out0_4
  canon_tiles x h
  · have hy : y = (ix3 1 (x 1) (x 2) : S2x1024x384.Idx) := by
      funext a; apply Fin.ext; match a with
      | ⟨0, _⟩ => show (y 0).val = 1; omega
      | ⟨1, _⟩ => exact h1
      | ⟨2, _⟩ => exact h2
    have hx : x = (ix3 0 (x 1) (x 2) : S1x1024x384.Idx) := by
      funext a; apply Fin.ext; match a with
      | ⟨0, _⟩ => show (x 0).val = 0; omega
      | ⟨1, _⟩ => rfl
      | ⟨2, _⟩ => rfl
    rw [hy, hx]
    exact pt4_1 x3 y0 y1 y3 y4 (x 1) (x 2)
  · have hy : y = (ix3 0 (x 1) (x 2) : S2x1024x384.Idx) := by
      funext a; apply Fin.ext; match a with
      | ⟨0, _⟩ => show (y 0).val = 0; omega
      | ⟨1, _⟩ => exact h1
      | ⟨2, _⟩ => exact h2
    have hx : x = (ix3 0 (x 1) (x 2) : S1x1024x384.Idx) := by
      funext a; apply Fin.ext; match a with
      | ⟨0, _⟩ => show (x 0).val = 0; omega
      | ⟨1, _⟩ => rfl
      | ⟨2, _⟩ => rfl
    rw [hy, hx]
    exact pt4_0 x3 y0 y1 y3 y4 (x 1) (x 2)

/-- The derivative of the gate, in the kernel's form and in the reference's form, on real numbers. -/
theorem silu_grad (S c : ℝ) : (S : EReal) * (Ideal.logistic c * (1 + c * (1 - Ideal.logistic c)))
    = S * Ideal.logistic c + (c * S) * (Ideal.logistic c * (1 - Ideal.logistic c)) := by
  rw [Cert.Reals.logistic_coe, ← EReal.coe_one]
  norm_cast
  ring

open Cert.Reference2Ideal.Read in
/-- The kernel's gradient of the context's row at one entry. -/
theorem pt5 (x3 : Vec Ideal S2x1024x384 .f32) (y0 : FVec Ideal S8x1024 .f32) (y1 : FVec Ideal S1024 .f32) (y3 y4 : FVec Ideal S8x2x384 .f32)
    (f1 : Cert.Reals.AllReal y1) (f3 : Cert.Reals.AllReal x3) (f4 : Cert.Reals.AllReal y4) (i : Fin 1024) :
    k0_pay1 (F := Ideal) (k0_pay15 (X0 y0 y1) (X1 y3) (X2 y4) x3) (k0_pay13 (k0_pay9 (k0_pay5 (F := Ideal)) (k0_pay17 (X0 y0 y1) (X1 y3) (X2 y4) x3) (View.ld (X2 y4) r0_8) (View.ld (X1 y3) r0_9) (View.ld x3 r0_10)) (k0_pay18 (X0 y0 y1) (X1 y3) (X2 y4) x3) (View.ld (X2 y4) r0_15) (View.ld (X2 y4) r0_16) (View.ld (X2 y4) r0_17) (View.ld (X2 y4) r0_18) (View.ld (X1 y3) r0_19) (View.ld x3 r0_20)) (k0_pay14 (k0_pay2 (View.ld (X0 y0 y1) r0_0)) (k0_pay15 (X0 y0 y1) (X1 y3) (X2 y4) x3)) (ix2 0 i)
      = (val_main_v15 (F := Ideal) y1 x3 y4 : FVec Ideal S1x1024 .f32) (ix2 0 i) := by
  pointwise [k0_pay1, k0_pay13, k0_pay14, k0_pay9, k0_pay5, k0_pay15, k0_pay17, k0_pay18, k0_pay16, k0_pay7, k0_pay6, k0_pay11, k0_pay10, k0_pay4, k0_pay2, k0_pay3, X0, X1, X2, val_main_v12, val_main_v11, val_main_v8, val_main_v7, val_main_v10, val_main_v6, val_main_v5, val_main_v2_0, val_main_v2_2, val_main_v1, val_main_call1_v4, val_main_call1_v3, val_main_cst, val_main_call1_cst_0, val_main_call1_v2, val_main_call1_v1, val_main_v0, val_main_call0_v0, val_main_call0_v1, val_main_call0_v2, val_main_call0_v3, val_main_call0_v4, val_main_call0_v5,val_main_call1_cst, val_main_call1_v0, val_main_call0_cst,val_main_call0_cst_0, val_main_v15, val_main_v14, val_main_v13, val_main_call2_v0, val_main_call2_v1, val_main_call2_v2, val_main_v9, val_main_v2_1, val_main_call1_v6, val_main_call1_v7, val_main_call1_cst_1, val_main_cst_0]
  obtain ⟨r1, rfl⟩ := f1
  obtain ⟨r3, rfl⟩ := f3
  obtain ⟨r4, rfl⟩ := f4
  simp only [Finset.univ_unique, Finset.sum_singleton]
  have hs : ∀ c : ℝ, Ideal.div 1 (1 + Ideal.exp (-(c : EReal))) = Ideal.logistic (c : EReal) := fun _ => rfl
  simp only [hs, Cert.Reals.sum_coe, ← EReal.coe_mul, Fin.sum_univ_two, ← EReal.coe_add]
  rw [EReal.coe_mul (r1 _), ← silu_grad]
  refine congrArg₂ (· * ·) (congrArg _ ?_) rfl
  simp only [Fin.sum_univ_eight]

/-- What the call leaves in the gradient of the context's conditioning row. -/
theorem final5 (c : Dev nD) : (dats m 0 c).arrAt 5 (cfgs 0).N = out0_5 (V m c main_v2) (V m c main_v3) (V m c main_v4) (V m c main_arg2) := by
  refine (dats m 0 c).arrAt_eq_of_after_last 5 t0_0 (by decide +kernel) _ fun j => ?_
  blk_simp
  rw [after0_5]
  have h0 : iblk m c 0 t0_0 = V m c main_v2 := by blk_ext! [iblk, widx t0_0]
  have h1 : iblk m c 1 t0_0 = V m c main_v3 := by blk_ext! [iblk, widx t0_0]
  have h2 : iblk m c 2 t0_0 = V m c main_v4 := by blk_ext! [iblk, widx t0_0]
  have h3 : iblk m c 3 t0_0 = V m c main_arg2 := by blk_ext! [iblk, widx t0_0]
  rw [h0, h1, h2, h3]

open Cert.Reference2Ideal.Read in
/-- The kernel's gradient of the context's row is the reference's, on real arguments. -/
theorem out5_eq (x3 : Vec Ideal S2x1024x384 .f32) (y0 : FVec Ideal S8x1024 .f32) (y1 : FVec Ideal S1024 .f32) (y3 y4 : FVec Ideal S8x2x384 .f32)
    (f1 : Cert.Reals.AllReal y1) (f3 : Cert.Reals.AllReal x3) (f4 : Cert.Reals.AllReal y4) :
    out0_5 (F := Ideal) (X0 y0 y1) (X1 y3) (X2 y4) x3 = (val_main_v15 (F := Ideal) y1 x3 y4 : FVec Ideal S1x1024 .f32) := by
  funext y
  unfold out0_5
  canon_tiles x h
  have hy : y = (ix2 0 (x 1) : S1x1024.Idx) := by
    funext a; apply Fin.ext; match a with
    | ⟨0, _⟩ => show (y 0).val = 0; omega
    | ⟨1, _⟩ => show (y 1).val = (x 1).val; omega
  have hx : x = (ix2 0 (x 1) : S1x1024.Idx) := by
    funext a; apply Fin.ext; match a with
    | ⟨0, _⟩ => show (x 0).val = 0; omega
    | ⟨1, _⟩ => rfl
  rw [hy, hx]
  exact pt5 x3 y0 y1 y3 y4 f1 f3 f4 (x 1)

end Cert.Kernel2Ideal.Value
-- ==== Proof.ModClaim.lean ====
module

public import proofs.«01_k».proof.Defs
public import proofs.«01_k».proof.Proof.ModValue
public import proofs.«01_k».proof.Proof.Gen.Kernel2.Frame
public import proofs.«01_k».proof.Proof.Gen.Reference2Ideal.Run
public import proofs.«01_k».proof.Proof.Gen.Pre_finite2
public import Idealize.ShloMosaic.Lib.Claim

@[expose] public section

set_option maxRecDepth 16384

noncomputable section

open Idealize.ShloMosaic Idealize.SL.Sem
namespace Cert.ModClaim

/-- The precondition says that the context's conditioning vector, the weights and the context's cotangents are real. -/
theorem real_of_pre (x0 : FVec Ideal Cert.Pre_finite2.S8x1024 .f32) (x1 : FVec Ideal Cert.Pre_finite2.S1024 .f32) (x2 : FVec Ideal Cert.Pre_finite2.S2x1024x384 .f32)
    (x3 x4 : FVec Ideal Cert.Pre_finite2.S8x2x384 .f32) (j : Cert.Pre_finite2.S_.Idx) (h : Cert.Pre_finite2.fn (F := Ideal) x0 x1 x2 x3 x4 j = 1#1) :
    Cert.Reals.AllReal x1 ∧ Cert.Reals.AllReal x2 ∧ Cert.Reals.AllReal x4 := by
  have s : Subsingleton Cert.Pre_finite2.S_.Idx := ⟨fun a b => funext fun q => q.elim0⟩
  obtain ⟨h12, h4⟩ := Cert.Reals.and_one h
  obtain ⟨h1, h2⟩ := Cert.Reals.and_one h12
  exact ⟨Cert.Reals.allReal_of_all _ _ _ _ _ _ _ h1, Cert.Reals.allReal_of_all _ _ _ _ _ _ _ h2, Cert.Reals.allReal_of_all _ _ _ _ _ _ _ h4⟩

/-- The modulation call's two results are the reference's. -/
theorem algebraic : Cert.algebraic_Kernel2Ideal_Reference2Ideal_pre_finite2 := by
  pair_intro
  · run_from Cert.Kernel2Ideal.Value.run_blocks m g
  · refine (θ_run _ _ _).mono (fun r h c => ⟨((h c).1.trans (Cert.Reference2Ideal.Read.val_main_v12_eq (F := Ideal) _ _ _ _)).trans ?_, ((h c).2.1.trans (Cert.Reference2Ideal.Read.val_main_v15_eq (F := Ideal) _ _ _)).trans ?_, (h c).2.2⟩) (Cert.Reference2Ideal.Value.run m' g')
    · clear h
      obtain ⟨a0, a1, a2, a3, a4⟩ := hagree c
      refine Eq.trans ?_ (Cert.Kernel2Ideal.Value.final4 m c).symm
      rw [Cert.Kernel2Ideal.Value.V2, Cert.Kernel2Ideal.Value.V3, Cert.Kernel2Ideal.Value.V4, a0, a1, a3, a4]
      exact (Cert.Kernel2Ideal.Value.out4_eq _ _ _ _ _).symm
    · clear h
      obtain ⟨a0, a1, a2, a3, a4⟩ := hagree c
      obtain ⟨f1, f2, f4⟩ := real_of_pre _ _ _ _ _ (fun a => a.elim0) (congrFun (hpre c) _)
      refine Eq.trans ?_ (Cert.Kernel2Ideal.Value.final5 m c).symm
      rw [Cert.Kernel2Ideal.Value.V2, Cert.Kernel2Ideal.Value.V3, Cert.Kernel2Ideal.Value.V4, Cert.Kernel2Ideal.Gen.V_main_arg2, a1, a2, a4]
      exact (Cert.Kernel2Ideal.Value.out5_eq _ _ _ _ _ f1 f2 f4).symm

/-- The frames of the modulation pair. -/
theorem frames : Cert.quiescent_Kernel2 ∧ Cert.quiescent_Kernel2Ideal ∧ Cert.quiescent_Kernel2Ideal_pre_finite2
    ∧ Cert.quiescent_Reference2Ideal ∧ Cert.quiescent_Reference2Ideal_pre_finite2 := by
  refine ⟨fun m ρ _ => Cert.Kernel2.Gen.frame m ρ, fun m ρ _ => Cert.Kernel2Ideal.Gen.frame m ρ, fun m ρ _ => Cert.Kernel2Ideal.Gen.frame m ρ, fun m ρ _ => ?_, fun m ρ _ => ?_⟩
  · refine (θ_run _ _ _).mono (fun r h => ⟨fun c => (h c).2.2, sem_eq_zero_of_no_sems rfl _⟩) (Cert.Reference2Ideal.Value.run m ρ)
  · refine (θ_run _ _ _).mono (fun r h => ⟨fun c => (h c).2.2, sem_eq_zero_of_no_sems rfl _⟩) (Cert.Reference2Ideal.Value.run m ρ)

end Cert.ModClaim
-- ==== Proof.FlashRun.lean ====
module

public import proofs.«01_k».proof.Proof.Gen.KernelIdeal.Frame
public import Idealize.ShloMosaic.Lib.Claim
@[expose] public section

/-!
The attention program's run with its results: every buffer of the program ends at the contents the
two regions and the host operations between them leave, so the four results do.
-/

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
namespace Cert.KernelIdeal.Flash
open Cert.KernelIdeal Cert.KernelIdeal.Gen

variable {F : FTy → Type} [FloatOps F]
local notation "𝕄" => MT nD τ sig Unit (Elt F) ℕ (UR sig nD τ) ℕ
variable (m : (ℓ : Loc nD τ sig) → Buf (Elt F) ℓ) (ρ : Dev nD → PrngReg)

set_option backward.isDefEq.respectTransparency.types false in
/-- The run, with the results' contents. -/
theorem run : θ_run (defs (F := F)) (onTc (τ := τ) (main (F := F))) ⟨m, fun _ => 0, ρ⟩ (fun r => ∀ c : Dev nD,
      r.2.mem ((c.tc : Thread nD τ).loc main_v16_0) = W5 m ρ c (Proc.devRef .tc main_v16_0)
      ∧ r.2.mem ((c.tc : Thread nD τ).loc main_v27) = W5 m ρ c (Proc.devRef .tc main_v27)
      ∧ r.2.mem ((c.tc : Thread nD τ).loc main_v30) = W5 m ρ c (Proc.devRef .tc main_v30)
      ∧ r.2.mem ((c.tc : Thread nD τ).loc main_v33) = W5 m ρ c (Proc.devRef .tc main_v33)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => (fun c =>
      ⟨h c _ (mem_uc main_v16_0 (by decide)),
       h c _ (mem_uc main_v27 (by decide)),
       h c _ (mem_uc main_v30 (by decide)),
       h c _ (mem_uc main_v33 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c)⟩))

end Cert.KernelIdeal.Flash
-- ==== Proof.FlashPay.lean ====
module

public import proofs.«01_k».proof.Proof.Gen.KernelIdeal.Frame
public import proofs.«01_k».proof.Proof.Reals
public import Idealize.ShloMosaic.Lib.Pipeline.ValueKit
public import Idealize.ShloMosaic.Lib.Pointwise
public import Idealize.ShloMosaic.Lib.Claim
@[expose] public section

/-!
What the two attention bodies compute, one entry at a time: each stored or carried value read at an
index, as sums, maxima and exponentials of the entries read before it.
-/

set_option maxRecDepth 16384

noncomputable section

open Idealize.ShloMosaic Idealize.SL.Sem
namespace Cert.KernelIdeal.Flash
open Cert.KernelIdeal.Gen

/-- A column block of 64 lanes of a `[512, 256]` block, one per query head of the group. -/
def cols (x : Vec Ideal S512x256 .bf16) (j : Fin 4) : Vec Ideal S512x64 .bf16 :=
  fun i => x (ix2 (i 0) ⟨64 * j.val + (i 1).val, by have := j.isLt; have : (i 1).val < 64 := (i 1).isLt; omega⟩)

/-- The four heads of a `[512, 256]` block stacked: row `r` is head `r / 512` of query `r % 512`. -/
def stk (x : Vec Ideal S512x256 .bf16) (r : Fin 2048) (d : Fin 64) : EReal :=
  x (ix2 ⟨r.val % 512, by omega⟩ ⟨64 * (r.val / 512) + d.val, by omega⟩)

/-- The stacked heads as the body's ladder of pieces reads them. -/
theorem ladder_cols (x : Vec Ideal S512x256 .bf16) (r : Fin 2048) (d : Fin 64) :
    (if h : r.val < 512 then cols x 0 (ix2 ⟨r.val, h⟩ d)
      else if h1 : r.val - 512 < 512 then cols x 1 (ix2 ⟨r.val - 512, h1⟩ d)
      else if h2 : r.val - 512 - 512 < 512 then cols x 2 (ix2 ⟨r.val - 512 - 512, h2⟩ d)
      else cols x 3 (ix2 ⟨r.val - 512 - 512 - 512, by omega⟩ d)) = stk x r d := by
  unfold cols stk
  split_ifs
  all_goals
    dsimp only
    congr 1
    refine congrArg₂ ix2 (Fin.ext ?_) (Fin.ext ?_)
    all_goals
      simp [ix2]
      try omega

theorem fwd_score_at (x : Vec Ideal S512x256 .bf16) (k : Vec Ideal S1x1x1408x64 .bf16) (n : Fin 1408) (r : Fin 2048) :
    k0_pay3 (F := Ideal) (cols x 0) (cols x 1) (cols x 2) (cols x 3) k (ix2 n r) = ∑ d : Fin 64, k (ix4 0 0 n d) * stk x r d := by
  simp only [← ladder_cols]
  pointwise [k0_pay3]

/-- A column's maximum, over any two literal-free sizes. -/
theorem colmax_at {n0 n1 : ℕ} (w : FVec Ideal ⟨2, ![n0, n1]⟩ .f32) (h : (⟨2, ![n0, n1]⟩ : Shape).Reduces [0] ⟨1, ![n1]⟩)
    (hφ) (hacc) (r : Fin n1) :
    multiReduction .maximumf [0] ⟨1, ![n1]⟩ w 0xFF800000#32 h hφ hacc (ix1 r)
      = Finset.fold max (Ideal.ofBits FTy.f32 0xFF800000#32) (fun n : Fin n0 => w (ix2 n r)) Finset.univ := by
  rw [multiReduction_maximumf_eq_fold, Shape.Reduces.fold_fiber_r2_a0]
  rfl

/-- The running maximum of a row after a tile: the maximum so far against the tile's scores. -/
theorem fwd_max_at (v0 v2 v4 v6 : Vec Ideal S512x64 .bf16) (a : FVec Ideal S1x2048 .f32) (v33 : Vec Ideal S1x1x1408x64 .bf16) (r : Fin 2048) :
    k0_pay4 (F := Ideal) v0 v2 v4 v6 a v33 (ix2 0 r)
      = max (a (ix2 0 r)) (Finset.fold max (Ideal.ofBits FTy.f32 0xFF800000#32) (fun n : Fin 1408 => k0_pay3 (F := Ideal) v0 v2 v4 v6 v33 (ix2 n r)) Finset.univ) := by
  rw [← colmax_at (k0_pay3 (F := Ideal) v0 v2 v4 v6 v33) reduces_S1408x2048_S2048 (.inl rfl) rfl r]
  unfold k0_pay4
  generalize multiReduction .maximumf [0] S2048 (k0_pay3 (F := Ideal) v0 v2 v4 v6 v33) 0xFF800000#32 reduces_S1408x2048_S2048 (.inl rfl) rfl = u
  pointwise []

theorem fwd_acc_at (v0 v2 v4 v6 : Vec Ideal S512x64 .bf16) (a : FVec Ideal S1x2048 .f32) (b : FVec Ideal S80x2048 .f32) (v33 : Vec Ideal S1x1x1408x64 .bf16) (v47 : Vec Ideal S1x1x80x1408 .bf16) (d : Fin 80) (r : Fin 2048) :
    k0_pay5 (F := Ideal) v0 v2 v4 v6 a b v33 v47 (ix2 d r)
      = Ideal.exp (a (ix2 0 r) - k0_pay4 (F := Ideal) v0 v2 v4 v6 a v33 (ix2 0 r)) * b (ix2 d r)
        + ∑ n : Fin 1408, v47 (ix4 0 0 d n) * Ideal.exp (k0_pay3 (F := Ideal) v0 v2 v4 v6 v33 (ix2 n r) - k0_pay4 (F := Ideal) v0 v2 v4 v6 a v33 (ix2 0 r)) := by
  unfold k0_pay5
  generalize k0_pay3 (F := Ideal) v0 v2 v4 v6 v33 = w
  generalize k0_pay4 (F := Ideal) v0 v2 v4 v6 a v33 = u
  pointwise []

theorem fwd_out_at (b : FVec Ideal S80x2048 .f32) (q : Fin 512) (l : Fin 256) :
    k0_pay7 (F := Ideal) b (ix2 q l)
      = Ideal.div (b (ix2 ⟨l.val % 64, by omega⟩ ⟨512 * (l.val / 64) + q.val, by omega⟩)) (b (ix2 64 ⟨512 * (l.val / 64) + q.val, by omega⟩)) := by
  pointwise [k0_pay7, k0_pay6]
  split_ifs with h h1 h2
  all_goals
    refine congrArg₂ Ideal.div ?_ ?_
    all_goals
      refine congrArg b (congrArg₂ ix2 (Fin.ext ?_) (Fin.ext ?_))
      all_goals
        simp only [Fin.val_mk]
        try omega

theorem fwd_lse_at (a b) (q : Fin 2048) :
    k0_pay8 (F := Ideal) a b (ix4 0 0 0 q) = a (ix2 0 q) + Ideal.log (b (ix2 64 q)) := by
  pointwise [k0_pay8, k0_pay6]

/-! ## The backward body -/

theorem bwd_stackq_at (x : Vec Ideal S512x256 .bf16) (r : Fin 2048) (d : Fin 64) :
    k1_pay9 (F := Ideal) (cols x 0) (cols x 1) (cols x 2) (cols x 3) (ix2 r d) = stk x r d := by
  rw [← ladder_cols]
  pointwise [k1_pay9]

theorem bwd_stackdo_at (x : Vec Ideal S512x256 .bf16) (r : Fin 2048) (d : Fin 64) :
    k1_pay10 (F := Ideal) (cols x 0) (cols x 1) (cols x 2) (cols x 3) (ix2 r d) = stk x r d := by
  rw [← ladder_cols]
  pointwise [k1_pay10]

theorem bwd_p_at (q : FVec Ideal S2048x64 .bf16) (l : FVec Ideal S1x2048 .f32) (k : Vec Ideal S1x1x768x64 .bf16) (n : Fin 768) (r : Fin 2048) :
    k1_pay3 (F := Ideal) q l k (ix2 n r) = Ideal.exp ((∑ d : Fin 64, k (ix4 0 0 n d) * q (ix2 r d)) - l (ix2 0 r)) := by
  pointwise [k1_pay3]

theorem bwd_dv_at (q g : FVec Ideal S2048x64 .bf16) (l : FVec Ideal S1x2048 .f32) (k : Vec Ideal S1x1x768x64 .bf16) (o : Vec Ideal S1x1x768x64 .f32) (n : Fin 768) (d : Fin 64) :
    k1_pay4 (F := Ideal) q g l k o (ix4 0 0 n d) = o (ix4 0 0 n d) + ∑ r : Fin 2048, k1_pay3 (F := Ideal) q l k (ix2 n r) * g (ix2 r d) := by
  unfold k1_pay4
  generalize k1_pay3 (F := Ideal) q l k = p
  pointwise []

theorem bwd_ds_at (q g : FVec Ideal S2048x64 .bf16) (l e : FVec Ideal S1x2048 .f32) (k v : Vec Ideal S1x1x768x64 .bf16) (n : Fin 768) (r : Fin 2048) :
    k1_pay5 (F := Ideal) q g l e k v (ix2 n r)
      = k1_pay3 (F := Ideal) q l k (ix2 n r) * ((∑ d : Fin 64, v (ix4 0 0 n d) * g (ix2 r d)) - e (ix2 0 r)) := by
  unfold k1_pay5
  generalize k1_pay3 (F := Ideal) q l k = p
  pointwise []

theorem bwd_dk_at (q g : FVec Ideal S2048x64 .bf16) (l e : FVec Ideal S1x2048 .f32) (k v : Vec Ideal S1x1x768x64 .bf16) (o : Vec Ideal S1x1x768x64 .f32) (n : Fin 768) (d : Fin 64) :
    k1_pay6 (F := Ideal) q g l e k v o (ix4 0 0 n d) = o (ix4 0 0 n d) + ∑ r : Fin 2048, k1_pay5 (F := Ideal) q g l e k v (ix2 n r) * q (ix2 r d) := by
  unfold k1_pay6
  generalize k1_pay5 (F := Ideal) q g l e k v = p
  pointwise []

theorem bwd_dq_at (a : FVec Ideal S64x2048 .f32) (s : FVec Ideal S768x2048 .f32) (kt : Vec Ideal S1x1x64x768 .bf16) (d : Fin 64) (r : Fin 2048) :
    k1_pay1 (F := Ideal) a s kt (ix2 d r) = a (ix2 d r) + ∑ n : Fin 768, kt (ix4 0 0 d n) * s (ix2 n r) := by
  pointwise [k1_pay1]

theorem bwd_out_at (b : FVec Ideal S64x2048 .f32) (q : Fin 512) (l : Fin 256) :
    k1_pay2 (F := Ideal) b (ix2 q l) = b (ix2 ⟨l.val % 64, by omega⟩ ⟨512 * (l.val / 64) + q.val, by omega⟩) := by
  pointwise [k1_pay2]
  split_ifs with h h1 h2
  all_goals
    refine congrArg b (congrArg₂ ix2 (Fin.ext ?_) (Fin.ext ?_))
    all_goals
      simp only [Fin.val_mk]
      try omega

theorem bwd_row_lse_at (x : Vec Ideal S1x1x1x2048 .f32) (r : Fin 2048) : k1_pay11 (F := Ideal) x (ix2 0 r) = x (ix4 0 0 0 r) := by
  pointwise [k1_pay11]

theorem bwd_row_delta_at (x : Vec Ideal S1x1x1x2048 .f32) (r : Fin 2048) : k1_pay12 (F := Ideal) x (ix2 0 r) = x (ix4 0 0 0 r) := by
  pointwise [k1_pay12]

end Cert.KernelIdeal.Flash
-- ==== Proof.FlashFwd.lean ====
module

public import proofs.«01_k».proof.Proof.FlashPay
@[expose] public section

/-!
The forward attention body, whole: the loop over the six key tiles as a plain recursion, and what the
two stores leave in the output blocks.
-/

set_option maxRecDepth 16384

noncomputable section

open Idealize.ShloMosaic Idealize.SL.Sem
namespace Cert.KernelIdeal.Flash
open Cert.KernelIdeal.Gen

/-- Key tile `k` of a group's keys. -/
def ktile (x : Vec Ideal S1x6x1408x64 .bf16) (k : ℕ) : Vec Ideal S1x1x1408x64 .bf16 :=
  fun i => x (ix4 0 ⟨k % 6, Nat.mod_lt _ (by decide)⟩ (i 2) (i 3))
/-- Key tile `k` of a group's values, transposed, with its rows of ones. -/
def vtile (x : Vec Ideal S1x6x80x1408 .bf16) (k : ℕ) : Vec Ideal S1x1x80x1408 .bf16 :=
  fun i => x (ix4 0 ⟨k % 6, Nat.mod_lt _ (by decide)⟩ (i 2) (i 3))

/-- The carried pair (row maxima, accumulated rows) after `k` key tiles. -/
def fst0 (x0 : Vec Ideal S512x256 .bf16) (x1 : Vec Ideal S1x6x1408x64 .bf16) (x2 : Vec Ideal S1x6x80x1408 .bf16) :
    ℕ → FVec Ideal S1x2048 .f32 × FVec Ideal S80x2048 .f32
  | 0 => (k0_pay1, k0_pay2)
  | k + 1 =>
    (k0_pay4 (cols x0 0) (cols x0 1) (cols x0 2) (cols x0 3) (fst0 x0 x1 x2 k).1 (ktile x1 k),
     k0_pay5 (cols x0 0) (cols x0 1) (cols x0 2) (cols x0 3) (fst0 x0 x1 x2 k).1 (fst0 x0 x1 x2 k).2 (ktile x1 k) (vtile x2 k))

theorem ld_cols (x : Vec Ideal S512x256 .bf16) (j : Fin 4) (off : Fin 2 → ℕ) (hoff : off = ![0, 64 * j.val]) (h) :
    View.ld x (Rect.unit (s := S512x256) off ![512, 64] h) = cols x j := by
  subst hoff
  funext i
  refine View.ld_unit_apply_of x _ _ h i _ fun a => ?_
  fin_cases a
  · exact (Nat.zero_add _).symm
  · rfl

theorem ld_ktile (x : Vec Ideal S1x6x1408x64 .bf16) (k : ℕ) (hk : k < 6) (off : Fin 4 → ℕ) (hoff : off = ![0, k, 0, 0]) (h) :
    View.ld x (Rect.unit (s := S1x6x1408x64) off S1x1x1408x64.size h) = ktile x k := by
  subst hoff
  funext i
  refine View.ld_unit_apply_of x _ _ h i _ fun a => ?_
  fin_cases a
  · exact ((Nat.zero_add _).trans (Nat.lt_one_iff.mp (i 0).isLt)).symm
  · have h1 : (i 1).val < 1 := (i 1).isLt
    show k % 6 = k + (i 1).val
    omega
  · exact (Nat.zero_add _).symm
  · exact (Nat.zero_add _).symm

theorem ld_vtile (x : Vec Ideal S1x6x80x1408 .bf16) (k : ℕ) (hk : k < 6) (off : Fin 4 → ℕ) (hoff : off = ![0, k, 0, 0]) (h) :
    View.ld x (Rect.unit (s := S1x6x80x1408) off S1x1x80x1408.size h) = vtile x k := by
  subst hoff
  funext i
  refine View.ld_unit_apply_of x _ _ h i _ fun a => ?_
  fin_cases a
  · exact ((Nat.zero_add _).trans (Nat.lt_one_iff.mp (i 0).isLt)).symm
  · have h1 : (i 1).val < 1 := (i 1).isLt
    show k % 6 = k + (i 1).val
    omega
  · exact (Nat.zero_add _).symm
  · exact (Nat.zero_add _).symm

theorem trips0 : k0_t1_loop.trips = 6 := by decide +kernel

/-- The loop's state is the recursion. -/
theorem state0 (𝒱 : Variants) (bd : Option 𝒱.V) (c : Dev nD) (i : grid0.Coords) (arg2 : Memref sig .tc .vmem S512x256 .bf16) (harg2 : arg2.IsWhole) (arg3 : Memref sig .tc .vmem S1x6x1408x64 .bf16) (harg3 : arg3.IsWhole) (arg4 : Memref sig .tc .vmem S1x6x80x1408 .bf16) (harg4 : arg4.IsWhole) (arg5 : Memref sig .tc .vmem S512x256 .f32) (harg5 : arg5.IsWhole) (arg6 : Memref sig .tc .vmem S1x1x1x2048 .f32) (harg6 : arg6.IsWhole)
    (x0 : Vec Ideal S512x256 .bf16) (x1 : Vec Ideal S1x6x1408x64 .bf16) (x2 : Vec Ideal S1x6x80x1408 .bf16) (k : ℕ) (hk : k ≤ 6) :
    st_k0_t1 (F := Ideal) 𝒱 c bd i arg2 harg2 arg3 harg3 arg4 harg4 arg5 harg5 arg6 harg6 (cols x0 0) (cols x0 1) (cols x0 2) (cols x0 3)
      (harg3.unread x1) (harg4.unread x2) (k0_pay1, k0_pay2) k = fst0 x0 x1 x2 k := by
  induction k with
  | zero => rw [st_k0_t1_zero]; rfl
  | succ k ih =>
    have hk' : k < k0_t1_loop.trips := by rw [trips0]; omega
    have hs := st_k0_t1_succ (F := Ideal) 𝒱 c bd i arg2 harg2 arg3 harg3 arg4 harg4 arg5 harg5 arg6 harg6 (cols x0 0) (cols x0 1) (cols x0 2) (cols x0 3)
      (harg3.unread x1) (harg4.unread x2) (k0_pay1, k0_pay2) ⟨k, hk'⟩
    refine hs.trans ?_
    rw [ih (by omega)]
    unfold tripR_k0_t1 trip_k0_t1
    dsimp only
    rw [View.readAt_eq_ld, View.readAt_eq_ld, harg3.read_unread, harg4.read_unread, ld_ktile x1 k (by omega) _ (k0_off1_eq ⟨k, hk'⟩), ld_vtile x2 k (by omega) _ (k0_off2_eq ⟨k, hk'⟩)]
    rfl

theorem out0_o (c : Dev nD) (i : grid0.Coords) (arg2 : Memref sig .tc .vmem S512x256 .bf16) (harg2 : arg2.IsWhole) (arg3 : Memref sig .tc .vmem S1x6x1408x64 .bf16) (harg3 : arg3.IsWhole) (arg4 : Memref sig .tc .vmem S1x6x80x1408 .bf16) (harg4 : arg4.IsWhole) (arg5 : Memref sig .tc .vmem S512x256 .f32) (harg5 : arg5.IsWhole) (arg6 : Memref sig .tc .vmem S1x1x1x2048 .f32) (harg6 : arg6.IsWhole)
    (x0 : Vec Ideal S512x256 .bf16) (x1 : Vec Ideal S1x6x1408x64 .bf16) (x2 : Vec Ideal S1x6x80x1408 .bf16) :
    out0_A_3 (F := Ideal) c i arg2 harg2 arg3 harg3 arg4 harg4 arg5 harg5 arg6 harg6 x0 x1 x2 = k0_pay7 (fst0 x0 x1 x2 6).2 := by
  unfold out0_A_3 kernelRun0_A
  dsimp only
  rw [View.read_writes_junk_eq_canon, View.canon_unit_zero (View.eq_zero_of_forall (by decide))]
  rw [View.readAt_eq_ld, View.readAt_eq_ld, View.readAt_eq_ld, View.readAt_eq_ld, harg2.read_unread,
    ld_cols x0 0 ![0, 0] rfl, ld_cols x0 1 ![0, 64] rfl, ld_cols x0 2 ![0, 128] rfl, ld_cols x0 3 ![0, 192] rfl]
  refine congrArg (fun s => k0_pay7 (F := Ideal) (Prod.snd s)) ?_
  exact state0 _ _ c i arg2 harg2 arg3 harg3 arg4 harg4 arg5 harg5 arg6 harg6 x0 x1 x2 _ (by decide)

theorem out0_lse (c : Dev nD) (i : grid0.Coords) (arg2 : Memref sig .tc .vmem S512x256 .bf16) (harg2 : arg2.IsWhole) (arg3 : Memref sig .tc .vmem S1x6x1408x64 .bf16) (harg3 : arg3.IsWhole) (arg4 : Memref sig .tc .vmem S1x6x80x1408 .bf16) (harg4 : arg4.IsWhole) (arg5 : Memref sig .tc .vmem S512x256 .f32) (harg5 : arg5.IsWhole) (arg6 : Memref sig .tc .vmem S1x1x1x2048 .f32) (harg6 : arg6.IsWhole)
    (x0 : Vec Ideal S512x256 .bf16) (x1 : Vec Ideal S1x6x1408x64 .bf16) (x2 : Vec Ideal S1x6x80x1408 .bf16) :
    out0_A_4 (F := Ideal) c i arg2 harg2 arg3 harg3 arg4 harg4 arg5 harg5 arg6 harg6 x0 x1 x2 = k0_pay8 (fst0 x0 x1 x2 6).1 (fst0 x0 x1 x2 6).2 := by
  unfold out0_A_4 kernelRun0_A
  dsimp only
  rw [View.read_writes_junk_eq_canon, View.canon_unit_zero (View.eq_zero_of_forall (by decide))]
  rw [View.readAt_eq_ld, View.readAt_eq_ld, View.readAt_eq_ld, View.readAt_eq_ld, harg2.read_unread,
    ld_cols x0 0 ![0, 0] rfl, ld_cols x0 1 ![0, 64] rfl, ld_cols x0 2 ![0, 128] rfl, ld_cols x0 3 ![0, 192] rfl]
  refine congrArg (fun s => k0_pay8 (F := Ideal) (Prod.fst s) (Prod.snd s)) ?_
  exact state0 _ _ c i arg2 harg2 arg3 harg3 arg4 harg4 arg5 harg5 arg6 harg6 x0 x1 x2 _ (by decide)

end Cert.KernelIdeal.Flash
-- ==== Proof.FlashFwdReal.lean ====
module

public import proofs.«01_k».proof.Proof.FlashFwd
@[expose] public section

/-!
The forward attention body over real blocks: after every key tile the carried pair is a running
maximum and sums of exponentials against it, so the two results are a softmax average and the
logarithm of the sum of exponentials, whatever the maximum was.
-/

set_option maxRecDepth 16384

noncomputable section

open Idealize.ShloMosaic Idealize.SL.Sem
namespace Cert.KernelIdeal.Flash
open Cert.KernelIdeal.Gen Cert.Reals

/-- The word of minus infinity is the bottom of the extended reals. -/
theorem ofBits_ninf : Ideal.ofBits .f32 0xFF800000#32 = ⊥ := by simp [Ideal.ofBits, Ideal.ieee]

theorem log_coe (r : ℝ) (hr : 0 < r) : Ideal.log (r : EReal) = ((Real.log r : ℝ) : EReal) :=
  if_neg (not_le.mpr hr)

theorem exp_bot : Ideal.exp (⊥ : EReal) = 0 := rfl

theorem max_coe (a b : ℝ) : max (a : EReal) (b : EReal) = ((max a b : ℝ) : EReal) :=
  (EReal.coe_strictMono.monotone.map_max).symm

/-- The maximum of a nonempty family of reals, folded from minus infinity, is a real. -/
theorem fold_max_real {n : ℕ} (f : Fin (n + 1) → ℝ) : ∃ B : ℝ, Finset.fold max (⊥ : EReal) (fun i => (f i : EReal)) Finset.univ = (B : EReal) := by
  have key : ∀ s : Finset (Fin (n + 1)), s.Nonempty → ∃ B : ℝ, Finset.fold max (⊥ : EReal) (fun i => (f i : EReal)) s = (B : EReal) := by
    intro s hs
    induction hs using Finset.Nonempty.cons_induction with
    | singleton a => exact ⟨f a, by simp⟩
    | cons a s ha hs ih =>
      obtain ⟨B, hB⟩ := ih
      exact ⟨max (f a) B, by rw [Finset.fold_cons, hB, max_coe]⟩
  exact key _ Finset.univ_nonempty

/-- The stacked queries over a real block. -/
def rq (xq : Fin 512 → Fin 256 → ℝ) (r : Fin 2048) (d : Fin 64) : ℝ :=
  xq ⟨r.val % 512, by omega⟩ ⟨64 * (r.val / 512) + d.val, by omega⟩

theorem stk_real (x0 : Vec Ideal S512x256 .bf16) (xq : Fin 512 → Fin 256 → ℝ) (h0 : ∀ a b, x0 (ix2 a b) = ((xq a b : ℝ) : EReal)) (r : Fin 2048) (d : Fin 64) :
    stk x0 r d = ((rq xq r d : ℝ) : EReal) := h0 _ _

/-- A score of key tile `j`, over real blocks. -/
def rs (xq : Fin 512 → Fin 256 → ℝ) (xk : ℕ → Fin 1408 → Fin 64 → ℝ) (j : ℕ) (n : Fin 1408) (r : Fin 2048) : ℝ :=
  ∑ d : Fin 64, xk j n d * rq xq r d

section
variable (x0 : Vec Ideal S512x256 .bf16) (x1 : Vec Ideal S1x6x1408x64 .bf16) (x2 : Vec Ideal S1x6x80x1408 .bf16)
  (xq : Fin 512 → Fin 256 → ℝ) (xk : ℕ → Fin 1408 → Fin 64 → ℝ) (xv : ℕ → Fin 80 → Fin 1408 → ℝ)
  (h0 : ∀ a b, x0 (ix2 a b) = ((xq a b : ℝ) : EReal))
  (h1 : ∀ (j : Fin 6) n d, x1 (ix4 0 j n d) = ((xk j.val n d : ℝ) : EReal))
  (h2 : ∀ (j : Fin 6) d n, x2 (ix4 0 j d n) = ((xv j.val d n : ℝ) : EReal))
include h0 h1

theorem score_real (k : ℕ) (hk : k < 6) (n : Fin 1408) (r : Fin 2048) :
    k0_pay3 (F := Ideal) (cols x0 0) (cols x0 1) (cols x0 2) (cols x0 3) (ktile x1 k) (ix2 n r) = ((rs xq xk k n r : ℝ) : EReal) := by
  rw [fwd_score_at]
  unfold rs
  rw [← sum_coe]
  refine Finset.sum_congr rfl fun d _ => ?_
  rw [stk_real x0 xq h0, EReal.coe_mul]
  refine congrArg (· * _) ((h1 _ _ _).trans ?_)
  show ((xk (k % 6) n d : ℝ) : EReal) = _
  rw [Nat.mod_eq_of_lt hk]

include h2

/-- The carried pair after `k` key tiles. -/
theorem fst0_real (k : ℕ) (hk : k ≤ 6) (r : Fin 2048) :
    ∃ M : ℝ, ((fst0 x0 x1 x2 k).1 (ix2 0 r) = (M : EReal) ∨ (k = 0 ∧ (fst0 x0 x1 x2 k).1 (ix2 0 r) = ⊥))
      ∧ ∀ d : Fin 80, (fst0 x0 x1 x2 k).2 (ix2 d r)
          = ((∑ j ∈ Finset.range k, ∑ n : Fin 1408, xv j d n * Real.exp (rs xq xk j n r - M) : ℝ) : EReal) := by
  induction k with
  | zero =>
    refine ⟨0, Or.inr ⟨rfl, ?_⟩, fun d => ?_⟩
    · show k0_pay1 (F := Ideal) (ix2 0 r) = ⊥
      rw [← ofBits_ninf]; rfl
    · show k0_pay2 (F := Ideal) (ix2 d r) = _
      simp only [Finset.range_zero, Finset.sum_empty, EReal.coe_zero]
      pointwise [k0_pay2]
  | succ k ih =>
    obtain ⟨M, hM, hacc⟩ := ih (by omega)
    have hk' : k < 6 := hk
    obtain ⟨B, hB⟩ := fold_max_real (fun n : Fin 1408 => rs xq xk k n r)
    have hmax : k0_pay4 (F := Ideal) (cols x0 0) (cols x0 1) (cols x0 2) (cols x0 3) (fst0 x0 x1 x2 k).1 (ktile x1 k) (ix2 0 r)
        = max ((fst0 x0 x1 x2 k).1 (ix2 0 r)) (B : EReal) := by
      rw [fwd_max_at, ofBits_ninf, ← hB]
      simp only [score_real x0 x1 xq xk h0 h1 k hk']
    have hnew : ∃ M' : ℝ, k0_pay4 (F := Ideal) (cols x0 0) (cols x0 1) (cols x0 2) (cols x0 3) (fst0 x0 x1 x2 k).1 (ktile x1 k) (ix2 0 r) = (M' : EReal)
        ∧ ∀ d : Fin 80, Ideal.exp ((fst0 x0 x1 x2 k).1 (ix2 0 r) - (M' : EReal)) * (fst0 x0 x1 x2 k).2 (ix2 d r)
          = ((∑ j ∈ Finset.range k, ∑ n : Fin 1408, xv j d n * Real.exp (rs xq xk j n r - M') : ℝ) : EReal) := by
      rcases hM with hM | ⟨rfl, hM⟩
      · refine ⟨max M B, by rw [hmax, hM, max_coe], fun d => ?_⟩
        rw [hM, hacc, ← EReal.coe_sub, exp_coe, ← EReal.coe_mul]
        congr 1
        rw [Finset.mul_sum]
        refine Finset.sum_congr rfl fun j _ => ?_
        rw [Finset.mul_sum]
        refine Finset.sum_congr rfl fun n _ => ?_
        rw [mul_left_comm, ← Real.exp_add]
        congr 2
        ring
      · refine ⟨B, by rw [hmax, hM]; simp, fun d => ?_⟩
        rw [hM, hacc, EReal.bot_sub, exp_bot]
        simp
    obtain ⟨M', hM', hα⟩ := hnew
    refine ⟨M', Or.inl hM', fun d => ?_⟩
    show k0_pay5 (F := Ideal) (cols x0 0) (cols x0 1) (cols x0 2) (cols x0 3) (fst0 x0 x1 x2 k).1 (fst0 x0 x1 x2 k).2 (ktile x1 k) (vtile x2 k) (ix2 d r) = _
    rw [fwd_acc_at, hM', hα d, Finset.sum_range_succ, EReal.coe_add]
    congr 1
    rw [← sum_coe]
    refine Finset.sum_congr rfl fun n _ => ?_
    rw [score_real x0 x1 xq xk h0 h1 k hk', ← EReal.coe_sub, exp_coe, EReal.coe_mul]
    refine congrArg (· * _) ((h2 _ _ _).trans ?_)
    show ((xv (k % 6) d n : ℝ) : EReal) = _
    rw [Nat.mod_eq_of_lt hk']

/-- The sum of exponentials times row `d` of the values, over all keys. -/
def rz (xq : Fin 512 → Fin 256 → ℝ) (xk : ℕ → Fin 1408 → Fin 64 → ℝ) (xv : ℕ → Fin 80 → Fin 1408 → ℝ) (d : Fin 80) (r : Fin 2048) : ℝ :=
  ∑ j ∈ Finset.range 6, ∑ n : Fin 1408, xv j d n * Real.exp (rs xq xk j n r)

omit h0 h1 h2 in
theorem rz_shift (d : Fin 80) (r : Fin 2048) (M : ℝ) :
    (∑ j ∈ Finset.range 6, ∑ n : Fin 1408, xv j d n * Real.exp (rs xq xk j n r - M)) = rz xq xk xv d r * Real.exp (-M) := by
  unfold rz
  rw [Finset.sum_mul]
  refine Finset.sum_congr rfl fun j _ => ?_
  rw [Finset.sum_mul]
  refine Finset.sum_congr rfl fun n _ => ?_
  rw [mul_assoc, ← Real.exp_add, sub_eq_add_neg]

variable (hone : ∀ (j : Fin 6) n, xv j.val 64 n = 1)
include hone

omit h0 h1 h2 in
theorem rz_pos (r : Fin 2048) : 0 < rz xq xk xv 64 r := by
  unfold rz
  refine Finset.sum_pos (fun j hj => Finset.sum_pos (fun n _ => ?_) Finset.univ_nonempty) ⟨0, by simp⟩
  rw [hone ⟨j, Finset.mem_range.mp hj⟩ n, one_mul]
  exact Real.exp_pos _

theorem fwd_o_real (q : Fin 512) (l : Fin 256) :
    k0_pay7 (F := Ideal) (fst0 x0 x1 x2 6).2 (ix2 q l)
      = ((rz xq xk xv ⟨l.val % 64, by omega⟩ ⟨512 * (l.val / 64) + q.val, by omega⟩ / rz xq xk xv 64 ⟨512 * (l.val / 64) + q.val, by omega⟩ : ℝ) : EReal) := by
  obtain ⟨M, _, hacc⟩ := fst0_real x0 x1 x2 xq xk xv h0 h1 h2 6 le_rfl ⟨512 * (l.val / 64) + q.val, by omega⟩
  have hp := rz_pos xq xk xv hone ⟨512 * (l.val / 64) + q.val, by omega⟩
  rw [fwd_out_at, hacc, hacc, rz_shift, rz_shift, div_coe _ _ (by positivity), mul_div_mul_right _ _ (Real.exp_pos _).ne']

theorem fwd_lse_real (r : Fin 2048) :
    k0_pay8 (F := Ideal) (fst0 x0 x1 x2 6).1 (fst0 x0 x1 x2 6).2 (ix4 0 0 0 r) = ((Real.log (rz xq xk xv 64 r) : ℝ) : EReal) := by
  obtain ⟨M, hM, hacc⟩ := fst0_real x0 x1 x2 xq xk xv h0 h1 h2 6 le_rfl r
  have hp := rz_pos xq xk xv hone r
  rcases hM with hM | ⟨h, _⟩
  · rw [fwd_lse_at, hacc, hM, rz_shift, log_coe _ (by positivity), ← EReal.coe_add, Real.log_mul hp.ne' (Real.exp_pos _).ne', Real.log_exp]
    exact congrArg (fun a : ℝ => (a : EReal)) (by ring)
  · exact absurd h (by decide)
end

end Cert.KernelIdeal.Flash
-- ==== Proof.FlashSpec.lean ====
module

public import proofs.«01_k».proof.Proof.Reals
@[expose] public section

/-!
Grouped-query attention and its gradients over the real numbers, for sixteen query heads and four
key heads of sixty-four columns: the softmax average and the gradients of queries, keys and values
written with the softmax's own probabilities. Arrays are functions of natural indices. The last
section re-indexes sums taken tile by tile into sums over all rows.
-/

noncomputable section

namespace Cert.FlashSpec

variable (Q K V G : ℕ → ℕ → ℝ)

/-- The scaled score of query `a` and key `n` in head `c`. -/
def sc (c a n : ℕ) : ℝ := ∑ d : Fin 64, K n (64 * (c / 4) + d.val) * (Q a (64 * c + d.val) * 0.125)
/-- The sum of exponentials of a query's scores. -/
def Z (c a : ℕ) : ℝ := ∑ n : Fin 8448, Real.exp (sc Q K c a n.val)
/-- The probability of a key. -/
def P (c a n : ℕ) : ℝ := Real.exp (sc Q K c a n) / Z Q K c a
/-- The attention's result in head `c`, column `d`. -/
def O (c a d : ℕ) : ℝ := (∑ n : Fin 8448, V n.val (64 * (c / 4) + d) * Real.exp (sc Q K c a n.val)) / Z Q K c a
/-- The gradient of a probability. -/
def dP (c a n : ℕ) : ℝ := ∑ d : Fin 64, V n (64 * (c / 4) + d.val) * G a (64 * c + d.val)
/-- The row sum of the cotangent against the result. -/
def delta (c a : ℕ) : ℝ := ∑ d : Fin 64, G a (64 * c + d.val) * O Q K V c a d.val
/-- The gradient of a score. -/
def dS (c a n : ℕ) : ℝ := P Q K c a n * (dP V G c a n - delta Q K V G c a)
/-- The gradient of the scaled queries. -/
def DQ (c a d : ℕ) : ℝ := ∑ n : Fin 8448, K n.val (64 * (c / 4) + d) * dS Q K V G c a n.val
/-- The gradient of the keys of head `g`. -/
def DK (g n d : ℕ) : ℝ := ∑ h : Fin 4, ∑ a : Fin 8192, dS Q K V G (4 * g + h.val) a.val n * (Q a.val (64 * (4 * g + h.val) + d) * 0.125)
/-- The gradient of the values of head `g`. -/
def DV (g n d : ℕ) : ℝ := ∑ h : Fin 4, ∑ a : Fin 8192, P Q K (4 * g + h.val) a.val n * G a.val (64 * (4 * g + h.val) + d)

theorem Z_pos (c a : ℕ) : 0 < Z Q K c a := Finset.sum_pos (fun _ _ => Real.exp_pos _) Finset.univ_nonempty

theorem exp_sub_log (c a n : ℕ) : Real.exp (sc Q K c a n - Real.log (Z Q K c a)) = P Q K c a n := by
  rw [Real.exp_sub, Real.exp_log (Z_pos Q K c a)]; rfl

/-! ## Sums tile by tile -/

/-- A sum over tiles of a sum over a tile's rows is the sum over all rows. -/
theorem sum_tiles (m n : ℕ) (f : ℕ → ℝ) : ∑ i : Fin m, ∑ j : Fin n, f (n * i.val + j.val) = ∑ k : Fin (m * n), f k.val := by
  rw [← Finset.sum_product', Finset.univ_product_univ, ← finProdFinEquiv.sum_comp (fun k : Fin (m * n) => f k.val)]
  refine Finset.sum_congr rfl fun x _ => ?_
  simp [finProdFinEquiv, add_comm]

/-- The forward tiling of the keys. -/
theorem sum_fwd (f : ℕ → ℝ) : ∑ j ∈ Finset.range 6, ∑ n : Fin 1408, f (1408 * j + n.val) = ∑ k : Fin 8448, f k.val := by
  rw [Finset.sum_range]; exact sum_tiles 6 1408 f

/-- The backward tiling of the keys. -/
theorem sum_bwd (f : ℕ → ℝ) : ∑ j ∈ Finset.range 11, ∑ n : Fin 768, f (768 * j + n.val) = ∑ k : Fin 8448, f k.val := by
  rw [Finset.sum_range]; exact sum_tiles 11 768 f

/-- The stacked rows of every query tile are every query of each of the four heads. -/
theorem sum_rows (f : ℕ → ℕ → ℝ) :
    ∑ t : Fin 16, ∑ r : Fin 2048, f (r.val / 512) (512 * t.val + r.val % 512) = ∑ h : Fin 4, ∑ a : Fin 8192, f h.val a.val := by
  have h1 : ∀ t : Fin 16, ∑ r : Fin 2048, f (r.val / 512) (512 * t.val + r.val % 512) = ∑ h : Fin 4, ∑ i : Fin 512, f h.val (512 * t.val + i.val) := by
    intro t
    rw [← sum_tiles 4 512 (fun r => f (r / 512) (512 * t.val + r % 512))]
    refine Finset.sum_congr rfl fun h _ => Finset.sum_congr rfl fun i _ => ?_
    have := i.isLt
    rw [show (512 * h.val + i.val) / 512 = h.val by omega, show (512 * h.val + i.val) % 512 = i.val by omega]
  rw [Finset.sum_congr rfl fun t _ => h1 t, Finset.sum_comm]
  exact Finset.sum_congr rfl fun h _ => sum_tiles 16 512 (f h.val)

end Cert.FlashSpec
-- ==== Proof.FlashArr.lean ====
module

public import proofs.«01_k».proof.Proof.FlashFwdReal
public import proofs.«01_k».proof.Proof.FlashSpec
@[expose] public section

/-!
The forward region's two results as whole arrays: the attention's result and the logarithms of its
sums of exponentials.
-/

set_option maxRecDepth 16384

noncomputable section

open Idealize.ShloMosaic Idealize.ShloMosaic.TcCoe Idealize.SL.Sem
open Idealize.ShloMosaic.Pipeline (Dat)
namespace Cert.KernelIdeal.Flash
open Cert.KernelIdeal Cert.KernelIdeal.Gen Cert.Reals Cert.FlashSpec

/-- The blocks of the forward region's windows: group `t / 16`, query tile `t % 16`. -/
theorem widx0 : ∀ t : Fin cfg0.N, win0_0.index t = ![t.val % 16, t.val / 16] ∧ win0_1.index t = ![t.val / 16, 0, 0, 0] ∧ win0_2.index t = ![t.val / 16, 0, 0, 0]
    ∧ win0_3.index t = ![t.val % 16, t.val / 16] ∧ win0_4.index t = ![t.val / 16, t.val % 16, 0, 0] :=
  (by decide +kernel : ∀ t : Fin grid0.N, _)

section
variable (V : (c : Dev nD) → (b : Ref sig .tc) → Buf (Elt Ideal) ((c : Thread nD τ).loc b)) (c : Dev nD) (t : Fin cfg0.N)

theorem iblk0_0_at (a : Fin 512) (b : Fin 256) :
    iblk0 V c 0 t (ix2 a b) = (V c main_v2 : FVec Ideal S8192x1024 .bf16) (ix2 ⟨512 * (t.val % 16) + a.val, by omega⟩ ⟨256 * (t.val / 16) + b.val, by have : t.val < 64 := t.isLt; omega⟩) := by
  blk_ext! [iblk0, widx0 t]

theorem iblk0_1_at (j : Fin 6) (n : Fin 1408) (d : Fin 64) :
    iblk0 V c 1 t (ix4 0 j n d) = (V c main_v15 : FVec Ideal S4x6x1408x64 .bf16) (ix4 ⟨t.val / 16, by have : t.val < 64 := t.isLt; omega⟩ j n d) := by
  blk_ext! [iblk0, widx0 t]

theorem iblk0_2_at (j : Fin 6) (d : Fin 80) (n : Fin 1408) :
    iblk0 V c 2 t (ix4 0 j d n) = (V c main_v14 : FVec Ideal S4x6x80x1408 .bf16) (ix4 ⟨t.val / 16, by have : t.val < 64 := t.isLt; omega⟩ j d n) := by
  blk_ext! [iblk0, widx0 t]
end

/-- The values of a group with their row of ones. -/
def vone (W : ℕ → ℕ → ℝ) (g j : ℕ) (d : Fin 80) (n : Fin 1408) : ℝ := if d.val < 64 then W (1408 * j + n.val) (64 * g + d.val) else 1

/-- Scores of a block are scores of the whole arrays. -/
theorem rs_sc (Q K : ℕ → ℕ → ℝ) (g i j : ℕ) (n : Fin 1408) (r : Fin 2048) :
    rs (fun a b => Q (512 * i + a.val) (256 * g + b.val) * 0.125) (fun j n d => K (1408 * j + n.val) (64 * g + d.val)) j n r
      = sc Q K (4 * g + r.val / 512) (512 * i + r.val % 512) (1408 * j + n.val) := by
  unfold rs rq sc
  have := r.isLt
  refine Finset.sum_congr rfl fun d _ => ?_
  rw [show (4 * g + r.val / 512) / 4 = g by omega, show 64 * (4 * g + r.val / 512) + d.val = 256 * g + (64 * (r.val / 512) + d.val) by omega]

theorem rz_one (Q K W : ℕ → ℕ → ℝ) (g i : ℕ) (d : Fin 80) (hd : ¬ d.val < 64) (r : Fin 2048) :
    rz (fun a b => Q (512 * i + a.val) (256 * g + b.val) * 0.125) (fun j n d => K (1408 * j + n.val) (64 * g + d.val)) (vone W g) d r
      = Z Q K (4 * g + r.val / 512) (512 * i + r.val % 512) := by
  unfold rz Z
  rw [← sum_fwd (fun n => Real.exp (sc Q K (4 * g + r.val / 512) (512 * i + r.val % 512) n))]
  refine Finset.sum_congr rfl fun j _ => Finset.sum_congr rfl fun n _ => ?_
  rw [rs_sc, vone, if_neg hd, one_mul]

theorem rz_val (Q K W : ℕ → ℕ → ℝ) (g i : ℕ) (d : Fin 80) (hd : d.val < 64) (r : Fin 2048) :
    rz (fun a b => Q (512 * i + a.val) (256 * g + b.val) * 0.125) (fun j n d => K (1408 * j + n.val) (64 * g + d.val)) (vone W g) d r
      = ∑ n : Fin 8448, W n.val (64 * g + d.val) * Real.exp (sc Q K (4 * g + r.val / 512) (512 * i + r.val % 512) n.val) := by
  unfold rz
  rw [← sum_fwd (fun n => W n (64 * g + d.val) * Real.exp (sc Q K (4 * g + r.val / 512) (512 * i + r.val % 512) n))]
  refine Finset.sum_congr rfl fun j _ => Finset.sum_congr rfl fun n _ => ?_
  rw [rs_sc, vone, if_pos hd]

section
variable (V : (c : Dev nD) → (b : Ref sig .tc) → Buf (Elt Ideal) ((c : Thread nD τ).loc b)) (c : Dev nD)
  (Q K W : ℕ → ℕ → ℝ)
  (hq : ∀ (a : Fin 8192) (b : Fin 1024), (V c main_v2 : FVec Ideal S8192x1024 .bf16) (ix2 a b) = ((Q a.val b.val * 0.125 : ℝ) : EReal))
  (hk : ∀ (g : Fin 4) (j : Fin 6) (n : Fin 1408) (d : Fin 64), (V c main_v15 : FVec Ideal S4x6x1408x64 .bf16) (ix4 g j n d) = ((K (1408 * j.val + n.val) (64 * g.val + d.val) : ℝ) : EReal))
  (hv : ∀ (g : Fin 4) (j : Fin 6) (d : Fin 80) (n : Fin 1408), (V c main_v14 : FVec Ideal S4x6x80x1408 .bf16) (ix4 g j d n) = ((vone W g.val j.val d n : ℝ) : EReal))
include hq hk hv

/-- The attention's result. -/
theorem arr_o : (dat0 V c).arrAt 3 cfg0.N = (fun i : S8192x1024.Idx => ((O Q K W ((i 1).val / 64) (i 0).val ((i 1).val % 64) : ℝ) : EReal) : FVec Ideal S8192x1024 .f32) := by
  refine (dat0 V c).arrAt_eq_of_covers 3 _ (by decide +kernel) fun t _ y => ?_
  blk_simp
  rw [after0_3, outsAt0]
  dsimp only
  rw [out0_o]
  have hy : y = (ix2 (y 0) (y 1) : S512x256.Idx) := by
    funext a; apply Fin.ext; match a with
    | ⟨0, _⟩ => rfl
    | ⟨1, _⟩ => rfl
  have e := fwd_o_real (iblk0 V c 0 t) (iblk0 V c 1 t) (iblk0 V c 2 t)
    (fun a b => Q (512 * (t.val % 16) + a.val) (256 * (t.val / 16) + b.val) * 0.125) (fun j n d => K (1408 * j + n.val) (64 * (t.val / 16) + d.val)) (vone W (t.val / 16))
    (fun a b => (iblk0_0_at V c t a b).trans (hq _ _)) (fun j n d => (iblk0_1_at V c t j n d).trans (hk _ _ _ _)) (fun j d n => (iblk0_2_at V c t j d n).trans (hv _ _ _ _))
    (fun j n => if_neg (by decide)) (y 0) (y 1)
  rw [hy]
  refine e.trans (congrArg (fun a : ℝ => (a : EReal)) ?_)
  rw [rz_val _ _ _ _ _ _ (by show (y 1).val % 64 < 64; omega), rz_one _ _ _ _ _ _ (by decide)]
  unfold O
  blk_simp [widx0 t]
  have b0 : (y 0).val < 512 := (y 0).isLt
  have b1 : (y 1).val < 256 := (y 1).isLt
  dsimp only
  rw [show 4 * (t.val / 16) + (512 * ((y 1).val / 64) + (y 0).val) / 512 = (t.val / 16 * 256 + (y 1).val) / 64 by omega,
    show 512 * (t.val % 16) + (512 * ((y 1).val / 64) + (y 0).val) % 512 = t.val % 16 * 512 + (y 0).val by omega,
    show (t.val / 16 * 256 + (y 1).val) / 64 / 4 = t.val / 16 by omega, show (t.val / 16 * 256 + (y 1).val) % 64 = (y 1).val % 64 by omega]

/-- The logarithms of the sums of exponentials. -/
theorem arr_lse : (dat0 V c).arrAt 4 cfg0.N = (fun i : S4x16x1x2048.Idx => ((Real.log (Z Q K (4 * (i 0).val + (i 3).val / 512) (512 * (i 1).val + (i 3).val % 512)) : ℝ) : EReal) : FVec Ideal S4x16x1x2048 .f32) := by
  refine (dat0 V c).arrAt_eq_of_covers 4 _ (by decide +kernel) fun t _ y => ?_
  blk_simp
  rw [after0_4, outsAt0]
  dsimp only
  rw [out0_lse]
  have b0 : (y 0).val < 1 := (y 0).isLt
  have b1 : (y 1).val < 1 := (y 1).isLt
  have b2 : (y 2).val < 1 := (y 2).isLt
  have hy : y = (ix4 0 0 0 (y 3) : S1x1x1x2048.Idx) := by
    funext a; apply Fin.ext; match a with
    | ⟨0, _⟩ => show (y 0).val = 0; omega
    | ⟨1, _⟩ => show (y 1).val = 0; omega
    | ⟨2, _⟩ => show (y 2).val = 0; omega
    | ⟨3, _⟩ => rfl
  have e := fwd_lse_real (iblk0 V c 0 t) (iblk0 V c 1 t) (iblk0 V c 2 t)
    (fun a b => Q (512 * (t.val % 16) + a.val) (256 * (t.val / 16) + b.val) * 0.125) (fun j n d => K (1408 * j + n.val) (64 * (t.val / 16) + d.val)) (vone W (t.val / 16))
    (fun a b => (iblk0_0_at V c t a b).trans (hq _ _)) (fun j n d => (iblk0_1_at V c t j n d).trans (hk _ _ _ _)) (fun j d n => (iblk0_2_at V c t j d n).trans (hv _ _ _ _))
    (fun j n => if_neg (by decide)) (y 3)
  refine ((congrArg _ hy).trans e).trans (congrArg (fun a : ℝ => (a : EReal)) ?_)
  refine congrArg Real.log ((rz_one Q K W _ _ _ (by decide) _).trans ?_)
  blk_simp [widx0 t]
  done
end

end Cert.KernelIdeal.Flash
-- ==== Proof.FlashBwd.lean ====
module

public import proofs.«01_k».proof.Proof.FlashFwd
public import Idealize.ShloMosaic.Lib.WritesUnit
@[expose] public section

/-!
The backward attention body, whole: the loop over the eleven key tiles as a plain recursion for the
carried query gradient, and tile by tile what it adds to the two key-side blocks.
-/

set_option maxRecDepth 16384

noncomputable section

open Idealize.ShloMosaic Idealize.SL.Sem
namespace Cert.KernelIdeal.Flash
open Cert.KernelIdeal.Gen

/-- Key tile `k` of a group's `[11, 768, 64]` block. -/
def tile {e : EltTy} (x : Vec Ideal S1x11x768x64 e) (k : ℕ) : Vec Ideal S1x1x768x64 e :=
  fun i => x (ix4 0 ⟨k % 11, Nat.mod_lt _ (by decide)⟩ (i 2) (i 3))
/-- Key tile `k` of the transposed keys. -/
def ttile (x : Vec Ideal S1x11x64x768 .bf16) (k : ℕ) : Vec Ideal S1x1x64x768 .bf16 :=
  fun i => x (ix4 0 ⟨k % 11, Nat.mod_lt _ (by decide)⟩ (i 2) (i 3))

/-- The carried query gradient after `k` key tiles. -/
def bq (q g : FVec Ideal S2048x64 .bf16) (l e : FVec Ideal S1x2048 .f32) (x1 : Vec Ideal S1x11x768x64 .bf16) (x2 : Vec Ideal S1x11x64x768 .bf16) (x3 : Vec Ideal S1x11x768x64 .bf16) : ℕ → FVec Ideal S64x2048 .f32
  | 0 => k1_pay13
  | k + 1 => k1_pay1 (bq q g l e x1 x2 x3 k) (k1_pay5 q g l e (tile x1 k) (tile x3 k)) (ttile x2 k)
/-- What a point leaves in the key gradient's block that held `X`. -/
def bdk (q g : FVec Ideal S2048x64 .bf16) (l e : FVec Ideal S1x2048 .f32) (x1 x3 : Vec Ideal S1x11x768x64 .bf16) (X : Vec Ideal S1x11x768x64 .f32) : Vec Ideal S1x11x768x64 .f32 :=
  fun y => k1_pay6 q g l e (tile x1 (y 1).val) (tile x3 (y 1).val) (tile X (y 1).val) (ix4 0 0 (y 2) (y 3))
/-- What a point leaves in the value gradient's block that held `X`. -/
def bdv (q g : FVec Ideal S2048x64 .bf16) (l : FVec Ideal S1x2048 .f32) (x1 : Vec Ideal S1x11x768x64 .bf16) (X : Vec Ideal S1x11x768x64 .f32) : Vec Ideal S1x11x768x64 .f32 :=
  fun y => k1_pay4 q g l (tile x1 (y 1).val) (tile X (y 1).val) (ix4 0 0 (y 2) (y 3))

theorem ld_tile {e : EltTy} (x : Vec Ideal S1x11x768x64 e) (k : ℕ) (hk : k < 11) (off : Fin 4 → ℕ) (hoff : off = ![0, k, 0, 0]) (h) :
    View.ld x (Rect.unit (s := S1x11x768x64) off ![1, 1, 768, 64] h) = tile x k := by
  subst hoff
  funext i
  refine View.ld_unit_apply_of x _ _ h i _ fun a => ?_
  fin_cases a
  · exact ((Nat.zero_add _).trans (Nat.lt_one_iff.mp (i 0).isLt)).symm
  · have h1 : (i 1).val < 1 := (i 1).isLt
    show k % 11 = k + (i 1).val
    omega
  · exact (Nat.zero_add _).symm
  · exact (Nat.zero_add _).symm

theorem ld_ttile (x : Vec Ideal S1x11x64x768 .bf16) (k : ℕ) (hk : k < 11) (off : Fin 4 → ℕ) (hoff : off = ![0, k, 0, 0]) (h) :
    View.ld x (Rect.unit (s := S1x11x64x768) off ![1, 1, 64, 768] h) = ttile x k := by
  subst hoff
  funext i
  refine View.ld_unit_apply_of x _ _ h i _ fun a => ?_
  fin_cases a
  · exact ((Nat.zero_add _).trans (Nat.lt_one_iff.mp (i 0).isLt)).symm
  · have h1 : (i 1).val < 1 := (i 1).isLt
    show k % 11 = k + (i 1).val
    omega
  · exact (Nat.zero_add _).symm
  · exact (Nat.zero_add _).symm

theorem trips1 : k1_t1_loop.trips = 11 := by decide +kernel

/-- One more tile stored over contents whose later tiles are untouched. -/
theorem read_tile {a : Memref sig .tc .vmem S1x11x768x64 .f32} (G : BufTy.Contents (Elt Ideal) a.view.ty)
    (L : List (View.Piece (Elt Ideal) S1x11x768x64 .f32)) (k : ℕ) (hk : k < 11) (off : Fin 4 → ℕ) (hoff : off = ![0, k, 0, 0]) (h)
    (w : Vec Ideal S1x1x768x64 .f32) (N X : Vec Ideal S1x11x768x64 .f32)
    (hw : ∀ n d, w (ix4 0 0 n d) = N (ix4 0 ⟨k, hk⟩ n d))
    (ih : ∀ y, a.view.read (Elt Ideal) (a.view.writes (Elt Ideal) G L) y = if (y 1).val < k then N y else X y) :
    ∀ y, a.view.read (Elt Ideal) (a.view.writes (Elt Ideal) G ((⟨Rect.unit (s := S1x11x768x64) off ![1, 1, 768, 64] h, w⟩ : View.Piece (Elt Ideal) S1x11x768x64 .f32) :: L)) y
      = if (y 1).val < k + 1 then N y else X y := by
  intro y
  by_cases hy : (y 1).val = k
  · have e0 : (y 0).val < 1 := (y 0).isLt
    rw [if_pos (by omega)]
    refine (View.read_writes_cons_unit_of_mem a.view G h w L y (ix4 0 0 (y 2) (y 3)) hoff fun b => ?_).trans ?_
    · fin_cases b
      · show (y 0).val = 0 + 0
        omega
      · show (y 1).val = k + 0
        omega
      · exact (Nat.zero_add _).symm
      · exact (Nat.zero_add _).symm
    · refine (hw _ _).trans (congrArg N (funext fun b => Fin.ext ?_))
      fin_cases b
      · show 0 = (y 0).val
        omega
      · exact hy.symm
      · rfl
      · rfl
  · refine (View.read_writes_cons_unit_of_not_mem a.view G h w L y hoff 1 ?_).trans ?_
    · show (y 1).val < k ∨ k + 1 ≤ (y 1).val
      omega
    · rw [ih y]
      by_cases h2 : (y 1).val < k
      · rw [if_pos h2, if_pos (by omega)]
      · rw [if_neg h2, if_neg (by omega)]

theorem mem_tile (L : List (View.Piece (Elt Ideal) S1x11x768x64 .f32)) (k : ℕ) (off : Fin 4 → ℕ) (hoff : off = ![0, k, 0, 0]) (h)
    (w : Vec Ideal S1x1x768x64 .f32) (ih : ∀ y : S1x11x768x64.Idx, (y 1).val < k → ∃ p ∈ L, y ∈ p.1.set) :
    ∀ y : S1x11x768x64.Idx, (y 1).val < k + 1 →
      ∃ p ∈ ((⟨Rect.unit (s := S1x11x768x64) off ![1, 1, 768, 64] h, w⟩ : View.Piece (Elt Ideal) S1x11x768x64 .f32) :: L), y ∈ p.1.set := by
  intro y hy
  by_cases h2 : (y 1).val < k
  · obtain ⟨p, hp, hm⟩ := ih y h2
    exact ⟨p, List.mem_cons_of_mem _ hp, hm⟩
  · refine ⟨_, List.mem_cons_self, ?_⟩
    rw [Rect.mem_set_unit]
    subst hoff
    have e0 : (y 0).val < 1 := (y 0).isLt
    have e2 : (y 2).val < 768 := (y 2).isLt
    have e3 : (y 3).val < 64 := (y 3).isLt
    intro b
    fin_cases b
    · show 0 ≤ (y 0).val ∧ (y 0).val < 0 + 1
      omega
    · show k ≤ (y 1).val ∧ (y 1).val < k + 1
      omega
    · show 0 ≤ (y 2).val ∧ (y 2).val < 0 + 768
      omega
    · show 0 ≤ (y 3).val ∧ (y 3).val < 0 + 64
      omega

theorem tile_at {e : EltTy} (x : Vec Ideal S1x11x768x64 e) (k : ℕ) (hk : k < 11) : k % 11 = k := Nat.mod_eq_of_lt hk

/-- Contents agreeing on tile `k` have the same tile. -/
theorem tile_congr (X Y : Vec Ideal S1x11x768x64 .f32) (k : ℕ) (hk : k < 11) (h : ∀ y : S1x11x768x64.Idx, ¬(y 1).val < k → X y = Y y) : tile X k = tile Y k := by
  funext i
  refine h _ ?_
  show ¬(k % 11 < k)
  rw [Nat.mod_eq_of_lt hk]
  exact lt_irrefl k

section
variable (𝒱 : Variants) (bd : Option 𝒱.V) (c : Dev nD) (i : grid1.Coords) (arg2 : Memref sig .tc .vmem S512x256 .bf16) (harg2 : arg2.IsWhole) (arg3 : Memref sig .tc .vmem S1x11x768x64 .bf16) (harg3 : arg3.IsWhole) (arg4 : Memref sig .tc .vmem S1x11x64x768 .bf16) (harg4 : arg4.IsWhole) (arg5 : Memref sig .tc .vmem S1x11x768x64 .bf16) (harg5 : arg5.IsWhole) (arg6 : Memref sig .tc .vmem S512x256 .bf16) (harg6 : arg6.IsWhole) (arg7 : Memref sig .tc .vmem S1x1x1x2048 .f32) (harg7 : arg7.IsWhole) (arg8 : Memref sig .tc .vmem S1x1x1x2048 .f32) (harg8 : arg8.IsWhole) (arg9 : Memref sig .tc .vmem S512x256 .f32) (harg9 : arg9.IsWhole) (arg10 : Memref sig .tc .vmem S1x11x768x64 .f32) (harg10 : arg10.IsWhole) (arg11 : Memref sig .tc .vmem S1x11x768x64 .f32) (harg11 : arg11.IsWhole)
    (q g : FVec Ideal S2048x64 .bf16) (l e : FVec Ideal S1x2048 .f32) (z0 z1 : BitVec 32) (x1 : Vec Ideal S1x11x768x64 .bf16) (x2 : Vec Ideal S1x11x64x768 .bf16) (x3 : Vec Ideal S1x11x768x64 .bf16) (G10 : BufTy.Contents (Elt Ideal) arg10.view.ty) (G11 : BufTy.Contents (Elt Ideal) arg11.view.ty)

/-- One trip of the loop, as payloads over tiles. -/
theorem succ1 (k : ℕ) (hk : k < 11) :
    (st_k1_t1 (F := Ideal) 𝒱 c bd i arg2 harg2 arg3 harg3 arg4 harg4 arg5 harg5 arg6 harg6 arg7 harg7 arg8 harg8 arg9 harg9 arg10 harg10 arg11 harg11 q g l e z0 z1 (harg3.unread x1) (harg4.unread x2) (harg5.unread x3) G10 G11 k1_pay13 (k + 1))
      = (k1_pay1 (st_k1_t1 (F := Ideal) 𝒱 c bd i arg2 harg2 arg3 harg3 arg4 harg4 arg5 harg5 arg6 harg6 arg7 harg7 arg8 harg8 arg9 harg9 arg10 harg10 arg11 harg11 q g l e z0 z1 (harg3.unread x1) (harg4.unread x2) (harg5.unread x3) G10 G11 k1_pay13 k).1 (k1_pay5 q g l e (tile x1 k) (tile x3 k)) (ttile x2 k),
         (⟨Rect.unit (s := S1x11x768x64) (k1_off1 ⟨k, hk.trans_eq trips1.symm⟩) ![1, 1, 768, 64] (k1_off1_inb _),
           k1_pay6 q g l e (tile x1 k) (tile x3 k) (tile (arg10.view.read (Elt Ideal) (arg10.view.writes (Elt Ideal) G10 (st_k1_t1 (F := Ideal) 𝒱 c bd i arg2 harg2 arg3 harg3 arg4 harg4 arg5 harg5 arg6 harg6 arg7 harg7 arg8 harg8 arg9 harg9 arg10 harg10 arg11 harg11 q g l e z0 z1 (harg3.unread x1) (harg4.unread x2) (harg5.unread x3) G10 G11 k1_pay13 k).2.1)) k)⟩ : View.Piece (Elt Ideal) S1x11x768x64 .f32) :: (st_k1_t1 (F := Ideal) 𝒱 c bd i arg2 harg2 arg3 harg3 arg4 harg4 arg5 harg5 arg6 harg6 arg7 harg7 arg8 harg8 arg9 harg9 arg10 harg10 arg11 harg11 q g l e z0 z1 (harg3.unread x1) (harg4.unread x2) (harg5.unread x3) G10 G11 k1_pay13 k).2.1,
         (⟨Rect.unit (s := S1x11x768x64) (k1_off1 ⟨k, hk.trans_eq trips1.symm⟩) ![1, 1, 768, 64] (k1_off1_inb _),
           k1_pay4 q g l (tile x1 k) (tile (arg11.view.read (Elt Ideal) (arg11.view.writes (Elt Ideal) G11 (st_k1_t1 (F := Ideal) 𝒱 c bd i arg2 harg2 arg3 harg3 arg4 harg4 arg5 harg5 arg6 harg6 arg7 harg7 arg8 harg8 arg9 harg9 arg10 harg10 arg11 harg11 q g l e z0 z1 (harg3.unread x1) (harg4.unread x2) (harg5.unread x3) G10 G11 k1_pay13 k).2.2)) k)⟩ : View.Piece (Elt Ideal) S1x11x768x64 .f32) :: (st_k1_t1 (F := Ideal) 𝒱 c bd i arg2 harg2 arg3 harg3 arg4 harg4 arg5 harg5 arg6 harg6 arg7 harg7 arg8 harg8 arg9 harg9 arg10 harg10 arg11 harg11 q g l e z0 z1 (harg3.unread x1) (harg4.unread x2) (harg5.unread x3) G10 G11 k1_pay13 k).2.2) := by
  have e1 := k1_off1_eq ⟨k, hk.trans_eq trips1.symm⟩
  have e2 := k1_off2_eq ⟨k, hk.trans_eq trips1.symm⟩
  refine (st_k1_t1_succ (F := Ideal) 𝒱 c bd i arg2 harg2 arg3 harg3 arg4 harg4 arg5 harg5 arg6 harg6 arg7 harg7 arg8 harg8 arg9 harg9 arg10 harg10 arg11 harg11 q g l e z0 z1 (harg3.unread x1) (harg4.unread x2) (harg5.unread x3) G10 G11 k1_pay13 ⟨k, hk.trans_eq trips1.symm⟩).trans ?_
  generalize (st_k1_t1 (F := Ideal) 𝒱 c bd i arg2 harg2 arg3 harg3 arg4 harg4 arg5 harg5 arg6 harg6 arg7 harg7 arg8 harg8 arg9 harg9 arg10 harg10 arg11 harg11 q g l e z0 z1 (harg3.unread x1) (harg4.unread x2) (harg5.unread x3) G10 G11 k1_pay13 k) = s
  unfold tripR_k1_t1 tripL_k1_t1 trip_k1_t1
  dsimp only [List.singleton_append]
  unfold trip_k1_t1.sl.r
  simp only [View.readAt_eq_ld, harg3.read_unread, harg4.read_unread, harg5.read_unread]
  rw [ld_tile x1 k hk _ e1, ld_tile x3 k hk _ e1, ld_ttile x2 k hk _ e2, ld_tile _ k hk _ e1, ld_tile _ k hk _ e1]

/-- The loop's state: the carried query gradient, and each key-side block tile by tile. -/
theorem state1 (k : ℕ) (hk : k ≤ 11) :
    (st_k1_t1 (F := Ideal) 𝒱 c bd i arg2 harg2 arg3 harg3 arg4 harg4 arg5 harg5 arg6 harg6 arg7 harg7 arg8 harg8 arg9 harg9 arg10 harg10 arg11 harg11 q g l e z0 z1 (harg3.unread x1) (harg4.unread x2) (harg5.unread x3) G10 G11 k1_pay13 k).1 = bq q g l e x1 x2 x3 k
    ∧ (∀ y, arg10.view.read (Elt Ideal) (arg10.view.writes (Elt Ideal) G10 (st_k1_t1 (F := Ideal) 𝒱 c bd i arg2 harg2 arg3 harg3 arg4 harg4 arg5 harg5 arg6 harg6 arg7 harg7 arg8 harg8 arg9 harg9 arg10 harg10 arg11 harg11 q g l e z0 z1 (harg3.unread x1) (harg4.unread x2) (harg5.unread x3) G10 G11 k1_pay13 k).2.1) y
        = if (y 1).val < k then bdk q g l e x1 x3 (arg10.view.read (Elt Ideal) G10) y else arg10.view.read (Elt Ideal) G10 y)
    ∧ (∀ y, arg11.view.read (Elt Ideal) (arg11.view.writes (Elt Ideal) G11 (st_k1_t1 (F := Ideal) 𝒱 c bd i arg2 harg2 arg3 harg3 arg4 harg4 arg5 harg5 arg6 harg6 arg7 harg7 arg8 harg8 arg9 harg9 arg10 harg10 arg11 harg11 q g l e z0 z1 (harg3.unread x1) (harg4.unread x2) (harg5.unread x3) G10 G11 k1_pay13 k).2.2) y
        = if (y 1).val < k then bdv q g l x1 (arg11.view.read (Elt Ideal) G11) y else arg11.view.read (Elt Ideal) G11 y)
    ∧ (∀ y : S1x11x768x64.Idx, (y 1).val < k → ∃ p ∈ (st_k1_t1 (F := Ideal) 𝒱 c bd i arg2 harg2 arg3 harg3 arg4 harg4 arg5 harg5 arg6 harg6 arg7 harg7 arg8 harg8 arg9 harg9 arg10 harg10 arg11 harg11 q g l e z0 z1 (harg3.unread x1) (harg4.unread x2) (harg5.unread x3) G10 G11 k1_pay13 k).2.1, y ∈ p.1.set)
    ∧ (∀ y : S1x11x768x64.Idx, (y 1).val < k → ∃ p ∈ (st_k1_t1 (F := Ideal) 𝒱 c bd i arg2 harg2 arg3 harg3 arg4 harg4 arg5 harg5 arg6 harg6 arg7 harg7 arg8 harg8 arg9 harg9 arg10 harg10 arg11 harg11 q g l e z0 z1 (harg3.unread x1) (harg4.unread x2) (harg5.unread x3) G10 G11 k1_pay13 k).2.2, y ∈ p.1.set) := by
  induction k with
  | zero =>
    refine ⟨rfl, fun y => ?_, fun y => ?_, fun y h => absurd h (Nat.not_lt_zero _), fun y h => absurd h (Nat.not_lt_zero _)⟩
    · rw [if_neg (Nat.not_lt_zero _)]; rfl
    · rw [if_neg (Nat.not_lt_zero _)]; rfl
  | succ k ih =>
    obtain ⟨i1, i2, i3, i4, i5⟩ := ih (by omega)
    have hk' : k < 11 := hk
    have e1 := k1_off1_eq ⟨k, hk'.trans_eq trips1.symm⟩
    rw [succ1 𝒱 bd c i arg2 harg2 arg3 harg3 arg4 harg4 arg5 harg5 arg6 harg6 arg7 harg7 arg8 harg8 arg9 harg9 arg10 harg10 arg11 harg11 q g l e z0 z1 x1 x2 x3 G10 G11 k hk']
    dsimp only
    rw [i1, tile_congr _ (arg10.view.read (Elt Ideal) G10) k hk' (fun y h => (i2 y).trans (if_neg h)),
      tile_congr _ (arg11.view.read (Elt Ideal) G11) k hk' (fun y h => (i3 y).trans (if_neg h))]
    refine ⟨rfl, ?_, ?_, ?_, ?_⟩
    · exact read_tile G10 _ k hk' _ e1 _ _ (bdk q g l e x1 x3 (arg10.view.read (Elt Ideal) G10)) _ (fun n d => rfl) i2
    · exact read_tile G11 _ k hk' _ e1 _ _ (bdv q g l x1 (arg11.view.read (Elt Ideal) G11)) _ (fun n d => rfl) i3
    · exact mem_tile _ k _ e1 _ _ i4
    · exact mem_tile _ k _ e1 _ _ i5

end

/-! ## The point's results -/

/-- The point's stacked queries. -/
abbrev pq (x0 : Vec Ideal S512x256 .bf16) : FVec Ideal S2048x64 .bf16 := k1_pay9 (cols x0 0) (cols x0 1) (cols x0 2) (cols x0 3)
/-- The point's stacked cotangents. -/
abbrev pg (x4 : Vec Ideal S512x256 .bf16) : FVec Ideal S2048x64 .bf16 := k1_pay10 (cols x4 0) (cols x4 1) (cols x4 2) (cols x4 3)

theorem loads1 (arg : Memref sig .tc .vmem S512x256 .bf16) (harg : arg.IsWhole) (x0 : Vec Ideal S512x256 .bf16) (j : Fin 4) (off : Fin 2 → ℕ) (hoff : off = ![0, 64 * j.val]) (h) :
    View.readAt (Elt Ideal) arg.view (Rect.unit (s := S512x256) off ![512, 64] h).toLoadRect (harg.unread x0) = cols x0 j := by
  rw [View.readAt_eq_ld, harg.read_unread, ld_cols x0 j off hoff]

theorem loadrow (arg : Memref sig .tc .vmem S1x1x1x2048 .f32) (harg : arg.IsWhole) (x : Vec Ideal S1x1x1x2048 .f32) (h) :
    View.readAt (Elt Ideal) arg.view (Rect.unit (s := S1x1x1x2048) ![0, 0, 0, 0] ![1, 1, 1, 2048] h).toLoadRect (harg.unread x) = x := by
  rw [View.readAt_eq_ld, harg.read_unread]
  exact View.ld_unit_lit h x (by decide)

section
variable (c : Dev nD) (i : grid1.Coords) (arg2 : Memref sig .tc .vmem S512x256 .bf16) (harg2 : arg2.IsWhole) (arg3 : Memref sig .tc .vmem S1x11x768x64 .bf16) (harg3 : arg3.IsWhole) (arg4 : Memref sig .tc .vmem S1x11x64x768 .bf16) (harg4 : arg4.IsWhole) (arg5 : Memref sig .tc .vmem S1x11x768x64 .bf16) (harg5 : arg5.IsWhole) (arg6 : Memref sig .tc .vmem S512x256 .bf16) (harg6 : arg6.IsWhole) (arg7 : Memref sig .tc .vmem S1x1x1x2048 .f32) (harg7 : arg7.IsWhole) (arg8 : Memref sig .tc .vmem S1x1x1x2048 .f32) (harg8 : arg8.IsWhole) (arg9 : Memref sig .tc .vmem S512x256 .f32) (harg9 : arg9.IsWhole) (arg10 : Memref sig .tc .vmem S1x11x768x64 .f32) (harg10 : arg10.IsWhole) (arg11 : Memref sig .tc .vmem S1x11x768x64 .f32) (harg11 : arg11.IsWhole)
    (x0 : Vec Ideal S512x256 .bf16) (x1 : Vec Ideal S1x11x768x64 .bf16) (x2 : Vec Ideal S1x11x64x768 .bf16) (x3 : Vec Ideal S1x11x768x64 .bf16) (x4 : Vec Ideal S512x256 .bf16) (x5 : Vec Ideal S1x1x1x2048 .f32) (x6 : Vec Ideal S1x1x1x2048 .f32)

/-- A point of the first query block. -/
theorem out1_A_eq (hc0 : cond1_0 i) :
    out1_A_7 (F := Ideal) c i arg2 harg2 arg3 harg3 arg4 harg4 arg5 harg5 arg6 harg6 arg7 harg7 arg8 harg8 arg9 harg9 arg10 harg10 arg11 harg11 hc0 x0 x1 x2 x3 x4 x5 x6 = k1_pay2 (bq (pq x0) (pg x4) (k1_pay11 x5) (k1_pay12 x6) x1 x2 x3 11)
    ∧ out1_A_8 (F := Ideal) c i arg2 harg2 arg3 harg3 arg4 harg4 arg5 harg5 arg6 harg6 arg7 harg7 arg8 harg8 arg9 harg9 arg10 harg10 arg11 harg11 hc0 x0 x1 x2 x3 x4 x5 x6 = bdk (pq x0) (pg x4) (k1_pay11 x5) (k1_pay12 x6) x1 x3 (k1_pay7 (F := Ideal))
    ∧ out1_A_9 (F := Ideal) c i arg2 harg2 arg3 harg3 arg4 harg4 arg5 harg5 arg6 harg6 arg7 harg7 arg8 harg8 arg9 harg9 arg10 harg10 arg11 harg11 hc0 x0 x1 x2 x3 x4 x5 x6 = bdv (pq x0) (pg x4) (k1_pay11 x5) x1 (k1_pay8 (F := Ideal)) := by
  have hS := state1 Variants.none none c i arg2 harg2 arg3 harg3 arg4 harg4 arg5 harg5 arg6 harg6 arg7 harg7 arg8 harg8 arg9 harg9 arg10 harg10 arg11 harg11 (kernelRun1_A.sl.r c arg2 harg2 x0) (kernelRun1_A.sl.r_1 c arg6 harg6 x4) (kernelRun1_A.sl.r_2 c arg7 harg7 x5) (kernelRun1_A.sl.r_3 c arg8 harg8 x6) 0#32 1#32 x1 x2 x3 (arg10.view.writes (Elt Ideal) arg10.view.junk (kernelRun1_A.sl.H8_1 (F := Ideal))) (arg11.view.writes (Elt Ideal) arg11.view.junk (kernelRun1_A.sl.H9_1 (F := Ideal))) 11 le_rfl
  have hr : kernelRun1_A.sl.r (F := Ideal) c arg2 harg2 x0 = pq x0 := by
    unfold kernelRun1_A.sl.r
    rw [loads1 arg2 harg2 x0 0 ![0, 0] rfl, loads1 arg2 harg2 x0 1 ![0, 64] rfl, loads1 arg2 harg2 x0 2 ![0, 128] rfl, loads1 arg2 harg2 x0 3 ![0, 192] rfl]
  have hr1 : kernelRun1_A.sl.r_1 (F := Ideal) c arg6 harg6 x4 = pg x4 := by
    unfold kernelRun1_A.sl.r_1
    rw [loads1 arg6 harg6 x4 0 ![0, 0] rfl, loads1 arg6 harg6 x4 1 ![0, 64] rfl, loads1 arg6 harg6 x4 2 ![0, 128] rfl, loads1 arg6 harg6 x4 3 ![0, 192] rfl]
  have hr2 : kernelRun1_A.sl.r_2 (F := Ideal) c arg7 harg7 x5 = k1_pay11 x5 := by
    unfold kernelRun1_A.sl.r_2
    rw [loadrow]
  have hr3 : kernelRun1_A.sl.r_3 (F := Ideal) c arg8 harg8 x6 = k1_pay12 x6 := by
    unfold kernelRun1_A.sl.r_3
    rw [loadrow]
  rw [hr, hr1, hr2, hr3] at hS
  obtain ⟨i1, i2, i3, i4, i5⟩ := hS
  unfold out1_A_7 out1_A_8 out1_A_9 kernelRun1_A
  dsimp only
  refine ⟨?_, ?_, ?_⟩
  · rw [View.read_writes_junk_eq_canon, View.canon_unit_zero (View.eq_zero_of_forall (by decide)), hr, hr1, hr2, hr3]
    exact congrArg _ i1
  · rw [View.read_writes_junk_eq_canon, hr, hr1, hr2, hr3]
    funext y
    refine (View.read_writes_junk_apply_eq_canon arg10.view y _).symm.trans ?_
    rw [View.writes_append]
    refine (i2 y).trans ?_
    rw [if_pos (show (y 1).val < 11 from (y 1).isLt), View.read_writes_junk_eq_canon]
    unfold kernelRun1_A.sl.H8_1
    rw [View.canon_unit_zero (View.eq_zero_of_forall (by decide))]
  · rw [View.read_writes_junk_eq_canon, hr, hr1, hr2, hr3]
    funext y
    refine (View.read_writes_junk_apply_eq_canon arg11.view y _).symm.trans ?_
    rw [View.writes_append]
    refine (i3 y).trans ?_
    rw [if_pos (show (y 1).val < 11 from (y 1).isLt), View.read_writes_junk_eq_canon]
    unfold kernelRun1_A.sl.H9_1
    rw [View.canon_unit_zero (View.eq_zero_of_forall (by decide))]

/-- A point of a later query block. -/
theorem out1_B_eq (hc0 : ¬cond1_0 i) (xo8 xo9 : Vec Ideal S1x11x768x64 .f32) :
    out1_B_7 (F := Ideal) c i arg2 harg2 arg3 harg3 arg4 harg4 arg5 harg5 arg6 harg6 arg7 harg7 arg8 harg8 arg9 harg9 arg10 harg10 arg11 harg11 hc0 x0 x1 x2 x3 x4 x5 x6 xo8 xo9 = k1_pay2 (bq (pq x0) (pg x4) (k1_pay11 x5) (k1_pay12 x6) x1 x2 x3 11)
    ∧ out1_B_8 (F := Ideal) c i arg2 harg2 arg3 harg3 arg4 harg4 arg5 harg5 arg6 harg6 arg7 harg7 arg8 harg8 arg9 harg9 arg10 harg10 arg11 harg11 hc0 x0 x1 x2 x3 x4 x5 x6 xo8 xo9 = bdk (pq x0) (pg x4) (k1_pay11 x5) (k1_pay12 x6) x1 x3 xo8
    ∧ out1_B_9 (F := Ideal) c i arg2 harg2 arg3 harg3 arg4 harg4 arg5 harg5 arg6 harg6 arg7 harg7 arg8 harg8 arg9 harg9 arg10 harg10 arg11 harg11 hc0 x0 x1 x2 x3 x4 x5 x6 xo8 xo9 = bdv (pq x0) (pg x4) (k1_pay11 x5) x1 xo9 := by
  have hS := state1 Variants.none none c i arg2 harg2 arg3 harg3 arg4 harg4 arg5 harg5 arg6 harg6 arg7 harg7 arg8 harg8 arg9 harg9 arg10 harg10 arg11 harg11 (kernelRun1_B.sl.r c arg2 harg2 x0) (kernelRun1_B.sl.r_1 c arg6 harg6 x4) (kernelRun1_B.sl.r_2 c arg7 harg7 x5) (kernelRun1_B.sl.r_3 c arg8 harg8 x6) 0#32 1#32 x1 x2 x3 (harg10.unread xo8) (harg11.unread xo9) 11 le_rfl
  have hr : kernelRun1_B.sl.r (F := Ideal) c arg2 harg2 x0 = pq x0 := by
    unfold kernelRun1_B.sl.r
    rw [loads1 arg2 harg2 x0 0 ![0, 0] rfl, loads1 arg2 harg2 x0 1 ![0, 64] rfl, loads1 arg2 harg2 x0 2 ![0, 128] rfl, loads1 arg2 harg2 x0 3 ![0, 192] rfl]
  have hr1 : kernelRun1_B.sl.r_1 (F := Ideal) c arg6 harg6 x4 = pg x4 := by
    unfold kernelRun1_B.sl.r_1
    rw [loads1 arg6 harg6 x4 0 ![0, 0] rfl, loads1 arg6 harg6 x4 1 ![0, 64] rfl, loads1 arg6 harg6 x4 2 ![0, 128] rfl, loads1 arg6 harg6 x4 3 ![0, 192] rfl]
  have hr2 : kernelRun1_B.sl.r_2 (F := Ideal) c arg7 harg7 x5 = k1_pay11 x5 := by
    unfold kernelRun1_B.sl.r_2
    rw [loadrow]
  have hr3 : kernelRun1_B.sl.r_3 (F := Ideal) c arg8 harg8 x6 = k1_pay12 x6 := by
    unfold kernelRun1_B.sl.r_3
    rw [loadrow]
  rw [hr, hr1, hr2, hr3] at hS
  obtain ⟨i1, i2, i3, i4, i5⟩ := hS
  unfold out1_B_7 out1_B_8 out1_B_9 kernelRun1_B
  dsimp only
  refine ⟨?_, ?_, ?_⟩
  · rw [View.read_writes_junk_eq_canon, View.canon_unit_zero (View.eq_zero_of_forall (by decide)), hr, hr1, hr2, hr3]
    exact congrArg _ i1
  · rw [View.read_writes_junk_eq_canon, hr, hr1, hr2, hr3]
    funext y
    refine (View.read_writes_apply_eq_canon arg10.view (harg10.unread xo8) y _ (i4 y (y 1).isLt)).symm.trans ?_
    refine (i2 y).trans ?_
    rw [if_pos (show (y 1).val < 11 from (y 1).isLt), harg10.read_unread]
  · rw [View.read_writes_junk_eq_canon, hr, hr1, hr2, hr3]
    funext y
    refine (View.read_writes_apply_eq_canon arg11.view (harg11.unread xo9) y _ (i5 y (y 1).isLt)).symm.trans ?_
    refine (i3 y).trans ?_
    rw [if_pos (show (y 1).val < 11 from (y 1).isLt), harg11.read_unread]

end

end Cert.KernelIdeal.Flash
-- ==== Proof.FlashBwdReal.lean ====
module

public import proofs.«01_k».proof.Proof.FlashBwd
public import proofs.«01_k».proof.Proof.FlashFwdReal
@[expose] public section

/-!
The backward attention body over real blocks: the probabilities come back from the forward call's
row, and the three gradients are real sums.
-/

set_option maxRecDepth 16384

noncomputable section

open Idealize.ShloMosaic Idealize.SL.Sem
namespace Cert.KernelIdeal.Flash
open Cert.KernelIdeal.Gen Cert.Reals

/-- A probability of key tile `j`, recovered from the row `rl`. -/
def rp (xq : Fin 512 → Fin 256 → ℝ) (xk : ℕ → Fin 768 → Fin 64 → ℝ) (rl : Fin 2048 → ℝ) (j : ℕ) (n : Fin 768) (r : Fin 2048) : ℝ :=
  Real.exp ((∑ d : Fin 64, xk j n d * rq xq r d) - rl r)
/-- A score's gradient of key tile `j`. -/
def rds (xq xg : Fin 512 → Fin 256 → ℝ) (xk xv : ℕ → Fin 768 → Fin 64 → ℝ) (rl re : Fin 2048 → ℝ) (j : ℕ) (n : Fin 768) (r : Fin 2048) : ℝ :=
  rp xq xk rl j n r * ((∑ d : Fin 64, xv j n d * rq xg r d) - re r)

section
variable (x0 : Vec Ideal S512x256 .bf16) (x1 : Vec Ideal S1x11x768x64 .bf16) (x2 : Vec Ideal S1x11x64x768 .bf16)
  (x3 : Vec Ideal S1x11x768x64 .bf16) (x4 : Vec Ideal S512x256 .bf16) (x5 x6 : Vec Ideal S1x1x1x2048 .f32)
  (xq xg : Fin 512 → Fin 256 → ℝ) (xk xv : ℕ → Fin 768 → Fin 64 → ℝ) (rl re : Fin 2048 → ℝ)
  (h0 : ∀ a b, x0 (ix2 a b) = ((xq a b : ℝ) : EReal))
  (h1 : ∀ (j : Fin 11) n d, x1 (ix4 0 j n d) = ((xk j.val n d : ℝ) : EReal))
  (h2 : ∀ (j : Fin 11) d n, x2 (ix4 0 j d n) = ((xk j.val n d : ℝ) : EReal))
  (h3 : ∀ (j : Fin 11) n d, x3 (ix4 0 j n d) = ((xv j.val n d : ℝ) : EReal))
  (h4 : ∀ a b, x4 (ix2 a b) = ((xg a b : ℝ) : EReal))
  (h5 : ∀ r, x5 (ix4 0 0 0 r) = ((rl r : ℝ) : EReal))
  (h6 : ∀ r, x6 (ix4 0 0 0 r) = ((re r : ℝ) : EReal))

theorem tile_real (x : Vec Ideal S1x11x768x64 .bf16) (xk : ℕ → Fin 768 → Fin 64 → ℝ) (h1 : ∀ (j : Fin 11) n d, x (ix4 0 j n d) = ((xk j.val n d : ℝ) : EReal))
    (k : ℕ) (hk : k < 11) (n : Fin 768) (d : Fin 64) : tile x k (ix4 0 0 n d) = ((xk k n d : ℝ) : EReal) := by
  refine (h1 _ _ _).trans ?_
  show ((xk (k % 11) n d : ℝ) : EReal) = _
  rw [Nat.mod_eq_of_lt hk]

theorem pq_real (x0 : Vec Ideal S512x256 .bf16) (xq : Fin 512 → Fin 256 → ℝ) (h0 : ∀ a b, x0 (ix2 a b) = ((xq a b : ℝ) : EReal)) (r : Fin 2048) (d : Fin 64) :
    pq x0 (ix2 r d) = ((rq xq r d : ℝ) : EReal) := (bwd_stackq_at x0 r d).trans (h0 _ _)
theorem pg_real (x0 : Vec Ideal S512x256 .bf16) (xq : Fin 512 → Fin 256 → ℝ) (h0 : ∀ a b, x0 (ix2 a b) = ((xq a b : ℝ) : EReal)) (r : Fin 2048) (d : Fin 64) :
    pg x0 (ix2 r d) = ((rq xq r d : ℝ) : EReal) := (bwd_stackdo_at x0 r d).trans (h0 _ _)

include h0 h1 h5 in
theorem p_real (k : ℕ) (hk : k < 11) (n : Fin 768) (r : Fin 2048) :
    k1_pay3 (F := Ideal) (pq x0) (k1_pay11 x5) (tile x1 k) (ix2 n r) = ((rp xq xk rl k n r : ℝ) : EReal) := by
  rw [bwd_p_at, bwd_row_lse_at, h5]
  have : (∑ d : Fin 64, tile x1 k (ix4 0 0 n d) * pq x0 (ix2 r d)) = ((∑ d : Fin 64, xk k n d * rq xq r d : ℝ) : EReal) := by
    rw [← sum_coe]
    refine Finset.sum_congr rfl fun d _ => ?_
    rw [tile_real x1 xk h1 k hk, pq_real x0 xq h0, EReal.coe_mul]
  refine (congrArg (fun z => Ideal.exp (z - _)) this).trans ?_
  rw [← EReal.coe_sub, exp_coe]
  rfl

include h0 h1 h3 h4 h5 h6 in
theorem ds_real (k : ℕ) (hk : k < 11) (n : Fin 768) (r : Fin 2048) :
    k1_pay5 (F := Ideal) (pq x0) (pg x4) (k1_pay11 x5) (k1_pay12 x6) (tile x1 k) (tile x3 k) (ix2 n r) = ((rds xq xg xk xv rl re k n r : ℝ) : EReal) := by
  rw [bwd_ds_at, p_real x0 x1 x5 xq xk rl h0 h1 h5 k hk, bwd_row_delta_at, h6]
  have : (∑ d : Fin 64, tile x3 k (ix4 0 0 n d) * pg x4 (ix2 r d)) = ((∑ d : Fin 64, xv k n d * rq xg r d : ℝ) : EReal) := by
    rw [← sum_coe]
    refine Finset.sum_congr rfl fun d _ => ?_
    rw [tile_real x3 xv h3 k hk, pg_real x4 xg h4, EReal.coe_mul]
  refine (congrArg (fun z => ((rp xq xk rl k n r : ℝ) : EReal) * (z - _)) this).trans ?_
  rw [← EReal.coe_sub, ← EReal.coe_mul]
  rfl

include h0 h1 h2 h3 h4 h5 h6 in
theorem bq_real (k : ℕ) (hk : k ≤ 11) (d : Fin 64) (r : Fin 2048) :
    bq (pq x0) (pg x4) (k1_pay11 x5) (k1_pay12 x6) x1 x2 x3 k (ix2 d r)
      = ((∑ j ∈ Finset.range k, ∑ n : Fin 768, xk j n d * rds xq xg xk xv rl re j n r : ℝ) : EReal) := by
  induction k with
  | zero =>
    show k1_pay13 (F := Ideal) (ix2 d r) = _
    simp only [Finset.range_zero, Finset.sum_empty, EReal.coe_zero]
    pointwise [k1_pay13]
  | succ k ih =>
    show k1_pay1 (F := Ideal) (bq (pq x0) (pg x4) (k1_pay11 x5) (k1_pay12 x6) x1 x2 x3 k) _ (ttile x2 k) (ix2 d r) = _
    rw [bwd_dq_at, ih (by omega), Finset.sum_range_succ, EReal.coe_add]
    congr 1
    rw [← sum_coe]
    refine Finset.sum_congr rfl fun n _ => ?_
    rw [ds_real x0 x1 x3 x4 x5 x6 xq xg xk xv rl re h0 h1 h3 h4 h5 h6 k hk, EReal.coe_mul]
    refine congrArg (· * _) ((h2 _ _ _).trans ?_)
    show ((xk (k % 11) n d : ℝ) : EReal) = _
    rw [Nat.mod_eq_of_lt hk]

include h0 h1 h2 h3 h4 h5 h6 in
/-- The query gradient's block. -/
theorem dq_block (q : Fin 512) (l : Fin 256) :
    k1_pay2 (F := Ideal) (bq (pq x0) (pg x4) (k1_pay11 x5) (k1_pay12 x6) x1 x2 x3 11) (ix2 q l)
      = ((∑ j ∈ Finset.range 11, ∑ n : Fin 768, xk j n ⟨l.val % 64, by omega⟩ * rds xq xg xk xv rl re j n ⟨512 * (l.val / 64) + q.val, by omega⟩ : ℝ) : EReal) := by
  rw [bwd_out_at, bq_real x0 x1 x2 x3 x4 x5 x6 xq xg xk xv rl re h0 h1 h2 h3 h4 h5 h6 11 le_rfl]

include h0 h1 h3 h4 h5 h6 in
/-- What a point adds to the key gradient's block. -/
theorem dk_block (X : Vec Ideal S1x11x768x64 .f32) (y : S1x11x768x64.Idx) :
    bdk (pq x0) (pg x4) (k1_pay11 x5) (k1_pay12 x6) x1 x3 X y
      = X y + ((∑ r : Fin 2048, rds xq xg xk xv rl re (y 1).val (y 2) r * rq xq r (y 3) : ℝ) : EReal) := by
  have hy : (y 1).val < 11 := (y 1).isLt
  show k1_pay6 (F := Ideal) (pq x0) (pg x4) (k1_pay11 x5) (k1_pay12 x6) (tile x1 (y 1).val) (tile x3 (y 1).val) (tile X (y 1).val) (ix4 0 0 (y 2) (y 3)) = _
  refine (bwd_dk_at _ _ _ _ _ _ _ _ _).trans ?_
  refine congrArg₂ (· + ·) (congrArg X ?_) ?_
  · funext a; apply Fin.ext; match a with
    | ⟨0, _⟩ => have : (y 0).val < 1 := (y 0).isLt; show 0 = (y 0).val; omega
    | ⟨1, _⟩ => show (y 1).val % 11 = (y 1).val; omega
    | ⟨2, _⟩ => rfl
    | ⟨3, _⟩ => rfl
  · rw [← sum_coe]
    refine Finset.sum_congr rfl fun r _ => ?_
    exact (congrArg₂ (· * ·) (ds_real x0 x1 x3 x4 x5 x6 xq xg xk xv rl re h0 h1 h3 h4 h5 h6 _ hy _ _) (pq_real x0 xq h0 _ _)).trans (EReal.coe_mul _ _).symm

include h0 h1 h4 h5 in
/-- What a point adds to the value gradient's block. -/
theorem dv_block (X : Vec Ideal S1x11x768x64 .f32) (y : S1x11x768x64.Idx) :
    bdv (pq x0) (pg x4) (k1_pay11 x5) x1 X y
      = X y + ((∑ r : Fin 2048, rp xq xk rl (y 1).val (y 2) r * rq xg r (y 3) : ℝ) : EReal) := by
  have hy : (y 1).val < 11 := (y 1).isLt
  show k1_pay4 (F := Ideal) (pq x0) (pg x4) (k1_pay11 x5) (tile x1 (y 1).val) (tile X (y 1).val) (ix4 0 0 (y 2) (y 3)) = _
  refine (bwd_dv_at _ _ _ _ _ _ _).trans ?_
  refine congrArg₂ (· + ·) (congrArg X ?_) ?_
  · funext a; apply Fin.ext; match a with
    | ⟨0, _⟩ => have : (y 0).val < 1 := (y 0).isLt; show 0 = (y 0).val; omega
    | ⟨1, _⟩ => show (y 1).val % 11 = (y 1).val; omega
    | ⟨2, _⟩ => rfl
    | ⟨3, _⟩ => rfl
  · rw [← sum_coe]
    refine Finset.sum_congr rfl fun r _ => ?_
    exact (congrArg₂ (· * ·) (p_real x0 x1 x5 xq xk rl h0 h1 h5 _ hy _ _) (pg_real x4 xg h4 _ _)).trans (EReal.coe_mul _ _).symm
end

end Cert.KernelIdeal.Flash
-- ==== Proof.FlashArr1.lean ====
module

public import proofs.«01_k».proof.Proof.FlashBwdReal
public import proofs.«01_k».proof.Proof.FlashSpec
@[expose] public section

/-!
The backward region's three results as whole arrays. The query gradient's blocks are written once;
the key and value gradients of a group are added up over the sixteen query tiles.
-/

set_option maxRecDepth 16384

noncomputable section

open Idealize.ShloMosaic Idealize.ShloMosaic.TcCoe Idealize.SL.Sem
open Idealize.ShloMosaic.Pipeline (Dat)
namespace Cert.KernelIdeal.Flash
open Cert.KernelIdeal Cert.KernelIdeal.Gen Cert.Reals Cert.FlashSpec

/-- The blocks of the backward region's windows: group `t / 16`, query tile `t % 16`. -/
theorem widx1 : ∀ t : Fin cfg1.N, win1_0.index t = ![t.val % 16, t.val / 16] ∧ win1_1.index t = ![t.val / 16, 0, 0, 0] ∧ win1_2.index t = ![t.val / 16, 0, 0, 0]
    ∧ win1_3.index t = ![t.val / 16, 0, 0, 0] ∧ win1_4.index t = ![t.val % 16, t.val / 16] ∧ win1_5.index t = ![t.val / 16, t.val % 16, 0, 0] ∧ win1_6.index t = ![t.val / 16, t.val % 16, 0, 0]
    ∧ win1_7.index t = ![t.val % 16, t.val / 16] ∧ win1_8.index t = ![t.val / 16, 0, 0, 0] ∧ win1_9.index t = ![t.val / 16, 0, 0, 0] :=
  (by decide +kernel : ∀ t : Fin grid1.N, _)

section
variable (V : (c : Dev nD) → (b : Ref sig .tc) → Buf (Elt Ideal) ((c : Thread nD τ).loc b)) (c : Dev nD) (t : Fin cfg1.N)

theorem iblk1_0_at (a : Fin 512) (b : Fin 256) :
    iblk1 V c 0 t (ix2 a b) = (V c main_v2 : FVec Ideal S8192x1024 .bf16) (ix2 ⟨512 * (t.val % 16) + a.val, by omega⟩ ⟨256 * (t.val / 16) + b.val, by have : t.val < 64 := t.isLt; omega⟩) := by
  blk_ext! [iblk1, widx1 t]
theorem iblk1_4_at (a : Fin 512) (b : Fin 256) :
    iblk1 V c 4 t (ix2 a b) = (V c main_v21 : FVec Ideal S8192x1024 .bf16) (ix2 ⟨512 * (t.val % 16) + a.val, by omega⟩ ⟨256 * (t.val / 16) + b.val, by have : t.val < 64 := t.isLt; omega⟩) := by
  blk_ext! [iblk1, widx1 t]
theorem iblk1_1_at (j : Fin 11) (n : Fin 768) (d : Fin 64) :
    iblk1 V c 1 t (ix4 0 j n d) = (V c main_v9 : FVec Ideal S4x11x768x64 .bf16) (ix4 ⟨t.val / 16, by have : t.val < 64 := t.isLt; omega⟩ j n d) := by
  blk_ext! [iblk1, widx1 t]
theorem iblk1_3_at (j : Fin 11) (n : Fin 768) (d : Fin 64) :
    iblk1 V c 3 t (ix4 0 j n d) = (V c main_v10 : FVec Ideal S4x11x768x64 .bf16) (ix4 ⟨t.val / 16, by have : t.val < 64 := t.isLt; omega⟩ j n d) := by
  blk_ext! [iblk1, widx1 t]
theorem iblk1_2_at (j : Fin 11) (d : Fin 64) (n : Fin 768) :
    iblk1 V c 2 t (ix4 0 j d n) = (V c main_v20 : FVec Ideal S4x11x64x768 .bf16) (ix4 ⟨t.val / 16, by have : t.val < 64 := t.isLt; omega⟩ j d n) := by
  blk_ext! [iblk1, widx1 t]
theorem iblk1_5_at (r : Fin 2048) :
    iblk1 V c 5 t (ix4 0 0 0 r) = (V c main_v16_1 : FVec Ideal S4x16x1x2048 .f32) (ix4 ⟨t.val / 16, by have : t.val < 64 := t.isLt; omega⟩ ⟨t.val % 16, by omega⟩ 0 r) := by
  blk_ext! [iblk1, widx1 t]
theorem iblk1_6_at (r : Fin 2048) :
    iblk1 V c 6 t (ix4 0 0 0 r) = (V c main_v24 : FVec Ideal S4x16x1x2048 .f32) (ix4 ⟨t.val / 16, by have : t.val < 64 := t.isLt; omega⟩ ⟨t.val % 16, by omega⟩ 0 r) := by
  blk_ext! [iblk1, widx1 t]
end

/-- The probabilities of a block are those of the whole arrays. -/
theorem rp_P (Q K : ℕ → ℕ → ℝ) (g i j : ℕ) (n : Fin 768) (r : Fin 2048) :
    rp (fun a b => Q (512 * i + a.val) (256 * g + b.val) * 0.125) (fun j n d => K (768 * j + n.val) (64 * g + d.val))
        (fun r => Real.log (Z Q K (4 * g + r.val / 512) (512 * i + r.val % 512))) j n r
      = P Q K (4 * g + r.val / 512) (512 * i + r.val % 512) (768 * j + n.val) := by
  have := r.isLt
  rw [← exp_sub_log]
  unfold rp rq sc
  refine congrArg (fun z : ℝ => Real.exp (z - _)) (Finset.sum_congr rfl fun d _ => ?_)
  rw [show (4 * g + r.val / 512) / 4 = g by omega, show 64 * (4 * g + r.val / 512) + d.val = 256 * g + (64 * (r.val / 512) + d.val) by omega]

/-- The scores' gradients of a block are those of the whole arrays. -/
theorem rds_dS (Q K W G : ℕ → ℕ → ℝ) (g i j : ℕ) (n : Fin 768) (r : Fin 2048) :
    rds (fun a b => Q (512 * i + a.val) (256 * g + b.val) * 0.125) (fun a b => G (512 * i + a.val) (256 * g + b.val))
        (fun j n d => K (768 * j + n.val) (64 * g + d.val)) (fun j n d => W (768 * j + n.val) (64 * g + d.val))
        (fun r => Real.log (Z Q K (4 * g + r.val / 512) (512 * i + r.val % 512))) (fun r => delta Q K W G (4 * g + r.val / 512) (512 * i + r.val % 512)) j n r
      = dS Q K W G (4 * g + r.val / 512) (512 * i + r.val % 512) (768 * j + n.val) := by
  have := r.isLt
  unfold rds dS
  refine congrArg₂ (· * ·) (rp_P Q K g i j n r) (congrArg (fun z : ℝ => z - delta Q K W G (4 * g + r.val / 512) (512 * i + r.val % 512)) ?_)
  unfold rq dP
  refine Finset.sum_congr rfl fun d _ => ?_
  rw [show (4 * g + r.val / 512) / 4 = g by omega, show 64 * (4 * g + r.val / 512) + d.val = 256 * g + (64 * (r.val / 512) + d.val) by omega]

/-- The key gradient's block starts at zero. -/
theorem zero7 (y : S1x11x768x64.Idx) : k1_pay7 (F := Ideal) y = 0 := by
  have hy : y = (ix4 (y 0) (y 1) (y 2) (y 3) : S1x11x768x64.Idx) := by
    funext a; apply Fin.ext; match a with
    | ⟨0, _⟩ => rfl
    | ⟨1, _⟩ => rfl
    | ⟨2, _⟩ => rfl
    | ⟨3, _⟩ => rfl
  rw [hy]; pointwise [k1_pay7]

/-- The value gradient's block starts at zero. -/
theorem zero8 (y : S1x11x768x64.Idx) : k1_pay8 (F := Ideal) y = 0 := by
  have hy : y = (ix4 (y 0) (y 1) (y 2) (y 3) : S1x11x768x64.Idx) := by
    funext a; apply Fin.ext; match a with
    | ⟨0, _⟩ => rfl
    | ⟨1, _⟩ => rfl
    | ⟨2, _⟩ => rfl
    | ⟨3, _⟩ => rfl
  rw [hy]; pointwise [k1_pay8]

section
variable (V : (c : Dev nD) → (b : Ref sig .tc) → Buf (Elt Ideal) ((c : Thread nD τ).loc b)) (c : Dev nD)
  (Q K W G : ℕ → ℕ → ℝ)
  (hq : ∀ (a : Fin 8192) (b : Fin 1024), (V c main_v2 : FVec Ideal S8192x1024 .bf16) (ix2 a b) = ((Q a.val b.val * 0.125 : ℝ) : EReal))
  (hk : ∀ (g : Fin 4) (j : Fin 11) (n : Fin 768) (d : Fin 64), (V c main_v9 : FVec Ideal S4x11x768x64 .bf16) (ix4 g j n d) = ((K (768 * j.val + n.val) (64 * g.val + d.val) : ℝ) : EReal))
  (hkt : ∀ (g : Fin 4) (j : Fin 11) (d : Fin 64) (n : Fin 768), (V c main_v20 : FVec Ideal S4x11x64x768 .bf16) (ix4 g j d n) = ((K (768 * j.val + n.val) (64 * g.val + d.val) : ℝ) : EReal))
  (hv : ∀ (g : Fin 4) (j : Fin 11) (n : Fin 768) (d : Fin 64), (V c main_v10 : FVec Ideal S4x11x768x64 .bf16) (ix4 g j n d) = ((W (768 * j.val + n.val) (64 * g.val + d.val) : ℝ) : EReal))
  (hg : ∀ (a : Fin 8192) (b : Fin 1024), (V c main_v21 : FVec Ideal S8192x1024 .bf16) (ix2 a b) = ((G a.val b.val : ℝ) : EReal))
  (hl : ∀ (g : Fin 4) (i : Fin 16) (r : Fin 2048), (V c main_v16_1 : FVec Ideal S4x16x1x2048 .f32) (ix4 g i 0 r) = ((Real.log (Z Q K (4 * g.val + r.val / 512) (512 * i.val + r.val % 512)) : ℝ) : EReal))
  (he : ∀ (g : Fin 4) (i : Fin 16) (r : Fin 2048), (V c main_v24 : FVec Ideal S4x16x1x2048 .f32) (ix4 g i 0 r) = ((delta Q K W G (4 * g.val + r.val / 512) (512 * i.val + r.val % 512) : ℝ) : EReal))
include hq hk hv hg hl he

/-- What a point adds to the key gradient's block, over the whole arrays. -/
theorem point_dk (t : Fin cfg1.N) (X : Vec Ideal S1x11x768x64 .f32) (y : S1x11x768x64.Idx) :
    bdk (pq (iblk1 V c 0 t)) (pg (iblk1 V c 4 t)) (k1_pay11 (iblk1 V c 5 t)) (k1_pay12 (iblk1 V c 6 t)) (iblk1 V c 1 t) (iblk1 V c 3 t) X y
      = X y + ((∑ r : Fin 2048, dS Q K W G (4 * (t.val / 16) + r.val / 512) (512 * (t.val % 16) + r.val % 512) (768 * (y 1).val + (y 2).val)
          * (Q (512 * (t.val % 16) + r.val % 512) (64 * (4 * (t.val / 16) + r.val / 512) + (y 3).val) * 0.125) : ℝ) : EReal) := by
  refine (dk_block (iblk1 V c 0 t) (iblk1 V c 1 t) (iblk1 V c 3 t) (iblk1 V c 4 t) (iblk1 V c 5 t) (iblk1 V c 6 t) (fun a b => Q (512 * (t.val % 16) + a.val) (256 * (t.val / 16) + b.val) * 0.125) (fun a b => G (512 * (t.val % 16) + a.val) (256 * (t.val / 16) + b.val)) (fun j n d => K (768 * j + n.val) (64 * (t.val / 16) + d.val)) (fun j n d => W (768 * j + n.val) (64 * (t.val / 16) + d.val))
    (fun r => Real.log (Z Q K (4 * (t.val / 16) + r.val / 512) (512 * (t.val % 16) + r.val % 512))) (fun r => delta Q K W G (4 * (t.val / 16) + r.val / 512) (512 * (t.val % 16) + r.val % 512))
    (fun a b => (iblk1_0_at V c t a b).trans (hq _ _)) (fun j n d => (iblk1_1_at V c t j n d).trans (hk _ _ _ _)) (fun j n d => (iblk1_3_at V c t j n d).trans (hv _ _ _ _))
    (fun a b => (iblk1_4_at V c t a b).trans (hg _ _)) (fun r => (iblk1_5_at V c t r).trans (hl _ _ _)) (fun r => (iblk1_6_at V c t r).trans (he _ _ _)) X y).trans ?_
  refine congrArg (fun a : ℝ => X y + (a : EReal)) (Finset.sum_congr rfl fun r _ => ?_)
  refine congrArg₂ (· * ·) (rds_dS Q K W G (t.val / 16) (t.val % 16) (y 1).val (y 2) r) ?_
  show Q _ _ * 0.125 = _
  rw [show 64 * (4 * (t.val / 16) + r.val / 512) + (y 3).val = 256 * (t.val / 16) + (64 * (r.val / 512) + (y 3).val) by omega]

omit he hv in
/-- What a point adds to the value gradient's block, over the whole arrays. -/
theorem point_dv (t : Fin cfg1.N) (X : Vec Ideal S1x11x768x64 .f32) (y : S1x11x768x64.Idx) :
    bdv (pq (iblk1 V c 0 t)) (pg (iblk1 V c 4 t)) (k1_pay11 (iblk1 V c 5 t)) (iblk1 V c 1 t) X y
      = X y + ((∑ r : Fin 2048, P Q K (4 * (t.val / 16) + r.val / 512) (512 * (t.val % 16) + r.val % 512) (768 * (y 1).val + (y 2).val)
          * G (512 * (t.val % 16) + r.val % 512) (64 * (4 * (t.val / 16) + r.val / 512) + (y 3).val) : ℝ) : EReal) := by
  refine (dv_block (iblk1 V c 0 t) (iblk1 V c 1 t) (iblk1 V c 4 t) (iblk1 V c 5 t) (fun a b => Q (512 * (t.val % 16) + a.val) (256 * (t.val / 16) + b.val) * 0.125) (fun a b => G (512 * (t.val % 16) + a.val) (256 * (t.val / 16) + b.val)) (fun j n d => K (768 * j + n.val) (64 * (t.val / 16) + d.val))
    (fun r => Real.log (Z Q K (4 * (t.val / 16) + r.val / 512) (512 * (t.val % 16) + r.val % 512)))
    (fun a b => (iblk1_0_at V c t a b).trans (hq _ _)) (fun j n d => (iblk1_1_at V c t j n d).trans (hk _ _ _ _))
    (fun a b => (iblk1_4_at V c t a b).trans (hg _ _)) (fun r => (iblk1_5_at V c t r).trans (hl _ _ _)) X y).trans ?_
  refine congrArg (fun a : ℝ => X y + (a : EReal)) (Finset.sum_congr rfl fun r _ => ?_)
  refine congrArg₂ (· * ·) (rp_P Q K (t.val / 16) (t.val % 16) (y 1).val (y 2) r) ?_
  show G _ _ = _
  rw [show 64 * (4 * (t.val / 16) + r.val / 512) + (y 3).val = 256 * (t.val / 16) + (64 * (r.val / 512) + (y 3).val) by omega]

include hkt
/-- The gradient of the scaled queries. -/
theorem arr_dq : (dat1 V c).arrAt 7 cfg1.N = (fun i : S8192x1024.Idx => ((DQ Q K W G ((i 1).val / 64) (i 0).val ((i 1).val % 64) : ℝ) : EReal) : FVec Ideal S8192x1024 .f32) := by
  refine (dat1 V c).arrAt_eq_of_covers 7 _ (by decide +kernel) fun t _ y => ?_
  blk_simp
  have h7 : (outsAt1 V c t.val t.isLt).1 = k1_pay2 (bq (pq (iblk1 V c 0 t)) (pg (iblk1 V c 4 t)) (k1_pay11 (iblk1 V c 5 t)) (k1_pay12 (iblk1 V c 6 t)) (iblk1 V c 1 t) (iblk1 V c 2 t) (iblk1 V c 3 t) 11) := by
    by_cases h : t.val % 16 = 0
    · rw [outsAt1_A V c t h]; dsimp only; rw [(out1_A_eq ..).1]
    · rw [outsAt1_B V c t h]; dsimp only; rw [(out1_B_eq ..).1]
  rw [after1_7, h7]
  have b0 : (y 0).val < 512 := (y 0).isLt
  have b1 : (y 1).val < 256 := (y 1).isLt
  have hy : y = (ix2 (y 0) (y 1) : S512x256.Idx) := by
    funext a; apply Fin.ext; match a with
    | ⟨0, _⟩ => rfl
    | ⟨1, _⟩ => rfl
  refine ((congrArg _ hy).trans (dq_block (iblk1 V c 0 t) (iblk1 V c 1 t) (iblk1 V c 2 t) (iblk1 V c 3 t) (iblk1 V c 4 t) (iblk1 V c 5 t) (iblk1 V c 6 t) (fun a b => Q (512 * (t.val % 16) + a.val) (256 * (t.val / 16) + b.val) * 0.125) (fun a b => G (512 * (t.val % 16) + a.val) (256 * (t.val / 16) + b.val)) (fun j n d => K (768 * j + n.val) (64 * (t.val / 16) + d.val)) (fun j n d => W (768 * j + n.val) (64 * (t.val / 16) + d.val))
    (fun r => Real.log (Z Q K (4 * (t.val / 16) + r.val / 512) (512 * (t.val % 16) + r.val % 512))) (fun r => delta Q K W G (4 * (t.val / 16) + r.val / 512) (512 * (t.val % 16) + r.val % 512))
    (fun a b => (iblk1_0_at V c t a b).trans (hq _ _)) (fun j n d => (iblk1_1_at V c t j n d).trans (hk _ _ _ _)) (fun j d n => (iblk1_2_at V c t j d n).trans (hkt _ _ _ _)) (fun j n d => (iblk1_3_at V c t j n d).trans (hv _ _ _ _))
    (fun a b => (iblk1_4_at V c t a b).trans (hg _ _)) (fun r => (iblk1_5_at V c t r).trans (hl _ _ _)) (fun r => (iblk1_6_at V c t r).trans (he _ _ _)) (y 0) (y 1))).trans ?_
  refine congrArg (fun a : ℝ => (a : EReal)) ?_
  blk_simp [widx1 t]
  unfold DQ
  rw [← sum_bwd (fun n => K n _ * dS Q K W G _ _ n)]
  refine Finset.sum_congr rfl fun j _ => Finset.sum_congr rfl fun n _ => ?_
  refine congrArg₂ (· * ·) ?_ ((rds_dS Q K W G (t.val / 16) (t.val % 16) j n _).trans ?_)
  · dsimp only
    rw [show (t.val / 16 * 256 + (y 1).val) / 64 / 4 = t.val / 16 by omega, show (t.val / 16 * 256 + (y 1).val) % 64 = (y 1).val % 64 by omega]
  · dsimp only
    rw [show 4 * (t.val / 16) + (512 * ((y 1).val / 64) + (y 0).val) / 512 = (t.val / 16 * 256 + (y 1).val) / 64 by omega,
      show 512 * (t.val % 16) + (512 * ((y 1).val / 64) + (y 0).val) % 512 = t.val % 16 * 512 + (y 0).val by omega]

omit hkt in
/-- The gradient of the keys. -/
theorem arr_dk : (dat1 V c).arrAt 8 cfg1.N = (fun i : S4x11x768x64.Idx => ((DK Q K W G (i 0).val (768 * (i 1).val + (i 2).val) (i 3).val : ℝ) : EReal) : FVec Ideal S4x11x768x64 .f32) := by
  refine (dat1 V c).arrAt_eq_of_covers 8 _ (by decide +kernel) fun t hf y => ?_
  blk_simp
  rw [after1_8]
  have b0 : (y 0).val < 1 := (y 0).isLt
  refine (Pipeline.eq_sum_fin_of_reset_step_apply_of_flush (fun n h => ((outsAt1 V c n h).2.1 : S1x11x768x64.Idx → EReal)) 16 (fun _ => 0)
    (fun t y => ((∑ r : Fin 2048, dS Q K W G (4 * (t.val / 16) + r.val / 512) (512 * (t.val % 16) + r.val % 512) (768 * (y 1).val + (y 2).val)
          * (Q (512 * (t.val % 16) + r.val % 512) (64 * (4 * (t.val / 16) + r.val / 512) + (y 3).val) * 0.125) : ℝ) : EReal))
    (fun t h j => ?_) (fun t h j => ?_) t ((flush1_8 t).mp hf) y).trans ?_
  · dsimp only
    rw [outsAt1_A V c t h]; dsimp only; rw [(out1_A_eq ..).2.1, point_dk V c Q K W G hq hk hv hg hl he, zero7]
  · dsimp only
    rw [outsAt1_B V c t h]; dsimp only; rw [(out1_B_eq ..).2.1, point_dk V c Q K W G hq hk hv hg hl he]
  · rw [zero_add, sum_coe]
    refine congrArg (fun a : ℝ => (a : EReal)) ?_
    blk_simp [widx1 t]
    refine Eq.trans ?_ (sum_rows (fun h a => dS Q K W G (4 * (t.val / 16) + h) a (768 * (y 1).val + (y 2).val) * (Q a (64 * (4 * (t.val / 16) + h) + (y 3).val) * 0.125)))
    refine Finset.sum_congr rfl fun i _ => Finset.sum_congr rfl fun r _ => ?_
    have bi := i.isLt
    dsimp only
    rw [show (16 * (t.val / 16) + i.val) / 16 = t.val / 16 by omega, show (16 * (t.val / 16) + i.val) % 16 = i.val by omega]
omit hkt he hv in
/-- The gradient of the values. -/
theorem arr_dv : (dat1 V c).arrAt 9 cfg1.N = (fun i : S4x11x768x64.Idx => ((DV Q K G (i 0).val (768 * (i 1).val + (i 2).val) (i 3).val : ℝ) : EReal) : FVec Ideal S4x11x768x64 .f32) := by
  refine (dat1 V c).arrAt_eq_of_covers 9 _ (by decide +kernel) fun t hf y => ?_
  blk_simp
  rw [after1_9]
  have b0 : (y 0).val < 1 := (y 0).isLt
  refine (Pipeline.eq_sum_fin_of_reset_step_apply_of_flush (fun n h => ((outsAt1 V c n h).2.2 : S1x11x768x64.Idx → EReal)) 16 (fun _ => 0)
    (fun t y => ((∑ r : Fin 2048, P Q K (4 * (t.val / 16) + r.val / 512) (512 * (t.val % 16) + r.val % 512) (768 * (y 1).val + (y 2).val)
          * G (512 * (t.val % 16) + r.val % 512) (64 * (4 * (t.val / 16) + r.val / 512) + (y 3).val) : ℝ) : EReal))
    (fun t h j => ?_) (fun t h j => ?_) t ((flush1_9 t).mp hf) y).trans ?_
  · dsimp only
    rw [outsAt1_A V c t h]; dsimp only; rw [(out1_A_eq ..).2.2, point_dv V c Q K G hq hk hg hl, zero8]
  · dsimp only
    rw [outsAt1_B V c t h]; dsimp only; rw [(out1_B_eq ..).2.2, point_dv V c Q K G hq hk hg hl]
  · rw [zero_add, sum_coe]
    refine congrArg (fun a : ℝ => (a : EReal)) ?_
    blk_simp [widx1 t]
    refine Eq.trans ?_ (sum_rows (fun h a => P Q K (4 * (t.val / 16) + h) a (768 * (y 1).val + (y 2).val) * G a (64 * (4 * (t.val / 16) + h) + (y 3).val)))
    refine Finset.sum_congr rfl fun i _ => Finset.sum_congr rfl fun r _ => ?_
    have bi := i.isLt
    dsimp only
    rw [show (16 * (t.val / 16) + i.val) / 16 = t.val / 16 by omega, show (16 * (t.val / 16) + i.val) % 16 = i.val by omega]
end

end Cert.KernelIdeal.Flash
-- ==== Proof.FlashHost.lean ====
module

public import proofs.«01_k».proof.Proof.FlashArr
public import proofs.«01_k».proof.Proof.FlashArr1
public import Idealize.ShloMosaic.Lib.Claim
@[expose] public section

/-!
The host operations around the two regions, read at an entry: the arguments' real entries go into
the regions' arrays, and the regions' arrays into the four results.
-/

set_option maxRecDepth 16384

noncomputable section

open Idealize.ShloMosaic Idealize.ShloMosaic.TcCoe Idealize.SL.Sem
open Idealize.ShloMosaic.Pipeline (Dat)
namespace Cert.KernelIdeal.Flash
open Cert.KernelIdeal Cert.KernelIdeal.Gen Cert.Reals Cert.FlashSpec
variable (m : (ℓ : Loc nD τ sig) → Buf (Elt Ideal) ℓ) (ρ : Dev nD → PrngReg) (c : Dev nD)

/-- A heads-major view of a key-side array. -/
abbrev heads (x : FVec Ideal S8448x256 .f32) : FVec Ideal S4x8448x64 .bf16 :=
  transpose S4x8448x64 [1, 0, 2] (shapeCast S8448x4x64 (truncf .bf16 x bitsLt_bf16_f32) shapeCasts_S8448x256_S8448x4x64) transposes_S8448x4x64_S4x8448x64_1_0_2

theorem heads_at (x : FVec Ideal S8448x256 .f32) (g : Fin 4) (n : Fin 8448) (d : Fin 64) :
    heads x (ix3 g n d) = x (ix2 n ⟨64 * g.val + d.val, by omega⟩) := by
  pointwise [heads]
  exact congrArg x (congrArg (ix2 n) (Fin.ext (congrArg (· + d.val) (Nat.mul_comm _ _))))

theorem V1_v2 : (V1 m ρ c main_v2 : FVec Ideal S8192x1024 .bf16) = truncf .bf16 (mulf (m ((c : Thread nD τ).loc main_arg0)) (broadcastInDim S8192x1024 ![] bcast_S_S8192x1024 (constant (F := Ideal) S_ .f32 0x3E000000#32))) bitsLt_bf16_f32 := by
  show StableHlo.after hostOps0 (W0 m ρ c) (Proc.devRef .tc main_v2) = _
  entry_read
  rfl

theorem V1_v9 : (V1 m ρ c main_v9 : FVec Ideal S4x11x768x64 .bf16) = shapeCast S4x11x768x64 (heads (m ((c : Thread nD τ).loc main_arg1))) shapeCasts_S4x8448x64_S4x11x768x64 := by
  show StableHlo.after hostOps0 (W0 m ρ c) (Proc.devRef .tc main_v9) = _
  entry_read
  rfl

theorem V1_v10 : (V1 m ρ c main_v10 : FVec Ideal S4x11x768x64 .bf16) = shapeCast S4x11x768x64 (heads (m ((c : Thread nD τ).loc main_arg2))) shapeCasts_S4x8448x64_S4x11x768x64 := by
  show StableHlo.after hostOps0 (W0 m ρ c) (Proc.devRef .tc main_v10) = _
  entry_read
  rfl

theorem V1_v15 : (V1 m ρ c main_v15 : FVec Ideal S4x6x1408x64 .bf16) = shapeCast S4x6x1408x64 (heads (m ((c : Thread nD τ).loc main_arg1))) shapeCasts_S4x8448x64_S4x6x1408x64 := by
  show StableHlo.after hostOps0 (W0 m ρ c) (Proc.devRef .tc main_v15) = _
  entry_read
  rfl

/-- The values with their row of ones, as the host makes them. -/
abbrev vones (x : FVec Ideal S8448x256 .f32) : FVec Ideal S4x6x80x1408 .bf16 :=
  concatenate S4x6x80x1408 2 [⟨S4x6x64x1408, transpose S4x6x64x1408 [0, 1, 3, 2] (shapeCast S4x6x1408x64 (heads x) shapeCasts_S4x8448x64_S4x6x1408x64) transposes_S4x6x1408x64_S4x6x64x1408_0_1_3_2⟩, ⟨S4x6x16x1408, broadcastInDim S4x6x16x1408 ![] bcast_S_S4x6x16x1408 (constant (F := Ideal) S_ .bf16 0x3F80#16)⟩] concatenates_S4x6x64x1408_S4x6x16x1408_S4x6x80x1408_d2

theorem V1_v14 : (V1 m ρ c main_v14 : FVec Ideal S4x6x80x1408 .bf16) = vones (m ((c : Thread nD τ).loc main_arg2)) := by
  show StableHlo.after hostOps0 (W0 m ρ c) (Proc.devRef .tc main_v14) = _
  entry_read
  rfl

/-- The keys tile by tile, for the backward region. -/
theorem tiles_at (x : FVec Ideal S8448x256 .f32) (g : Fin 4) (j : Fin 11) (n : Fin 768) (d : Fin 64) :
    shapeCast S4x11x768x64 (heads x) shapeCasts_S4x8448x64_S4x11x768x64 (ix4 g j n d) = x (ix2 ⟨768 * j.val + n.val, by omega⟩ ⟨64 * g.val + d.val, by omega⟩) := by
  generalize hh : heads x = y
  pointwise []
  rw [← hh, heads_at]
  exact congrArg x (congrArg (ix2 · _) (Fin.ext (congrArg (· + n.val) (Nat.mul_comm _ _))))

/-- The keys tile by tile, for the forward region. -/
theorem tilesf_at (x : FVec Ideal S8448x256 .f32) (g : Fin 4) (j : Fin 6) (n : Fin 1408) (d : Fin 64) :
    shapeCast S4x6x1408x64 (heads x) shapeCasts_S4x8448x64_S4x6x1408x64 (ix4 g j n d) = x (ix2 ⟨1408 * j.val + n.val, by omega⟩ ⟨64 * g.val + d.val, by omega⟩) := by
  generalize hh : heads x = y
  pointwise []
  rw [← hh, heads_at]
  exact congrArg x (congrArg (ix2 · _) (Fin.ext (congrArg (· + n.val) (Nat.mul_comm _ _))))

theorem vones_at (x : FVec Ideal S8448x256 .f32) (g : Fin 4) (j : Fin 6) (d : Fin 80) (n : Fin 1408) :
    vones x (ix4 g j d n) = if h : d.val < 64 then x (ix2 ⟨1408 * j.val + n.val, by omega⟩ ⟨64 * g.val + d.val, by omega⟩) else 1 := by
  unfold vones
  generalize hh : shapeCast S4x6x1408x64 (heads x) shapeCasts_S4x8448x64_S4x6x1408x64 = y
  pointwise []
  rw [← hh]
  split_ifs with h
  · exact tilesf_at x g j n ⟨d.val, h⟩
  · rfl

theorem V3_v2 : V3 m ρ c main_v2 = V1 m ρ c main_v2 := (W3_of m ρ c main_v2 (by decide)).trans (W2_of m ρ c main_v2 (by decide))
theorem V3_v9 : V3 m ρ c main_v9 = V1 m ρ c main_v9 := (W3_of m ρ c main_v9 (by decide)).trans (W2_of m ρ c main_v9 (by decide))
theorem V3_v10 : V3 m ρ c main_v10 = V1 m ρ c main_v10 := (W3_of m ρ c main_v10 (by decide)).trans (W2_of m ρ c main_v10 (by decide))
theorem V3_v16_1 : V3 m ρ c main_v16_1 = (dat0 (V1 m ρ) c).arrAt 4 cfg0.N := (W3_of m ρ c main_v16_1 (by decide)).trans (W2_arr m ρ c 4)
theorem V3_v20 : (V3 m ρ c main_v20 : FVec Ideal S4x11x64x768 .bf16) = transpose S4x11x64x768 [0, 1, 3, 2] (V1 m ρ c main_v9 : FVec Ideal S4x11x768x64 .bf16) transposes_S4x11x768x64_S4x11x64x768_0_1_3_2 := by
  have h : W2 m ρ c (Proc.devRef .tc main_v9) = V1 m ρ c main_v9 := W2_of m ρ c main_v9 (by decide)
  rw [← h]
  show StableHlo.after hostOps1 (W2 m ρ c) (Proc.devRef .tc main_v20) = _
  generalize W2 m ρ c = σ
  entry_read
  rfl
/-- The cotangent, narrowed. -/
abbrev narrow (x : FVec Ideal S8192x1024 .f32) : FVec Ideal S8192x1024 .bf16 := truncf .bf16 x bitsLt_bf16_f32
theorem V3_v21 : (V3 m ρ c main_v21 : FVec Ideal S8192x1024 .bf16) = narrow (m ((c : Thread nD τ).loc main_arg3)) := by
  have h : W2 m ρ c (Proc.devRef .tc main_arg3) = m ((c : Thread nD τ).loc main_arg3) := W2_args m ρ c _ (by decide)
  rw [← h]
  show StableHlo.after hostOps1 (W2 m ρ c) (Proc.devRef .tc main_v21) = _
  generalize W2 m ρ c = σ
  entry_read
  rfl

/-- The row sums of the cotangent against the result, in the backward region's order. -/
abbrev deltas (g o : FVec Ideal S8192x1024 .f32) : FVec Ideal S4x16x1x2048 .f32 :=
  shapeCast S4x16x1x2048 (transpose S4x16x4x512 [2, 0, 3, 1] (shapeCast S16x512x4x4 (Host.reduceAdd (shapeCast S8192x16x64 (mulf g o) shapeCasts_S8192x1024_S8192x16x64) (constant (F := Ideal) S_ .f32 0x00000000#32) reducesTo_S8192x16x64_S8192x16_d2 h_S_) shapeCasts_S8192x16_S16x512x4x4) transposes_S16x512x4x4_S4x16x4x512_2_0_3_1) shapeCasts_S4x16x4x512_S4x16x1x2048

theorem V3_v24 : (V3 m ρ c main_v24 : FVec Ideal S4x16x1x2048 .f32) = deltas (m ((c : Thread nD τ).loc main_arg3)) ((dat0 (V1 m ρ) c).arrAt 3 cfg0.N) := by
  have h : W2 m ρ c (Proc.devRef .tc main_arg3) = m ((c : Thread nD τ).loc main_arg3) := W2_args m ρ c _ (by decide)
  have h2 : W2 m ρ c (Proc.devRef .tc main_v16_0) = (dat0 (V1 m ρ) c).arrAt 3 cfg0.N := W2_arr m ρ c 3
  rw [← h, ← h2]
  show StableHlo.after hostOps1 (W2 m ρ c) (Proc.devRef .tc main_v24) = _
  generalize W2 m ρ c = σ
  entry_read
  rfl

theorem deltas_at (g o : FVec Ideal S8192x1024 .f32) (i : Fin 4) (j : Fin 16) (r : Fin 2048) :
    deltas g o (ix4 i j 0 r) = ∑ d : Fin 64, g (ix2 ⟨512 * j.val + r.val % 512, by omega⟩ ⟨64 * (4 * i.val + r.val / 512) + d.val, by omega⟩) * o (ix2 ⟨512 * j.val + r.val % 512, by omega⟩ ⟨64 * (4 * i.val + r.val / 512) + d.val, by omega⟩) := by
  pointwise [deltas]
  refine Finset.sum_congr rfl fun d _ => ?_
  have e : ∀ h h' h'' h''', (ix2 ⟨j.val * 512 + r.val % 512, h⟩ ⟨(i.val * 4 + r.val / 512) * 64 + d.val, h'⟩ : S8192x1024.Idx) = ix2 ⟨512 * j.val + r.val % 512, h''⟩ ⟨64 * (4 * i.val + r.val / 512) + d.val, h'''⟩ :=
    fun _ _ _ _ => congrArg₂ ix2 (Fin.ext (by dsimp only; omega)) (Fin.ext (by dsimp only; omega))
  rw [e]

theorem W5_o : W5 m ρ c (Proc.devRef .tc main_v16_0) = (dat0 (V1 m ρ) c).arrAt 3 cfg0.N :=
  (W5_of m ρ c main_v16_0 (by decide)).trans ((W4_of m ρ c main_v16_0 (by decide)).trans ((W3_of m ρ c main_v16_0 (by decide)).trans (W2_arr m ρ c 3)))
theorem W5_dq : (W5 m ρ c (Proc.devRef .tc main_v27) : FVec Ideal S8192x1024 .f32) = mulf ((dat1 (V3 m ρ) c).arrAt 7 cfg1.N : FVec Ideal S8192x1024 .f32) (broadcastInDim S8192x1024 ![] bcast_S_S8192x1024 (constant (F := Ideal) S_ .f32 0x3E000000#32)) := by
  have h : W4 m ρ c (Proc.devRef .tc main_v25_0) = (dat1 (V3 m ρ) c).arrAt 7 cfg1.N := W4_arr m ρ c 7
  rw [← h]
  show StableHlo.after hostOps2 (W4 m ρ c) (Proc.devRef .tc main_v27) = _
  generalize W4 m ρ c = σ
  entry_read
  rfl
/-- A key-side gradient in the arguments' layout. -/
abbrev keysMajor (x : FVec Ideal S4x11x768x64 .f32) : FVec Ideal S8448x256 .f32 :=
  shapeCast S8448x256 (transpose S8448x4x64 [1, 0, 2] (shapeCast S4x8448x64 x shapeCasts_S4x11x768x64_S4x8448x64) transposes_S4x8448x64_S8448x4x64_1_0_2) shapeCasts_S8448x4x64_S8448x256
theorem keysMajor_at (x : FVec Ideal S4x11x768x64 .f32) (n : Fin 8448) (l : Fin 256) :
    keysMajor x (ix2 n l) = x (ix4 ⟨l.val / 64, by omega⟩ ⟨n.val / 768, by omega⟩ ⟨n.val % 768, by omega⟩ ⟨l.val % 64, by omega⟩) := by
  pointwise [keysMajor]
theorem W5_dk : (W5 m ρ c (Proc.devRef .tc main_v30) : FVec Ideal S8448x256 .f32) = keysMajor ((dat1 (V3 m ρ) c).arrAt 8 cfg1.N : FVec Ideal S4x11x768x64 .f32) := by
  have h : W4 m ρ c (Proc.devRef .tc main_v25_1) = (dat1 (V3 m ρ) c).arrAt 8 cfg1.N := W4_arr m ρ c 8
  rw [← h]
  show StableHlo.after hostOps2 (W4 m ρ c) (Proc.devRef .tc main_v30) = _
  generalize W4 m ρ c = σ
  entry_read
  rfl
theorem W5_dv : (W5 m ρ c (Proc.devRef .tc main_v33) : FVec Ideal S8448x256 .f32) = keysMajor ((dat1 (V3 m ρ) c).arrAt 9 cfg1.N : FVec Ideal S4x11x768x64 .f32) := by
  have h : W4 m ρ c (Proc.devRef .tc main_v25_2) = (dat1 (V3 m ρ) c).arrAt 9 cfg1.N := W4_arr m ρ c 9
  rw [← h]
  show StableHlo.after hostOps2 (W4 m ρ c) (Proc.devRef .tc main_v33) = _
  generalize W4 m ρ c = σ
  entry_read
  rfl

theorem eighth : Ideal.ofBits .f32 0x3E000000#32 = ((0.125 : ℝ) : EReal) := by
  simp [Ideal.ofBits, Ideal.ieee]; rw [← EReal.coe_mul]; norm_num

section
variable (Q K W G : ℕ → ℕ → ℝ)
  (fq : ∀ (a : Fin 8192) (b : Fin 1024), (m ((c : Thread nD τ).loc main_arg0) : FVec Ideal S8192x1024 .f32) (ix2 a b) = ((Q a.val b.val : ℝ) : EReal))
  (fk : ∀ (a : Fin 8448) (b : Fin 256), (m ((c : Thread nD τ).loc main_arg1) : FVec Ideal S8448x256 .f32) (ix2 a b) = ((K a.val b.val : ℝ) : EReal))
  (fv : ∀ (a : Fin 8448) (b : Fin 256), (m ((c : Thread nD τ).loc main_arg2) : FVec Ideal S8448x256 .f32) (ix2 a b) = ((W a.val b.val : ℝ) : EReal))
  (fg : ∀ (a : Fin 8192) (b : Fin 1024), (m ((c : Thread nD τ).loc main_arg3) : FVec Ideal S8192x1024 .f32) (ix2 a b) = ((G a.val b.val : ℝ) : EReal))

include fq in
theorem in_q (a : Fin 8192) (b : Fin 1024) : (V1 m ρ c main_v2 : FVec Ideal S8192x1024 .bf16) (ix2 a b) = ((Q a.val b.val * 0.125 : ℝ) : EReal) := by
  rw [V1_v2, EReal.coe_mul, ← fq, ← eighth]
  rfl
include fk in
theorem in_k9 (g : Fin 4) (j : Fin 11) (n : Fin 768) (d : Fin 64) : (V1 m ρ c main_v9 : FVec Ideal S4x11x768x64 .bf16) (ix4 g j n d) = ((K (768 * j.val + n.val) (64 * g.val + d.val) : ℝ) : EReal) := by
  rw [V1_v9, tiles_at]; exact fk _ _
include fv in
theorem in_v10 (g : Fin 4) (j : Fin 11) (n : Fin 768) (d : Fin 64) : (V1 m ρ c main_v10 : FVec Ideal S4x11x768x64 .bf16) (ix4 g j n d) = ((W (768 * j.val + n.val) (64 * g.val + d.val) : ℝ) : EReal) := by
  rw [V1_v10, tiles_at]; exact fv _ _
include fk in
theorem in_k15 (g : Fin 4) (j : Fin 6) (n : Fin 1408) (d : Fin 64) : (V1 m ρ c main_v15 : FVec Ideal S4x6x1408x64 .bf16) (ix4 g j n d) = ((K (1408 * j.val + n.val) (64 * g.val + d.val) : ℝ) : EReal) := by
  rw [V1_v15, tilesf_at]; exact fk _ _
include fv in
theorem in_v14 (g : Fin 4) (j : Fin 6) (d : Fin 80) (n : Fin 1408) : (V1 m ρ c main_v14 : FVec Ideal S4x6x80x1408 .bf16) (ix4 g j d n) = ((vone W g.val j.val d n : ℝ) : EReal) := by
  rw [V1_v14, vones_at]
  unfold vone
  split_ifs with h
  · exact fv _ _
  · rfl

include fq fk fv
theorem out_o : (W5 m ρ c (Proc.devRef .tc main_v16_0) : FVec Ideal S8192x1024 .f32) = fun i : S8192x1024.Idx => ((O Q K W ((i 1).val / 64) (i 0).val ((i 1).val % 64) : ℝ) : EReal) :=
  (W5_o m ρ c).trans (arr_o (V1 m ρ) c Q K W (in_q m ρ c Q fq) (in_k15 m ρ c K fk) (in_v14 m ρ c W fv))

theorem in_lse (g : Fin 4) (i : Fin 16) (r : Fin 2048) : (V3 m ρ c main_v16_1 : FVec Ideal S4x16x1x2048 .f32) (ix4 g i 0 r) = ((Real.log (Z Q K (4 * g.val + r.val / 512) (512 * i.val + r.val % 512)) : ℝ) : EReal) := by
  rw [V3_v16_1, arr_lse (V1 m ρ) c Q K W (in_q m ρ c Q fq) (in_k15 m ρ c K fk) (in_v14 m ρ c W fv)]
  rfl

include fg
theorem in_delta (g : Fin 4) (i : Fin 16) (r : Fin 2048) : (V3 m ρ c main_v24 : FVec Ideal S4x16x1x2048 .f32) (ix4 g i 0 r) = ((delta Q K W G (4 * g.val + r.val / 512) (512 * i.val + r.val % 512) : ℝ) : EReal) := by
  refine (congrFun ((V3_v24 m ρ c).trans (congrArg (deltas _) (arr_o (V1 m ρ) c Q K W (in_q m ρ c Q fq) (in_k15 m ρ c K fk) (in_v14 m ρ c W fv)))) _).trans ((deltas_at _ _ g i r).trans ?_)
  unfold delta
  refine Eq.trans (Finset.sum_congr rfl fun d _ => ?_) (sum_coe Finset.univ (fun d : Fin 64 => G (512 * i.val + r.val % 512) (64 * (4 * g.val + r.val / 512) + d.val) * O Q K W (4 * g.val + r.val / 512) (512 * i.val + r.val % 512) d.val))
  rw [fg, EReal.coe_mul]
  have := d.isLt
  show _ * ((O Q K W ((64 * (4 * g.val + r.val / 512) + d.val) / 64) (512 * i.val + r.val % 512) ((64 * (4 * g.val + r.val / 512) + d.val) % 64) : ℝ) : EReal) = _
  rw [show (64 * (4 * g.val + r.val / 512) + d.val) / 64 = 4 * g.val + r.val / 512 by omega, show (64 * (4 * g.val + r.val / 512) + d.val) % 64 = d.val by omega]

omit fq fk fv in
theorem in_g (a : Fin 8192) (b : Fin 1024) : (V3 m ρ c main_v21 : FVec Ideal S8192x1024 .bf16) (ix2 a b) = ((G a.val b.val : ℝ) : EReal) := by
  rw [V3_v21, ← fg]; rfl

omit fq fv fg in
theorem in_kt (g : Fin 4) (j : Fin 11) (d : Fin 64) (n : Fin 768) : (V3 m ρ c main_v20 : FVec Ideal S4x11x64x768 .bf16) (ix4 g j d n) = ((K (768 * j.val + n.val) (64 * g.val + d.val) : ℝ) : EReal) := by
  rw [V3_v20, ← in_k9 m ρ c K fk]
  generalize (V1 m ρ c main_v9 : FVec Ideal S4x11x768x64 .bf16) = y
  pointwise []

theorem out_dq : (W5 m ρ c (Proc.devRef .tc main_v27) : FVec Ideal S8192x1024 .f32) = fun i : S8192x1024.Idx => ((DQ Q K W G ((i 1).val / 64) (i 0).val ((i 1).val % 64) * 0.125 : ℝ) : EReal) := by
  rw [W5_dq, arr_dq (V3 m ρ) c Q K W G (by rw [V3_v2]; exact in_q m ρ c Q fq) (by rw [V3_v9]; exact in_k9 m ρ c K fk) (in_kt m ρ c K fk) (by rw [V3_v10]; exact in_v10 m ρ c W fv)
    (in_g m ρ c G fg) (in_lse m ρ c Q K W fq fk fv) (in_delta m ρ c Q K W G fq fk fv fg)]
  funext i
  rw [EReal.coe_mul, ← eighth]
  rfl

theorem out_dk : (W5 m ρ c (Proc.devRef .tc main_v30) : FVec Ideal S8448x256 .f32) = fun i : S8448x256.Idx => ((DK Q K W G ((i 1).val / 64) (i 0).val ((i 1).val % 64) : ℝ) : EReal) := by
  rw [W5_dk, arr_dk (V3 m ρ) c Q K W G (by rw [V3_v2]; exact in_q m ρ c Q fq) (by rw [V3_v9]; exact in_k9 m ρ c K fk) (by rw [V3_v10]; exact in_v10 m ρ c W fv)
    (in_g m ρ c G fg) (in_lse m ρ c Q K W fq fk fv) (in_delta m ρ c Q K W G fq fk fv fg)]
  funext i
  obtain ⟨a, b, rfl⟩ : ∃ a b, i = (ix2 a b : S8448x256.Idx) := ⟨i 0, i 1, by funext x; match x with | ⟨0, _⟩ => rfl | ⟨1, _⟩ => rfl⟩
  rw [keysMajor_at]
  show ((DK Q K W G (b.val / 64) (768 * (a.val / 768) + a.val % 768) (b.val % 64) : ℝ) : EReal) = ((DK Q K W G (b.val / 64) a.val (b.val % 64) : ℝ) : EReal)
  rw [Nat.div_add_mod]

theorem out_dv : (W5 m ρ c (Proc.devRef .tc main_v33) : FVec Ideal S8448x256 .f32) = fun i : S8448x256.Idx => ((DV Q K G ((i 1).val / 64) (i 0).val ((i 1).val % 64) : ℝ) : EReal) := by
  rw [W5_dv, arr_dv (V3 m ρ) c Q K G (by rw [V3_v2]; exact in_q m ρ c Q fq) (by rw [V3_v9]; exact in_k9 m ρ c K fk)
    (in_g m ρ c G fg) (in_lse m ρ c Q K W fq fk fv)]
  funext i
  obtain ⟨a, b, rfl⟩ : ∃ a b, i = (ix2 a b : S8448x256.Idx) := ⟨i 0, i 1, by funext x; match x with | ⟨0, _⟩ => rfl | ⟨1, _⟩ => rfl⟩
  rw [keysMajor_at]
  show ((DV Q K G (b.val / 64) (768 * (a.val / 768) + a.val % 768) (b.val % 64) : ℝ) : EReal) = ((DV Q K G (b.val / 64) a.val (b.val % 64) : ℝ) : EReal)
  rw [Nat.div_add_mod]
end

end Cert.KernelIdeal.Flash
-- ==== Proof.FlashRef.lean ====
module

public import proofs.«01_k».proof.Proof.Gen.ReferenceIdeal.Read
public import proofs.«01_k».proof.Proof.FlashSpec
public import proofs.«01_k».proof.Proof.FlashHost
@[expose] public section

/-!
The reference's attention, stage by stage over real arguments: whatever real number the row maximum
is, the softmax and its gradient are those of the specification.
-/

set_option maxRecDepth 16384

noncomputable section

open Idealize.ShloMosaic Idealize.SL.Sem
namespace Cert.ReferenceIdeal.Flash
open Cert.ReferenceIdeal Cert.ReferenceIdeal.Gen Cert.ReferenceIdeal.Read Cert.Reals Cert.FlashSpec

/-- A maximum over the last axis, over any sizes. -/
theorem lastmax_at {n0 n1 n2 n3 : ℕ} (w : FVec Ideal ⟨4, ![n0, n1, n2, n3]⟩ .f32) (h : (⟨4, ![n0, n1, n2, n3]⟩ : Shape).ReducesTo [3] ⟨3, ![n0, n1, n2]⟩)
    (hu : 0 < S_.numel) (a : Fin n0) (b : Fin n1) (c : Fin n2) :
    Host.reduce FloatOps.maximumf w (constant (F := Ideal) S_ .f32 0xFF800000#32) h hu (ix3 a b c)
      = Finset.fold max (Ideal.ofBits FTy.f32 0xFF800000#32) (fun n : Fin n3 => w (ix4 a b c n)) Finset.univ := by
  pointwise []

/-- A maximum from minus infinity over a last axis of reals is a real. -/
theorem lastmax_real {n0 n1 n2 n3 : ℕ} (w : FVec Ideal ⟨4, ![n0, n1, n2, n3]⟩ .f32) (h : (⟨4, ![n0, n1, n2, n3]⟩ : Shape).ReducesTo [3] ⟨3, ![n0, n1, n2]⟩)
    (hu : 0 < S_.numel) (a : Fin n0) (b : Fin n1) (c : Fin n2) (f : Fin n3 → ℝ) (e : ∀ n, w (ix4 a b c n) = ((f n : ℝ) : EReal)) (h3 : 0 < n3) :
    ∃ B : ℝ, Host.reduce FloatOps.maximumf w (constant (F := Ideal) S_ .f32 0xFF800000#32) h hu (ix3 a b c) = ((B : ℝ) : EReal) := by
  obtain ⟨k, rfl⟩ : ∃ k, n3 = k + 1 := ⟨n3 - 1, by omega⟩
  obtain ⟨B, hB⟩ := Cert.KernelIdeal.Flash.fold_max_real f
  refine ⟨B, (lastmax_at w h hu a b c).trans ?_⟩
  rw [Cert.KernelIdeal.Flash.ofBits_ninf, ← hB]
  exact congrArg (fun f => Finset.fold max (⊥ : EReal) f Finset.univ) (funext e)

theorem bits_zero : Ideal.ofBits .f32 0x00000000#32 = 0 := by simp [Ideal.ofBits, Ideal.ieee]
theorem bits_one : Ideal.ofBits .f32 0x3F800000#32 = ((1 : ℝ) : EReal) := by
  simp [Ideal.ofBits, Ideal.ieee]; rw [← EReal.coe_mul]; norm_num

section
variable (x0 : FVec Ideal S8192x1024 .f32) (x1 x2 : FVec Ideal S8448x256 .f32) (x3 : FVec Ideal S8192x1024 .f32)
  (Q K W G : ℕ → ℕ → ℝ)
  (fq : ∀ (a : Fin 8192) (b : Fin 1024), x0 (ix2 a b) = ((Q a.val b.val : ℝ) : EReal))
  (fk : ∀ (a : Fin 8448) (b : Fin 256), x1 (ix2 a b) = ((K a.val b.val : ℝ) : EReal))
  (fv : ∀ (a : Fin 8448) (b : Fin 256), x2 (ix2 a b) = ((W a.val b.val : ℝ) : EReal))
  (fg : ∀ (a : Fin 8192) (b : Fin 1024), x3 (ix2 a b) = ((G a.val b.val : ℝ) : EReal))

theorem q_at (a : Fin 8192) (g h : Fin 4) (d : Fin 64) :
    val_main_v0 (F := Ideal) x0 (ix4 a g h d) = x0 (ix2 a ⟨64 * (4 * g.val + h.val) + d.val, by omega⟩) := by
  pointwise [val_main_v0]
  exact congrArg x0 (congrArg (ix2 a) (Fin.ext (by dsimp only; omega)))
theorem do_at (a : Fin 8192) (g h : Fin 4) (d : Fin 64) :
    val_main_v38 (F := Ideal) x3 (ix4 a g h d) = x3 (ix2 a ⟨64 * (4 * g.val + h.val) + d.val, by omega⟩) := by
  pointwise [val_main_v38]
  exact congrArg x3 (congrArg (ix2 a) (Fin.ext (by dsimp only; omega)))
theorem k_at (n : Fin 8448) (g : Fin 4) (d : Fin 64) :
    val_main_v1 (F := Ideal) x1 (ix3 n g d) = x1 (ix2 n ⟨64 * g.val + d.val, by omega⟩) := by
  pointwise [val_main_v1]
  exact congrArg x1 (congrArg (ix2 n) (Fin.ext (by dsimp only; omega)))
theorem v_at (n : Fin 8448) (g : Fin 4) (d : Fin 64) :
    val_main_v2 (F := Ideal) x2 (ix3 n g d) = x2 (ix2 n ⟨64 * g.val + d.val, by omega⟩) := by
  pointwise [val_main_v2]
  exact congrArg x2 (congrArg (ix2 n) (Fin.ext (by dsimp only; omega)))

include fq fk in
/-- The reference's scores. -/
theorem score_at (g h : Fin 4) (a : Fin 8192) (n : Fin 8448) :
    val_main_v6 (F := Ideal) x0 x1 (ix4 g h a n) = ((sc Q K (4 * g.val + h.val) a.val n.val : ℝ) : EReal) := by
  have e : ∀ d : Fin 64, val_main_v1 (F := Ideal) x1 (ix3 n g d) * val_main_v0 (F := Ideal) x0 (ix4 a g h d)
      = ((K n.val (64 * g.val + d.val) * Q a.val (64 * (4 * g.val + h.val) + d.val) : ℝ) : EReal) := fun d => by
    rw [q_at, k_at, fq, fk, ← EReal.coe_mul]
  unfold val_main_v6 val_main_v4 val_main_v3
  generalize val_main_v0 (F := Ideal) x0 = q at e ⊢
  generalize val_main_v1 (F := Ideal) x1 = k at e ⊢
  pointwise [val_main_v5, val_main_cst]
  rw [Finset.sum_congr rfl fun d _ => e d, sum_coe, Cert.KernelIdeal.Flash.eighth, ← EReal.coe_mul]
  refine congrArg _ ?_
  unfold sc
  rw [Finset.sum_mul]
  refine Finset.sum_congr rfl fun d _ => ?_
  rw [show (4 * g.val + h.val) / 4 = g.val by omega, mul_assoc]

include fq fk in
theorem max7_real (g h : Fin 4) (a : Fin 8192) : ∃ B : ℝ, val_main_v7 (F := Ideal) x0 x1 (ix3 g h a) = ((B : ℝ) : EReal) := by
  have e := score_at x0 x1 Q K fq fk g h a
  unfold val_main_v7
  generalize val_main_v6 (F := Ideal) x0 x1 = y at e ⊢
  exact lastmax_real y _ _ g h a _ e (by norm_num)

theorem max14_at (g h : Fin 4) (a : Fin 8192) (B : ℝ) (e : val_main_v7 (F := Ideal) x0 x1 (ix3 g h a) = ((B : ℝ) : EReal)) :
    val_main_v14 (F := Ideal) x0 x1 (ix3 g h a) = ((B : ℝ) : EReal) := by
  have e13 : val_main_v13 (F := Ideal) (ix3 g h a) = (⊥ : EReal) :=
    (val_main_v13_apply (F := Ideal) (ix3 g h a)).trans Cert.KernelIdeal.Flash.ofBits_ninf
  rw [val_main_v14_apply, e, e13]
  exact max_eq_right (bot_le (a := ((B : ℝ) : EReal)))

include fq fk in
/-- The row maxima are real numbers. -/
theorem max_real : ∃ M : Fin 4 → Fin 4 → Fin 8192 → ℝ, ∀ g h a, val_main_v14 (F := Ideal) x0 x1 (ix3 g h a) = ((M g h a : ℝ) : EReal) := by
  have : ∀ g h a, ∃ B : ℝ, val_main_v14 (F := Ideal) x0 x1 (ix3 g h a) = ((B : ℝ) : EReal) := fun g h a =>
    (max7_real x0 x1 Q K fq fk g h a).imp fun B e => max14_at x0 x1 g h a B e
  choose M hM using this
  exact ⟨M, hM⟩

variable (M : Fin 4 → Fin 4 → Fin 8192 → ℝ)
  (hM : ∀ g h a, val_main_v14 (F := Ideal) x0 x1 (ix3 g h a) = ((M g h a : ℝ) : EReal))

/-- The exponential of a score from its row's maximum. -/
def ex (g h : Fin 4) (a : Fin 8192) (n : Fin 8448) : ℝ := Real.exp (sc Q K (4 * g.val + h.val) a.val n.val - M g h a)
/-- A row's sum of exponentials. -/
def zs (g h : Fin 4) (a : Fin 8192) : ℝ := ∑ n : Fin 8448, ex Q K M g h a n

theorem ex_eq (g h : Fin 4) (a : Fin 8192) (n : Fin 8448) :
    ex Q K M g h a n = Real.exp (sc Q K (4 * g.val + h.val) a.val n.val) * Real.exp (-M g h a) := by
  unfold ex; rw [sub_eq_add_neg, Real.exp_add]
theorem zs_eq (g h : Fin 4) (a : Fin 8192) : zs Q K M g h a = Z Q K (4 * g.val + h.val) a.val * Real.exp (-M g h a) := by
  unfold zs Z; rw [Finset.sum_mul]; exact Finset.sum_congr rfl fun n _ => ex_eq Q K M g h a n
theorem zs_ne (g h : Fin 4) (a : Fin 8192) : zs Q K M g h a ≠ 0 := by
  rw [zs_eq]; exact mul_ne_zero (Z_pos Q K _ _).ne' (Real.exp_pos _).ne'
theorem ex_div (g h : Fin 4) (a : Fin 8192) (n : Fin 8448) :
    ex Q K M g h a n / zs Q K M g h a = P Q K (4 * g.val + h.val) a.val n.val := by
  unfold P; rw [ex_eq, zs_eq, mul_div_mul_right _ _ (Real.exp_pos _).ne']

include fq fk hM in
theorem exp_at (g h : Fin 4) (a : Fin 8192) (n : Fin 8448) :
    val_main_v27 (F := Ideal) x0 x1 (ix4 g h a n) = ((ex Q K M g h a n : ℝ) : EReal) := by
  have e := score_at x0 x1 Q K fq fk g h a n
  have f := hM g h a
  unfold val_main_v27 val_main_v26 val_main_v25 val_main_v24
  generalize val_main_v6 (F := Ideal) x0 x1 = y at e ⊢
  generalize val_main_v14 (F := Ideal) x0 x1 = z at f ⊢
  pointwise []
  rw [e, f, ← EReal.coe_sub, exp_coe]
  rfl

include fq fk hM in
theorem zs_at (g h : Fin 4) (a : Fin 8192) :
    val_main_v28 (F := Ideal) x0 x1 (ix3 g h a) = ((zs Q K M g h a : ℝ) : EReal) := by
  have e := exp_at x0 x1 Q K fq fk M hM g h a
  unfold val_main_v28
  generalize val_main_v27 (F := Ideal) x0 x1 = y at e ⊢
  pointwise []
  rw [Finset.sum_congr rfl fun n _ => e n, sum_coe]
  exact (congrArg (· + _) bits_zero).trans (zero_add _)

include fq fk hM in
theorem zrow_at (g h : Fin 4) (a : Fin 8192) (u : Fin 1) :
    val_main_v29 (F := Ideal) x0 x1 (ix4 g h a u) = ((zs Q K M g h a : ℝ) : EReal) := by
  have e := zs_at x0 x1 Q K fq fk M hM g h a
  unfold val_main_v29
  generalize val_main_v28 (F := Ideal) x0 x1 = y at e ⊢
  pointwise []
  exact e

include fq fk hM in
/-- The reference's softmax. -/
theorem prob_at (g h : Fin 4) (a : Fin 8192) (n : Fin 8448) :
    val_main_v31 (F := Ideal) x0 x1 (ix4 g h a n) = ((P Q K (4 * g.val + h.val) a.val n.val : ℝ) : EReal) := by
  have e := exp_at x0 x1 Q K fq fk M hM g h a n
  have f := zrow_at x0 x1 Q K fq fk M hM g h a 0
  unfold val_main_v31 val_main_v30
  generalize val_main_v27 (F := Ideal) x0 x1 = y at e ⊢
  generalize val_main_v29 (F := Ideal) x0 x1 = z at f ⊢
  pointwise []
  refine (congrArg₂ (fun u v => Ideal.div u v) e f).trans ?_
  rw [div_coe _ _ (zs_ne Q K M g h a), ex_div]

include fq fk fv hM in
/-- The reference's output. -/
theorem o_at (a : Fin 8192) (l : Fin 1024) :
    val_main_v37 (F := Ideal) x0 x1 x2 (ix2 a l) = ((O Q K W (l.val / 64) a.val (l.val % 64) : ℝ) : EReal) := by
  have e : ∀ n : Fin 8448, val_main_v2 (F := Ideal) x2 (ix3 n ⟨l.val / 256, by omega⟩ ⟨l.val % 64, by omega⟩) * val_main_v31 (F := Ideal) x0 x1 (ix4 ⟨l.val / 256, by omega⟩ ⟨l.val / 64 % 4, by omega⟩ a n)
      = ((W n.val (64 * (l.val / 256) + l.val % 64) * P Q K (l.val / 64) a.val n.val : ℝ) : EReal) := fun n => by
    rw [v_at, fv, prob_at x0 x1 Q K fq fk M hM, ← EReal.coe_mul]
    refine congrArg _ (congrArg₂ (· * ·) rfl ?_)
    rw [show 4 * (l.val / 256) + l.val / 64 % 4 = l.val / 64 by omega]
  unfold val_main_v37 val_main_v36 val_main_v35
  generalize val_main_v2 (F := Ideal) x2 = y at e ⊢
  generalize val_main_v31 (F := Ideal) x0 x1 = z at e ⊢
  pointwise []
  rw [Finset.sum_congr rfl fun n _ => e n, sum_coe]
  refine congrArg _ ?_
  unfold O P
  rw [Finset.sum_div]
  refine Finset.sum_congr rfl fun n _ => ?_
  rw [mul_div_assoc, show l.val / 64 / 4 = l.val / 256 by omega]

include fv fg in
theorem dp_at (g h : Fin 4) (a : Fin 8192) (n : Fin 8448) :
    val_main_v40 (F := Ideal) x2 x3 (ix4 g h a n) = ((dP W G (4 * g.val + h.val) a.val n.val : ℝ) : EReal) := by
  have e : ∀ d : Fin 64, val_main_v38 (F := Ideal) x3 (ix4 a g h d) * val_main_v2 (F := Ideal) x2 (ix3 n g d)
      = ((G a.val (64 * (4 * g.val + h.val) + d.val) * W n.val (64 * g.val + d.val) : ℝ) : EReal) := fun d => by
    rw [do_at, v_at, fg, fv, ← EReal.coe_mul]
  unfold val_main_v40 val_main_v39
  generalize val_main_v38 (F := Ideal) x3 = q at e ⊢
  generalize val_main_v2 (F := Ideal) x2 = k at e ⊢
  pointwise []
  rw [Finset.sum_congr rfl fun d _ => e d, sum_coe]
  refine congrArg _ ?_
  unfold dP
  refine Finset.sum_congr rfl fun d _ => ?_
  rw [show (4 * g.val + h.val) / 4 = g.val by omega, mul_comm]

/-- The row sum the softmax's gradient subtracts. -/
theorem delta_eq (c a : ℕ) : delta Q K W G c a = ∑ n : Fin 8448, dP W G c a n.val * P Q K c a n.val := by
  unfold delta O dP P
  simp only [div_eq_mul_inv, Finset.sum_mul, Finset.mul_sum]
  rw [Finset.sum_comm]
  exact Finset.sum_congr rfl fun n _ => Finset.sum_congr rfl fun d _ => by ring

include fq fk fv fg hM in
theorem negsum_at (g h : Fin 4) (a : Fin 8192) :
    val_main_v51 (F := Ideal) x0 x1 x2 x3 (ix3 g h a)
      = ((-(∑ n : Fin 8448, dP W G (4 * g.val + h.val) a.val n.val * (1 / (zs Q K M g h a * zs Q K M g h a)) * ex Q K M g h a n) : ℝ) : EReal) := by
  have e := exp_at x0 x1 Q K fq fk M hM g h a
  have f := zrow_at x0 x1 Q K fq fk M hM g h a 0
  have d := dp_at x2 x3 W G fv fg g h a
  unfold val_main_v51 val_main_v48 val_main_v47 val_main_v46 val_main_v45 val_main_v44 val_main_v43 val_main_v34 val_main_v32
  generalize val_main_v27 (F := Ideal) x0 x1 = y at e ⊢
  generalize val_main_v29 (F := Ideal) x0 x1 = z at f ⊢
  generalize val_main_v40 (F := Ideal) x2 x3 = w at d ⊢
  pointwise [val_main_v33]
  have hz : zs Q K M g h a * zs Q K M g h a ≠ 0 := mul_ne_zero (zs_ne Q K M g h a) (zs_ne Q K M g h a)
  have c9 : val_main_cst_9 (F := Ideal) ix0 = ((1 : ℝ) : EReal) := bits_one
  have c10 : val_main_cst_10 (F := Ideal) (Shape.Idx.first h_S_) = 0 := bits_zero
  have c11 : val_main_cst_11 (F := Ideal) (Shape.Idx.first h_S_) = 0 := bits_zero
  rw [c9, c10, c11, Fintype.sum_unique, f, zero_add, zero_add, ← EReal.coe_mul, div_coe _ _ hz,
    Finset.sum_congr rfl fun n _ => (congrArg₂ (· * ·) (congrArg₂ (· * ·) (d n) rfl) (e n)), Finset.sum_congr rfl fun n _ => (congrArg (· * _) (EReal.coe_mul _ _).symm).trans (EReal.coe_mul _ _).symm, sum_coe, ← EReal.coe_neg]

include fq fk fv fg hM in
/-- The reference's gradient of the scaled scores. -/
theorem ds_at (g h : Fin 4) (a : Fin 8192) (n : Fin 8448) :
    val_main_v54 (F := Ideal) x0 x1 x2 x3 (ix4 g h a n) = ((dS Q K W G (4 * g.val + h.val) a.val n.val : ℝ) : EReal) := by
  have e := exp_at x0 x1 Q K fq fk M hM g h a n
  have f := zrow_at x0 x1 Q K fq fk M hM g h a 0
  have d := dp_at x2 x3 W G fv fg g h a n
  have s := negsum_at x0 x1 x2 x3 Q K W G fq fk fv fg M hM g h a
  unfold val_main_v54 val_main_v53 val_main_v52 val_main_v50 val_main_v49
  generalize val_main_v27 (F := Ideal) x0 x1 = y at e ⊢
  generalize val_main_v29 (F := Ideal) x0 x1 = z at f ⊢
  generalize val_main_v40 (F := Ideal) x2 x3 = w at d ⊢
  generalize val_main_v51 (F := Ideal) x0 x1 x2 x3 = v at s ⊢
  pointwise []
  rw [e, f, d, s, div_coe _ _ (zs_ne Q K M g h a), ← EReal.coe_add, ← EReal.coe_mul]
  refine congrArg _ ?_
  unfold dS
  rw [delta_eq, ← ex_div Q K M]
  have hz := zs_ne Q K M g h a
  have : ∑ n : Fin 8448, dP W G (4 * g.val + h.val) a.val n.val * (1 / (zs Q K M g h a * zs Q K M g h a)) * ex Q K M g h a n
      = (∑ n : Fin 8448, dP W G (4 * g.val + h.val) a.val n.val * P Q K (4 * g.val + h.val) a.val n.val) / zs Q K M g h a := by
    rw [Finset.sum_div]
    refine Finset.sum_congr rfl fun n _ => ?_
    rw [← ex_div Q K M]
    field_simp
  rw [this]
  field_simp
  ring

include fq fk fv fg hM in
/-- The gradient of the products of queries and keys, with the queries last. -/
theorem dst_at (g h : Fin 4) (a : Fin 8192) (n : Fin 8448) :
    val_main_v57 (F := Ideal) x0 x1 x2 x3 (ix4 g n a h) = ((dS Q K W G (4 * g.val + h.val) a.val n.val * 0.125 : ℝ) : EReal) := by
  have e := ds_at x0 x1 x2 x3 Q K W G fq fk fv fg M hM g h a n
  unfold val_main_v57 val_main_v56
  generalize val_main_v54 (F := Ideal) x0 x1 x2 x3 = y at e ⊢
  pointwise [val_main_v55, val_main_cst_12]
  rw [e, Cert.KernelIdeal.Flash.eighth, ← EReal.coe_mul]

include fq fk fv fg hM in
/-- The reference's gradient of the queries. -/
theorem dq_at (a : Fin 8192) (l : Fin 1024) :
    val_main_v64 (F := Ideal) x0 x1 x2 x3 (ix2 a l) = ((DQ Q K W G (l.val / 64) a.val (l.val % 64) * 0.125 : ℝ) : EReal) := by
  have e : ∀ n : Fin 8448, val_main_v57 (F := Ideal) x0 x1 x2 x3 (ix4 ⟨l.val / 256, by omega⟩ n a ⟨l.val / 64 % 4, by omega⟩) * val_main_v1 (F := Ideal) x1 (ix3 n ⟨l.val / 256, by omega⟩ ⟨l.val % 64, by omega⟩)
      = ((dS Q K W G (l.val / 64) a.val n.val * 0.125 * K n.val (64 * (l.val / 256) + l.val % 64) : ℝ) : EReal) := fun n => by
    rw [dst_at x0 x1 x2 x3 Q K W G fq fk fv fg M hM, k_at, fk, ← EReal.coe_mul]
    refine congrArg _ (congrArg₂ (· * ·) ?_ rfl)
    rw [show 4 * (l.val / 256) + l.val / 64 % 4 = l.val / 64 by omega]
  unfold val_main_v64 val_main_v59 val_main_v58
  generalize val_main_v57 (F := Ideal) x0 x1 x2 x3 = y at e ⊢
  generalize val_main_v1 (F := Ideal) x1 = z at e ⊢
  pointwise []
  rw [Finset.sum_congr rfl fun n _ => e n, sum_coe]
  refine congrArg _ ?_
  unfold DQ
  rw [Finset.sum_mul]
  refine Finset.sum_congr rfl fun n _ => ?_
  rw [show l.val / 64 / 4 = l.val / 256 by omega]
  ring

include fq fk fv fg hM in
/-- The reference's gradient of the keys. -/
theorem dk_at (n : Fin 8448) (l : Fin 256) :
    val_main_v63 (F := Ideal) x0 x1 x2 x3 (ix2 n l) = ((DK Q K W G (l.val / 64) n.val (l.val % 64) : ℝ) : EReal) := by
  have e : ∀ (h : Fin 4) (a : Fin 8192), val_main_v57 (F := Ideal) x0 x1 x2 x3 (ix4 ⟨l.val / 64, by omega⟩ n a h) * val_main_v0 (F := Ideal) x0 (ix4 a ⟨l.val / 64, by omega⟩ h ⟨l.val % 64, by omega⟩)
      = ((dS Q K W G (4 * (l.val / 64) + h.val) a.val n.val * (Q a.val (64 * (4 * (l.val / 64) + h.val) + l.val % 64) * 0.125) : ℝ) : EReal) := fun h a => by
    rw [dst_at x0 x1 x2 x3 Q K W G fq fk fv fg M hM, q_at, fq, ← EReal.coe_mul]
    refine congrArg _ ?_
    ring
  unfold val_main_v63 val_main_v61 val_main_v60
  generalize val_main_v57 (F := Ideal) x0 x1 x2 x3 = y at e ⊢
  generalize val_main_v0 (F := Ideal) x0 = z at e ⊢
  pointwise []
  rw [Finset.sum_congr rfl fun a _ => Finset.sum_congr rfl fun h _ => e h a, Finset.sum_congr rfl fun a _ => sum_coe _ _, sum_coe]
  exact congrArg _ Finset.sum_comm

include fq fk fg hM in
/-- The reference's gradient of the values. -/
theorem dv_at (n : Fin 8448) (l : Fin 256) :
    val_main_v62 (F := Ideal) x0 x1 x3 (ix2 n l) = ((DV Q K G (l.val / 64) n.val (l.val % 64) : ℝ) : EReal) := by
  have e : ∀ (h : Fin 4) (a : Fin 8192), val_main_v38 (F := Ideal) x3 (ix4 a ⟨l.val / 64, by omega⟩ h ⟨l.val % 64, by omega⟩) * val_main_v31 (F := Ideal) x0 x1 (ix4 ⟨l.val / 64, by omega⟩ h a n)
      = ((P Q K (4 * (l.val / 64) + h.val) a.val n.val * G a.val (64 * (4 * (l.val / 64) + h.val) + l.val % 64) : ℝ) : EReal) := fun h a => by
    rw [do_at, fg, prob_at x0 x1 Q K fq fk M hM, ← EReal.coe_mul]
    refine congrArg _ ?_
    ring
  unfold val_main_v62 val_main_v42 val_main_v41 val_main_v39
  generalize val_main_v38 (F := Ideal) x3 = y at e ⊢
  generalize val_main_v31 (F := Ideal) x0 x1 = z at e ⊢
  pointwise []
  rw [Finset.sum_congr rfl fun h _ => Finset.sum_congr rfl fun a _ => e h a, Finset.sum_congr rfl fun h _ => sum_coe _ _, sum_coe]
  rfl
end
end Cert.ReferenceIdeal.Flash
-- ==== Proof.FlashClaim.lean ====
module

public import proofs.«01_k».proof.Defs
public import proofs.«01_k».proof.Proof.FlashRun
public import proofs.«01_k».proof.Proof.FlashHost
public import proofs.«01_k».proof.Proof.FlashRef
public import proofs.«01_k».proof.Proof.Gen.Kernel.Frame
public import proofs.«01_k».proof.Proof.Gen.ReferenceIdeal.Run
public import proofs.«01_k».proof.Proof.Gen.Pre_finite
public import Idealize.ShloMosaic.Lib.Claim

@[expose] public section

set_option maxRecDepth 16384

noncomputable section

open Idealize.ShloMosaic Idealize.SL.Sem
namespace Cert.FlashClaim

/-- The precondition says that queries, keys, values and cotangents are real. -/
theorem real_of_pre (x0 : FVec Ideal Cert.Pre_finite.S8192x1024 .f32) (x1 x2 : FVec Ideal Cert.Pre_finite.S8448x256 .f32)
    (x3 : FVec Ideal Cert.Pre_finite.S8192x1024 .f32) (j : Cert.Pre_finite.S_.Idx) (h : Cert.Pre_finite.fn (F := Ideal) x0 x1 x2 x3 j = 1#1) :
    Cert.Reals.AllReal x0 ∧ Cert.Reals.AllReal x1 ∧ Cert.Reals.AllReal x2 ∧ Cert.Reals.AllReal x3 := by
  have s : Subsingleton Cert.Pre_finite.S_.Idx := ⟨fun a b => funext fun q => q.elim0⟩
  obtain ⟨h123, h4⟩ := Cert.Reals.and_one h
  obtain ⟨h12, h3⟩ := Cert.Reals.and_one h123
  obtain ⟨h1, h2⟩ := Cert.Reals.and_one h12
  exact ⟨Cert.Reals.allReal_of_all _ _ _ _ _ _ _ h1, Cert.Reals.allReal_of_all _ _ _ _ _ _ _ h2, Cert.Reals.allReal_of_all _ _ _ _ _ _ _ h3, Cert.Reals.allReal_of_all _ _ _ _ _ _ _ h4⟩

/-- A real matrix as a function of natural indices. -/
theorem nat_of_real {n k : ℕ} (hn : 0 < n) (hk : 0 < k) (x : FVec Ideal ⟨2, ![n, k]⟩ .f32) (h : Cert.Reals.AllReal x) :
    ∃ X : ℕ → ℕ → ℝ, ∀ (a : Fin n) (b : Fin k), x (ix2 a b) = ((X a.val b.val : ℝ) : EReal) := by
  obtain ⟨r, rfl⟩ := h
  refine ⟨fun a b => r (ix2 ⟨a % n, Nat.mod_lt _ hn⟩ ⟨b % k, Nat.mod_lt _ hk⟩), fun a b => ?_⟩
  refine congrArg (fun z : ℝ => (z : EReal)) (congrArg r (congrArg₂ ix2 (Fin.ext ?_) (Fin.ext ?_)))
  · exact (Nat.mod_eq_of_lt a.isLt).symm
  · exact (Nat.mod_eq_of_lt b.isLt).symm

/-- Two matrices that agree at every pair of coordinates are equal. -/
theorem eq_of_ix2 {n k : ℕ} (x y : FVec Ideal ⟨2, ![n, k]⟩ .f32) (h : ∀ (a : Fin n) (b : Fin k), x (ix2 a b) = y (ix2 a b)) : x = y := by
  funext i
  obtain ⟨a, b, rfl⟩ : ∃ a b, i = (ix2 a b : (⟨2, ![n, k]⟩ : Shape).Idx) := ⟨i 0, i 1, by funext x; match x with | ⟨0, _⟩ => rfl | ⟨1, _⟩ => rfl⟩
  exact h a b

open Cert.FlashSpec in
/-- The reference's four results over real arguments. -/
theorem ref_values (x0 : FVec Ideal Cert.ReferenceIdeal.S8192x1024 .f32) (x1 x2 : FVec Ideal Cert.ReferenceIdeal.S8448x256 .f32) (x3 : FVec Ideal Cert.ReferenceIdeal.S8192x1024 .f32)
    (Q K W G : ℕ → ℕ → ℝ)
    (fq : ∀ (a : Fin 8192) (b : Fin 1024), x0 (ix2 a b) = ((Q a.val b.val : ℝ) : EReal))
    (fk : ∀ (a : Fin 8448) (b : Fin 256), x1 (ix2 a b) = ((K a.val b.val : ℝ) : EReal))
    (fv : ∀ (a : Fin 8448) (b : Fin 256), x2 (ix2 a b) = ((W a.val b.val : ℝ) : EReal))
    (fg : ∀ (a : Fin 8192) (b : Fin 1024), x3 (ix2 a b) = ((G a.val b.val : ℝ) : EReal)) :
    ((Cert.ReferenceIdeal.Read.val_main_v37 (F := Ideal) x0 x1 x2 : FVec Ideal Cert.KernelIdeal.S8192x1024 .f32) = fun i => ((O Q K W ((i 1).val / 64) (i 0).val ((i 1).val % 64) : ℝ) : EReal))
    ∧ ((Cert.ReferenceIdeal.Read.val_main_v64 (F := Ideal) x0 x1 x2 x3 : FVec Ideal Cert.KernelIdeal.S8192x1024 .f32) = fun i => ((DQ Q K W G ((i 1).val / 64) (i 0).val ((i 1).val % 64) * 0.125 : ℝ) : EReal))
    ∧ ((Cert.ReferenceIdeal.Read.val_main_v63 (F := Ideal) x0 x1 x2 x3 : FVec Ideal Cert.KernelIdeal.S8448x256 .f32) = fun i => ((DK Q K W G ((i 1).val / 64) (i 0).val ((i 1).val % 64) : ℝ) : EReal))
    ∧ ((Cert.ReferenceIdeal.Read.val_main_v62 (F := Ideal) x0 x1 x3 : FVec Ideal Cert.KernelIdeal.S8448x256 .f32) = fun i => ((DV Q K G ((i 1).val / 64) (i 0).val ((i 1).val % 64) : ℝ) : EReal)) := by
  obtain ⟨M, hM⟩ := Cert.ReferenceIdeal.Flash.max_real x0 x1 Q K fq fk
  exact ⟨eq_of_ix2 _ _ fun a l => Cert.ReferenceIdeal.Flash.o_at x0 x1 x2 Q K W fq fk fv M hM a l,
    eq_of_ix2 _ _ fun a l => Cert.ReferenceIdeal.Flash.dq_at x0 x1 x2 x3 Q K W G fq fk fv fg M hM a l,
    eq_of_ix2 _ _ fun a l => Cert.ReferenceIdeal.Flash.dk_at x0 x1 x2 x3 Q K W G fq fk fv fg M hM a l,
    eq_of_ix2 _ _ fun a l => Cert.ReferenceIdeal.Flash.dv_at x0 x1 x3 Q K G fq fk fg M hM a l⟩

/-- Over real arguments the kernel's four arrays are the reference's. -/
theorem ker_values (m : (ℓ : Loc Cert.KernelIdeal.nD Cert.KernelIdeal.τ Cert.KernelIdeal.sig) → Buf (Elt Ideal) ℓ) (ρ : Dev Cert.KernelIdeal.nD → PrngReg) (c : Dev Cert.KernelIdeal.nD)
    (x0 : FVec Ideal Cert.KernelIdeal.S8192x1024 .f32) (x1 x2 : FVec Ideal Cert.KernelIdeal.S8448x256 .f32) (x3 : FVec Ideal Cert.KernelIdeal.S8192x1024 .f32)
    (e0 : m (c.tc.loc Cert.KernelIdeal.main_arg0) = x0) (e1 : m (c.tc.loc Cert.KernelIdeal.main_arg1) = x1) (e2 : m (c.tc.loc Cert.KernelIdeal.main_arg2) = x2) (e3 : m (c.tc.loc Cert.KernelIdeal.main_arg3) = x3)
    (h : Cert.Reals.AllReal x0 ∧ Cert.Reals.AllReal x1 ∧ Cert.Reals.AllReal x2 ∧ Cert.Reals.AllReal x3) :
    ((Cert.ReferenceIdeal.Read.val_main_v37 (F := Ideal) x0 x1 x2 : FVec Ideal Cert.KernelIdeal.S8192x1024 .f32) = Cert.KernelIdeal.Gen.W5 m ρ c (Proc.devRef .tc Cert.KernelIdeal.main_v16_0))
    ∧ ((Cert.ReferenceIdeal.Read.val_main_v64 (F := Ideal) x0 x1 x2 x3 : FVec Ideal Cert.KernelIdeal.S8192x1024 .f32) = Cert.KernelIdeal.Gen.W5 m ρ c (Proc.devRef .tc Cert.KernelIdeal.main_v27))
    ∧ ((Cert.ReferenceIdeal.Read.val_main_v63 (F := Ideal) x0 x1 x2 x3 : FVec Ideal Cert.KernelIdeal.S8448x256 .f32) = Cert.KernelIdeal.Gen.W5 m ρ c (Proc.devRef .tc Cert.KernelIdeal.main_v30))
    ∧ ((Cert.ReferenceIdeal.Read.val_main_v62 (F := Ideal) x0 x1 x3 : FVec Ideal Cert.KernelIdeal.S8448x256 .f32) = Cert.KernelIdeal.Gen.W5 m ρ c (Proc.devRef .tc Cert.KernelIdeal.main_v33)) := by
  obtain ⟨h0, h1, h2, h3⟩ := h
  obtain ⟨Q, fq⟩ := nat_of_real (by norm_num) (by norm_num) x0 h0
  obtain ⟨K, fk⟩ := nat_of_real (by norm_num) (by norm_num) x1 h1
  obtain ⟨W, fv⟩ := nat_of_real (by norm_num) (by norm_num) x2 h2
  obtain ⟨G, fg⟩ := nat_of_real (by norm_num) (by norm_num) x3 h3
  obtain ⟨r0, r1, r2, r3⟩ := ref_values x0 x1 x2 x3 Q K W G fq fk fv fg
  subst e0 e1 e2 e3
  exact ⟨r0.trans (Cert.KernelIdeal.Flash.out_o m ρ c Q K W fq fk fv).symm, r1.trans (Cert.KernelIdeal.Flash.out_dq m ρ c Q K W G fq fk fv fg).symm,
    r2.trans (Cert.KernelIdeal.Flash.out_dk m ρ c Q K W G fq fk fv fg).symm, r3.trans (Cert.KernelIdeal.Flash.out_dv m ρ c Q K W G fq fk fv fg).symm⟩

/-- The attention's four results are the reference's. -/
theorem algebraic : Cert.algebraic_KernelIdeal_ReferenceIdeal_pre_finite := by
  pair_intro
  · run_from Cert.KernelIdeal.Flash.run m g
  · have key : ∀ c : Dev Cert.KernelIdeal.nD, _ := fun c => ker_values m g c _ _ _ _ (hagree c).1.symm (hagree c).2.1.symm (hagree c).2.2.1.symm (hagree c).2.2.2.symm
      (by
        obtain ⟨a0, a1, a2, a3⟩ := hagree c
        rw [a0, a1, a2, a3]
        exact real_of_pre _ _ _ _ (fun a => a.elim0) (congrFun (hpre c) _))
    refine (θ_run _ _ _).mono (fun r h c => ⟨((h c).1.trans (Cert.ReferenceIdeal.Read.val_main_v37_eq (F := Ideal) _ _ _)).trans (key c).1,
      ((h c).2.1.trans (Cert.ReferenceIdeal.Read.val_main_v64_eq (F := Ideal) _ _)).trans (key c).2.1,
      ((h c).2.2.1.trans (Cert.ReferenceIdeal.Read.val_main_v63_eq (F := Ideal) _ _)).trans (key c).2.2.1,
      ((h c).2.2.2.1.trans (Cert.ReferenceIdeal.Read.val_main_v62_eq (F := Ideal) _ _ _)).trans (key c).2.2.2, (h c).2.2.2.2⟩) (Cert.ReferenceIdeal.Value.run m' g')

/-- The frames of the attention pair. -/
theorem frames : Cert.quiescent_Kernel ∧ Cert.quiescent_KernelIdeal ∧ Cert.quiescent_KernelIdeal_pre_finite
    ∧ Cert.quiescent_ReferenceIdeal ∧ Cert.quiescent_ReferenceIdeal_pre_finite := by
  refine ⟨fun m ρ _ => Cert.Kernel.Gen.frame m ρ, fun m ρ _ => Cert.KernelIdeal.Gen.frame m ρ, fun m ρ _ => Cert.KernelIdeal.Gen.frame m ρ, fun m ρ _ => ?_, fun m ρ _ => ?_⟩
  · refine (θ_run _ _ _).mono (fun r h => ⟨fun c => (h c).2.2.2.2, sem_eq_zero_of_no_sems rfl _⟩) (Cert.ReferenceIdeal.Value.run m ρ)
  · refine (θ_run _ _ _).mono (fun r h => ⟨fun c => (h c).2.2.2.2, sem_eq_zero_of_no_sems rfl _⟩) (Cert.ReferenceIdeal.Value.run m ρ)

end Cert.FlashClaim
-- ==== Proof.LossSpec.lean ====
module

public import proofs.«01_k».proof.Proof.Reals
@[expose] public section

/-!
The head and the loss on real rows, with their gradient: a row of the attention's output is gated,
projected, added to the stream, normed and compared with the target.
-/

noncomputable section

namespace Cert.LossSpec
open Cert.Reals

abbrev Lane := Fin 1024
abbrev Row := Lane → ℝ

/-- The norm's small constant. -/
def eps : ℝ := 8796093 / 8796093022208

theorem eps_pos : 0 < eps := by unfold eps; norm_num

theorem bits_eps : Idealize.ShloMosaic.Ideal.ofBits .f32 0x358637BD#32 = ((eps : ℝ) : EReal) := by
  simp [Idealize.ShloMosaic.Ideal.ofBits, Idealize.ShloMosaic.Ideal.ieee]; rw [← EReal.coe_mul]; unfold eps; norm_num
theorem bits_1024 : Idealize.ShloMosaic.Ideal.ofBits .f32 0x44800000#32 = ((1024 : ℝ) : EReal) := by
  simp [Idealize.ShloMosaic.Ideal.ofBits, Idealize.ShloMosaic.Ideal.ieee]; rw [← EReal.coe_mul]; norm_num
theorem bits_inv : Idealize.ShloMosaic.Ideal.ofBits .f32 0x3A800000#32 = ((1 / 1024 : ℝ) : EReal) := by
  simp [Idealize.ShloMosaic.Ideal.ofBits, Idealize.ShloMosaic.Ideal.ieee]; rw [← EReal.coe_mul]; norm_num
theorem bits_half : Idealize.ShloMosaic.Ideal.ofBits .f32 0x3F000000#32 = ((1 / 2 : ℝ) : EReal) := by
  simp [Idealize.ShloMosaic.Ideal.ofBits, Idealize.ShloMosaic.Ideal.ieee]; rw [← EReal.coe_mul]; norm_num
theorem bits_neghalf : Idealize.ShloMosaic.Ideal.ofBits .f32 0xBF000000#32 = ((-(1 / 2) : ℝ) : EReal) := by
  simp [Idealize.ShloMosaic.Ideal.ofBits, Idealize.ShloMosaic.Ideal.ieee]; rw [← EReal.coe_mul]; norm_num
theorem bits_two : Idealize.ShloMosaic.Ideal.ofBits .f32 0x40000000#32 = ((2 : ℝ) : EReal) := by
  simp [Idealize.ShloMosaic.Ideal.ofBits, Idealize.ShloMosaic.Ideal.ieee]; rw [← EReal.coe_mul]; norm_num
theorem bits_1 : Idealize.ShloMosaic.Ideal.ofBits .f32 0x3F800000#32 = ((1 : ℝ) : EReal) := by
  simp [Idealize.ShloMosaic.Ideal.ofBits, Idealize.ShloMosaic.Ideal.ieee]; rw [← EReal.coe_mul]; norm_num
theorem bits_0 : Idealize.ShloMosaic.Ideal.ofBits .f32 0x00000000#32 = 0 := by
  simp [Idealize.ShloMosaic.Ideal.ofBits, Idealize.ShloMosaic.Ideal.ieee]

/-- The gated row, its projection and the stream it joins. -/
def mm (o z : Row) : Row := fun e => o e * (z e * sig (z e))
def out (o z : Row) (W : Lane → Row) : Row := fun d => ∑ e, mm o z e * W e d
def x2 (o z x g : Row) (W : Lane → Row) : Row := fun d => x d + g d * out o z W d
/-- The norm of a row, its reciprocal root and the normed row. -/
def ms (u : Row) : ℝ := (∑ d, u d * u d) / 1024 + eps
def rr (u : Row) : ℝ := (Real.sqrt (ms u))⁻¹
def nn (u : Row) : Row := fun d => u d * rr u
def er (u f t : Row) : Row := fun d => nn u d * f d - t d
/-- The gradients along one row. -/
def dn (u f t : Row) : Row := fun d => er u f t d * (1 / 1024) * f d
def dx (u f t : Row) : Row := fun d => rr u * (dn u f t d - nn u d * ((∑ k, dn u f t k * nn u k) / 1024))
def dout (u f t g : Row) : Row := fun d => g d * dx u f t d
def dm (u f t g : Row) (W : Lane → Row) : Row := fun e => ∑ d, dout u f t g d * W e d
def dgo (u f t g z : Row) (W : Lane → Row) : Row := fun e => dm u f t g W e * (z e * sig (z e))
def dz (u f t g o z : Row) (W : Lane → Row) : Row :=
  fun e => dm u f t g W e * o e * (sig (z e) * (1 + z e * (1 - sig (z e))))
def lossRow (u f t : Row) : ℝ := (∑ d, er u f t d * er u f t d) / 1024

/-- Lane `e` belongs to head `e / 64`. -/
def hl (e : Lane) (h : Fin 128) : ℝ := if e.val / 64 = h.val then 1 else 0

theorem ms_pos (u : Row) : 0 < ms u :=
  add_pos_of_nonneg_of_pos (div_nonneg (Finset.sum_nonneg fun d _ => mul_self_nonneg _) (by norm_num)) eps_pos

theorem rsqrt_ms (u : Row) : Idealize.ShloMosaic.Ideal.rsqrt ((ms u : ℝ) : EReal) = ((rr u : ℝ) : EReal) := by
  rw [Idealize.ShloMosaic.Ideal.rsqrt_coe, if_neg (not_lt.mpr (ms_pos u).le), if_neg (ms_pos u).ne']
  rfl

theorem rr_div (u : Row) : rr u / ms u = rr u * (rr u * rr u) := by
  have h := ms_pos u
  unfold rr
  rw [← mul_inv, Real.mul_self_sqrt h.le, div_eq_mul_inv]

/-- The derivative of the norm as the chain rule writes it. -/
theorem dx_chain (u f t : Row) (d : Lane) :
    dn u f t d * rr u + (u d * ((∑ k, u k * dn u f t k) * (-(1 / 2) * (rr u / ms u)) / 1024)
      + ((∑ k, u k * dn u f t k) * (-(1 / 2) * (rr u / ms u)) / 1024) * u d) = dx u f t d := by
  rw [rr_div]
  unfold dx
  have e : (∑ k, dn u f t k * nn u k) = (∑ k, u k * dn u f t k) * rr u := by
    rw [Finset.sum_mul]
    refine Finset.sum_congr rfl fun k _ => ?_
    unfold nn; ring
  rw [e]
  unfold nn
  ring
end Cert.LossSpec
end
-- ==== Proof.LossPay.lean ====
module

public import proofs.«01_k».proof.Proof.Gen.Kernel4Ideal.Value
public import proofs.«01_k».proof.Proof.LossSpec
public import Idealize.ShloMosaic.Lib.Pipeline.ValueKit
public import Idealize.ShloMosaic.Lib.Pointwise
public import Idealize.ShloMosaic.Lib.Claim
@[expose] public section

/-!
What the body of the head and the loss computes, on real blocks, one entry at a time.
-/

set_option maxRecDepth 16384

noncomputable section

open Idealize.ShloMosaic Idealize.SL.Sem
namespace Cert.LossPay
open Cert.Kernel4Ideal Cert.Kernel4Ideal.Gen Cert.Reals Cert.LossSpec

section
variable {v3 v4 v16 v32 : Vec Ideal S256x1024 .f32} {v5 : Vec Ideal S1x1x1024 .f32} {v7 : Vec Ideal S1x1024 .f32} {v12 : Vec Ideal S1024x1024 .f32}
variable {O Z X T : Fin 256 → Row} {G Fg : Row} {W : Lane → Row}
variable (h3 : ∀ r d, v3 (ix2 r d) = ((O r d : ℝ) : EReal)) (h4 : ∀ r d, v4 (ix2 r d) = ((Z r d : ℝ) : EReal))
variable (h16 : ∀ r d, v16 (ix2 r d) = ((X r d : ℝ) : EReal)) (h32 : ∀ r d, v32 (ix2 r d) = ((T r d : ℝ) : EReal))
variable (h5 : ∀ d, v5 (ix3 0 0 d) = ((G d : ℝ) : EReal)) (h7 : ∀ d, v7 (ix2 0 d) = ((Fg d : ℝ) : EReal))
variable (h12 : ∀ e d, v12 (ix2 e d) = ((W e d : ℝ) : EReal))

/-- The stream's row. -/
abbrev U (O Z X : Fin 256 → Row) (G : Row) (W : Lane → Row) (r : Fin 256) : Row := x2 (O r) (Z r) (X r) G W

include h4 in
theorem pay8_at (r : Fin 256) (d : Lane) : k0_pay8 (F := Ideal) v4 (ix2 r d) = ((sig (Z r d) : ℝ) : EReal) := by
  pointwise [k0_pay8]
  rw [h4, logistic_coe]
include h4 in
theorem pay9_at (r : Fin 256) (d : Lane) : k0_pay9 (F := Ideal) v4 (ix2 r d) = ((Z r d * sig (Z r d) : ℝ) : EReal) := by
  pointwise [k0_pay9]
  rw [pay8_at h4, h4, ← EReal.coe_mul]
include h3 h4 in
theorem pay10_at (r : Fin 256) (d : Lane) : k0_pay10 (F := Ideal) v3 v4 (ix2 r d) = ((mm (O r) (Z r) d : ℝ) : EReal) := by
  pointwise [k0_pay10]
  rw [pay9_at h4, h3, ← EReal.coe_mul]
  rfl
include h3 h4 h12 in
theorem pay11_at (r : Fin 256) (d : Lane) : k0_pay11 (F := Ideal) v3 v4 v12 (ix2 r d) = ((out (O r) (Z r) W d : ℝ) : EReal) := by
  unfold k0_pay11
  have e := pay10_at h3 h4
  generalize k0_pay10 (F := Ideal) v3 v4 = y at e ⊢
  pointwise []
  simp only [e, h12, ← EReal.coe_mul, sum_coe]
  rfl
include h3 h4 h12 h5 h16 in
theorem pay12_at (r : Fin 256) (d : Lane) : k0_pay12 (F := Ideal) v3 v4 v5 v12 v16 (ix2 r d) = ((U O Z X G W r d : ℝ) : EReal) := by
  unfold k0_pay12
  have e := pay11_at h3 h4 h12
  generalize k0_pay11 (F := Ideal) v3 v4 v12 = y at e ⊢
  pointwise [k0_pay6]
  rw [e, h16, h5, ← EReal.coe_mul, ← EReal.coe_add]
  rfl
include h3 h4 h12 h5 h16 in
theorem pay13_at (r : Fin 256) : k0_pay13 (F := Ideal) v3 v4 v5 v12 v16 (ix2 r 0) = ((rr (U O Z X G W r) : ℝ) : EReal) := by
  unfold k0_pay13
  have e := pay12_at h3 h4 h16 h5 h12
  generalize k0_pay12 (F := Ideal) v3 v4 v5 v12 v16 = y at e ⊢
  pointwise []
  simp only [e, ← EReal.coe_mul, sum_coe]
  rw [bits_1024, bits_eps, div_coe _ _ (by norm_num), ← EReal.coe_add]
  exact rsqrt_ms _
include h3 h4 h12 h5 h16 in
theorem pay14_at (r : Fin 256) (d : Lane) : k0_pay14 (F := Ideal) v3 v4 v5 v12 v16 (ix2 r d) = ((nn (U O Z X G W r) d : ℝ) : EReal) := by
  unfold k0_pay14
  have e := pay12_at h3 h4 h16 h5 h12
  have e' := pay13_at h3 h4 h16 h5 h12
  generalize k0_pay12 (F := Ideal) v3 v4 v5 v12 v16 = y at e ⊢
  generalize k0_pay13 (F := Ideal) v3 v4 v5 v12 v16 = y' at e' ⊢
  pointwise []
  rw [e, e', ← EReal.coe_mul]
  rfl
include h3 h4 h12 h5 h16 h7 h32 in
theorem pay15_at (r : Fin 256) (d : Lane) : k0_pay15 (F := Ideal) v3 v4 v5 v7 v12 v16 v32 (ix2 r d) = ((er (U O Z X G W r) Fg (T r) d : ℝ) : EReal) := by
  unfold k0_pay15
  have e := pay14_at h3 h4 h16 h5 h12
  generalize k0_pay14 (F := Ideal) v3 v4 v5 v12 v16 = y at e ⊢
  pointwise [k0_pay7]
  rw [e, h7, h32, ← EReal.coe_mul, ← EReal.coe_sub]
  rfl
end

section
variable {v27 : FVec Ideal S256x1 .f32} {v29 v33 v15 v67 v11 v10 : FVec Ideal S256x1024 .f32} {v8 v6 : FVec Ideal S1x1024 .f32} {v85 : Vec Ideal S1024x1024 .f32}
variable {v3 v4 v9 : Vec Ideal S256x1024 .f32} {v49 : Vec Ideal S1x1024 .f32} {v34 : Vec Ideal S1x1 .f32} {v78 : Vec Ideal S1024x1024 .f32}
variable {O Z T M D A : Fin 256 → Row} {U : Fin 256 → Row} {G Fg : Row} {W : Lane → Row}
variable (h27 : ∀ r, v27 (ix2 r 0) = ((rr (U r) : ℝ) : EReal)) (h29 : ∀ r d, v29 (ix2 r d) = ((nn (U r) d : ℝ) : EReal))
variable (h33 : ∀ r d, v33 (ix2 r d) = ((er (U r) Fg (T r) d : ℝ) : EReal)) (h8 : ∀ d, v8 (ix2 0 d) = ((Fg d : ℝ) : EReal))
variable (h6 : ∀ d, v6 (ix2 0 d) = ((G d : ℝ) : EReal)) (h85 : ∀ e d, v85 (ix2 e d) = ((W e d : ℝ) : EReal))

include h33 in
theorem pay16_at : k0_pay16 (F := Ideal) v33 v34 (ix2 0 0) = v34 (ix2 0 0) + ((1 / 2 * ∑ r, lossRow (U r) Fg (T r) : ℝ) : EReal) := by
  pointwise [k0_pay16]
  simp only [h33, ← EReal.coe_mul, sum_coe]
  rw [bits_1024, bits_half]
  simp only [div_coe _ (1024 : ℝ) (by norm_num), sum_coe, ← EReal.coe_mul]
  rfl
include h33 in
theorem pay17_at (r : Fin 256) (d : Lane) : k0_pay17 (F := Ideal) v33 (ix2 r d) = ((er (U r) Fg (T r) d * (1 / 1024) : ℝ) : EReal) := by
  pointwise [k0_pay17]
  rw [h33, bits_inv, ← EReal.coe_mul]
include h33 h29 in
theorem pay18_at (d : Lane) : k0_pay18 (F := Ideal) v29 v33 v49 (ix2 0 d)
    = v49 (ix2 0 d) + ((∑ r, er (U r) Fg (T r) d * (1 / 1024) * nn (U r) d : ℝ) : EReal) := by
  unfold k0_pay18
  have e := pay17_at h33
  generalize k0_pay17 (F := Ideal) v33 = y at e ⊢
  pointwise []
  simp only [e, h29, ← EReal.coe_mul, sum_coe]
include h33 h29 h27 h8 in
theorem pay19_at (r : Fin 256) (d : Lane) : k0_pay19 (F := Ideal) v8 v27 v29 v33 (ix2 r d) = ((dx (U r) Fg (T r) d : ℝ) : EReal) := by
  unfold k0_pay19
  have e := pay17_at h33
  generalize k0_pay17 (F := Ideal) v33 = y at e ⊢
  pointwise []
  simp only [e, h29, h27, h8, ← EReal.coe_mul, sum_coe]
  rw [bits_1024, div_coe _ _ (by norm_num), ← EReal.coe_mul, ← EReal.coe_sub, ← EReal.coe_mul]
  rfl
include h33 h29 h27 h8 in
theorem pay22_at (h15 : ∀ r d, v15 (ix2 r d) = ((A r d : ℝ) : EReal)) (d : Lane) :
    k0_pay22 (F := Ideal) (k0_pay20 v49) (k0_pay21 v8 v15 v27 v29 v33) (ix2 0 d)
      = v49 (ix2 0 d) + ((∑ r, dx (U r) Fg (T r) d * A r d : ℝ) : EReal) := by
  unfold k0_pay22 k0_pay21
  have e := pay19_at h27 h29 h33 h8
  generalize k0_pay19 (F := Ideal) v8 v27 v29 v33 = y at e ⊢
  pointwise [k0_pay20]
  simp only [e, h15, ← EReal.coe_mul, sum_coe]
variable (h67 : ∀ r d, v67 (ix2 r d) = ((D r d : ℝ) : EReal))
include h6 h67 in
theorem pay23_at (r : Fin 256) (d : Lane) : k0_pay23 (F := Ideal) v6 v67 (ix2 r d) = ((G d * D r d : ℝ) : EReal) := by
  pointwise [k0_pay23]
  rw [h6, h67, ← EReal.coe_mul]
include h6 h67 in
theorem pay24_at (h11 : ∀ r d, v11 (ix2 r d) = ((M r d : ℝ) : EReal)) (e d : Lane) :
    k0_pay24 (F := Ideal) v6 v11 v67 v78 (ix2 e d) = v78 (ix2 e d) + ((∑ r, M r e * (G d * D r d) : ℝ) : EReal) := by
  unfold k0_pay24
  have e := pay23_at h6 h67
  generalize k0_pay23 (F := Ideal) v6 v67 = y at e ⊢
  pointwise []
  simp only [e, h11, ← EReal.coe_mul, sum_coe]
include h6 h67 h85 in
theorem pay25_at (r : Fin 256) (e : Lane) : k0_pay25 (F := Ideal) v6 v67 v85 (ix2 r e) = ((∑ d, G d * D r d * W e d : ℝ) : EReal) := by
  unfold k0_pay25
  have e := pay23_at h6 h67
  generalize k0_pay23 (F := Ideal) v6 v67 = y at e ⊢
  pointwise []
  simp only [e, h85, ← EReal.coe_mul, sum_coe]
variable (h10 : ∀ r d, v10 (ix2 r d) = ((Z r d * sig (Z r d) : ℝ) : EReal))
include h6 h67 h85 h10 in
theorem pay26_at (r : Fin 256) (e : Lane) : k0_pay26 (F := Ideal) v6 v10 v67 v85 (ix2 r e)
    = (((∑ d, G d * D r d * W e d) * (Z r e * sig (Z r e)) : ℝ) : EReal) := by
  unfold k0_pay26
  have e := pay25_at h6 h85 h67
  generalize k0_pay25 (F := Ideal) v6 v67 v85 = y at e ⊢
  pointwise []
  rw [e, h10, ← EReal.coe_mul]
include h6 h67 h85 h10 in
theorem pay27_at (r : Fin 256) (e : Lane) : k0_pay27 (F := Ideal) v6 v10 v67 v85 (ix2 r e)
    = (((∑ d, G d * D r d * W e d) * (Z r e * sig (Z r e)) : ℝ) : EReal) := by
  unfold k0_pay27
  have e := pay26_at h6 h85 h67 h10
  generalize k0_pay26 (F := Ideal) v6 v10 v67 v85 = y at e ⊢
  pointwise []
  rw [e]
include h6 h67 h85 h10 in
theorem pay28_at (h3 : ∀ r d, v3 (ix2 r d) = ((O r d : ℝ) : EReal)) (w : Vec Ideal S1024x128 .bf16) {H : Lane → Fin 128 → ℝ}
    (hw : ∀ e h, w (ix2 e h) = ((H e h : ℝ) : EReal)) (r : Fin 256) (h : Fin 128) :
    k0_pay28 (F := Ideal) v3 v6 v10 v67 v85 w w (ix2 r h)
      = ((∑ e, (∑ d, G d * D r d * W e d) * (Z r e * sig (Z r e)) * O r e * H e h : ℝ) : EReal) := by
  unfold k0_pay28
  have e := pay26_at h6 h85 h67 h10
  generalize k0_pay26 (F := Ideal) v6 v10 v67 v85 = y at e ⊢
  pointwise []
  simp only [e, h3, hw, ← EReal.coe_mul, ← EReal.coe_sub, sub_self, zero_mul, sum_coe, ← EReal.coe_add, Finset.sum_const_zero, add_zero]
include h6 h67 h85 in
theorem pay1_at (h3 : ∀ r d, v3 (ix2 r d) = ((O r d : ℝ) : EReal)) (h4 : ∀ r d, v4 (ix2 r d) = ((Z r d : ℝ) : EReal))
    (h9 : ∀ r d, v9 (ix2 r d) = ((sig (Z r d) : ℝ) : EReal)) (r : Fin 256) (e : Lane) :
    k0_pay1 (F := Ideal) v4 v9 (k0_pay29 v3 v6 v67 v85) (k0_pay30 v9) (ix2 r e)
      = (((∑ d, G d * D r d * W e d) * O r e * (sig (Z r e) * (1 + Z r e * (1 - sig (Z r e)))) : ℝ) : EReal) := by
  unfold k0_pay1 k0_pay29
  have e := pay25_at h6 h85 h67
  generalize k0_pay25 (F := Ideal) v6 v67 v85 = y at e ⊢
  pointwise [k0_pay30]
  rw [e, h3, h4, h9, ← EReal.coe_one]
  simp only [← EReal.coe_mul, ← EReal.coe_sub, ← EReal.coe_add]
end
end Cert.LossPay
end
-- ==== Proof.LossOut.lean ====
module

public import proofs.«01_k».proof.Proof.Gen.Kernel4Ideal.Value
public import Idealize.ShloMosaic.Lib.Pipeline.ValueKit
public import Idealize.ShloMosaic.Lib.Claim
@[expose] public section

/-!
What one point of the head and the loss leaves in each staging buffer, as the body's own payloads of the
blocks it reads. At the first point the accumulated blocks start at zero; later they start at what the
point before left.
-/

set_option maxRecDepth 16384
set_option maxHeartbeats 4000000

noncomputable section

open Idealize.ShloMosaic Idealize.ShloMosaic.TcCoe Idealize.SL.Sem
namespace Cert.LossOut
open Cert.Kernel4Ideal Cert.Kernel4Ideal.Gen

variable (c : Dev nD) (i : grid0.Coords)
  (arg1 : Memref sig .tc .vmem S256x1024 .f32) (harg1 : arg1.IsWhole)
  (arg2 : Memref sig .tc .vmem S256x1024 .f32) (harg2 : arg2.IsWhole)
  (arg3 : Memref sig .tc .vmem S256x1024 .f32) (harg3 : arg3.IsWhole)
  (arg4 : Memref sig .tc .vmem S1x1x1024 .f32) (harg4 : arg4.IsWhole)
  (arg5 : Memref sig .tc .vmem S1024x1024 .f32) (harg5 : arg5.IsWhole)
  (arg6 : Memref sig .tc .vmem S1x1024 .f32) (harg6 : arg6.IsWhole)
  (arg7 : Memref sig .tc .vmem S256x1024 .f32) (harg7 : arg7.IsWhole)
  (arg8 : Memref sig .tc .vmem S1024x128 .bf16) (harg8 : arg8.IsWhole)
  (arg9 : Memref sig .tc .vmem S256x1024 .bf16) (harg9 : arg9.IsWhole)
  (arg10 : Memref sig .tc .vmem S256x128 .f32) (harg10 : arg10.IsWhole)
  (arg11 : Memref sig .tc .vmem S256x1024 .f32) (harg11 : arg11.IsWhole)
  (arg12 : Memref sig .tc .vmem S256x1024 .f32) (harg12 : arg12.IsWhole)
  (arg13 : Memref sig .tc .vmem S1x1 .f32) (harg13 : arg13.IsWhole)
  (arg14 : Memref sig .tc .vmem S1x1024 .f32) (harg14 : arg14.IsWhole)
  (arg15 : Memref sig .tc .vmem S1x1024 .f32) (harg15 : arg15.IsWhole)
  (arg16 : Memref sig .tc .vmem S1024x1024 .f32) (harg16 : arg16.IsWhole)

section
variable (hc0 : cond0_0 i)
  (x0 : Vec Ideal S256x1024 .f32) (x1 : Vec Ideal S256x1024 .f32) (x2 : Vec Ideal S256x1024 .f32) (x3 : Vec Ideal S1x1x1024 .f32) (x4 : Vec Ideal S1024x1024 .f32) (x5 : Vec Ideal S1x1024 .f32) (x6 : Vec Ideal S256x1024 .f32) (x7 : Vec Ideal S1024x128 .bf16)
theorem out0_A_8_eq :
    out0_A_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 = k0_pay27 (k0_pay6 x3) (k0_pay9 x1) (k0_pay19 (k0_pay7 x5) (k0_pay13 x0 x1 x3 x4 x2) (k0_pay14 x0 x1 x3 x4 x2) (k0_pay15 x0 x1 x3 x5 x4 x2 x6)) x4 := by
  frame_out
theorem out0_A_9_eq :
    out0_A_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 = k0_pay28 x0 (k0_pay6 x3) (k0_pay9 x1) (k0_pay19 (k0_pay7 x5) (k0_pay13 x0 x1 x3 x4 x2) (k0_pay14 x0 x1 x3 x4 x2) (k0_pay15 x0 x1 x3 x5 x4 x2 x6)) x4 x7 x7 := by
  frame_out
theorem out0_A_10_eq :
    out0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 = k0_pay1 x1 (k0_pay8 x1) (k0_pay29 x0 (k0_pay6 x3) (k0_pay19 (k0_pay7 x5) (k0_pay13 x0 x1 x3 x4 x2) (k0_pay14 x0 x1 x3 x4 x2) (k0_pay15 x0 x1 x3 x5 x4 x2 x6)) x4) (k0_pay30 (k0_pay8 x1)) := by
  frame_out
theorem out0_A_11_eq :
    out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 = (k0_pay19 (k0_pay7 x5) (k0_pay13 x0 x1 x3 x4 x2) (k0_pay14 x0 x1 x3 x4 x2) (k0_pay15 x0 x1 x3 x5 x4 x2 x6)) := by
  frame_out
theorem out0_A_12_eq :
    out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 = k0_pay16 (k0_pay15 x0 x1 x3 x5 x4 x2 x6) (k0_pay2 (F := Ideal)) := by
  frame_out
theorem out0_A_13_eq :
    out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 = k0_pay18 (k0_pay14 x0 x1 x3 x4 x2) (k0_pay15 x0 x1 x3 x5 x4 x2 x6) (k0_pay3 (F := Ideal)) := by
  frame_out
theorem out0_A_14_eq :
    out0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 = k0_pay22 (k0_pay20 (k0_pay4 (F := Ideal))) (k0_pay21 (k0_pay7 x5) (k0_pay11 x0 x1 x4) (k0_pay13 x0 x1 x3 x4 x2) (k0_pay14 x0 x1 x3 x4 x2) (k0_pay15 x0 x1 x3 x5 x4 x2 x6)) := by
  frame_out
theorem out0_A_15_eq :
    out0_A_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 = k0_pay24 (k0_pay6 x3) (k0_pay10 x0 x1) (k0_pay19 (k0_pay7 x5) (k0_pay13 x0 x1 x3 x4 x2) (k0_pay14 x0 x1 x3 x4 x2) (k0_pay15 x0 x1 x3 x5 x4 x2 x6)) (k0_pay5 (F := Ideal)) := by
  frame_out
end

section
variable (hc0 : ¬cond0_0 i)
  (x0 : Vec Ideal S256x1024 .f32) (x1 : Vec Ideal S256x1024 .f32) (x2 : Vec Ideal S256x1024 .f32) (x3 : Vec Ideal S1x1x1024 .f32) (x4 : Vec Ideal S1024x1024 .f32) (x5 : Vec Ideal S1x1024 .f32) (x6 : Vec Ideal S256x1024 .f32) (x7 : Vec Ideal S1024x128 .bf16) (xo12 : Vec Ideal S1x1 .f32) (xo13 : Vec Ideal S1x1024 .f32) (xo14 : Vec Ideal S1x1024 .f32) (xo15 : Vec Ideal S1024x1024 .f32)
theorem out0_B_8_eq :
    out0_B_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xo12 xo13 xo14 xo15 = k0_pay27 (k0_pay6 x3) (k0_pay9 x1) (k0_pay19 (k0_pay7 x5) (k0_pay13 x0 x1 x3 x4 x2) (k0_pay14 x0 x1 x3 x4 x2) (k0_pay15 x0 x1 x3 x5 x4 x2 x6)) x4 := by
  frame_out
theorem out0_B_9_eq :
    out0_B_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xo12 xo13 xo14 xo15 = k0_pay28 x0 (k0_pay6 x3) (k0_pay9 x1) (k0_pay19 (k0_pay7 x5) (k0_pay13 x0 x1 x3 x4 x2) (k0_pay14 x0 x1 x3 x4 x2) (k0_pay15 x0 x1 x3 x5 x4 x2 x6)) x4 x7 x7 := by
  frame_out
theorem out0_B_10_eq :
    out0_B_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xo12 xo13 xo14 xo15 = k0_pay1 x1 (k0_pay8 x1) (k0_pay29 x0 (k0_pay6 x3) (k0_pay19 (k0_pay7 x5) (k0_pay13 x0 x1 x3 x4 x2) (k0_pay14 x0 x1 x3 x4 x2) (k0_pay15 x0 x1 x3 x5 x4 x2 x6)) x4) (k0_pay30 (k0_pay8 x1)) := by
  frame_out
theorem out0_B_11_eq :
    out0_B_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xo12 xo13 xo14 xo15 = (k0_pay19 (k0_pay7 x5) (k0_pay13 x0 x1 x3 x4 x2) (k0_pay14 x0 x1 x3 x4 x2) (k0_pay15 x0 x1 x3 x5 x4 x2 x6)) := by
  frame_out
theorem out0_B_12_eq :
    out0_B_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xo12 xo13 xo14 xo15 = k0_pay16 (k0_pay15 x0 x1 x3 x5 x4 x2 x6) xo12 := by
  frame_out
theorem out0_B_13_eq :
    out0_B_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xo12 xo13 xo14 xo15 = k0_pay18 (k0_pay14 x0 x1 x3 x4 x2) (k0_pay15 x0 x1 x3 x5 x4 x2 x6) xo13 := by
  frame_out
theorem out0_B_14_eq :
    out0_B_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xo12 xo13 xo14 xo15 = k0_pay22 (k0_pay20 xo14) (k0_pay21 (k0_pay7 x5) (k0_pay11 x0 x1 x4) (k0_pay13 x0 x1 x3 x4 x2) (k0_pay14 x0 x1 x3 x4 x2) (k0_pay15 x0 x1 x3 x5 x4 x2 x6)) := by
  frame_out
theorem out0_B_15_eq :
    out0_B_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xo12 xo13 xo14 xo15 = k0_pay24 (k0_pay6 x3) (k0_pay10 x0 x1) (k0_pay19 (k0_pay7 x5) (k0_pay13 x0 x1 x3 x4 x2) (k0_pay14 x0 x1 x3 x4 x2) (k0_pay15 x0 x1 x3 x5 x4 x2 x6)) xo15 := by
  frame_out
end

end Cert.LossOut
end
-- ==== Proof.LossArr.lean ====
module

public import proofs.«01_k».proof.Proof.LossPay
public import proofs.«01_k».proof.Proof.LossOut
public import proofs.«01_k».proof.Proof.FlashSpec
@[expose] public section

/-!
The head's and the loss's results as whole arrays: the rows' gradients are written once, the loss and the
gradients of the weights are added up over the thirty-two blocks of rows.
-/

set_option maxRecDepth 16384

noncomputable section

open Idealize.ShloMosaic Idealize.ShloMosaic.TcCoe Idealize.SL.Sem
open Idealize.ShloMosaic.Pipeline (Dat)
namespace Cert.LossArr
open Cert.Kernel4Ideal Cert.Kernel4Ideal.Gen Cert.Reals Cert.LossSpec Cert.LossPay Cert.LossOut

/-- The blocks of the windows: row block `t`, the stream's one block further on. -/
theorem widx : ∀ t : Fin cfg0.N, win0_0.index t = ![t.val, 0] ∧ win0_1.index t = ![t.val + 1, 0] ∧ win0_2.index t = ![t.val + 1, 0]
    ∧ win0_3.index t = ![1, 0, 0] ∧ win0_4.index t = ![0, 0] ∧ win0_5.index t = ![0, 0] ∧ win0_6.index t = ![t.val, 0] ∧ win0_7.index t = ![0, 0]
    ∧ win0_8.index t = ![t.val, 0] ∧ win0_9.index t = ![t.val, 0] ∧ win0_10.index t = ![t.val, 0] ∧ win0_11.index t = ![t.val, 0] :=
  (by decide +kernel : ∀ t : Fin grid0.N, _)

/-- The accumulated windows' block is the whole array. -/
theorem widx' : ∀ t : Fin cfg0.N, win0_12.index t = ![0, 0] ∧ win0_13.index t = ![0, 0] ∧ win0_14.index t = ![0, 0] ∧ win0_15.index t = ![0, 0] :=
  (by decide +kernel : ∀ t : Fin grid0.N, _)

variable (m : (ℓ : Loc nD τ sig) → Buf (Elt Ideal) ℓ) (c : Dev nD)

section
variable (t : Fin cfg0.N)

theorem iblk_0_at (r : Fin 256) (d : Lane) :
    iblk m c 0 t (ix2 r d) = (V m c main_arg0 : FVec Ideal S8192x1024 .f32) (ix2 ⟨256 * t.val + r.val, by have : t.val < 32 := t.isLt; omega⟩ d) := by
  blk_ext! [iblk, widx t]
theorem iblk_1_at (r : Fin 256) (d : Lane) :
    iblk m c 1 t (ix2 r d) = (V m c main_arg1 : FVec Ideal S8448x1024 .f32) (ix2 ⟨256 + (256 * t.val + r.val), by have : t.val < 32 := t.isLt; omega⟩ d) := by
  blk_ext! [iblk, widx t]
theorem iblk_2_at (r : Fin 256) (d : Lane) :
    iblk m c 2 t (ix2 r d) = (V m c main_arg2 : FVec Ideal S8448x1024 .f32) (ix2 ⟨256 + (256 * t.val + r.val), by have : t.val < 32 := t.isLt; omega⟩ d) := by
  blk_ext! [iblk, widx t]
theorem iblk_3_at (d : Lane) : iblk m c 3 t (ix3 0 0 d) = (V m c main_v0 : FVec Ideal S2x1x1024 .f32) (ix3 1 0 d) := by
  blk_ext! [iblk, widx t]
theorem iblk_4_at (e d : Lane) : iblk m c 4 t (ix2 e d) = (V m c main_arg4 : FVec Ideal S1024x1024 .f32) (ix2 e d) := by
  blk_ext! [iblk, widx t]
theorem iblk_5_at (d : Lane) : iblk m c 5 t (ix2 0 d) = (V m c main_v1 : FVec Ideal S1x1024 .f32) (ix2 0 d) := by
  blk_ext! [iblk, widx t]
theorem iblk_6_at (r : Fin 256) (d : Lane) :
    iblk m c 6 t (ix2 r d) = (V m c main_arg6 : FVec Ideal S8192x1024 .f32) (ix2 ⟨256 * t.val + r.val, by have : t.val < 32 := t.isLt; omega⟩ d) := by
  blk_ext! [iblk, widx t]
theorem iblk_7_at (e : Lane) (h : Fin 128) : iblk m c 7 t (ix2 e h) = (V m c main_v10 : FVec Ideal S1024x128 .bf16) (ix2 e h) := by
  blk_ext! [iblk, widx t]
end

/-- The stream's row `a` of the whole arrays. -/
abbrev UU (O Z X : ℕ → Row) (G : Row) (W : Lane → Row) (a : ℕ) : Row := x2 (O a) (Z a) (X a) G W
/-- An index of a block of rows by its two coordinates. -/
theorem ix_row {n k : ℕ} (y : (⟨2, ![n, k]⟩ : Shape).Idx) : y = ix2 (y 0) (y 1) := by
  funext a; apply Fin.ext; match a with
  | ⟨0, _⟩ => rfl
  | ⟨1, _⟩ => rfl

theorem ix_one {k : ℕ} (y : (⟨2, ![1, k]⟩ : Shape).Idx) : y = ix2 0 (y 1) := by
  refine (ix_row y).trans (congrArg (fun a => ix2 a (y 1)) (Fin.ext ?_))
  have : (y 0).val < 1 := (y 0).isLt
  show (y 0).val = 0
  omega
theorem ix_11 (y : (⟨2, ![1, 1]⟩ : Shape).Idx) : y = ix2 0 0 := by
  refine (ix_one y).trans (congrArg (fun a => ix2 0 a) (Fin.ext ?_))
  have : (y 1).val < 1 := (y 1).isLt
  show (y 1).val = 0
  omega

theorem zero2 (y : S1x1.Idx) : k0_pay2 (F := Ideal) y = 0 := by rw [ix_row y]; pointwise [k0_pay2]
theorem zero3 (y : S1x1024.Idx) : k0_pay3 (F := Ideal) y = 0 := by rw [ix_row y]; pointwise [k0_pay3]
theorem zero4 (y : S1x1024.Idx) : k0_pay4 (F := Ideal) y = 0 := by rw [ix_row y]; pointwise [k0_pay4]
theorem zero5 (y : S1024x1024.Idx) : k0_pay5 (F := Ideal) y = 0 := by rw [ix_row y]; pointwise [k0_pay5]

section
variable (O Z X T : ℕ → Row) (G Fg : Row) (W : Lane → Row)
  (ho : ∀ (a : Fin 8192) (d : Lane), (V m c main_arg0 : FVec Ideal S8192x1024 .f32) (ix2 a d) = ((O a.val d : ℝ) : EReal))
  (hz : ∀ (a : ℕ) (h : 256 + a < 8448) (d : Lane), (V m c main_arg1 : FVec Ideal S8448x1024 .f32) (ix2 ⟨256 + a, h⟩ d) = ((Z a d : ℝ) : EReal))
  (hx : ∀ (a : ℕ) (h : 256 + a < 8448) (d : Lane), (V m c main_arg2 : FVec Ideal S8448x1024 .f32) (ix2 ⟨256 + a, h⟩ d) = ((X a d : ℝ) : EReal))
  (hg : ∀ d : Lane, (V m c main_v0 : FVec Ideal S2x1x1024 .f32) (ix3 1 0 d) = ((G d : ℝ) : EReal))
  (hw : ∀ e d : Lane, (V m c main_arg4 : FVec Ideal S1024x1024 .f32) (ix2 e d) = ((W e d : ℝ) : EReal))
  (hf : ∀ d : Lane, (V m c main_v1 : FVec Ideal S1x1024 .f32) (ix2 0 d) = ((Fg d : ℝ) : EReal))
  (ht : ∀ (a : Fin 8192) (d : Lane), (V m c main_arg6 : FVec Ideal S8192x1024 .f32) (ix2 a d) = ((T a.val d : ℝ) : EReal))
  (hh : ∀ (e : Lane) (h : Fin 128), (V m c main_v10 : FVec Ideal S1024x128 .bf16) (ix2 e h) = ((hl e h : ℝ) : EReal))

/-- The rows of block `t`. -/
abbrev B (R : ℕ → Row) (t : Fin cfg0.N) : Fin 256 → Row := fun r => R (256 * t.val + r.val)

section
variable (t : Fin cfg0.N)
include ho in
theorem b0 (r : Fin 256) (d : Lane) : iblk m c 0 t (ix2 r d) = ((B O t r d : ℝ) : EReal) := (iblk_0_at m c t r d).trans (ho _ d)
include hz in
theorem b1 (r : Fin 256) (d : Lane) : iblk m c 1 t (ix2 r d) = ((B Z t r d : ℝ) : EReal) := (iblk_1_at m c t r d).trans (hz _ _ d)
include hx in
theorem b2 (r : Fin 256) (d : Lane) : iblk m c 2 t (ix2 r d) = ((B X t r d : ℝ) : EReal) := (iblk_2_at m c t r d).trans (hx _ _ d)
include hg in
theorem b3 (d : Lane) : iblk m c 3 t (ix3 0 0 d) = ((G d : ℝ) : EReal) := (iblk_3_at m c t d).trans (hg d)
include hw in
theorem b4 (e d : Lane) : iblk m c 4 t (ix2 e d) = ((W e d : ℝ) : EReal) := (iblk_4_at m c t e d).trans (hw e d)
include hf in
theorem b5 (d : Lane) : iblk m c 5 t (ix2 0 d) = ((Fg d : ℝ) : EReal) := (iblk_5_at m c t d).trans (hf d)
include ht in
theorem b6 (r : Fin 256) (d : Lane) : iblk m c 6 t (ix2 r d) = ((B T t r d : ℝ) : EReal) := (iblk_6_at m c t r d).trans (ht _ d)
include hh in
theorem b7 (e : Lane) (h : Fin 128) : iblk m c 7 t (ix2 e h) = ((hl e h : ℝ) : EReal) := (iblk_7_at m c t e h).trans (hh e h)
include hg in
theorem g6 (d : Lane) : k0_pay6 (F := Ideal) (iblk m c 3 t) (ix2 0 d) = ((G d : ℝ) : EReal) := by
  have e := b3 m c G hg t
  generalize iblk m c 3 t = y at e ⊢
  pointwise [k0_pay6]; exact e d
include hf in
theorem g7 (d : Lane) : k0_pay7 (F := Ideal) (iblk m c 5 t) (ix2 0 d) = ((Fg d : ℝ) : EReal) := by
  have e := b5 m c Fg hf t
  generalize iblk m c 5 t = y at e ⊢
  pointwise [k0_pay7]; exact e d

/-- The normed stream's gradient of block `t`, as the body carries it. -/
abbrev DX := k0_pay19 (F := Ideal) (k0_pay7 (iblk m c 5 t)) (k0_pay13 (iblk m c 0 t) (iblk m c 1 t) (iblk m c 3 t) (iblk m c 4 t) (iblk m c 2 t))
  (k0_pay14 (iblk m c 0 t) (iblk m c 1 t) (iblk m c 3 t) (iblk m c 4 t) (iblk m c 2 t))
  (k0_pay15 (iblk m c 0 t) (iblk m c 1 t) (iblk m c 3 t) (iblk m c 5 t) (iblk m c 4 t) (iblk m c 2 t) (iblk m c 6 t))

include ho hz hx hg hw in
theorem p13 (r : Fin 256) : k0_pay13 (F := Ideal) (iblk m c 0 t) (iblk m c 1 t) (iblk m c 3 t) (iblk m c 4 t) (iblk m c 2 t) (ix2 r 0) = ((rr (B (UU O Z X G W) t r) : ℝ) : EReal) :=
  pay13_at (b0 m c O ho t) (b1 m c Z hz t) (b2 m c X hx t) (b3 m c G hg t) (b4 m c W hw t) r
include ho hz hx hg hw in
theorem p14 (r : Fin 256) (d : Lane) : k0_pay14 (F := Ideal) (iblk m c 0 t) (iblk m c 1 t) (iblk m c 3 t) (iblk m c 4 t) (iblk m c 2 t) (ix2 r d) = ((nn (B (UU O Z X G W) t r) d : ℝ) : EReal) :=
  pay14_at (b0 m c O ho t) (b1 m c Z hz t) (b2 m c X hx t) (b3 m c G hg t) (b4 m c W hw t) r d
include ho hz hx hg hw hf ht in
theorem p15 (r : Fin 256) (d : Lane) : k0_pay15 (F := Ideal) (iblk m c 0 t) (iblk m c 1 t) (iblk m c 3 t) (iblk m c 5 t) (iblk m c 4 t) (iblk m c 2 t) (iblk m c 6 t) (ix2 r d)
    = ((er (B (UU O Z X G W) t r) Fg (B T t r) d : ℝ) : EReal) :=
  pay15_at (b0 m c O ho t) (b1 m c Z hz t) (b2 m c X hx t) (b6 m c T ht t) (b3 m c G hg t) (b5 m c Fg hf t) (b4 m c W hw t) r d
include ho hz hx hg hw hf ht in
theorem p19 (r : Fin 256) (d : Lane) : DX m c t (ix2 r d) = ((dx (B (UU O Z X G W) t r) Fg (B T t r) d : ℝ) : EReal) :=
  pay19_at (p13 m c O Z X G W ho hz hx hg hw t) (p14 m c O Z X G W ho hz hx hg hw t) (p15 m c O Z X T G Fg W ho hz hx hg hw hf ht t) (g7 m c Fg hf t) r d
end

include ho hz hx hg hw hf ht

/-- The gradient of the stream. -/
theorem arr11 : (dats m 0 c).arrAt 11 cfg0.N = (fun i : S8192x1024.Idx => ((dx (UU O Z X G W (i 0).val) Fg (T (i 0).val) (i 1) : ℝ) : EReal) : FVec Ideal S8192x1024 .f32) := by
  refine (dats m 0 c).arrAt_eq_of_covers 11 _ (by decide +kernel) fun t _ y => ?_
  have e0 : (((cfg0.win 11).blk t).view.emb y 0).val = 256 * t.val + (y 0).val := by blk_simp [widx t] <;> omega
  have e1 : ((cfg0.win 11).blk t).view.emb y 1 = (y 1 : Lane) := Fin.ext (by blk_simp [widx t] <;> omega)
  have key : ∀ (a : ℕ) (d : Lane), a = 256 * t.val + (y 0).val → d = y 1 →
      ((outsAt0 m c t.val t.isLt).2.2.2.1 : FVec Ideal S256x1024 .f32) y = ((dx (UU O Z X G W a) Fg (T a) d : ℝ) : EReal) := by
    rintro _ _ rfl rfl
    have h7 : (outsAt0 m c t.val t.isLt).2.2.2.1 = DX m c t := by
      by_cases h : t.val % 32 = 0
      · rw [outsAt0_A m c t h]; dsimp only; rw [out0_A_11_eq]
      · rw [outsAt0_B m c t h]; dsimp only; rw [out0_B_11_eq]
    rw [h7]
    exact (congrArg _ (ix_row (n := 256) (k := 1024) y)).trans ((p19 m c O Z X T G Fg W ho hz hx hg hw hf ht t) (y 0) (y 1))
  have k := key _ _ e0 e1
  refine Eq.trans ?_ k
  blk_simp
  rw [after0_11]

/-- The gradient of the attention's output. -/
theorem arr8 : (dats m 0 c).arrAt 8 cfg0.N = (fun i : S8192x1024.Idx => ((dgo (UU O Z X G W (i 0).val) Fg (T (i 0).val) G (Z (i 0).val) W (i 1) : ℝ) : EReal) : FVec Ideal S8192x1024 .bf16) := by
  refine (dats m 0 c).arrAt_eq_of_covers 8 _ (by decide +kernel) fun t _ y => ?_
  have e0 : (((cfg0.win 8).blk t).view.emb y 0).val = 256 * t.val + (y 0).val := by blk_simp [widx t] <;> omega
  have e1 : ((cfg0.win 8).blk t).view.emb y 1 = (y 1 : Lane) := Fin.ext (by blk_simp [widx t] <;> omega)
  have key : ∀ (a : ℕ) (d : Lane), a = 256 * t.val + (y 0).val → d = y 1 →
      ((outsAt0 m c t.val t.isLt).1 : FVec Ideal S256x1024 .bf16) y = ((dgo (UU O Z X G W a) Fg (T a) G (Z a) W d : ℝ) : EReal) := by
    rintro _ _ rfl rfl
    have h7 : (outsAt0 m c t.val t.isLt).1 = k0_pay27 (F := Ideal) (k0_pay6 (iblk m c 3 t)) (k0_pay9 (iblk m c 1 t)) (DX m c t) (iblk m c 4 t) := by
      by_cases h : t.val % 32 = 0
      · rw [outsAt0_A m c t h]; dsimp only; rw [out0_A_8_eq]
      · rw [outsAt0_B m c t h]; dsimp only; rw [out0_B_8_eq]
    rw [h7]
    exact (congrArg _ (ix_row (n := 256) (k := 1024) y)).trans (pay27_at (g6 m c G hg t) (b4 m c W hw t) (p19 m c O Z X T G Fg W ho hz hx hg hw hf ht t) (pay9_at (b1 m c Z hz t)) (y 0) (y 1))
  have k := key _ _ e0 e1
  refine Eq.trans ?_ k
  blk_simp
  rw [after0_8]

/-- The gradient of the gate's argument. -/
theorem arr10 : (dats m 0 c).arrAt 10 cfg0.N = (fun i : S8192x1024.Idx => ((dz (UU O Z X G W (i 0).val) Fg (T (i 0).val) G (O (i 0).val) (Z (i 0).val) W (i 1) : ℝ) : EReal) : FVec Ideal S8192x1024 .f32) := by
  refine (dats m 0 c).arrAt_eq_of_covers 10 _ (by decide +kernel) fun t _ y => ?_
  have e0 : (((cfg0.win 10).blk t).view.emb y 0).val = 256 * t.val + (y 0).val := by blk_simp [widx t] <;> omega
  have e1 : ((cfg0.win 10).blk t).view.emb y 1 = (y 1 : Lane) := Fin.ext (by blk_simp [widx t] <;> omega)
  have key : ∀ (a : ℕ) (d : Lane), a = 256 * t.val + (y 0).val → d = y 1 →
      ((outsAt0 m c t.val t.isLt).2.2.1 : FVec Ideal S256x1024 .f32) y = ((dz (UU O Z X G W a) Fg (T a) G (O a) (Z a) W d : ℝ) : EReal) := by
    rintro _ _ rfl rfl
    have h7 : (outsAt0 m c t.val t.isLt).2.2.1 = k0_pay1 (F := Ideal) (iblk m c 1 t) (k0_pay8 (iblk m c 1 t)) (k0_pay29 (iblk m c 0 t) (k0_pay6 (iblk m c 3 t)) (DX m c t) (iblk m c 4 t)) (k0_pay30 (k0_pay8 (iblk m c 1 t))) := by
      by_cases h : t.val % 32 = 0
      · rw [outsAt0_A m c t h]; dsimp only; rw [out0_A_10_eq]
      · rw [outsAt0_B m c t h]; dsimp only; rw [out0_B_10_eq]
    rw [h7]
    exact (congrArg _ (ix_row (n := 256) (k := 1024) y)).trans (pay1_at (g6 m c G hg t) (b4 m c W hw t) (p19 m c O Z X T G Fg W ho hz hx hg hw hf ht t) (b0 m c O ho t) (b1 m c Z hz t) (pay8_at (b1 m c Z hz t)) (y 0) (y 1))
  have k := key _ _ e0 e1
  refine Eq.trans ?_ k
  blk_simp
  rw [after0_10]

include hh in
/-- The attention's row sums. -/
theorem arr9 : (dats m 0 c).arrAt 9 cfg0.N = (fun i : S8192x128.Idx => ((∑ e : Lane, dgo (UU O Z X G W (i 0).val) Fg (T (i 0).val) G (Z (i 0).val) W e * O (i 0).val e * hl e (i 1) : ℝ) : EReal) : FVec Ideal S8192x128 .f32) := by
  refine (dats m 0 c).arrAt_eq_of_covers 9 _ (by decide +kernel) fun t _ y => ?_
  have e0 : (((cfg0.win 9).blk t).view.emb y 0).val = 256 * t.val + (y 0).val := by blk_simp [widx t] <;> omega
  have e1 : ((cfg0.win 9).blk t).view.emb y 1 = (y 1 : Fin 128) := Fin.ext (by blk_simp [widx t] <;> omega)
  have key : ∀ (a : ℕ) (d : Fin 128), a = 256 * t.val + (y 0).val → d = y 1 →
      ((outsAt0 m c t.val t.isLt).2.1 : FVec Ideal S256x128 .f32) y = ((∑ e : Lane, dgo (UU O Z X G W a) Fg (T a) G (Z a) W e * O a e * hl e d : ℝ) : EReal) := by
    rintro _ _ rfl rfl
    have h7 : (outsAt0 m c t.val t.isLt).2.1 = k0_pay28 (F := Ideal) (iblk m c 0 t) (k0_pay6 (iblk m c 3 t)) (k0_pay9 (iblk m c 1 t)) (DX m c t) (iblk m c 4 t) (iblk m c 7 t) (iblk m c 7 t) := by
      by_cases h : t.val % 32 = 0
      · rw [outsAt0_A m c t h]; dsimp only; rw [out0_A_9_eq]
      · rw [outsAt0_B m c t h]; dsimp only; rw [out0_B_9_eq]
    rw [h7]
    exact (congrArg _ (ix_row (n := 256) (k := 128) y)).trans (pay28_at (g6 m c G hg t) (b4 m c W hw t) (p19 m c O Z X T G Fg W ho hz hx hg hw hf ht t) (pay9_at (b1 m c Z hz t)) (b0 m c O ho t) (iblk m c 7 t) (b7 m c hh t) (y 0) (y 1))
  have k := key _ _ e0 e1
  refine Eq.trans ?_ k
  blk_simp
  rw [after0_9]

/-- The gradient of the projection. -/
theorem arr15 : (dats m 0 c).arrAt 15 cfg0.N = (fun i : S1024x1024.Idx => ((∑ a : Fin 8192, mm (O a.val) (Z a.val) (i 0) * (G (i 1) * dx (UU O Z X G W a.val) Fg (T a.val) (i 1)) : ℝ) : EReal) : FVec Ideal S1024x1024 .f32) := by
  refine (dats m 0 c).arrAt_eq_of_covers 15 _ (by decide +kernel) fun t hf' y => ?_
  have t0 : t.val / 32 = 0 := by have : t.val < 32 := t.isLt; omega
  have e0 : ((cfg0.win 15).blk t).view.emb y 0 = (y 0 : Fin 1024) := Fin.ext (by blk_simp [widx' t] <;> omega)
  have e1 : ((cfg0.win 15).blk t).view.emb y 1 = (y 1 : Fin 1024) := Fin.ext (by blk_simp [widx' t] <;> omega)
  have key : ∀ (e : Fin 1024) (d : Fin 1024), e = y 0 → d = y 1 →
      ((outsAt0 m c t.val t.isLt).2.2.2.2.2.2.2 : FVec Ideal S1024x1024 .f32) y = ((∑ a : Fin 8192, mm (O a.val) (Z a.val) e * (G d * dx (UU O Z X G W a.val) Fg (T a.val) d) : ℝ) : EReal) := by
    rintro _ _ rfl rfl
    refine (Pipeline.eq_sum_fin_of_reset_step_apply_of_flush (fun n h => ((outsAt0 m c n h).2.2.2.2.2.2.2 : S1024x1024.Idx → EReal)) 32 (fun _ => 0)
      (fun t y => ((∑ r : Fin 256, mm (O (256 * t.val + r.val)) (Z (256 * t.val + r.val)) (y 0) * (G (y 1) * dx (UU O Z X G W (256 * t.val + r.val)) Fg (T (256 * t.val + r.val)) (y 1)) : ℝ) : EReal))
      (fun t h j => ?_) (fun t h j => ?_) t ((flush0_15 t).mp hf') y).trans ?_
    · have s := (pay24_at (g6 m c G hg t) (p19 m c O Z X T G Fg W ho hz hx hg hw hf ht t) (pay10_at (b0 m c O ho t) (b1 m c Z hz t)) (j 0) (j 1)).trans (congrArg (fun z : EReal => z + ((∑ r : Fin 256, mm (O (256 * t.val + r.val)) (Z (256 * t.val + r.val)) (j 0) * (G (j 1) * dx (UU O Z X G W (256 * t.val + r.val)) Fg (T (256 * t.val + r.val)) (j 1)) : ℝ) : EReal)) (zero5 (ix2 (j 0) (j 1))))
      refine Eq.trans ?_ s
      rw [outsAt0_A m c t h]; dsimp only
      rw [out0_A_15_eq]
      exact congrArg _ (ix_row (n := 1024) (k := 1024) j)
    · have s := pay24_at (v78 := (outsAt0 m c (t.val - 1) (by have := t.isLt; omega)).2.2.2.2.2.2.2) (g6 m c G hg t) (p19 m c O Z X T G Fg W ho hz hx hg hw hf ht t) (pay10_at (b0 m c O ho t) (b1 m c Z hz t)) (j 0) (j 1)
      refine Eq.trans ?_ (s.trans (congrArg (fun z : EReal => z + ((∑ r : Fin 256, mm (O (256 * t.val + r.val)) (Z (256 * t.val + r.val)) (j 0) * (G (j 1) * dx (UU O Z X G W (256 * t.val + r.val)) Fg (T (256 * t.val + r.val)) (j 1)) : ℝ) : EReal)) (congrArg ((outsAt0 m c (t.val - 1) (by have := t.isLt; omega)).2.2.2.2.2.2.2) (ix_row (n := 1024) (k := 1024) j).symm)))
      rw [outsAt0_B m c t h]; dsimp only
      rw [out0_B_15_eq]
      exact congrArg _ (ix_row (n := 1024) (k := 1024) j)
    · rw [zero_add, sum_coe]
      refine congrArg (fun a : ℝ => (a : EReal)) ?_
      refine Eq.trans ?_ (Cert.FlashSpec.sum_tiles 32 256 (fun a => mm (O a) (Z a) (y 0) * (G (y 1) * dx (UU O Z X G W a) Fg (T a) (y 1))))
      refine Finset.sum_congr rfl fun i _ => Finset.sum_congr rfl fun r _ => ?_
      dsimp only
      rw [t0, Nat.mul_zero, Nat.zero_add]
  have k := key _ _ e0 e1
  refine Eq.trans ?_ k
  blk_simp
  rw [after0_15]

/-- The gradient of the gate. -/
theorem arr14 : (dats m 0 c).arrAt 14 cfg0.N = (fun i : S1x1024.Idx => ((∑ a : Fin 8192, dx (UU O Z X G W a.val) Fg (T a.val) (i 1) * out (O a.val) (Z a.val) W (i 1) : ℝ) : EReal) : FVec Ideal S1x1024 .f32) := by
  refine (dats m 0 c).arrAt_eq_of_covers 14 _ (by decide +kernel) fun t hf' y => ?_
  have t0 : t.val / 32 = 0 := by have : t.val < 32 := t.isLt; omega
  have e0 : ((cfg0.win 14).blk t).view.emb y 0 = (y 0 : Fin 1) := Fin.ext (by blk_simp [widx' t] <;> omega)
  have e1 : ((cfg0.win 14).blk t).view.emb y 1 = (y 1 : Fin 1024) := Fin.ext (by blk_simp [widx' t] <;> omega)
  have key : ∀ (e : Fin 1) (d : Fin 1024), e = y 0 → d = y 1 →
      ((outsAt0 m c t.val t.isLt).2.2.2.2.2.2.1 : FVec Ideal S1x1024 .f32) y = ((∑ a : Fin 8192, dx (UU O Z X G W a.val) Fg (T a.val) d * out (O a.val) (Z a.val) W d : ℝ) : EReal) := by
    rintro _ _ rfl rfl
    refine (Pipeline.eq_sum_fin_of_reset_step_apply_of_flush (fun n h => ((outsAt0 m c n h).2.2.2.2.2.2.1 : S1x1024.Idx → EReal)) 32 (fun _ => 0)
      (fun t y => ((∑ r : Fin 256, dx (UU O Z X G W (256 * t.val + r.val)) Fg (T (256 * t.val + r.val)) (y 1) * out (O (256 * t.val + r.val)) (Z (256 * t.val + r.val)) W (y 1) : ℝ) : EReal))
      (fun t h j => ?_) (fun t h j => ?_) t ((flush0_14 t).mp hf') y).trans ?_
    · have s := (pay22_at (p13 m c O Z X G W ho hz hx hg hw t) (p14 m c O Z X G W ho hz hx hg hw t) (p15 m c O Z X T G Fg W ho hz hx hg hw hf ht t) (g7 m c Fg hf t) (pay11_at (b0 m c O ho t) (b1 m c Z hz t) (b4 m c W hw t)) (j 1)).trans (congrArg (fun z : EReal => z + ((∑ r : Fin 256, dx (UU O Z X G W (256 * t.val + r.val)) Fg (T (256 * t.val + r.val)) (j 1) * out (O (256 * t.val + r.val)) (Z (256 * t.val + r.val)) W (j 1) : ℝ) : EReal)) (zero4 (ix2 0 (j 1))))
      refine Eq.trans ?_ s
      rw [outsAt0_A m c t h]; dsimp only
      rw [out0_A_14_eq]
      exact congrArg _ (ix_one (k := 1024) j)
    · have s := pay22_at (v49 := (outsAt0 m c (t.val - 1) (by have := t.isLt; omega)).2.2.2.2.2.2.1) (p13 m c O Z X G W ho hz hx hg hw t) (p14 m c O Z X G W ho hz hx hg hw t) (p15 m c O Z X T G Fg W ho hz hx hg hw hf ht t) (g7 m c Fg hf t) (pay11_at (b0 m c O ho t) (b1 m c Z hz t) (b4 m c W hw t)) (j 1)
      refine Eq.trans ?_ (s.trans (congrArg (fun z : EReal => z + ((∑ r : Fin 256, dx (UU O Z X G W (256 * t.val + r.val)) Fg (T (256 * t.val + r.val)) (j 1) * out (O (256 * t.val + r.val)) (Z (256 * t.val + r.val)) W (j 1) : ℝ) : EReal)) (congrArg ((outsAt0 m c (t.val - 1) (by have := t.isLt; omega)).2.2.2.2.2.2.1) (ix_one (k := 1024) j).symm)))
      rw [outsAt0_B m c t h]; dsimp only
      rw [out0_B_14_eq]
      exact congrArg _ (ix_one (k := 1024) j)
    · rw [zero_add, sum_coe]
      refine congrArg (fun a : ℝ => (a : EReal)) ?_
      refine Eq.trans ?_ (Cert.FlashSpec.sum_tiles 32 256 (fun a => dx (UU O Z X G W a) Fg (T a) (y 1) * out (O a) (Z a) W (y 1)))
      refine Finset.sum_congr rfl fun i _ => Finset.sum_congr rfl fun r _ => ?_
      dsimp only
      rw [t0, Nat.mul_zero, Nat.zero_add]
  have k := key _ _ e0 e1
  refine Eq.trans ?_ k
  blk_simp
  rw [after0_14]

/-- The gradient of the norm's gain. -/
theorem arr13 : (dats m 0 c).arrAt 13 cfg0.N = (fun i : S1x1024.Idx => ((∑ a : Fin 8192, er (UU O Z X G W a.val) Fg (T a.val) (i 1) * (1 / 1024) * nn (UU O Z X G W a.val) (i 1) : ℝ) : EReal) : FVec Ideal S1x1024 .f32) := by
  refine (dats m 0 c).arrAt_eq_of_covers 13 _ (by decide +kernel) fun t hf' y => ?_
  have t0 : t.val / 32 = 0 := by have : t.val < 32 := t.isLt; omega
  have e0 : ((cfg0.win 13).blk t).view.emb y 0 = (y 0 : Fin 1) := Fin.ext (by blk_simp [widx' t] <;> omega)
  have e1 : ((cfg0.win 13).blk t).view.emb y 1 = (y 1 : Fin 1024) := Fin.ext (by blk_simp [widx' t] <;> omega)
  have key : ∀ (e : Fin 1) (d : Fin 1024), e = y 0 → d = y 1 →
      ((outsAt0 m c t.val t.isLt).2.2.2.2.2.1 : FVec Ideal S1x1024 .f32) y = ((∑ a : Fin 8192, er (UU O Z X G W a.val) Fg (T a.val) d * (1 / 1024) * nn (UU O Z X G W a.val) d : ℝ) : EReal) := by
    rintro _ _ rfl rfl
    refine (Pipeline.eq_sum_fin_of_reset_step_apply_of_flush (fun n h => ((outsAt0 m c n h).2.2.2.2.2.1 : S1x1024.Idx → EReal)) 32 (fun _ => 0)
      (fun t y => ((∑ r : Fin 256, er (UU O Z X G W (256 * t.val + r.val)) Fg (T (256 * t.val + r.val)) (y 1) * (1 / 1024) * nn (UU O Z X G W (256 * t.val + r.val)) (y 1) : ℝ) : EReal))
      (fun t h j => ?_) (fun t h j => ?_) t ((flush0_13 t).mp hf') y).trans ?_
    · have s := (pay18_at (p14 m c O Z X G W ho hz hx hg hw t) (p15 m c O Z X T G Fg W ho hz hx hg hw hf ht t) (j 1)).trans (congrArg (fun z : EReal => z + ((∑ r : Fin 256, er (UU O Z X G W (256 * t.val + r.val)) Fg (T (256 * t.val + r.val)) (j 1) * (1 / 1024) * nn (UU O Z X G W (256 * t.val + r.val)) (j 1) : ℝ) : EReal)) (zero3 (ix2 0 (j 1))))
      refine Eq.trans ?_ s
      rw [outsAt0_A m c t h]; dsimp only
      rw [out0_A_13_eq]
      exact congrArg _ (ix_one (k := 1024) j)
    · have s := pay18_at (v49 := (outsAt0 m c (t.val - 1) (by have := t.isLt; omega)).2.2.2.2.2.1) (p14 m c O Z X G W ho hz hx hg hw t) (p15 m c O Z X T G Fg W ho hz hx hg hw hf ht t) (j 1)
      refine Eq.trans ?_ (s.trans (congrArg (fun z : EReal => z + ((∑ r : Fin 256, er (UU O Z X G W (256 * t.val + r.val)) Fg (T (256 * t.val + r.val)) (j 1) * (1 / 1024) * nn (UU O Z X G W (256 * t.val + r.val)) (j 1) : ℝ) : EReal)) (congrArg ((outsAt0 m c (t.val - 1) (by have := t.isLt; omega)).2.2.2.2.2.1) (ix_one (k := 1024) j).symm)))
      rw [outsAt0_B m c t h]; dsimp only
      rw [out0_B_13_eq]
      exact congrArg _ (ix_one (k := 1024) j)
    · rw [zero_add, sum_coe]
      refine congrArg (fun a : ℝ => (a : EReal)) ?_
      refine Eq.trans ?_ (Cert.FlashSpec.sum_tiles 32 256 (fun a => er (UU O Z X G W a) Fg (T a) (y 1) * (1 / 1024) * nn (UU O Z X G W a) (y 1)))
      refine Finset.sum_congr rfl fun i _ => Finset.sum_congr rfl fun r _ => ?_
      dsimp only
      rw [t0, Nat.mul_zero, Nat.zero_add]
  have k := key _ _ e0 e1
  refine Eq.trans ?_ k
  blk_simp
  rw [after0_13]

/-- The loss. -/
theorem arr12 : (dats m 0 c).arrAt 12 cfg0.N = (fun i : S1x1.Idx => ((∑ a : Fin 8192, 1 / 2 * lossRow (UU O Z X G W a.val) Fg (T a.val) : ℝ) : EReal) : FVec Ideal S1x1 .f32) := by
  refine (dats m 0 c).arrAt_eq_of_covers 12 _ (by decide +kernel) fun t hf' y => ?_
  have t0 : t.val / 32 = 0 := by have : t.val < 32 := t.isLt; omega
  have e0 : ((cfg0.win 12).blk t).view.emb y 0 = (y 0 : Fin 1) := Fin.ext (by blk_simp [widx' t] <;> omega)
  have e1 : ((cfg0.win 12).blk t).view.emb y 1 = (y 1 : Fin 1) := Fin.ext (by blk_simp [widx' t] <;> omega)
  have key : ∀ (e : Fin 1) (d : Fin 1), e = y 0 → d = y 1 →
      ((outsAt0 m c t.val t.isLt).2.2.2.2.1 : FVec Ideal S1x1 .f32) y = ((∑ a : Fin 8192, 1 / 2 * lossRow (UU O Z X G W a.val) Fg (T a.val) : ℝ) : EReal) := by
    rintro _ _ rfl rfl
    refine (Pipeline.eq_sum_fin_of_reset_step_apply_of_flush (fun n h => ((outsAt0 m c n h).2.2.2.2.1 : S1x1.Idx → EReal)) 32 (fun _ => 0)
      (fun t y => ((∑ r : Fin 256, 1 / 2 * lossRow (UU O Z X G W (256 * t.val + r.val)) Fg (T (256 * t.val + r.val)) : ℝ) : EReal))
      (fun t h j => ?_) (fun t h j => ?_) t ((flush0_12 t).mp hf') y).trans ?_
    · have s := ((pay16_at (p15 m c O Z X T G Fg W ho hz hx hg hw hf ht t)).trans (congrArg (fun z : ℝ => _ + (z : EReal)) (Finset.mul_sum Finset.univ _ _))).trans (congrArg (fun z : EReal => z + ((∑ r : Fin 256, 1 / 2 * lossRow (UU O Z X G W (256 * t.val + r.val)) Fg (T (256 * t.val + r.val)) : ℝ) : EReal)) (zero2 (ix2 0 0)))
      refine Eq.trans ?_ s
      rw [outsAt0_A m c t h]; dsimp only
      rw [out0_A_12_eq]
      exact congrArg _ (ix_11 j)
    · have s := (pay16_at (v34 := (outsAt0 m c (t.val - 1) (by have := t.isLt; omega)).2.2.2.2.1) (p15 m c O Z X T G Fg W ho hz hx hg hw hf ht t)).trans (congrArg (fun z : ℝ => _ + (z : EReal)) (Finset.mul_sum Finset.univ _ _))
      refine Eq.trans ?_ (s.trans (congrArg (fun z : EReal => z + ((∑ r : Fin 256, 1 / 2 * lossRow (UU O Z X G W (256 * t.val + r.val)) Fg (T (256 * t.val + r.val)) : ℝ) : EReal)) (congrArg ((outsAt0 m c (t.val - 1) (by have := t.isLt; omega)).2.2.2.2.1) (ix_11 j).symm)))
      rw [outsAt0_B m c t h]; dsimp only
      rw [out0_B_12_eq]
      exact congrArg _ (ix_11 j)
    · rw [zero_add, sum_coe]
      refine congrArg (fun a : ℝ => (a : EReal)) ?_
      refine Eq.trans ?_ (Cert.FlashSpec.sum_tiles 32 256 (fun a => 1 / 2 * lossRow (UU O Z X G W a) Fg (T a)))
      refine Finset.sum_congr rfl fun i _ => Finset.sum_congr rfl fun r _ => ?_
      dsimp only
      rw [t0, Nat.mul_zero, Nat.zero_add]
  have k := key _ _ e0 e1
  refine Eq.trans ?_ k
  blk_simp
  rw [after0_12]
end
end Cert.LossArr
end
-- ==== Proof.LossHost.lean ====
module

public import proofs.«01_k».proof.Proof.LossArr
public import Idealize.ShloMosaic.Lib.Pointwise
public import Idealize.ShloMosaic.Lib.Claim
@[expose] public section

/-!
What the host prepares for the head-and-loss region: the two reshaped rows and the map of lanes to heads.
-/

set_option maxRecDepth 16384

noncomputable section

open Idealize.ShloMosaic Idealize.ShloMosaic.TcCoe Idealize.SL.Sem
namespace Cert.LossHost
open Cert.Kernel4Ideal Cert.Kernel4Ideal.Gen Cert.Reals Cert.LossSpec
variable (m : (ℓ : Loc nD τ sig) → Buf (Elt Ideal) ℓ) (c : Dev nD)

theorem V0_at (d : Lane) : (V m c main_v0 : FVec Ideal S2x1x1024 .f32) (ix3 1 0 d) = (m ((c : Thread nD τ).loc main_arg3) : FVec Ideal S2x1024 .f32) (ix2 1 d) := by
  have e : (V m c main_v0 : FVec Ideal S2x1x1024 .f32) = shapeCast S2x1x1024 (m ((c : Thread nD τ).loc main_arg3) : FVec Ideal S2x1024 .f32) shapeCasts_S2x1024_S2x1x1024 := by
    show StableHlo.after (List.flatten [hostOps0, hostOps0_1, hostOps0_2]) _ (Proc.devRef .tc main_v0) = _
    entry_read
    rfl
  rw [e]
  pointwise []

theorem V1_at (d : Lane) : (V m c main_v1 : FVec Ideal S1x1024 .f32) (ix2 0 d) = (m ((c : Thread nD τ).loc main_arg5) : FVec Ideal S1024 .f32) (ix1 d) := by
  have e : (V m c main_v1 : FVec Ideal S1x1024 .f32) = shapeCast S1x1024 (m ((c : Thread nD τ).loc main_arg5) : FVec Ideal S1024 .f32) shapeCasts_S1024_S1x1024 := by
    show StableHlo.after (List.flatten [hostOps0, hostOps0_1, hostOps0_2]) _ (Proc.devRef .tc main_v1) = _
    entry_read
    rfl
  rw [e]
  pointwise []

/-- The lanes' numbers. -/
abbrev lanes : IVec S1024x1 32 := broadcastInDim S1024x1 ![0] bcast_S1024_S1024x1_0 (iotaInDim S1024 32 0)
/-- A word in every lane. -/
abbrev word (b : BitVec 32) : IVec S1024x1 32 := broadcastInDim S1024x1 ![] bcast_S_S1024x1 (constantI S_ 32 b)
/-- A lane's head: the lane's number divided by the heads' width, rounded down. -/
def heads : IVec S1024x1 32 :=
  select (andi (cmpi .ne (signi lanes) (broadcastInDim S1024x1 ![] bcast_S_S1024x1 (signi (constantI S_ 32 64#32)))) (cmpi .ne (Host.remsi lanes (word 64#32)) (word 0#32)))
    (subi (Host.divsi lanes (word 64#32)) (word 1#32)) (Host.divsi lanes (word 64#32))

theorem heads_at : ∀ e : Lane, heads (ix2 e 0) = BitVec.ofNat 32 (e.val / 64) := by decide +kernel

theorem V10_at (e : Lane) (h : Fin 128) : (V m c main_v10 : FVec Ideal S1024x128 .bf16) (ix2 e h) = ((hl e h : ℝ) : EReal) := by
  have k : (V m c main_v10 : FVec Ideal S1024x128 .bf16) = uitofp (F := Ideal) .bf16 (cmpi .eq (broadcastInDim S1024x128 ![0, 1] bcast_S1024x1_S1024x128_0_1 heads)
      (broadcastInDim S1024x128 ![0, 1] bcast_S1x128_S1024x128_0_1 (broadcastInDim S1x128 ![1] bcast_S128_S1x128_1 (iotaInDim S128 32 0)))) := by
    show StableHlo.after (List.flatten [hostOps0, hostOps0_1, hostOps0_2]) _ (Proc.devRef .tc main_v10) = _
    entry_read
    rfl
  rw [k]
  pointwise []
  rw [heads_at]
  show (((IntOp.cmpi CmpIPredicate.eq (BitVec.ofNat 32 (e.val / 64)) (BitVec.ofNat 32 h.val)).toNat : ℝ) : EReal) = _
  refine congrArg (fun z : ℝ => (z : EReal)) ?_
  have he := e.isLt
  have hh := h.isLt
  by_cases q : e.val / 64 = h.val
  · rw [hl, if_pos q, q]
    simp [IntOp.cmpi]
  · have n : BitVec.ofNat 32 (e.val / 64) ≠ BitVec.ofNat 32 h.val := by
      intro w
      have w' := congrArg BitVec.toNat w
      simp only [BitVec.toNat_ofNat] at w'
      omega
    rw [hl, if_neg q]
    simp [IntOp.cmpi, n]

end Cert.LossHost
end
-- ==== Proof.Coes.lean ====
module

public import proofs.«01_k».proof.Proof.Reals
@[expose] public section

/-!
Arithmetic of real entries, entry by entry.
-/

noncomputable section
open Idealize.ShloMosaic
namespace Cert.Reals

/-- Sums and products of reals are real. -/
theorem coes : (∀ f : Fin 1 → EReal, ∑ i, f i = f 0) ∧ (∀ f : Fin 1 → ℝ, ∑ i, f i = f 0) ∧ (∀ x y : ℝ, (x : EReal) * (y : EReal) = ((x * y : ℝ) : EReal))
    ∧ (∀ x y : ℝ, (x : EReal) + (y : EReal) = ((x + y : ℝ) : EReal)) ∧ (∀ x y : ℝ, (x : EReal) - (y : EReal) = ((x - y : ℝ) : EReal))
    ∧ (∀ {ι : Type} (s : Finset ι) (f : ι → ℝ), ∑ i ∈ s, (f i : EReal) = ((∑ i ∈ s, f i : ℝ) : EReal)) ∧ (∀ x : EReal, 0 + x = x)
    ∧ (∀ x : ℝ, Ideal.div (x : EReal) ((1024 : ℝ) : EReal) = ((x / 1024 : ℝ) : EReal)) :=
  ⟨Fin.sum_univ_one, Fin.sum_univ_one, fun x y => (EReal.coe_mul x y).symm, fun x y => (EReal.coe_add x y).symm, fun x y => (EReal.coe_sub x y).symm, sum_coe, zero_add,
    fun x => div_coe x 1024 (by norm_num)⟩

end Cert.Reals
end
-- ==== Proof.LossRef.lean ====
module

public import proofs.«01_k».proof.Proof.Gen.Reference4Ideal.Run
public import proofs.«01_k».proof.Proof.Gen.Reference4Ideal.Read
public import proofs.«01_k».proof.Proof.LossSpec
public import proofs.«01_k».proof.Proof.FlashSpec
public import Idealize.ShloMosaic.Lib.Pointwise
public import Idealize.ShloMosaic.Lib.Claim
public import proofs.«01_k».proof.Proof.Coes
@[expose] public section

/-!
The derivative's program read stage by stage on real arguments.
-/

set_option maxRecDepth 16384

noncomputable section

open Idealize.ShloMosaic Idealize.SL.Sem
namespace Cert.LossRef
open Cert.Reference4Ideal Cert.Reference4Ideal.Read Cert.Reals Cert.LossSpec

/-- The constants. -/
theorem csts (i : S_.Idx) : val_main_cst (F := Ideal) i = ((2 : ℝ) : EReal)
    ∧ val_main_cst_0 (F := Ideal) i = 0
    ∧ val_main_cst_1 (F := Ideal) i = ((1024 : ℝ) : EReal)
    ∧ val_main_cst_2 (F := Ideal) i = ((eps : ℝ) : EReal)
    ∧ val_main_cst_3 (F := Ideal) i = ((-(1 / 2) : ℝ) : EReal)
    ∧ val_main_cst_4 (F := Ideal) i = ((2 : ℝ) : EReal)
    ∧ val_main_cst_5 (F := Ideal) i = 0
    ∧ val_main_cst_6 (F := Ideal) i = ((1024 : ℝ) : EReal)
    ∧ val_main_cst_7 (F := Ideal) i = 0
    ∧ val_main_cst_8 (F := Ideal) i = ((1 / 2 : ℝ) : EReal)
    ∧ val_main_cst_9 (F := Ideal) i = ((1 / 2 : ℝ) : EReal)
    ∧ val_main_cst_10 (F := Ideal) i = ((1 : ℝ) : EReal)
    ∧ val_main_cst_11 (F := Ideal) i = ((1024 : ℝ) : EReal)
    ∧ val_main_cst_12 (F := Ideal) i = 0
    ∧ val_main_cst_13 (F := Ideal) i = 0
    ∧ val_main_cst_14 (F := Ideal) i = 0
    ∧ val_main_cst_15 (F := Ideal) i = ((1024 : ℝ) : EReal)
    ∧ val_main_cst_16 (F := Ideal) i = 0
    ∧ val_main_cst_17 (F := Ideal) i = 0
    ∧ val_main_cst_18 (F := Ideal) i = 0
    ∧ val_main_cst_19 (F := Ideal) i = 0
    ∧ val_main_call0_cst (F := Ideal) i = ((1 : ℝ) : EReal)
    ∧ val_main_call0_cst_0 (F := Ideal) i = ((1 : ℝ) : EReal)
    ∧ val_main_call0_cst_1 (F := Ideal) i = ((1 : ℝ) : EReal) :=
  ⟨bits_two, bits_0, bits_1024, bits_eps, bits_neghalf, bits_two, bits_0, bits_1024, bits_0, bits_half, bits_half, bits_1, bits_1024, bits_0, bits_0, bits_0, bits_1024, bits_0, bits_0, bits_0, bits_0, bits_1, bits_1, bits_1⟩

variable (x0 : (⟨S8192x1024, .f32⟩ : BufTy).Contents (Elt Ideal)) (x1 x2 : (⟨S8448x1024, .f32⟩ : BufTy).Contents (Elt Ideal)) (x3 : (⟨S2x1024, .f32⟩ : BufTy).Contents (Elt Ideal))
  (x4 : (⟨S1024x1024, .f32⟩ : BufTy).Contents (Elt Ideal)) (x5 : (⟨S1024, .f32⟩ : BufTy).Contents (Elt Ideal)) (x6 : (⟨S8192x1024, .f32⟩ : BufTy).Contents (Elt Ideal))
  (O Z X T : ℕ → Row) (G Fg : Row) (W : Lane → Row)

/-- The arguments are real arrays. -/
structure Args : Prop where
  h0 : ∀ (a : Fin 8192) (d : Lane), x0 (ix2 a d) = ((O a.val d : ℝ) : EReal)
  h1 : ∀ (a : ℕ) (h : 256 + a < 8448) (d : Lane), x1 (ix2 ⟨256 + a, h⟩ d) = ((Z a d : ℝ) : EReal)
  h2 : ∀ (a : ℕ) (h : 256 + a < 8448) (d : Lane), x2 (ix2 ⟨256 + a, h⟩ d) = ((X a d : ℝ) : EReal)
  h3 : ∀ d : Lane, x3 (ix2 1 d) = ((G d : ℝ) : EReal)
  h4 : ∀ e d : Lane, x4 (ix2 e d) = ((W e d : ℝ) : EReal)
  h5 : ∀ d : Lane, x5 (ix1 d) = ((Fg d : ℝ) : EReal)
  h6 : ∀ (a : Fin 8192) (d : Lane), x6 (ix2 a d) = ((T a.val d : ℝ) : EReal)

variable {x0 x1 x2 x3 x4 x5 x6 O Z X T G Fg W} (hA : Args x0 x1 x2 x3 x4 x5 x6 O Z X T G Fg W)

/-- The stream's row `a`. -/
abbrev R (O Z X : ℕ → Row) (G : Row) (W : Lane → Row) (a : ℕ) : Row := LossSpec.x2 (O a) (Z a) (X a) G W

include hA

theorem v0_at (a : Fin 8192) (d : Lane) : val_main_v0 (F := Ideal) x1 (ix2 a d) = ((Z a.val d : ℝ) : EReal) := by
  unfold val_main_v0
  pointwise []
  simp only [hA.h1, coes]

theorem v1_at (a : Fin 8192) (d : Lane) : val_main_v1 (F := Ideal) x2 (ix2 a d) = ((X a.val d : ℝ) : EReal) := by
  unfold val_main_v1
  pointwise []
  simp only [hA.h2, coes]

theorem v3_at (d : Lane) : val_main_v3 (F := Ideal) x3 (ix1 d) = ((G d : ℝ) : EReal) := by
  unfold val_main_v3 val_main_v2
  pointwise []
  simp only [hA.h3, coes]

theorem v4_2_at (a : Fin 8192) (d : Lane) : val_main_v4_2 (F := Ideal) x1 (ix2 a d) = ((sig (Z a.val d) : ℝ) : EReal) := by
  unfold val_main_v4_2 val_main_call0_v4 val_main_call0_v3 val_main_call0_v2 val_main_call0_v1 val_main_call0_v0
  have e0 := v0_at hA
  generalize val_main_v0 (F := Ideal) x1 = y0 at e0 ⊢
  pointwise []
  simp only [e0, csts, ← EReal.coe_neg, exp_coe, coes]
  rw [div_coe _ _ (by positivity)]
  rfl

theorem v4_1_at (a : Fin 8192) (d : Lane) : val_main_v4_1 (F := Ideal) x1 (ix2 a d) = ((sig (Z a.val d) * (1 - sig (Z a.val d)) : ℝ) : EReal) := by
  unfold val_main_v4_1 val_main_call0_v7 val_main_call0_v6
  have e0 := v4_2_at hA
  generalize val_main_v4_2 (F := Ideal) x1 = y0 at e0 ⊢
  pointwise []
  simp only [e0, csts, coes]

theorem v4_0_at (a : Fin 8192) (d : Lane) : val_main_v4_0 (F := Ideal) x1 (ix2 a d) = ((Z a.val d * sig (Z a.val d) : ℝ) : EReal) := by
  unfold val_main_v4_0
  have e0 := v0_at hA
  generalize val_main_v0 (F := Ideal) x1 = y0 at e0 ⊢
  have e1 := v4_2_at hA
  generalize val_main_v4_2 (F := Ideal) x1 = y1 at e1 ⊢
  pointwise []
  simp only [e0, e1, coes]

theorem v5_at (a : Fin 8192) (d : Lane) : val_main_v5 (F := Ideal) x0 x1 (ix2 a d) = ((mm (O a.val) (Z a.val) d : ℝ) : EReal) := by
  unfold val_main_v5
  have e0 := v4_0_at hA
  generalize val_main_v4_0 (F := Ideal) x1 = y0 at e0 ⊢
  pointwise []
  simp only [e0, hA.h0, coes]
  rfl

theorem v6_at (a : Fin 8192) (d : Lane) : val_main_v6 (F := Ideal) x0 x1 x4 (ix2 a d) = ((LossSpec.out (O a.val) (Z a.val) W d : ℝ) : EReal) := by
  unfold val_main_v6
  have e0 := v5_at hA
  generalize val_main_v5 (F := Ideal) x0 x1 = y0 at e0 ⊢
  pointwise []
  simp only [e0, hA.h4, coes]
  rfl

theorem v8_at (a : Fin 8192) (d : Lane) : val_main_v8 (F := Ideal) x3 (ix2 a d) = ((G d : ℝ) : EReal) := by
  unfold val_main_v8 val_main_v7
  have e0 := v3_at hA
  generalize val_main_v3 (F := Ideal) x3 = y0 at e0 ⊢
  pointwise []
  simp only [e0, coes]

theorem v10_at (a : Fin 8192) (d : Lane) : val_main_v10 (F := Ideal) x0 x1 x2 x3 x4 (ix2 a d) = ((R O Z X G W a.val d : ℝ) : EReal) := by
  unfold val_main_v10 val_main_v9
  have e0 := v1_at hA
  generalize val_main_v1 (F := Ideal) x2 = y0 at e0 ⊢
  have e1 := v8_at hA
  generalize val_main_v8 (F := Ideal) x3 = y1 at e1 ⊢
  have e2 := v6_at hA
  generalize val_main_v6 (F := Ideal) x0 x1 x4 = y2 at e2 ⊢
  pointwise []
  simp only [e0, e1, e2, coes]
  rfl

theorem v13_at (a : Fin 8192) (d : Lane) : val_main_v13 (F := Ideal) x0 x1 x2 x3 x4 (ix2 a d) = ((2 * R O Z X G W a.val d : ℝ) : EReal) := by
  unfold val_main_v13 val_main_v12
  have e0 := v10_at hA
  generalize val_main_v10 (F := Ideal) x0 x1 x2 x3 x4 = y0 at e0 ⊢
  pointwise []
  simp only [e0, csts, coes]

theorem v14_at (a : Fin 8192) : val_main_v14 (F := Ideal) x0 x1 x2 x3 x4 (ix1 a) = ((∑ d, R O Z X G W a.val d * R O Z X G W a.val d : ℝ) : EReal) := by
  unfold val_main_v14 val_main_v11
  have e0 := v10_at hA
  generalize val_main_v10 (F := Ideal) x0 x1 x2 x3 x4 = y0 at e0 ⊢
  pointwise []
  simp only [e0, csts, coes]

theorem v19_at (a : Fin 8192) : val_main_v19 (F := Ideal) x0 x1 x2 x3 x4 (ix2 a 0) = ((ms (R O Z X G W a.val) : ℝ) : EReal) := by
  unfold val_main_v19 val_main_v18 val_main_v17 val_main_v16 val_main_v15
  have e0 := v14_at hA
  generalize val_main_v14 (F := Ideal) x0 x1 x2 x3 x4 = y0 at e0 ⊢
  pointwise []
  simp only [e0, csts, coes]
  rfl

theorem v20_at (a : Fin 8192) : val_main_v20 (F := Ideal) x0 x1 x2 x3 x4 (ix2 a 0) = ((rr (R O Z X G W a.val) : ℝ) : EReal) := by
  unfold val_main_v20
  have e0 := v19_at hA
  generalize val_main_v19 (F := Ideal) x0 x1 x2 x3 x4 = y0 at e0 ⊢
  pointwise []
  simp only [e0, coes]
  exact rsqrt_ms _

theorem v23_at (a : Fin 8192) : val_main_v23 (F := Ideal) x0 x1 x2 x3 x4 (ix2 a 0) = ((-(1 / 2) * (rr (R O Z X G W a.val) / ms (R O Z X G W a.val)) : ℝ) : EReal) := by
  unfold val_main_v23 val_main_v22 val_main_v21
  have e0 := v20_at hA
  generalize val_main_v20 (F := Ideal) x0 x1 x2 x3 x4 = y0 at e0 ⊢
  have e1 := v19_at hA
  generalize val_main_v19 (F := Ideal) x0 x1 x2 x3 x4 = y1 at e1 ⊢
  pointwise []
  simp only [e0, e1, csts, div_coe _ _ (ms_pos _).ne', coes]

theorem v25_at (a : Fin 8192) (d : Lane) : val_main_v25 (F := Ideal) x0 x1 x2 x3 x4 (ix2 a d) = ((nn (R O Z X G W a.val) d : ℝ) : EReal) := by
  unfold val_main_v25 val_main_v24
  have e0 := v10_at hA
  generalize val_main_v10 (F := Ideal) x0 x1 x2 x3 x4 = y0 at e0 ⊢
  have e1 := v20_at hA
  generalize val_main_v20 (F := Ideal) x0 x1 x2 x3 x4 = y1 at e1 ⊢
  pointwise []
  simp only [e0, e1, coes]
  rfl

theorem v29_at (a : Fin 8192) (d : Lane) : val_main_v29 (F := Ideal) x0 x1 x2 x3 x4 x5 x6 (ix2 a d) = ((er (R O Z X G W a.val) Fg (T a.val) d : ℝ) : EReal) := by
  unfold val_main_v29 val_main_v28 val_main_v27 val_main_v26
  have e0 := v25_at hA
  generalize val_main_v25 (F := Ideal) x0 x1 x2 x3 x4 = y0 at e0 ⊢
  pointwise []
  simp only [e0, hA.h5, hA.h6, coes]
  rfl

theorem v35_at (a : Fin 8192) : val_main_v35 (F := Ideal) x0 x1 x2 x3 x4 x5 x6 (ix1 a) = ((lossRow (R O Z X G W a.val) Fg (T a.val) : ℝ) : EReal) := by
  unfold val_main_v35 val_main_v34 val_main_v33 val_main_v30
  have e0 := v29_at hA
  generalize val_main_v29 (F := Ideal) x0 x1 x2 x3 x4 x5 x6 = y0 at e0 ⊢
  pointwise []
  simp only [e0, csts, coes]
  rfl

theorem v79_at  : val_main_v79 (F := Ideal) x0 x1 x2 x3 x4 x5 x6 (ix2 0 0) = ((1 / 2 * ∑ a : Fin 8192, lossRow (R O Z X G W a.val) Fg (T a.val) : ℝ) : EReal) := by
  unfold val_main_v79 val_main_v37 val_main_v36
  have e0 := v35_at hA
  generalize val_main_v35 (F := Ideal) x0 x1 x2 x3 x4 x5 x6 = y0 at e0 ⊢
  pointwise []
  simp only [e0, csts, coes]

theorem v43_at (a : Fin 8192) (d : Lane) : val_main_v43 (F := Ideal) x0 x1 x2 x3 x4 x5 x6 (ix2 a d) = ((er (R O Z X G W a.val) Fg (T a.val) d * (1 / 1024) : ℝ) : EReal) := by
  unfold val_main_v43 val_main_v42 val_main_v41 val_main_v40 val_main_v39 val_main_v38 val_main_v32 val_main_v31
  have e0 := v29_at hA
  generalize val_main_v29 (F := Ideal) x0 x1 x2 x3 x4 x5 x6 = y0 at e0 ⊢
  pointwise []
  simp only [e0, csts, coes]
  refine congrArg (fun z : ℝ => (z : EReal)) ?_
  ring

theorem v80_at (d : Lane) : val_main_v80 (F := Ideal) x0 x1 x2 x3 x4 x5 x6 (ix2 0 d) = ((∑ a : Fin 8192, er (R O Z X G W a.val) Fg (T a.val) d * (1 / 1024) * nn (R O Z X G W a.val) d : ℝ) : EReal) := by
  unfold val_main_v80 val_main_v49 val_main_v46 val_main_v45 val_main_v44
  have e0 := v25_at hA
  generalize val_main_v25 (F := Ideal) x0 x1 x2 x3 x4 = y0 at e0 ⊢
  have e1 := v43_at hA
  generalize val_main_v43 (F := Ideal) x0 x1 x2 x3 x4 x5 x6 = y1 at e1 ⊢
  pointwise []
  simp only [e0, e1, csts, coes]
  exact congrArg (fun z : ℝ => (z : EReal)) (Finset.sum_congr rfl fun _ _ => mul_comm _ _)

theorem v48_at (a : Fin 8192) (d : Lane) : val_main_v48 (F := Ideal) x0 x1 x2 x3 x4 x5 x6 (ix2 a d) = ((dn (R O Z X G W a.val) Fg (T a.val) d : ℝ) : EReal) := by
  unfold val_main_v48 val_main_v47 val_main_v26
  have e0 := v43_at hA
  generalize val_main_v43 (F := Ideal) x0 x1 x2 x3 x4 x5 x6 = y0 at e0 ⊢
  pointwise []
  simp only [e0, hA.h5, coes]
  rfl

theorem v58_at (a : Fin 8192) : val_main_v58 (F := Ideal) x0 x1 x2 x3 x4 x5 x6 (ix1 a) = (((∑ k, R O Z X G W a.val k * dn (R O Z X G W a.val) Fg (T a.val) k) * (-(1 / 2) * (rr (R O Z X G W a.val) / ms (R O Z X G W a.val))) / 1024 : ℝ) : EReal) := by
  unfold val_main_v58 val_main_v57 val_main_v56 val_main_v55 val_main_v52 val_main_v51 val_main_v50
  have e0 := v10_at hA
  generalize val_main_v10 (F := Ideal) x0 x1 x2 x3 x4 = y0 at e0 ⊢
  have e1 := v48_at hA
  generalize val_main_v48 (F := Ideal) x0 x1 x2 x3 x4 x5 x6 = y1 at e1 ⊢
  have e2 := v23_at hA
  generalize val_main_v23 (F := Ideal) x0 x1 x2 x3 x4 = y2 at e2 ⊢
  pointwise []
  simp only [e0, e1, e2, csts, coes]

theorem v61_at (a : Fin 8192) (d : Lane) : val_main_v61 (F := Ideal) x0 x1 x2 x3 x4 x5 x6 (ix2 a d) = ((dx (R O Z X G W a.val) Fg (T a.val) d : ℝ) : EReal) := by
  unfold val_main_v61 val_main_v60 val_main_v59 val_main_v54 val_main_v53
  have e0 := v48_at hA
  generalize val_main_v48 (F := Ideal) x0 x1 x2 x3 x4 x5 x6 = y0 at e0 ⊢
  have e1 := v20_at hA
  generalize val_main_v20 (F := Ideal) x0 x1 x2 x3 x4 = y1 at e1 ⊢
  have e2 := v58_at hA
  generalize val_main_v58 (F := Ideal) x0 x1 x2 x3 x4 x5 x6 = y2 at e2 ⊢
  have e3 := v13_at hA
  generalize val_main_v13 (F := Ideal) x0 x1 x2 x3 x4 = y3 at e3 ⊢
  pointwise []
  simp only [e0, e1, e2, e3, coes]
  exact congrArg (fun z : ℝ => (z : EReal)) (by rw [← dx_chain]; ring)

theorem v63_at (a : Fin 8192) (d : Lane) : val_main_v63 (F := Ideal) x0 x1 x2 x3 x4 x5 x6 (ix2 a d) = ((dout (R O Z X G W a.val) Fg (T a.val) G d : ℝ) : EReal) := by
  unfold val_main_v63 val_main_v62 val_main_v7
  have e0 := v61_at hA
  generalize val_main_v61 (F := Ideal) x0 x1 x2 x3 x4 x5 x6 = y0 at e0 ⊢
  have e1 := v3_at hA
  generalize val_main_v3 (F := Ideal) x3 = y1 at e1 ⊢
  pointwise []
  simp only [e0, e1, coes]
  rfl

theorem v81_at (d : Lane) : val_main_v81 (F := Ideal) x0 x1 x2 x3 x4 x5 x6 (ix2 0 d) = ((∑ a : Fin 8192, dx (R O Z X G W a.val) Fg (T a.val) d * LossSpec.out (O a.val) (Z a.val) W d : ℝ) : EReal) := by
  unfold val_main_v81 val_main_v67 val_main_v66 val_main_v65 val_main_v64
  have e0 := v61_at hA
  generalize val_main_v61 (F := Ideal) x0 x1 x2 x3 x4 x5 x6 = y0 at e0 ⊢
  have e1 := v6_at hA
  generalize val_main_v6 (F := Ideal) x0 x1 x4 = y1 at e1 ⊢
  pointwise []
  simp only [e0, e1, csts, coes]

theorem v69_at (e d : Lane) : val_main_v69 (F := Ideal) x0 x1 x2 x3 x4 x5 x6 (ix2 e d) = ((∑ a : Fin 8192, mm (O a.val) (Z a.val) e * (G d * dx (R O Z X G W a.val) Fg (T a.val) d) : ℝ) : EReal) := by
  unfold val_main_v69 val_main_v68
  have e0 := v63_at hA
  generalize val_main_v63 (F := Ideal) x0 x1 x2 x3 x4 x5 x6 = y0 at e0 ⊢
  have e1 := v5_at hA
  generalize val_main_v5 (F := Ideal) x0 x1 = y1 at e1 ⊢
  pointwise []
  simp only [e0, e1, coes]
  exact congrArg (fun z : ℝ => (z : EReal)) (Finset.sum_congr rfl fun _ _ => mul_comm _ _)

theorem v70_at (a : Fin 8192) (d : Lane) : val_main_v70 (F := Ideal) x0 x1 x2 x3 x4 x5 x6 (ix2 a d) = ((dm (R O Z X G W a.val) Fg (T a.val) G W d : ℝ) : EReal) := by
  unfold val_main_v70
  have e0 := v63_at hA
  generalize val_main_v63 (F := Ideal) x0 x1 x2 x3 x4 x5 x6 = y0 at e0 ⊢
  pointwise []
  simp only [e0, hA.h4, coes]
  rfl

theorem v72_at (a : Fin 8192) (d : Lane) : val_main_v72 (F := Ideal) x0 x1 x2 x3 x4 x5 x6 (ix2 a d) = ((dgo (R O Z X G W a.val) Fg (T a.val) G (Z a.val) W d : ℝ) : EReal) := by
  unfold val_main_v72
  have e0 := v70_at hA
  generalize val_main_v70 (F := Ideal) x0 x1 x2 x3 x4 x5 x6 = y0 at e0 ⊢
  have e1 := v4_0_at hA
  generalize val_main_v4_0 (F := Ideal) x1 = y1 at e1 ⊢
  pointwise []
  simp only [e0, e1, coes]
  rfl

theorem v78_at (a : Fin 8192) (d : Lane) : val_main_v78 (F := Ideal) x0 x1 x2 x3 x4 x5 x6 (ix2 a d) = ((dgo (R O Z X G W a.val) Fg (T a.val) G (Z a.val) W d : ℝ) : EReal) := by
  unfold val_main_v78
  have e0 := v72_at hA
  generalize val_main_v72 (F := Ideal) x0 x1 x2 x3 x4 x5 x6 = y0 at e0 ⊢
  pointwise []
  simp only [e0, coes]

theorem v73_at (a : Fin 8192) (d : Lane) : val_main_v73 (F := Ideal) x0 x1 x2 x3 x4 x5 x6 (ix2 a d) = ((dz (R O Z X G W a.val) Fg (T a.val) G (O a.val) (Z a.val) W d : ℝ) : EReal) := by
  unfold val_main_v73 val_main_call1_v2 val_main_call1_v1 val_main_call1_v0 val_main_v71
  have e0 := v70_at hA
  generalize val_main_v70 (F := Ideal) x0 x1 x2 x3 x4 x5 x6 = y0 at e0 ⊢
  have e1 := v0_at hA
  generalize val_main_v0 (F := Ideal) x1 = y1 at e1 ⊢
  have e2 := v4_2_at hA
  generalize val_main_v4_2 (F := Ideal) x1 = y2 at e2 ⊢
  have e3 := v4_1_at hA
  generalize val_main_v4_1 (F := Ideal) x1 = y3 at e3 ⊢
  pointwise []
  simp only [e0, e1, e2, e3, hA.h0, coes]
  refine congrArg (fun z : ℝ => (z : EReal)) ?_
  unfold dz
  ring

theorem v76_at (a : Fin 8192) (h : Fin 16) : val_main_v76 (F := Ideal) x0 x1 x2 x3 x4 x5 x6 (ix2 a h) = ((∑ b : Fin 64, dgo (R O Z X G W a.val) Fg (T a.val) G (Z a.val) W ⟨h.val * 64 + b.val, by omega⟩ * O a.val ⟨h.val * 64 + b.val, by omega⟩ : ℝ) : EReal) := by
  unfold val_main_v76 val_main_v75 val_main_v74
  have e0 := v72_at hA
  generalize val_main_v72 (F := Ideal) x0 x1 x2 x3 x4 x5 x6 = y0 at e0 ⊢
  pointwise []
  simp only [e0, hA.h0, csts, coes]

omit hA in
/-- A row times the map of lanes to heads: the sum over one head's lanes, nothing beyond the last head. -/
theorem head_sum (D P : Row) (j : Fin 128) :
    ∑ e : Lane, D e * P e * hl e j = if h : j.val < 16 then ∑ b : Fin 64, D ⟨j.val * 64 + b.val, by omega⟩ * P ⟨j.val * 64 + b.val, by omega⟩ else 0 := by
  by_cases h : j.val < 16
  · rw [dif_pos h]
    have k := Cert.FlashSpec.sum_tiles 16 64 (fun n => if q : n < 1024 then D ⟨n, q⟩ * P ⟨n, q⟩ * hl ⟨n, q⟩ j else 0)
    have e1 : ∑ e : Lane, D e * P e * hl e j = ∑ k : Fin (16 * 64), (fun n => if q : n < 1024 then D ⟨n, q⟩ * P ⟨n, q⟩ * hl ⟨n, q⟩ j else 0) k.val := by
      refine Finset.sum_congr rfl fun e _ => ?_
      have q : e.val < 1024 := e.isLt
      simp only [dif_pos q]
    rw [e1, ← k, Finset.sum_eq_single (⟨j.val, h⟩ : Fin 16)]
    · refine Finset.sum_congr rfl fun b _ => ?_
      have q : 64 * j.val + b.val < 1024 := by omega
      have r : (64 * j.val + b.val) / 64 = j.val := by omega
      have e : (⟨64 * j.val + b.val, q⟩ : Lane) = ⟨j.val * 64 + b.val, by omega⟩ := Fin.ext (by simp only; omega)
      simp only [dif_pos q]
      rw [hl, if_pos r, mul_one, e]
    · intro i _ hi
      refine Finset.sum_eq_zero fun b _ => ?_
      have q : 64 * i.val + b.val < 1024 := by omega
      have r : ¬ (64 * i.val + b.val) / 64 = j.val := fun r => hi (Fin.ext (by simp only; omega))
      simp only [dif_pos q]
      rw [hl, if_neg r, mul_zero]
    · exact fun z => absurd (Finset.mem_univ _) z
  · rw [dif_neg h]
    refine Finset.sum_eq_zero fun e _ => ?_
    have r : ¬ e.val / 64 = j.val := by have := e.isLt; omega
    rw [hl, if_neg r, mul_zero]

theorem v77_at (a : Fin 8192) (j : Fin 128) : val_main_v77 (F := Ideal) x0 x1 x2 x3 x4 x5 x6 (ix2 a j) = ((∑ e : Lane, dgo (R O Z X G W a.val) Fg (T a.val) G (Z a.val) W e * O a.val e * hl e j : ℝ) : EReal) := by
  unfold val_main_v77
  have e0 := v76_at hA
  generalize val_main_v76 (F := Ideal) x0 x1 x2 x3 x4 x5 x6 = y0 at e0 ⊢
  pointwise []
  simp only [e0, coes]
  rw [head_sum]
  by_cases h : j.val < 16
  · rw [dif_pos h, dif_pos h]
  · rw [dif_neg h, dif_neg h]
    unfold val_main_call2_v0 val_main_c
    pointwise []
    show ((((0#32 : BitVec 32).toInt : ℝ)) : EReal) = _
    simp

end Cert.LossRef
end
-- ==== Proof.LossClaim.lean ====
module

public import proofs.«01_k».proof.Defs
public import proofs.«01_k».proof.Proof.LossHost
public import proofs.«01_k».proof.Proof.LossRef
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Pre_finite4
public import Idealize.ShloMosaic.Lib.Claim

@[expose] public section

set_option maxRecDepth 16384

noncomputable section

open Idealize.ShloMosaic Idealize.SL.Sem
namespace Cert.LossClaim
open Cert.Kernel4Ideal Cert.Reals Cert.LossSpec

/-- The precondition says that every argument is real. -/
theorem real_of_pre (x0 : FVec Ideal Pre_finite4.S8192x1024 .f32) (x1 x2 : FVec Ideal Pre_finite4.S8448x1024 .f32) (x3 : FVec Ideal Pre_finite4.S2x1024 .f32)
    (x4 : FVec Ideal Pre_finite4.S1024x1024 .f32) (x5 : FVec Ideal Pre_finite4.S1024 .f32) (x6 : FVec Ideal Pre_finite4.S8192x1024 .f32)
    (j : Pre_finite4.S_.Idx) (h : Pre_finite4.fn (F := Ideal) x0 x1 x2 x3 x4 x5 x6 j = 1#1) :
    AllReal x0 ∧ AllReal x1 ∧ AllReal x2 ∧ AllReal x3 ∧ AllReal x4 ∧ AllReal x5 ∧ AllReal x6 := by
  have s : Subsingleton Pre_finite4.S_.Idx := ⟨fun a b => funext fun q => q.elim0⟩
  obtain ⟨h05, h6⟩ := and_one h
  obtain ⟨h04, h5⟩ := and_one h05
  obtain ⟨h03, h4⟩ := and_one h04
  obtain ⟨h02, h3⟩ := and_one h03
  obtain ⟨h01, h2⟩ := and_one h02
  obtain ⟨h0, h1⟩ := and_one h01
  exact ⟨allReal_of_all _ _ _ _ _ _ _ h0, allReal_of_all _ _ _ _ _ _ _ h1, allReal_of_all _ _ _ _ _ _ _ h2, allReal_of_all _ _ _ _ _ _ _ h3, allReal_of_all _ _ _ _ _ _ _ h4, allReal_of_all _ _ _ _ _ _ _ h5, allReal_of_all _ _ _ _ _ _ _ h6⟩

/-- A real matrix of 1024 lanes, its rows numbered by the naturals. -/
theorem rows_of_real {n : ℕ} (hn : 0 < n) (x : FVec Ideal ⟨2, ![n, 1024]⟩ .f32) (h : AllReal x) :
    ∃ X : ℕ → Row, ∀ (a : Fin n) (b : Lane), x (ix2 a b) = ((X a.val b : ℝ) : EReal) := by
  obtain ⟨r, rfl⟩ := h
  refine ⟨fun a b => r (ix2 ⟨a % n, Nat.mod_lt _ hn⟩ b), fun a b => ?_⟩
  exact congrArg (fun z : ℝ => (z : EReal)) (congrArg r (congrArg₂ ix2 (Fin.ext (Nat.mod_eq_of_lt a.isLt).symm) rfl))

/-- Two matrices that agree at every pair of coordinates are equal. -/
theorem eq_of_pairs {n k : ℕ} {α : Type} (x y : (⟨2, ![n, k]⟩ : Shape).Idx → α) (h : ∀ (a : Fin n) (b : Fin k), x (ix2 a b) = y (ix2 a b)) : x = y := by
  funext i
  obtain ⟨a, b, rfl⟩ : ∃ a b, i = (ix2 a b : (⟨2, ![n, k]⟩ : Shape).Idx) := ⟨i 0, i 1, by funext x; match x with | ⟨0, _⟩ => rfl | ⟨1, _⟩ => rfl⟩
  exact h a b

section
variable (x0 : (⟨S8192x1024, .f32⟩ : BufTy).Contents (Elt Ideal)) (x1 x2 : (⟨S8448x1024, .f32⟩ : BufTy).Contents (Elt Ideal)) (x3 : (⟨S2x1024, .f32⟩ : BufTy).Contents (Elt Ideal))
  (x4 : (⟨S1024x1024, .f32⟩ : BufTy).Contents (Elt Ideal)) (x5 : (⟨S1024, .f32⟩ : BufTy).Contents (Elt Ideal)) (x6 : (⟨S8192x1024, .f32⟩ : BufTy).Contents (Elt Ideal))
  (O Z X T : ℕ → Row) (G Fg : Row) (W : Lane → Row)
  (hA : LossRef.Args x0 x1 x2 x3 x4 x5 x6 O Z X T G Fg W)
include hA

theorem ref8 : (Reference4Ideal.Read.val_main_v78 (F := Ideal) x0 x1 x2 x3 x4 x5 x6 : FVec Ideal S8192x1024 .bf16) = (fun i : S8192x1024.Idx => ((dgo (LossArr.UU O Z X G W (i 0).val) Fg (T (i 0).val) G (Z (i 0).val) W (i 1) : ℝ) : EReal) : FVec Ideal S8192x1024 .bf16) := by
  refine eq_of_pairs _ _ fun a b => ?_
  exact LossRef.v78_at hA a b

theorem ref9 : (Reference4Ideal.Read.val_main_v77 (F := Ideal) x0 x1 x2 x3 x4 x5 x6 : FVec Ideal S8192x128 .f32) = (fun i : S8192x128.Idx => ((∑ e : Lane, dgo (LossArr.UU O Z X G W (i 0).val) Fg (T (i 0).val) G (Z (i 0).val) W e * O (i 0).val e * hl e (i 1) : ℝ) : EReal) : FVec Ideal S8192x128 .f32) := by
  refine eq_of_pairs _ _ fun a b => ?_
  exact LossRef.v77_at hA a b

theorem ref10 : (Reference4Ideal.Read.val_main_v73 (F := Ideal) x0 x1 x2 x3 x4 x5 x6 : FVec Ideal S8192x1024 .f32) = (fun i : S8192x1024.Idx => ((dz (LossArr.UU O Z X G W (i 0).val) Fg (T (i 0).val) G (O (i 0).val) (Z (i 0).val) W (i 1) : ℝ) : EReal) : FVec Ideal S8192x1024 .f32) := by
  refine eq_of_pairs _ _ fun a b => ?_
  exact LossRef.v73_at hA a b

theorem ref11 : (Reference4Ideal.Read.val_main_v61 (F := Ideal) x0 x1 x2 x3 x4 x5 x6 : FVec Ideal S8192x1024 .f32) = (fun i : S8192x1024.Idx => ((dx (LossArr.UU O Z X G W (i 0).val) Fg (T (i 0).val) (i 1) : ℝ) : EReal) : FVec Ideal S8192x1024 .f32) := by
  refine eq_of_pairs _ _ fun a b => ?_
  exact LossRef.v61_at hA a b

theorem ref12 : (Reference4Ideal.Read.val_main_v79 (F := Ideal) x0 x1 x2 x3 x4 x5 x6 : FVec Ideal S1x1 .f32) = (fun i : S1x1.Idx => ((∑ a : Fin 8192, 1 / 2 * lossRow (LossArr.UU O Z X G W a.val) Fg (T a.val) : ℝ) : EReal) : FVec Ideal S1x1 .f32) := by
  refine eq_of_pairs _ _ fun a b => ?_
  obtain rfl : a = 0 := Subsingleton.elim _ _
  obtain rfl : b = 0 := Subsingleton.elim _ _
  exact (LossRef.v79_at hA).trans (congrArg (fun z : ℝ => (z : EReal)) (Finset.mul_sum _ _ _))

theorem ref13 : (Reference4Ideal.Read.val_main_v80 (F := Ideal) x0 x1 x2 x3 x4 x5 x6 : FVec Ideal S1x1024 .f32) = (fun i : S1x1024.Idx => ((∑ a : Fin 8192, er (LossArr.UU O Z X G W a.val) Fg (T a.val) (i 1) * (1 / 1024) * nn (LossArr.UU O Z X G W a.val) (i 1) : ℝ) : EReal) : FVec Ideal S1x1024 .f32) := by
  refine eq_of_pairs _ _ fun a b => ?_
  obtain rfl : a = 0 := Subsingleton.elim _ _
  exact LossRef.v80_at hA b

theorem ref14 : (Reference4Ideal.Read.val_main_v81 (F := Ideal) x0 x1 x2 x3 x4 x5 x6 : FVec Ideal S1x1024 .f32) = (fun i : S1x1024.Idx => ((∑ a : Fin 8192, dx (LossArr.UU O Z X G W a.val) Fg (T a.val) (i 1) * out (O a.val) (Z a.val) W (i 1) : ℝ) : EReal) : FVec Ideal S1x1024 .f32) := by
  refine eq_of_pairs _ _ fun a b => ?_
  obtain rfl : a = 0 := Subsingleton.elim _ _
  exact LossRef.v81_at hA b

theorem ref15 : (Reference4Ideal.Read.val_main_v69 (F := Ideal) x0 x1 x2 x3 x4 x5 x6 : FVec Ideal S1024x1024 .f32) = (fun i : S1024x1024.Idx => ((∑ a : Fin 8192, mm (O a.val) (Z a.val) (i 0) * (G (i 1) * dx (LossArr.UU O Z X G W a.val) Fg (T a.val) (i 1)) : ℝ) : EReal) : FVec Ideal S1024x1024 .f32) := by
  refine eq_of_pairs _ _ fun a b => ?_
  exact LossRef.v69_at hA a b

end

/-- The context's rows come first: a real array's later rows. -/
theorem later_of_real (x : FVec Ideal ⟨2, ![8448, 1024]⟩ .f32) (h : AllReal x) :
    ∃ X : ℕ → Row, ∀ (a : ℕ) (h : 256 + a < 8448) (d : Lane), x (ix2 ⟨256 + a, h⟩ d) = ((X a d : ℝ) : EReal) :=
  let ⟨X, hX⟩ := rows_of_real (by norm_num) x h
  ⟨fun a => X (256 + a), fun a h d => hX ⟨256 + a, h⟩ d⟩

/-- The second row of a real pair of rows. -/
theorem second_of_real (x : FVec Ideal ⟨2, ![2, 1024]⟩ .f32) (h : AllReal x) : ∃ G : Row, ∀ d : Lane, x (ix2 1 d) = ((G d : ℝ) : EReal) :=
  let ⟨X, hX⟩ := rows_of_real (by norm_num) x h
  ⟨X 1, fun d => hX 1 d⟩

/-- A real square array by its two lanes. -/
theorem square_of_real (x : FVec Ideal ⟨2, ![1024, 1024]⟩ .f32) (h : AllReal x) : ∃ W : Lane → Row, ∀ e d : Lane, x (ix2 e d) = ((W e d : ℝ) : EReal) :=
  let ⟨X, hX⟩ := rows_of_real (by norm_num) x h
  ⟨fun e => X e.val, fun e d => hX e d⟩

/-- A real row. -/
theorem row_of_real (x : FVec Ideal ⟨1, ![1024]⟩ .f32) (h : AllReal x) : ∃ G : Row, ∀ d : Lane, x (ix1 d) = ((G d : ℝ) : EReal) := by
  obtain ⟨r, rfl⟩ := h
  exact ⟨fun d => r (ix1 d), fun d => rfl⟩

set_option maxHeartbeats 1000000 in
/-- Over real arguments the region's eight arrays are the derivative's eight results. -/
theorem values (m : (ℓ : Loc nD τ sig) → Buf (Elt Ideal) ℓ) (c : Dev nD)
    (x0 : FVec Ideal S8192x1024 .f32) (x1 x2 : FVec Ideal S8448x1024 .f32) (x3 : FVec Ideal S2x1024 .f32)
    (x4 : FVec Ideal S1024x1024 .f32) (x5 : FVec Ideal S1024 .f32) (x6 : FVec Ideal S8192x1024 .f32)
    (e0 : m (c.tc.loc main_arg0) = x0) (e1 : m (c.tc.loc main_arg1) = x1) (e2 : m (c.tc.loc main_arg2) = x2) (e3 : m (c.tc.loc main_arg3) = x3) (e4 : m (c.tc.loc main_arg4) = x4) (e5 : m (c.tc.loc main_arg5) = x5) (e6 : m (c.tc.loc main_arg6) = x6)
    (h : AllReal x0 ∧ AllReal x1 ∧ AllReal x2 ∧ AllReal x3 ∧ AllReal x4 ∧ AllReal x5 ∧ AllReal x6) :
    ((Reference4Ideal.Read.val_main_v78 (F := Ideal) x0 x1 x2 x3 x4 x5 x6 : FVec Ideal S8192x1024 .bf16) = (Gen.dats m 0 c).arrAt 8 cfg0.N)
    ∧ ((Reference4Ideal.Read.val_main_v77 (F := Ideal) x0 x1 x2 x3 x4 x5 x6 : FVec Ideal S8192x128 .f32) = (Gen.dats m 0 c).arrAt 9 cfg0.N)
    ∧ ((Reference4Ideal.Read.val_main_v73 (F := Ideal) x0 x1 x2 x3 x4 x5 x6 : FVec Ideal S8192x1024 .f32) = (Gen.dats m 0 c).arrAt 10 cfg0.N)
    ∧ ((Reference4Ideal.Read.val_main_v61 (F := Ideal) x0 x1 x2 x3 x4 x5 x6 : FVec Ideal S8192x1024 .f32) = (Gen.dats m 0 c).arrAt 11 cfg0.N)
    ∧ ((Reference4Ideal.Read.val_main_v79 (F := Ideal) x0 x1 x2 x3 x4 x5 x6 : FVec Ideal S1x1 .f32) = (Gen.dats m 0 c).arrAt 12 cfg0.N)
    ∧ ((Reference4Ideal.Read.val_main_v80 (F := Ideal) x0 x1 x2 x3 x4 x5 x6 : FVec Ideal S1x1024 .f32) = (Gen.dats m 0 c).arrAt 13 cfg0.N)
    ∧ ((Reference4Ideal.Read.val_main_v81 (F := Ideal) x0 x1 x2 x3 x4 x5 x6 : FVec Ideal S1x1024 .f32) = (Gen.dats m 0 c).arrAt 14 cfg0.N)
    ∧ ((Reference4Ideal.Read.val_main_v69 (F := Ideal) x0 x1 x2 x3 x4 x5 x6 : FVec Ideal S1024x1024 .f32) = (Gen.dats m 0 c).arrAt 15 cfg0.N) := by
  obtain ⟨q0, q1, q2, q3, q4, q5, q6⟩ := h
  obtain ⟨O, h0⟩ := rows_of_real (by norm_num) x0 q0
  obtain ⟨Z, h1⟩ := later_of_real x1 q1
  obtain ⟨X, h2⟩ := later_of_real x2 q2
  obtain ⟨G, h3⟩ := second_of_real x3 q3
  obtain ⟨W, h4⟩ := square_of_real x4 q4
  obtain ⟨Fg, h5⟩ := row_of_real x5 q5
  obtain ⟨T, h6⟩ := rows_of_real (by norm_num) x6 q6
  have ho : ∀ (a : Fin 8192) (d : Lane), (Gen.V m c main_arg0 : FVec Ideal S8192x1024 .f32) (ix2 a d) = ((O a.val d : ℝ) : EReal) := by
    rw [Gen.V_main_arg0, e0]; exact h0
  have hz : ∀ (a : ℕ) (h : 256 + a < 8448) (d : Lane), (Gen.V m c main_arg1 : FVec Ideal S8448x1024 .f32) (ix2 ⟨256 + a, h⟩ d) = ((Z a d : ℝ) : EReal) := by
    rw [Gen.V_main_arg1, e1]; exact h1
  have hx : ∀ (a : ℕ) (h : 256 + a < 8448) (d : Lane), (Gen.V m c main_arg2 : FVec Ideal S8448x1024 .f32) (ix2 ⟨256 + a, h⟩ d) = ((X a d : ℝ) : EReal) := by
    rw [Gen.V_main_arg2, e2]; exact h2
  have hg : ∀ d : Lane, (Gen.V m c main_v0 : FVec Ideal S2x1x1024 .f32) (ix3 1 0 d) = ((G d : ℝ) : EReal) := fun d => by
    rw [Cert.LossHost.V0_at, e3]; exact h3 d
  have hw : ∀ e d : Lane, (Gen.V m c main_arg4 : FVec Ideal S1024x1024 .f32) (ix2 e d) = ((W e d : ℝ) : EReal) := by
    rw [Gen.V_main_arg4, e4]; exact h4
  have hfg : ∀ d : Lane, (Gen.V m c main_v1 : FVec Ideal S1x1024 .f32) (ix2 0 d) = ((Fg d : ℝ) : EReal) := fun d => by
    rw [Cert.LossHost.V1_at, e5]; exact h5 d
  have ht : ∀ (a : Fin 8192) (d : Lane), (Gen.V m c main_arg6 : FVec Ideal S8192x1024 .f32) (ix2 a d) = ((T a.val d : ℝ) : EReal) := by
    rw [Gen.V_main_arg6, e6]; exact h6
  have hA : LossRef.Args x0 x1 x2 x3 x4 x5 x6 O Z X T G Fg W := ⟨h0, h1, h2, h3, h4, h5, h6⟩
  exact ⟨(ref8 x0 x1 x2 x3 x4 x5 x6 O Z X T G Fg W hA).trans (LossArr.arr8 m c O Z X T G Fg W ho hz hx hg hw hfg ht).symm,
    (ref9 x0 x1 x2 x3 x4 x5 x6 O Z X T G Fg W hA).trans (LossArr.arr9 m c O Z X T G Fg W ho hz hx hg hw hfg ht (Cert.LossHost.V10_at m c)).symm,
    (ref10 x0 x1 x2 x3 x4 x5 x6 O Z X T G Fg W hA).trans (LossArr.arr10 m c O Z X T G Fg W ho hz hx hg hw hfg ht).symm,
    (ref11 x0 x1 x2 x3 x4 x5 x6 O Z X T G Fg W hA).trans (LossArr.arr11 m c O Z X T G Fg W ho hz hx hg hw hfg ht).symm,
    (ref12 x0 x1 x2 x3 x4 x5 x6 O Z X T G Fg W hA).trans (LossArr.arr12 m c O Z X T G Fg W ho hz hx hg hw hfg ht).symm,
    (ref13 x0 x1 x2 x3 x4 x5 x6 O Z X T G Fg W hA).trans (LossArr.arr13 m c O Z X T G Fg W ho hz hx hg hw hfg ht).symm,
    (ref14 x0 x1 x2 x3 x4 x5 x6 O Z X T G Fg W hA).trans (LossArr.arr14 m c O Z X T G Fg W ho hz hx hg hw hfg ht).symm,
    (ref15 x0 x1 x2 x3 x4 x5 x6 O Z X T G Fg W hA).trans (LossArr.arr15 m c O Z X T G Fg W ho hz hx hg hw hfg ht).symm⟩

/-- The head's and the loss's eight results are the derivative's. -/
theorem algebraic : Cert.algebraic_Kernel4Ideal_Reference4Ideal_pre_finite4 := by
  pair_intro
  · run_from Value.run_blocks m g
  · have key : ∀ c : Dev nD, _ := fun c => values m c _ _ _ _ _ _ _ (hagree c).1.symm (hagree c).2.1.symm (hagree c).2.2.1.symm (hagree c).2.2.2.1.symm (hagree c).2.2.2.2.1.symm (hagree c).2.2.2.2.2.1.symm (hagree c).2.2.2.2.2.2.symm
      (by
        obtain ⟨a0, a1, a2, a3, a4, a5, a6⟩ := hagree c
        rw [a0, a1, a2, a3, a4, a5, a6]
        exact real_of_pre _ _ _ _ _ _ _ (fun a => a.elim0) (congrFun (hpre c) _))
    refine (θ_run _ _ _).mono (fun r h c => ⟨((h c).1.trans (Reference4Ideal.Read.val_main_v78_eq (F := Ideal) _ _)).trans (key c).1,
      ((h c).2.1.trans (Reference4Ideal.Read.val_main_v77_eq (F := Ideal) _ _)).trans (key c).2.1,
      ((h c).2.2.1.trans (Reference4Ideal.Read.val_main_v73_eq (F := Ideal) _ _)).trans (key c).2.2.1,
      ((h c).2.2.2.1.trans (Reference4Ideal.Read.val_main_v61_eq (F := Ideal) _ _)).trans (key c).2.2.2.1,
      ((h c).2.2.2.2.1.trans (Reference4Ideal.Read.val_main_v79_eq (F := Ideal) _ _)).trans (key c).2.2.2.2.1,
      ((h c).2.2.2.2.2.1.trans (Reference4Ideal.Read.val_main_v80_eq (F := Ideal) _ _)).trans (key c).2.2.2.2.2.1,
      ((h c).2.2.2.2.2.2.1.trans (Reference4Ideal.Read.val_main_v81_eq (F := Ideal) _ _)).trans (key c).2.2.2.2.2.2.1,
      ((h c).2.2.2.2.2.2.2.1.trans (Reference4Ideal.Read.val_main_v69_eq (F := Ideal) _ _)).trans (key c).2.2.2.2.2.2.2,
      (h c).2.2.2.2.2.2.2.2⟩) (Reference4Ideal.Value.run m' g')

/-- The frames of the head-and-loss pair. -/
theorem frames : Cert.quiescent_Kernel4 ∧ Cert.quiescent_Kernel4Ideal ∧ Cert.quiescent_Kernel4Ideal_pre_finite4
    ∧ Cert.quiescent_Reference4Ideal ∧ Cert.quiescent_Reference4Ideal_pre_finite4 := by
  refine ⟨fun m ρ _ => Cert.Kernel4.Gen.frame m ρ, fun m ρ _ => Gen.frame m ρ, fun m ρ _ => Gen.frame m ρ, fun m ρ _ => ?_, fun m ρ _ => ?_⟩
  · refine (θ_run _ _ _).mono (fun r h => ⟨fun c => (h c).2.2.2.2.2.2.2.2, sem_eq_zero_of_no_sems rfl _⟩) (Reference4Ideal.Value.run m ρ)
  · refine (θ_run _ _ _).mono (fun r h => ⟨fun c => (h c).2.2.2.2.2.2.2.2, sem_eq_zero_of_no_sems rfl _⟩) (Reference4Ideal.Value.run m ρ)

end Cert.LossClaim
end
-- ==== Proof.Stage.lean ====
module

public import Idealize.ShloMosaic.Lib.Pipeline.ValueKit
public import Idealize.ShloMosaic.Lib.Pipeline.FrameBody
@[expose] public section

/-!
What a staging buffer holds after a body: a block kept, or a store of the whole block.
-/

noncomputable section

namespace Cert.Stage
open Idealize.ShloMosaic
open Idealize.SL Idealize.SL.RA Idealize.SL.BI
open scoped Idealize.SL.BI
open Idealize.SL.BI.BIBase Idealize.SL.BI.Laws Idealize.SL.ProofMode

/-- A store of the whole block is what the block reads afterwards. -/
theorem read_full {sig : RefSig} {κ : Kind} {sp : Space} {s : Shape} {e : EltTy} {Val : EltTy → Type} [∀ e, Nonempty (Val e)] (v : View sig κ sp s e)
    (f : v.ty.Contents Val) {off : Fin s.rank → ℕ} (inb : ∀ a, off a + s.size a ≤ s.size a) (Z : s.Idx → Val e) (L : List (View.Piece Val s e)) (h : ∀ a, off a = 0) :
    v.read Val (v.writes Val f (⟨Rect.unit off s.size inb, Z⟩ :: L)) = Z := by
  have hc : ∀ y : s.Idx, ∃ p ∈ (⟨Rect.unit off s.size inb, Z⟩ :: L : List (View.Piece Val s e)), y ∈ p.1.set := by
    intro y
    refine ⟨_, List.mem_cons_self, ?_⟩
    show y ∈ (Rect.unit off s.size inb).set
    rw [Rect.mem_set_unit]
    intro a
    have := (y a).isLt
    rw [h a]
    omega
  rw [View.read_writes_eq_canon v f _ hc]
  exact View.canon_cons_unit_lit inb Z L h

variable {nD : Nat} {τ : Topo} {sig : RefSig} {Val : EltTy → Type}
variable {Ix : Type} [DecidableEq Ix] {Name : Type} [DecidableEq Name] {U : Type} [URA U] {Lvl : Type}

local notation "𝕄" => MT nD τ sig Ix Val Name U Lvl

/-- A buffer that still holds its block reads it. -/
theorem kept (c : Thread nD τ) {sp : Space} {s : Shape} {e : EltTy} {m : Memref sig c.2.kind sp s e} (h : m.IsWhole) {q : PosShare TreeShare} (X : s.Idx → Val e) :
    (iprop(m.view.loc c ↦[m.view.set]{q} (h.unread X)) : sProp 𝕄) ⊢ iprop(∃ f, ⌜m.view.read Val f = X⌝ ∗ (m.view.loc c ↦[m.view.set]{q} f)) := by
  iintro H
  iexists _; isplitr
  · ipureintro; exact h.read_unread X
  iexact H

end Cert.Stage
end
-- ==== Proof.SsminRun.lean ====
module

public import proofs.«01_k».proof.Proof.Gen.Kernel5Ideal.Frame
public import proofs.«01_k».proof.Proof.Gen.Kernel5Ideal.Skeleton
public import Idealize.ShloMosaic.Lib.Pipeline.ValueKit
public import proofs.«01_k».proof.Proof.Stage
@[expose] public section

/-!
Each case of the body runs to the end and leaves these contents in the staging buffers.
-/

set_option maxRecDepth 16384

noncomputable section

namespace Cert.Ssmin
open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

abbrev cond0 (i : grid0.Coords) : Prop := (Scalar.cmpi .ne (Scalar.extui (Scalar.cmpi .eq (BitVec.ofNat 32 (i 0).val) 0#32)) 0#32) = 1#1
theorem hcond0 : ∀ t : Fin cfg0.N, cond0 (grid0.coords t) ↔ t.val < 1 :=
  (by decide +kernel : ∀ t : Fin grid0.N, cond0 (grid0.coords t) ↔ t.val < 1)

abbrev cond1 (i : grid0.Coords) : Prop := (Scalar.cmpi .ne (Scalar.extui (Scalar.cmpi .sle (BitVec.ofNat 32 (i 0).val) 1#32)) 0#32) = 1#1
theorem hcond1 : ∀ t : Fin cfg0.N, cond1 (grid0.coords t) ↔ t.val < 2 :=
  (by decide +kernel : ∀ t : Fin grid0.N, cond1 (grid0.coords t) ↔ t.val < 2)

section
variable (c : Dev nD) (i : grid0.Coords) (a1 : Memref sig .tc .vmem S256x1024 .f32) (u1 : a1.IsWhole) (a2 : Memref sig .tc .vmem S256x1024 .f32) (u2 : a2.IsWhole) (a3 : Memref sig .tc .vmem S256x1024 .f32) (u3 : a3.IsWhole) (a4 : Memref sig .tc .vmem S256x1024 .f32) (u4 : a4.IsWhole) (a5 : Memref sig .tc .vmem S256x1024 .f32) (u5 : a5.IsWhole) (a6 : Memref sig .tc .vmem S256x1024 .f32) (u6 : a6.IsWhole) (a7 : Memref sig .tc .vmem S1x1024 .f32) (u7 : a7.IsWhole) (a8 : Memref sig .tc .vmem S1x1x1024 .f32) (u8 : a8.IsWhole) (a9 : Memref sig .tc .vmem S1x1x1024 .f32) (u9 : a9.IsWhole) (a10 : Memref sig .tc .vmem S1024x2048 .f32) (u10 : a10.IsWhole) (a11 : Memref sig .tc .vmem S256x1024 .f32) (u11 : a11.IsWhole) (a12 : Memref sig .tc .vmem S1024x2048 .f32) (u12 : a12.IsWhole) (a13 : Memref sig .tc .vmem S1x1024 .f32) (u13 : a13.IsWhole) (a14 : Memref sig .tc .vmem S1x1x1024 .f32) (u14 : a14.IsWhole) (a15 : Memref sig .tc .vmem S1x1x1024 .f32) (u15 : a15.IsWhole)
  (x0 : Vec F S256x1024 .f32) (x1 : Vec F S256x1024 .f32) (x2 : Vec F S256x1024 .f32) (x3 : Vec F S256x1024 .f32) (x4 : Vec F S256x1024 .f32) (x5 : Vec F S256x1024 .f32) (x6 : Vec F S1x1024 .f32) (x7 : Vec F S1x1x1024 .f32) (x8 : Vec F S1x1x1024 .f32) (x9 : Vec F S1024x2048 .f32)

set_option maxHeartbeats 4000000 in
/-- The first point. -/
theorem run_A (hc0 : cond0 i) (hc1 : cond1 i) (E : Set ℕ) (K : PUnit → sProp 𝕄) :
    iprop(owns c.tc a1 fullShare x0 ∗ owns c.tc a2 fullShare x1 ∗ owns c.tc a3 fullShare x2 ∗ owns c.tc a4 fullShare x3 ∗ owns c.tc a5 fullShare x4 ∗ owns c.tc a6 fullShare x5 ∗ owns c.tc a7 fullShare x6 ∗ owns c.tc a8 fullShare x7 ∗ owns c.tc a9 fullShare x8 ∗ owns c.tc a10 fullShare x9 ∗ (∃ d, owns c.tc a11 fullShare d) ∗ (∃ d, owns c.tc a12 fullShare d) ∗ (∃ d, owns c.tc a13 fullShare d) ∗ (∃ d, owns c.tc a14 fullShare d) ∗ (∃ d, owns c.tc a15 fullShare d) ∗ (iprop(owns c.tc a1 fullShare x0 ∗ owns c.tc a2 fullShare x1 ∗ owns c.tc a3 fullShare x2 ∗ owns c.tc a4 fullShare x3 ∗ owns c.tc a5 fullShare x4 ∗ owns c.tc a6 fullShare x5 ∗ owns c.tc a7 fullShare x6 ∗ owns c.tc a8 fullShare x7 ∗ owns c.tc a9 fullShare x8 ∗ owns c.tc a10 fullShare x9 ∗ owns c.tc a11 fullShare (k0_pay1 (k0_pay17 (k0_pay12 (k0_pay6 i x3 x4)) (k0_pay13 (k0_pay6 i x3 x4)) (k0_pay15 x0 x1 x2 x9 x6 x7) (k0_pay16 (k0_pay6 i x3 x4) x0 x1 x2 x9 x6 x7)) x5) ∗ owns c.tc a12 fullShare (k0_pay10 (k0_pay7 i x3 x4 x6 x7 x8) x0 x1 x2 (k0_pay2 (F := F))) ∗ owns c.tc a13 fullShare (k0_pay18 (k0_pay13 (k0_pay6 i x3 x4)) (k0_pay14 x0 x1 x2 x9 x7) (k0_pay3 (F := F))) ∗ owns c.tc a14 fullShare (k0_pay19 (k0_pay9 x0 x1 x2 x9) (k0_pay11 x6) (k0_pay13 (k0_pay6 i x3 x4)) (k0_pay4 (F := F))) ∗ owns c.tc a15 fullShare (k0_pay20 (k0_pay9 x0 x1 x2 x9) (k0_pay5 (F := F)))) -∗ K ⟨⟩))
      ⊢ wp frame (wpE (defs₀ (F := F)) Variants.none c none) E (cc0_ssm_in_bwd i a1 u1 a2 u2 a3 u3 a4 u4 a5 u5 a6 u6 a7 u7 a8 u8 a9 u9 a10 u10 a11 u11 a12 u12 a13 u13 a14 u14 a15 u15) K := by
  simp only [cc0_ssm_in_bwd_eq_skeleton]; unfold cc0_ssm_in_bwd_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, Hk⟩
  obtain rfl := u1.eq_unread hf0
  obtain rfl := u2.eq_unread hf1
  obtain rfl := u3.eq_unread hf2
  obtain rfl := u4.eq_unread hf3
  obtain rfl := u5.eq_unread hf4
  obtain rfl := u6.eq_unread hf5
  obtain rfl := u7.eq_unread hf6
  obtain rfl := u8.eq_unread hf7
  obtain rfl := u9.eq_unread hf8
  obtain rfl := u10.eq_unread hf9
  sl_exec (disch := first | sl_exact hc0 | sl_exact hc1)
  sl_step
  iapply Hk
  isplitl [H0]; · iapply (Stage.kept c.tc u1 _); iexact H0
  isplitl [H1]; · iapply (Stage.kept c.tc u2 _); iexact H1
  isplitl [H2]; · iapply (Stage.kept c.tc u3 _); iexact H2
  isplitl [H3]; · iapply (Stage.kept c.tc u4 _); iexact H3
  isplitl [H4]; · iapply (Stage.kept c.tc u5 _); iexact H4
  isplitl [H5]; · iapply (Stage.kept c.tc u6 _); iexact H5
  isplitl [H6]; · iapply (Stage.kept c.tc u7 _); iexact H6
  isplitl [H7]; · iapply (Stage.kept c.tc u8 _); iexact H7
  isplitl [H8]; · iapply (Stage.kept c.tc u9 _); iexact H8
  isplitl [H9]; · iapply (Stage.kept c.tc u10 _); iexact H9
  isplitl [H10]
  · iexists _; isplitr
    swap; · iexact H10
    ipureintro; refine (Stage.read_full _ _ _ _ _ ?_).trans ?_
    · decide
    frame_out
  isplitl [H11]
  · iexists _; isplitr
    swap; · iexact H11
    ipureintro; refine (Stage.read_full _ _ _ _ _ ?_).trans ?_
    · decide
    frame_out
  isplitl [H12]
  · iexists _; isplitr
    swap; · iexact H12
    ipureintro; refine (Stage.read_full _ _ _ _ _ ?_).trans ?_
    · decide
    frame_out
  isplitl [H13]
  · iexists _; isplitr
    swap; · iexact H13
    ipureintro; refine (Stage.read_full _ _ _ _ _ ?_).trans ?_
    · decide
    frame_out
  iexists _; isplitr
  swap; · iexact H14
  ipureintro; refine (Stage.read_full _ _ _ _ _ ?_).trans ?_
  · decide
  frame_out

set_option maxHeartbeats 4000000 in
/-- The first point of the second segment. -/
theorem run_B (hc0 : ¬cond0 i) (hc1 : cond1 i) (xo11 : Vec F S1024x2048 .f32) (xo12 : Vec F S1x1024 .f32) (E : Set ℕ) (K : PUnit → sProp 𝕄) :
    iprop(owns c.tc a1 fullShare x0 ∗ owns c.tc a2 fullShare x1 ∗ owns c.tc a3 fullShare x2 ∗ owns c.tc a4 fullShare x3 ∗ owns c.tc a5 fullShare x4 ∗ owns c.tc a6 fullShare x5 ∗ owns c.tc a7 fullShare x6 ∗ owns c.tc a8 fullShare x7 ∗ owns c.tc a9 fullShare x8 ∗ owns c.tc a10 fullShare x9 ∗ (∃ d, owns c.tc a11 fullShare d) ∗ owns c.tc a12 fullShare xo11 ∗ owns c.tc a13 fullShare xo12 ∗ (∃ d, owns c.tc a14 fullShare d) ∗ (∃ d, owns c.tc a15 fullShare d) ∗ (iprop(owns c.tc a1 fullShare x0 ∗ owns c.tc a2 fullShare x1 ∗ owns c.tc a3 fullShare x2 ∗ owns c.tc a4 fullShare x3 ∗ owns c.tc a5 fullShare x4 ∗ owns c.tc a6 fullShare x5 ∗ owns c.tc a7 fullShare x6 ∗ owns c.tc a8 fullShare x7 ∗ owns c.tc a9 fullShare x8 ∗ owns c.tc a10 fullShare x9 ∗ owns c.tc a11 fullShare (k0_pay1 (k0_pay17 (k0_pay12 (k0_pay6 i x3 x4)) (k0_pay13 (k0_pay6 i x3 x4)) (k0_pay15 x0 x1 x2 x9 x6 x7) (k0_pay16 (k0_pay6 i x3 x4) x0 x1 x2 x9 x6 x7)) x5) ∗ owns c.tc a12 fullShare (k0_pay10 (k0_pay7 i x3 x4 x6 x7 x8) x0 x1 x2 xo11) ∗ owns c.tc a13 fullShare (k0_pay18 (k0_pay13 (k0_pay6 i x3 x4)) (k0_pay14 x0 x1 x2 x9 x7) xo12) ∗ owns c.tc a14 fullShare (k0_pay19 (k0_pay9 x0 x1 x2 x9) (k0_pay11 x6) (k0_pay13 (k0_pay6 i x3 x4)) (k0_pay4 (F := F))) ∗ owns c.tc a15 fullShare (k0_pay20 (k0_pay9 x0 x1 x2 x9) (k0_pay5 (F := F)))) -∗ K ⟨⟩))
      ⊢ wp frame (wpE (defs₀ (F := F)) Variants.none c none) E (cc0_ssm_in_bwd i a1 u1 a2 u2 a3 u3 a4 u4 a5 u5 a6 u6 a7 u7 a8 u8 a9 u9 a10 u10 a11 u11 a12 u12 a13 u13 a14 u14 a15 u15) K := by
  simp only [cc0_ssm_in_bwd_eq_skeleton]; unfold cc0_ssm_in_bwd_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%f12, %hf12, H12⟩, ⟨%d13, %f13, -, H13⟩, ⟨%d14, %f14, -, H14⟩, Hk⟩
  obtain rfl := u1.eq_unread hf0
  obtain rfl := u2.eq_unread hf1
  obtain rfl := u3.eq_unread hf2
  obtain rfl := u4.eq_unread hf3
  obtain rfl := u5.eq_unread hf4
  obtain rfl := u6.eq_unread hf5
  obtain rfl := u7.eq_unread hf6
  obtain rfl := u8.eq_unread hf7
  obtain rfl := u9.eq_unread hf8
  obtain rfl := u10.eq_unread hf9
  obtain rfl := u12.eq_unread hf11
  obtain rfl := u13.eq_unread hf12
  sl_exec (disch := first | sl_exact hc0 | sl_exact hc1)
  sl_step
  iapply Hk
  isplitl [H0]; · iapply (Stage.kept c.tc u1 _); iexact H0
  isplitl [H1]; · iapply (Stage.kept c.tc u2 _); iexact H1
  isplitl [H2]; · iapply (Stage.kept c.tc u3 _); iexact H2
  isplitl [H3]; · iapply (Stage.kept c.tc u4 _); iexact H3
  isplitl [H4]; · iapply (Stage.kept c.tc u5 _); iexact H4
  isplitl [H5]; · iapply (Stage.kept c.tc u6 _); iexact H5
  isplitl [H6]; · iapply (Stage.kept c.tc u7 _); iexact H6
  isplitl [H7]; · iapply (Stage.kept c.tc u8 _); iexact H7
  isplitl [H8]; · iapply (Stage.kept c.tc u9 _); iexact H8
  isplitl [H9]; · iapply (Stage.kept c.tc u10 _); iexact H9
  isplitl [H10]
  · iexists _; isplitr
    swap; · iexact H10
    ipureintro; refine (Stage.read_full _ _ _ _ _ ?_).trans ?_
    · decide
    frame_out
  isplitl [H11]
  · iexists _; isplitr
    swap; · iexact H11
    ipureintro; refine (Stage.read_full _ _ _ _ _ ?_).trans ?_
    · decide
    frame_out
  isplitl [H12]
  · iexists _; isplitr
    swap; · iexact H12
    ipureintro; refine (Stage.read_full _ _ _ _ _ ?_).trans ?_
    · decide
    frame_out
  isplitl [H13]
  · iexists _; isplitr
    swap; · iexact H13
    ipureintro; refine (Stage.read_full _ _ _ _ _ ?_).trans ?_
    · decide
    frame_out
  iexists _; isplitr
  swap; · iexact H14
  ipureintro; refine (Stage.read_full _ _ _ _ _ ?_).trans ?_
  · decide
  frame_out

set_option maxHeartbeats 4000000 in
/-- Every later point. -/
theorem run_C (hc0 : ¬cond0 i) (hc1 : ¬cond1 i) (xo11 : Vec F S1024x2048 .f32) (xo12 : Vec F S1x1024 .f32) (xo13 : Vec F S1x1x1024 .f32) (xo14 : Vec F S1x1x1024 .f32) (E : Set ℕ) (K : PUnit → sProp 𝕄) :
    iprop(owns c.tc a1 fullShare x0 ∗ owns c.tc a2 fullShare x1 ∗ owns c.tc a3 fullShare x2 ∗ owns c.tc a4 fullShare x3 ∗ owns c.tc a5 fullShare x4 ∗ owns c.tc a6 fullShare x5 ∗ owns c.tc a7 fullShare x6 ∗ owns c.tc a8 fullShare x7 ∗ owns c.tc a9 fullShare x8 ∗ owns c.tc a10 fullShare x9 ∗ (∃ d, owns c.tc a11 fullShare d) ∗ owns c.tc a12 fullShare xo11 ∗ owns c.tc a13 fullShare xo12 ∗ owns c.tc a14 fullShare xo13 ∗ owns c.tc a15 fullShare xo14 ∗ (iprop(owns c.tc a1 fullShare x0 ∗ owns c.tc a2 fullShare x1 ∗ owns c.tc a3 fullShare x2 ∗ owns c.tc a4 fullShare x3 ∗ owns c.tc a5 fullShare x4 ∗ owns c.tc a6 fullShare x5 ∗ owns c.tc a7 fullShare x6 ∗ owns c.tc a8 fullShare x7 ∗ owns c.tc a9 fullShare x8 ∗ owns c.tc a10 fullShare x9 ∗ owns c.tc a11 fullShare (k0_pay1 (k0_pay17 (k0_pay12 (k0_pay6 i x3 x4)) (k0_pay13 (k0_pay6 i x3 x4)) (k0_pay15 x0 x1 x2 x9 x6 x7) (k0_pay16 (k0_pay6 i x3 x4) x0 x1 x2 x9 x6 x7)) x5) ∗ owns c.tc a12 fullShare (k0_pay10 (k0_pay7 i x3 x4 x6 x7 x8) x0 x1 x2 xo11) ∗ owns c.tc a13 fullShare (k0_pay18 (k0_pay13 (k0_pay6 i x3 x4)) (k0_pay14 x0 x1 x2 x9 x7) xo12) ∗ owns c.tc a14 fullShare (k0_pay19 (k0_pay9 x0 x1 x2 x9) (k0_pay11 x6) (k0_pay13 (k0_pay6 i x3 x4)) xo13) ∗ owns c.tc a15 fullShare (k0_pay20 (k0_pay9 x0 x1 x2 x9) xo14)) -∗ K ⟨⟩))
      ⊢ wp frame (wpE (defs₀ (F := F)) Variants.none c none) E (cc0_ssm_in_bwd i a1 u1 a2 u2 a3 u3 a4 u4 a5 u5 a6 u6 a7 u7 a8 u8 a9 u9 a10 u10 a11 u11 a12 u12 a13 u13 a14 u14 a15 u15) K := by
  simp only [cc0_ssm_in_bwd_eq_skeleton]; unfold cc0_ssm_in_bwd_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%f12, %hf12, H12⟩, ⟨%f13, %hf13, H13⟩, ⟨%f14, %hf14, H14⟩, Hk⟩
  obtain rfl := u1.eq_unread hf0
  obtain rfl := u2.eq_unread hf1
  obtain rfl := u3.eq_unread hf2
  obtain rfl := u4.eq_unread hf3
  obtain rfl := u5.eq_unread hf4
  obtain rfl := u6.eq_unread hf5
  obtain rfl := u7.eq_unread hf6
  obtain rfl := u8.eq_unread hf7
  obtain rfl := u9.eq_unread hf8
  obtain rfl := u10.eq_unread hf9
  obtain rfl := u12.eq_unread hf11
  obtain rfl := u13.eq_unread hf12
  obtain rfl := u14.eq_unread hf13
  obtain rfl := u15.eq_unread hf14
  sl_exec (disch := first | sl_exact hc0 | sl_exact hc1)
  sl_step
  iapply Hk
  isplitl [H0]; · iapply (Stage.kept c.tc u1 _); iexact H0
  isplitl [H1]; · iapply (Stage.kept c.tc u2 _); iexact H1
  isplitl [H2]; · iapply (Stage.kept c.tc u3 _); iexact H2
  isplitl [H3]; · iapply (Stage.kept c.tc u4 _); iexact H3
  isplitl [H4]; · iapply (Stage.kept c.tc u5 _); iexact H4
  isplitl [H5]; · iapply (Stage.kept c.tc u6 _); iexact H5
  isplitl [H6]; · iapply (Stage.kept c.tc u7 _); iexact H6
  isplitl [H7]; · iapply (Stage.kept c.tc u8 _); iexact H7
  isplitl [H8]; · iapply (Stage.kept c.tc u9 _); iexact H8
  isplitl [H9]; · iapply (Stage.kept c.tc u10 _); iexact H9
  isplitl [H10]
  · iexists _; isplitr
    swap; · iexact H10
    ipureintro; refine (Stage.read_full _ _ _ _ _ ?_).trans ?_
    · decide
    frame_out
  isplitl [H11]
  · iexists _; isplitr
    swap; · iexact H11
    ipureintro; refine (Stage.read_full _ _ _ _ _ ?_).trans ?_
    · decide
    frame_out
  isplitl [H12]
  · iexists _; isplitr
    swap; · iexact H12
    ipureintro; refine (Stage.read_full _ _ _ _ _ ?_).trans ?_
    · decide
    frame_out
  isplitl [H13]
  · iexists _; isplitr
    swap; · iexact H13
    ipureintro; refine (Stage.read_full _ _ _ _ _ ?_).trans ?_
    · decide
    frame_out
  iexists _; isplitr
  swap; · iexact H14
  ipureintro; refine (Stage.read_full _ _ _ _ _ ?_).trans ?_
  · decide
  frame_out

end

end Cert.Ssmin

end
-- ==== Proof.Accum.lean ====
module

public import Mathlib.Data.Fin.Basic
public import Mathlib.Tactic.Common
@[expose] public section

/-!
What an accumulated block holds after each point of a grid.
-/

namespace Cert.Accum

variable {α : Type} {N : ℕ} (s : Fin N → α → α) (z : α) (k : ℕ)

/-- The points before `k` start from `z`, the later ones from what the point before left. -/
def held : (n : ℕ) → n < N → α
  | 0, h => s ⟨0, h⟩ z
  | n + 1, h => s ⟨n + 1, h⟩ (if n + 1 < k then z else held n (Nat.lt_of_succ_lt h))

theorem held_first (t : Fin N) (h : t.val < k) : held s z k t.val t.isLt = s t z := by
  obtain ⟨n, hn⟩ := t
  rcases n with _ | n
  · rfl
  · exact congrArg _ (if_pos h)
theorem held_next (hk : 0 < k) (t : Fin N) (h : ¬t.val < k) :
    held s z k t.val t.isLt = s t (held s z k (t.val - 1) (Nat.lt_of_le_of_lt (Nat.sub_le _ _) t.isLt)) := by
  obtain ⟨n, hn⟩ := t
  rcases n with _ | n
  · exact absurd hk h
  · exact congrArg _ (if_neg h)

end Cert.Accum
end
-- ==== Proof.SsminFrame.lean ====
module

public import proofs.«01_k».proof.Proof.Gen.Kernel5Ideal.Frame
public import proofs.«01_k».proof.Proof.Gen.Kernel5Ideal.Skeleton
public import Idealize.ShloMosaic.Lib.Pipeline.ValueKit
public import proofs.«01_k».proof.Proof.SsminRun
public import proofs.«01_k».proof.Proof.Accum
@[expose] public section

/-!
The proof data with the exact contents at every point, the body at every point, and the launch.
-/

set_option maxRecDepth 16384

noncomputable section

namespace Cert.Ssmin
open Cert.Accum
open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev m0 (t : Fin cfg0.N) := (cfg0.win 0).stage (cfg0.slots t 0)
abbrev m1 (t : Fin cfg0.N) := (cfg0.win 1).stage (cfg0.slots t 1)
abbrev m2 (t : Fin cfg0.N) := (cfg0.win 2).stage (cfg0.slots t 2)
abbrev m3 (t : Fin cfg0.N) := (cfg0.win 3).stage (cfg0.slots t 3)
abbrev m4 (t : Fin cfg0.N) := (cfg0.win 4).stage (cfg0.slots t 4)
abbrev m5 (t : Fin cfg0.N) := (cfg0.win 5).stage (cfg0.slots t 5)
abbrev m6 (t : Fin cfg0.N) := (cfg0.win 6).stage (cfg0.slots t 6)
abbrev m7 (t : Fin cfg0.N) := (cfg0.win 7).stage (cfg0.slots t 7)
abbrev m8 (t : Fin cfg0.N) := (cfg0.win 8).stage (cfg0.slots t 8)
abbrev m9 (t : Fin cfg0.N) := (cfg0.win 9).stage (cfg0.slots t 9)
abbrev m10 (t : Fin cfg0.N) := (cfg0.win 10).stage (cfg0.slots t 10)
abbrev m11 (t : Fin cfg0.N) := (cfg0.win 11).stage (cfg0.slots t 11)
abbrev m12 (t : Fin cfg0.N) := (cfg0.win 12).stage (cfg0.slots t 12)
abbrev m13 (t : Fin cfg0.N) := (cfg0.win 13).stage (cfg0.slots t 13)
abbrev m14 (t : Fin cfg0.N) := (cfg0.win 14).stage (cfg0.slots t 14)
/-- The block of input 0 at a point. -/
abbrev b0 (c : Dev nD) (t : Fin cfg0.N) : Vec F S256x1024 .f32 := iblk m c 0 t
/-- The block of input 1 at a point. -/
abbrev b1 (c : Dev nD) (t : Fin cfg0.N) : Vec F S256x1024 .f32 := iblk m c 1 t
/-- The block of input 2 at a point. -/
abbrev b2 (c : Dev nD) (t : Fin cfg0.N) : Vec F S256x1024 .f32 := iblk m c 2 t
/-- The block of input 3 at a point. -/
abbrev b3 (c : Dev nD) (t : Fin cfg0.N) : Vec F S256x1024 .f32 := iblk m c 3 t
/-- The block of input 4 at a point. -/
abbrev b4 (c : Dev nD) (t : Fin cfg0.N) : Vec F S256x1024 .f32 := iblk m c 4 t
/-- The block of input 5 at a point. -/
abbrev b5 (c : Dev nD) (t : Fin cfg0.N) : Vec F S256x1024 .f32 := iblk m c 5 t
/-- The block of input 6 at a point. -/
abbrev b6 (c : Dev nD) (t : Fin cfg0.N) : Vec F S1x1024 .f32 := iblk m c 6 t
/-- The block of input 7 at a point. -/
abbrev b7 (c : Dev nD) (t : Fin cfg0.N) : Vec F S1x1x1024 .f32 := iblk m c 7 t
/-- The block of input 8 at a point. -/
abbrev b8 (c : Dev nD) (t : Fin cfg0.N) : Vec F S1x1x1024 .f32 := iblk m c 8 t
/-- The block of input 9 at a point. -/
abbrev b9 (c : Dev nD) (t : Fin cfg0.N) : Vec F S1024x2048 .f32 := iblk m c 9 t

/-- What the body leaves in output 10 at a point. -/
def o10 (c : Dev nD) (t : Fin cfg0.N) : Vec F S256x1024 .f32 := k0_pay1 (k0_pay17 (k0_pay12 (k0_pay6 (grid0.coords t) (b3 m c t) (b4 m c t))) (k0_pay13 (k0_pay6 (grid0.coords t) (b3 m c t) (b4 m c t))) (k0_pay15 (b0 m c t) (b1 m c t) (b2 m c t) (b9 m c t) (b6 m c t) (b7 m c t)) (k0_pay16 (k0_pay6 (grid0.coords t) (b3 m c t) (b4 m c t)) (b0 m c t) (b1 m c t) (b2 m c t) (b9 m c t) (b6 m c t) (b7 m c t))) (b5 m c t)
/-- One more point over what output 11 held. -/
def s11 (c : Dev nD) (t : Fin cfg0.N) (p : Vec F S1024x2048 .f32) : Vec F S1024x2048 .f32 := k0_pay10 (k0_pay7 (grid0.coords t) (b3 m c t) (b4 m c t) (b6 m c t) (b7 m c t) (b8 m c t)) (b0 m c t) (b1 m c t) (b2 m c t) p
/-- What output 11 holds after the point. -/
def o11 (c : Dev nD) : (n : ℕ) → n < cfg0.N → Vec F S1024x2048 .f32 := held (s11 m c) (k0_pay2 (F := F)) 1
theorem o11_first (c : Dev nD) (t : Fin cfg0.N) (h : t.val < 1) : o11 m c t.val t.isLt = s11 m c t (k0_pay2 (F := F)) := held_first _ _ _ t h
theorem o11_next (c : Dev nD) (t : Fin cfg0.N) (h : ¬t.val < 1) :
    o11 m c t.val t.isLt = s11 m c t (o11 m c (t.val - 1) (Nat.lt_of_le_of_lt (Nat.sub_le _ _) t.isLt)) := held_next _ _ _ (by decide) t h
/-- One more point over what output 12 held. -/
def s12 (c : Dev nD) (t : Fin cfg0.N) (p : Vec F S1x1024 .f32) : Vec F S1x1024 .f32 := k0_pay18 (k0_pay13 (k0_pay6 (grid0.coords t) (b3 m c t) (b4 m c t))) (k0_pay14 (b0 m c t) (b1 m c t) (b2 m c t) (b9 m c t) (b7 m c t)) p
/-- What output 12 holds after the point. -/
def o12 (c : Dev nD) : (n : ℕ) → n < cfg0.N → Vec F S1x1024 .f32 := held (s12 m c) (k0_pay3 (F := F)) 1
theorem o12_first (c : Dev nD) (t : Fin cfg0.N) (h : t.val < 1) : o12 m c t.val t.isLt = s12 m c t (k0_pay3 (F := F)) := held_first _ _ _ t h
theorem o12_next (c : Dev nD) (t : Fin cfg0.N) (h : ¬t.val < 1) :
    o12 m c t.val t.isLt = s12 m c t (o12 m c (t.val - 1) (Nat.lt_of_le_of_lt (Nat.sub_le _ _) t.isLt)) := held_next _ _ _ (by decide) t h
/-- One more point over what output 13 held. -/
def s13 (c : Dev nD) (t : Fin cfg0.N) (p : Vec F S1x1x1024 .f32) : Vec F S1x1x1024 .f32 := k0_pay19 (k0_pay9 (b0 m c t) (b1 m c t) (b2 m c t) (b9 m c t)) (k0_pay11 (b6 m c t)) (k0_pay13 (k0_pay6 (grid0.coords t) (b3 m c t) (b4 m c t))) p
/-- What output 13 holds after the point. -/
def o13 (c : Dev nD) : (n : ℕ) → n < cfg0.N → Vec F S1x1x1024 .f32 := held (s13 m c) (k0_pay4 (F := F)) 2
theorem o13_first (c : Dev nD) (t : Fin cfg0.N) (h : t.val < 2) : o13 m c t.val t.isLt = s13 m c t (k0_pay4 (F := F)) := held_first _ _ _ t h
theorem o13_next (c : Dev nD) (t : Fin cfg0.N) (h : ¬t.val < 2) :
    o13 m c t.val t.isLt = s13 m c t (o13 m c (t.val - 1) (Nat.lt_of_le_of_lt (Nat.sub_le _ _) t.isLt)) := held_next _ _ _ (by decide) t h
/-- One more point over what output 14 held. -/
def s14 (c : Dev nD) (t : Fin cfg0.N) (p : Vec F S1x1x1024 .f32) : Vec F S1x1x1024 .f32 := k0_pay20 (k0_pay9 (b0 m c t) (b1 m c t) (b2 m c t) (b9 m c t)) p
/-- What output 14 holds after the point. -/
def o14 (c : Dev nD) : (n : ℕ) → n < cfg0.N → Vec F S1x1x1024 .f32 := held (s14 m c) (k0_pay5 (F := F)) 2
theorem o14_first (c : Dev nD) (t : Fin cfg0.N) (h : t.val < 2) : o14 m c t.val t.isLt = s14 m c t (k0_pay5 (F := F)) := held_first _ _ _ t h
theorem o14_next (c : Dev nD) (t : Fin cfg0.N) (h : ¬t.val < 2) :
    o14 m c t.val t.isLt = s14 m c t (o14 m c (t.val - 1) (Nat.lt_of_le_of_lt (Nat.sub_le _ _) t.isLt)) := held_next _ _ _ (by decide) t h

/-- The proof data: each input's buffer keeps its block, each output's holds the contents above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => o10 m c t
    | ⟨11, _⟩ => o11 m c t.val t.isLt
    | ⟨12, _⟩ => o12 m c t.val t.isLt
    | ⟨13, _⟩ => o13 m c t.val t.isLt
    | ⟨14, _⟩ => o14 m c t.val t.isLt
    | ⟨_ + 15, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = o10 m c t := by dsimp only [dats]
theorem after11 (c : Dev nD) (t : Fin cfg0.N) : (dats m 0 c).after 11 t = o11 m c t.val t.isLt := by dsimp only [dats]
theorem after12 (c : Dev nD) (t : Fin cfg0.N) : (dats m 0 c).after 12 t = o12 m c t.val t.isLt := by dsimp only [dats]
theorem after13 (c : Dev nD) (t : Fin cfg0.N) : (dats m 0 c).after 13 t = o13 m c t.val t.isLt := by dsimp only [dats]
theorem after14 (c : Dev nD) (t : Fin cfg0.N) : (dats m 0 c).after 14 t = o14 m c t.val t.isLt := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d
theorem flush11 : ∀ t : Fin cfg0.N, (cfg0.win 11).flush t = true ↔ t.val = 32 :=
  (by decide +kernel : ∀ t : Fin grid0.N, win0_11.flush t = true ↔ t.val = 32)
theorem before11 (c : Dev nD) (t : Fin cfg0.N) (h : ¬t.val < 1) (d) :
    (dats m 0 c).before 11 t d = o11 m c (t.val - 1) (Nat.lt_of_le_of_lt (Nat.sub_le _ _) t.isLt) := by
  have hN : t.val < 33 := lt_of_lt_of_eq t.isLt (show cfg0.N = 33 from N_0)
  rw [Dat.before_out_kept _ 11 rfl t (by omega) (Bool.eq_false_iff.mpr fun h' => by have := (flush11 _).mp h'; dsimp only at this; omega)
    (fun _ => rfl) (fun _ _ => rfl)]
  dsimp only [dats]
theorem flush12 : ∀ t : Fin cfg0.N, (cfg0.win 12).flush t = true ↔ t.val = 32 :=
  (by decide +kernel : ∀ t : Fin grid0.N, win0_12.flush t = true ↔ t.val = 32)
theorem before12 (c : Dev nD) (t : Fin cfg0.N) (h : ¬t.val < 1) (d) :
    (dats m 0 c).before 12 t d = o12 m c (t.val - 1) (Nat.lt_of_le_of_lt (Nat.sub_le _ _) t.isLt) := by
  have hN : t.val < 33 := lt_of_lt_of_eq t.isLt (show cfg0.N = 33 from N_0)
  rw [Dat.before_out_kept _ 12 rfl t (by omega) (Bool.eq_false_iff.mpr fun h' => by have := (flush12 _).mp h'; dsimp only at this; omega)
    (fun _ => rfl) (fun _ _ => rfl)]
  dsimp only [dats]
theorem flush13 : ∀ t : Fin cfg0.N, (cfg0.win 13).flush t = true ↔ t.val = 0 ∨ t.val = 32 :=
  (by decide +kernel : ∀ t : Fin grid0.N, win0_13.flush t = true ↔ t.val = 0 ∨ t.val = 32)
theorem before13 (c : Dev nD) (t : Fin cfg0.N) (h : ¬t.val < 2) (d) :
    (dats m 0 c).before 13 t d = o13 m c (t.val - 1) (Nat.lt_of_le_of_lt (Nat.sub_le _ _) t.isLt) := by
  have hN : t.val < 33 := lt_of_lt_of_eq t.isLt (show cfg0.N = 33 from N_0)
  rw [Dat.before_out_kept _ 13 rfl t (by omega) (Bool.eq_false_iff.mpr fun h' => by have := (flush13 _).mp h'; dsimp only at this; omega)
    (fun _ => rfl) (fun _ _ => rfl)]
  dsimp only [dats]
theorem flush14 : ∀ t : Fin cfg0.N, (cfg0.win 14).flush t = true ↔ t.val = 0 ∨ t.val = 32 :=
  (by decide +kernel : ∀ t : Fin grid0.N, win0_14.flush t = true ↔ t.val = 0 ∨ t.val = 32)
theorem before14 (c : Dev nD) (t : Fin cfg0.N) (h : ¬t.val < 2) (d) :
    (dats m 0 c).before 14 t d = o14 m c (t.val - 1) (Nat.lt_of_le_of_lt (Nat.sub_le _ _) t.isLt) := by
  have hN : t.val < 33 := lt_of_lt_of_eq t.isLt (show cfg0.N = 33 from N_0)
  rw [Dat.before_out_kept _ 14 rfl t (by omega) (Bool.eq_false_iff.mpr fun h' => by have := (flush14 _).mp h'; dsimp only at this; omega)
    (fun _ => rfl) (fun _ _ => rfl)]
  dsimp only [dats]

def bodyPre (c : Dev nD) (t : Fin cfg0.N) : sProp 𝕄 :=
  iprop((dats m 0 c).Φ t.castSucc ∗ (dats m 0 c).owesAt () t.castSucc
    ∗ (∃ d, owns c.tc (m0 t) fullShare ((dats m 0 c).before 0 t d))
    ∗ (∃ d, owns c.tc (m1 t) fullShare ((dats m 0 c).before 1 t d))
    ∗ (∃ d, owns c.tc (m2 t) fullShare ((dats m 0 c).before 2 t d))
    ∗ (∃ d, owns c.tc (m3 t) fullShare ((dats m 0 c).before 3 t d))
    ∗ (∃ d, owns c.tc (m4 t) fullShare ((dats m 0 c).before 4 t d))
    ∗ (∃ d, owns c.tc (m5 t) fullShare ((dats m 0 c).before 5 t d))
    ∗ (∃ d, owns c.tc (m6 t) fullShare ((dats m 0 c).before 6 t d))
    ∗ (∃ d, owns c.tc (m7 t) fullShare ((dats m 0 c).before 7 t d))
    ∗ (∃ d, owns c.tc (m8 t) fullShare ((dats m 0 c).before 8 t d))
    ∗ (∃ d, owns c.tc (m9 t) fullShare ((dats m 0 c).before 9 t d))
    ∗ (∃ d, owns c.tc (m10 t) fullShare ((dats m 0 c).before 10 t d))
    ∗ (∃ d, owns c.tc (m11 t) fullShare ((dats m 0 c).before 11 t d))
    ∗ (∃ d, owns c.tc (m12 t) fullShare ((dats m 0 c).before 12 t d))
    ∗ (∃ d, owns c.tc (m13 t) fullShare ((dats m 0 c).before 13 t d))
    ∗ (∃ d, owns c.tc (m14 t) fullShare ((dats m 0 c).before 14 t d)))
def bodyPost (c : Dev nD) (t : Fin cfg0.N) : sProp 𝕄 :=
  iprop((dats m 0 c).Φ t.succ ∗ (dats m 0 c).owesAt () t.succ
    ∗ owns c.tc (m0 t) fullShare ((dats m 0 c).after 0 t)
    ∗ owns c.tc (m1 t) fullShare ((dats m 0 c).after 1 t)
    ∗ owns c.tc (m2 t) fullShare ((dats m 0 c).after 2 t)
    ∗ owns c.tc (m3 t) fullShare ((dats m 0 c).after 3 t)
    ∗ owns c.tc (m4 t) fullShare ((dats m 0 c).after 4 t)
    ∗ owns c.tc (m5 t) fullShare ((dats m 0 c).after 5 t)
    ∗ owns c.tc (m6 t) fullShare ((dats m 0 c).after 6 t)
    ∗ owns c.tc (m7 t) fullShare ((dats m 0 c).after 7 t)
    ∗ owns c.tc (m8 t) fullShare ((dats m 0 c).after 8 t)
    ∗ owns c.tc (m9 t) fullShare ((dats m 0 c).after 9 t)
    ∗ owns c.tc (m10 t) fullShare ((dats m 0 c).after 10 t)
    ∗ owns c.tc (m11 t) fullShare ((dats m 0 c).after 11 t)
    ∗ owns c.tc (m12 t) fullShare ((dats m 0 c).after 12 t)
    ∗ owns c.tc (m13 t) fullShare ((dats m 0 c).after 13 t)
    ∗ owns c.tc (m14 t) fullShare ((dats m 0 c).after 14 t))

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11, after12, after13, after14]
  have hN : t.val < 33 := lt_of_lt_of_eq t.isLt (show cfg0.N = 33 from N_0)
  by_cases h0 : t.val < 1
  · have h1 : t.val < 2 := by omega
    rw [o11_first m c t h0, o12_first m c t h0, o13_first m c t h1, o14_first m c t h1]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply (run_A c (grid0.coords t) _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) ((hcond0 t).mpr h0) ((hcond1 t).mpr h1) Set.univ _)
    iframe H0 H1 H2 H3 H4 H5 H6 H7 H8 H9
    isplitl [H10]; · iexists _; iexact H10
    isplitl [H11]; · iexists _; iexact H11
    isplitl [H12]; · iexists _; iexact H12
    isplitl [H13]; · iexists _; iexact H13
    isplitl [H14]; · iexists _; iexact H14
    iintro ⟨H0, H1, H2, H3, H4, H5, H6, H7, H8, H9, H10, H11, H12, H13, H14⟩
    iframe HΦ Ho H0 H1 H2 H3 H4 H5 H6 H7 H8 H9 H10 H11 H12 H13 H14
  · by_cases h1 : t.val < 2
    · rw [o11_next m c t h0, o12_next m c t h0, o13_first m c t h1, o14_first m c t h1]
      simp only [before11 m c t h0, before12 m c t h0]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
      iapply (run_B c (grid0.coords t) _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (fun h => h0 ((hcond0 t).mp h)) ((hcond1 t).mpr h1) _ _ Set.univ _)
      iframe H0 H1 H2 H3 H4 H5 H6 H7 H8 H9
      isplitl [H10]; · iexists _; iexact H10
      isplitl [H11]; · iexact H11
      isplitl [H12]; · iexact H12
      isplitl [H13]; · iexists _; iexact H13
      isplitl [H14]; · iexists _; iexact H14
      iintro ⟨H0, H1, H2, H3, H4, H5, H6, H7, H8, H9, H10, H11, H12, H13, H14⟩
      iframe HΦ Ho H0 H1 H2 H3 H4 H5 H6 H7 H8 H9 H10 H11 H12 H13 H14
    · rw [o11_next m c t h0, o12_next m c t h0, o13_next m c t h1, o14_next m c t h1]
      simp only [before11 m c t h0, before12 m c t h0, before13 m c t h1, before14 m c t h1]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
      iapply (run_C c (grid0.coords t) _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (fun h => h0 ((hcond0 t).mp h)) (fun h => h1 ((hcond1 t).mp h)) _ _ _ _ Set.univ _)
      iframe H0 H1 H2 H3 H4 H5 H6 H7 H8 H9
      isplitl [H10]; · iexists _; iexact H10
      iframe H11 H12 H13 H14
      iintro ⟨H0, H1, H2, H3, H4, H5, H6, H7, H8, H9, H10, H11, H12, H13, H14⟩
      iframe HΦ Ho H0 H1 H2 H3 H4 H5 H6 H7 H8 H9 H10 H11 H12 H13 H14

theorem body_obligation (c : Dev nD) : BodyObligation (dats (F := F) m 0 c) (defs₀ (F := F)) Variants.none () Set.univ := fun t => by
  rw [bigSep_W0, bigSep_W0]
  rw [show defs₀ (F := F) .tc cfg0.body (cfg0.bodyArgs t (cfg0.slots t)) = bodyAt0 t from by unfold defs₀; rw [Defs.onTc_tc]]
  exact triple_restated (sound_body m c t) rfl .rfl fun _ => .rfl

set_option backward.isDefEq.respectTransparency.types false in
/-- The launch with the exact contents, and every semaphore counter at zero. -/
theorem run_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_post : θ_run defs (onTc (τ := τ) (main (F := F))) (s₀ m ρ) (Pipeline.FramePost cfgs (dats m) 0 (V m)) :=
  (θ_run defs _ _).mono (fun _ h => h.1) (run_quiescent m ρ)

end Cert.Ssmin

end
-- ==== Proof.SsminSpec.lean ====
module

public import proofs.«01_k».proof.Proof.LossSpec
@[expose] public section

/-!
The scan's input on real rows, with its gradient: a token's row is normed, scaled, shifted and
projected; the gradient of the projection comes back through the same steps.
-/

noncomputable section

namespace Cert.SsminSpec
open Cert.Reals Cert.LossSpec

abbrev Proj := Fin 2048 → ℝ

/-- The modulated row. -/
def hh (u g s b : Row) : Row := fun d => nn u d * g d * (1 + s d) + b d
/-- The gradient's row of the projection: the two directions' sum, then the gate. -/
def pr (a b z : Row) : Proj := fun k => if h : k.val < 1024 then a ⟨k.val, h⟩ + b ⟨k.val, h⟩ else z ⟨k.val - 1024, by omega⟩
/-- The gradient at the modulated row, at the scaled row, at the normed row. -/
def dh (p : Proj) (W : Lane → Proj) : Row := fun d => ∑ k, p k * W d k
def dy (p : Proj) (W : Lane → Proj) (s : Row) : Row := fun d => dh p W d * (1 + s d)
def dn (p : Proj) (W : Lane → Proj) (s g : Row) : Row := fun d => dy p W s d * g d
/-- The gradient of a row through its norm. -/
def back (u n : Row) : Row := fun d => rr u * (n d - nn u d * ((∑ k, n k * nn u k) / 1024))

/-- The derivative of the norm as the chain rule writes it. -/
theorem back_chain (u n : Row) (d : Lane) :
    n d * rr u + ((∑ k, u k * n k) * (-(1 / 2) * (rr u / ms u)) / 1024) * (2 * u d) = back u n d := by
  rw [rr_div]
  unfold back
  have e : (∑ k, n k * nn u k) = (∑ k, u k * n k) * rr u := by
    rw [Finset.sum_mul]
    refine Finset.sum_congr rfl fun k _ => ?_
    unfold nn; ring
  rw [e]
  unfold nn
  ring

/-- The segment of token row `a`: context rows come first. -/
def seg (a : ℕ) : Fin 2 := if a < 256 then 0 else 1

/-- One tile's rows after the rows before it. -/
theorem sum_next (f : ℕ → ℝ) (n : ℕ) :
    ∑ a ∈ Finset.range (256 * n), f a + ∑ r : Fin 256, f (256 * n + r.val) = ∑ a ∈ Finset.range (256 * (n + 1)), f a := by
  rw [show 256 * (n + 1) = 256 * n + 256 by ring, Finset.sum_range_add, Finset.sum_range (fun x => f (256 * n + x))]
theorem sum_all (f : ℕ → ℝ) :
    ∑ a ∈ Finset.range 8448, f a = ∑ r : Fin 256, f r.val + ∑ r : Fin 8192, f (256 + r.val) := by
  rw [show 8448 = 256 + 8192 by norm_num, Finset.sum_range_add, Finset.sum_range, Finset.sum_range (fun x => f (256 + x))]
end Cert.SsminSpec
end
-- ==== Proof.SsminPay.lean ====
module

public import proofs.«01_k».proof.Proof.Gen.Kernel5Ideal.Skeleton
public import proofs.«01_k».proof.Proof.SsminSpec
public import Idealize.ShloMosaic.Lib.Pipeline.ValueKit
public import Idealize.ShloMosaic.Lib.Pointwise
public import Idealize.ShloMosaic.Lib.Claim
@[expose] public section

/-!
What the body of the scan input's gradient computes, on real blocks, one entry at a time.
-/

set_option maxRecDepth 16384

noncomputable section

open Idealize.ShloMosaic Idealize.SL.Sem
namespace Cert.SsminPay
open Cert.Kernel5Ideal Cert.Kernel5Ideal.Gen Cert.Reals Cert.LossSpec Cert.SsminSpec

variable {i : grid0.Coords} {v7 v8 : Vec Ideal S256x1024 .f32} {v10 : Vec Ideal S1x1024 .f32} {v12 v14 : Vec Ideal S1x1x1024 .f32}
variable {v34 v35 v37 : Vec Ideal S256x1024 .f32} {v39 : Vec Ideal S1024x2048 .f32} {w : Vec Ideal S256x1024 .f32}
variable {U A B Z X : Fin 256 → Row} {G S H : Row} {W : Lane → Proj}

/-- The rows come from the context at the first point and from the tokens after it. -/
theorem pay6_first (h : (i 0).val = 0) : k0_pay6 (F := Ideal) i v7 v8 = v7 := by
  unfold k0_pay6
  rw [h]
  rfl
theorem pay6_next (h : (i 0).val ≠ 0) : k0_pay6 (F := Ideal) i v7 v8 = v8 := by
  unfold k0_pay6
  have hl : (i 0).val < 33 := (i 0).isLt
  have hb : Scalar.cmpi .eq (BitVec.ofNat 32 (i 0).val) 0#32 = 0#1 := by
    generalize (i 0).val = n at h hl
    interval_cases n <;> first | exact absurd rfl h | rfl
  show Scalar.select (Scalar.cmpi .eq (BitVec.ofNat 32 (i 0).val) 0#32) v7 v8 = v8
  rw [hb]
  rfl

section
variable (hU : ∀ r d, w (ix2 r d) = ((U r d : ℝ) : EReal))
include hU
theorem pay12_at (r : Fin 256) : k0_pay12 (F := Ideal) w (ix2 r 0) = ((rr (U r) : ℝ) : EReal) := by
  unfold k0_pay12
  pointwise []
  simp only [hU, ← EReal.coe_mul, sum_coe]
  rw [bits_1024, bits_eps, div_coe _ _ (by norm_num), ← EReal.coe_add]
  exact rsqrt_ms _
theorem pay13_at (r : Fin 256) (d : Lane) : k0_pay13 (F := Ideal) w (ix2 r d) = ((nn (U r) d : ℝ) : EReal) := by
  unfold k0_pay13
  have e := pay12_at hU
  generalize k0_pay12 (F := Ideal) w = y at e ⊢
  pointwise []
  rw [e, hU, ← EReal.coe_mul]
  rfl
end

section
variable (hU : ∀ r d, k0_pay6 (F := Ideal) i v7 v8 (ix2 r d) = ((U r d : ℝ) : EReal))
variable (h10 : ∀ d, v10 (ix2 0 d) = ((G d : ℝ) : EReal)) (h12 : ∀ d, v12 (ix3 0 0 d) = ((S d : ℝ) : EReal)) (h14 : ∀ d, v14 (ix3 0 0 d) = ((H d : ℝ) : EReal))
include hU h10 h12 h14
theorem pay7_at (r : Fin 256) (d : Lane) : k0_pay7 (F := Ideal) i v7 v8 v10 v12 v14 (ix2 r d) = ((hh (U r) G S H d : ℝ) : EReal) := by
  unfold k0_pay7
  generalize k0_pay6 (F := Ideal) i v7 v8 = y at hU ⊢
  pointwise []
  simp only [hU, h10, h12, h14, ← EReal.coe_mul, sum_coe]
  rw [bits_1024, bits_eps, div_coe _ _ (by norm_num), ← EReal.coe_add]
  have k := rsqrt_ms (U r)
  unfold ms at k
  rw [k]
  first | rw [bits_1] | rw [← EReal.coe_one]
  simp only [← EReal.coe_mul, ← EReal.coe_add]
  rfl
end

section
variable (h34 : ∀ r d, v34 (ix2 r d) = ((A r d : ℝ) : EReal)) (h35 : ∀ r d, v35 (ix2 r d) = ((B r d : ℝ) : EReal)) (h37 : ∀ r d, v37 (ix2 r d) = ((Z r d : ℝ) : EReal))
include h34 h35 h37
theorem pay8_at (r : Fin 256) (k : Fin 2048) : k0_pay8 (F := Ideal) v34 v35 v37 (ix2 r k) = ((pr (A r) (B r) (Z r) k : ℝ) : EReal) := by
  pointwise [k0_pay8]
  simp only [h34, h35, h37, ← EReal.coe_add]
  unfold pr
  split <;> rfl
variable (h39 : ∀ e k, v39 (ix2 e k) = ((W e k : ℝ) : EReal))
include h39
theorem pay9_at (r : Fin 256) (d : Lane) : k0_pay9 (F := Ideal) v34 v35 v37 v39 (ix2 r d) = ((dh (pr (A r) (B r) (Z r)) W d : ℝ) : EReal) := by
  unfold k0_pay9
  have e := pay8_at h34 h35 h37
  generalize k0_pay8 (F := Ideal) v34 v35 v37 = y at e ⊢
  pointwise []
  simp only [e, h39, ← EReal.coe_mul, sum_coe]
  rfl
variable (h12 : ∀ d, v12 (ix3 0 0 d) = ((S d : ℝ) : EReal))
include h12
theorem pay14_at (r : Fin 256) (d : Lane) : k0_pay14 (F := Ideal) v34 v35 v37 v39 v12 (ix2 r d) = ((dy (pr (A r) (B r) (Z r)) W S d : ℝ) : EReal) := by
  unfold k0_pay14
  have e := pay9_at h34 h35 h37 h39
  generalize k0_pay9 (F := Ideal) v34 v35 v37 v39 = y at e ⊢
  pointwise []
  simp only [e, h12]
  first | rw [bits_1] | rw [← EReal.coe_one]
  simp only [← EReal.coe_mul, ← EReal.coe_add]
  rfl
variable (h10 : ∀ d, v10 (ix2 0 d) = ((G d : ℝ) : EReal))
include h10
theorem pay15_at (r : Fin 256) (d : Lane) : k0_pay15 (F := Ideal) v34 v35 v37 v39 v10 v12 (ix2 r d) = ((dn (pr (A r) (B r) (Z r)) W S G d : ℝ) : EReal) := by
  unfold k0_pay15
  have e := pay14_at h34 h35 h37 h39 h12
  generalize k0_pay14 (F := Ideal) v34 v35 v37 v39 v12 = y at e ⊢
  pointwise [k0_pay11]
  simp only [e, h10, ← EReal.coe_mul]
  rfl
variable (hU : ∀ r d, w (ix2 r d) = ((U r d : ℝ) : EReal))
include hU
theorem pay16_at (r : Fin 256) (d : Lane) : k0_pay16 (F := Ideal) w v34 v35 v37 v39 v10 v12 (ix2 r d) = ((dn (pr (A r) (B r) (Z r)) W S G d * nn (U r) d : ℝ) : EReal) := by
  unfold k0_pay16
  have e := pay15_at h34 h35 h37 h39 h12 h10
  have e' := pay13_at hU
  generalize k0_pay15 (F := Ideal) v34 v35 v37 v39 v10 v12 = y at e ⊢
  generalize k0_pay13 (F := Ideal) w = y' at e' ⊢
  pointwise []
  simp only [e, e', ← EReal.coe_mul]

variable (hX : ∀ r d, v7 (ix2 r d) = ((X r d : ℝ) : EReal))
include hX
/-- The gradient of the stream. -/
theorem out10_at (r : Fin 256) (d : Lane) :
    k0_pay1 (F := Ideal) (k0_pay17 (k0_pay12 w) (k0_pay13 w) (k0_pay15 v34 v35 v37 v39 v10 v12) (k0_pay16 w v34 v35 v37 v39 v10 v12)) v7 (ix2 r d)
      = ((X r d + back (U r) (dn (pr (A r) (B r) (Z r)) W S G) d : ℝ) : EReal) := by
  have e2 := pay12_at hU
  have e3 := pay13_at hU
  have e5 := pay15_at h34 h35 h37 h39 h12 h10
  have e6 := pay16_at h34 h35 h37 h39 h12 h10 hU
  generalize k0_pay12 (F := Ideal) w = y2 at e2 ⊢
  generalize k0_pay13 (F := Ideal) w = y3 at e3 ⊢
  generalize k0_pay15 (F := Ideal) v34 v35 v37 v39 v10 v12 = y5 at e5 ⊢
  generalize k0_pay16 (F := Ideal) w v34 v35 v37 v39 v10 v12 = y6 at e6 ⊢
  pointwise [k0_pay1, k0_pay17]
  simp only [e2, e3, e5, e6, hX, sum_coe]
  rw [bits_1024, div_coe _ _ (by norm_num), ← EReal.coe_mul, ← EReal.coe_sub, ← EReal.coe_mul, ← EReal.coe_add]
  rfl
end

section
variable (h34 : ∀ r d, v34 (ix2 r d) = ((A r d : ℝ) : EReal)) (h35 : ∀ r d, v35 (ix2 r d) = ((B r d : ℝ) : EReal)) (h37 : ∀ r d, v37 (ix2 r d) = ((Z r d : ℝ) : EReal))
include h34 h35 h37
theorem pay10_at (hw : ∀ r d, w (ix2 r d) = ((U r d : ℝ) : EReal)) {q : Vec Ideal S1024x2048 .f32} {Q : Lane → Proj} (hq : ∀ e k, q (ix2 e k) = ((Q e k : ℝ) : EReal)) (e : Lane) (k : Fin 2048) :
    k0_pay10 (F := Ideal) w v34 v35 v37 q (ix2 e k) = ((Q e k + ∑ r, U r e * pr (A r) (B r) (Z r) k : ℝ) : EReal) := by
  unfold k0_pay10
  have e' := pay8_at h34 h35 h37
  generalize k0_pay8 (F := Ideal) v34 v35 v37 = y at e' ⊢
  pointwise []
  simp only [e', hw, hq, ← EReal.coe_mul, sum_coe, ← EReal.coe_add]
end

section
variable {n y p : FVec Ideal S256x1024 .f32} {N Y : Fin 256 → Row} {q : Vec Ideal S1x1024 .f32} {q3 : Vec Ideal S1x1x1024 .f32} {g : FVec Ideal S1x1024 .f32} {Q : Row}
variable (hy : ∀ r d, y (ix2 r d) = ((Y r d : ℝ) : EReal))
include hy
theorem pay20_at (hq : ∀ d, q3 (ix3 0 0 d) = ((Q d : ℝ) : EReal)) (d : Lane) :
    k0_pay20 (F := Ideal) y q3 (ix3 0 0 d) = ((Q d + ∑ r, Y r d : ℝ) : EReal) := by
  pointwise [k0_pay20]
  simp only [hy, hq, sum_coe, ← EReal.coe_add]
variable (hn : ∀ r d, n (ix2 r d) = ((N r d : ℝ) : EReal))
include hn
theorem pay18_at (hq : ∀ d, q (ix2 0 d) = ((Q d : ℝ) : EReal)) (d : Lane) :
    k0_pay18 (F := Ideal) n y q (ix2 0 d) = ((Q d + ∑ r, Y r d * N r d : ℝ) : EReal) := by
  pointwise [k0_pay18]
  simp only [hy, hn, hq, ← EReal.coe_mul, sum_coe, ← EReal.coe_add]
theorem pay19_at (hg : ∀ d, g (ix2 0 d) = ((G d : ℝ) : EReal)) (hq : ∀ d, q3 (ix3 0 0 d) = ((Q d : ℝ) : EReal)) (d : Lane) :
    k0_pay19 (F := Ideal) y g n q3 (ix3 0 0 d) = ((Q d + ∑ r, Y r d * (N r d * G d) : ℝ) : EReal) := by
  pointwise [k0_pay19]
  simp only [hy, hn, hg, hq, ← EReal.coe_mul, sum_coe, ← EReal.coe_add]
omit hy hn in
theorem pay11_at (hq : ∀ d, q (ix2 0 d) = ((Q d : ℝ) : EReal)) (d : Lane) : k0_pay11 (F := Ideal) q (ix2 0 d) = ((Q d : ℝ) : EReal) := by
  pointwise [k0_pay11]
  rw [hq]
end
theorem pay2_at (e : Lane) (k : Fin 2048) : k0_pay2 (F := Ideal) (ix2 e k) = ((0 : ℝ) : EReal) := bits_0
theorem pay3_at (d : Lane) : k0_pay3 (F := Ideal) (ix2 0 d) = ((0 : ℝ) : EReal) := bits_0
theorem pay4_at (d : Lane) : k0_pay4 (F := Ideal) (ix3 0 0 d) = ((0 : ℝ) : EReal) := bits_0
theorem pay5_at (d : Lane) : k0_pay5 (F := Ideal) (ix3 0 0 d) = ((0 : ℝ) : EReal) := bits_0
end Cert.SsminPay
end
-- ==== Proof.SsminArr.lean ====
module

public import proofs.«01_k».proof.Proof.SsminFrame
public import proofs.«01_k».proof.Proof.SsminPay
@[expose] public section

/-!
The arrays the scan input's gradient leaves, as values.
-/

set_option maxRecDepth 16384

noncomputable section

open Idealize.ShloMosaic Idealize.SL.Sem TcCoe
namespace Cert.SsminArr
open Cert.Kernel5Ideal Cert.Kernel5Ideal.Gen Cert.Reals Cert.LossSpec Cert.SsminSpec Cert.SsminPay Cert.Ssmin

/-- The blocks the windows stand on. -/
theorem widx : ∀ t : Fin cfg0.N, win0_0.index t = ![t.val, 0] ∧ win0_1.index t = ![t.val, 0] ∧ win0_2.index t = ![t.val, 0]
    ∧ win0_3.index t = ![0, 0] ∧ win0_4.index t = ![t.val - 1, 0] ∧ win0_5.index t = ![t.val, 0] ∧ win0_6.index t = ![0, 0] ∧ win0_9.index t = ![0, 0] :=
  (by decide +kernel : ∀ t : Fin grid0.N, _)
theorem widxo : ∀ t : Fin cfg0.N, win0_10.index t = ![t.val - 1, 0] ∧ win0_11.index t = ![0, 0] ∧ win0_12.index t = ![0, 0] :=
  (by decide +kernel : ∀ t : Fin grid0.N, _)
/-- The segment of point `t`. -/
def sg (t : ℕ) : Fin 2 := if t = 0 then 0 else 1
theorem widx0 : ∀ t : Fin cfg0.N, t.val = 0 → win0_7.index t = ![0, 0, 0] ∧ win0_8.index t = ![0, 0, 0] ∧ win0_13.index t = ![0, 0, 0] ∧ win0_14.index t = ![0, 0, 0] :=
  (by decide +kernel : ∀ t : Fin grid0.N, _)
theorem widx1 : ∀ t : Fin cfg0.N, t.val ≠ 0 → win0_7.index t = ![1, 0, 0] ∧ win0_8.index t = ![1, 0, 0] ∧ win0_13.index t = ![1, 0, 0] ∧ win0_14.index t = ![1, 0, 0] :=
  (by decide +kernel : ∀ t : Fin grid0.N, _)
theorem flush10 : ∀ t : Fin cfg0.N, (cfg0.win 10).flush t = true → t.val ≠ 0 :=
  (by decide +kernel : ∀ t : Fin grid0.N, _)
theorem coord : ∀ t : Fin cfg0.N, (grid0.coords t 0).val = t.val :=
  (by decide +kernel : ∀ t : Fin grid0.N, _)
theorem seg_tile (t : ℕ) (r : Fin 256) : seg (256 * t + r.val) = sg t := by
  unfold seg sg
  have := r.isLt
  by_cases h : t = 0
  · rw [if_pos (by omega), if_pos h]
  · rw [if_neg (by omega), if_neg h]

/-- An index by its coordinates. -/
theorem ix_row {n k : ℕ} (y : (⟨2, ![n, k]⟩ : Shape).Idx) : y = ix2 (y 0) (y 1) := by
  funext a; apply Fin.ext; match a with
  | ⟨0, _⟩ => rfl
  | ⟨1, _⟩ => rfl
theorem ix_one {k : ℕ} (y : (⟨2, ![1, k]⟩ : Shape).Idx) : y = ix2 0 (y 1) := by
  refine (ix_row y).trans (congrArg (fun a => ix2 a (y 1)) (Fin.ext ?_))
  have : (y 0).val < 1 := (y 0).isLt
  show (y 0).val = 0
  omega
theorem ix_11k (y : (⟨3, ![1, 1, 1024]⟩ : Shape).Idx) : y = ix3 0 0 (y 2) := by
  have h0 : (y 0).val < 1 := (y 0).isLt
  have h1 : (y 1).val < 1 := (y 1).isLt
  funext a; apply Fin.ext; match a with
  | ⟨0, _⟩ => show (y 0).val = 0; omega
  | ⟨1, _⟩ => show (y 1).val = 0; omega
  | ⟨2, _⟩ => rfl

variable (m : (ℓ : Loc nD τ sig) → Buf (Elt Ideal) ℓ) (c : Dev nD)

/-- The stream's rows: the context's, then the tokens'. -/
def rows (C X : ℕ → Row) (a : ℕ) : Row := if a < 256 then C a else X (a - 256)

section
variable (C X A B Z D : ℕ → Row) (G : Row) (S H : Fin 2 → Row) (W : Lane → Proj)
  (hc : ∀ (a : Fin 256) (d : Lane), (V m c main_arg0 : FVec Ideal S256x1024 .f32) (ix2 a d) = ((C a.val d : ℝ) : EReal))
  (hx : ∀ (a : Fin 8192) (d : Lane), (V m c main_arg1 : FVec Ideal S8192x1024 .f32) (ix2 a d) = ((X a.val d : ℝ) : EReal))
  (hg : ∀ d : Lane, (V m c main_v0 : FVec Ideal S1x1024 .f32) (ix2 0 d) = ((G d : ℝ) : EReal))
  (hs : ∀ (s : Fin 2) (d : Lane), (V m c main_v1 : FVec Ideal S2x1x1024 .f32) (ix3 s 0 d) = ((S s d : ℝ) : EReal))
  (hb : ∀ (s : Fin 2) (d : Lane), (V m c main_v2 : FVec Ideal S2x1x1024 .f32) (ix3 s 0 d) = ((H s d : ℝ) : EReal))
  (hw : ∀ (e : Lane) (k : Fin 2048), (V m c main_arg5 : FVec Ideal S1024x2048 .f32) (ix2 e k) = ((W e k : ℝ) : EReal))
  (hd : ∀ (a : Fin 8448) (d : Lane), (V m c main_arg6 : FVec Ideal S8448x1024 .f32) (ix2 a d) = ((D a.val d : ℝ) : EReal))
  (hp : ∀ (a : Fin 8448) (d : Lane), (V m c main_arg7 : FVec Ideal S8448x1024 .f32) (ix2 a d) = ((A a.val d : ℝ) : EReal))
  (hq : ∀ (a : Fin 8448) (d : Lane), (V m c main_arg8 : FVec Ideal S8448x1024 .f32) (ix2 a d) = ((B a.val d : ℝ) : EReal))
  (hz : ∀ (a : Fin 8448) (d : Lane), (V m c main_arg9 : FVec Ideal S8448x1024 .f32) (ix2 a d) = ((Z a.val d : ℝ) : EReal))

section
variable (t : Fin cfg0.N)
include hp in
theorem b0_at (r : Fin 256) (d : Lane) : b0 m c t (ix2 r d) = ((A (256 * t.val + r.val) d : ℝ) : EReal) := by
  have ht : t.val < 33 := t.isLt
  have k := hp ⟨256 * t.val + r.val, by omega⟩ d
  refine Eq.trans ?_ k
  blk_ext! [iblk, widx t]
include hq in
theorem b1_at (r : Fin 256) (d : Lane) : b1 m c t (ix2 r d) = ((B (256 * t.val + r.val) d : ℝ) : EReal) := by
  have ht : t.val < 33 := t.isLt
  have k := hq ⟨256 * t.val + r.val, by omega⟩ d
  refine Eq.trans ?_ k
  blk_ext! [iblk, widx t]
include hz in
theorem b2_at (r : Fin 256) (d : Lane) : b2 m c t (ix2 r d) = ((Z (256 * t.val + r.val) d : ℝ) : EReal) := by
  have ht : t.val < 33 := t.isLt
  have k := hz ⟨256 * t.val + r.val, by omega⟩ d
  refine Eq.trans ?_ k
  blk_ext! [iblk, widx t]
include hd in
theorem b5_at (r : Fin 256) (d : Lane) : b5 m c t (ix2 r d) = ((D (256 * t.val + r.val) d : ℝ) : EReal) := by
  have ht : t.val < 33 := t.isLt
  have k := hd ⟨256 * t.val + r.val, by omega⟩ d
  refine Eq.trans ?_ k
  blk_ext! [iblk, widx t]
include hc in
theorem b3_at (r : Fin 256) (d : Lane) : b3 m c t (ix2 r d) = ((C r.val d : ℝ) : EReal) := by
  refine Eq.trans ?_ (hc r d)
  blk_ext! [iblk, widx t]
include hx in
theorem b4_at (r : Fin 256) (d : Lane) : b4 m c t (ix2 r d) = ((X (256 * (t.val - 1) + r.val) d : ℝ) : EReal) := by
  have ht : t.val < 33 := t.isLt
  refine Eq.trans ?_ (hx ⟨256 * (t.val - 1) + r.val, by omega⟩ d)
  blk_ext! [iblk, widx t]
include hg in
theorem b6_at (d : Lane) : b6 m c t (ix2 0 d) = ((G d : ℝ) : EReal) := by
  refine Eq.trans ?_ (hg d)
  blk_ext! [iblk, widx t]
include hw in
theorem b9_at (e : Lane) (k : Fin 2048) : b9 m c t (ix2 e k) = ((W e k : ℝ) : EReal) := by
  refine Eq.trans ?_ (hw e k)
  blk_ext! [iblk, widx t]
include hs in
theorem b7_at (d : Lane) : b7 m c t (ix3 0 0 d) = ((S (sg t.val) d : ℝ) : EReal) := by
  unfold sg
  by_cases h : t.val = 0
  · rw [if_pos h]
    refine Eq.trans ?_ (hs 0 d)
    blk_ext! [iblk, widx0 t h]
  · rw [if_neg h]
    refine Eq.trans ?_ (hs 1 d)
    blk_ext! [iblk, widx1 t h]
include hb in
theorem b8_at (d : Lane) : b8 m c t (ix3 0 0 d) = ((H (sg t.val) d : ℝ) : EReal) := by
  unfold sg
  by_cases h : t.val = 0
  · rw [if_pos h]
    refine Eq.trans ?_ (hb 0 d)
    blk_ext! [iblk, widx0 t h]
  · rw [if_neg h]
    refine Eq.trans ?_ (hb 1 d)
    blk_ext! [iblk, widx1 t h]
include hc hx in
theorem tok_at (r : Fin 256) (d : Lane) :
    k0_pay6 (F := Ideal) (grid0.coords t) (b3 m c t) (b4 m c t) (ix2 r d) = ((rows C X (256 * t.val + r.val) d : ℝ) : EReal) := by
  have hr := r.isLt
  unfold rows
  by_cases h : t.val = 0
  · rw [pay6_first (by rw [coord]; exact h), b3_at m c C hc t, if_pos (by omega), h]
    norm_num
  · rw [pay6_next (by rw [coord]; exact h), b4_at m c X hx t, if_neg (by omega), show 256 * t.val + r.val - 256 = 256 * (t.val - 1) + r.val by omega]
end

/-- The gradient's row of the projection. -/
abbrev P (A B Z : ℕ → Row) (a : ℕ) : Proj := pr (A a) (B a) (Z a)
/-- The terms of the four sums, token row by token row. -/
def fw (C X A B Z : ℕ → Row) (G : Row) (S H : Fin 2 → Row) (e : Lane) (k : Fin 2048) (a : ℕ) : ℝ := hh (rows C X a) G (S (seg a)) (H (seg a)) e * P A B Z a k
def fg (C X A B Z : ℕ → Row) (S : Fin 2 → Row) (W : Lane → Proj) (d : Lane) (a : ℕ) : ℝ := dy (P A B Z a) W (S (seg a)) d * nn (rows C X a) d
def fs (C X A B Z : ℕ → Row) (G : Row) (W : Lane → Proj) (d : Lane) (a : ℕ) : ℝ := dh (P A B Z a) W d * (nn (rows C X a) d * G d)
def fb (A B Z : ℕ → Row) (W : Lane → Proj) (d : Lane) (a : ℕ) : ℝ := dh (P A B Z a) W d
/-- The gradient of a token's row. -/
def fx (C X A B Z D : ℕ → Row) (G : Row) (S : Fin 2 → Row) (W : Lane → Proj) (a : ℕ) (d : Lane) : ℝ :=
  D a d + back (rows C X a) (dn (P A B Z a) W (S (seg a)) G) d

section
variable (t : Fin cfg0.N)
include hc hx hg hs hb hp hq hz in
theorem s11_at (q : Vec Ideal S1024x2048 .f32) (Q : Lane → Proj) (hQ : ∀ e k, q (ix2 e k) = ((Q e k : ℝ) : EReal)) (e : Lane) (k : Fin 2048) :
    s11 m c t q (ix2 e k) = ((Q e k + ∑ r : Fin 256, fw C X A B Z G S H e k (256 * t.val + r.val) : ℝ) : EReal) := by
  unfold s11
  refine (pay10_at (b0_at m c A hp t) (b1_at m c B hq t) (b2_at m c Z hz t)
    (pay7_at (tok_at m c C X hc hx t) (b6_at m c G hg t) (b7_at m c S hs t) (b8_at m c H hb t)) hQ e k).trans ?_
  simp only [fw, seg_tile]
include hc hx hs hp hq hz hw in
theorem s12_at (q : Vec Ideal S1x1024 .f32) (Q : Row) (hQ : ∀ d, q (ix2 0 d) = ((Q d : ℝ) : EReal)) (d : Lane) :
    s12 m c t q (ix2 0 d) = ((Q d + ∑ r : Fin 256, fg C X A B Z S W d (256 * t.val + r.val) : ℝ) : EReal) := by
  unfold s12
  refine (pay18_at (pay14_at (b0_at m c A hp t) (b1_at m c B hq t) (b2_at m c Z hz t) (b9_at m c W hw t) (b7_at m c S hs t))
    (pay13_at (tok_at m c C X hc hx t)) hQ d).trans ?_
  simp only [fg, seg_tile]
include hc hx hg hp hq hz hw in
theorem s13_at (q : Vec Ideal S1x1x1024 .f32) (Q : Row) (hQ : ∀ d, q (ix3 0 0 d) = ((Q d : ℝ) : EReal)) (d : Lane) :
    s13 m c t q (ix3 0 0 d) = ((Q d + ∑ r : Fin 256, fs C X A B Z G W d (256 * t.val + r.val) : ℝ) : EReal) := by
  unfold s13
  exact pay19_at (pay9_at (b0_at m c A hp t) (b1_at m c B hq t) (b2_at m c Z hz t) (b9_at m c W hw t))
    (pay13_at (tok_at m c C X hc hx t)) (pay11_at (b6_at m c G hg t)) hQ d
include hp hq hz hw in
theorem s14_at (q : Vec Ideal S1x1x1024 .f32) (Q : Row) (hQ : ∀ d, q (ix3 0 0 d) = ((Q d : ℝ) : EReal)) (d : Lane) :
    s14 m c t q (ix3 0 0 d) = ((Q d + ∑ r : Fin 256, fb A B Z W d (256 * t.val + r.val) : ℝ) : EReal) := by
  unfold s14
  exact pay20_at (pay9_at (b0_at m c A hp t) (b1_at m c B hq t) (b2_at m c Z hz t) (b9_at m c W hw t)) hQ d
include hc hx hg hs hp hq hz hw hd in
theorem o10_at (r : Fin 256) (d : Lane) : o10 m c t (ix2 r d) = ((fx C X A B Z D G S W (256 * t.val + r.val) d : ℝ) : EReal) := by
  unfold o10
  refine (out10_at (b0_at m c A hp t) (b1_at m c B hq t) (b2_at m c Z hz t) (b9_at m c W hw t) (b7_at m c S hs t) (b6_at m c G hg t)
    (tok_at m c C X hc hx t) (b5_at m c D hd t) r d).trans ?_
  simp only [fx, seg_tile]
end

include hc hx hg hs hb hp hq hz in
/-- The sum's contents after point `n`: all rows up to it. -/
theorem o11_at : ∀ (n : ℕ) (h : n < cfg0.N) (e : Lane) (k : Fin 2048), o11 m c n h (ix2 e k) = ((∑ a ∈ Finset.range (256 * (n + 1)), fw C X A B Z G S H e k a : ℝ) : EReal)
  | 0, h => fun e k => by
    rw [o11_first m c ⟨0, h⟩ (by norm_num)]
    refine (s11_at m c C X A B Z G S H hc hx hg hs hb hp hq hz ⟨0, h⟩ _ (fun e k => 0) pay2_at e k).trans ?_
    rw [← sum_next, Finset.range_zero, Finset.sum_empty]
  | n + 1, h => fun e k => by
    have hn : n < cfg0.N := Nat.lt_of_succ_lt h
    rw [o11_next m c ⟨n + 1, h⟩ (by show ¬n + 1 < 1; omega)]
    refine (s11_at m c C X A B Z G S H hc hx hg hs hb hp hq hz ⟨n + 1, h⟩ _ (fun e k => ∑ a ∈ Finset.range (256 * (n + 1)), fw C X A B Z G S H e k a) (fun e k => o11_at n hn e k) e k).trans ?_
    rw [← sum_next (fw C X A B Z G S H e k) (n + 1)]
include hc hx hs hp hq hz hw in
/-- The sum's contents after point `n`: all rows up to it. -/
theorem o12_at : ∀ (n : ℕ) (h : n < cfg0.N) (d : Lane), o12 m c n h (ix2 0 d) = ((∑ a ∈ Finset.range (256 * (n + 1)), fg C X A B Z S W d a : ℝ) : EReal)
  | 0, h => fun d => by
    rw [o12_first m c ⟨0, h⟩ (by norm_num)]
    refine (s12_at m c C X A B Z S W hc hx hs hw hp hq hz ⟨0, h⟩ _ (fun d => 0) pay3_at d).trans ?_
    rw [← sum_next, Finset.range_zero, Finset.sum_empty]
  | n + 1, h => fun d => by
    have hn : n < cfg0.N := Nat.lt_of_succ_lt h
    rw [o12_next m c ⟨n + 1, h⟩ (by show ¬n + 1 < 1; omega)]
    refine (s12_at m c C X A B Z S W hc hx hs hw hp hq hz ⟨n + 1, h⟩ _ (fun d => ∑ a ∈ Finset.range (256 * (n + 1)), fg C X A B Z S W d a) (fun d => o12_at n hn d) d).trans ?_
    rw [← sum_next (fg C X A B Z S W d) (n + 1)]
include hc hx hg hp hq hz hw in
/-- The first segment's sum. -/
theorem o13_ctx (t : Fin cfg0.N) (h : t.val = 0) (d : Lane) : o13 m c t.val t.isLt (ix3 0 0 d) = ((∑ r : Fin 256, fs C X A B Z G W d r.val : ℝ) : EReal) := by
  rw [o13_first m c t (by omega)]
  refine (s13_at m c C X A B Z G W hc hx hg hw hp hq hz t _ (fun d => 0) pay4_at d).trans ?_
  rw [zero_add, h]
  norm_num
include hc hx hg hp hq hz hw in
/-- The second segment's contents: all rows of the segment so far. -/
theorem o13_at : ∀ (n : ℕ) (h : n + 1 < cfg0.N) (d : Lane), o13 m c (n + 1) h (ix3 0 0 d) = ((∑ a ∈ Finset.range (256 * (n + 1)), fs C X A B Z G W d (256 + a) : ℝ) : EReal)
  | 0, h => fun d => by
    rw [o13_first m c ⟨0 + 1, h⟩ (by norm_num)]
    refine (s13_at m c C X A B Z G W hc hx hg hw hp hq hz ⟨0 + 1, h⟩ _ (fun d => 0) pay4_at d).trans ?_
    rw [← sum_next (fun a => fs C X A B Z G W d (256 + a)), Finset.range_zero, Finset.sum_empty]
    simp only [Nat.mul_zero, Nat.zero_add, Nat.mul_one]
  | n + 1, h => fun d => by
    have hn : n + 1 < cfg0.N := Nat.lt_of_succ_lt h
    rw [o13_next m c ⟨n + 1 + 1, h⟩ (by show ¬n + 1 + 1 < 2; omega)]
    refine (s13_at m c C X A B Z G W hc hx hg hw hp hq hz ⟨n + 1 + 1, h⟩ _ (fun d => ∑ a ∈ Finset.range (256 * (n + 1)), fs C X A B Z G W d (256 + a)) (fun d => o13_at n hn d) d).trans ?_
    rw [← sum_next (fun a => fs C X A B Z G W d (256 + a)) (n + 1)]
    simp only [show ∀ r : ℕ, 256 * (n + 1 + 1) + r = 256 + (256 * (n + 1) + r) from fun r => by ring]
include hp hq hz hw in
/-- The first segment's sum. -/
theorem o14_ctx (t : Fin cfg0.N) (h : t.val = 0) (d : Lane) : o14 m c t.val t.isLt (ix3 0 0 d) = ((∑ r : Fin 256, fb A B Z W d r.val : ℝ) : EReal) := by
  rw [o14_first m c t (by omega)]
  refine (s14_at m c A B Z W hw hp hq hz t _ (fun d => 0) pay5_at d).trans ?_
  rw [zero_add, h]
  norm_num
include hp hq hz hw in
/-- The second segment's contents: all rows of the segment so far. -/
theorem o14_at : ∀ (n : ℕ) (h : n + 1 < cfg0.N) (d : Lane), o14 m c (n + 1) h (ix3 0 0 d) = ((∑ a ∈ Finset.range (256 * (n + 1)), fb A B Z W d (256 + a) : ℝ) : EReal)
  | 0, h => fun d => by
    rw [o14_first m c ⟨0 + 1, h⟩ (by norm_num)]
    refine (s14_at m c A B Z W hw hp hq hz ⟨0 + 1, h⟩ _ (fun d => 0) pay5_at d).trans ?_
    rw [← sum_next (fun a => fb A B Z W d (256 + a)), Finset.range_zero, Finset.sum_empty]
    simp only [Nat.mul_zero, Nat.zero_add, Nat.mul_one]
  | n + 1, h => fun d => by
    have hn : n + 1 < cfg0.N := Nat.lt_of_succ_lt h
    rw [o14_next m c ⟨n + 1 + 1, h⟩ (by show ¬n + 1 + 1 < 2; omega)]
    refine (s14_at m c A B Z W hw hp hq hz ⟨n + 1 + 1, h⟩ _ (fun d => ∑ a ∈ Finset.range (256 * (n + 1)), fb A B Z W d (256 + a)) (fun d => o14_at n hn d) d).trans ?_
    rw [← sum_next (fun a => fb A B Z W d (256 + a)) (n + 1)]
    simp only [show ∀ r : ℕ, 256 * (n + 1 + 1) + r = 256 + (256 * (n + 1) + r) from fun r => by ring]

include hc hx hg hs hp hq hz hw hd in
/-- The gradient of the tokens' stream. -/
theorem arr10 : (dats m 0 c).arrAt 10 cfg0.N = (fun i : S8192x1024.Idx => ((fx C X A B Z D G S W (256 + (i 0).val) (i 1) : ℝ) : EReal) : FVec Ideal S8192x1024 .f32) := by
  refine (dats m 0 c).arrAt_eq_of_covers 10 _ (by decide +kernel) fun t hf y => ?_
  have hn := flush10 t hf
  have e0 : (((cfg0.win 10).blk t).view.emb y 0).val = 256 * (t.val - 1) + (y 0).val := by blk_simp [widxo t] <;> omega
  have e1 : ((cfg0.win 10).blk t).view.emb y 1 = (y 1 : Lane) := Fin.ext (by blk_simp [widxo t] <;> omega)
  have key : ∀ (a : ℕ) (d : Lane), a = 256 * (t.val - 1) + (y 0).val → d = y 1 →
      (o10 m c t : FVec Ideal S256x1024 .f32) y = ((fx C X A B Z D G S W (256 + a) d : ℝ) : EReal) := by
    rintro _ _ rfl rfl
    refine (congrArg _ (ix_row (n := 256) (k := 1024) y)).trans ((o10_at m c C X A B Z D G S W hc hx hg hs hw hd hp hq hz t (y 0) (y 1)).trans ?_)
    rw [show 256 + (256 * (t.val - 1) + (y 0).val) = 256 * t.val + (y 0).val by omega]
  have k := key _ _ e0 e1
  refine Eq.trans ?_ k
  blk_simp
  rw [after10]
include hc hx hg hs hb hp hq hz in
/-- The gradient of the projection's weight. -/
theorem arr11 : (dats m 0 c).arrAt 11 cfg0.N = (fun i : S1024x2048.Idx => ((∑ a ∈ Finset.range 8448, fw C X A B Z G S H (i 0) (i 1) a : ℝ) : EReal) : FVec Ideal S1024x2048 .f32) := by
  refine (dats m 0 c).arrAt_eq_of_covers 11 _ (by decide +kernel) fun t hf y => ?_
  have hn := (flush11 t).1 hf
  have e0 : ((cfg0.win 11).blk t).view.emb y 0 = (y 0 : Lane) := Fin.ext (by blk_simp [widxo t] <;> omega)
  have e1 : ((cfg0.win 11).blk t).view.emb y 1 = (y 1 : Fin 2048) := Fin.ext (by blk_simp [widxo t] <;> omega)
  have key : ∀ (a : Lane) (d : Fin 2048), a = y 0 → d = y 1 →
      (o11 m c t.val t.isLt : FVec Ideal S1024x2048 .f32) y = ((∑ r ∈ Finset.range 8448, fw C X A B Z G S H a d r : ℝ) : EReal) := by
    rintro _ _ rfl rfl
    refine (congrArg _ (ix_row (n := 1024) (k := 2048) y)).trans ((o11_at m c C X A B Z G S H hc hx hg hs hb hp hq hz t.val t.isLt (y 0) (y 1)).trans ?_)
    rw [hn]
  have k := key _ _ e0 e1
  refine Eq.trans ?_ k
  blk_simp
  rw [after11]
include hc hx hs hp hq hz hw in
/-- The gradient of the norm's weight. -/
theorem arr12 : (dats m 0 c).arrAt 12 cfg0.N = (fun i : S1x1024.Idx => ((∑ a ∈ Finset.range 8448, fg C X A B Z S W (i 1) a : ℝ) : EReal) : FVec Ideal S1x1024 .f32) := by
  refine (dats m 0 c).arrAt_eq_of_covers 12 _ (by decide +kernel) fun t hf y => ?_
  have hn := (flush12 t).1 hf
  have e1 : ((cfg0.win 12).blk t).view.emb y 1 = (y 1 : Lane) := Fin.ext (by blk_simp [widxo t] <;> omega)
  have key : ∀ (d : Lane), d = y 1 →
      (o12 m c t.val t.isLt : FVec Ideal S1x1024 .f32) y = ((∑ r ∈ Finset.range 8448, fg C X A B Z S W d r : ℝ) : EReal) := by
    rintro _ rfl
    refine (congrArg _ (ix_one (k := 1024) y)).trans ((o12_at m c C X A B Z S W hc hx hs hw hp hq hz t.val t.isLt (y 1)).trans ?_)
    rw [hn]
  have k := key _ e1
  refine Eq.trans ?_ k
  blk_simp
  rw [after12]
include hc hx hg hp hq hz hw in
/-- The gradient of the two scales. -/
theorem arr13 : (dats m 0 c).arrAt 13 cfg0.N = (fun i : S2x1x1024.Idx =>
    (((if (i 0).val = 0 then ∑ r : Fin 256, fs C X A B Z G W (i 2) r.val else ∑ r : Fin 8192, fs C X A B Z G W (i 2) (256 + r.val)) : ℝ) : EReal) : FVec Ideal S2x1x1024 .f32) := by
  refine (dats m 0 c).arrAt_eq_of_covers 13 _ (by decide +kernel) fun t hf y => ?_
  have h0 : (y 0).val < 1 := (y 0).isLt
  have key : ∀ (s : Fin 2) (d : Lane), s = sg t.val → d = y 2 →
      (o13 m c t.val t.isLt : FVec Ideal S1x1x1024 .f32) y = (((if s.val = 0 then ∑ r : Fin 256, fs C X A B Z G W d r.val else ∑ r : Fin 8192, fs C X A B Z G W d (256 + r.val)) : ℝ) : EReal) := by
    rintro _ _ rfl rfl
    rcases (flush13 t).1 hf with hn | hn
    · refine (congrArg _ (ix_11k y)).trans ((o13_ctx m c C X A B Z G W hc hx hg hw hp hq hz t hn (y 2)).trans ?_)
      rw [show sg t.val = 0 from if_pos hn]
      exact congrArg (fun z : ℝ => (z : EReal)) (if_pos (c := (0 : Fin 2).val = 0) rfl).symm
    · refine (congrArg _ (ix_11k y)).trans ?_
      rw [show sg t.val = 1 from if_neg (by rw [hn]; norm_num)]
      have q : ∀ (n : ℕ) (hn : n < cfg0.N), n = 31 + 1 → o13 m c n hn (ix3 0 0 (y 2)) = ((∑ r : Fin 8192, fs C X A B Z G W (y 2) (256 + r.val) : ℝ) : EReal) := by
        rintro _ hn rfl
        refine (o13_at m c C X A B Z G W hc hx hg hw hp hq hz 31 hn (y 2)).trans ?_
        rw [Finset.sum_range (fun a => fs C X A B Z G W (y 2) (256 + a))]
      exact (q t.val t.isLt hn).trans (congrArg (fun z : ℝ => (z : EReal)) (if_neg (c := (1 : Fin 2).val = 0) (by norm_num)).symm)
  by_cases h : t.val = 0
  · have e0 : ((cfg0.win 13).blk t).view.emb y 0 = sg t.val := Fin.ext (by rw [h]; show _ = 0; blk_simp [widx0 t h] <;> omega)
    have e2 : ((cfg0.win 13).blk t).view.emb y 2 = (y 2 : Lane) := Fin.ext (by blk_simp [widx0 t h] <;> omega)
    have k := key _ _ e0 e2
    refine Eq.trans ?_ k
    blk_simp
    rw [after13]
  · have e0 : ((cfg0.win 13).blk t).view.emb y 0 = sg t.val := Fin.ext (by unfold sg; rw [if_neg h]; show _ = 1; blk_simp [widx1 t h] <;> omega)
    have e2 : ((cfg0.win 13).blk t).view.emb y 2 = (y 2 : Lane) := Fin.ext (by blk_simp [widx1 t h] <;> omega)
    have k := key _ _ e0 e2
    refine Eq.trans ?_ k
    blk_simp
    rw [after13]
include hp hq hz hw in
/-- The gradient of the two shifts. -/
theorem arr14 : (dats m 0 c).arrAt 14 cfg0.N = (fun i : S2x1x1024.Idx =>
    (((if (i 0).val = 0 then ∑ r : Fin 256, fb A B Z W (i 2) r.val else ∑ r : Fin 8192, fb A B Z W (i 2) (256 + r.val)) : ℝ) : EReal) : FVec Ideal S2x1x1024 .f32) := by
  refine (dats m 0 c).arrAt_eq_of_covers 14 _ (by decide +kernel) fun t hf y => ?_
  have h0 : (y 0).val < 1 := (y 0).isLt
  have key : ∀ (s : Fin 2) (d : Lane), s = sg t.val → d = y 2 →
      (o14 m c t.val t.isLt : FVec Ideal S1x1x1024 .f32) y = (((if s.val = 0 then ∑ r : Fin 256, fb A B Z W d r.val else ∑ r : Fin 8192, fb A B Z W d (256 + r.val)) : ℝ) : EReal) := by
    rintro _ _ rfl rfl
    rcases (flush14 t).1 hf with hn | hn
    · refine (congrArg _ (ix_11k y)).trans ((o14_ctx m c A B Z W hw hp hq hz t hn (y 2)).trans ?_)
      rw [show sg t.val = 0 from if_pos hn]
      exact congrArg (fun z : ℝ => (z : EReal)) (if_pos (c := (0 : Fin 2).val = 0) rfl).symm
    · refine (congrArg _ (ix_11k y)).trans ?_
      rw [show sg t.val = 1 from if_neg (by rw [hn]; norm_num)]
      have q : ∀ (n : ℕ) (hn : n < cfg0.N), n = 31 + 1 → o14 m c n hn (ix3 0 0 (y 2)) = ((∑ r : Fin 8192, fb A B Z W (y 2) (256 + r.val) : ℝ) : EReal) := by
        rintro _ hn rfl
        refine (o14_at m c A B Z W hw hp hq hz 31 hn (y 2)).trans ?_
        rw [Finset.sum_range (fun a => fb A B Z W (y 2) (256 + a))]
      exact (q t.val t.isLt hn).trans (congrArg (fun z : ℝ => (z : EReal)) (if_neg (c := (1 : Fin 2).val = 0) (by norm_num)).symm)
  by_cases h : t.val = 0
  · have e0 : ((cfg0.win 14).blk t).view.emb y 0 = sg t.val := Fin.ext (by rw [h]; show _ = 0; blk_simp [widx0 t h] <;> omega)
    have e2 : ((cfg0.win 14).blk t).view.emb y 2 = (y 2 : Lane) := Fin.ext (by blk_simp [widx0 t h] <;> omega)
    have k := key _ _ e0 e2
    refine Eq.trans ?_ k
    blk_simp
    rw [after14]
  · have e0 : ((cfg0.win 14).blk t).view.emb y 0 = sg t.val := Fin.ext (by unfold sg; rw [if_neg h]; show _ = 1; blk_simp [widx1 t h] <;> omega)
    have e2 : ((cfg0.win 14).blk t).view.emb y 2 = (y 2 : Lane) := Fin.ext (by blk_simp [widx1 t h] <;> omega)
    have k := key _ _ e0 e2
    refine Eq.trans ?_ k
    blk_simp
    rw [after14]
end
/-- The host reads the argument in the blocks' shape. -/
theorem V0_at (d : Lane) : (V m c main_v0 : FVec Ideal S1x1024 .f32) (ix2 0 d) = (m ((c : Thread nD τ).loc main_arg2) : FVec Ideal S1024 .f32) (ix1 d) := by
  have e : (V m c main_v0 : FVec Ideal S1x1024 .f32) = shapeCast S1x1024 (m ((c : Thread nD τ).loc main_arg2) : FVec Ideal S1024 .f32) shapeCasts_S1024_S1x1024 := by
    show StableHlo.after hostOps0 _ (Proc.devRef .tc main_v0) = _
    entry_read
    rfl
  rw [e]
  pointwise []
/-- The host reads the argument in the blocks' shape. -/
theorem V1_at (s : Fin 2) (d : Lane) : (V m c main_v1 : FVec Ideal S2x1x1024 .f32) (ix3 s 0 d) = (m ((c : Thread nD τ).loc main_arg3) : FVec Ideal S2x1024 .f32) (ix2 s d) := by
  have e : (V m c main_v1 : FVec Ideal S2x1x1024 .f32) = shapeCast S2x1x1024 (m ((c : Thread nD τ).loc main_arg3) : FVec Ideal S2x1024 .f32) shapeCasts_S2x1024_S2x1x1024 := by
    show StableHlo.after hostOps0 _ (Proc.devRef .tc main_v1) = _
    entry_read
    rfl
  rw [e]
  pointwise []
/-- The host reads the argument in the blocks' shape. -/
theorem V2_at (s : Fin 2) (d : Lane) : (V m c main_v2 : FVec Ideal S2x1x1024 .f32) (ix3 s 0 d) = (m ((c : Thread nD τ).loc main_arg4) : FVec Ideal S2x1024 .f32) (ix2 s d) := by
  have e : (V m c main_v2 : FVec Ideal S2x1x1024 .f32) = shapeCast S2x1x1024 (m ((c : Thread nD τ).loc main_arg4) : FVec Ideal S2x1024 .f32) shapeCasts_S2x1024_S2x1x1024 := by
    show StableHlo.after hostOps0 _ (Proc.devRef .tc main_v2) = _
    entry_read
    rfl
  rw [e]
  pointwise []
end Cert.SsminArr
end
-- ==== Proof.SsminRef.lean ====
module

public import proofs.«01_k».proof.Proof.Gen.Reference5Ideal.Run
public import proofs.«01_k».proof.Proof.Gen.Reference5Ideal.Read
public import proofs.«01_k».proof.Proof.SsminSpec
public import Idealize.ShloMosaic.Lib.Pointwise
public import Idealize.ShloMosaic.Lib.Claim
public import proofs.«01_k».proof.Proof.Coes
@[expose] public section

/-!
The derivative's program of the scan's input read stage by stage on real arguments.
-/

set_option maxRecDepth 16384

noncomputable section

open Idealize.ShloMosaic Idealize.SL.Sem
namespace Cert.SsminRef
open Cert.Reference5Ideal Cert.Reference5Ideal.Read Cert.Reals Cert.LossSpec Cert.SsminSpec

/-- The constants of the reference. -/
theorem csts (i : S_.Idx) : val_main_cst (F := Ideal) i = ((2 : ℝ) : EReal)
    ∧ val_main_cst_0 (F := Ideal) i = 0
    ∧ val_main_cst_1 (F := Ideal) i = ((1024 : ℝ) : EReal)
    ∧ val_main_cst_2 (F := Ideal) i = ((eps : ℝ) : EReal)
    ∧ val_main_cst_3 (F := Ideal) i = ((-(1 / 2) : ℝ) : EReal)
    ∧ val_main_cst_4 (F := Ideal) i = ((1 : ℝ) : EReal)
    ∧ val_main_cst_5 (F := Ideal) i = 0
    ∧ val_main_cst_6 (F := Ideal) i = ((1024 : ℝ) : EReal)
    ∧ val_main_cst_7 (F := Ideal) i = ((eps : ℝ) : EReal)
    ∧ val_main_cst_8 (F := Ideal) i = ((1 : ℝ) : EReal)
    ∧ val_main_cst_9 (F := Ideal) i = 0
    ∧ val_main_cst_10 (F := Ideal) i = 0
    ∧ val_main_cst_11 (F := Ideal) i = 0
    ∧ val_main_cst_12 (F := Ideal) i = 0
    ∧ val_main_cst_13 (F := Ideal) i = 0
    ∧ val_main_cst_14 (F := Ideal) i = 0
    ∧ val_main_cst_15 (F := Ideal) i = 0
    ∧ val_main_cst_16 (F := Ideal) i = 0
    ∧ val_main_cst_17 (F := Ideal) i = 0
    ∧ val_main_cst_18 (F := Ideal) i = 0
    ∧ val_main_cst_19 (F := Ideal) i = 0
    ∧ val_main_cst_20 (F := Ideal) i = 0
    ∧ val_main_cst_21 (F := Ideal) i = 0
    ∧ val_main_cst_22 (F := Ideal) i = 0
    ∧ val_main_cst_23 (F := Ideal) i = 0
    ∧ val_main_cst_24 (F := Ideal) i = 0
    ∧ val_main_cst_25 (F := Ideal) i = 0
    ∧ val_main_cst_26 (F := Ideal) i = ((1024 : ℝ) : EReal)
    ∧ val_main_cst_27 (F := Ideal) i = 0 :=
  ⟨bits_two, bits_0, bits_1024, bits_eps, bits_neghalf, bits_1, bits_0, bits_1024, bits_eps, bits_1, bits_0, bits_0, bits_0, bits_0, bits_0, bits_0, bits_0, bits_0, bits_0, bits_0, bits_0, bits_0, bits_0, bits_0, bits_0, bits_0, bits_0, bits_1024, bits_0⟩

variable (x0 : (⟨S256x1024, .f32⟩ : BufTy).Contents (Elt Ideal)) (x1 : (⟨S8192x1024, .f32⟩ : BufTy).Contents (Elt Ideal)) (x2 : (⟨S1024, .f32⟩ : BufTy).Contents (Elt Ideal))
  (x3 x4 : (⟨S2x1024, .f32⟩ : BufTy).Contents (Elt Ideal)) (x5 : (⟨S1024x2048, .f32⟩ : BufTy).Contents (Elt Ideal)) (x6 x7 x8 x9 : (⟨S8448x1024, .f32⟩ : BufTy).Contents (Elt Ideal))
  (C X A B Z D : ℕ → Row) (G : Row) (S H : Fin 2 → Row) (W : Lane → Proj)

/-- The arguments are real arrays. -/
structure Args : Prop where
  h0 : ∀ (a : Fin 256) (d : Lane), x0 (ix2 a d) = ((C a.val d : ℝ) : EReal)
  h1 : ∀ (a : Fin 8192) (d : Lane), x1 (ix2 a d) = ((X a.val d : ℝ) : EReal)
  h2 : ∀ d : Lane, x2 (ix1 d) = ((G d : ℝ) : EReal)
  h3 : ∀ (s : Fin 2) (d : Lane), x3 (ix2 s d) = ((S s d : ℝ) : EReal)
  h4 : ∀ (s : Fin 2) (d : Lane), x4 (ix2 s d) = ((H s d : ℝ) : EReal)
  h5 : ∀ (e : Lane) (k : Fin 2048), x5 (ix2 e k) = ((W e k : ℝ) : EReal)
  h6 : ∀ (a : Fin 8448) (d : Lane), x6 (ix2 a d) = ((D a.val d : ℝ) : EReal)
  h7 : ∀ (a : Fin 8448) (d : Lane), x7 (ix2 a d) = ((A a.val d : ℝ) : EReal)
  h8 : ∀ (a : Fin 8448) (d : Lane), x8 (ix2 a d) = ((B a.val d : ℝ) : EReal)
  h9 : ∀ (a : Fin 8448) (d : Lane), x9 (ix2 a d) = ((Z a.val d : ℝ) : EReal)

variable {x0 x1 x2 x3 x4 x5 x6 x7 x8 x9 C X A B Z D G S H W} (hA : Args x0 x1 x2 x3 x4 x5 x6 x7 x8 x9 C X A B Z D G S H W)

include hA

/-- The gradient's row of the projection. -/
abbrev P (A B Z : ℕ → Row) (a : ℕ) : Proj := pr (A a) (B a) (Z a)

theorem v8_at (a : Fin 8192) : val_main_v8 (F := Ideal) x1 (ix2 a 0) = ((ms (X a.val) : ℝ) : EReal) := by
  unfold val_main_v8 val_main_v6 val_main_v4 val_main_v3 val_main_v0 val_main_v5 val_main_v7
  pointwise []
  simp only [hA.h1, csts, coes]
  rfl

theorem v9_at (a : Fin 8192) : val_main_v9 (F := Ideal) x1 (ix2 a 0) = ((rr (X a.val) : ℝ) : EReal) := by
  unfold val_main_v9
  have e0 := v8_at hA
  generalize val_main_v8 (F := Ideal) x1 = y0 at e0 ⊢
  pointwise []
  simp only [e0, csts, coes]
  exact rsqrt_ms _

theorem v12_at (a : Fin 8192) : val_main_v12 (F := Ideal) x1 (ix2 a 0) = ((-(1 / 2) * (rr (X a.val) / ms (X a.val)) : ℝ) : EReal) := by
  unfold val_main_v12 val_main_v11 val_main_v10
  have e0 := v9_at hA
  generalize val_main_v9 (F := Ideal) x1 = y0 at e0 ⊢
  have e1 := v8_at hA
  generalize val_main_v8 (F := Ideal) x1 = y1 at e1 ⊢
  pointwise []
  simp only [e0, e1, div_coe _ _ (ms_pos _).ne', csts, coes]

theorem v14_at (a : Fin 8192) (d : Lane) : val_main_v14 (F := Ideal) x1 (ix2 a d) = ((nn (X a.val) d : ℝ) : EReal) := by
  unfold val_main_v14 val_main_v13
  have e0 := v9_at hA
  generalize val_main_v9 (F := Ideal) x1 = y0 at e0 ⊢
  pointwise []
  simp only [e0, hA.h1, csts, coes]
  rfl

theorem v17_at (a : Fin 8192) (d : Lane) : val_main_v17 (F := Ideal) x1 x2 (ix2 a d) = ((nn (X a.val) d * G d : ℝ) : EReal) := by
  unfold val_main_v17 val_main_v16 val_main_v15
  have e0 := v14_at hA
  generalize val_main_v14 (F := Ideal) x1 = y0 at e0 ⊢
  pointwise []
  simp only [e0, hA.h2, csts, coes]

theorem v22_at (d : Lane) : val_main_v22 (F := Ideal) x3 (ix2 0 d) = ((1 + S 1 d : ℝ) : EReal) := by
  unfold val_main_v22 val_main_v21 val_main_v20 val_main_v19 val_main_v18
  pointwise []
  simp only [hA.h3, csts, coes]

theorem v29_at (a : Fin 8192) (d : Lane) : val_main_v29 (F := Ideal) x1 x2 x3 x4 (ix2 a d) = ((hh (X a.val) G (S 1) (H 1) d : ℝ) : EReal) := by
  unfold val_main_v29 val_main_v24 val_main_v23 val_main_v28 val_main_v27 val_main_v26 val_main_v25
  have e0 := v17_at hA
  generalize val_main_v17 (F := Ideal) x1 x2 = y0 at e0 ⊢
  have e1 := v22_at hA
  generalize val_main_v22 (F := Ideal) x3 = y1 at e1 ⊢
  pointwise []
  simp only [e0, e1, hA.h4, csts, coes]
  rfl

theorem v36_at (a : Fin 256) : val_main_v36 (F := Ideal) x0 (ix2 a 0) = ((ms (C a.val) : ℝ) : EReal) := by
  unfold val_main_v36 val_main_v34 val_main_v32 val_main_v31 val_main_v30 val_main_v33 val_main_v35
  pointwise []
  simp only [hA.h0, csts, coes]
  rfl

theorem v37_at (a : Fin 256) : val_main_v37 (F := Ideal) x0 (ix2 a 0) = ((rr (C a.val) : ℝ) : EReal) := by
  unfold val_main_v37
  have e0 := v36_at hA
  generalize val_main_v36 (F := Ideal) x0 = y0 at e0 ⊢
  pointwise []
  simp only [e0, csts, coes]
  exact rsqrt_ms _

theorem v39_at (a : Fin 256) (d : Lane) : val_main_v39 (F := Ideal) x0 (ix2 a d) = ((nn (C a.val) d : ℝ) : EReal) := by
  unfold val_main_v39 val_main_v38
  have e0 := v37_at hA
  generalize val_main_v37 (F := Ideal) x0 = y0 at e0 ⊢
  pointwise []
  simp only [e0, hA.h0, csts, coes]
  rfl

theorem v42_at (a : Fin 256) (d : Lane) : val_main_v42 (F := Ideal) x0 x2 (ix2 a d) = ((nn (C a.val) d * G d : ℝ) : EReal) := by
  unfold val_main_v42 val_main_v41 val_main_v40
  have e0 := v39_at hA
  generalize val_main_v39 (F := Ideal) x0 = y0 at e0 ⊢
  pointwise []
  simp only [e0, hA.h2, csts, coes]

theorem v47_at (d : Lane) : val_main_v47 (F := Ideal) x3 (ix2 0 d) = ((1 + S 0 d : ℝ) : EReal) := by
  unfold val_main_v47 val_main_v46 val_main_v45 val_main_v44 val_main_v43
  pointwise []
  simp only [hA.h3, csts, coes]

theorem v54_at (a : Fin 256) (d : Lane) : val_main_v54 (F := Ideal) x0 x2 x3 x4 (ix2 a d) = ((hh (C a.val) G (S 0) (H 0) d : ℝ) : EReal) := by
  unfold val_main_v54 val_main_v49 val_main_v48 val_main_v53 val_main_v52 val_main_v51 val_main_v50
  have e0 := v42_at hA
  generalize val_main_v42 (F := Ideal) x0 x2 = y0 at e0 ⊢
  have e1 := v47_at hA
  generalize val_main_v47 (F := Ideal) x3 = y1 at e1 ⊢
  pointwise []
  simp only [e0, e1, hA.h4, csts, coes]
  rfl

theorem v59_at (a : Fin 8448) (k : Fin 2048) : val_main_v59 (F := Ideal) x7 x8 x9 (ix2 a k) = ((P A B Z a.val k : ℝ) : EReal) := by
  unfold val_main_v59 val_main_v58
  pointwise []
  simp only [hA.h7, hA.h8, hA.h9, csts, coes]
  unfold P pr
  split <;> rfl

theorem v61_at (a : Fin 256) (k : Fin 2048) : val_main_v61 (F := Ideal) x7 x8 x9 (ix2 a k) = ((P A B Z a.val k : ℝ) : EReal) := by
  unfold val_main_v61
  have e0 := v59_at hA
  generalize val_main_v59 (F := Ideal) x7 x8 x9 = y0 at e0 ⊢
  pointwise []
  simp only [e0, csts, coes]

theorem v62_at (a : Fin 8192) (k : Fin 2048) : val_main_v62 (F := Ideal) x7 x8 x9 (ix2 a k) = ((P A B Z (256 + a.val) k : ℝ) : EReal) := by
  unfold val_main_v62
  have e0 := v59_at hA
  generalize val_main_v59 (F := Ideal) x7 x8 x9 = y0 at e0 ⊢
  pointwise []
  simp only [e0, csts, coes]

theorem v68_at (e : Lane) (k : Fin 2048) : val_main_v68 (F := Ideal) x0 x1 x2 x3 x4 x7 x8 x9 (ix2 e k) = (((∑ a : Fin 256, hh (C a.val) G (S 0) (H 0) e * P A B Z a.val k) + ∑ a : Fin 8192, hh (X a.val) G (S 1) (H 1) e * P A B Z (256 + a.val) k : ℝ) : EReal) := by
  unfold val_main_v68 val_main_v64 val_main_v63 val_main_v67 val_main_v66
  have e0 := v62_at hA
  generalize val_main_v62 (F := Ideal) x7 x8 x9 = y0 at e0 ⊢
  have e1 := v29_at hA
  generalize val_main_v29 (F := Ideal) x1 x2 x3 x4 = y1 at e1 ⊢
  have e2 := v61_at hA
  generalize val_main_v61 (F := Ideal) x7 x8 x9 = y2 at e2 ⊢
  have e3 := v54_at hA
  generalize val_main_v54 (F := Ideal) x0 x2 x3 x4 = y3 at e3 ⊢
  pointwise []
  simp only [e0, e1, e2, e3, csts, coes]
  refine congrArg (fun z : ℝ => (z : EReal)) ?_
  rw [add_comm]
  exact congrArg₂ (· + ·) (Finset.sum_congr rfl fun _ _ => mul_comm _ _) (Finset.sum_congr rfl fun _ _ => mul_comm _ _)

theorem v65_at (a : Fin 8192) (d : Lane) : val_main_v65 (F := Ideal) x5 x7 x8 x9 (ix2 a d) = ((dh (P A B Z (256 + a.val)) W d : ℝ) : EReal) := by
  unfold val_main_v65
  have e0 := v62_at hA
  generalize val_main_v62 (F := Ideal) x7 x8 x9 = y0 at e0 ⊢
  pointwise []
  simp only [e0, hA.h5, csts, coes]
  rfl

theorem v69_at (a : Fin 256) (d : Lane) : val_main_v69 (F := Ideal) x5 x7 x8 x9 (ix2 a d) = ((dh (P A B Z a.val) W d : ℝ) : EReal) := by
  unfold val_main_v69
  have e0 := v61_at hA
  generalize val_main_v61 (F := Ideal) x7 x8 x9 = y0 at e0 ⊢
  pointwise []
  simp only [e0, hA.h5, csts, coes]
  rfl

theorem v124a_at (d : Lane) : val_main_v124 (F := Ideal) x5 x7 x8 x9 (ix3 0 0 d) = ((∑ a : Fin 256, dh (P A B Z a.val) W d : ℝ) : EReal) := by
  unfold val_main_v124 val_main_v92 val_main_v74 val_main_v73 val_main_v72 val_main_v71 val_main_v70 val_main_v91 val_main_v90 val_main_v89
  unfold val_main_v88 val_main_v87
  have e0 := v65_at hA
  generalize val_main_v65 (F := Ideal) x5 x7 x8 x9 = y0 at e0 ⊢
  have e1 := v69_at hA
  generalize val_main_v69 (F := Ideal) x5 x7 x8 x9 = y1 at e1 ⊢
  pointwise []
  simp only [e0, e1, csts, coes]
  norm_num

theorem v124b_at (d : Lane) : val_main_v124 (F := Ideal) x5 x7 x8 x9 (ix3 1 0 d) = ((∑ a : Fin 8192, dh (P A B Z (256 + a.val)) W d : ℝ) : EReal) := by
  unfold val_main_v124 val_main_v92 val_main_v74 val_main_v73 val_main_v72 val_main_v71 val_main_v70 val_main_v91 val_main_v90 val_main_v89
  unfold val_main_v88 val_main_v87
  have e0 := v65_at hA
  generalize val_main_v65 (F := Ideal) x5 x7 x8 x9 = y0 at e0 ⊢
  have e1 := v69_at hA
  generalize val_main_v69 (F := Ideal) x5 x7 x8 x9 = y1 at e1 ⊢
  pointwise []
  simp only [e0, e1, csts, coes]

theorem v75_at (a : Fin 256) (d : Lane) : val_main_v75 (F := Ideal) x0 x2 x5 x7 x8 x9 (ix2 a d) = ((dh (P A B Z a.val) W d * (nn (C a.val) d * G d) : ℝ) : EReal) := by
  unfold val_main_v75
  have e0 := v42_at hA
  generalize val_main_v42 (F := Ideal) x0 x2 = y0 at e0 ⊢
  have e1 := v69_at hA
  generalize val_main_v69 (F := Ideal) x5 x7 x8 x9 = y1 at e1 ⊢
  pointwise []
  simp only [e0, e1, csts, coes]
  rw [mul_comm]

theorem v93_at (a : Fin 8192) (d : Lane) : val_main_v93 (F := Ideal) x1 x2 x5 x7 x8 x9 (ix2 a d) = ((dh (P A B Z (256 + a.val)) W d * (nn (X a.val) d * G d) : ℝ) : EReal) := by
  unfold val_main_v93
  have e0 := v17_at hA
  generalize val_main_v17 (F := Ideal) x1 x2 = y0 at e0 ⊢
  have e1 := v65_at hA
  generalize val_main_v65 (F := Ideal) x5 x7 x8 x9 = y1 at e1 ⊢
  pointwise []
  simp only [e0, e1, csts, coes]
  rw [mul_comm]

theorem v123a_at (d : Lane) : val_main_v123 (F := Ideal) x0 x1 x2 x5 x7 x8 x9 (ix3 0 0 d) = ((∑ a : Fin 256, dh (P A B Z a.val) W d * (nn (C a.val) d * G d) : ℝ) : EReal) := by
  unfold val_main_v123 val_main_v101 val_main_v82 val_main_v81 val_main_v80 val_main_v77 val_main_v76 val_main_v100 val_main_v99 val_main_v98
  unfold val_main_v95 val_main_v94
  have e0 := v75_at hA
  generalize val_main_v75 (F := Ideal) x0 x2 x5 x7 x8 x9 = y0 at e0 ⊢
  have e1 := v93_at hA
  generalize val_main_v93 (F := Ideal) x1 x2 x5 x7 x8 x9 = y1 at e1 ⊢
  pointwise []
  simp only [e0, e1, csts, coes]
  norm_num

theorem v123b_at (d : Lane) : val_main_v123 (F := Ideal) x0 x1 x2 x5 x7 x8 x9 (ix3 1 0 d) = ((∑ a : Fin 8192, dh (P A B Z (256 + a.val)) W d * (nn (X a.val) d * G d) : ℝ) : EReal) := by
  unfold val_main_v123 val_main_v101 val_main_v82 val_main_v81 val_main_v80 val_main_v77 val_main_v76 val_main_v100 val_main_v99 val_main_v98
  unfold val_main_v95 val_main_v94
  have e0 := v75_at hA
  generalize val_main_v75 (F := Ideal) x0 x2 x5 x7 x8 x9 = y0 at e0 ⊢
  have e1 := v93_at hA
  generalize val_main_v93 (F := Ideal) x1 x2 x5 x7 x8 x9 = y1 at e1 ⊢
  pointwise []
  simp only [e0, e1, csts, coes]

theorem v79_at (a : Fin 256) (d : Lane) : val_main_v79 (F := Ideal) x3 x5 x7 x8 x9 (ix2 a d) = ((dy (P A B Z a.val) W (S 0) d : ℝ) : EReal) := by
  unfold val_main_v79 val_main_v78
  have e0 := v69_at hA
  generalize val_main_v69 (F := Ideal) x5 x7 x8 x9 = y0 at e0 ⊢
  have e1 := v47_at hA
  generalize val_main_v47 (F := Ideal) x3 = y1 at e1 ⊢
  pointwise []
  simp only [e0, e1, csts, coes]
  rfl

theorem v97_at (a : Fin 8192) (d : Lane) : val_main_v97 (F := Ideal) x3 x5 x7 x8 x9 (ix2 a d) = ((dy (P A B Z (256 + a.val)) W (S 1) d : ℝ) : EReal) := by
  unfold val_main_v97 val_main_v96
  have e0 := v65_at hA
  generalize val_main_v65 (F := Ideal) x5 x7 x8 x9 = y0 at e0 ⊢
  have e1 := v22_at hA
  generalize val_main_v22 (F := Ideal) x3 = y1 at e1 ⊢
  pointwise []
  simp only [e0, e1, csts, coes]
  rfl

theorem v122_at (d : Lane) : val_main_v122 (F := Ideal) x0 x1 x3 x5 x7 x8 x9 (ix2 0 d) = (((∑ a : Fin 256, dy (P A B Z a.val) W (S 0) d * nn (C a.val) d) + ∑ a : Fin 8192, dy (P A B Z (256 + a.val)) W (S 1) d * nn (X a.val) d : ℝ) : EReal) := by
  unfold val_main_v122 val_main_v108 val_main_v86 val_main_v85 val_main_v84 val_main_v83 val_main_v107 val_main_v104 val_main_v103 val_main_v102
  have e0 := v39_at hA
  generalize val_main_v39 (F := Ideal) x0 = y0 at e0 ⊢
  have e1 := v79_at hA
  generalize val_main_v79 (F := Ideal) x3 x5 x7 x8 x9 = y1 at e1 ⊢
  have e2 := v14_at hA
  generalize val_main_v14 (F := Ideal) x1 = y2 at e2 ⊢
  have e3 := v97_at hA
  generalize val_main_v97 (F := Ideal) x3 x5 x7 x8 x9 = y3 at e3 ⊢
  pointwise []
  simp only [e0, e1, e2, e3, csts, coes]
  refine congrArg (fun z : ℝ => (z : EReal)) ?_
  exact congrArg₂ (· + ·) (Finset.sum_congr rfl fun _ _ => mul_comm _ _) (Finset.sum_congr rfl fun _ _ => mul_comm _ _)

theorem v106_at (a : Fin 8192) (d : Lane) : val_main_v106 (F := Ideal) x2 x3 x5 x7 x8 x9 (ix2 a d) = ((dn (P A B Z (256 + a.val)) W (S 1) G d : ℝ) : EReal) := by
  unfold val_main_v106 val_main_v105 val_main_v15
  have e0 := v97_at hA
  generalize val_main_v97 (F := Ideal) x3 x5 x7 x8 x9 = y0 at e0 ⊢
  pointwise []
  simp only [e0, hA.h2, csts, coes]
  rfl

theorem v118_at (a : Fin 8192) : val_main_v118 (F := Ideal) x1 x2 x3 x5 x7 x8 x9 (ix1 a) = (((∑ k, X a.val k * dn (P A B Z (256 + a.val)) W (S 1) G k) * (-(1 / 2) * (rr (X a.val) / ms (X a.val))) / 1024 : ℝ) : EReal) := by
  unfold val_main_v118 val_main_v117 val_main_v116 val_main_v115 val_main_v111 val_main_v110 val_main_v109
  have e0 := v106_at hA
  generalize val_main_v106 (F := Ideal) x2 x3 x5 x7 x8 x9 = y0 at e0 ⊢
  have e1 := v12_at hA
  generalize val_main_v12 (F := Ideal) x1 = y1 at e1 ⊢
  pointwise []
  simp only [e0, e1, hA.h1, csts, coes]

theorem v121_at (a : Fin 8192) (d : Lane) : val_main_v121 (F := Ideal) x1 x2 x3 x5 x6 x7 x8 x9 (ix2 a d) = ((D (256 + a.val) d + back (X a.val) (dn (P A B Z (256 + a.val)) W (S 1) G) d : ℝ) : EReal) := by
  unfold val_main_v121 val_main_v114 val_main_v60 val_main_v113 val_main_v112 val_main_v120 val_main_v119 val_main_v2 val_main_v1
  have e0 := v106_at hA
  generalize val_main_v106 (F := Ideal) x2 x3 x5 x7 x8 x9 = y0 at e0 ⊢
  have e1 := v9_at hA
  generalize val_main_v9 (F := Ideal) x1 = y1 at e1 ⊢
  have e2 := v118_at hA
  generalize val_main_v118 (F := Ideal) x1 x2 x3 x5 x7 x8 x9 = y2 at e2 ⊢
  pointwise []
  simp only [e0, e1, e2, hA.h1, hA.h6, csts, coes]
  exact congrArg (fun z : ℝ => (z : EReal)) (by rw [← back_chain]; ring)

end Cert.SsminRef
end
-- ==== Proof.SsminWords.lean ====
module

public import proofs.«01_k».proof.Defs
public import proofs.«01_k».proof.Proof.SsminFrame
public import proofs.«01_k».proof.Proof.Gen.Kernel5Ideal.Frame
public import proofs.«01_k».proof.Proof.Gen.Kernel5

@[expose] public section

/-!
The recurrence layer's norm and input product over words: its program is the ideal form's program, and so its frame is too.
-/

set_option maxRecDepth 16384

noncomputable section

open Idealize.ShloMosaic Idealize.SL.Sem TcCoe

set_option maxHeartbeats 8000000 in
/-- The two programs call the same bodies. -/
theorem Cert.SsminWords.defs_eq : Cert.Kernel5.defs (F := Bits) = Cert.Kernel5Ideal.defs (F := Bits) := by
  have e : Cert.Kernel5.defs₀ (F := Bits) = Cert.Kernel5Ideal.defs₀ (F := Bits) := by
    unfold Cert.Kernel5.defs₀ Cert.Kernel5Ideal.defs₀
    refine congrArg Defs.onTc (funext fun l => funext fun a => ?_)
    match l, a with
    | ⟨0, _⟩, (t, s) => rfl
  exact congrArg (Pipeline.defs (Cert.Kernel5Ideal.pcfgs (F := Bits))) e

/-- The frame over words. -/
theorem Cert.SsminWords.words : Cert.quiescent_Kernel5 := fun m ρ _ => by
  have k := (θ_run_and (Cert.Kernel5Ideal.Gen.frame_of (F := Bits) m ρ (Cert.Ssmin.dats m) (Cert.Ssmin.A_eq m) (Cert.Ssmin.run_post m ρ)) (Cert.Ssmin.run_quiescent m ρ))
  rw [← Cert.SsminWords.defs_eq] at k
  exact (θ_run (Cert.Kernel5.defs (F := Bits)) _ _).mono (fun _ h => And.intro h.1 h.2.2) k
-- ==== Proof.SsminClaim.lean ====
module

public import proofs.«01_k».proof.Defs
public import proofs.«01_k».proof.Proof.SsminArr
public import proofs.«01_k».proof.Proof.SsminRef
public import proofs.«01_k».proof.Proof.SsminWords
public import proofs.«01_k».proof.Proof.Gen.Kernel5Ideal.Frame
public import proofs.«01_k».proof.Proof.Gen.Reference5Ideal.Run
public import proofs.«01_k».proof.Proof.Gen.Pre_finite5
public import Idealize.ShloMosaic.Lib.Claim

@[expose] public section

/-!
The scan input's gradient: the programs' frames and the equality of their results.
-/

set_option maxRecDepth 16384

noncomputable section

open Idealize.ShloMosaic Idealize.SL.Sem TcCoe
namespace Cert.SsminClaim
open Cert.Kernel5Ideal Cert.Reals Cert.LossSpec Cert.SsminSpec

/-- The precondition says that every argument is real. -/
theorem real_of_pre (x0 : FVec Ideal Pre_finite5.S256x1024 .f32) (x1 : FVec Ideal Pre_finite5.S8192x1024 .f32) (x2 : FVec Ideal Pre_finite5.S1024 .f32) (x3 : FVec Ideal Pre_finite5.S2x1024 .f32) (x4 : FVec Ideal Pre_finite5.S2x1024 .f32) (x5 : FVec Ideal Pre_finite5.S1024x2048 .f32) (x6 : FVec Ideal Pre_finite5.S8448x1024 .f32) (x7 : FVec Ideal Pre_finite5.S8448x1024 .f32) (x8 : FVec Ideal Pre_finite5.S8448x1024 .f32) (x9 : FVec Ideal Pre_finite5.S8448x1024 .f32)
    (j : Pre_finite5.S_.Idx) (h : Pre_finite5.fn (F := Ideal) x0 x1 x2 x3 x4 x5 x6 x7 x8 x9 j = 1#1) :
    AllReal x0 ∧ AllReal x1 ∧ AllReal x2 ∧ AllReal x3 ∧ AllReal x4 ∧ AllReal x5 ∧ AllReal x6 ∧ AllReal x7 ∧ AllReal x8 ∧ AllReal x9 := by
  have s : Subsingleton Pre_finite5.S_.Idx := ⟨fun a b => funext fun q => q.elim0⟩
  obtain ⟨g9, q9⟩ := and_one h
  obtain ⟨g8, q8⟩ := and_one g9
  obtain ⟨g7, q7⟩ := and_one g8
  obtain ⟨g6, q6⟩ := and_one g7
  obtain ⟨g5, q5⟩ := and_one g6
  obtain ⟨g4, q4⟩ := and_one g5
  obtain ⟨g3, q3⟩ := and_one g4
  obtain ⟨g2, q2⟩ := and_one g3
  obtain ⟨q0, q1⟩ := and_one g2
  exact ⟨allReal_of_all _ _ _ _ _ _ _ q0, allReal_of_all _ _ _ _ _ _ _ q1, allReal_of_all _ _ _ _ _ _ _ q2, allReal_of_all _ _ _ _ _ _ _ q3, allReal_of_all _ _ _ _ _ _ _ q4, allReal_of_all _ _ _ _ _ _ _ q5, allReal_of_all _ _ _ _ _ _ _ q6, allReal_of_all _ _ _ _ _ _ _ q7, allReal_of_all _ _ _ _ _ _ _ q8, allReal_of_all _ _ _ _ _ _ _ q9⟩

/-- A real matrix of 1024 lanes, its rows numbered by the naturals. -/
theorem rows_of_real {n : ℕ} (hn : 0 < n) (x : FVec Ideal ⟨2, ![n, 1024]⟩ .f32) (h : AllReal x) :
    ∃ X : ℕ → Row, ∀ (a : Fin n) (b : Lane), x (ix2 a b) = ((X a.val b : ℝ) : EReal) := by
  obtain ⟨r, rfl⟩ := h
  refine ⟨fun a b => r (ix2 ⟨a % n, Nat.mod_lt _ hn⟩ b), fun a b => ?_⟩
  exact congrArg (fun z : ℝ => (z : EReal)) (congrArg r (congrArg₂ ix2 (Fin.ext (Nat.mod_eq_of_lt a.isLt).symm) rfl))
theorem matrix_of_real {n k : ℕ} (x : FVec Ideal ⟨2, ![n, k]⟩ .f32) (h : AllReal x) :
    ∃ X : Fin n → Fin k → ℝ, ∀ (a : Fin n) (b : Fin k), x (ix2 a b) = ((X a b : ℝ) : EReal) := by
  obtain ⟨r, rfl⟩ := h
  exact ⟨fun a b => r (ix2 a b), fun a b => rfl⟩
theorem pairs_of_real (x : FVec Ideal ⟨2, ![2, 1024]⟩ .f32) (h : AllReal x) :
    ∃ X : Fin 2 → Row, ∀ (a : Fin 2) (b : Lane), x (ix2 a b) = ((X a b : ℝ) : EReal) := matrix_of_real x h
theorem row_of_real (x : FVec Ideal ⟨1, ![1024]⟩ .f32) (h : AllReal x) : ∃ G : Row, ∀ d : Lane, x (ix1 d) = ((G d : ℝ) : EReal) := by
  obtain ⟨r, rfl⟩ := h
  exact ⟨fun d => r (ix1 d), fun d => rfl⟩
/-- Two arrays that agree at all coordinates are equal. -/
theorem eq_of_pairs {n k : ℕ} {α : Type} (x y : (⟨2, ![n, k]⟩ : Shape).Idx → α) (h : ∀ (a : Fin n) (b : Fin k), x (ix2 a b) = y (ix2 a b)) : x = y := by
  funext i
  obtain ⟨a, b, rfl⟩ : ∃ a b, i = (ix2 a b : (⟨2, ![n, k]⟩ : Shape).Idx) := ⟨i 0, i 1, by funext x; match x with | ⟨0, _⟩ => rfl | ⟨1, _⟩ => rfl⟩
  exact h a b
theorem eq_of_triples {n l k : ℕ} {α : Type} (x y : (⟨3, ![n, l, k]⟩ : Shape).Idx → α) (h : ∀ (a : Fin n) (z : Fin l) (b : Fin k), x (ix3 a z b) = y (ix3 a z b)) : x = y := by
  funext i
  obtain ⟨a, z, b, rfl⟩ : ∃ a z b, i = (ix3 a z b : (⟨3, ![n, l, k]⟩ : Shape).Idx) := ⟨i 0, i 1, i 2, by funext x; match x with | ⟨0, _⟩ => rfl | ⟨1, _⟩ => rfl | ⟨2, _⟩ => rfl⟩
  exact h a z b

/-- The rows of the stream: a context row, a token row, and their segments. -/
theorem rows_ctx (C X : ℕ → Row) (a : Fin 256) : SsminArr.rows C X a.val = C a.val := if_pos a.isLt
theorem rows_tok (C X : ℕ → Row) (a : ℕ) : SsminArr.rows C X (256 + a) = X a := by
  unfold SsminArr.rows
  rw [if_neg (by omega), Nat.add_sub_cancel_left]
theorem seg_ctx (a : Fin 256) : seg a.val = 0 := if_pos a.isLt
theorem seg_tok (a : ℕ) : seg (256 + a) = 1 := if_neg (by omega)

section
variable (x0 : FVec Ideal S256x1024 .f32)
    (x1 : FVec Ideal S8192x1024 .f32)
    (x2 : FVec Ideal S1024 .f32)
    (x3 : FVec Ideal S2x1024 .f32)
    (x4 : FVec Ideal S2x1024 .f32)
    (x5 : FVec Ideal S1024x2048 .f32)
    (x6 : FVec Ideal S8448x1024 .f32)
    (x7 : FVec Ideal S8448x1024 .f32)
    (x8 : FVec Ideal S8448x1024 .f32)
    (x9 : FVec Ideal S8448x1024 .f32)
  (C X A B Z D : ℕ → Row) (G : Row) (S H : Fin 2 → Row) (W : Lane → Proj)
  (hA : SsminRef.Args x0 x1 x2 x3 x4 x5 x6 x7 x8 x9 C X A B Z D G S H W)
include hA

theorem ref10 : (Reference5Ideal.Read.val_main_v121 (F := Ideal) x1 x2 x3 x5 x6 x7 x8 x9 : FVec Ideal S8192x1024 .f32) = (fun i : S8192x1024.Idx => ((SsminArr.fx C X A B Z D G S W (256 + (i 0).val) (i 1) : ℝ) : EReal) : FVec Ideal S8192x1024 .f32) := by
  refine eq_of_pairs _ _ fun a b => ?_
  refine (SsminRef.v121_at hA a b).trans (congrArg (fun z : ℝ => (z : EReal)) ?_)
  show _ = SsminArr.fx C X A B Z D G S W (256 + a.val) b
  simp only [SsminArr.fw, SsminArr.fg, SsminArr.fs, SsminArr.fb, SsminArr.fx, rows_ctx, rows_tok, seg_ctx, seg_tok]

theorem ref11 : (Reference5Ideal.Read.val_main_v68 (F := Ideal) x0 x1 x2 x3 x4 x7 x8 x9 : FVec Ideal S1024x2048 .f32) = (fun i : S1024x2048.Idx => ((∑ a ∈ Finset.range 8448, SsminArr.fw C X A B Z G S H (i 0) (i 1) a : ℝ) : EReal) : FVec Ideal S1024x2048 .f32) := by
  refine eq_of_pairs _ _ fun a b => ?_
  refine (SsminRef.v68_at hA a b).trans (congrArg (fun z : ℝ => (z : EReal)) ?_)
  refine Eq.trans ?_ (sum_all (SsminArr.fw C X A B Z G S H a b)).symm
  simp only [SsminArr.fw, SsminArr.fg, SsminArr.fs, SsminArr.fb, SsminArr.fx, rows_ctx, rows_tok, seg_ctx, seg_tok]

theorem ref12 : (Reference5Ideal.Read.val_main_v122 (F := Ideal) x0 x1 x3 x5 x7 x8 x9 : FVec Ideal S1x1024 .f32) = (fun i : S1x1024.Idx => ((∑ a ∈ Finset.range 8448, SsminArr.fg C X A B Z S W (i 1) a : ℝ) : EReal) : FVec Ideal S1x1024 .f32) := by
  refine eq_of_pairs _ _ fun a b => ?_
  obtain rfl : a = 0 := Subsingleton.elim _ _
  refine (SsminRef.v122_at hA b).trans (congrArg (fun z : ℝ => (z : EReal)) ?_)
  refine Eq.trans ?_ (sum_all (SsminArr.fg C X A B Z S W b)).symm
  simp only [SsminArr.fw, SsminArr.fg, SsminArr.fs, SsminArr.fb, SsminArr.fx, rows_ctx, rows_tok, seg_ctx, seg_tok]

theorem ref13 : (Reference5Ideal.Read.val_main_v123 (F := Ideal) x0 x1 x2 x5 x7 x8 x9 : FVec Ideal S2x1x1024 .f32) = (fun i : S2x1x1024.Idx => ((if (i 0).val = 0 then ∑ r : Fin 256, SsminArr.fs C X A B Z G W (i 2) r.val else ∑ r : Fin 8192, SsminArr.fs C X A B Z G W (i 2) (256 + r.val) : ℝ) : EReal) : FVec Ideal S2x1x1024 .f32) := by
  refine eq_of_triples _ _ fun a z b => ?_
  obtain rfl : z = 0 := Subsingleton.elim _ _
  have k0 := SsminRef.v123a_at hA b
  have k1 := SsminRef.v123b_at hA b
  match a with
  | ⟨0, _⟩ =>
    refine k0.trans (congrArg (fun z : ℝ => (z : EReal)) ?_)
    refine Eq.trans ?_ (if_pos (c := (0 : Fin 2).val = 0) rfl).symm
    simp only [SsminArr.fw, SsminArr.fg, SsminArr.fs, SsminArr.fb, SsminArr.fx, rows_ctx, rows_tok, seg_ctx, seg_tok]
    rfl
  | ⟨1, _⟩ =>
    refine k1.trans (congrArg (fun z : ℝ => (z : EReal)) ?_)
    refine Eq.trans ?_ (if_neg (c := (1 : Fin 2).val = 0) (by norm_num)).symm
    simp only [SsminArr.fw, SsminArr.fg, SsminArr.fs, SsminArr.fb, SsminArr.fx, rows_ctx, rows_tok, seg_ctx, seg_tok]
    rfl

theorem ref14 : (Reference5Ideal.Read.val_main_v124 (F := Ideal) x5 x7 x8 x9 : FVec Ideal S2x1x1024 .f32) = (fun i : S2x1x1024.Idx => ((if (i 0).val = 0 then ∑ r : Fin 256, SsminArr.fb A B Z W (i 2) r.val else ∑ r : Fin 8192, SsminArr.fb A B Z W (i 2) (256 + r.val) : ℝ) : EReal) : FVec Ideal S2x1x1024 .f32) := by
  refine eq_of_triples _ _ fun a z b => ?_
  obtain rfl : z = 0 := Subsingleton.elim _ _
  have k0 := SsminRef.v124a_at hA b
  have k1 := SsminRef.v124b_at hA b
  match a with
  | ⟨0, _⟩ =>
    refine k0.trans (congrArg (fun z : ℝ => (z : EReal)) ?_)
    refine Eq.trans ?_ (if_pos (c := (0 : Fin 2).val = 0) rfl).symm
    simp only [SsminArr.fw, SsminArr.fg, SsminArr.fs, SsminArr.fb, SsminArr.fx, rows_ctx, rows_tok, seg_ctx, seg_tok]
    rfl
  | ⟨1, _⟩ =>
    refine k1.trans (congrArg (fun z : ℝ => (z : EReal)) ?_)
    refine Eq.trans ?_ (if_neg (c := (1 : Fin 2).val = 0) (by norm_num)).symm
    simp only [SsminArr.fw, SsminArr.fg, SsminArr.fs, SsminArr.fb, SsminArr.fx, rows_ctx, rows_tok, seg_ctx, seg_tok]
    rfl

end

/-- Over real arguments the region's arrays are the derivative's results. -/
theorem values (m : (ℓ : Loc nD τ sig) → Buf (Elt Ideal) ℓ) (c : Dev nD)
    (x0 : FVec Ideal S256x1024 .f32)
    (x1 : FVec Ideal S8192x1024 .f32)
    (x2 : FVec Ideal S1024 .f32)
    (x3 : FVec Ideal S2x1024 .f32)
    (x4 : FVec Ideal S2x1024 .f32)
    (x5 : FVec Ideal S1024x2048 .f32)
    (x6 : FVec Ideal S8448x1024 .f32)
    (x7 : FVec Ideal S8448x1024 .f32)
    (x8 : FVec Ideal S8448x1024 .f32)
    (x9 : FVec Ideal S8448x1024 .f32)
    (e0 : m (c.tc.loc main_arg0) = x0) (e1 : m (c.tc.loc main_arg1) = x1) (e2 : m (c.tc.loc main_arg2) = x2) (e3 : m (c.tc.loc main_arg3) = x3) (e4 : m (c.tc.loc main_arg4) = x4) (e5 : m (c.tc.loc main_arg5) = x5) (e6 : m (c.tc.loc main_arg6) = x6) (e7 : m (c.tc.loc main_arg7) = x7) (e8 : m (c.tc.loc main_arg8) = x8) (e9 : m (c.tc.loc main_arg9) = x9)
    (h : AllReal x0 ∧ AllReal x1 ∧ AllReal x2 ∧ AllReal x3 ∧ AllReal x4 ∧ AllReal x5 ∧ AllReal x6 ∧ AllReal x7 ∧ AllReal x8 ∧ AllReal x9) :
    ((Reference5Ideal.Read.val_main_v121 (F := Ideal) x1 x2 x3 x5 x6 x7 x8 x9 : FVec Ideal S8192x1024 .f32) = (Ssmin.dats m 0 c).arrAt 10 cfg0.N)
    ∧ ((Reference5Ideal.Read.val_main_v68 (F := Ideal) x0 x1 x2 x3 x4 x7 x8 x9 : FVec Ideal S1024x2048 .f32) = (Ssmin.dats m 0 c).arrAt 11 cfg0.N)
    ∧ ((Reference5Ideal.Read.val_main_v122 (F := Ideal) x0 x1 x3 x5 x7 x8 x9 : FVec Ideal S1x1024 .f32) = (Ssmin.dats m 0 c).arrAt 12 cfg0.N)
    ∧ ((Reference5Ideal.Read.val_main_v123 (F := Ideal) x0 x1 x2 x5 x7 x8 x9 : FVec Ideal S2x1x1024 .f32) = (Ssmin.dats m 0 c).arrAt 13 cfg0.N)
    ∧ ((Reference5Ideal.Read.val_main_v124 (F := Ideal) x5 x7 x8 x9 : FVec Ideal S2x1x1024 .f32) = (Ssmin.dats m 0 c).arrAt 14 cfg0.N) := by
  obtain ⟨q0, q1, q2, q3, q4, q5, q6, q7, q8, q9⟩ := h
  obtain ⟨C, h0⟩ := rows_of_real (n := 256) (by norm_num) x0 q0
  obtain ⟨X, h1⟩ := rows_of_real (n := 8192) (by norm_num) x1 q1
  obtain ⟨G, h2⟩ := row_of_real x2 q2
  obtain ⟨S, h3⟩ := pairs_of_real x3 q3
  obtain ⟨H, h4⟩ := pairs_of_real x4 q4
  obtain ⟨W, h5⟩ := matrix_of_real x5 q5
  obtain ⟨D, h6⟩ := rows_of_real (n := 8448) (by norm_num) x6 q6
  obtain ⟨A, h7⟩ := rows_of_real (n := 8448) (by norm_num) x7 q7
  obtain ⟨B, h8⟩ := rows_of_real (n := 8448) (by norm_num) x8 q8
  obtain ⟨Z, h9⟩ := rows_of_real (n := 8448) (by norm_num) x9 q9
  have hc : ∀ (a : Fin 256) (d : Lane), (Gen.V m c main_arg0 : FVec Ideal S256x1024 .f32) (ix2 a d) = ((C a.val d : ℝ) : EReal) := by
    rw [Gen.V_main_arg0, e0]; exact h0
  have hx : ∀ (a : Fin 8192) (d : Lane), (Gen.V m c main_arg1 : FVec Ideal S8192x1024 .f32) (ix2 a d) = ((X a.val d : ℝ) : EReal) := by
    rw [Gen.V_main_arg1, e1]; exact h1
  have hd : ∀ (a : Fin 8448) (d : Lane), (Gen.V m c main_arg6 : FVec Ideal S8448x1024 .f32) (ix2 a d) = ((D a.val d : ℝ) : EReal) := by
    rw [Gen.V_main_arg6, e6]; exact h6
  have hp : ∀ (a : Fin 8448) (d : Lane), (Gen.V m c main_arg7 : FVec Ideal S8448x1024 .f32) (ix2 a d) = ((A a.val d : ℝ) : EReal) := by
    rw [Gen.V_main_arg7, e7]; exact h7
  have hq : ∀ (a : Fin 8448) (d : Lane), (Gen.V m c main_arg8 : FVec Ideal S8448x1024 .f32) (ix2 a d) = ((B a.val d : ℝ) : EReal) := by
    rw [Gen.V_main_arg8, e8]; exact h8
  have hz : ∀ (a : Fin 8448) (d : Lane), (Gen.V m c main_arg9 : FVec Ideal S8448x1024 .f32) (ix2 a d) = ((Z a.val d : ℝ) : EReal) := by
    rw [Gen.V_main_arg9, e9]; exact h9
  have hw : ∀ (e : Lane) (k : Fin 2048), (Gen.V m c main_arg5 : FVec Ideal S1024x2048 .f32) (ix2 e k) = ((W e k : ℝ) : EReal) := by
    rw [Gen.V_main_arg5, e5]; exact h5
  have hg : ∀ d : Lane, (Gen.V m c main_v0 : FVec Ideal S1x1024 .f32) (ix2 0 d) = ((G d : ℝ) : EReal) := by
    intro d; rw [SsminArr.V0_at, e2]; exact h2 d
  have hs : ∀ (s : Fin 2) (d : Lane), (Gen.V m c main_v1 : FVec Ideal S2x1x1024 .f32) (ix3 s 0 d) = ((S s d : ℝ) : EReal) := by
    intro s d; rw [SsminArr.V1_at, e3]; exact h3 s d
  have hb : ∀ (s : Fin 2) (d : Lane), (Gen.V m c main_v2 : FVec Ideal S2x1x1024 .f32) (ix3 s 0 d) = ((H s d : ℝ) : EReal) := by
    intro s d; rw [SsminArr.V2_at, e4]; exact h4 s d
  have hA : SsminRef.Args x0 x1 x2 x3 x4 x5 x6 x7 x8 x9 C X A B Z D G S H W := ⟨h0, h1, h2, h3, h4, h5, h6, h7, h8, h9⟩
  exact ⟨(ref10 x0 x1 x2 x3 x4 x5 x6 x7 x8 x9 C X A B Z D G S H W hA).trans (SsminArr.arr10 m c C X A B Z D G S W hc hx hg hs hw hd hp hq hz).symm,
    (ref11 x0 x1 x2 x3 x4 x5 x6 x7 x8 x9 C X A B Z D G S H W hA).trans (SsminArr.arr11 m c C X A B Z G S H hc hx hg hs hb hp hq hz).symm,
    (ref12 x0 x1 x2 x3 x4 x5 x6 x7 x8 x9 C X A B Z D G S H W hA).trans (SsminArr.arr12 m c C X A B Z S W hc hx hs hw hp hq hz).symm,
    (ref13 x0 x1 x2 x3 x4 x5 x6 x7 x8 x9 C X A B Z D G S H W hA).trans (SsminArr.arr13 m c C X A B Z G W hc hx hg hw hp hq hz).symm,
    (ref14 x0 x1 x2 x3 x4 x5 x6 x7 x8 x9 C X A B Z D G S H W hA).trans (SsminArr.arr14 m c A B Z W hw hp hq hz).symm⟩

/-- The run leaves the arrays' values and every argument. -/
theorem run_blocks (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c : Thread nD τ).loc main_v3_0) = (Ssmin.dats m 0 c).arrAt 10 cfg0.N
      ∧ r.2.mem ((c : Thread nD τ).loc main_v3_1) = (Ssmin.dats m 0 c).arrAt 11 cfg0.N
      ∧ r.2.mem ((c : Thread nD τ).loc main_v3_2) = (Ssmin.dats m 0 c).arrAt 12 cfg0.N
      ∧ r.2.mem ((c : Thread nD τ).loc main_v3_3) = (Ssmin.dats m 0 c).arrAt 13 cfg0.N
      ∧ r.2.mem ((c : Thread nD τ).loc main_v3_4) = (Ssmin.dats m 0 c).arrAt 14 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun _ h c => ⟨(h.1 c).1 10, (h.1 c).1 11, (h.1 c).1 12, (h.1 c).1 13, (h.1 c).1 14, h.2 c⟩)
    (θ_run_and (Ssmin.run_post m ρ) (Gen.frame_of m ρ (Ssmin.dats m) (Ssmin.A_eq m) (Ssmin.run_post m ρ)))

/-- The results are the derivative's. -/
theorem algebraic : Cert.algebraic_Kernel5Ideal_Reference5Ideal_pre_finite5 := by
  pair_intro
  · run_from run_blocks m g
  · have key : ∀ c : Dev nD, _ := fun c => values m c _ _ _ _ _ _ _ _ _ _ (hagree c).1.symm (hagree c).2.1.symm (hagree c).2.2.1.symm (hagree c).2.2.2.1.symm (hagree c).2.2.2.2.1.symm (hagree c).2.2.2.2.2.1.symm (hagree c).2.2.2.2.2.2.1.symm (hagree c).2.2.2.2.2.2.2.1.symm (hagree c).2.2.2.2.2.2.2.2.1.symm (hagree c).2.2.2.2.2.2.2.2.2.symm
      (by
        obtain ⟨a0, a1, a2, a3, a4, a5, a6, a7, a8, a9⟩ := hagree c
        rw [a0, a1, a2, a3, a4, a5, a6, a7, a8, a9]
        exact real_of_pre _ _ _ _ _ _ _ _ _ _ (fun a => a.elim0) (congrFun (hpre c) _))
    refine (θ_run _ _ _).mono (fun r h c => ⟨((h c).1.trans (Reference5Ideal.Read.val_main_v121_eq (F := Ideal) _ _ _ _ _ _ _ _)).trans (key c).1,
      ((h c).2.1.trans (Reference5Ideal.Read.val_main_v68_eq (F := Ideal) _ _ _ _ _ _ _ _)).trans (key c).2.1,
      ((h c).2.2.1.trans (Reference5Ideal.Read.val_main_v122_eq (F := Ideal) _ _ _ _ _ _ _)).trans (key c).2.2.1,
      ((h c).2.2.2.1.trans (Reference5Ideal.Read.val_main_v123_eq (F := Ideal) _ _ _ _ _ _ _)).trans (key c).2.2.2.1,
      ((h c).2.2.2.2.1.trans (Reference5Ideal.Read.val_main_v124_eq (F := Ideal) _ _ _ _)).trans (key c).2.2.2.2,
      (h c).2.2.2.2.2⟩) (Reference5Ideal.Value.run m' g')

/-- The frames of the pair. -/
theorem frames : Cert.quiescent_Kernel5 ∧ Cert.quiescent_Kernel5Ideal ∧ Cert.quiescent_Kernel5Ideal_pre_finite5
    ∧ Cert.quiescent_Reference5Ideal ∧ Cert.quiescent_Reference5Ideal_pre_finite5 := by
  refine ⟨Cert.SsminWords.words, fun m ρ _ => ?_, fun m ρ _ => ?_, fun m ρ _ => ?_, fun m ρ _ => ?_⟩
  · exact (θ_run defs _ _).mono (fun _ h => ⟨h.1, h.2.2⟩)
      (θ_run_and (Gen.frame_of m ρ (Ssmin.dats m) (Ssmin.A_eq m) (Ssmin.run_post m ρ)) (Ssmin.run_quiescent m ρ))
  · exact (θ_run defs _ _).mono (fun _ h => ⟨h.1, h.2.2⟩)
      (θ_run_and (Gen.frame_of m ρ (Ssmin.dats m) (Ssmin.A_eq m) (Ssmin.run_post m ρ)) (Ssmin.run_quiescent m ρ))
  · refine (θ_run _ _ _).mono (fun r h => ⟨fun c => (h c).2.2.2.2.2, sem_eq_zero_of_no_sems rfl _⟩) (Reference5Ideal.Value.run m ρ)
  · refine (θ_run _ _ _).mono (fun r h => ⟨fun c => (h c).2.2.2.2.2, sem_eq_zero_of_no_sems rfl _⟩) (Reference5Ideal.Value.run m ρ)

end Cert.SsminClaim
end
-- ==== Proof.PostRun.lean ====
module

public import proofs.«01_k».proof.Proof.Gen.Kernel3Ideal.Frame
public import proofs.«01_k».proof.Proof.Gen.Kernel3Ideal.Skeleton
public import Idealize.ShloMosaic.Lib.Pipeline.ValueKit
public import proofs.«01_k».proof.Proof.Stage
@[expose] public section

/-!
Each case of the body runs to the end and leaves these contents in the staging buffers.
-/

set_option maxRecDepth 16384

noncomputable section

namespace Cert.Post
open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F] [Named F]

local notation "𝕄" => MT nD τ sig Unit (Elt F) ℕ (UR sig nD τ) ℕ

abbrev cond0 (i : grid0.Coords) : Prop := (Scalar.cmpi .ne (Scalar.extui (Scalar.cmpi .eq (BitVec.ofNat 32 (i 0).val) 0#32)) 0#32) = 1#1
theorem hcond0 : ∀ t : Fin cfg0.N, cond0 (grid0.coords t) ↔ t.val < 1 :=
  (by decide +kernel : ∀ t : Fin grid0.N, cond0 (grid0.coords t) ↔ t.val < 1)

abbrev cond1 (i : grid0.Coords) : Prop := (Scalar.cmpi .ne (Scalar.extui (Scalar.cmpi .sle (BitVec.ofNat 32 (i 0).val) 1#32)) 0#32) = 1#1
theorem hcond1 : ∀ t : Fin cfg0.N, cond1 (grid0.coords t) ↔ t.val < 2 :=
  (by decide +kernel : ∀ t : Fin grid0.N, cond1 (grid0.coords t) ↔ t.val < 2)

section
variable (c : Dev nD) (i : grid0.Coords) (a1 : Memref sig .tc .vmem S256x1024 .f32) (u1 : a1.IsWhole) (a2 : Memref sig .tc .vmem S256x1024 .f32) (u2 : a2.IsWhole) (a3 : Memref sig .tc .vmem S256x1024 .f32) (u3 : a3.IsWhole) (a4 : Memref sig .tc .vmem S256x1024 .f32) (u4 : a4.IsWhole) (a5 : Memref sig .tc .vmem S1x1x1024 .f32) (u5 : a5.IsWhole) (a6 : Memref sig .tc .vmem S1024x1024 .f32) (u6 : a6.IsWhole) (a7 : Memref sig .tc .vmem S1x1024 .f32) (u7 : a7.IsWhole) (a8 : Memref sig .tc .vmem S1024x1024 .f32) (u8 : a8.IsWhole) (a9 : Memref sig .tc .vmem S256x1024 .f32) (u9 : a9.IsWhole) (a10 : Memref sig .tc .vmem S256x1024 .f32) (u10 : a10.IsWhole) (a11 : Memref sig .tc .vmem S1x1x1024 .f32) (u11 : a11.IsWhole) (a12 : Memref sig .tc .vmem S1024x1024 .f32) (u12 : a12.IsWhole) (a13 : Memref sig .tc .vmem S1024x1024 .f32) (u13 : a13.IsWhole) (a14 : Memref sig .tc .vmem S1x1024 .f32) (u14 : a14.IsWhole)
  (x0 : Vec F S256x1024 .f32) (x1 : Vec F S256x1024 .f32) (x2 : Vec F S256x1024 .f32) (x3 : Vec F S256x1024 .f32) (x4 : Vec F S1x1x1024 .f32) (x5 : Vec F S1024x1024 .f32) (x6 : Vec F S1x1024 .f32) (x7 : Vec F S1024x1024 .f32)

set_option maxHeartbeats 4000000 in
/-- The first point. -/
theorem run_A (hc0 : cond0 i) (hc1 : cond1 i) (E : Set ℕ) (K : PUnit → sProp 𝕄) :
    iprop(owns c.tc a1 fullShare x0 ∗ owns c.tc a2 fullShare x1 ∗ owns c.tc a3 fullShare x2 ∗ owns c.tc a4 fullShare x3 ∗ owns c.tc a5 fullShare x4 ∗ owns c.tc a6 fullShare x5 ∗ owns c.tc a7 fullShare x6 ∗ owns c.tc a8 fullShare x7 ∗ (∃ d, owns c.tc a9 fullShare d) ∗ (∃ d, owns c.tc a10 fullShare d) ∗ (∃ d, owns c.tc a11 fullShare d) ∗ (∃ d, owns c.tc a12 fullShare d) ∗ (∃ d, owns c.tc a13 fullShare d) ∗ (∃ d, owns c.tc a14 fullShare d) ∗ (iprop(owns c.tc a1 fullShare x0 ∗ owns c.tc a2 fullShare x1 ∗ owns c.tc a3 fullShare x2 ∗ owns c.tc a4 fullShare x3 ∗ owns c.tc a5 fullShare x4 ∗ owns c.tc a6 fullShare x5 ∗ owns c.tc a7 fullShare x6 ∗ owns c.tc a8 fullShare x7 ∗ owns c.tc a9 fullShare (k0_pay23 (k0_pay5 x1 x2) (k0_pay6 x1 x2) (k0_pay7 x1 x2) (k0_pay8 x1 x2 x5 x6) (k0_pay18 (k0_pay11 x3) x0 x4 x7) x5) ∗ owns c.tc a10 fullShare (k0_pay19 x3 (k0_pay9 x1 x2 x5 x6) (k0_pay10 x3) x0 x4 x7) ∗ owns c.tc a11 fullShare (k0_pay14 (k0_pay13 x1 x2 x3 x5 x6 x7) x0 (k0_pay4 (F := F))) ∗ owns c.tc a12 fullShare (k0_pay17 (k0_pay12 x1 x2 x3 x5 x6) x0 x4 (k0_pay1 (F := F))) ∗ owns c.tc a13 fullShare (k0_pay21 (k0_pay7 x1 x2) (k0_pay8 x1 x2 x5 x6) (k0_pay18 (k0_pay11 x3) x0 x4 x7) (k0_pay2 (F := F))) ∗ owns c.tc a14 fullShare (k0_pay22 (k0_pay7 x1 x2) (k0_pay8 x1 x2 x5 x6) (k0_pay18 (k0_pay11 x3) x0 x4 x7) (k0_pay3 (F := F)))) -∗ K ⟨⟩))
      ⊢ wp frame (wpE (defs₀ (F := F)) Variants.none c none) E (cc0_ssm_post_bwd i a1 u1 a2 u2 a3 u3 a4 u4 a5 u5 a6 u6 a7 u7 a8 u8 a9 u9 a10 u10 a11 u11 a12 u12 a13 u13 a14 u14) K := by
  simp only [cc0_ssm_post_bwd_eq_skeleton]; unfold cc0_ssm_post_bwd_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, Hk⟩
  obtain rfl := u1.eq_unread hf0
  obtain rfl := u2.eq_unread hf1
  obtain rfl := u3.eq_unread hf2
  obtain rfl := u4.eq_unread hf3
  obtain rfl := u5.eq_unread hf4
  obtain rfl := u6.eq_unread hf5
  obtain rfl := u7.eq_unread hf6
  obtain rfl := u8.eq_unread hf7
  sl_exec (disch := first | sl_exact hc0 | sl_exact hc1)
  sl_step
  iapply Hk
  isplitl [H0]; · iapply (Stage.kept c.tc u1 _); iexact H0
  isplitl [H1]; · iapply (Stage.kept c.tc u2 _); iexact H1
  isplitl [H2]; · iapply (Stage.kept c.tc u3 _); iexact H2
  isplitl [H3]; · iapply (Stage.kept c.tc u4 _); iexact H3
  isplitl [H4]; · iapply (Stage.kept c.tc u5 _); iexact H4
  isplitl [H5]; · iapply (Stage.kept c.tc u6 _); iexact H5
  isplitl [H6]; · iapply (Stage.kept c.tc u7 _); iexact H6
  isplitl [H7]; · iapply (Stage.kept c.tc u8 _); iexact H7
  isplitl [H8]
  · iexists _; isplitr
    swap; · iexact H8
    ipureintro; refine (Stage.read_full _ _ _ _ _ ?_).trans ?_
    · decide
    frame_out
  isplitl [H9]
  · iexists _; isplitr
    swap; · iexact H9
    ipureintro; refine (Stage.read_full _ _ _ _ _ ?_).trans ?_
    · decide
    frame_out
  isplitl [H10]
  · iexists _; isplitr
    swap; · iexact H10
    ipureintro; refine (Stage.read_full _ _ _ _ _ ?_).trans ?_
    · decide
    frame_out
  isplitl [H11]
  · iexists _; isplitr
    swap; · iexact H11
    ipureintro; refine (Stage.read_full _ _ _ _ _ ?_).trans ?_
    · decide
    frame_out
  isplitl [H12]
  · iexists _; isplitr
    swap; · iexact H12
    ipureintro; refine (Stage.read_full _ _ _ _ _ ?_).trans ?_
    · decide
    frame_out
  iexists _; isplitr
  swap; · iexact H13
  ipureintro; refine (Stage.read_full _ _ _ _ _ ?_).trans ?_
  · decide
  frame_out

set_option maxHeartbeats 4000000 in
/-- The first point of the second segment. -/
theorem run_B (hc0 : ¬cond0 i) (hc1 : cond1 i) (xo11 : Vec F S1024x1024 .f32) (xo12 : Vec F S1024x1024 .f32) (xo13 : Vec F S1x1024 .f32) (E : Set ℕ) (K : PUnit → sProp 𝕄) :
    iprop(owns c.tc a1 fullShare x0 ∗ owns c.tc a2 fullShare x1 ∗ owns c.tc a3 fullShare x2 ∗ owns c.tc a4 fullShare x3 ∗ owns c.tc a5 fullShare x4 ∗ owns c.tc a6 fullShare x5 ∗ owns c.tc a7 fullShare x6 ∗ owns c.tc a8 fullShare x7 ∗ (∃ d, owns c.tc a9 fullShare d) ∗ (∃ d, owns c.tc a10 fullShare d) ∗ (∃ d, owns c.tc a11 fullShare d) ∗ owns c.tc a12 fullShare xo11 ∗ owns c.tc a13 fullShare xo12 ∗ owns c.tc a14 fullShare xo13 ∗ (iprop(owns c.tc a1 fullShare x0 ∗ owns c.tc a2 fullShare x1 ∗ owns c.tc a3 fullShare x2 ∗ owns c.tc a4 fullShare x3 ∗ owns c.tc a5 fullShare x4 ∗ owns c.tc a6 fullShare x5 ∗ owns c.tc a7 fullShare x6 ∗ owns c.tc a8 fullShare x7 ∗ owns c.tc a9 fullShare (k0_pay23 (k0_pay5 x1 x2) (k0_pay6 x1 x2) (k0_pay7 x1 x2) (k0_pay8 x1 x2 x5 x6) (k0_pay18 (k0_pay11 x3) x0 x4 x7) x5) ∗ owns c.tc a10 fullShare (k0_pay19 x3 (k0_pay9 x1 x2 x5 x6) (k0_pay10 x3) x0 x4 x7) ∗ owns c.tc a11 fullShare (k0_pay14 (k0_pay13 x1 x2 x3 x5 x6 x7) x0 (k0_pay4 (F := F))) ∗ owns c.tc a12 fullShare (k0_pay17 (k0_pay12 x1 x2 x3 x5 x6) x0 x4 xo11) ∗ owns c.tc a13 fullShare (k0_pay21 (k0_pay7 x1 x2) (k0_pay8 x1 x2 x5 x6) (k0_pay18 (k0_pay11 x3) x0 x4 x7) xo12) ∗ owns c.tc a14 fullShare (k0_pay22 (k0_pay7 x1 x2) (k0_pay8 x1 x2 x5 x6) (k0_pay18 (k0_pay11 x3) x0 x4 x7) xo13)) -∗ K ⟨⟩))
      ⊢ wp frame (wpE (defs₀ (F := F)) Variants.none c none) E (cc0_ssm_post_bwd i a1 u1 a2 u2 a3 u3 a4 u4 a5 u5 a6 u6 a7 u7 a8 u8 a9 u9 a10 u10 a11 u11 a12 u12 a13 u13 a14 u14) K := by
  simp only [cc0_ssm_post_bwd_eq_skeleton]; unfold cc0_ssm_post_bwd_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%f11, %hf11, H11⟩, ⟨%f12, %hf12, H12⟩, ⟨%f13, %hf13, H13⟩, Hk⟩
  obtain rfl := u1.eq_unread hf0
  obtain rfl := u2.eq_unread hf1
  obtain rfl := u3.eq_unread hf2
  obtain rfl := u4.eq_unread hf3
  obtain rfl := u5.eq_unread hf4
  obtain rfl := u6.eq_unread hf5
  obtain rfl := u7.eq_unread hf6
  obtain rfl := u8.eq_unread hf7
  obtain rfl := u12.eq_unread hf11
  obtain rfl := u13.eq_unread hf12
  obtain rfl := u14.eq_unread hf13
  sl_exec (disch := first | sl_exact hc0 | sl_exact hc1)
  sl_step
  iapply Hk
  isplitl [H0]; · iapply (Stage.kept c.tc u1 _); iexact H0
  isplitl [H1]; · iapply (Stage.kept c.tc u2 _); iexact H1
  isplitl [H2]; · iapply (Stage.kept c.tc u3 _); iexact H2
  isplitl [H3]; · iapply (Stage.kept c.tc u4 _); iexact H3
  isplitl [H4]; · iapply (Stage.kept c.tc u5 _); iexact H4
  isplitl [H5]; · iapply (Stage.kept c.tc u6 _); iexact H5
  isplitl [H6]; · iapply (Stage.kept c.tc u7 _); iexact H6
  isplitl [H7]; · iapply (Stage.kept c.tc u8 _); iexact H7
  isplitl [H8]
  · iexists _; isplitr
    swap; · iexact H8
    ipureintro; refine (Stage.read_full _ _ _ _ _ ?_).trans ?_
    · decide
    frame_out
  isplitl [H9]
  · iexists _; isplitr
    swap; · iexact H9
    ipureintro; refine (Stage.read_full _ _ _ _ _ ?_).trans ?_
    · decide
    frame_out
  isplitl [H10]
  · iexists _; isplitr
    swap; · iexact H10
    ipureintro; refine (Stage.read_full _ _ _ _ _ ?_).trans ?_
    · decide
    frame_out
  isplitl [H11]
  · iexists _; isplitr
    swap; · iexact H11
    ipureintro; refine (Stage.read_full _ _ _ _ _ ?_).trans ?_
    · decide
    frame_out
  isplitl [H12]
  · iexists _; isplitr
    swap; · iexact H12
    ipureintro; refine (Stage.read_full _ _ _ _ _ ?_).trans ?_
    · decide
    frame_out
  iexists _; isplitr
  swap; · iexact H13
  ipureintro; refine (Stage.read_full _ _ _ _ _ ?_).trans ?_
  · decide
  frame_out

set_option maxHeartbeats 4000000 in
/-- Every later point. -/
theorem run_C (hc0 : ¬cond0 i) (hc1 : ¬cond1 i) (xo10 : Vec F S1x1x1024 .f32) (xo11 : Vec F S1024x1024 .f32) (xo12 : Vec F S1024x1024 .f32) (xo13 : Vec F S1x1024 .f32) (E : Set ℕ) (K : PUnit → sProp 𝕄) :
    iprop(owns c.tc a1 fullShare x0 ∗ owns c.tc a2 fullShare x1 ∗ owns c.tc a3 fullShare x2 ∗ owns c.tc a4 fullShare x3 ∗ owns c.tc a5 fullShare x4 ∗ owns c.tc a6 fullShare x5 ∗ owns c.tc a7 fullShare x6 ∗ owns c.tc a8 fullShare x7 ∗ (∃ d, owns c.tc a9 fullShare d) ∗ (∃ d, owns c.tc a10 fullShare d) ∗ owns c.tc a11 fullShare xo10 ∗ owns c.tc a12 fullShare xo11 ∗ owns c.tc a13 fullShare xo12 ∗ owns c.tc a14 fullShare xo13 ∗ (iprop(owns c.tc a1 fullShare x0 ∗ owns c.tc a2 fullShare x1 ∗ owns c.tc a3 fullShare x2 ∗ owns c.tc a4 fullShare x3 ∗ owns c.tc a5 fullShare x4 ∗ owns c.tc a6 fullShare x5 ∗ owns c.tc a7 fullShare x6 ∗ owns c.tc a8 fullShare x7 ∗ owns c.tc a9 fullShare (k0_pay23 (k0_pay5 x1 x2) (k0_pay6 x1 x2) (k0_pay7 x1 x2) (k0_pay8 x1 x2 x5 x6) (k0_pay18 (k0_pay11 x3) x0 x4 x7) x5) ∗ owns c.tc a10 fullShare (k0_pay19 x3 (k0_pay9 x1 x2 x5 x6) (k0_pay10 x3) x0 x4 x7) ∗ owns c.tc a11 fullShare (k0_pay14 (k0_pay13 x1 x2 x3 x5 x6 x7) x0 xo10) ∗ owns c.tc a12 fullShare (k0_pay17 (k0_pay12 x1 x2 x3 x5 x6) x0 x4 xo11) ∗ owns c.tc a13 fullShare (k0_pay21 (k0_pay7 x1 x2) (k0_pay8 x1 x2 x5 x6) (k0_pay18 (k0_pay11 x3) x0 x4 x7) xo12) ∗ owns c.tc a14 fullShare (k0_pay22 (k0_pay7 x1 x2) (k0_pay8 x1 x2 x5 x6) (k0_pay18 (k0_pay11 x3) x0 x4 x7) xo13)) -∗ K ⟨⟩))
      ⊢ wp frame (wpE (defs₀ (F := F)) Variants.none c none) E (cc0_ssm_post_bwd i a1 u1 a2 u2 a3 u3 a4 u4 a5 u5 a6 u6 a7 u7 a8 u8 a9 u9 a10 u10 a11 u11 a12 u12 a13 u13 a14 u14) K := by
  simp only [cc0_ssm_post_bwd_eq_skeleton]; unfold cc0_ssm_post_bwd_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%f10, %hf10, H10⟩, ⟨%f11, %hf11, H11⟩, ⟨%f12, %hf12, H12⟩, ⟨%f13, %hf13, H13⟩, Hk⟩
  obtain rfl := u1.eq_unread hf0
  obtain rfl := u2.eq_unread hf1
  obtain rfl := u3.eq_unread hf2
  obtain rfl := u4.eq_unread hf3
  obtain rfl := u5.eq_unread hf4
  obtain rfl := u6.eq_unread hf5
  obtain rfl := u7.eq_unread hf6
  obtain rfl := u8.eq_unread hf7
  obtain rfl := u11.eq_unread hf10
  obtain rfl := u12.eq_unread hf11
  obtain rfl := u13.eq_unread hf12
  obtain rfl := u14.eq_unread hf13
  sl_exec (disch := first | sl_exact hc0 | sl_exact hc1)
  sl_step
  iapply Hk
  isplitl [H0]; · iapply (Stage.kept c.tc u1 _); iexact H0
  isplitl [H1]; · iapply (Stage.kept c.tc u2 _); iexact H1
  isplitl [H2]; · iapply (Stage.kept c.tc u3 _); iexact H2
  isplitl [H3]; · iapply (Stage.kept c.tc u4 _); iexact H3
  isplitl [H4]; · iapply (Stage.kept c.tc u5 _); iexact H4
  isplitl [H5]; · iapply (Stage.kept c.tc u6 _); iexact H5
  isplitl [H6]; · iapply (Stage.kept c.tc u7 _); iexact H6
  isplitl [H7]; · iapply (Stage.kept c.tc u8 _); iexact H7
  isplitl [H8]
  · iexists _; isplitr
    swap; · iexact H8
    ipureintro; refine (Stage.read_full _ _ _ _ _ ?_).trans ?_
    · decide
    frame_out
  isplitl [H9]
  · iexists _; isplitr
    swap; · iexact H9
    ipureintro; refine (Stage.read_full _ _ _ _ _ ?_).trans ?_
    · decide
    frame_out
  isplitl [H10]
  · iexists _; isplitr
    swap; · iexact H10
    ipureintro; refine (Stage.read_full _ _ _ _ _ ?_).trans ?_
    · decide
    frame_out
  isplitl [H11]
  · iexists _; isplitr
    swap; · iexact H11
    ipureintro; refine (Stage.read_full _ _ _ _ _ ?_).trans ?_
    · decide
    frame_out
  isplitl [H12]
  · iexists _; isplitr
    swap; · iexact H12
    ipureintro; refine (Stage.read_full _ _ _ _ _ ?_).trans ?_
    · decide
    frame_out
  iexists _; isplitr
  swap; · iexact H13
  ipureintro; refine (Stage.read_full _ _ _ _ _ ?_).trans ?_
  · decide
  frame_out

end

end Cert.Post

end
-- ==== Proof.PostFrame.lean ====
module

public import proofs.«01_k».proof.Proof.Gen.Kernel3Ideal.Frame
public import proofs.«01_k».proof.Proof.Gen.Kernel3Ideal.Skeleton
public import Idealize.ShloMosaic.Lib.Pipeline.ValueKit
public import proofs.«01_k».proof.Proof.PostRun
public import proofs.«01_k».proof.Proof.Accum
@[expose] public section

/-!
The proof data with the exact contents at every point, the body at every point, and the launch.
-/

set_option maxRecDepth 16384

noncomputable section

namespace Cert.Post
open Cert.Accum
open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

abbrev m0 (t : Fin cfg0.N) := (cfg0.win 0).stage (cfg0.slots t 0)
abbrev m1 (t : Fin cfg0.N) := (cfg0.win 1).stage (cfg0.slots t 1)
abbrev m2 (t : Fin cfg0.N) := (cfg0.win 2).stage (cfg0.slots t 2)
abbrev m3 (t : Fin cfg0.N) := (cfg0.win 3).stage (cfg0.slots t 3)
abbrev m4 (t : Fin cfg0.N) := (cfg0.win 4).stage (cfg0.slots t 4)
abbrev m5 (t : Fin cfg0.N) := (cfg0.win 5).stage (cfg0.slots t 5)
abbrev m6 (t : Fin cfg0.N) := (cfg0.win 6).stage (cfg0.slots t 6)
abbrev m7 (t : Fin cfg0.N) := (cfg0.win 7).stage (cfg0.slots t 7)
abbrev m8 (t : Fin cfg0.N) := (cfg0.win 8).stage (cfg0.slots t 8)
abbrev m9 (t : Fin cfg0.N) := (cfg0.win 9).stage (cfg0.slots t 9)
abbrev m10 (t : Fin cfg0.N) := (cfg0.win 10).stage (cfg0.slots t 10)
abbrev m11 (t : Fin cfg0.N) := (cfg0.win 11).stage (cfg0.slots t 11)
abbrev m12 (t : Fin cfg0.N) := (cfg0.win 12).stage (cfg0.slots t 12)
abbrev m13 (t : Fin cfg0.N) := (cfg0.win 13).stage (cfg0.slots t 13)
/-- The block of input 0 at a point. -/
abbrev b0 (c : Dev nD) (t : Fin cfg0.N) : Vec F S256x1024 .f32 := iblk m c 0 t
/-- The block of input 1 at a point. -/
abbrev b1 (c : Dev nD) (t : Fin cfg0.N) : Vec F S256x1024 .f32 := iblk m c 1 t
/-- The block of input 2 at a point. -/
abbrev b2 (c : Dev nD) (t : Fin cfg0.N) : Vec F S256x1024 .f32 := iblk m c 2 t
/-- The block of input 3 at a point. -/
abbrev b3 (c : Dev nD) (t : Fin cfg0.N) : Vec F S256x1024 .f32 := iblk m c 3 t
/-- The block of input 4 at a point. -/
abbrev b4 (c : Dev nD) (t : Fin cfg0.N) : Vec F S1x1x1024 .f32 := iblk m c 4 t
/-- The block of input 5 at a point. -/
abbrev b5 (c : Dev nD) (t : Fin cfg0.N) : Vec F S1024x1024 .f32 := iblk m c 5 t
/-- The block of input 6 at a point. -/
abbrev b6 (c : Dev nD) (t : Fin cfg0.N) : Vec F S1x1024 .f32 := iblk m c 6 t
/-- The block of input 7 at a point. -/
abbrev b7 (c : Dev nD) (t : Fin cfg0.N) : Vec F S1024x1024 .f32 := iblk m c 7 t

/-- What the body leaves in output 8 at a point. -/
def o8 (c : Dev nD) (t : Fin cfg0.N) : Vec F S256x1024 .f32 := k0_pay23 (k0_pay5 (b1 m c t) (b2 m c t)) (k0_pay6 (b1 m c t) (b2 m c t)) (k0_pay7 (b1 m c t) (b2 m c t)) (k0_pay8 (b1 m c t) (b2 m c t) (b5 m c t) (b6 m c t)) (k0_pay18 (k0_pay11 (b3 m c t)) (b0 m c t) (b4 m c t) (b7 m c t)) (b5 m c t)
/-- What the body leaves in output 9 at a point. -/
def o9 (c : Dev nD) (t : Fin cfg0.N) : Vec F S256x1024 .f32 := k0_pay19 (b3 m c t) (k0_pay9 (b1 m c t) (b2 m c t) (b5 m c t) (b6 m c t)) (k0_pay10 (b3 m c t)) (b0 m c t) (b4 m c t) (b7 m c t)
/-- One more point over what output 10 held. -/
def s10 (c : Dev nD) (t : Fin cfg0.N) (p : Vec F S1x1x1024 .f32) : Vec F S1x1x1024 .f32 := k0_pay14 (k0_pay13 (b1 m c t) (b2 m c t) (b3 m c t) (b5 m c t) (b6 m c t) (b7 m c t)) (b0 m c t) p
/-- What output 10 holds after the point. -/
def o10 (c : Dev nD) : (n : ℕ) → n < cfg0.N → Vec F S1x1x1024 .f32 := held (s10 m c) (k0_pay4 (F := F)) 2
theorem o10_first (c : Dev nD) (t : Fin cfg0.N) (h : t.val < 2) : o10 m c t.val t.isLt = s10 m c t (k0_pay4 (F := F)) := held_first _ _ _ t h
theorem o10_next (c : Dev nD) (t : Fin cfg0.N) (h : ¬t.val < 2) :
    o10 m c t.val t.isLt = s10 m c t (o10 m c (t.val - 1) (Nat.lt_of_le_of_lt (Nat.sub_le _ _) t.isLt)) := held_next _ _ _ (by decide) t h
/-- One more point over what output 11 held. -/
def s11 (c : Dev nD) (t : Fin cfg0.N) (p : Vec F S1024x1024 .f32) : Vec F S1024x1024 .f32 := k0_pay17 (k0_pay12 (b1 m c t) (b2 m c t) (b3 m c t) (b5 m c t) (b6 m c t)) (b0 m c t) (b4 m c t) p
/-- What output 11 holds after the point. -/
def o11 (c : Dev nD) : (n : ℕ) → n < cfg0.N → Vec F S1024x1024 .f32 := held (s11 m c) (k0_pay1 (F := F)) 1
theorem o11_first (c : Dev nD) (t : Fin cfg0.N) (h : t.val < 1) : o11 m c t.val t.isLt = s11 m c t (k0_pay1 (F := F)) := held_first _ _ _ t h
theorem o11_next (c : Dev nD) (t : Fin cfg0.N) (h : ¬t.val < 1) :
    o11 m c t.val t.isLt = s11 m c t (o11 m c (t.val - 1) (Nat.lt_of_le_of_lt (Nat.sub_le _ _) t.isLt)) := held_next _ _ _ (by decide) t h
/-- One more point over what output 12 held. -/
def s12 (c : Dev nD) (t : Fin cfg0.N) (p : Vec F S1024x1024 .f32) : Vec F S1024x1024 .f32 := k0_pay21 (k0_pay7 (b1 m c t) (b2 m c t)) (k0_pay8 (b1 m c t) (b2 m c t) (b5 m c t) (b6 m c t)) (k0_pay18 (k0_pay11 (b3 m c t)) (b0 m c t) (b4 m c t) (b7 m c t)) p
/-- What output 12 holds after the point. -/
def o12 (c : Dev nD) : (n : ℕ) → n < cfg0.N → Vec F S1024x1024 .f32 := held (s12 m c) (k0_pay2 (F := F)) 1
theorem o12_first (c : Dev nD) (t : Fin cfg0.N) (h : t.val < 1) : o12 m c t.val t.isLt = s12 m c t (k0_pay2 (F := F)) := held_first _ _ _ t h
theorem o12_next (c : Dev nD) (t : Fin cfg0.N) (h : ¬t.val < 1) :
    o12 m c t.val t.isLt = s12 m c t (o12 m c (t.val - 1) (Nat.lt_of_le_of_lt (Nat.sub_le _ _) t.isLt)) := held_next _ _ _ (by decide) t h
/-- One more point over what output 13 held. -/
def s13 (c : Dev nD) (t : Fin cfg0.N) (p : Vec F S1x1024 .f32) : Vec F S1x1024 .f32 := k0_pay22 (k0_pay7 (b1 m c t) (b2 m c t)) (k0_pay8 (b1 m c t) (b2 m c t) (b5 m c t) (b6 m c t)) (k0_pay18 (k0_pay11 (b3 m c t)) (b0 m c t) (b4 m c t) (b7 m c t)) p
/-- What output 13 holds after the point. -/
def o13 (c : Dev nD) : (n : ℕ) → n < cfg0.N → Vec F S1x1024 .f32 := held (s13 m c) (k0_pay3 (F := F)) 1
theorem o13_first (c : Dev nD) (t : Fin cfg0.N) (h : t.val < 1) : o13 m c t.val t.isLt = s13 m c t (k0_pay3 (F := F)) := held_first _ _ _ t h
theorem o13_next (c : Dev nD) (t : Fin cfg0.N) (h : ¬t.val < 1) :
    o13 m c t.val t.isLt = s13 m c t (o13 m c (t.val - 1) (Nat.lt_of_le_of_lt (Nat.sub_le _ _) t.isLt)) := held_next _ _ _ (by decide) t h

/-- The proof data: each input's buffer keeps its block, each output's holds the contents above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => o8 m c t
    | ⟨9, _⟩ => o9 m c t
    | ⟨10, _⟩ => o10 m c t.val t.isLt
    | ⟨11, _⟩ => o11 m c t.val t.isLt
    | ⟨12, _⟩ => o12 m c t.val t.isLt
    | ⟨13, _⟩ => o13 m c t.val t.isLt
    | ⟨_ + 14, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = o8 m c t := by dsimp only [dats]
theorem after9 (c : Dev nD) (t : Fin cfg0.N) : (dats m 0 c).after 9 t = o9 m c t := by dsimp only [dats]
theorem after10 (c : Dev nD) (t : Fin cfg0.N) : (dats m 0 c).after 10 t = o10 m c t.val t.isLt := by dsimp only [dats]
theorem after11 (c : Dev nD) (t : Fin cfg0.N) : (dats m 0 c).after 11 t = o11 m c t.val t.isLt := by dsimp only [dats]
theorem after12 (c : Dev nD) (t : Fin cfg0.N) : (dats m 0 c).after 12 t = o12 m c t.val t.isLt := by dsimp only [dats]
theorem after13 (c : Dev nD) (t : Fin cfg0.N) : (dats m 0 c).after 13 t = o13 m c t.val t.isLt := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem flush10 : ∀ t : Fin cfg0.N, (cfg0.win 10).flush t = true ↔ t.val = 0 ∨ t.val = 32 :=
  (by decide +kernel : ∀ t : Fin grid0.N, win0_10.flush t = true ↔ t.val = 0 ∨ t.val = 32)
theorem before10 (c : Dev nD) (t : Fin cfg0.N) (h : ¬t.val < 2) (d) :
    (dats m 0 c).before 10 t d = o10 m c (t.val - 1) (Nat.lt_of_le_of_lt (Nat.sub_le _ _) t.isLt) := by
  have hN : t.val < 33 := lt_of_lt_of_eq t.isLt (show cfg0.N = 33 from N_0)
  rw [Dat.before_out_kept _ 10 rfl t (by omega) (Bool.eq_false_iff.mpr fun h' => by have := (flush10 _).mp h'; dsimp only at this; omega)
    (fun _ => rfl) (fun _ _ => rfl)]
  dsimp only [dats]
theorem flush11 : ∀ t : Fin cfg0.N, (cfg0.win 11).flush t = true ↔ t.val = 32 :=
  (by decide +kernel : ∀ t : Fin grid0.N, win0_11.flush t = true ↔ t.val = 32)
theorem before11 (c : Dev nD) (t : Fin cfg0.N) (h : ¬t.val < 1) (d) :
    (dats m 0 c).before 11 t d = o11 m c (t.val - 1) (Nat.lt_of_le_of_lt (Nat.sub_le _ _) t.isLt) := by
  have hN : t.val < 33 := lt_of_lt_of_eq t.isLt (show cfg0.N = 33 from N_0)
  rw [Dat.before_out_kept _ 11 rfl t (by omega) (Bool.eq_false_iff.mpr fun h' => by have := (flush11 _).mp h'; dsimp only at this; omega)
    (fun _ => rfl) (fun _ _ => rfl)]
  dsimp only [dats]
theorem flush12 : ∀ t : Fin cfg0.N, (cfg0.win 12).flush t = true ↔ t.val = 32 :=
  (by decide +kernel : ∀ t : Fin grid0.N, win0_12.flush t = true ↔ t.val = 32)
theorem before12 (c : Dev nD) (t : Fin cfg0.N) (h : ¬t.val < 1) (d) :
    (dats m 0 c).before 12 t d = o12 m c (t.val - 1) (Nat.lt_of_le_of_lt (Nat.sub_le _ _) t.isLt) := by
  have hN : t.val < 33 := lt_of_lt_of_eq t.isLt (show cfg0.N = 33 from N_0)
  rw [Dat.before_out_kept _ 12 rfl t (by omega) (Bool.eq_false_iff.mpr fun h' => by have := (flush12 _).mp h'; dsimp only at this; omega)
    (fun _ => rfl) (fun _ _ => rfl)]
  dsimp only [dats]
theorem flush13 : ∀ t : Fin cfg0.N, (cfg0.win 13).flush t = true ↔ t.val = 32 :=
  (by decide +kernel : ∀ t : Fin grid0.N, win0_13.flush t = true ↔ t.val = 32)
theorem before13 (c : Dev nD) (t : Fin cfg0.N) (h : ¬t.val < 1) (d) :
    (dats m 0 c).before 13 t d = o13 m c (t.val - 1) (Nat.lt_of_le_of_lt (Nat.sub_le _ _) t.isLt) := by
  have hN : t.val < 33 := lt_of_lt_of_eq t.isLt (show cfg0.N = 33 from N_0)
  rw [Dat.before_out_kept _ 13 rfl t (by omega) (Bool.eq_false_iff.mpr fun h' => by have := (flush13 _).mp h'; dsimp only at this; omega)
    (fun _ => rfl) (fun _ _ => rfl)]
  dsimp only [dats]

def bodyPre (c : Dev nD) (t : Fin cfg0.N) : sProp 𝕄 :=
  iprop((dats m 0 c).Φ t.castSucc ∗ (dats m 0 c).owesAt () t.castSucc
    ∗ (∃ d, owns c.tc (m0 t) fullShare ((dats m 0 c).before 0 t d))
    ∗ (∃ d, owns c.tc (m1 t) fullShare ((dats m 0 c).before 1 t d))
    ∗ (∃ d, owns c.tc (m2 t) fullShare ((dats m 0 c).before 2 t d))
    ∗ (∃ d, owns c.tc (m3 t) fullShare ((dats m 0 c).before 3 t d))
    ∗ (∃ d, owns c.tc (m4 t) fullShare ((dats m 0 c).before 4 t d))
    ∗ (∃ d, owns c.tc (m5 t) fullShare ((dats m 0 c).before 5 t d))
    ∗ (∃ d, owns c.tc (m6 t) fullShare ((dats m 0 c).before 6 t d))
    ∗ (∃ d, owns c.tc (m7 t) fullShare ((dats m 0 c).before 7 t d))
    ∗ (∃ d, owns c.tc (m8 t) fullShare ((dats m 0 c).before 8 t d))
    ∗ (∃ d, owns c.tc (m9 t) fullShare ((dats m 0 c).before 9 t d))
    ∗ (∃ d, owns c.tc (m10 t) fullShare ((dats m 0 c).before 10 t d))
    ∗ (∃ d, owns c.tc (m11 t) fullShare ((dats m 0 c).before 11 t d))
    ∗ (∃ d, owns c.tc (m12 t) fullShare ((dats m 0 c).before 12 t d))
    ∗ (∃ d, owns c.tc (m13 t) fullShare ((dats m 0 c).before 13 t d)))
def bodyPost (c : Dev nD) (t : Fin cfg0.N) : sProp 𝕄 :=
  iprop((dats m 0 c).Φ t.succ ∗ (dats m 0 c).owesAt () t.succ
    ∗ owns c.tc (m0 t) fullShare ((dats m 0 c).after 0 t)
    ∗ owns c.tc (m1 t) fullShare ((dats m 0 c).after 1 t)
    ∗ owns c.tc (m2 t) fullShare ((dats m 0 c).after 2 t)
    ∗ owns c.tc (m3 t) fullShare ((dats m 0 c).after 3 t)
    ∗ owns c.tc (m4 t) fullShare ((dats m 0 c).after 4 t)
    ∗ owns c.tc (m5 t) fullShare ((dats m 0 c).after 5 t)
    ∗ owns c.tc (m6 t) fullShare ((dats m 0 c).after 6 t)
    ∗ owns c.tc (m7 t) fullShare ((dats m 0 c).after 7 t)
    ∗ owns c.tc (m8 t) fullShare ((dats m 0 c).after 8 t)
    ∗ owns c.tc (m9 t) fullShare ((dats m 0 c).after 9 t)
    ∗ owns c.tc (m10 t) fullShare ((dats m 0 c).after 10 t)
    ∗ owns c.tc (m11 t) fullShare ((dats m 0 c).after 11 t)
    ∗ owns c.tc (m12 t) fullShare ((dats m 0 c).after 12 t)
    ∗ owns c.tc (m13 t) fullShare ((dats m 0 c).after 13 t))

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11, after12, after13]
  have hN : t.val < 33 := lt_of_lt_of_eq t.isLt (show cfg0.N = 33 from N_0)
  by_cases h0 : t.val < 1
  · have h1 : t.val < 2 := by omega
    rw [o10_first m c t h1, o11_first m c t h0, o12_first m c t h0, o13_first m c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply (run_A c (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) ((hcond0 t).mpr h0) ((hcond1 t).mpr h1) Set.univ _)
    iframe H0 H1 H2 H3 H4 H5 H6 H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    iintro ⟨H0, H1, H2, H3, H4, H5, H6, H7, H8, H9, H10, H11, H12, H13⟩
    iframe HΦ Ho H0 H1 H2 H3 H4 H5 H6 H7 H8 H9 H10 H11 H12 H13
  · by_cases h1 : t.val < 2
    · rw [o10_first m c t h1, o11_next m c t h0, o12_next m c t h0, o13_next m c t h0]
      simp only [before11 m c t h0, before12 m c t h0, before13 m c t h0]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
      iapply (run_B c (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (fun h => h0 ((hcond0 t).mp h)) ((hcond1 t).mpr h1) _ _ _ Set.univ _)
      iframe H0 H1 H2 H3 H4 H5 H6 H7
      isplitl [H8]; · iexists _; iexact H8
      isplitl [H9]; · iexists _; iexact H9
      isplitl [H10]; · iexists _; iexact H10
      iframe H11 H12 H13
      iintro ⟨H0, H1, H2, H3, H4, H5, H6, H7, H8, H9, H10, H11, H12, H13⟩
      iframe HΦ Ho H0 H1 H2 H3 H4 H5 H6 H7 H8 H9 H10 H11 H12 H13
    · rw [o10_next m c t h1, o11_next m c t h0, o12_next m c t h0, o13_next m c t h0]
      simp only [before10 m c t h1, before11 m c t h0, before12 m c t h0, before13 m c t h0]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
      iapply (run_C c (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (fun h => h0 ((hcond0 t).mp h)) (fun h => h1 ((hcond1 t).mp h)) _ _ _ _ Set.univ _)
      iframe H0 H1 H2 H3 H4 H5 H6 H7
      isplitl [H8]; · iexists _; iexact H8
      isplitl [H9]; · iexists _; iexact H9
      iframe H10 H11 H12 H13
      iintro ⟨H0, H1, H2, H3, H4, H5, H6, H7, H8, H9, H10, H11, H12, H13⟩
      iframe HΦ Ho H0 H1 H2 H3 H4 H5 H6 H7 H8 H9 H10 H11 H12 H13

theorem body_obligation (c : Dev nD) : BodyObligation (dats (F := F) m 0 c) (defs₀ (F := F)) Variants.none () Set.univ := fun t => by
  rw [bigSep_W0, bigSep_W0]
  rw [show defs₀ (F := F) .tc cfg0.body (cfg0.bodyArgs t (cfg0.slots t)) = bodyAt0 t from by unfold defs₀; rw [Defs.onTc_tc]]
  exact triple_restated (sound_body m c t) rfl .rfl fun _ => .rfl

set_option backward.isDefEq.respectTransparency.types false in
/-- The launch with the exact contents, and every semaphore counter at zero. -/
theorem run_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_post : θ_run defs (onTc (τ := τ) (main (F := F))) (s₀ m ρ) (Pipeline.FramePost cfgs (dats m) 0 (V m)) :=
  (θ_run defs _ _).mono (fun _ h => h.1) (run_quiescent m ρ)

end Cert.Post

end
-- ==== Proof.PostSpec.lean ====
module

public import proofs.«01_k».proof.Proof.SsminSpec
@[expose] public section

/-!
The scan's output branch on real rows, with its gradient: the exact Gaussian unit, the gated linear
unit, the gate of the projection and the output's product.
-/

noncomputable section

namespace Cert.PostSpec
open Cert.Reals Cert.LossSpec Cert.SsminSpec

abbrev Mat := Lane → Row

/-- The error function of a real. -/
def erfr (r : ℝ) : ℝ := 2 / Real.sqrt Real.pi * ∫ t in (0 : ℝ)..r, Real.exp (-(t ^ 2))
theorem erf_real (r : ℝ) : Idealize.ShloMosaic.Ideal.erf (r : EReal) = ((erfr r : ℝ) : EReal) := rfl

/-- The slope of the error function at 0, halved, over the root of two: the word's value for it. -/
def slope : ℝ := 9465531 / 16777216 * (Real.sqrt 2)⁻¹
theorem bits_slope : Idealize.ShloMosaic.Ideal.ofBits .f32 0x3F906EBB#32 = ((9465531 / 8388608 : ℝ) : EReal) := by
  simp [Idealize.ShloMosaic.Ideal.ofBits, Idealize.ShloMosaic.Ideal.ieee]
  norm_num
  rw [← EReal.coe_mul]
  norm_num
theorem sqrt_two : Idealize.ShloMosaic.Ideal.sqrt ((2 : ℝ) : EReal) = ((Real.sqrt 2 : ℝ) : EReal) := by
  show (if (2 : ℝ) < 0 then (⊥ : EReal) else ((Real.sqrt 2 : ℝ) : EReal)) = _
  rw [if_neg (by norm_num)]
theorem root_ne : Real.sqrt 2 ≠ 0 := by positivity

/-- The sum of the two directions. -/
def ad (a b : Row) : Row := fun d => a d + b d
/-- The forward stages. -/
def gerf (y : Row) : Row := fun d => erfr (y d * (Real.sqrt 2)⁻¹)
def gg (y : Row) : Row := fun d => 1 / 2 * y d * (1 + gerf y d)
def sg (y : Row) (Wg : Mat) (b : Row) : Row := fun d => sig ((∑ k, gg y k * Wg k d) + b d)
def g2 (y : Row) (Wg : Mat) (b : Row) : Row := fun d => gg y d * sg y Wg b d
def sl (z : Row) : Row := fun d => z d * sig (z d)
def gm (y z : Row) (Wg : Mat) (b : Row) : Row := fun d => g2 y Wg b d * sl z d
def ou (y z : Row) (Wg : Mat) (b : Row) (Wo : Mat) : Row := fun d => ∑ k, gm y z Wg b k * Wo k d
/-- The gradients, from the output back. -/
def gdx (g x : Row) : Row := fun d => g d * x d
def dm (g x : Row) (Wo : Mat) : Row := fun d => ∑ k, gdx g x k * Wo d k
def dgt (g x : Row) (Wo : Mat) (z : Row) : Row := fun d => dm g x Wo d * sl z d
def gz (g x : Row) (Wo : Mat) (y z : Row) (Wg : Mat) (b : Row) : Row := fun d =>
  dm g x Wo d * g2 y Wg b d * (sig (z d) * (1 + z d * (1 - sig (z d))))
def dt (g x : Row) (Wo : Mat) (y z : Row) (Wg : Mat) (b : Row) : Row := fun d =>
  dgt g x Wo z d * gg y d * sg y Wg b d * (1 - sg y Wg b d)
def dgl (g x : Row) (Wo : Mat) (y z : Row) (Wg : Mat) (b : Row) : Row := fun d =>
  dgt g x Wo z d * sg y Wg b d + ∑ k, dt g x Wo y z Wg b k * Wg d k
def dyy (g x : Row) (Wo : Mat) (y z : Row) (Wg : Mat) (b : Row) : Row := fun d =>
  dgl g x Wo y z Wg b d * (1 / 2 * (1 + gerf y d) + y d * Real.exp (-(1 / 2) * y d * y d) * slope)

/-- The Gaussian unit's derivative as the chain rule writes it. -/
theorem gauss_chain (u q e : ℝ) :
    9465531 / 8388608 * (1 / 2 * u * q) * Real.exp (-(u / Real.sqrt 2 * (u / Real.sqrt 2))) / Real.sqrt 2 + 1 / 2 * (q * (1 + e))
      = q * (1 / 2 * (1 + e) + u * Real.exp (-(1 / 2) * u * u) * slope) := by
  have h : u / Real.sqrt 2 * (u / Real.sqrt 2) = 1 / 2 * u * u := by
    rw [div_mul_div_comm, Real.mul_self_sqrt (by norm_num)]; ring
  rw [h, show -(1 / 2 * u * u) = -(1 / 2) * u * u by ring]
  unfold slope
  ring
theorem silu_chain (m g z : ℝ) : m * g * sig z + z * (m * g) * (sig z * (1 - sig z)) = m * g * (sig z * (1 + z * (1 - sig z))) := by ring
end Cert.PostSpec
end
-- ==== Proof.PostPay.lean ====
module

public import proofs.«01_k».proof.Proof.Gen.Kernel3Ideal.Skeleton
public import proofs.«01_k».proof.Proof.PostSpec
public import Idealize.ShloMosaic.Lib.Pipeline.ValueKit
public import Idealize.ShloMosaic.Lib.Pointwise
public import Idealize.ShloMosaic.Lib.Claim
@[expose] public section

/-!
What the body of the output branch's gradient computes, on real blocks, one entry at a time.
-/

set_option maxRecDepth 16384

noncomputable section

open Idealize.ShloMosaic Idealize.SL.Sem
namespace Cert.PostPay
open Cert.Kernel3Ideal Cert.Kernel3Ideal.Gen Cert.Reals Cert.LossSpec Cert.PostSpec

theorem named_root : (Named.named κ "inv_sqrt2" 0x3F3504F3#32 : Ideal .f32) = (((Real.sqrt 2)⁻¹ : ℝ) : EReal) := rfl
theorem named_slope : (Named.named κ "inv_sqrt_2pi" 0x3ECC422A#32 : Ideal .f32) = ((slope : ℝ) : EReal) := rfl

variable {x0 x1 x2 x3 : Vec Ideal S256x1024 .f32} {x4 : Vec Ideal S1x1x1024 .f32} {x5 x7 : Vec Ideal S1024x1024 .f32} {x6 : Vec Ideal S1x1024 .f32}
variable {X A B Z : Fin 256 → Row} {S b : Row} {Wg Wo : Mat}

section
variable (h1 : ∀ r d, x1 (ix2 r d) = ((A r d : ℝ) : EReal)) (h2 : ∀ r d, x2 (ix2 r d) = ((B r d : ℝ) : EReal))
include h1 h2
theorem pay5_at (r : Fin 256) (d : Lane) : k0_pay5 (F := Ideal) x1 x2 (ix2 r d) = ((ad (A r) (B r) d : ℝ) : EReal) := by
  pointwise [k0_pay5]
  simp only [h1, h2, ← EReal.coe_add]
  rfl
theorem pay6_at (r : Fin 256) (d : Lane) : k0_pay6 (F := Ideal) x1 x2 (ix2 r d) = ((gerf (ad (A r) (B r)) d : ℝ) : EReal) := by
  unfold k0_pay6
  have e := pay5_at h1 h2
  generalize k0_pay5 (F := Ideal) x1 x2 = y at e ⊢
  pointwise []
  simp only [e, named_root, ← EReal.coe_mul, erf_real]
  rfl
theorem pay7_at (r : Fin 256) (d : Lane) : k0_pay7 (F := Ideal) x1 x2 (ix2 r d) = ((gg (ad (A r) (B r)) d : ℝ) : EReal) := by
  unfold k0_pay7
  have e := pay5_at h1 h2
  have e' := pay6_at h1 h2
  generalize k0_pay5 (F := Ideal) x1 x2 = y at e ⊢
  generalize k0_pay6 (F := Ideal) x1 x2 = y' at e' ⊢
  pointwise []
  simp only [e, e', bits_half, bits_1, ← EReal.coe_one, ← EReal.coe_mul, ← EReal.coe_add]
  rfl
variable (h5 : ∀ e k, x5 (ix2 e k) = ((Wg e k : ℝ) : EReal)) (h6 : ∀ d, x6 (ix2 0 d) = ((b d : ℝ) : EReal))
include h5 h6
theorem pay8_at (r : Fin 256) (d : Lane) : k0_pay8 (F := Ideal) x1 x2 x5 x6 (ix2 r d) = ((sg (ad (A r) (B r)) Wg b d : ℝ) : EReal) := by
  unfold k0_pay8
  have e := pay7_at h1 h2
  generalize k0_pay7 (F := Ideal) x1 x2 = y at e ⊢
  pointwise []
  simp only [e, h5, h6, ← EReal.coe_mul, sum_coe, ← EReal.coe_add, logistic_coe]
  rfl
theorem pay9_at (r : Fin 256) (d : Lane) : k0_pay9 (F := Ideal) x1 x2 x5 x6 (ix2 r d) = ((g2 (ad (A r) (B r)) Wg b d : ℝ) : EReal) := by
  unfold k0_pay9
  have e := pay7_at h1 h2
  have e' := pay8_at h1 h2 h5 h6
  generalize k0_pay7 (F := Ideal) x1 x2 = y at e ⊢
  generalize k0_pay8 (F := Ideal) x1 x2 x5 x6 = y' at e' ⊢
  pointwise []
  simp only [e, e', ← EReal.coe_mul]
  rfl
end

section
variable (h3 : ∀ r d, x3 (ix2 r d) = ((Z r d : ℝ) : EReal))
include h3
theorem pay10_at (r : Fin 256) (d : Lane) : k0_pay10 (F := Ideal) x3 (ix2 r d) = ((sig (Z r d) : ℝ) : EReal) := by
  pointwise [k0_pay10]
  simp only [h3, logistic_coe]
theorem pay11_at (r : Fin 256) (d : Lane) : k0_pay11 (F := Ideal) x3 (ix2 r d) = ((sl (Z r) d : ℝ) : EReal) := by
  unfold k0_pay11
  have e := pay10_at h3
  generalize k0_pay10 (F := Ideal) x3 = y at e ⊢
  pointwise []
  simp only [e, h3, ← EReal.coe_mul]
  rfl
variable (h1 : ∀ r d, x1 (ix2 r d) = ((A r d : ℝ) : EReal)) (h2 : ∀ r d, x2 (ix2 r d) = ((B r d : ℝ) : EReal))
variable (h5 : ∀ e k, x5 (ix2 e k) = ((Wg e k : ℝ) : EReal)) (h6 : ∀ d, x6 (ix2 0 d) = ((b d : ℝ) : EReal))
include h1 h2 h5 h6
theorem pay12_at (r : Fin 256) (d : Lane) : k0_pay12 (F := Ideal) x1 x2 x3 x5 x6 (ix2 r d) = ((gm (ad (A r) (B r)) (Z r) Wg b d : ℝ) : EReal) := by
  unfold k0_pay12
  have e := pay9_at h1 h2 h5 h6
  have e' := pay11_at h3
  generalize k0_pay9 (F := Ideal) x1 x2 x5 x6 = y at e ⊢
  generalize k0_pay11 (F := Ideal) x3 = y' at e' ⊢
  pointwise []
  simp only [e, e', ← EReal.coe_mul]
  rfl
variable (h7 : ∀ e k, x7 (ix2 e k) = ((Wo e k : ℝ) : EReal))
include h7
theorem pay13_at (r : Fin 256) (d : Lane) : k0_pay13 (F := Ideal) x1 x2 x3 x5 x6 x7 (ix2 r d) = ((ou (ad (A r) (B r)) (Z r) Wg b Wo d : ℝ) : EReal) := by
  unfold k0_pay13
  have e := pay12_at h3 h1 h2 h5 h6
  generalize k0_pay12 (F := Ideal) x1 x2 x3 x5 x6 = y at e ⊢
  pointwise []
  simp only [e, h7, ← EReal.coe_mul, sum_coe]
  rfl
end

section
variable (h0 : ∀ r d, x0 (ix2 r d) = ((X r d : ℝ) : EReal)) (h4 : ∀ d, x4 (ix3 0 0 d) = ((S d : ℝ) : EReal))
include h0 h4
theorem pay15_at (r : Fin 256) (d : Lane) : k0_pay15 (F := Ideal) x0 x4 (ix2 r d) = ((gdx S (X r) d : ℝ) : EReal) := by
  pointwise [k0_pay15]
  simp only [h0, h4, ← EReal.coe_mul]
  rfl
variable (h7 : ∀ e k, x7 (ix2 e k) = ((Wo e k : ℝ) : EReal))
include h7
theorem pay16_at (r : Fin 256) (d : Lane) : k0_pay16 (F := Ideal) x0 x4 x7 (ix2 r d) = ((dm S (X r) Wo d : ℝ) : EReal) := by
  unfold k0_pay16
  have e := pay15_at h0 h4
  generalize k0_pay15 (F := Ideal) x0 x4 = y at e ⊢
  pointwise []
  simp only [e, h7, ← EReal.coe_mul, sum_coe]
  rfl
variable (h3 : ∀ r d, x3 (ix2 r d) = ((Z r d : ℝ) : EReal))
include h3
theorem pay18_at (r : Fin 256) (d : Lane) : k0_pay18 (F := Ideal) (k0_pay11 x3) x0 x4 x7 (ix2 r d) = ((dgt S (X r) Wo (Z r) d : ℝ) : EReal) := by
  unfold k0_pay18
  have e := pay16_at h0 h4 h7
  have e' := pay11_at h3
  generalize k0_pay16 (F := Ideal) x0 x4 x7 = y at e ⊢
  generalize k0_pay11 (F := Ideal) x3 = y' at e' ⊢
  pointwise []
  simp only [e, e', ← EReal.coe_mul]
  rfl
variable (h1 : ∀ r d, x1 (ix2 r d) = ((A r d : ℝ) : EReal)) (h2 : ∀ r d, x2 (ix2 r d) = ((B r d : ℝ) : EReal))
variable (h5 : ∀ e k, x5 (ix2 e k) = ((Wg e k : ℝ) : EReal)) (h6 : ∀ d, x6 (ix2 0 d) = ((b d : ℝ) : EReal))
include h1 h2 h5 h6
/-- The gate's own gradient. -/
theorem out9_at (r : Fin 256) (d : Lane) : k0_pay19 (F := Ideal) x3 (k0_pay9 x1 x2 x5 x6) (k0_pay10 x3) x0 x4 x7 (ix2 r d)
    = ((gz S (X r) Wo (ad (A r) (B r)) (Z r) Wg b d : ℝ) : EReal) := by
  unfold k0_pay19
  have e := pay16_at h0 h4 h7
  have e' := pay10_at h3
  have e2 := pay9_at h1 h2 h5 h6
  generalize k0_pay16 (F := Ideal) x0 x4 x7 = y at e ⊢
  generalize k0_pay10 (F := Ideal) x3 = y' at e' ⊢
  generalize k0_pay9 (F := Ideal) x1 x2 x5 x6 = y2 at e2 ⊢
  pointwise []
  simp only [e, e', e2, h3, bits_1, ← EReal.coe_one, ← EReal.coe_mul, ← EReal.coe_add, ← EReal.coe_sub]
  rfl
theorem pay20_at (r : Fin 256) (d : Lane) : k0_pay20 (F := Ideal) (k0_pay7 x1 x2) (k0_pay8 x1 x2 x5 x6) (k0_pay18 (k0_pay11 x3) x0 x4 x7) (ix2 r d)
    = ((dt S (X r) Wo (ad (A r) (B r)) (Z r) Wg b d : ℝ) : EReal) := by
  have e := pay7_at h1 h2
  have e' := pay8_at h1 h2 h5 h6
  have e2 := pay18_at h0 h4 h7 h3
  generalize k0_pay7 (F := Ideal) x1 x2 = y at e ⊢
  generalize k0_pay8 (F := Ideal) x1 x2 x5 x6 = y' at e' ⊢
  generalize k0_pay18 (F := Ideal) (k0_pay11 x3) x0 x4 x7 = y2 at e2 ⊢
  pointwise [k0_pay20]
  simp only [e, e', e2, bits_1, ← EReal.coe_one, ← EReal.coe_mul, ← EReal.coe_add, ← EReal.coe_sub]
  rfl
/-- The gradient of the branch's input. -/
theorem out8_at (r : Fin 256) (d : Lane) :
    k0_pay23 (F := Ideal) (k0_pay5 x1 x2) (k0_pay6 x1 x2) (k0_pay7 x1 x2) (k0_pay8 x1 x2 x5 x6) (k0_pay18 (k0_pay11 x3) x0 x4 x7) x5 (ix2 r d)
      = ((dyy S (X r) Wo (ad (A r) (B r)) (Z r) Wg b d : ℝ) : EReal) := by
  unfold k0_pay23
  have e20 := pay20_at h0 h4 h7 h3 h1 h2 h5 h6
  generalize k0_pay20 (F := Ideal) (k0_pay7 x1 x2) (k0_pay8 x1 x2 x5 x6) (k0_pay18 (k0_pay11 x3) x0 x4 x7) = y20 at e20 ⊢
  have e5 := pay5_at h1 h2
  have e6 := pay6_at h1 h2
  have e8 := pay8_at h1 h2 h5 h6
  have e18 := pay18_at h0 h4 h7 h3
  generalize k0_pay5 (F := Ideal) x1 x2 = y5 at e5 ⊢
  generalize k0_pay6 (F := Ideal) x1 x2 = y6 at e6 ⊢
  generalize k0_pay8 (F := Ideal) x1 x2 x5 x6 = y8 at e8 ⊢
  generalize k0_pay18 (F := Ideal) (k0_pay11 x3) x0 x4 x7 = y18 at e18 ⊢
  pointwise []
  simp only [e5, e6, e8, e18, e20, h5, named_slope, bits_1, bits_half, bits_neghalf, exp_coe, ← EReal.coe_one, ← EReal.coe_mul, sum_coe, ← EReal.coe_add, ← EReal.coe_sub]
  rfl
/-- The three weights' sums, one tile at a time. -/
theorem out12_at {q : Vec Ideal S1024x1024 .f32} {Q : Mat} (hq : ∀ e k, q (ix2 e k) = ((Q e k : ℝ) : EReal)) (e k : Lane) :
    k0_pay21 (F := Ideal) (k0_pay7 x1 x2) (k0_pay8 x1 x2 x5 x6) (k0_pay18 (k0_pay11 x3) x0 x4 x7) q (ix2 e k)
      = ((Q e k + ∑ r, gg (ad (A r) (B r)) e * dt S (X r) Wo (ad (A r) (B r)) (Z r) Wg b k : ℝ) : EReal) := by
  unfold k0_pay21
  have e20 := pay20_at h0 h4 h7 h3 h1 h2 h5 h6
  generalize k0_pay20 (F := Ideal) (k0_pay7 x1 x2) (k0_pay8 x1 x2 x5 x6) (k0_pay18 (k0_pay11 x3) x0 x4 x7) = y20 at e20 ⊢
  have e7 := pay7_at h1 h2
  generalize k0_pay7 (F := Ideal) x1 x2 = y at e7 ⊢
  pointwise []
  simp only [e7, e20, hq, ← EReal.coe_mul, sum_coe, ← EReal.coe_add]
theorem out13_at {q : Vec Ideal S1x1024 .f32} {Q : Row} (hq : ∀ d, q (ix2 0 d) = ((Q d : ℝ) : EReal)) (d : Lane) :
    k0_pay22 (F := Ideal) (k0_pay7 x1 x2) (k0_pay8 x1 x2 x5 x6) (k0_pay18 (k0_pay11 x3) x0 x4 x7) q (ix2 0 d)
      = ((Q d + ∑ r, dt S (X r) Wo (ad (A r) (B r)) (Z r) Wg b d : ℝ) : EReal) := by
  unfold k0_pay22
  have e20 := pay20_at h0 h4 h7 h3 h1 h2 h5 h6
  generalize k0_pay20 (F := Ideal) (k0_pay7 x1 x2) (k0_pay8 x1 x2 x5 x6) (k0_pay18 (k0_pay11 x3) x0 x4 x7) = y20 at e20 ⊢
  pointwise []
  simp only [e20, hq, ← EReal.coe_mul, sum_coe, ← EReal.coe_add]
omit h7 in
theorem out11_at {q : Vec Ideal S1024x1024 .f32} {Q : Mat} (hq : ∀ e k, q (ix2 e k) = ((Q e k : ℝ) : EReal)) (e k : Lane) :
    k0_pay17 (F := Ideal) (k0_pay12 x1 x2 x3 x5 x6) x0 x4 q (ix2 e k)
      = ((Q e k + ∑ r, gm (ad (A r) (B r)) (Z r) Wg b e * gdx S (X r) k : ℝ) : EReal) := by
  unfold k0_pay17
  have e15 := pay15_at h0 h4
  have e12 := pay12_at h3 h1 h2 h5 h6
  generalize k0_pay15 (F := Ideal) x0 x4 = y at e15 ⊢
  generalize k0_pay12 (F := Ideal) x1 x2 x3 x5 x6 = y2 at e12 ⊢
  pointwise []
  simp only [e15, e12, hq, ← EReal.coe_mul, sum_coe, ← EReal.coe_add]
omit h4 in
theorem out10_at {q : Vec Ideal S1x1x1024 .f32} {Q : Row} (hq : ∀ d, q (ix3 0 0 d) = ((Q d : ℝ) : EReal)) (d : Lane) :
    k0_pay14 (F := Ideal) (k0_pay13 x1 x2 x3 x5 x6 x7) x0 q (ix3 0 0 d)
      = ((Q d + ∑ r, X r d * ou (ad (A r) (B r)) (Z r) Wg b Wo d : ℝ) : EReal) := by
  have e13 := pay13_at h3 h1 h2 h5 h6 h7
  generalize k0_pay13 (F := Ideal) x1 x2 x3 x5 x6 x7 = y at e13 ⊢
  pointwise [k0_pay14]
  simp only [e13, h0, hq, ← EReal.coe_mul, sum_coe, ← EReal.coe_add]
end
theorem pay1_at (e k : Lane) : k0_pay1 (F := Ideal) (ix2 e k) = ((0 : ℝ) : EReal) := bits_0
theorem pay2_at (e k : Lane) : k0_pay2 (F := Ideal) (ix2 e k) = ((0 : ℝ) : EReal) := bits_0
theorem pay3_at (d : Lane) : k0_pay3 (F := Ideal) (ix2 0 d) = ((0 : ℝ) : EReal) := bits_0
theorem pay4_at (d : Lane) : k0_pay4 (F := Ideal) (ix3 0 0 d) = ((0 : ℝ) : EReal) := bits_0
end Cert.PostPay
end
-- ==== Proof.Tiles.lean ====
module

public import proofs.«01_k».proof.Proof.SsminSpec
public import Idealize.ShloMosaic.Lib.Pipeline.ValueKit
public import Idealize.ShloMosaic.Lib.Pointwise
@[expose] public section

/-!
Indices by their coordinates, arrays by their entries, and the segment of a tile of the stream.
-/

noncomputable section

open Idealize.ShloMosaic Idealize.SL.Sem
namespace Cert.Tiles
open Cert.Reals Cert.LossSpec Cert.SsminSpec

/-- An index by its coordinates. -/
theorem ix_row {n k : ℕ} (y : (⟨2, ![n, k]⟩ : Shape).Idx) : y = ix2 (y 0) (y 1) := by
  funext a; apply Fin.ext; match a with
  | ⟨0, _⟩ => rfl
  | ⟨1, _⟩ => rfl
theorem ix_one {k : ℕ} (y : (⟨2, ![1, k]⟩ : Shape).Idx) : y = ix2 0 (y 1) := by
  refine (ix_row y).trans (congrArg (fun a => ix2 a (y 1)) (Fin.ext ?_))
  have : (y 0).val < 1 := (y 0).isLt
  show (y 0).val = 0
  omega
theorem ix_11k (y : (⟨3, ![1, 1, 1024]⟩ : Shape).Idx) : y = ix3 0 0 (y 2) := by
  have h0 : (y 0).val < 1 := (y 0).isLt
  have h1 : (y 1).val < 1 := (y 1).isLt
  funext a; apply Fin.ext; match a with
  | ⟨0, _⟩ => show (y 0).val = 0; omega
  | ⟨1, _⟩ => show (y 1).val = 0; omega
  | ⟨2, _⟩ => rfl

/-- The segment of point `t`. -/
def sg (t : ℕ) : Fin 2 := if t = 0 then 0 else 1
theorem seg_tile (t : ℕ) (r : Fin 256) : seg (256 * t + r.val) = sg t := by
  unfold seg sg
  have := r.isLt
  by_cases h : t = 0
  · rw [if_pos (by omega), if_pos h]
  · rw [if_neg (by omega), if_neg h]
theorem seg_ctx (a : Fin 256) : seg a.val = 0 := if_pos a.isLt
theorem seg_tok (a : ℕ) : seg (256 + a) = 1 := if_neg (by omega)

/-- A real matrix of 1024 lanes, its rows numbered by the naturals. -/
theorem rows_of_real {n : ℕ} (hn : 0 < n) (x : FVec Ideal ⟨2, ![n, 1024]⟩ .f32) (h : AllReal x) :
    ∃ X : ℕ → Row, ∀ (a : Fin n) (b : Lane), x (ix2 a b) = ((X a.val b : ℝ) : EReal) := by
  obtain ⟨r, rfl⟩ := h
  refine ⟨fun a b => r (ix2 ⟨a % n, Nat.mod_lt _ hn⟩ b), fun a b => ?_⟩
  exact congrArg (fun z : ℝ => (z : EReal)) (congrArg r (congrArg₂ ix2 (Fin.ext (Nat.mod_eq_of_lt a.isLt).symm) rfl))
theorem matrix_of_real {n k : ℕ} (x : FVec Ideal ⟨2, ![n, k]⟩ .f32) (h : AllReal x) :
    ∃ X : Fin n → Fin k → ℝ, ∀ (a : Fin n) (b : Fin k), x (ix2 a b) = ((X a b : ℝ) : EReal) := by
  obtain ⟨r, rfl⟩ := h
  exact ⟨fun a b => r (ix2 a b), fun a b => rfl⟩
theorem pairs_of_real (x : FVec Ideal ⟨2, ![2, 1024]⟩ .f32) (h : AllReal x) :
    ∃ X : Fin 2 → Row, ∀ (a : Fin 2) (b : Lane), x (ix2 a b) = ((X a b : ℝ) : EReal) := matrix_of_real x h
theorem row_of_real (x : FVec Ideal ⟨1, ![1024]⟩ .f32) (h : AllReal x) : ∃ G : Row, ∀ d : Lane, x (ix1 d) = ((G d : ℝ) : EReal) := by
  obtain ⟨r, rfl⟩ := h
  exact ⟨fun d => r (ix1 d), fun d => rfl⟩
/-- Two arrays that agree at all coordinates are equal. -/
theorem eq_of_pairs {n k : ℕ} {α : Type} (x y : (⟨2, ![n, k]⟩ : Shape).Idx → α) (h : ∀ (a : Fin n) (b : Fin k), x (ix2 a b) = y (ix2 a b)) : x = y := by
  funext i
  obtain ⟨a, b, rfl⟩ : ∃ a b, i = (ix2 a b : (⟨2, ![n, k]⟩ : Shape).Idx) := ⟨i 0, i 1, by funext x; match x with | ⟨0, _⟩ => rfl | ⟨1, _⟩ => rfl⟩
  exact h a b
theorem eq_of_triples {n l k : ℕ} {α : Type} (x y : (⟨3, ![n, l, k]⟩ : Shape).Idx → α) (h : ∀ (a : Fin n) (z : Fin l) (b : Fin k), x (ix3 a z b) = y (ix3 a z b)) : x = y := by
  funext i
  obtain ⟨a, z, b, rfl⟩ : ∃ a z b, i = (ix3 a z b : (⟨3, ![n, l, k]⟩ : Shape).Idx) := ⟨i 0, i 1, i 2, by funext x; match x with | ⟨0, _⟩ => rfl | ⟨1, _⟩ => rfl | ⟨2, _⟩ => rfl⟩
  exact h a z b
end Cert.Tiles
end
-- ==== Proof.PostArr.lean ====
module

public import proofs.«01_k».proof.Proof.PostFrame
public import proofs.«01_k».proof.Proof.PostPay
public import proofs.«01_k».proof.Proof.Tiles
@[expose] public section

/-!
The arrays the output branch's gradient leaves, as values.
-/

set_option maxRecDepth 16384

noncomputable section

open Idealize.ShloMosaic Idealize.SL.Sem TcCoe
namespace Cert.PostArr
open Cert.Kernel3Ideal Cert.Kernel3Ideal.Gen Cert.Reals Cert.LossSpec Cert.SsminSpec Cert.PostPay Cert.Post
open Cert.PostSpec (Mat ad gg gm ou gdx dt)
open Cert.Tiles

/-- The blocks the windows stand on. -/
theorem widx : ∀ t : Fin cfg0.N, win0_0.index t = ![t.val, 0] ∧ win0_1.index t = ![t.val, 0] ∧ win0_2.index t = ![t.val, 0]
    ∧ win0_3.index t = ![t.val, 0] ∧ win0_5.index t = ![0, 0] ∧ win0_6.index t = ![0, 0] ∧ win0_7.index t = ![0, 0] :=
  (by decide +kernel : ∀ t : Fin grid0.N, _)
theorem widxo : ∀ t : Fin cfg0.N, win0_8.index t = ![t.val, 0] ∧ win0_9.index t = ![t.val, 0] ∧ win0_11.index t = ![0, 0] ∧ win0_12.index t = ![0, 0] ∧ win0_13.index t = ![0, 0] :=
  (by decide +kernel : ∀ t : Fin grid0.N, _)
theorem widx0 : ∀ t : Fin cfg0.N, t.val = 0 → win0_4.index t = ![0, 0, 0] ∧ win0_10.index t = ![0, 0, 0] :=
  (by decide +kernel : ∀ t : Fin grid0.N, _)
theorem widx1 : ∀ t : Fin cfg0.N, t.val ≠ 0 → win0_4.index t = ![1, 0, 0] ∧ win0_10.index t = ![1, 0, 0] :=
  (by decide +kernel : ∀ t : Fin grid0.N, _)

variable (m : (ℓ : Loc nD τ sig) → Buf (Elt Ideal) ℓ) (c : Dev nD)

section
variable (X A B Z : ℕ → Row) (S : Fin 2 → Row) (b : Row) (Wg Wo : Mat)
  (h0 : ∀ (a : Fin 8448) (d : Lane), (V m c main_arg7 : FVec Ideal S8448x1024 .f32) (ix2 a d) = ((X a.val d : ℝ) : EReal))
  (h1 : ∀ (a : Fin 8448) (d : Lane), (V m c main_arg0 : FVec Ideal S8448x1024 .f32) (ix2 a d) = ((A a.val d : ℝ) : EReal))
  (h2 : ∀ (a : Fin 8448) (d : Lane), (V m c main_arg1 : FVec Ideal S8448x1024 .f32) (ix2 a d) = ((B a.val d : ℝ) : EReal))
  (h3 : ∀ (a : Fin 8448) (d : Lane), (V m c main_arg2 : FVec Ideal S8448x1024 .f32) (ix2 a d) = ((Z a.val d : ℝ) : EReal))
  (h4 : ∀ (s : Fin 2) (d : Lane), (V m c main_v0 : FVec Ideal S2x1x1024 .f32) (ix3 s 0 d) = ((S s d : ℝ) : EReal))
  (h5 : ∀ (e k : Lane), (V m c main_arg4 : FVec Ideal S1024x1024 .f32) (ix2 e k) = ((Wg e k : ℝ) : EReal))
  (h6 : ∀ d : Lane, (V m c main_v1 : FVec Ideal S1x1024 .f32) (ix2 0 d) = ((b d : ℝ) : EReal))
  (h7 : ∀ (e k : Lane), (V m c main_arg6 : FVec Ideal S1024x1024 .f32) (ix2 e k) = ((Wo e k : ℝ) : EReal))

section
variable (t : Fin cfg0.N)
include h0 in
theorem b0_at (r : Fin 256) (d : Lane) : b0 m c t (ix2 r d) = ((X (256 * t.val + r.val) d : ℝ) : EReal) := by
  have ht : t.val < 33 := t.isLt
  refine Eq.trans ?_ (h0 ⟨256 * t.val + r.val, by omega⟩ d)
  blk_ext! [iblk, widx t]
include h1 in
theorem b1_at (r : Fin 256) (d : Lane) : b1 m c t (ix2 r d) = ((A (256 * t.val + r.val) d : ℝ) : EReal) := by
  have ht : t.val < 33 := t.isLt
  refine Eq.trans ?_ (h1 ⟨256 * t.val + r.val, by omega⟩ d)
  blk_ext! [iblk, widx t]
include h2 in
theorem b2_at (r : Fin 256) (d : Lane) : b2 m c t (ix2 r d) = ((B (256 * t.val + r.val) d : ℝ) : EReal) := by
  have ht : t.val < 33 := t.isLt
  refine Eq.trans ?_ (h2 ⟨256 * t.val + r.val, by omega⟩ d)
  blk_ext! [iblk, widx t]
include h3 in
theorem b3_at (r : Fin 256) (d : Lane) : b3 m c t (ix2 r d) = ((Z (256 * t.val + r.val) d : ℝ) : EReal) := by
  have ht : t.val < 33 := t.isLt
  refine Eq.trans ?_ (h3 ⟨256 * t.val + r.val, by omega⟩ d)
  blk_ext! [iblk, widx t]
include h5 in
theorem b5_at (e k : Lane) : b5 m c t (ix2 e k) = ((Wg e k : ℝ) : EReal) := by
  refine Eq.trans ?_ (h5 e k)
  blk_ext! [iblk, widx t]
include h7 in
theorem b7_at (e k : Lane) : b7 m c t (ix2 e k) = ((Wo e k : ℝ) : EReal) := by
  refine Eq.trans ?_ (h7 e k)
  blk_ext! [iblk, widx t]
include h6 in
theorem b6_at (d : Lane) : b6 m c t (ix2 0 d) = ((b d : ℝ) : EReal) := by
  refine Eq.trans ?_ (h6 d)
  blk_ext! [iblk, widx t]
include h4 in
theorem b4_at (d : Lane) : b4 m c t (ix3 0 0 d) = ((S (sg t.val) d : ℝ) : EReal) := by
  unfold sg
  by_cases h : t.val = 0
  · rw [if_pos h]
    refine Eq.trans ?_ (h4 0 d)
    blk_ext! [iblk, widx0 t h]
  · rw [if_neg h]
    refine Eq.trans ?_ (h4 1 d)
    blk_ext! [iblk, widx1 t h]
end

/-- The two gradients of a row, and the terms of the four sums, row by row. -/
def fy (X A B Z : ℕ → Row) (S : Fin 2 → Row) (b : Row) (Wg Wo : Mat) (a : ℕ) (d : Lane) : ℝ := Cert.PostSpec.dyy (S (seg a)) (X a) Wo (ad (A a) (B a)) (Z a) Wg b d
def fz (X A B Z : ℕ → Row) (S : Fin 2 → Row) (b : Row) (Wg Wo : Mat) (a : ℕ) (d : Lane) : ℝ := Cert.PostSpec.gz (S (seg a)) (X a) Wo (ad (A a) (B a)) (Z a) Wg b d
def fg (X A B Z : ℕ → Row) (b : Row) (Wg Wo : Mat) (d : Lane) (a : ℕ) : ℝ := X a d * ou (ad (A a) (B a)) (Z a) Wg b Wo d
def fo (X A B Z : ℕ → Row) (S : Fin 2 → Row) (b : Row) (Wg : Mat) (e k : Lane) (a : ℕ) : ℝ := gm (ad (A a) (B a)) (Z a) Wg b e * gdx (S (seg a)) (X a) k
def fw (X A B Z : ℕ → Row) (S : Fin 2 → Row) (b : Row) (Wg Wo : Mat) (e k : Lane) (a : ℕ) : ℝ := gg (ad (A a) (B a)) e * dt (S (seg a)) (X a) Wo (ad (A a) (B a)) (Z a) Wg b k
def fb (X A B Z : ℕ → Row) (S : Fin 2 → Row) (b : Row) (Wg Wo : Mat) (d : Lane) (a : ℕ) : ℝ := dt (S (seg a)) (X a) Wo (ad (A a) (B a)) (Z a) Wg b d

section
variable (t : Fin cfg0.N)
include h0 h1 h2 h3 h4 h5 h6 h7 in
theorem o8_at (r : Fin 256) (d : Lane) : o8 m c t (ix2 r d) = ((fy X A B Z S b Wg Wo (256 * t.val + r.val) d : ℝ) : EReal) := by
  unfold o8
  refine (out8_at (b0_at m c X h0 t) (b4_at m c S h4 t) (b7_at m c Wo h7 t) (b3_at m c Z h3 t) (b1_at m c A h1 t) (b2_at m c B h2 t) (b5_at m c Wg h5 t) (b6_at m c b h6 t) r d).trans ?_
  simp only [fy, seg_tile]
include h0 h1 h2 h3 h4 h5 h6 h7 in
theorem o9_at (r : Fin 256) (d : Lane) : o9 m c t (ix2 r d) = ((fz X A B Z S b Wg Wo (256 * t.val + r.val) d : ℝ) : EReal) := by
  unfold o9
  refine (out9_at (b0_at m c X h0 t) (b4_at m c S h4 t) (b7_at m c Wo h7 t) (b3_at m c Z h3 t) (b1_at m c A h1 t) (b2_at m c B h2 t) (b5_at m c Wg h5 t) (b6_at m c b h6 t) r d).trans ?_
  simp only [fz, seg_tile]
include h0 h1 h2 h3 h5 h6 h7 in
theorem s10_at (q : Vec Ideal S1x1x1024 .f32) (Q : Row) (hQ : ∀ d, q (ix3 0 0 d) = ((Q d : ℝ) : EReal)) (d : Lane) :
    s10 m c t q (ix3 0 0 d) = ((Q d + ∑ r : Fin 256, fg X A B Z b Wg Wo d (256 * t.val + r.val) : ℝ) : EReal) := by
  unfold s10
  refine (out10_at (b0_at m c X h0 t) (b7_at m c Wo h7 t) (b3_at m c Z h3 t) (b1_at m c A h1 t) (b2_at m c B h2 t) (b5_at m c Wg h5 t) (b6_at m c b h6 t) hQ d).trans ?_
  simp only [fg, seg_tile]
include h0 h1 h2 h3 h4 h5 h6 in
theorem s11_at (q : Vec Ideal S1024x1024 .f32) (Q : Mat) (hQ : ∀ e k, q (ix2 e k) = ((Q e k : ℝ) : EReal)) (e k : Lane) :
    s11 m c t q (ix2 e k) = ((Q e k + ∑ r : Fin 256, fo X A B Z S b Wg e k (256 * t.val + r.val) : ℝ) : EReal) := by
  unfold s11
  refine (out11_at (b0_at m c X h0 t) (b4_at m c S h4 t) (b3_at m c Z h3 t) (b1_at m c A h1 t) (b2_at m c B h2 t) (b5_at m c Wg h5 t) (b6_at m c b h6 t) hQ e k).trans ?_
  simp only [fo, seg_tile]
include h0 h1 h2 h3 h4 h5 h6 h7 in
theorem s12_at (q : Vec Ideal S1024x1024 .f32) (Q : Mat) (hQ : ∀ e k, q (ix2 e k) = ((Q e k : ℝ) : EReal)) (e k : Lane) :
    s12 m c t q (ix2 e k) = ((Q e k + ∑ r : Fin 256, fw X A B Z S b Wg Wo e k (256 * t.val + r.val) : ℝ) : EReal) := by
  unfold s12
  refine (out12_at (b0_at m c X h0 t) (b4_at m c S h4 t) (b7_at m c Wo h7 t) (b3_at m c Z h3 t) (b1_at m c A h1 t) (b2_at m c B h2 t) (b5_at m c Wg h5 t) (b6_at m c b h6 t) hQ e k).trans ?_
  simp only [fw, seg_tile]
include h0 h1 h2 h3 h4 h5 h6 h7 in
theorem s13_at (q : Vec Ideal S1x1024 .f32) (Q : Row) (hQ : ∀ d, q (ix2 0 d) = ((Q d : ℝ) : EReal)) (d : Lane) :
    s13 m c t q (ix2 0 d) = ((Q d + ∑ r : Fin 256, fb X A B Z S b Wg Wo d (256 * t.val + r.val) : ℝ) : EReal) := by
  unfold s13
  refine (out13_at (b0_at m c X h0 t) (b4_at m c S h4 t) (b7_at m c Wo h7 t) (b3_at m c Z h3 t) (b1_at m c A h1 t) (b2_at m c B h2 t) (b5_at m c Wg h5 t) (b6_at m c b h6 t) hQ d).trans ?_
  simp only [fb, seg_tile]
end

include h0 h1 h2 h3 h4 h5 h6 in
/-- The sum's contents after point `n`: all rows up to it. -/
theorem o11_at : ∀ (n : ℕ) (h : n < cfg0.N) (e k : Lane), o11 m c n h (ix2 e k) = ((∑ a ∈ Finset.range (256 * (n + 1)), fo X A B Z S b Wg e k a : ℝ) : EReal)
  | 0, h => fun e k => by
    rw [o11_first m c ⟨0, h⟩ (by norm_num)]
    refine (s11_at m c X A B Z S b Wg h0 h1 h2 h3 h4 h5 h6 ⟨0, h⟩ _ (fun e k => 0) pay1_at e k).trans ?_
    rw [← sum_next, Finset.range_zero, Finset.sum_empty]
  | n + 1, h => fun e k => by
    have hn : n < cfg0.N := Nat.lt_of_succ_lt h
    rw [o11_next m c ⟨n + 1, h⟩ (by show ¬n + 1 < 1; omega)]
    refine (s11_at m c X A B Z S b Wg h0 h1 h2 h3 h4 h5 h6 ⟨n + 1, h⟩ _ (fun e k => ∑ a ∈ Finset.range (256 * (n + 1)), fo X A B Z S b Wg e k a) (fun e k => o11_at n hn e k) e k).trans ?_
    rw [← sum_next (fo X A B Z S b Wg e k) (n + 1)]
include h0 h1 h2 h3 h4 h5 h6 h7 in
/-- The sum's contents after point `n`: all rows up to it. -/
theorem o12_at : ∀ (n : ℕ) (h : n < cfg0.N) (e k : Lane), o12 m c n h (ix2 e k) = ((∑ a ∈ Finset.range (256 * (n + 1)), fw X A B Z S b Wg Wo e k a : ℝ) : EReal)
  | 0, h => fun e k => by
    rw [o12_first m c ⟨0, h⟩ (by norm_num)]
    refine (s12_at m c X A B Z S b Wg Wo h0 h1 h2 h3 h4 h5 h6 h7 ⟨0, h⟩ _ (fun e k => 0) pay2_at e k).trans ?_
    rw [← sum_next, Finset.range_zero, Finset.sum_empty]
  | n + 1, h => fun e k => by
    have hn : n < cfg0.N := Nat.lt_of_succ_lt h
    rw [o12_next m c ⟨n + 1, h⟩ (by show ¬n + 1 < 1; omega)]
    refine (s12_at m c X A B Z S b Wg Wo h0 h1 h2 h3 h4 h5 h6 h7 ⟨n + 1, h⟩ _ (fun e k => ∑ a ∈ Finset.range (256 * (n + 1)), fw X A B Z S b Wg Wo e k a) (fun e k => o12_at n hn e k) e k).trans ?_
    rw [← sum_next (fw X A B Z S b Wg Wo e k) (n + 1)]
include h0 h1 h2 h3 h4 h5 h6 h7 in
/-- The sum's contents after point `n`: all rows up to it. -/
theorem o13_at : ∀ (n : ℕ) (h : n < cfg0.N) (d : Lane), o13 m c n h (ix2 0 d) = ((∑ a ∈ Finset.range (256 * (n + 1)), fb X A B Z S b Wg Wo d a : ℝ) : EReal)
  | 0, h => fun d => by
    rw [o13_first m c ⟨0, h⟩ (by norm_num)]
    refine (s13_at m c X A B Z S b Wg Wo h0 h1 h2 h3 h4 h5 h6 h7 ⟨0, h⟩ _ (fun d => 0) pay3_at d).trans ?_
    rw [← sum_next, Finset.range_zero, Finset.sum_empty]
  | n + 1, h => fun d => by
    have hn : n < cfg0.N := Nat.lt_of_succ_lt h
    rw [o13_next m c ⟨n + 1, h⟩ (by show ¬n + 1 < 1; omega)]
    refine (s13_at m c X A B Z S b Wg Wo h0 h1 h2 h3 h4 h5 h6 h7 ⟨n + 1, h⟩ _ (fun d => ∑ a ∈ Finset.range (256 * (n + 1)), fb X A B Z S b Wg Wo d a) (fun d => o13_at n hn d) d).trans ?_
    rw [← sum_next (fb X A B Z S b Wg Wo d) (n + 1)]
include h0 h1 h2 h3 h5 h6 h7 in
/-- The first segment's sum. -/
theorem o10_ctx (t : Fin cfg0.N) (h : t.val = 0) (d : Lane) : o10 m c t.val t.isLt (ix3 0 0 d) = ((∑ r : Fin 256, fg X A B Z b Wg Wo d r.val : ℝ) : EReal) := by
  rw [o10_first m c t (by omega)]
  refine (s10_at m c X A B Z b Wg Wo h0 h1 h2 h3 h5 h6 h7 t _ (fun d => 0) pay4_at d).trans ?_
  rw [zero_add, h]
  norm_num
include h0 h1 h2 h3 h5 h6 h7 in
/-- The second segment's contents: all rows of the segment so far. -/
theorem o10_at : ∀ (n : ℕ) (h : n + 1 < cfg0.N) (d : Lane), o10 m c (n + 1) h (ix3 0 0 d) = ((∑ a ∈ Finset.range (256 * (n + 1)), fg X A B Z b Wg Wo d (256 + a) : ℝ) : EReal)
  | 0, h => fun d => by
    rw [o10_first m c ⟨0 + 1, h⟩ (by norm_num)]
    refine (s10_at m c X A B Z b Wg Wo h0 h1 h2 h3 h5 h6 h7 ⟨0 + 1, h⟩ _ (fun d => 0) pay4_at d).trans ?_
    rw [← sum_next (fun a => fg X A B Z b Wg Wo d (256 + a)), Finset.range_zero, Finset.sum_empty]
    simp only [Nat.mul_zero, Nat.zero_add, Nat.mul_one]
  | n + 1, h => fun d => by
    have hn : n + 1 < cfg0.N := Nat.lt_of_succ_lt h
    rw [o10_next m c ⟨n + 1 + 1, h⟩ (by show ¬n + 1 + 1 < 2; omega)]
    refine (s10_at m c X A B Z b Wg Wo h0 h1 h2 h3 h5 h6 h7 ⟨n + 1 + 1, h⟩ _ (fun d => ∑ a ∈ Finset.range (256 * (n + 1)), fg X A B Z b Wg Wo d (256 + a)) (fun d => o10_at n hn d) d).trans ?_
    rw [← sum_next (fun a => fg X A B Z b Wg Wo d (256 + a)) (n + 1)]
    simp only [show ∀ r : ℕ, 256 * (n + 1 + 1) + r = 256 + (256 * (n + 1) + r) from fun r => by ring]
include h0 h1 h2 h3 h4 h5 h6 h7 in
/-- A gradient of the stream's rows. -/
theorem arr8 : (dats m 0 c).arrAt 8 cfg0.N = (fun i : S8448x1024.Idx => ((fy X A B Z S b Wg Wo (i 0).val (i 1) : ℝ) : EReal) : FVec Ideal S8448x1024 .f32) := by
  refine (dats m 0 c).arrAt_eq_of_covers 8 _ (by decide +kernel) fun t hf y => ?_
  have e0 : (((cfg0.win 8).blk t).view.emb y 0).val = 256 * t.val + (y 0).val := by blk_simp [widxo t] <;> omega
  have e1 : ((cfg0.win 8).blk t).view.emb y 1 = (y 1 : Lane) := Fin.ext (by blk_simp [widxo t] <;> omega)
  have key : ∀ (a : ℕ) (d : Lane), a = 256 * t.val + (y 0).val → d = y 1 →
      (o8 m c t : FVec Ideal S256x1024 .f32) y = ((fy X A B Z S b Wg Wo a d : ℝ) : EReal) := by
    rintro _ _ rfl rfl
    exact (congrArg _ (ix_row (n := 256) (k := 1024) y)).trans (o8_at m c X A B Z S b Wg Wo h0 h1 h2 h3 h4 h5 h6 h7 t (y 0) (y 1))
  have k := key _ _ e0 e1
  refine Eq.trans ?_ k
  blk_simp
  rw [after8]
include h0 h1 h2 h3 h4 h5 h6 h7 in
/-- A gradient of the stream's rows. -/
theorem arr9 : (dats m 0 c).arrAt 9 cfg0.N = (fun i : S8448x1024.Idx => ((fz X A B Z S b Wg Wo (i 0).val (i 1) : ℝ) : EReal) : FVec Ideal S8448x1024 .f32) := by
  refine (dats m 0 c).arrAt_eq_of_covers 9 _ (by decide +kernel) fun t hf y => ?_
  have e0 : (((cfg0.win 9).blk t).view.emb y 0).val = 256 * t.val + (y 0).val := by blk_simp [widxo t] <;> omega
  have e1 : ((cfg0.win 9).blk t).view.emb y 1 = (y 1 : Lane) := Fin.ext (by blk_simp [widxo t] <;> omega)
  have key : ∀ (a : ℕ) (d : Lane), a = 256 * t.val + (y 0).val → d = y 1 →
      (o9 m c t : FVec Ideal S256x1024 .f32) y = ((fz X A B Z S b Wg Wo a d : ℝ) : EReal) := by
    rintro _ _ rfl rfl
    exact (congrArg _ (ix_row (n := 256) (k := 1024) y)).trans (o9_at m c X A B Z S b Wg Wo h0 h1 h2 h3 h4 h5 h6 h7 t (y 0) (y 1))
  have k := key _ _ e0 e1
  refine Eq.trans ?_ k
  blk_simp
  rw [after9]
include h0 h1 h2 h3 h4 h5 h6 in
/-- The gradient of the output's weight. -/
theorem arr11 : (dats m 0 c).arrAt 11 cfg0.N = (fun i : S1024x1024.Idx => ((∑ a ∈ Finset.range 8448, fo X A B Z S b Wg (i 0) (i 1) a : ℝ) : EReal) : FVec Ideal S1024x1024 .f32) := by
  refine (dats m 0 c).arrAt_eq_of_covers 11 _ (by decide +kernel) fun t hf y => ?_
  have hn := (flush11 t).1 hf
  have e0 : ((cfg0.win 11).blk t).view.emb y 0 = (y 0 : Lane) := Fin.ext (by blk_simp [widxo t] <;> omega)
  have e1 : ((cfg0.win 11).blk t).view.emb y 1 = (y 1 : Lane) := Fin.ext (by blk_simp [widxo t] <;> omega)
  have key : ∀ (e k : Lane), e = y 0 → k = y 1 →
      (o11 m c t.val t.isLt : FVec Ideal S1024x1024 .f32) y = ((∑ r ∈ Finset.range 8448, fo X A B Z S b Wg e k r : ℝ) : EReal) := by
    rintro _ _ rfl rfl
    refine (congrArg _ (ix_row (n := 1024) (k := 1024) y)).trans ((o11_at m c X A B Z S b Wg h0 h1 h2 h3 h4 h5 h6 t.val t.isLt (y 0) (y 1)).trans ?_)
    rw [hn]
  have k := key _ _ e0 e1
  refine Eq.trans ?_ k
  blk_simp
  rw [after11]
include h0 h1 h2 h3 h4 h5 h6 h7 in
/-- The gradient of the gated unit's weight. -/
theorem arr12 : (dats m 0 c).arrAt 12 cfg0.N = (fun i : S1024x1024.Idx => ((∑ a ∈ Finset.range 8448, fw X A B Z S b Wg Wo (i 0) (i 1) a : ℝ) : EReal) : FVec Ideal S1024x1024 .f32) := by
  refine (dats m 0 c).arrAt_eq_of_covers 12 _ (by decide +kernel) fun t hf y => ?_
  have hn := (flush12 t).1 hf
  have e0 : ((cfg0.win 12).blk t).view.emb y 0 = (y 0 : Lane) := Fin.ext (by blk_simp [widxo t] <;> omega)
  have e1 : ((cfg0.win 12).blk t).view.emb y 1 = (y 1 : Lane) := Fin.ext (by blk_simp [widxo t] <;> omega)
  have key : ∀ (e k : Lane), e = y 0 → k = y 1 →
      (o12 m c t.val t.isLt : FVec Ideal S1024x1024 .f32) y = ((∑ r ∈ Finset.range 8448, fw X A B Z S b Wg Wo e k r : ℝ) : EReal) := by
    rintro _ _ rfl rfl
    refine (congrArg _ (ix_row (n := 1024) (k := 1024) y)).trans ((o12_at m c X A B Z S b Wg Wo h0 h1 h2 h3 h4 h5 h6 h7 t.val t.isLt (y 0) (y 1)).trans ?_)
    rw [hn]
  have k := key _ _ e0 e1
  refine Eq.trans ?_ k
  blk_simp
  rw [after12]
include h0 h1 h2 h3 h4 h5 h6 h7 in
/-- The gradient of the gated unit's shift. -/
theorem arr13 : (dats m 0 c).arrAt 13 cfg0.N = (fun i : S1x1024.Idx => ((∑ a ∈ Finset.range 8448, fb X A B Z S b Wg Wo (i 1) a : ℝ) : EReal) : FVec Ideal S1x1024 .f32) := by
  refine (dats m 0 c).arrAt_eq_of_covers 13 _ (by decide +kernel) fun t hf y => ?_
  have hn := (flush13 t).1 hf
  have e1 : ((cfg0.win 13).blk t).view.emb y 1 = (y 1 : Lane) := Fin.ext (by blk_simp [widxo t] <;> omega)
  have key : ∀ (d : Lane), d = y 1 →
      (o13 m c t.val t.isLt : FVec Ideal S1x1024 .f32) y = ((∑ r ∈ Finset.range 8448, fb X A B Z S b Wg Wo d r : ℝ) : EReal) := by
    rintro _ rfl
    refine (congrArg _ (ix_one (k := 1024) y)).trans ((o13_at m c X A B Z S b Wg Wo h0 h1 h2 h3 h4 h5 h6 h7 t.val t.isLt (y 1)).trans ?_)
    rw [hn]
  have k := key _ e1
  refine Eq.trans ?_ k
  blk_simp
  rw [after13]
include h0 h1 h2 h3 h5 h6 h7 in
/-- The gradient of the two gates. -/
theorem arr10 : (dats m 0 c).arrAt 10 cfg0.N = (fun i : S2x1x1024.Idx =>
    (((if (i 0).val = 0 then ∑ r : Fin 256, fg X A B Z b Wg Wo (i 2) r.val else ∑ r : Fin 8192, fg X A B Z b Wg Wo (i 2) (256 + r.val)) : ℝ) : EReal) : FVec Ideal S2x1x1024 .f32) := by
  refine (dats m 0 c).arrAt_eq_of_covers 10 _ (by decide +kernel) fun t hf y => ?_
  have hy0 : (y 0).val < 1 := (y 0).isLt
  have key : ∀ (s : Fin 2) (d : Lane), s = sg t.val → d = y 2 →
      (o10 m c t.val t.isLt : FVec Ideal S1x1x1024 .f32) y = (((if s.val = 0 then ∑ r : Fin 256, fg X A B Z b Wg Wo d r.val else ∑ r : Fin 8192, fg X A B Z b Wg Wo d (256 + r.val)) : ℝ) : EReal) := by
    rintro _ _ rfl rfl
    rcases (flush10 t).1 hf with hn | hn
    · refine (congrArg _ (ix_11k y)).trans ((o10_ctx m c X A B Z b Wg Wo h0 h1 h2 h3 h5 h6 h7 t hn (y 2)).trans ?_)
      rw [show sg t.val = 0 from if_pos hn]
      exact congrArg (fun z : ℝ => (z : EReal)) (if_pos (c := (0 : Fin 2).val = 0) rfl).symm
    · refine (congrArg _ (ix_11k y)).trans ?_
      rw [show sg t.val = 1 from if_neg (by rw [hn]; norm_num)]
      have q : ∀ (n : ℕ) (hn : n < cfg0.N), n = 31 + 1 → o10 m c n hn (ix3 0 0 (y 2)) = ((∑ r : Fin 8192, fg X A B Z b Wg Wo (y 2) (256 + r.val) : ℝ) : EReal) := by
        rintro _ hn rfl
        refine (o10_at m c X A B Z b Wg Wo h0 h1 h2 h3 h5 h6 h7 31 hn (y 2)).trans ?_
        rw [Finset.sum_range (fun a => fg X A B Z b Wg Wo (y 2) (256 + a))]
      exact (q t.val t.isLt hn).trans (congrArg (fun z : ℝ => (z : EReal)) (if_neg (c := (1 : Fin 2).val = 0) (by norm_num)).symm)
  by_cases h : t.val = 0
  · have e0 : ((cfg0.win 10).blk t).view.emb y 0 = sg t.val := Fin.ext (by rw [h]; show _ = 0; blk_simp [widx0 t h] <;> omega)
    have e2 : ((cfg0.win 10).blk t).view.emb y 2 = (y 2 : Lane) := Fin.ext (by blk_simp [widx0 t h] <;> omega)
    have k := key _ _ e0 e2
    refine Eq.trans ?_ k
    blk_simp
    rw [after10]
  · have e0 : ((cfg0.win 10).blk t).view.emb y 0 = sg t.val := Fin.ext (by unfold sg; rw [if_neg h]; show _ = 1; blk_simp [widx1 t h] <;> omega)
    have e2 : ((cfg0.win 10).blk t).view.emb y 2 = (y 2 : Lane) := Fin.ext (by blk_simp [widx1 t h] <;> omega)
    have k := key _ _ e0 e2
    refine Eq.trans ?_ k
    blk_simp
    rw [after10]
end
/-- The host reads the argument in the blocks' shape. -/
theorem V0_at (s : Fin 2) (d : Lane) : (V m c main_v0 : FVec Ideal S2x1x1024 .f32) (ix3 s 0 d) = (m ((c : Thread nD τ).loc main_arg3) : FVec Ideal S2x1024 .f32) (ix2 s d) := by
  have e : (V m c main_v0 : FVec Ideal S2x1x1024 .f32) = shapeCast S2x1x1024 (m ((c : Thread nD τ).loc main_arg3) : FVec Ideal S2x1024 .f32) shapeCasts_S2x1024_S2x1x1024 := by
    show StableHlo.after hostOps0 _ (Proc.devRef .tc main_v0) = _
    entry_read
    rfl
  rw [e]
  pointwise []
/-- The host reads the argument in the blocks' shape. -/
theorem V1_at (d : Lane) : (V m c main_v1 : FVec Ideal S1x1024 .f32) (ix2 0 d) = (m ((c : Thread nD τ).loc main_arg5) : FVec Ideal S1024 .f32) (ix1 d) := by
  have e : (V m c main_v1 : FVec Ideal S1x1024 .f32) = shapeCast S1x1024 (m ((c : Thread nD τ).loc main_arg5) : FVec Ideal S1024 .f32) shapeCasts_S1024_S1x1024 := by
    show StableHlo.after hostOps0 _ (Proc.devRef .tc main_v1) = _
    entry_read
    rfl
  rw [e]
  pointwise []
end Cert.PostArr
end
-- ==== Proof.PostRef.lean ====
module

public import proofs.«01_k».proof.Proof.Gen.Reference3Ideal.Run
public import proofs.«01_k».proof.Proof.Gen.Reference3Ideal.Read
public import proofs.«01_k».proof.Proof.PostSpec
public import Idealize.ShloMosaic.Lib.Pointwise
public import Idealize.ShloMosaic.Lib.Claim
public import proofs.«01_k».proof.Proof.Coes
@[expose] public section

/-!
The derivative's program of the output branch read stage by stage on real arguments.
-/

set_option maxRecDepth 16384

noncomputable section

open Idealize.ShloMosaic Idealize.SL.Sem
namespace Cert.PostRef
open Cert.Reference3Ideal Cert.Reference3Ideal.Read Cert.Reals Cert.LossSpec Cert.PostSpec

/-- The constants of the reference. -/
theorem csts (i : S_.Idx) : val_main_cst (F := Ideal) i = ((1 / 2 : ℝ) : EReal)
    ∧ val_main_cst_0 (F := Ideal) i = ((2 : ℝ) : EReal)
    ∧ val_main_cst_1 (F := Ideal) i = ((1 : ℝ) : EReal)
    ∧ val_main_cst_2 (F := Ideal) i = ((1 : ℝ) : EReal)
    ∧ val_main_cst_3 (F := Ideal) i = ((1 : ℝ) : EReal)
    ∧ val_main_cst_4 (F := Ideal) i = ((1 : ℝ) : EReal)
    ∧ val_main_call0_cst (F := Ideal) i = ((1 : ℝ) : EReal)
    ∧ val_main_call0_cst_0 (F := Ideal) i = ((1 : ℝ) : EReal)
    ∧ val_main_call0_cst_1 (F := Ideal) i = ((1 : ℝ) : EReal)
    ∧ val_main_cst_5 (F := Ideal) i = 0
    ∧ val_main_cst_6 (F := Ideal) i = 0
    ∧ val_main_cst_7 (F := Ideal) i = 0
    ∧ val_main_cst_8 (F := Ideal) i = 0
    ∧ val_main_cst_9 (F := Ideal) i = 0
    ∧ val_main_cst_10 (F := Ideal) i = 0
    ∧ val_main_cst_11 (F := Ideal) i = 0
    ∧ val_main_cst_12 (F := Ideal) i = 0
    ∧ val_main_cst_13 (F := Ideal) i = 0
    ∧ val_main_cst_14 (F := Ideal) i = 0
    ∧ val_main_cst_15 (F := Ideal) i = ((9465531 / 8388608 : ℝ) : EReal)
    ∧ val_main_cst_16 (F := Ideal) i = ((1 / 2 : ℝ) : EReal) :=
  ⟨bits_half, bits_two, bits_1, bits_1, bits_1, bits_1, bits_1, bits_1, bits_1, bits_0, bits_0, bits_0, bits_0, bits_0, bits_0, bits_0, bits_0, bits_0, bits_0, bits_slope, bits_half⟩
theorem root_v (i : S_.Idx) : val_main_v4 (F := Ideal) i = ((Real.sqrt 2 : ℝ) : EReal) := by
  show Ideal.sqrt (val_main_cst_0 (F := Ideal) i) = _
  rw [(csts i).2.1]
  exact sqrt_two
theorem sig_of (r : ℝ) : Ideal.div ((1 : ℝ) : EReal) ((1 + Real.exp (-r) : ℝ) : EReal) = ((sig r : ℝ) : EReal) :=
  div_coe _ _ (by positivity)

variable (x0 x1 x2 : (⟨S8448x1024, .f32⟩ : BufTy).Contents (Elt Ideal)) (x3 : (⟨S2x1024, .f32⟩ : BufTy).Contents (Elt Ideal))
  (x4 : (⟨S1024x1024, .f32⟩ : BufTy).Contents (Elt Ideal)) (x5 : (⟨S1024, .f32⟩ : BufTy).Contents (Elt Ideal))
  (x6 : (⟨S1024x1024, .f32⟩ : BufTy).Contents (Elt Ideal)) (x7 : (⟨S8448x1024, .f32⟩ : BufTy).Contents (Elt Ideal))
  (A B Z X : ℕ → Row) (S : Fin 2 → Row) (b : Row) (Wg Wo : Mat)

/-- The arguments are real arrays. -/
structure Args : Prop where
  h0 : ∀ (a : Fin 8448) (d : Lane), x0 (ix2 a d) = ((A a.val d : ℝ) : EReal)
  h1 : ∀ (a : Fin 8448) (d : Lane), x1 (ix2 a d) = ((B a.val d : ℝ) : EReal)
  h2 : ∀ (a : Fin 8448) (d : Lane), x2 (ix2 a d) = ((Z a.val d : ℝ) : EReal)
  h3 : ∀ (s : Fin 2) (d : Lane), x3 (ix2 s d) = ((S s d : ℝ) : EReal)
  h4 : ∀ (e k : Lane), x4 (ix2 e k) = ((Wg e k : ℝ) : EReal)
  h5 : ∀ d : Lane, x5 (ix1 d) = ((b d : ℝ) : EReal)
  h6 : ∀ (e k : Lane), x6 (ix2 e k) = ((Wo e k : ℝ) : EReal)
  h7 : ∀ (a : Fin 8448) (d : Lane), x7 (ix2 a d) = ((X a.val d : ℝ) : EReal)

variable {x0 x1 x2 x3 x4 x5 x6 x7 A B Z X S b Wg Wo} (hA : Args x0 x1 x2 x3 x4 x5 x6 x7 A B Z X S b Wg Wo)

include hA

/-- The stream's rows and the gates of their segments. -/
abbrev Y (A B : ℕ → Row) (a : ℕ) : Row := ad (A a) (B a)
abbrev sgate (S : Fin 2 → Row) (a : ℕ) : Row := S (Cert.SsminSpec.seg a)

theorem v0_at (a : Fin 8448) (d : Lane) : val_main_v0 (F := Ideal) x0 x1 (ix2 a d) = ((Y A B a.val d : ℝ) : EReal) := by
  unfold val_main_v0
  pointwise []
  simp only [hA.h0, hA.h1, csts, root_v, erf_real, exp_coe, div_coe _ _ root_ne, ← EReal.coe_neg, ← EReal.coe_one, coes, add_zero]
  rfl

theorem v2_at (a : Fin 8448) (d : Lane) : val_main_v2 (F := Ideal) x0 x1 (ix2 a d) = ((1 / 2 * Y A B a.val d : ℝ) : EReal) := by
  unfold val_main_v2 val_main_v1
  have e0 := v0_at hA
  generalize val_main_v0 (F := Ideal) x0 x1 = y0 at e0 ⊢
  pointwise []
  simp only [e0, csts, root_v, erf_real, exp_coe, div_coe _ _ root_ne, ← EReal.coe_neg, ← EReal.coe_one, coes, add_zero]

theorem v6_at (a : Fin 8448) (d : Lane) : val_main_v6 (F := Ideal) x0 x1 (ix2 a d) = ((Y A B a.val d / Real.sqrt 2 : ℝ) : EReal) := by
  unfold val_main_v6 val_main_v5
  have e0 := v0_at hA
  generalize val_main_v0 (F := Ideal) x0 x1 = y0 at e0 ⊢
  pointwise []
  simp only [e0, csts, root_v, erf_real, exp_coe, div_coe _ _ root_ne, ← EReal.coe_neg, ← EReal.coe_one, coes, add_zero]

theorem v12_at (a : Fin 8448) (d : Lane) : val_main_v12 (F := Ideal) x0 x1 (ix2 a d) = ((1 + gerf (Y A B a.val) d : ℝ) : EReal) := by
  unfold val_main_v12 val_main_v11 val_main_v7
  have e0 := v6_at hA
  generalize val_main_v6 (F := Ideal) x0 x1 = y0 at e0 ⊢
  pointwise []
  simp only [e0, csts, root_v, erf_real, exp_coe, div_coe _ _ root_ne, ← EReal.coe_neg, ← EReal.coe_one, coes, add_zero]
  rw [div_eq_mul_inv]
  rfl

theorem v13_at (a : Fin 8448) (d : Lane) : val_main_v13 (F := Ideal) x0 x1 (ix2 a d) = ((gg (Y A B a.val) d : ℝ) : EReal) := by
  unfold val_main_v13
  have e0 := v2_at hA
  generalize val_main_v2 (F := Ideal) x0 x1 = y0 at e0 ⊢
  have e1 := v12_at hA
  generalize val_main_v12 (F := Ideal) x0 x1 = y1 at e1 ⊢
  pointwise []
  simp only [e0, e1, csts, root_v, erf_real, exp_coe, div_coe _ _ root_ne, ← EReal.coe_neg, ← EReal.coe_one, coes, add_zero]
  rfl

theorem v23_at (a : Fin 8448) (d : Lane) : val_main_v23 (F := Ideal) x0 x1 x4 x5 (ix2 a d) = ((sg (Y A B a.val) Wg b d : ℝ) : EReal) := by
  unfold val_main_v23 val_main_v22 val_main_v21 val_main_v20 val_main_v19 val_main_v18 val_main_v17 val_main_v14 val_main_v16 val_main_v15
  have e0 := v13_at hA
  generalize val_main_v13 (F := Ideal) x0 x1 = y0 at e0 ⊢
  pointwise []
  simp only [e0, hA.h4, hA.h5, sig_of, csts, root_v, erf_real, exp_coe, div_coe _ _ root_ne, ← EReal.coe_neg, ← EReal.coe_one, coes, add_zero]
  rfl

theorem v26_at (a : Fin 8448) (d : Lane) : val_main_v26 (F := Ideal) x0 x1 x4 x5 (ix2 a d) = ((sg (Y A B a.val) Wg b d * (1 - sg (Y A B a.val) Wg b d) : ℝ) : EReal) := by
  unfold val_main_v26 val_main_v25 val_main_v24
  have e0 := v23_at hA
  generalize val_main_v23 (F := Ideal) x0 x1 x4 x5 = y0 at e0 ⊢
  pointwise []
  simp only [e0, csts, root_v, erf_real, exp_coe, div_coe _ _ root_ne, ← EReal.coe_neg, ← EReal.coe_one, coes, add_zero]

theorem v27_at (a : Fin 8448) (d : Lane) : val_main_v27 (F := Ideal) x0 x1 x4 x5 (ix2 a d) = ((g2 (Y A B a.val) Wg b d : ℝ) : EReal) := by
  unfold val_main_v27
  have e0 := v13_at hA
  generalize val_main_v13 (F := Ideal) x0 x1 = y0 at e0 ⊢
  have e1 := v23_at hA
  generalize val_main_v23 (F := Ideal) x0 x1 x4 x5 = y1 at e1 ⊢
  pointwise []
  simp only [e0, e1, csts, root_v, erf_real, exp_coe, div_coe _ _ root_ne, ← EReal.coe_neg, ← EReal.coe_one, coes, add_zero]
  rfl

theorem v28_2_at (a : Fin 8448) (d : Lane) : val_main_v28_2 (F := Ideal) x2 (ix2 a d) = ((sig (Z a.val d) : ℝ) : EReal) := by
  unfold val_main_v28_2 val_main_call0_v4 val_main_call0_v3 val_main_call0_v2 val_main_call0_v1 val_main_call0_v0
  pointwise []
  simp only [hA.h2, sig_of, csts, root_v, erf_real, exp_coe, div_coe _ _ root_ne, ← EReal.coe_neg, ← EReal.coe_one, coes, add_zero]

theorem v28_1_at (a : Fin 8448) (d : Lane) : val_main_v28_1 (F := Ideal) x2 (ix2 a d) = ((sig (Z a.val d) * (1 - sig (Z a.val d)) : ℝ) : EReal) := by
  unfold val_main_v28_1 val_main_call0_v7 val_main_call0_v6
  have e0 := v28_2_at hA
  generalize val_main_v28_2 (F := Ideal) x2 = y0 at e0 ⊢
  pointwise []
  simp only [e0, csts, root_v, erf_real, exp_coe, div_coe _ _ root_ne, ← EReal.coe_neg, ← EReal.coe_one, coes, add_zero]

theorem v28_0_at (a : Fin 8448) (d : Lane) : val_main_v28_0 (F := Ideal) x2 (ix2 a d) = ((sl (Z a.val) d : ℝ) : EReal) := by
  unfold val_main_v28_0
  have e0 := v28_2_at hA
  generalize val_main_v28_2 (F := Ideal) x2 = y0 at e0 ⊢
  pointwise []
  simp only [e0, hA.h2, csts, root_v, erf_real, exp_coe, div_coe _ _ root_ne, ← EReal.coe_neg, ← EReal.coe_one, coes, add_zero]
  rfl

theorem v29_at (a : Fin 8448) (d : Lane) : val_main_v29 (F := Ideal) x0 x1 x2 x4 x5 (ix2 a d) = ((gm (Y A B a.val) (Z a.val) Wg b d : ℝ) : EReal) := by
  unfold val_main_v29
  have e0 := v27_at hA
  generalize val_main_v27 (F := Ideal) x0 x1 x4 x5 = y0 at e0 ⊢
  have e1 := v28_0_at hA
  generalize val_main_v28_0 (F := Ideal) x2 = y1 at e1 ⊢
  pointwise []
  simp only [e0, e1, csts, root_v, erf_real, exp_coe, div_coe _ _ root_ne, ← EReal.coe_neg, ← EReal.coe_one, coes, add_zero]
  rfl

theorem v30_at (a : Fin 8448) (d : Lane) : val_main_v30 (F := Ideal) x0 x1 x2 x4 x5 x6 (ix2 a d) = ((ou (Y A B a.val) (Z a.val) Wg b Wo d : ℝ) : EReal) := by
  unfold val_main_v30
  have e0 := v29_at hA
  generalize val_main_v29 (F := Ideal) x0 x1 x2 x4 x5 = y0 at e0 ⊢
  pointwise []
  simp only [e0, hA.h6, csts, root_v, erf_real, exp_coe, div_coe _ _ root_ne, ← EReal.coe_neg, ← EReal.coe_one, coes, add_zero]
  rfl

theorem v92a_at (d : Lane) : val_main_v92 (F := Ideal) x0 x1 x2 x4 x5 x6 x7 (ix3 0 0 d) = ((∑ a : Fin 256, X a.val d * ou (Y A B a.val) (Z a.val) Wg b Wo d : ℝ) : EReal) := by
  unfold val_main_v92 val_main_v65 val_main_v64 val_main_v63 val_main_v60 val_main_v59 val_main_v58 val_main_v57 val_main_v44 val_main_v33
  unfold val_main_v54 val_main_v53 val_main_v51 val_main_v50 val_main_v49 val_main_v48 val_main_v45 val_main_v39
  have e0 := v30_at hA
  generalize val_main_v30 (F := Ideal) x0 x1 x2 x4 x5 x6 = y0 at e0 ⊢
  pointwise []
  simp only [e0, hA.h7, csts, root_v, erf_real, exp_coe, div_coe _ _ root_ne, ← EReal.coe_neg, ← EReal.coe_one, coes, add_zero]

theorem v92b_at (d : Lane) : val_main_v92 (F := Ideal) x0 x1 x2 x4 x5 x6 x7 (ix3 1 0 d) = ((∑ a : Fin 8192, X (256 + a.val) d * ou (Y A B (256 + a.val)) (Z (256 + a.val)) Wg b Wo d : ℝ) : EReal) := by
  unfold val_main_v92 val_main_v65 val_main_v64 val_main_v63 val_main_v60 val_main_v59 val_main_v58 val_main_v57 val_main_v44 val_main_v33
  unfold val_main_v54 val_main_v53 val_main_v51 val_main_v50 val_main_v49 val_main_v48 val_main_v45 val_main_v39
  have e0 := v30_at hA
  generalize val_main_v30 (F := Ideal) x0 x1 x2 x4 x5 x6 = y0 at e0 ⊢
  pointwise []
  simp only [e0, hA.h7, csts, root_v, erf_real, exp_coe, div_coe _ _ root_ne, ← EReal.coe_neg, ← EReal.coe_one, coes, add_zero]

theorem v62_at (a : Fin 8448) (d : Lane) : val_main_v62 (F := Ideal) x3 x7 (ix2 a d) = ((gdx (sgate S a.val) (X a.val) d : ℝ) : EReal) := by
  unfold val_main_v62 val_main_v61 val_main_v56 val_main_v55 val_main_v34 val_main_v32 val_main_v31 val_main_v44 val_main_v52 val_main_v47 val_main_v46 val_main_v40 val_main_v38 val_main_v37 val_main_v45
  pointwise []
  unfold gdx sgate Cert.SsminSpec.seg
  have ha := a.isLt
  by_cases h : a.val < 256
  · simp [h, show ¬(256 ≤ a.val ∧ a.val - 256 < 8192) by omega, hA.h3, hA.h7, csts, ← EReal.coe_mul]
  · simp [h, show (256 ≤ a.val ∧ a.val - 256 < 8192) by omega, show 256 + (a.val - 256) = a.val by omega, hA.h3, hA.h7, csts, ← EReal.coe_mul]

theorem v68_at (a : Fin 8448) (d : Lane) : val_main_v68 (F := Ideal) x3 x6 x7 (ix2 a d) = ((dm (sgate S a.val) (X a.val) Wo d : ℝ) : EReal) := by
  unfold val_main_v68
  have e0 := v62_at hA
  generalize val_main_v62 (F := Ideal) x3 x7 = y0 at e0 ⊢
  pointwise []
  simp only [e0, hA.h6, csts, root_v, erf_real, exp_coe, div_coe _ _ root_ne, ← EReal.coe_neg, ← EReal.coe_one, coes, add_zero]
  rfl

theorem v67_at (e k : Lane) : val_main_v67 (F := Ideal) x0 x1 x2 x3 x4 x5 x7 (ix2 e k) = ((∑ a : Fin 8448, gm (Y A B a.val) (Z a.val) Wg b e * gdx (sgate S a.val) (X a.val) k : ℝ) : EReal) := by
  unfold val_main_v67 val_main_v66
  have e0 := v62_at hA
  generalize val_main_v62 (F := Ideal) x3 x7 = y0 at e0 ⊢
  have e1 := v29_at hA
  generalize val_main_v29 (F := Ideal) x0 x1 x2 x4 x5 = y1 at e1 ⊢
  pointwise []
  simp only [e0, e1, csts, root_v, erf_real, exp_coe, div_coe _ _ root_ne, ← EReal.coe_neg, ← EReal.coe_one, coes, add_zero]
  exact congrArg (fun z : ℝ => (z : EReal)) (by exact Finset.sum_congr rfl fun _ _ => mul_comm _ _)

theorem v70_at (a : Fin 8448) (d : Lane) : val_main_v70 (F := Ideal) x2 x3 x6 x7 (ix2 a d) = ((dgt (sgate S a.val) (X a.val) Wo (Z a.val) d : ℝ) : EReal) := by
  unfold val_main_v70
  have e0 := v68_at hA
  generalize val_main_v68 (F := Ideal) x3 x6 x7 = y0 at e0 ⊢
  have e1 := v28_0_at hA
  generalize val_main_v28_0 (F := Ideal) x2 = y1 at e1 ⊢
  pointwise []
  simp only [e0, e1, csts, root_v, erf_real, exp_coe, div_coe _ _ root_ne, ← EReal.coe_neg, ← EReal.coe_one, coes, add_zero]
  rfl

theorem v71_at (a : Fin 8448) (d : Lane) : val_main_v71 (F := Ideal) x0 x1 x2 x3 x4 x5 x6 x7 (ix2 a d) = ((gz (sgate S a.val) (X a.val) Wo (Y A B a.val) (Z a.val) Wg b d : ℝ) : EReal) := by
  unfold val_main_v71 val_main_call1_v1 val_main_call1_v2 val_main_call1_v0 val_main_v69
  have e0 := v68_at hA
  generalize val_main_v68 (F := Ideal) x3 x6 x7 = y0 at e0 ⊢
  have e1 := v27_at hA
  generalize val_main_v27 (F := Ideal) x0 x1 x4 x5 = y1 at e1 ⊢
  have e2 := v28_2_at hA
  generalize val_main_v28_2 (F := Ideal) x2 = y2 at e2 ⊢
  have e3 := v28_1_at hA
  generalize val_main_v28_1 (F := Ideal) x2 = y3 at e3 ⊢
  pointwise []
  simp only [e0, e1, e2, e3, hA.h2, csts, root_v, erf_real, exp_coe, div_coe _ _ root_ne, ← EReal.coe_neg, ← EReal.coe_one, coes, add_zero]
  exact congrArg (fun z : ℝ => (z : EReal)) (by unfold gz; rw [← silu_chain]; ring)

theorem v74_at (a : Fin 8448) (d : Lane) : val_main_v74 (F := Ideal) x0 x1 x2 x3 x4 x5 x6 x7 (ix2 a d) = ((dt (sgate S a.val) (X a.val) Wo (Y A B a.val) (Z a.val) Wg b d : ℝ) : EReal) := by
  unfold val_main_v74 val_main_v72
  have e0 := v13_at hA
  generalize val_main_v13 (F := Ideal) x0 x1 = y0 at e0 ⊢
  have e1 := v70_at hA
  generalize val_main_v70 (F := Ideal) x2 x3 x6 x7 = y1 at e1 ⊢
  have e2 := v26_at hA
  generalize val_main_v26 (F := Ideal) x0 x1 x4 x5 = y2 at e2 ⊢
  pointwise []
  simp only [e0, e1, e2, csts, root_v, erf_real, exp_coe, div_coe _ _ root_ne, ← EReal.coe_neg, ← EReal.coe_one, coes, add_zero]
  exact congrArg (fun z : ℝ => (z : EReal)) (by unfold dt; ring)

theorem v93_at (d : Lane) : val_main_v93 (F := Ideal) x0 x1 x2 x3 x4 x5 x6 x7 (ix2 0 d) = ((∑ a : Fin 8448, dt (sgate S a.val) (X a.val) Wo (Y A B a.val) (Z a.val) Wg b d : ℝ) : EReal) := by
  unfold val_main_v93 val_main_v77 val_main_v76 val_main_v75
  have e0 := v74_at hA
  generalize val_main_v74 (F := Ideal) x0 x1 x2 x3 x4 x5 x6 x7 = y0 at e0 ⊢
  pointwise []
  simp only [e0, csts, root_v, erf_real, exp_coe, div_coe _ _ root_ne, ← EReal.coe_neg, ← EReal.coe_one, coes, add_zero]

theorem v79_at (e k : Lane) : val_main_v79 (F := Ideal) x0 x1 x2 x3 x4 x5 x6 x7 (ix2 e k) = ((∑ a : Fin 8448, gg (Y A B a.val) e * dt (sgate S a.val) (X a.val) Wo (Y A B a.val) (Z a.val) Wg b k : ℝ) : EReal) := by
  unfold val_main_v79 val_main_v78
  have e0 := v74_at hA
  generalize val_main_v74 (F := Ideal) x0 x1 x2 x3 x4 x5 x6 x7 = y0 at e0 ⊢
  have e1 := v13_at hA
  generalize val_main_v13 (F := Ideal) x0 x1 = y1 at e1 ⊢
  pointwise []
  simp only [e0, e1, csts, root_v, erf_real, exp_coe, div_coe _ _ root_ne, ← EReal.coe_neg, ← EReal.coe_one, coes, add_zero]
  exact congrArg (fun z : ℝ => (z : EReal)) (by exact Finset.sum_congr rfl fun _ _ => mul_comm _ _)

theorem v81_at (a : Fin 8448) (d : Lane) : val_main_v81 (F := Ideal) x0 x1 x2 x3 x4 x5 x6 x7 (ix2 a d) = ((dgl (sgate S a.val) (X a.val) Wo (Y A B a.val) (Z a.val) Wg b d : ℝ) : EReal) := by
  unfold val_main_v81 val_main_v73 val_main_v80
  have e0 := v70_at hA
  generalize val_main_v70 (F := Ideal) x2 x3 x6 x7 = y0 at e0 ⊢
  have e1 := v23_at hA
  generalize val_main_v23 (F := Ideal) x0 x1 x4 x5 = y1 at e1 ⊢
  have e2 := v74_at hA
  generalize val_main_v74 (F := Ideal) x0 x1 x2 x3 x4 x5 x6 x7 = y2 at e2 ⊢
  pointwise []
  simp only [e0, e1, e2, hA.h4, csts, root_v, erf_real, exp_coe, div_coe _ _ root_ne, ← EReal.coe_neg, ← EReal.coe_one, coes, add_zero]
  rfl

theorem v91_at (a : Fin 8448) (d : Lane) : val_main_v91 (F := Ideal) x0 x1 x2 x3 x4 x5 x6 x7 (ix2 a d) = ((dyy (sgate S a.val) (X a.val) Wo (Y A B a.val) (Z a.val) Wg b d : ℝ) : EReal) := by
  unfold val_main_v91 val_main_v88 val_main_v86 val_main_v85 val_main_v84 val_main_v82 val_main_v10 val_main_v9 val_main_v8 val_main_v87 val_main_v90
  unfold val_main_v89 val_main_v83
  have e0 := v2_at hA
  generalize val_main_v2 (F := Ideal) x0 x1 = y0 at e0 ⊢
  have e1 := v81_at hA
  generalize val_main_v81 (F := Ideal) x0 x1 x2 x3 x4 x5 x6 x7 = y1 at e1 ⊢
  have e2 := v6_at hA
  generalize val_main_v6 (F := Ideal) x0 x1 = y2 at e2 ⊢
  have e3 := v12_at hA
  generalize val_main_v12 (F := Ideal) x0 x1 = y3 at e3 ⊢
  pointwise []
  simp only [e0, e1, e2, e3, csts, root_v, erf_real, exp_coe, div_coe _ _ root_ne, ← EReal.coe_neg, ← EReal.coe_one, coes, add_zero]
  exact congrArg (fun z : ℝ => (z : EReal)) (by unfold dyy; exact gauss_chain _ _ _)

end Cert.PostRef
end
-- ==== Proof.PostWords.lean ====
module

public import proofs.«01_k».proof.Defs
public import proofs.«01_k».proof.Proof.PostFrame
public import proofs.«01_k».proof.Proof.Gen.Kernel3Ideal.Frame
public import proofs.«01_k».proof.Proof.Gen.Kernel3

@[expose] public section

/-!
The output branch's gradient over words: with each named constant read as its own pattern, the ideal form's program is
the program over words, so its frame is too.
-/

set_option maxRecDepth 16384

noncomputable section

open Idealize.ShloMosaic Idealize.SL.Sem TcCoe

/-- Over words a named constant is its pattern. -/
@[reducible] def Cert.PostWords.pat : Named Bits := ⟨fun _ _ {φ} b => Scalar.ofBits (F := Bits) φ b⟩

set_option maxHeartbeats 8000000 in
/-- The two programs call the same bodies. -/
theorem Cert.PostWords.defs_eq : Cert.Kernel3.defs (F := Bits) = @Cert.Kernel3Ideal.defs Bits _ Cert.PostWords.pat _ := by
  have e : Cert.Kernel3.defs₀ (F := Bits) = @Cert.Kernel3Ideal.defs₀ Bits _ Cert.PostWords.pat _ := by
    unfold Cert.Kernel3.defs₀ Cert.Kernel3Ideal.defs₀
    refine congrArg Defs.onTc (funext fun l => funext fun a => ?_)
    match l, a with
    | ⟨0, _⟩, (t, s) => rfl
  exact congrArg (Pipeline.defs (Cert.Kernel3Ideal.pcfgs (F := Bits))) e

/-- The frame over words. -/
theorem Cert.PostWords.words : Cert.quiescent_Kernel3 := fun m ρ _ => by
  letI := Cert.PostWords.pat
  have k := (θ_run_and (Cert.Kernel3Ideal.Gen.frame_of (F := Bits) m ρ (Cert.Post.dats m) (Cert.Post.A_eq m) (Cert.Post.run_post m ρ)) (Cert.Post.run_quiescent m ρ))
  rw [← Cert.PostWords.defs_eq] at k
  exact (θ_run (Cert.Kernel3.defs (F := Bits)) _ _).mono (fun _ h => And.intro h.1 h.2.2) k
-- ==== Proof.PostClaim.lean ====
module

public import proofs.«01_k».proof.Defs
public import proofs.«01_k».proof.Proof.PostArr
public import proofs.«01_k».proof.Proof.PostRef
public import proofs.«01_k».proof.Proof.PostWords
public import proofs.«01_k».proof.Proof.Gen.Kernel3Ideal.Frame
public import proofs.«01_k».proof.Proof.Gen.Reference3Ideal.Run
public import proofs.«01_k».proof.Proof.Gen.Pre_finite3
public import Idealize.ShloMosaic.Lib.Claim

@[expose] public section

/-!
The output branch's gradient: the programs' frames and the equality of their results.
-/

set_option maxRecDepth 16384

noncomputable section

open Idealize.ShloMosaic Idealize.SL.Sem TcCoe
namespace Cert.PostClaim
open Cert.Kernel3Ideal Cert.Reals Cert.LossSpec Cert.SsminSpec Cert.Tiles
open Cert.PostSpec (Mat)

/-- The precondition says that every argument is real. -/
theorem real_of_pre (x0 : FVec Ideal Pre_finite3.S8448x1024 .f32) (x1 : FVec Ideal Pre_finite3.S8448x1024 .f32) (x2 : FVec Ideal Pre_finite3.S8448x1024 .f32) (x3 : FVec Ideal Pre_finite3.S2x1024 .f32) (x4 : FVec Ideal Pre_finite3.S1024x1024 .f32) (x5 : FVec Ideal Pre_finite3.S1024 .f32) (x6 : FVec Ideal Pre_finite3.S1024x1024 .f32) (x7 : FVec Ideal Pre_finite3.S8448x1024 .f32)
    (j : Pre_finite3.S_.Idx) (h : Pre_finite3.fn (F := Ideal) x0 x1 x2 x3 x4 x5 x6 x7 j = 1#1) :
    AllReal x0 ∧ AllReal x1 ∧ AllReal x2 ∧ AllReal x3 ∧ AllReal x4 ∧ AllReal x5 ∧ AllReal x6 ∧ AllReal x7 := by
  have s : Subsingleton Pre_finite3.S_.Idx := ⟨fun a b => funext fun q => q.elim0⟩
  obtain ⟨g7, q7⟩ := and_one h
  obtain ⟨g6, q6⟩ := and_one g7
  obtain ⟨g5, q5⟩ := and_one g6
  obtain ⟨g4, q4⟩ := and_one g5
  obtain ⟨g3, q3⟩ := and_one g4
  obtain ⟨g2, q2⟩ := and_one g3
  obtain ⟨q0, q1⟩ := and_one g2
  exact ⟨allReal_of_all _ _ _ _ _ _ _ q0, allReal_of_all _ _ _ _ _ _ _ q1, allReal_of_all _ _ _ _ _ _ _ q2, allReal_of_all _ _ _ _ _ _ _ q3, allReal_of_all _ _ _ _ _ _ _ q4, allReal_of_all _ _ _ _ _ _ _ q5, allReal_of_all _ _ _ _ _ _ _ q6, allReal_of_all _ _ _ _ _ _ _ q7⟩

section
variable (x0 : FVec Ideal S8448x1024 .f32)
    (x1 : FVec Ideal S8448x1024 .f32)
    (x2 : FVec Ideal S8448x1024 .f32)
    (x3 : FVec Ideal S2x1024 .f32)
    (x4 : FVec Ideal S1024x1024 .f32)
    (x5 : FVec Ideal S1024 .f32)
    (x6 : FVec Ideal S1024x1024 .f32)
    (x7 : FVec Ideal S8448x1024 .f32)
  (A B Z X : ℕ → Row) (S : Fin 2 → Row) (b : Row) (Wg Wo : Mat)
  (hA : PostRef.Args x0 x1 x2 x3 x4 x5 x6 x7 A B Z X S b Wg Wo)
include hA

theorem ref8 : (Reference3Ideal.Read.val_main_v91 (F := Ideal) x0 x1 x2 x3 x4 x5 x6 x7 : FVec Ideal S8448x1024 .f32) = (fun i : S8448x1024.Idx => ((PostArr.fy X A B Z S b Wg Wo (i 0).val (i 1) : ℝ) : EReal) : FVec Ideal S8448x1024 .f32) := by
  refine eq_of_pairs _ _ fun a d => ?_
  exact (PostRef.v91_at hA a d).trans rfl

theorem ref9 : (Reference3Ideal.Read.val_main_v71 (F := Ideal) x0 x1 x2 x3 x4 x5 x6 x7 : FVec Ideal S8448x1024 .f32) = (fun i : S8448x1024.Idx => ((PostArr.fz X A B Z S b Wg Wo (i 0).val (i 1) : ℝ) : EReal) : FVec Ideal S8448x1024 .f32) := by
  refine eq_of_pairs _ _ fun a d => ?_
  exact (PostRef.v71_at hA a d).trans rfl

theorem ref10 : (Reference3Ideal.Read.val_main_v92 (F := Ideal) x0 x1 x2 x4 x5 x6 x7 : FVec Ideal S2x1x1024 .f32) = (fun i : S2x1x1024.Idx => ((if (i 0).val = 0 then ∑ r : Fin 256, PostArr.fg X A B Z b Wg Wo (i 2) r.val else ∑ r : Fin 8192, PostArr.fg X A B Z b Wg Wo (i 2) (256 + r.val) : ℝ) : EReal) : FVec Ideal S2x1x1024 .f32) := by
  refine eq_of_triples _ _ fun a z d => ?_
  obtain rfl : z = 0 := Subsingleton.elim _ _
  have k0 := PostRef.v92a_at hA d
  have k1 := PostRef.v92b_at hA d
  match a with
  | ⟨0, _⟩ => exact k0.trans (congrArg (fun z : ℝ => (z : EReal)) (if_pos (c := (0 : Fin 2).val = 0) rfl).symm)
  | ⟨1, _⟩ => exact k1.trans (congrArg (fun z : ℝ => (z : EReal)) (if_neg (c := (1 : Fin 2).val = 0) (by norm_num)).symm)

theorem ref11 : (Reference3Ideal.Read.val_main_v67 (F := Ideal) x0 x1 x2 x3 x4 x5 x7 : FVec Ideal S1024x1024 .f32) = (fun i : S1024x1024.Idx => ((∑ a ∈ Finset.range 8448, PostArr.fo X A B Z S b Wg (i 0) (i 1) a : ℝ) : EReal) : FVec Ideal S1024x1024 .f32) := by
  refine eq_of_pairs _ _ fun e k => ?_
  refine (PostRef.v67_at hA e k).trans (congrArg (fun z : ℝ => (z : EReal)) ?_)
  exact (Finset.sum_range (fun a => PostArr.fo X A B Z S b Wg e k a)).symm

theorem ref12 : (Reference3Ideal.Read.val_main_v79 (F := Ideal) x0 x1 x2 x3 x4 x5 x6 x7 : FVec Ideal S1024x1024 .f32) = (fun i : S1024x1024.Idx => ((∑ a ∈ Finset.range 8448, PostArr.fw X A B Z S b Wg Wo (i 0) (i 1) a : ℝ) : EReal) : FVec Ideal S1024x1024 .f32) := by
  refine eq_of_pairs _ _ fun e k => ?_
  refine (PostRef.v79_at hA e k).trans (congrArg (fun z : ℝ => (z : EReal)) ?_)
  exact (Finset.sum_range (fun a => PostArr.fw X A B Z S b Wg Wo e k a)).symm

theorem ref13 : (Reference3Ideal.Read.val_main_v93 (F := Ideal) x0 x1 x2 x3 x4 x5 x6 x7 : FVec Ideal S1x1024 .f32) = (fun i : S1x1024.Idx => ((∑ a ∈ Finset.range 8448, PostArr.fb X A B Z S b Wg Wo (i 1) a : ℝ) : EReal) : FVec Ideal S1x1024 .f32) := by
  refine eq_of_pairs _ _ fun e k => ?_
  obtain rfl : e = 0 := Subsingleton.elim _ _
  refine (PostRef.v93_at hA k).trans (congrArg (fun z : ℝ => (z : EReal)) ?_)
  exact (Finset.sum_range (fun a => PostArr.fb X A B Z S b Wg Wo k a)).symm

end

/-- Over real arguments the region's arrays are the derivative's results. -/
theorem values (m : (ℓ : Loc nD τ sig) → Buf (Elt Ideal) ℓ) (c : Dev nD)
    (x0 : FVec Ideal S8448x1024 .f32)
    (x1 : FVec Ideal S8448x1024 .f32)
    (x2 : FVec Ideal S8448x1024 .f32)
    (x3 : FVec Ideal S2x1024 .f32)
    (x4 : FVec Ideal S1024x1024 .f32)
    (x5 : FVec Ideal S1024 .f32)
    (x6 : FVec Ideal S1024x1024 .f32)
    (x7 : FVec Ideal S8448x1024 .f32)
    (e0 : m (c.tc.loc main_arg0) = x0) (e1 : m (c.tc.loc main_arg1) = x1) (e2 : m (c.tc.loc main_arg2) = x2) (e3 : m (c.tc.loc main_arg3) = x3) (e4 : m (c.tc.loc main_arg4) = x4) (e5 : m (c.tc.loc main_arg5) = x5) (e6 : m (c.tc.loc main_arg6) = x6) (e7 : m (c.tc.loc main_arg7) = x7)
    (h : AllReal x0 ∧ AllReal x1 ∧ AllReal x2 ∧ AllReal x3 ∧ AllReal x4 ∧ AllReal x5 ∧ AllReal x6 ∧ AllReal x7) :
    ((Reference3Ideal.Read.val_main_v91 (F := Ideal) x0 x1 x2 x3 x4 x5 x6 x7 : FVec Ideal S8448x1024 .f32) = (Post.dats m 0 c).arrAt 8 cfg0.N)
    ∧ ((Reference3Ideal.Read.val_main_v71 (F := Ideal) x0 x1 x2 x3 x4 x5 x6 x7 : FVec Ideal S8448x1024 .f32) = (Post.dats m 0 c).arrAt 9 cfg0.N)
    ∧ ((Reference3Ideal.Read.val_main_v92 (F := Ideal) x0 x1 x2 x4 x5 x6 x7 : FVec Ideal S2x1x1024 .f32) = (Post.dats m 0 c).arrAt 10 cfg0.N)
    ∧ ((Reference3Ideal.Read.val_main_v67 (F := Ideal) x0 x1 x2 x3 x4 x5 x7 : FVec Ideal S1024x1024 .f32) = (Post.dats m 0 c).arrAt 11 cfg0.N)
    ∧ ((Reference3Ideal.Read.val_main_v79 (F := Ideal) x0 x1 x2 x3 x4 x5 x6 x7 : FVec Ideal S1024x1024 .f32) = (Post.dats m 0 c).arrAt 12 cfg0.N)
    ∧ ((Reference3Ideal.Read.val_main_v93 (F := Ideal) x0 x1 x2 x3 x4 x5 x6 x7 : FVec Ideal S1x1024 .f32) = (Post.dats m 0 c).arrAt 13 cfg0.N) := by
  obtain ⟨q0, q1, q2, q3, q4, q5, q6, q7⟩ := h
  obtain ⟨A, h0⟩ := rows_of_real (n := 8448) (by norm_num) x0 q0
  obtain ⟨B, h1⟩ := rows_of_real (n := 8448) (by norm_num) x1 q1
  obtain ⟨Z, h2⟩ := rows_of_real (n := 8448) (by norm_num) x2 q2
  obtain ⟨S, h3⟩ := pairs_of_real x3 q3
  obtain ⟨Wg, h4⟩ := matrix_of_real x4 q4
  obtain ⟨b, h5⟩ := row_of_real x5 q5
  obtain ⟨Wo, h6⟩ := matrix_of_real x6 q6
  obtain ⟨X, h7⟩ := rows_of_real (n := 8448) (by norm_num) x7 q7
  have k0 : ∀ (a : Fin 8448) (d : Lane), (Gen.V m c main_arg7 : FVec Ideal S8448x1024 .f32) (ix2 a d) = ((X a.val d : ℝ) : EReal) := by
    rw [Gen.V_main_arg7, e7]; exact h7
  have k1 : ∀ (a : Fin 8448) (d : Lane), (Gen.V m c main_arg0 : FVec Ideal S8448x1024 .f32) (ix2 a d) = ((A a.val d : ℝ) : EReal) := by
    rw [Gen.V_main_arg0, e0]; exact h0
  have k2 : ∀ (a : Fin 8448) (d : Lane), (Gen.V m c main_arg1 : FVec Ideal S8448x1024 .f32) (ix2 a d) = ((B a.val d : ℝ) : EReal) := by
    rw [Gen.V_main_arg1, e1]; exact h1
  have k3 : ∀ (a : Fin 8448) (d : Lane), (Gen.V m c main_arg2 : FVec Ideal S8448x1024 .f32) (ix2 a d) = ((Z a.val d : ℝ) : EReal) := by
    rw [Gen.V_main_arg2, e2]; exact h2
  have k5 : ∀ (e k : Lane), (Gen.V m c main_arg4 : FVec Ideal S1024x1024 .f32) (ix2 e k) = ((Wg e k : ℝ) : EReal) := by
    rw [Gen.V_main_arg4, e4]; exact h4
  have k7 : ∀ (e k : Lane), (Gen.V m c main_arg6 : FVec Ideal S1024x1024 .f32) (ix2 e k) = ((Wo e k : ℝ) : EReal) := by
    rw [Gen.V_main_arg6, e6]; exact h6
  have k6 : ∀ d : Lane, (Gen.V m c main_v1 : FVec Ideal S1x1024 .f32) (ix2 0 d) = ((b d : ℝ) : EReal) := by
    intro d; rw [PostArr.V1_at, e5]; exact h5 d
  have k4 : ∀ (s : Fin 2) (d : Lane), (Gen.V m c main_v0 : FVec Ideal S2x1x1024 .f32) (ix3 s 0 d) = ((S s d : ℝ) : EReal) := by
    intro s d; rw [PostArr.V0_at, e3]; exact h3 s d
  have hA : PostRef.Args x0 x1 x2 x3 x4 x5 x6 x7 A B Z X S b Wg Wo := ⟨h0, h1, h2, h3, h4, h5, h6, h7⟩
  exact ⟨(ref8 x0 x1 x2 x3 x4 x5 x6 x7 A B Z X S b Wg Wo hA).trans (PostArr.arr8 m c X A B Z S b Wg Wo k0 k1 k2 k3 k4 k5 k6 k7).symm,
    (ref9 x0 x1 x2 x3 x4 x5 x6 x7 A B Z X S b Wg Wo hA).trans (PostArr.arr9 m c X A B Z S b Wg Wo k0 k1 k2 k3 k4 k5 k6 k7).symm,
    (ref10 x0 x1 x2 x3 x4 x5 x6 x7 A B Z X S b Wg Wo hA).trans (PostArr.arr10 m c X A B Z b Wg Wo k0 k1 k2 k3 k5 k6 k7).symm,
    (ref11 x0 x1 x2 x3 x4 x5 x6 x7 A B Z X S b Wg Wo hA).trans (PostArr.arr11 m c X A B Z S b Wg k0 k1 k2 k3 k4 k5 k6).symm,
    (ref12 x0 x1 x2 x3 x4 x5 x6 x7 A B Z X S b Wg Wo hA).trans (PostArr.arr12 m c X A B Z S b Wg Wo k0 k1 k2 k3 k4 k5 k6 k7).symm,
    (ref13 x0 x1 x2 x3 x4 x5 x6 x7 A B Z X S b Wg Wo hA).trans (PostArr.arr13 m c X A B Z S b Wg Wo k0 k1 k2 k3 k4 k5 k6 k7).symm⟩

/-- The run leaves the arrays' values and every argument. -/
theorem run_blocks (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c : Thread nD τ).loc main_v2_0) = (Post.dats m 0 c).arrAt 8 cfg0.N
      ∧ r.2.mem ((c : Thread nD τ).loc main_v2_1) = (Post.dats m 0 c).arrAt 9 cfg0.N
      ∧ r.2.mem ((c : Thread nD τ).loc main_v2_2) = (Post.dats m 0 c).arrAt 10 cfg0.N
      ∧ r.2.mem ((c : Thread nD τ).loc main_v2_3) = (Post.dats m 0 c).arrAt 11 cfg0.N
      ∧ r.2.mem ((c : Thread nD τ).loc main_v2_4) = (Post.dats m 0 c).arrAt 12 cfg0.N
      ∧ r.2.mem ((c : Thread nD τ).loc main_v2_5) = (Post.dats m 0 c).arrAt 13 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun _ h c => ⟨(h.1 c).1 8, (h.1 c).1 9, (h.1 c).1 10, (h.1 c).1 11, (h.1 c).1 12, (h.1 c).1 13, h.2 c⟩)
    (θ_run_and (Post.run_post m ρ) (Gen.frame_of m ρ (Post.dats m) (Post.A_eq m) (Post.run_post m ρ)))

/-- The results are the derivative's. -/
theorem algebraic : Cert.algebraic_Kernel3Ideal_Reference3Ideal_pre_finite3 := by
  pair_intro
  · run_from run_blocks m g
  · have key : ∀ c : Dev nD, _ := fun c => values m c _ _ _ _ _ _ _ _ (hagree c).1.symm (hagree c).2.1.symm (hagree c).2.2.1.symm (hagree c).2.2.2.1.symm (hagree c).2.2.2.2.1.symm (hagree c).2.2.2.2.2.1.symm (hagree c).2.2.2.2.2.2.1.symm (hagree c).2.2.2.2.2.2.2.symm
      (by
        obtain ⟨a0, a1, a2, a3, a4, a5, a6, a7⟩ := hagree c
        rw [a0, a1, a2, a3, a4, a5, a6, a7]
        exact real_of_pre _ _ _ _ _ _ _ _ (fun a => a.elim0) (congrFun (hpre c) _))
    refine (θ_run _ _ _).mono (fun r h c => ⟨((h c).1.trans (Reference3Ideal.Read.val_main_v91_eq (F := Ideal) _ _)).trans (key c).1,
      ((h c).2.1.trans (Reference3Ideal.Read.val_main_v71_eq (F := Ideal) _ _)).trans (key c).2.1,
      ((h c).2.2.1.trans (Reference3Ideal.Read.val_main_v92_eq (F := Ideal) _ _)).trans (key c).2.2.1,
      ((h c).2.2.2.1.trans (Reference3Ideal.Read.val_main_v67_eq (F := Ideal) _ _ _ _ _ _ _)).trans (key c).2.2.2.1,
      ((h c).2.2.2.2.1.trans (Reference3Ideal.Read.val_main_v79_eq (F := Ideal) _ _)).trans (key c).2.2.2.2.1,
      ((h c).2.2.2.2.2.1.trans (Reference3Ideal.Read.val_main_v93_eq (F := Ideal) _ _)).trans (key c).2.2.2.2.2,
      (h c).2.2.2.2.2.2⟩) (Reference3Ideal.Value.run m' g')

/-- The frames of the pair. -/
theorem frames : Cert.quiescent_Kernel3 ∧ Cert.quiescent_Kernel3Ideal ∧ Cert.quiescent_Kernel3Ideal_pre_finite3
    ∧ Cert.quiescent_Reference3Ideal ∧ Cert.quiescent_Reference3Ideal_pre_finite3 := by
  refine ⟨Cert.PostWords.words, fun m ρ _ => ?_, fun m ρ _ => ?_, fun m ρ _ => ?_, fun m ρ _ => ?_⟩
  · exact (θ_run defs _ _).mono (fun _ h => ⟨h.1, h.2.2⟩)
      (θ_run_and (Gen.frame_of m ρ (Post.dats m) (Post.A_eq m) (Post.run_post m ρ)) (Post.run_quiescent m ρ))
  · exact (θ_run defs _ _).mono (fun _ h => ⟨h.1, h.2.2⟩)
      (θ_run_and (Gen.frame_of m ρ (Post.dats m) (Post.A_eq m) (Post.run_post m ρ)) (Post.run_quiescent m ρ))
  · refine (θ_run _ _ _).mono (fun r h => ⟨fun c => (h c).2.2.2.2.2.2, sem_eq_zero_of_no_sems rfl _⟩) (Reference3Ideal.Value.run m ρ)
  · refine (θ_run _ _ _).mono (fun r h => ⟨fun c => (h c).2.2.2.2.2.2, sem_eq_zero_of_no_sems rfl _⟩) (Reference3Ideal.Value.run m ρ)

/-- The named constants hold the values the table gives them. -/
theorem preserves : Cert.preserves_Kernel3_Kernel3Ideal := by
  have st : ∀ (n : String) (b : BitVec 32) (v : EReal), κ n = some v →
      IdealRules.named_const.Statement κ n .f32 b v := fun n b v h =>
    ⟨h, fun s => IdealRules.named_const.ideal_named (φ := .f32) _ n (s := s) b v h, IdealRules.named_const.ideal_named_scalar (φ := .f32) _ n b v h⟩
  exact ⟨st _ _ _ rfl, st _ _ _ rfl⟩

end Cert.PostClaim
end
-- ==== Proof.AttnBody.lean ====
module

public import proofs.«01_k».proof.Proof.Gen.Kernel6Ideal.Skeleton
public import proofs.«01_k».proof.Proof.Gen.Kernel6Ideal.Launch
public import Idealize.ShloMosaic.Lib.Pipeline.ValueKit
public import Idealize.ShloMosaic.Lib.Pipeline.FrameBody
public import Idealize.ShloMosaic.Lib.Tactic
public import proofs.«01_k».proof.Proof.Stage
@[expose] public section

/-!
The attention input calls' bodies at any point: what each leaves in its blocks.
-/

set_option maxRecDepth 16384

noncomputable section

namespace Cert.Attn
open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

/-- The blocks that the body of call 0 reads at a point. -/
structure In0 (F : FTy → Type) where
  x0 : Vec F S256x1024 .f32
  x1 : Vec F S1x1024 .f32
  x2 : Vec F S1x1x1024 .f32
  x3 : Vec F S1x1x1024 .f32
  x4 : Vec F S1024x2560 .f32
  x5 : Vec F S1x1024 .f32
  x6 : Vec F S1x256 .f32
  x7 : Vec F S256x128 .f32
  x8 : Vec F S256x128 .f32
  x9 : Vec F S1024x128 .bf16
  x10 : Vec F S256x128 .bf16
namespace In0
variable (X : In0 F) (i : grid0.Coords)
def v28 (X : In0 F) : FVec F S256x2560 .f32 := k0_pay3 X.x0 X.x1 X.x2 X.x3 X.x4
def v74 (X : In0 F) : FVec F S256x1024 .f32 := k0_pay8 (k0_pay4 X.x0 X.x1 X.x2 X.x3 X.x4) (k0_pay6 X.x7) (k0_pay7 X.x8) X.x5 X.x9
/-- What the body leaves in block 11. -/
def o11 (X : In0 F) : Vec F S256x1024 .bf16 := k0_pay12 X.v74
/-- What the body leaves in block 12. -/
def o12 (X : In0 F) : Vec F S256x256 .bf16 := k0_pay13 (k0_pay5 X.x0 X.x1 X.x2 X.x3 X.x4) (k0_pay9 X.x6) (k0_pay10 (k0_pay6 X.x7)) (k0_pay11 (k0_pay7 X.x8)) X.x10
/-- What the body leaves in block 13. -/
def o13 (X : In0 F) : Vec F S256x256 .bf16 := k0_pay14 X.v28
/-- What the body leaves in block 14. -/
def o14 (X : In0 F) : Vec F S256x1024 .f32 := k0_pay1 X.v28
/-- What the body leaves in block 15. -/
def o15 (X : In0 F) : Vec F S256x1280 .f32 := k0_pay2 X.v28
end In0

set_option maxHeartbeats 8000000 in
/-- The body of call 0, at any point. -/
theorem body0 (c : Dev nD) (i : grid0.Coords) (P Q : sProp 𝕄) (X : In0 F)
    (a1 : Memref sig .tc .vmem S256x1024 .f32) (u1 : a1.IsWhole) (a2 : Memref sig .tc .vmem S1x1024 .f32) (u2 : a2.IsWhole) (a3 : Memref sig .tc .vmem S1x1x1024 .f32) (u3 : a3.IsWhole) (a4 : Memref sig .tc .vmem S1x1x1024 .f32) (u4 : a4.IsWhole) (a5 : Memref sig .tc .vmem S1024x2560 .f32) (u5 : a5.IsWhole) (a6 : Memref sig .tc .vmem S1x1024 .f32) (u6 : a6.IsWhole) (a7 : Memref sig .tc .vmem S1x256 .f32) (u7 : a7.IsWhole) (a8 : Memref sig .tc .vmem S256x128 .f32) (u8 : a8.IsWhole) (a9 : Memref sig .tc .vmem S256x128 .f32) (u9 : a9.IsWhole) (a10 : Memref sig .tc .vmem S1024x128 .bf16) (u10 : a10.IsWhole) (a11 : Memref sig .tc .vmem S256x128 .bf16) (u11 : a11.IsWhole) (a12 : Memref sig .tc .vmem S256x1024 .bf16) (u12 : a12.IsWhole) (a13 : Memref sig .tc .vmem S256x256 .bf16) (u13 : a13.IsWhole) (a14 : Memref sig .tc .vmem S256x256 .bf16) (u14 : a14.IsWhole) (a15 : Memref sig .tc .vmem S256x1024 .f32) (u15 : a15.IsWhole) (a16 : Memref sig .tc .vmem S256x1280 .f32) (u16 : a16.IsWhole)
    (y0 : Vec F S256x1024 .f32 → Vec F S256x1024 .f32) (y1 : Vec F S1x1024 .f32 → Vec F S1x1024 .f32) (y2 : Vec F S1x1x1024 .f32 → Vec F S1x1x1024 .f32) (y3 : Vec F S1x1x1024 .f32 → Vec F S1x1x1024 .f32) (y4 : Vec F S1024x2560 .f32 → Vec F S1024x2560 .f32) (y5 : Vec F S1x1024 .f32 → Vec F S1x1024 .f32) (y6 : Vec F S1x256 .f32 → Vec F S1x256 .f32) (y7 : Vec F S256x128 .f32 → Vec F S256x128 .f32) (y8 : Vec F S256x128 .f32 → Vec F S256x128 .f32) (y9 : Vec F S1024x128 .bf16 → Vec F S1024x128 .bf16) (y10 : Vec F S256x128 .bf16 → Vec F S256x128 .bf16) (y11 : Vec F S256x1024 .bf16 → Vec F S256x1024 .bf16) (y12 : Vec F S256x256 .bf16 → Vec F S256x256 .bf16) (y13 : Vec F S256x256 .bf16 → Vec F S256x256 .bf16) (y14 : Vec F S256x1024 .f32 → Vec F S256x1024 .f32) (y15 : Vec F S256x1280 .f32 → Vec F S256x1280 .f32)
    (h0 : ∀ d, y0 d = X.x0) (h1 : ∀ d, y1 d = X.x1) (h2 : ∀ d, y2 d = X.x2) (h3 : ∀ d, y3 d = X.x3) (h4 : ∀ d, y4 d = X.x4) (h5 : ∀ d, y5 d = X.x5) (h6 : ∀ d, y6 d = X.x6) (h7 : ∀ d, y7 d = X.x7) (h8 : ∀ d, y8 d = X.x8) (h9 : ∀ d, y9 d = X.x9) (h10 : ∀ d, y10 d = X.x10) :
    iprop(P ∗ Q ∗ (∃ d, owns c.tc a1 fullShare (y0 d)) ∗ (∃ d, owns c.tc a2 fullShare (y1 d)) ∗ (∃ d, owns c.tc a3 fullShare (y2 d)) ∗ (∃ d, owns c.tc a4 fullShare (y3 d)) ∗ (∃ d, owns c.tc a5 fullShare (y4 d)) ∗ (∃ d, owns c.tc a6 fullShare (y5 d)) ∗ (∃ d, owns c.tc a7 fullShare (y6 d)) ∗ (∃ d, owns c.tc a8 fullShare (y7 d)) ∗ (∃ d, owns c.tc a9 fullShare (y8 d)) ∗ (∃ d, owns c.tc a10 fullShare (y9 d)) ∗ (∃ d, owns c.tc a11 fullShare (y10 d)) ∗ (∃ d, owns c.tc a12 fullShare (y11 d)) ∗ (∃ d, owns c.tc a13 fullShare (y12 d)) ∗ (∃ d, owns c.tc a14 fullShare (y13 d)) ∗ (∃ d, owns c.tc a15 fullShare (y14 d)) ∗ (∃ d, owns c.tc a16 fullShare (y15 d)))
      ⊢ wp frame (wpE (defs₀ (F := F)) Variants.none c none) Set.univ (cc0_attn_in i a1 u1 a2 u2 a3 u3 a4 u4 a5 u5 a6 u6 a7 u7 a8 u8 a9 u9 a10 u10 a11 u11 a12 u12 a13 u13 a14 u14 a15 u15 a16 u16) (fun _ =>
        iprop(P ∗ Q ∗ owns c.tc a1 fullShare X.x0 ∗ owns c.tc a2 fullShare X.x1 ∗ owns c.tc a3 fullShare X.x2 ∗ owns c.tc a4 fullShare X.x3 ∗ owns c.tc a5 fullShare X.x4 ∗ owns c.tc a6 fullShare X.x5 ∗ owns c.tc a7 fullShare X.x6 ∗ owns c.tc a8 fullShare X.x7 ∗ owns c.tc a9 fullShare X.x8 ∗ owns c.tc a10 fullShare X.x9 ∗ owns c.tc a11 fullShare X.x10 ∗ owns c.tc a12 fullShare (X.o11) ∗ owns c.tc a13 fullShare (X.o12) ∗ owns c.tc a14 fullShare (X.o13) ∗ owns c.tc a15 fullShare (X.o14) ∗ owns c.tc a16 fullShare (X.o15))) := by
  simp only [h0, h1, h2, h3, h4, h5, h6, h7, h8, h9, h10, In0.v28, In0.v74, In0.o11, In0.o12, In0.o13, In0.o14, In0.o15]
  simp only [cc0_attn_in_eq_skeleton]; unfold cc0_attn_in_skel
  simp only [k0_part1_eq_skeleton, k0_part2_eq_skeleton, k0_part3_eq_skeleton]
  unfold owns
  iintro ⟨HP, HQ, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, %hf7, H7⟩, ⟨%d8, %f8, %hf8, H8⟩, ⟨%d9, %f9, %hf9, H9⟩, ⟨%d10, %f10, %hf10, H10⟩, ⟨%d11, %f11, %hf11, H11⟩, ⟨%d12, %f12, %hf12, H12⟩, ⟨%d13, %f13, %hf13, H13⟩, ⟨%d14, %f14, %hf14, H14⟩, ⟨%d15, %f15, %hf15, H15⟩⟩
  obtain rfl := u1.eq_unread hf0
  obtain rfl := u2.eq_unread hf1
  obtain rfl := u3.eq_unread hf2
  obtain rfl := u4.eq_unread hf3
  obtain rfl := u5.eq_unread hf4
  obtain rfl := u6.eq_unread hf5
  obtain rfl := u7.eq_unread hf6
  obtain rfl := u8.eq_unread hf7
  obtain rfl := u9.eq_unread hf8
  obtain rfl := u10.eq_unread hf9
  obtain rfl := u11.eq_unread hf10
  sl_exec
  sl_step
  isplitl [HP]; · iexact HP
  isplitl [HQ]; · iexact HQ
  isplitl [H0]; · iapply (Stage.kept c.tc u1 _); iexact H0
  isplitl [H1]; · iapply (Stage.kept c.tc u2 _); iexact H1
  isplitl [H2]; · iapply (Stage.kept c.tc u3 _); iexact H2
  isplitl [H3]; · iapply (Stage.kept c.tc u4 _); iexact H3
  isplitl [H4]; · iapply (Stage.kept c.tc u5 _); iexact H4
  isplitl [H5]; · iapply (Stage.kept c.tc u6 _); iexact H5
  isplitl [H6]; · iapply (Stage.kept c.tc u7 _); iexact H6
  isplitl [H7]; · iapply (Stage.kept c.tc u8 _); iexact H7
  isplitl [H8]; · iapply (Stage.kept c.tc u9 _); iexact H8
  isplitl [H9]; · iapply (Stage.kept c.tc u10 _); iexact H9
  isplitl [H10]; · iapply (Stage.kept c.tc u11 _); iexact H10
  isplitl [H11]
  · iexists _; isplitr; swap; · iexact H11
    ipureintro; refine (Stage.read_full _ _ _ _ _ ?_).trans ?_
    · decide
    frame_out
  isplitl [H12]
  · iexists _; isplitr; swap; · iexact H12
    ipureintro; refine (Stage.read_full _ _ _ _ _ ?_).trans ?_
    · decide
    frame_out
  isplitl [H13]
  · iexists _; isplitr; swap; · iexact H13
    ipureintro; refine (Stage.read_full _ _ _ _ _ ?_).trans ?_
    · decide
    frame_out
  isplitl [H14]
  · iexists _; isplitr; swap; · iexact H14
    ipureintro; refine (Stage.read_full _ _ _ _ _ ?_).trans ?_
    · decide
    frame_out
  iexists _; isplitr; swap; · iexact H15
  ipureintro; refine (Stage.read_full _ _ _ _ _ ?_).trans ?_
  · decide
  frame_out

/-- The blocks that the body of call 1 reads at a point. -/
structure In1 (F : FTy → Type) where
  x0 : Vec F S256x1024 .f32
  x1 : Vec F S256x256 .f32
  x2 : Vec F S256x256 .f32
  x3 : Vec F S256x1024 .f32
  x4 : Vec F S256x1280 .f32
  x5 : Vec F S256x1024 .f32
  x6 : Vec F S256x1024 .f32
  x7 : Vec F S1x1024 .f32
  x8 : Vec F S1x1x1024 .f32
  x9 : Vec F S1x1x1024 .f32
  x10 : Vec F S1x1024 .f32
  x11 : Vec F S1x256 .f32
  x12 : Vec F S256x128 .f32
  x13 : Vec F S256x128 .f32
  x14 : Vec F S1024x2560 .f32
  x15 : Vec F S1024x128 .bf16
  x16 : Vec F S256x128 .bf16
namespace In1
variable (X : In1 F) (i : grid1.Coords)
def v35 (X : In1 F) : FVec F S256x128 .f32 := k1_pay12 X.x12
def v61 (X : In1 F) (i : grid1.Coords) : FVec F S256x1024 .f32 := k1_pay18 (k1_pay10 (F := F) i) X.v35 X.x13 X.x0
def v104 (X : In1 F) (i : grid1.Coords) : FVec F S256x1024 .f32 := k1_pay22 (k1_pay15 X.x4) (k1_pay16 X.x10) (k1_pay17 X.x15) (X.v61 i) (k1_pay19 X.x4 X.x15)
def v107 (X : In1 F) (i : grid1.Coords) : FVec F S1x1024 .f32 := k1_pay23 (k1_pay15 X.x4) (X.v61 i) (k1_pay19 X.x4 X.x15)
def v108 (X : In1 F) : FVec F S256x256 .f32 := k1_pay24 (k1_pay14 X.x4)
def v116 (X : In1 F) : FVec F S256x256 .f32 := k1_pay27 X.v35 X.x1
def v117 (X : In1 F) : FVec F S256x256 .f32 := k1_pay28 (k1_pay13 X.x13) X.x1
def v126 (X : In1 F) : FVec F S256x256 .f32 := k1_pay30 X.v116 X.v117 k1_pay29 0#32
def v146 (X : In1 F) : FVec F S256x256 .f32 := k1_pay31 X.v108 (k1_pay26 X.x16)
def v147 (X : In1 F) : FVec F S256x256 .f32 := k1_pay32 X.v108 (k1_pay26 X.x16)
def v149 (X : In1 F) : FVec F S256x256 .f32 := k1_pay33 (k1_pay25 X.x11) X.v116 X.v117 k1_pay29 0#32
def v167 (X : In1 F) : FVec F S256x256 .f32 := k1_pay34 X.v108 (k1_pay25 X.x11) (k1_pay26 X.x16) X.v116 X.v117 k1_pay29 0#32
def v189 (X : In1 F) (i : grid1.Coords) : FVec F S256x1024 .f32 := k1_pay38 (k1_pay10 (F := F) i) (X.v104 i) X.v146 X.v149 X.v167 X.x2 X.x3 X.x14
/-- What the body leaves in block 17. -/
def o17 (X : In1 F) (i : grid1.Coords) : Vec F S256x1024 .f32 := k1_pay3 (k1_pay10 (F := F) i) (k1_pay44 X.x5 (X.v189 i) (k1_pay40 X.x7) X.x8) X.x6
/-- What the body leaves in block 18. -/
def o18 (X : In1 F) (i : grid1.Coords) (p : Vec F S1024x2560 .f32) : Vec F S1024x2560 .f32 := k1_pay39 (k1_pay10 (F := F) i) (k1_pay11 X.x5 X.x7 X.x8 X.x9) (X.v104 i) X.v146 X.v149 X.v167 X.x2 X.x3 p
/-- What the body leaves in block 19. -/
def o19 (X : In1 F) (i : grid1.Coords) (p : Vec F S1x1024 .f32) : Vec F S1x1024 .f32 := k1_pay35 (X.v107 i) p
/-- What the body leaves in block 20. -/
def o20 (X : In1 F) (p : Vec F S1x256 .f32) : Vec F S1x256 .f32 := k1_pay36 X.v126 X.v147 p
/-- What the body leaves in block 21. -/
def o21 (X : In1 F) (i : grid1.Coords) (p : Vec F S1x1024 .f32) : Vec F S1x1024 .f32 := k1_pay47 X.x5 (X.v189 i) X.x8 p
/-- What the body leaves in block 22. -/
def o22 (X : In1 F) (i : grid1.Coords) (p : Vec F S1x1x1024 .f32) : Vec F S1x1x1024 .f32 := k1_pay1 (k1_pay45 X.x5 (X.v189 i) (k1_pay40 X.x7)) p
/-- What the body leaves in block 23. -/
def o23 (X : In1 F) (i : grid1.Coords) (p : Vec F S1x1x1024 .f32) : Vec F S1x1x1024 .f32 := k1_pay2 (k1_pay46 (X.v189 i)) p
end In1

abbrev cond0 (i : grid1.Coords) : Prop := (Scalar.cmpi .ne (Scalar.extui (Scalar.cmpi .eq (BitVec.ofNat 32 (i 0).val) 0#32)) 0#32) = 1#1
theorem hcond0 : ∀ t : Fin cfg1.N, cond0 (grid1.coords t) ↔ t.val < 1 :=
  (by decide +kernel : ∀ t : Fin grid1.N, cond0 (grid1.coords t) ↔ t.val < 1)
abbrev cond1 (i : grid1.Coords) : Prop := (Scalar.cmpi .ne (Scalar.extui (Scalar.cmpi .sle (BitVec.ofNat 32 (i 0).val) 1#32)) 0#32) = 1#1
theorem hcond1 : ∀ t : Fin cfg1.N, cond1 (grid1.coords t) ↔ t.val < 2 :=
  (by decide +kernel : ∀ t : Fin grid1.N, cond1 (grid1.coords t) ↔ t.val < 2)
set_option maxHeartbeats 8000000 in
/-- The body of call 1, at any point. -/
theorem body1 (c : Dev nD) (i : grid1.Coords) (P Q : sProp 𝕄) (X : In1 F)
    (a1 : Memref sig .tc .vmem S256x1024 .f32) (u1 : a1.IsWhole) (a2 : Memref sig .tc .vmem S256x256 .f32) (u2 : a2.IsWhole) (a3 : Memref sig .tc .vmem S256x256 .f32) (u3 : a3.IsWhole) (a4 : Memref sig .tc .vmem S256x1024 .f32) (u4 : a4.IsWhole) (a5 : Memref sig .tc .vmem S256x1280 .f32) (u5 : a5.IsWhole) (a6 : Memref sig .tc .vmem S256x1024 .f32) (u6 : a6.IsWhole) (a7 : Memref sig .tc .vmem S256x1024 .f32) (u7 : a7.IsWhole) (a8 : Memref sig .tc .vmem S1x1024 .f32) (u8 : a8.IsWhole) (a9 : Memref sig .tc .vmem S1x1x1024 .f32) (u9 : a9.IsWhole) (a10 : Memref sig .tc .vmem S1x1x1024 .f32) (u10 : a10.IsWhole) (a11 : Memref sig .tc .vmem S1x1024 .f32) (u11 : a11.IsWhole) (a12 : Memref sig .tc .vmem S1x256 .f32) (u12 : a12.IsWhole) (a13 : Memref sig .tc .vmem S256x128 .f32) (u13 : a13.IsWhole) (a14 : Memref sig .tc .vmem S256x128 .f32) (u14 : a14.IsWhole) (a15 : Memref sig .tc .vmem S1024x2560 .f32) (u15 : a15.IsWhole) (a16 : Memref sig .tc .vmem S1024x128 .bf16) (u16 : a16.IsWhole) (a17 : Memref sig .tc .vmem S256x128 .bf16) (u17 : a17.IsWhole) (a18 : Memref sig .tc .vmem S256x1024 .f32) (u18 : a18.IsWhole) (a19 : Memref sig .tc .vmem S1024x2560 .f32) (u19 : a19.IsWhole) (a20 : Memref sig .tc .vmem S1x1024 .f32) (u20 : a20.IsWhole) (a21 : Memref sig .tc .vmem S1x256 .f32) (u21 : a21.IsWhole) (a22 : Memref sig .tc .vmem S1x1024 .f32) (u22 : a22.IsWhole) (a23 : Memref sig .tc .vmem S1x1x1024 .f32) (u23 : a23.IsWhole) (a24 : Memref sig .tc .vmem S1x1x1024 .f32) (u24 : a24.IsWhole)
    (y0 : Vec F S256x1024 .f32 → Vec F S256x1024 .f32) (y1 : Vec F S256x256 .f32 → Vec F S256x256 .f32) (y2 : Vec F S256x256 .f32 → Vec F S256x256 .f32) (y3 : Vec F S256x1024 .f32 → Vec F S256x1024 .f32) (y4 : Vec F S256x1280 .f32 → Vec F S256x1280 .f32) (y5 : Vec F S256x1024 .f32 → Vec F S256x1024 .f32) (y6 : Vec F S256x1024 .f32 → Vec F S256x1024 .f32) (y7 : Vec F S1x1024 .f32 → Vec F S1x1024 .f32) (y8 : Vec F S1x1x1024 .f32 → Vec F S1x1x1024 .f32) (y9 : Vec F S1x1x1024 .f32 → Vec F S1x1x1024 .f32) (y10 : Vec F S1x1024 .f32 → Vec F S1x1024 .f32) (y11 : Vec F S1x256 .f32 → Vec F S1x256 .f32) (y12 : Vec F S256x128 .f32 → Vec F S256x128 .f32) (y13 : Vec F S256x128 .f32 → Vec F S256x128 .f32) (y14 : Vec F S1024x2560 .f32 → Vec F S1024x2560 .f32) (y15 : Vec F S1024x128 .bf16 → Vec F S1024x128 .bf16) (y16 : Vec F S256x128 .bf16 → Vec F S256x128 .bf16) (y17 : Vec F S256x1024 .f32 → Vec F S256x1024 .f32) (y18 : Vec F S1024x2560 .f32 → Vec F S1024x2560 .f32) (y19 : Vec F S1x1024 .f32 → Vec F S1x1024 .f32) (y20 : Vec F S1x256 .f32 → Vec F S1x256 .f32) (y21 : Vec F S1x1024 .f32 → Vec F S1x1024 .f32) (y22 : Vec F S1x1x1024 .f32 → Vec F S1x1x1024 .f32) (y23 : Vec F S1x1x1024 .f32 → Vec F S1x1x1024 .f32)
    (h0 : ∀ d, y0 d = X.x0) (h1 : ∀ d, y1 d = X.x1) (h2 : ∀ d, y2 d = X.x2) (h3 : ∀ d, y3 d = X.x3) (h4 : ∀ d, y4 d = X.x4) (h5 : ∀ d, y5 d = X.x5) (h6 : ∀ d, y6 d = X.x6) (h7 : ∀ d, y7 d = X.x7) (h8 : ∀ d, y8 d = X.x8) (h9 : ∀ d, y9 d = X.x9) (h10 : ∀ d, y10 d = X.x10) (h11 : ∀ d, y11 d = X.x11) (h12 : ∀ d, y12 d = X.x12) (h13 : ∀ d, y13 d = X.x13) (h14 : ∀ d, y14 d = X.x14) (h15 : ∀ d, y15 d = X.x15) (h16 : ∀ d, y16 d = X.x16)
    (h01 : cond0 i → cond1 i) (p18 : Vec F S1024x2560 .f32) (z18 : cond0 i → p18 = k1_pay4 (F := F)) (k18 : ¬cond0 i → ∀ d, y18 d = p18) (p19 : Vec F S1x1024 .f32) (z19 : cond0 i → p19 = k1_pay5 (F := F)) (k19 : ¬cond0 i → ∀ d, y19 d = p19) (p20 : Vec F S1x256 .f32) (z20 : cond0 i → p20 = k1_pay6 (F := F)) (k20 : ¬cond0 i → ∀ d, y20 d = p20) (p21 : Vec F S1x1024 .f32) (z21 : cond0 i → p21 = k1_pay7 (F := F)) (k21 : ¬cond0 i → ∀ d, y21 d = p21) (p22 : Vec F S1x1x1024 .f32) (z22 : cond1 i → p22 = k1_pay8 (F := F)) (k22 : ¬cond1 i → ∀ d, y22 d = p22) (p23 : Vec F S1x1x1024 .f32) (z23 : cond1 i → p23 = k1_pay9 (F := F)) (k23 : ¬cond1 i → ∀ d, y23 d = p23) :
    iprop(P ∗ Q ∗ (∃ d, owns c.tc a1 fullShare (y0 d)) ∗ (∃ d, owns c.tc a2 fullShare (y1 d)) ∗ (∃ d, owns c.tc a3 fullShare (y2 d)) ∗ (∃ d, owns c.tc a4 fullShare (y3 d)) ∗ (∃ d, owns c.tc a5 fullShare (y4 d)) ∗ (∃ d, owns c.tc a6 fullShare (y5 d)) ∗ (∃ d, owns c.tc a7 fullShare (y6 d)) ∗ (∃ d, owns c.tc a8 fullShare (y7 d)) ∗ (∃ d, owns c.tc a9 fullShare (y8 d)) ∗ (∃ d, owns c.tc a10 fullShare (y9 d)) ∗ (∃ d, owns c.tc a11 fullShare (y10 d)) ∗ (∃ d, owns c.tc a12 fullShare (y11 d)) ∗ (∃ d, owns c.tc a13 fullShare (y12 d)) ∗ (∃ d, owns c.tc a14 fullShare (y13 d)) ∗ (∃ d, owns c.tc a15 fullShare (y14 d)) ∗ (∃ d, owns c.tc a16 fullShare (y15 d)) ∗ (∃ d, owns c.tc a17 fullShare (y16 d)) ∗ (∃ d, owns c.tc a18 fullShare (y17 d)) ∗ (∃ d, owns c.tc a19 fullShare (y18 d)) ∗ (∃ d, owns c.tc a20 fullShare (y19 d)) ∗ (∃ d, owns c.tc a21 fullShare (y20 d)) ∗ (∃ d, owns c.tc a22 fullShare (y21 d)) ∗ (∃ d, owns c.tc a23 fullShare (y22 d)) ∗ (∃ d, owns c.tc a24 fullShare (y23 d)))
      ⊢ wp frame (wpE (defs₀ (F := F)) Variants.none c none) Set.univ (cc1_attn_in_bwd i a1 u1 a2 u2 a3 u3 a4 u4 a5 u5 a6 u6 a7 u7 a8 u8 a9 u9 a10 u10 a11 u11 a12 u12 a13 u13 a14 u14 a15 u15 a16 u16 a17 u17 a18 u18 a19 u19 a20 u20 a21 u21 a22 u22 a23 u23 a24 u24) (fun _ =>
        iprop(P ∗ Q ∗ owns c.tc a1 fullShare X.x0 ∗ owns c.tc a2 fullShare X.x1 ∗ owns c.tc a3 fullShare X.x2 ∗ owns c.tc a4 fullShare X.x3 ∗ owns c.tc a5 fullShare X.x4 ∗ owns c.tc a6 fullShare X.x5 ∗ owns c.tc a7 fullShare X.x6 ∗ owns c.tc a8 fullShare X.x7 ∗ owns c.tc a9 fullShare X.x8 ∗ owns c.tc a10 fullShare X.x9 ∗ owns c.tc a11 fullShare X.x10 ∗ owns c.tc a12 fullShare X.x11 ∗ owns c.tc a13 fullShare X.x12 ∗ owns c.tc a14 fullShare X.x13 ∗ owns c.tc a15 fullShare X.x14 ∗ owns c.tc a16 fullShare X.x15 ∗ owns c.tc a17 fullShare X.x16 ∗ owns c.tc a18 fullShare (X.o17 i) ∗ owns c.tc a19 fullShare (X.o18 i p18) ∗ owns c.tc a20 fullShare (X.o19 i p19) ∗ owns c.tc a21 fullShare (X.o20 p20) ∗ owns c.tc a22 fullShare (X.o21 i p21) ∗ owns c.tc a23 fullShare (X.o22 i p22) ∗ owns c.tc a24 fullShare (X.o23 i p23))) := by
  simp only [h0, h1, h2, h3, h4, h5, h6, h7, h8, h9, h10, h11, h12, h13, h14, h15, h16, In1.v35, In1.v61, In1.v104, In1.v107, In1.v108, In1.v116, In1.v117, In1.v126, In1.v146, In1.v147, In1.v149, In1.v167, In1.v189, In1.o17, In1.o18, In1.o19, In1.o20, In1.o21, In1.o22, In1.o23]
  simp only [cc1_attn_in_bwd_eq_skeleton]; unfold cc1_attn_in_bwd_skel
  simp only [k1_part1_eq_skeleton, k1_part2_eq_skeleton, k1_part3_eq_skeleton, k1_part4_eq_skeleton, k1_part5_eq_skeleton, k1_part6_eq_skeleton]
  unfold owns
  iintro ⟨HP, HQ, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, %hf7, H7⟩, ⟨%d8, %f8, %hf8, H8⟩, ⟨%d9, %f9, %hf9, H9⟩, ⟨%d10, %f10, %hf10, H10⟩, ⟨%d11, %f11, %hf11, H11⟩, ⟨%d12, %f12, %hf12, H12⟩, ⟨%d13, %f13, %hf13, H13⟩, ⟨%d14, %f14, %hf14, H14⟩, ⟨%d15, %f15, %hf15, H15⟩, ⟨%d16, %f16, %hf16, H16⟩, ⟨%d17, %f17, %hf17, H17⟩, ⟨%d18, %f18, %hf18, H18⟩, ⟨%d19, %f19, %hf19, H19⟩, ⟨%d20, %f20, %hf20, H20⟩, ⟨%d21, %f21, %hf21, H21⟩, ⟨%d22, %f22, %hf22, H22⟩, ⟨%d23, %f23, %hf23, H23⟩⟩
  obtain rfl := u1.eq_unread hf0
  obtain rfl := u2.eq_unread hf1
  obtain rfl := u3.eq_unread hf2
  obtain rfl := u4.eq_unread hf3
  obtain rfl := u5.eq_unread hf4
  obtain rfl := u6.eq_unread hf5
  obtain rfl := u7.eq_unread hf6
  obtain rfl := u8.eq_unread hf7
  obtain rfl := u9.eq_unread hf8
  obtain rfl := u10.eq_unread hf9
  obtain rfl := u11.eq_unread hf10
  obtain rfl := u12.eq_unread hf11
  obtain rfl := u13.eq_unread hf12
  obtain rfl := u14.eq_unread hf13
  obtain rfl := u15.eq_unread hf14
  obtain rfl := u16.eq_unread hf15
  obtain rfl := u17.eq_unread hf16
  by_cases hc1 : cond1 i
  on_goal 1 => by_cases hc0 : cond0 i
  on_goal 1 =>
    obtain rfl := z18 hc0; obtain rfl := z19 hc0; obtain rfl := z20 hc0; obtain rfl := z21 hc0
    obtain rfl := z22 hc1; obtain rfl := z23 hc1
    sl_exec (disch := first | sl_exact hc0 | sl_exact hc1); sl_step
  on_goal 2 =>
    obtain rfl := u19.eq_unread (hf18.trans (k18 hc0 d18)); obtain rfl := u20.eq_unread (hf19.trans (k19 hc0 d19)); obtain rfl := u21.eq_unread (hf20.trans (k20 hc0 d20)); obtain rfl := u22.eq_unread (hf21.trans (k21 hc0 d21))
    obtain rfl := z22 hc1; obtain rfl := z23 hc1
    sl_exec (disch := first | sl_exact hc0 | sl_exact hc1); sl_step
  on_goal 3 =>
    have hc0 : ¬cond0 i := fun h => hc1 (h01 h)
    obtain rfl := u19.eq_unread (hf18.trans (k18 hc0 d18)); obtain rfl := u20.eq_unread (hf19.trans (k19 hc0 d19)); obtain rfl := u21.eq_unread (hf20.trans (k20 hc0 d20)); obtain rfl := u22.eq_unread (hf21.trans (k21 hc0 d21))
    obtain rfl := u23.eq_unread (hf22.trans (k22 hc1 d22)); obtain rfl := u24.eq_unread (hf23.trans (k23 hc1 d23))
    sl_exec (disch := first | sl_exact hc0 | sl_exact hc1); sl_step
  all_goals
    isplitl [HP]; · iexact HP
    isplitl [HQ]; · iexact HQ
    isplitl [H0]
    · iexists _; isplitr; swap; · iexact H0
      ipureintro; exact u1.read_unread _
    isplitl [H1]
    · iexists _; isplitr; swap; · iexact H1
      ipureintro; exact u2.read_unread _
    isplitl [H2]
    · iexists _; isplitr; swap; · iexact H2
      ipureintro; exact u3.read_unread _
    isplitl [H3]
    · iexists _; isplitr; swap; · iexact H3
      ipureintro; exact u4.read_unread _
    isplitl [H4]
    · iexists _; isplitr; swap; · iexact H4
      ipureintro; exact u5.read_unread _
    isplitl [H5]
    · iexists _; isplitr; swap; · iexact H5
      ipureintro; exact u6.read_unread _
    isplitl [H6]
    · iexists _; isplitr; swap; · iexact H6
      ipureintro; exact u7.read_unread _
    isplitl [H7]
    · iexists _; isplitr; swap; · iexact H7
      ipureintro; exact u8.read_unread _
    isplitl [H8]
    · iexists _; isplitr; swap; · iexact H8
      ipureintro; exact u9.read_unread _
    isplitl [H9]
    · iexists _; isplitr; swap; · iexact H9
      ipureintro; exact u10.read_unread _
    isplitl [H10]
    · iexists _; isplitr; swap; · iexact H10
      ipureintro; exact u11.read_unread _
    isplitl [H11]
    · iexists _; isplitr; swap; · iexact H11
      ipureintro; exact u12.read_unread _
    isplitl [H12]
    · iexists _; isplitr; swap; · iexact H12
      ipureintro; exact u13.read_unread _
    isplitl [H13]
    · iexists _; isplitr; swap; · iexact H13
      ipureintro; exact u14.read_unread _
    isplitl [H14]
    · iexists _; isplitr; swap; · iexact H14
      ipureintro; exact u15.read_unread _
    isplitl [H15]
    · iexists _; isplitr; swap; · iexact H15
      ipureintro; exact u16.read_unread _
    isplitl [H16]
    · iexists _; isplitr; swap; · iexact H16
      ipureintro; exact u17.read_unread _
    isplitl [H17]
    · iexists _; isplitr; swap; · iexact H17
      ipureintro; refine (Stage.read_full _ _ _ _ _ ?_).trans ?_
      · decide
      frame_out
    isplitl [H18]
    · iexists _; isplitr; swap; · iexact H18
      ipureintro; refine (Stage.read_full _ _ _ _ _ ?_).trans ?_
      · decide
      frame_out
    isplitl [H19]
    · iexists _; isplitr; swap; · iexact H19
      ipureintro; refine (Stage.read_full _ _ _ _ _ ?_).trans ?_
      · decide
      frame_out
    isplitl [H20]
    · iexists _; isplitr; swap; · iexact H20
      ipureintro; refine (Stage.read_full _ _ _ _ _ ?_).trans ?_
      · decide
      frame_out
    isplitl [H21]
    · iexists _; isplitr; swap; · iexact H21
      ipureintro; refine (Stage.read_full _ _ _ _ _ ?_).trans ?_
      · decide
      frame_out
    isplitl [H22]
    · iexists _; isplitr; swap; · iexact H22
      ipureintro; refine (Stage.read_full _ _ _ _ _ ?_).trans ?_
      · decide
      frame_out
    iexists _; isplitr; swap; · iexact H23
    ipureintro; refine (Stage.read_full _ _ _ _ _ ?_).trans ?_
    · decide
    frame_out

end Cert.Attn

end
-- ==== Proof.AttnDat.lean ====
module

public import proofs.«01_k».proof.Proof.AttnBody
public import proofs.«01_k».proof.Proof.Gen.Kernel6Ideal.Points
public import Idealize.ShloMosaic.Lib.Pipeline.ValueKit
public import Idealize.ShloMosaic.Lib.Pipeline.FrameBody
public import Idealize.ShloMosaic.Lib.Tactic
@[expose] public section

/-!
The attention input's two calls, forward then gradient, over whole arrays.
-/

set_option maxRecDepth 16384

noncomputable section

namespace Cert.Attn
open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

/-- What an output kept over the grid holds after the points up to `n`, from zero at the points below `r`. -/
def acc {α : Type} {N : ℕ} (s : Fin N → α → α) (z : α) (r : ℕ) : (n : ℕ) → n < N → α
  | 0, h => s ⟨0, h⟩ z
  | n + 1, h => s ⟨n + 1, h⟩ (if n + 1 < r then z else acc s z r n (Nat.lt_of_succ_lt h))
/-- What it holds when the body adds to it. -/
def held {α : Type} {N : ℕ} (s : Fin N → α → α) (z : α) (r : ℕ) (t : Fin N) : α :=
  if t.val < r then z else acc s z r (t.val - 1) (Nat.lt_of_le_of_lt (Nat.sub_le _ _) t.isLt)
theorem acc_eq {α : Type} {N : ℕ} (s : Fin N → α → α) (z : α) (r : ℕ) (hr : 0 < r) (t : Fin N) : acc s z r t.val t.isLt = s t (held s z r t) := by
  obtain ⟨n, hn⟩ := t
  rcases n with _ | n
  · show s ⟨0, hn⟩ z = s ⟨0, hn⟩ (if 0 < r then z else _)
    rw [if_pos hr]
  · rfl
theorem held_next {α : Type} {N : ℕ} (s : Fin N → α → α) (z : α) (r : ℕ) (hr : 0 < r) (t : Fin N) (h : ¬t.val < r) :
    held s z r t = s ⟨t.val - 1, Nat.lt_of_le_of_lt (Nat.sub_le _ _) t.isLt⟩ (held s z r ⟨t.val - 1, Nat.lt_of_le_of_lt (Nat.sub_le _ _) t.isLt⟩) :=
  (if_neg h).trans (acc_eq s z r hr ⟨t.val - 1, Nat.lt_of_le_of_lt (Nat.sub_le _ _) t.isLt⟩)

/-! ### Call 0 -/
section
variable (V : (c : Dev nD) → (b : Ref sig .tc) → Buf (Elt F) ((c : Thread nD τ).loc b))
/-- The block of a window at a point, in the array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))
/-- The blocks read at a point. -/
def X0 (c : Dev nD) (t : Fin cfg0.N) : In0 F := ⟨iblk0 V c 0 t, iblk0 V c 1 t, iblk0 V c 2 t, iblk0 V c 3 t, iblk0 V c 4 t, iblk0 V c 5 t, iblk0 V c 6 t, iblk0 V c 7 t, iblk0 V c 8 t, iblk0 V c 9 t, iblk0 V c 10 t⟩
/-- What the call's windows hold. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => (X0 V c t).o11
    | ⟨12, _⟩ => (X0 V c t).o12
    | ⟨13, _⟩ => (X0 V c t).o13
    | ⟨14, _⟩ => (X0 V c t).o14
    | ⟨15, _⟩ => (X0 V c t).o15
    | ⟨_ + 16, h⟩ => absurd h (Nat.not_lt.2 (Nat.le_add_left _ _))
  Φ _ := Pipeline.ΦA spec0 c
  q _ := fullShare
  owed _ := 0
theorem A_eq0 (c : Dev nD) (w : Fin cfg0.W) : (dat0 V c).A w = V c (Pipeline.arrRef spec0 w) := by
  dsimp only [dat0]
theorem row0 (t : Fin cfg0.N) : defs₀ (F := F) .tc cfg0.body (cfg0.bodyArgs t (cfg0.slots t)) = bodyAt0 t := by
  unfold defs₀; rw [Defs.onTc_tc]
set_option maxHeartbeats 4000000 in
theorem obligation0 (c : Dev nD) : BodyObligation (dat0 (F := F) V c) (defs₀ (F := F)) Variants.none () Set.univ := fun t => by
  rw [bigSep_W0, bigSep_W0, row0]
  exact triple_restated (body0 c (grid0.coords t) ((dat0 V c).Φ t.castSucc) ((dat0 V c).owesAt () t.castSucc) (X0 V c t)
    (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15))
    ((dat0 V c).before 0 t) ((dat0 V c).before 1 t) ((dat0 V c).before 2 t) ((dat0 V c).before 3 t) ((dat0 V c).before 4 t) ((dat0 V c).before 5 t) ((dat0 V c).before 6 t) ((dat0 V c).before 7 t) ((dat0 V c).before 8 t) ((dat0 V c).before 9 t) ((dat0 V c).before 10 t) ((dat0 V c).before 11 t) ((dat0 V c).before 12 t) ((dat0 V c).before 13 t) ((dat0 V c).before 14 t) ((dat0 V c).before 15 t)
    (fun d => ((dat0 V c).before_in_eq_fetched 0 rfl (fun _ => rfl) (fun _ _ _ => rfl) (fun _ => rfl) t d).trans rfl) (fun d => ((dat0 V c).before_in_eq_fetched 1 rfl (fun _ => rfl) (fun _ _ _ => rfl) (fun _ => rfl) t d).trans rfl) (fun d => ((dat0 V c).before_in_eq_fetched 2 rfl (fun _ => rfl) (fun _ _ _ => rfl) (fun _ => rfl) t d).trans rfl) (fun d => ((dat0 V c).before_in_eq_fetched 3 rfl (fun _ => rfl) (fun _ _ _ => rfl) (fun _ => rfl) t d).trans rfl) (fun d => ((dat0 V c).before_in_eq_fetched 4 rfl (fun _ => rfl) (fun _ _ _ => rfl) (fun _ => rfl) t d).trans rfl) (fun d => ((dat0 V c).before_in_eq_fetched 5 rfl (fun _ => rfl) (fun _ _ _ => rfl) (fun _ => rfl) t d).trans rfl) (fun d => ((dat0 V c).before_in_eq_fetched 6 rfl (fun _ => rfl) (fun _ _ _ => rfl) (fun _ => rfl) t d).trans rfl) (fun d => ((dat0 V c).before_in_eq_fetched 7 rfl (fun _ => rfl) (fun _ _ _ => rfl) (fun _ => rfl) t d).trans rfl) (fun d => ((dat0 V c).before_in_eq_fetched 8 rfl (fun _ => rfl) (fun _ _ _ => rfl) (fun _ => rfl) t d).trans rfl) (fun d => ((dat0 V c).before_in_eq_fetched 9 rfl (fun _ => rfl) (fun _ _ _ => rfl) (fun _ => rfl) t d).trans rfl) (fun d => ((dat0 V c).before_in_eq_fetched 10 rfl (fun _ => rfl) (fun _ _ _ => rfl) (fun _ => rfl) t d).trans rfl)
    )
    rfl .rfl fun _ => .rfl
end

/-! ### Call 1 -/
section
variable (V : (c : Dev nD) → (b : Ref sig .tc) → Buf (Elt F) ((c : Thread nD τ).loc b))
/-- The block of a window at a point, in the array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))
/-- The blocks read at a point. -/
def X1 (c : Dev nD) (t : Fin cfg1.N) : In1 F := ⟨iblk1 V c 0 t, iblk1 V c 1 t, iblk1 V c 2 t, iblk1 V c 3 t, iblk1 V c 4 t, iblk1 V c 5 t, iblk1 V c 6 t, iblk1 V c 7 t, iblk1 V c 8 t, iblk1 V c 9 t, iblk1 V c 10 t, iblk1 V c 11 t, iblk1 V c 12 t, iblk1 V c 13 t, iblk1 V c 14 t, iblk1 V c 15 t, iblk1 V c 16 t⟩
abbrev s18 (c : Dev nD) : Fin cfg1.N → Vec F S1024x2560 .f32 → Vec F S1024x2560 .f32 := fun t => (X1 V c t).o18 (grid1.coords t)
def p18 (c : Dev nD) (t : Fin cfg1.N) : Vec F S1024x2560 .f32 := held (s18 V c) (k1_pay4 (F := F)) 1 t
abbrev s19 (c : Dev nD) : Fin cfg1.N → Vec F S1x1024 .f32 → Vec F S1x1024 .f32 := fun t => (X1 V c t).o19 (grid1.coords t)
def p19 (c : Dev nD) (t : Fin cfg1.N) : Vec F S1x1024 .f32 := held (s19 V c) (k1_pay5 (F := F)) 1 t
abbrev s20 (c : Dev nD) : Fin cfg1.N → Vec F S1x256 .f32 → Vec F S1x256 .f32 := fun t => (X1 V c t).o20
def p20 (c : Dev nD) (t : Fin cfg1.N) : Vec F S1x256 .f32 := held (s20 V c) (k1_pay6 (F := F)) 1 t
abbrev s21 (c : Dev nD) : Fin cfg1.N → Vec F S1x1024 .f32 → Vec F S1x1024 .f32 := fun t => (X1 V c t).o21 (grid1.coords t)
def p21 (c : Dev nD) (t : Fin cfg1.N) : Vec F S1x1024 .f32 := held (s21 V c) (k1_pay7 (F := F)) 1 t
abbrev s22 (c : Dev nD) : Fin cfg1.N → Vec F S1x1x1024 .f32 → Vec F S1x1x1024 .f32 := fun t => (X1 V c t).o22 (grid1.coords t)
def p22 (c : Dev nD) (t : Fin cfg1.N) : Vec F S1x1x1024 .f32 := held (s22 V c) (k1_pay8 (F := F)) 2 t
abbrev s23 (c : Dev nD) : Fin cfg1.N → Vec F S1x1x1024 .f32 → Vec F S1x1x1024 .f32 := fun t => (X1 V c t).o23 (grid1.coords t)
def p23 (c : Dev nD) (t : Fin cfg1.N) : Vec F S1x1x1024 .f32 := held (s23 V c) (k1_pay9 (F := F)) 2 t
/-- What the call's windows hold. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => iblk1 V c 13 t
    | ⟨14, _⟩ => iblk1 V c 14 t
    | ⟨15, _⟩ => iblk1 V c 15 t
    | ⟨16, _⟩ => iblk1 V c 16 t
    | ⟨17, _⟩ => (X1 V c t).o17 (grid1.coords t)
    | ⟨18, _⟩ => (X1 V c t).o18 (grid1.coords t) (p18 V c t)
    | ⟨19, _⟩ => (X1 V c t).o19 (grid1.coords t) (p19 V c t)
    | ⟨20, _⟩ => (X1 V c t).o20 (p20 V c t)
    | ⟨21, _⟩ => (X1 V c t).o21 (grid1.coords t) (p21 V c t)
    | ⟨22, _⟩ => (X1 V c t).o22 (grid1.coords t) (p22 V c t)
    | ⟨23, _⟩ => (X1 V c t).o23 (grid1.coords t) (p23 V c t)
    | ⟨_ + 24, h⟩ => absurd h (Nat.not_lt.2 (Nat.le_add_left _ _))
  Φ _ := Pipeline.ΦA spec1 c
  q _ := fullShare
  owed _ := 0
theorem A_eq1 (c : Dev nD) (w : Fin cfg1.W) : (dat1 V c).A w = V c (Pipeline.arrRef spec1 w) := by
  dsimp only [dat1]
theorem fl18 : ∀ t : Fin cfg1.N, (cfg1.win 18).flush t = true ↔ t.val = 32 :=
  (by decide +kernel : ∀ t : Fin grid1.N, win1_18.flush t = true ↔ t.val = 32)
theorem bef18 (c : Dev nD) (t : Fin cfg1.N) (h : ¬t.val < 1) (d) : (dat1 V c).before 18 t d = p18 V c t := by
  have hN : t.val < 33 := lt_of_lt_of_eq t.isLt (show cfg1.N = 33 from N_1)
  rw [Dat.before_out_kept _ 18 rfl t (by omega) (Bool.eq_false_iff.mpr fun h' => by have := (fl18 _).mp h'; dsimp only at this; omega)
    (fun _ => rfl) (fun _ _ => rfl)]
  exact (held_next (s18 V c) (k1_pay4 (F := F)) 1 (by decide) t h).symm
theorem fl19 : ∀ t : Fin cfg1.N, (cfg1.win 19).flush t = true ↔ t.val = 32 :=
  (by decide +kernel : ∀ t : Fin grid1.N, win1_19.flush t = true ↔ t.val = 32)
theorem bef19 (c : Dev nD) (t : Fin cfg1.N) (h : ¬t.val < 1) (d) : (dat1 V c).before 19 t d = p19 V c t := by
  have hN : t.val < 33 := lt_of_lt_of_eq t.isLt (show cfg1.N = 33 from N_1)
  rw [Dat.before_out_kept _ 19 rfl t (by omega) (Bool.eq_false_iff.mpr fun h' => by have := (fl19 _).mp h'; dsimp only at this; omega)
    (fun _ => rfl) (fun _ _ => rfl)]
  exact (held_next (s19 V c) (k1_pay5 (F := F)) 1 (by decide) t h).symm
theorem fl20 : ∀ t : Fin cfg1.N, (cfg1.win 20).flush t = true ↔ t.val = 32 :=
  (by decide +kernel : ∀ t : Fin grid1.N, win1_20.flush t = true ↔ t.val = 32)
theorem bef20 (c : Dev nD) (t : Fin cfg1.N) (h : ¬t.val < 1) (d) : (dat1 V c).before 20 t d = p20 V c t := by
  have hN : t.val < 33 := lt_of_lt_of_eq t.isLt (show cfg1.N = 33 from N_1)
  rw [Dat.before_out_kept _ 20 rfl t (by omega) (Bool.eq_false_iff.mpr fun h' => by have := (fl20 _).mp h'; dsimp only at this; omega)
    (fun _ => rfl) (fun _ _ => rfl)]
  exact (held_next (s20 V c) (k1_pay6 (F := F)) 1 (by decide) t h).symm
theorem fl21 : ∀ t : Fin cfg1.N, (cfg1.win 21).flush t = true ↔ t.val = 32 :=
  (by decide +kernel : ∀ t : Fin grid1.N, win1_21.flush t = true ↔ t.val = 32)
theorem bef21 (c : Dev nD) (t : Fin cfg1.N) (h : ¬t.val < 1) (d) : (dat1 V c).before 21 t d = p21 V c t := by
  have hN : t.val < 33 := lt_of_lt_of_eq t.isLt (show cfg1.N = 33 from N_1)
  rw [Dat.before_out_kept _ 21 rfl t (by omega) (Bool.eq_false_iff.mpr fun h' => by have := (fl21 _).mp h'; dsimp only at this; omega)
    (fun _ => rfl) (fun _ _ => rfl)]
  exact (held_next (s21 V c) (k1_pay7 (F := F)) 1 (by decide) t h).symm
theorem fl22 : ∀ t : Fin cfg1.N, (cfg1.win 22).flush t = true ↔ t.val = 0 ∨ t.val = 32 :=
  (by decide +kernel : ∀ t : Fin grid1.N, win1_22.flush t = true ↔ t.val = 0 ∨ t.val = 32)
theorem bef22 (c : Dev nD) (t : Fin cfg1.N) (h : ¬t.val < 2) (d) : (dat1 V c).before 22 t d = p22 V c t := by
  have hN : t.val < 33 := lt_of_lt_of_eq t.isLt (show cfg1.N = 33 from N_1)
  rw [Dat.before_out_kept _ 22 rfl t (by omega) (Bool.eq_false_iff.mpr fun h' => by have := (fl22 _).mp h'; dsimp only at this; omega)
    (fun _ => rfl) (fun _ _ => rfl)]
  exact (held_next (s22 V c) (k1_pay8 (F := F)) 2 (by decide) t h).symm
theorem fl23 : ∀ t : Fin cfg1.N, (cfg1.win 23).flush t = true ↔ t.val = 0 ∨ t.val = 32 :=
  (by decide +kernel : ∀ t : Fin grid1.N, win1_23.flush t = true ↔ t.val = 0 ∨ t.val = 32)
theorem bef23 (c : Dev nD) (t : Fin cfg1.N) (h : ¬t.val < 2) (d) : (dat1 V c).before 23 t d = p23 V c t := by
  have hN : t.val < 33 := lt_of_lt_of_eq t.isLt (show cfg1.N = 33 from N_1)
  rw [Dat.before_out_kept _ 23 rfl t (by omega) (Bool.eq_false_iff.mpr fun h' => by have := (fl23 _).mp h'; dsimp only at this; omega)
    (fun _ => rfl) (fun _ _ => rfl)]
  exact (held_next (s23 V c) (k1_pay9 (F := F)) 2 (by decide) t h).symm
theorem row1 (t : Fin cfg1.N) : defs₀ (F := F) .tc cfg1.body (cfg1.bodyArgs t (cfg1.slots t)) = bodyAt1 t := by
  unfold defs₀; rw [Defs.onTc_tc]
set_option maxHeartbeats 4000000 in
theorem obligation1 (c : Dev nD) : BodyObligation (dat1 (F := F) V c) (defs₀ (F := F)) Variants.none () Set.univ := fun t => by
  rw [bigSep_W1, bigSep_W1, row1]
  exact triple_restated (body1 c (grid1.coords t) ((dat1 V c).Φ t.castSucc) ((dat1 V c).owesAt () t.castSucc) (X1 V c t)
    (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) (win1_9.stage (cfg1.slots t 9)) (hstage1_9 ((cfg1.slots t 9).cast nbuf1_9)) (win1_10.stage (cfg1.slots t 10)) (hstage1_10 ((cfg1.slots t 10).cast nbuf1_10)) (win1_11.stage (cfg1.slots t 11)) (hstage1_11 ((cfg1.slots t 11).cast nbuf1_11)) (win1_12.stage (cfg1.slots t 12)) (hstage1_12 ((cfg1.slots t 12).cast nbuf1_12)) (win1_13.stage (cfg1.slots t 13)) (hstage1_13 ((cfg1.slots t 13).cast nbuf1_13)) (win1_14.stage (cfg1.slots t 14)) (hstage1_14 ((cfg1.slots t 14).cast nbuf1_14)) (win1_15.stage (cfg1.slots t 15)) (hstage1_15 ((cfg1.slots t 15).cast nbuf1_15)) (win1_16.stage (cfg1.slots t 16)) (hstage1_16 ((cfg1.slots t 16).cast nbuf1_16)) (win1_17.stage (cfg1.slots t 17)) (hstage1_17 ((cfg1.slots t 17).cast nbuf1_17)) (win1_18.stage (cfg1.slots t 18)) (hstage1_18 ((cfg1.slots t 18).cast nbuf1_18)) (win1_19.stage (cfg1.slots t 19)) (hstage1_19 ((cfg1.slots t 19).cast nbuf1_19)) (win1_20.stage (cfg1.slots t 20)) (hstage1_20 ((cfg1.slots t 20).cast nbuf1_20)) (win1_21.stage (cfg1.slots t 21)) (hstage1_21 ((cfg1.slots t 21).cast nbuf1_21)) (win1_22.stage (cfg1.slots t 22)) (hstage1_22 ((cfg1.slots t 22).cast nbuf1_22)) (win1_23.stage (cfg1.slots t 23)) (hstage1_23 ((cfg1.slots t 23).cast nbuf1_23))
    ((dat1 V c).before 0 t) ((dat1 V c).before 1 t) ((dat1 V c).before 2 t) ((dat1 V c).before 3 t) ((dat1 V c).before 4 t) ((dat1 V c).before 5 t) ((dat1 V c).before 6 t) ((dat1 V c).before 7 t) ((dat1 V c).before 8 t) ((dat1 V c).before 9 t) ((dat1 V c).before 10 t) ((dat1 V c).before 11 t) ((dat1 V c).before 12 t) ((dat1 V c).before 13 t) ((dat1 V c).before 14 t) ((dat1 V c).before 15 t) ((dat1 V c).before 16 t) ((dat1 V c).before 17 t) ((dat1 V c).before 18 t) ((dat1 V c).before 19 t) ((dat1 V c).before 20 t) ((dat1 V c).before 21 t) ((dat1 V c).before 22 t) ((dat1 V c).before 23 t)
    (fun d => ((dat1 V c).before_in_eq_fetched 0 rfl (fun _ => rfl) (fun _ _ _ => rfl) (fun _ => rfl) t d).trans rfl) (fun d => ((dat1 V c).before_in_eq_fetched 1 rfl (fun _ => rfl) (fun _ _ _ => rfl) (fun _ => rfl) t d).trans rfl) (fun d => ((dat1 V c).before_in_eq_fetched 2 rfl (fun _ => rfl) (fun _ _ _ => rfl) (fun _ => rfl) t d).trans rfl) (fun d => ((dat1 V c).before_in_eq_fetched 3 rfl (fun _ => rfl) (fun _ _ _ => rfl) (fun _ => rfl) t d).trans rfl) (fun d => ((dat1 V c).before_in_eq_fetched 4 rfl (fun _ => rfl) (fun _ _ _ => rfl) (fun _ => rfl) t d).trans rfl) (fun d => ((dat1 V c).before_in_eq_fetched 5 rfl (fun _ => rfl) (fun _ _ _ => rfl) (fun _ => rfl) t d).trans rfl) (fun d => ((dat1 V c).before_in_eq_fetched 6 rfl (fun _ => rfl) (fun _ _ _ => rfl) (fun _ => rfl) t d).trans rfl) (fun d => ((dat1 V c).before_in_eq_fetched 7 rfl (fun _ => rfl) (fun _ _ _ => rfl) (fun _ => rfl) t d).trans rfl) (fun d => ((dat1 V c).before_in_eq_fetched 8 rfl (fun _ => rfl) (fun _ _ _ => rfl) (fun _ => rfl) t d).trans rfl) (fun d => ((dat1 V c).before_in_eq_fetched 9 rfl (fun _ => rfl) (fun _ _ _ => rfl) (fun _ => rfl) t d).trans rfl) (fun d => ((dat1 V c).before_in_eq_fetched 10 rfl (fun _ => rfl) (fun _ _ _ => rfl) (fun _ => rfl) t d).trans rfl) (fun d => ((dat1 V c).before_in_eq_fetched 11 rfl (fun _ => rfl) (fun _ _ _ => rfl) (fun _ => rfl) t d).trans rfl) (fun d => ((dat1 V c).before_in_eq_fetched 12 rfl (fun _ => rfl) (fun _ _ _ => rfl) (fun _ => rfl) t d).trans rfl) (fun d => ((dat1 V c).before_in_eq_fetched 13 rfl (fun _ => rfl) (fun _ _ _ => rfl) (fun _ => rfl) t d).trans rfl) (fun d => ((dat1 V c).before_in_eq_fetched 14 rfl (fun _ => rfl) (fun _ _ _ => rfl) (fun _ => rfl) t d).trans rfl) (fun d => ((dat1 V c).before_in_eq_fetched 15 rfl (fun _ => rfl) (fun _ _ _ => rfl) (fun _ => rfl) t d).trans rfl) (fun d => ((dat1 V c).before_in_eq_fetched 16 rfl (fun _ => rfl) (fun _ _ _ => rfl) (fun _ => rfl) t d).trans rfl)
    (fun h => (hcond1 t).mpr (Nat.lt_succ_of_lt ((hcond0 t).mp h)))
    (p18 V c t) (fun h => if_pos ((hcond0 t).mp h)) (fun h d => bef18 V c t (fun h2 => h ((hcond0 t).mpr h2)) d) (p19 V c t) (fun h => if_pos ((hcond0 t).mp h)) (fun h d => bef19 V c t (fun h2 => h ((hcond0 t).mpr h2)) d) (p20 V c t) (fun h => if_pos ((hcond0 t).mp h)) (fun h d => bef20 V c t (fun h2 => h ((hcond0 t).mpr h2)) d) (p21 V c t) (fun h => if_pos ((hcond0 t).mp h)) (fun h d => bef21 V c t (fun h2 => h ((hcond0 t).mpr h2)) d) (p22 V c t) (fun h => if_pos ((hcond1 t).mp h)) (fun h d => bef22 V c t (fun h2 => h ((hcond1 t).mpr h2)) d) (p23 V c t) (fun h => if_pos ((hcond1 t).mp h)) (fun h d => bef23 V c t (fun h2 => h ((hcond1 t).mpr h2)) d))
    rfl .rfl fun _ => .rfl
end

end Cert.Attn

end
-- ==== Proof.AttnFrame.lean ====
module

public import proofs.«01_k».proof.Proof.AttnDat
public import proofs.«01_k».proof.Proof.Gen.Kernel6Ideal.Regions
public import Idealize.ShloMosaic.Lib.Pipeline.FrameSuffix
public import Idealize.ShloMosaic.Lib.Pipeline.Regions
@[expose] public section

/-!
The attention input's two calls as segments of the program; the program ends and keeps its arguments.
-/

set_option maxRecDepth 16384

noncomputable section

namespace Cert.Attn
open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The buffers as call 0 finds them. -/
abbrev v9 : (c : Dev nD) → (b : Ref sig .tc) → Buf (Elt F) ((c : Thread nD τ).loc b) := fun c b => V9 m c b
/-- The buffers as call 0 leaves them. -/
def W10 (c : Dev nD) : Valuation τ sig (Elt F) := Pipeline.withArrays spec0 c (V9 m c) fun w => (dat0 (v9 m) c).arrAt w cfg0.N
theorem W10_arr (c : Dev nD) (w : Fin cfg0.W) : W10 m c (Proc.devRef .tc (Pipeline.arrRef spec0 w)) = (dat0 (v9 m) c).arrAt w cfg0.N := by
  unfold W10; exact Pipeline.withArrays_arr spec0 launch0.win.arr_inj c _ _ w
theorem W10_of_ne (c : Dev nD) (b : Ref sig .tc) (hb : ∀ w, Pipeline.arrRef spec0 w ≠ b) : W10 m c (Proc.devRef .tc b) = V9 m c (Proc.devRef .tc b) := by
  unfold W10; exact Pipeline.withArrays_of_ne spec0 c _ _ b hb
theorem outsIn0 : ∀ w : Fin cfg0.W, (cfg0.win w).isOut = true → Pipeline.arrRef spec0 w ∈ ([main_v69_0, main_v69_1, main_v69_2, main_v69_3, main_v69_4] : List (Ref sig .tc)) := by decide +kernel
theorem W10_of (c : Dev nD) (r : Ref sig .tc) (h : r ∉ ([main_v69_0, main_v69_1, main_v69_2, main_v69_3, main_v69_4] : List (Ref sig .tc))) : W10 m c (Proc.devRef .tc r) = V9 m c (Proc.devRef .tc r) := by
  by_cases hw : ∃ w : Fin cfg0.W, Pipeline.arrRef spec0 w = r
  · obtain ⟨w, rfl⟩ := hw
    exact (W10_arr m c w).trans (((dat0 (v9 m) c).arrAt_in w (Bool.eq_false_iff.mpr fun hw => h (outsIn0 w hw)) _).trans (A_eq0 (v9 m) c w))
  · exact W10_of_ne m c r fun w e => hw ⟨w, e⟩
/-- What call 0 leaves. -/
def outs₀ : Outs (F := F) := fun _ r c => W10 m c (Proc.devRef .tc r)
/-- The buffers as call 1 finds them. -/
abbrev v15 : (c : Dev nD) → (b : Ref sig .tc) → Buf (Elt F) ((c : Thread nD τ).loc b) := fun c b => V15 m (outs₀ m) c b
/-- The buffers as call 1 leaves them. -/
def W16 (c : Dev nD) : Valuation τ sig (Elt F) := Pipeline.withArrays spec1 c (V15 m (outs₀ m) c) fun w => (dat1 (v15 m) c).arrAt w cfg1.N
theorem W16_arr (c : Dev nD) (w : Fin cfg1.W) : W16 m c (Proc.devRef .tc (Pipeline.arrRef spec1 w)) = (dat1 (v15 m) c).arrAt w cfg1.N := by
  unfold W16; exact Pipeline.withArrays_arr spec1 launch1.win.arr_inj c _ _ w
theorem W16_of_ne (c : Dev nD) (b : Ref sig .tc) (hb : ∀ w, Pipeline.arrRef spec1 w ≠ b) : W16 m c (Proc.devRef .tc b) = V15 m (outs₀ m) c (Proc.devRef .tc b) := by
  unfold W16; exact Pipeline.withArrays_of_ne spec1 c _ _ b hb
theorem outsIn1 : ∀ w : Fin cfg1.W, (cfg1.win w).isOut = true → Pipeline.arrRef spec1 w ∈ ([main_v88_0, main_v88_1, main_v88_2, main_v88_3, main_v88_4, main_v88_5, main_v88_6] : List (Ref sig .tc)) := by decide +kernel
theorem W16_of (c : Dev nD) (r : Ref sig .tc) (h : r ∉ ([main_v88_0, main_v88_1, main_v88_2, main_v88_3, main_v88_4, main_v88_5, main_v88_6] : List (Ref sig .tc))) : W16 m c (Proc.devRef .tc r) = V15 m (outs₀ m) c (Proc.devRef .tc r) := by
  by_cases hw : ∃ w : Fin cfg1.W, Pipeline.arrRef spec1 w = r
  · obtain ⟨w, rfl⟩ := hw
    exact (W16_arr m c w).trans (((dat1 (v15 m) c).arrAt_in w (Bool.eq_false_iff.mpr fun hw => h (outsIn1 w hw)) _).trans (A_eq1 (v15 m) c w))
  · exact W16_of_ne m c r fun w e => hw ⟨w, e⟩
/-- What the calls leave. -/
def outs : Outs (F := F) := fun n r c => match n with
  | 10 => W10 m c (Proc.devRef .tc r)
  | _ => W16 m c (Proc.devRef .tc r)
theorem V15_outs (c : Dev nD) : V15 m (outs m) c = V15 m (outs₀ m) c := rfl
theorem V10_eq (c : Dev nD) (r : Ref sig .tc) : V10 m (outs m) c (Proc.devRef .tc r) = W10 m c (Proc.devRef .tc r) := by
  by_cases h : r ∈ ([main_v69_0, main_v69_1, main_v69_2, main_v69_3, main_v69_4] : List (Ref sig .tc))
  · simp only [List.mem_cons, List.not_mem_nil, or_false] at h
    rcases h with rfl | rfl | rfl | rfl | rfl
    · exact (Function.update_of_ne (StableHlo.devRef_ne_of_ne (by decide)) _ _).trans <| (Function.update_of_ne (StableHlo.devRef_ne_of_ne (by decide)) _ _).trans <| (Function.update_of_ne (StableHlo.devRef_ne_of_ne (by decide)) _ _).trans <| (Function.update_of_ne (StableHlo.devRef_ne_of_ne (by decide)) _ _).trans <| Function.update_self ..
    · exact (Function.update_of_ne (StableHlo.devRef_ne_of_ne (by decide)) _ _).trans <| (Function.update_of_ne (StableHlo.devRef_ne_of_ne (by decide)) _ _).trans <| (Function.update_of_ne (StableHlo.devRef_ne_of_ne (by decide)) _ _).trans <| Function.update_self ..
    · exact (Function.update_of_ne (StableHlo.devRef_ne_of_ne (by decide)) _ _).trans <| (Function.update_of_ne (StableHlo.devRef_ne_of_ne (by decide)) _ _).trans <| Function.update_self ..
    · exact (Function.update_of_ne (StableHlo.devRef_ne_of_ne (by decide)) _ _).trans <| Function.update_self ..
    · exact Function.update_self ..
  · exact (V10_of m (outs m) c r h).trans (W10_of m c r h).symm
theorem V16_eq (c : Dev nD) (r : Ref sig .tc) : V16 m (outs m) c (Proc.devRef .tc r) = W16 m c (Proc.devRef .tc r) := by
  by_cases h : r ∈ ([main_v88_0, main_v88_1, main_v88_2, main_v88_3, main_v88_4, main_v88_5, main_v88_6] : List (Ref sig .tc))
  · simp only [List.mem_cons, List.not_mem_nil, or_false] at h
    rcases h with rfl | rfl | rfl | rfl | rfl | rfl | rfl
    · exact (Function.update_of_ne (StableHlo.devRef_ne_of_ne (by decide)) _ _).trans <| (Function.update_of_ne (StableHlo.devRef_ne_of_ne (by decide)) _ _).trans <| (Function.update_of_ne (StableHlo.devRef_ne_of_ne (by decide)) _ _).trans <| (Function.update_of_ne (StableHlo.devRef_ne_of_ne (by decide)) _ _).trans <| (Function.update_of_ne (StableHlo.devRef_ne_of_ne (by decide)) _ _).trans <| (Function.update_of_ne (StableHlo.devRef_ne_of_ne (by decide)) _ _).trans <| Function.update_self ..
    · exact (Function.update_of_ne (StableHlo.devRef_ne_of_ne (by decide)) _ _).trans <| (Function.update_of_ne (StableHlo.devRef_ne_of_ne (by decide)) _ _).trans <| (Function.update_of_ne (StableHlo.devRef_ne_of_ne (by decide)) _ _).trans <| (Function.update_of_ne (StableHlo.devRef_ne_of_ne (by decide)) _ _).trans <| (Function.update_of_ne (StableHlo.devRef_ne_of_ne (by decide)) _ _).trans <| Function.update_self ..
    · exact (Function.update_of_ne (StableHlo.devRef_ne_of_ne (by decide)) _ _).trans <| (Function.update_of_ne (StableHlo.devRef_ne_of_ne (by decide)) _ _).trans <| (Function.update_of_ne (StableHlo.devRef_ne_of_ne (by decide)) _ _).trans <| (Function.update_of_ne (StableHlo.devRef_ne_of_ne (by decide)) _ _).trans <| Function.update_self ..
    · exact (Function.update_of_ne (StableHlo.devRef_ne_of_ne (by decide)) _ _).trans <| (Function.update_of_ne (StableHlo.devRef_ne_of_ne (by decide)) _ _).trans <| (Function.update_of_ne (StableHlo.devRef_ne_of_ne (by decide)) _ _).trans <| Function.update_self ..
    · exact (Function.update_of_ne (StableHlo.devRef_ne_of_ne (by decide)) _ _).trans <| (Function.update_of_ne (StableHlo.devRef_ne_of_ne (by decide)) _ _).trans <| Function.update_self ..
    · exact (Function.update_of_ne (StableHlo.devRef_ne_of_ne (by decide)) _ _).trans <| Function.update_self ..
    · exact Function.update_self ..
  · exact (V16_of m (outs m) c r h).trans ((congrFun (V15_outs m c) _).trans (W16_of m c r h).symm)

/-- The two calls' windows. -/
def pdats : (p : Fin 2) → (c : Dev nD) → Dat τ (Elt F) Unit ℕ (UR sig nD τ) ℕ (Pipeline.pin (pcfgs (F := F)) adm p) c
  | ⟨0, _⟩ => fun c => dat0 (v9 m) c
  | ⟨1, _⟩ => fun c => dat1 (v15 m) c
abbrev L : GSem nD τ sig → Finset Unit := fun _ => ∅
abbrev lv : GSem nD τ sig → Unit → ℕ := fun _ _ => 0
/-- What rides beside the buffers. -/
abbrev rest (c : Dev nD) : sProp 𝕄 := iprop((∃ r, prngReg c r) ∗ ∃ W, owes (c : Thread nD τ) (0 : CellTallies nD τ sig Unit) W)
set_option backward.isDefEq.respectTransparency.types false in
/-- Call 0 as a segment. -/
def reg0 : Pipeline.RegionSeg (pcfgs (F := F)) adm (pdats m) () defs₀ Variants.none L lv 0 where
  win := launch0.win.to₀
  block_pos := launch0.block_pos
  stage_whole := launch0.stage_whole
  K := PEmpty
  osem k := k.elim
  ho := Pipeline.OwnSemFacts.none _
  hbody c := (obligation0 (v9 m) c).loose
  hwaits := Pipeline.hwaits_of_owed_zero _ _ _ _ L lv 0 fun _ _ => rfl
  pre c := iprop(StableHlo.held (c : Thread nD τ) (Pipeline.ucRefs τ sig) (V9 m c) ∗ rest c)
  post c := iprop(StableHlo.held (c : Thread nD τ) (Pipeline.ucRefs τ sig) (V10 m (outs m) c) ∗ rest c)
  X c := iprop(∃ r, prngReg c r)
  Y c := iprop(∃ r, prngReg c r)
  Z c := Pipeline.unscopedRest (Ix := Unit) (Name := ℕ) (U := UR sig nD τ) (Lvl := ℕ) spec0 c (v9 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (v9 m c) (A_eq0 (v9 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (v9 m c) (fun b => V10 m (outs m) c b) ((pdats m 0 c).arrAt · cfg0.N)
      (fun w => (W10_arr m c w).symm.trans (V10_eq m c _).symm)
      (fun b hb => (V10_eq m c b).trans (W10_of_ne m c b fun w e => hb (Finset.mem_image.mpr ⟨w, Finset.mem_univ _, e⟩)))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO
set_option backward.isDefEq.respectTransparency.types false in
/-- Call 1 as a segment. -/
def reg1 : Pipeline.RegionSeg (pcfgs (F := F)) adm (pdats m) () defs₀ Variants.none L lv 1 where
  win := launch1.win.to₀
  block_pos := launch1.block_pos
  stage_whole := launch1.stage_whole
  K := PEmpty
  osem k := k.elim
  ho := Pipeline.OwnSemFacts.none _
  hbody c := (obligation1 (v15 m) c).loose
  hwaits := Pipeline.hwaits_of_owed_zero _ _ _ _ L lv 1 fun _ _ => rfl
  pre c := iprop(StableHlo.held (c : Thread nD τ) (Pipeline.ucRefs τ sig) (V15 m (outs₀ m) c) ∗ rest c)
  post c := iprop(StableHlo.held (c : Thread nD τ) (Pipeline.ucRefs τ sig) (V16 m (outs m) c) ∗ rest c)
  X c := iprop(∃ r, prngReg c r)
  Y c := iprop(∃ r, prngReg c r)
  Z c := Pipeline.unscopedRest (Ix := Unit) (Name := ℕ) (U := UR sig nD τ) (Lvl := ℕ) spec1 c (v15 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (v15 m c) (A_eq1 (v15 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (v15 m c) (fun b => V16 m (outs m) c b) ((pdats m 1 c).arrAt · cfg1.N)
      (fun w => (W16_arr m c w).symm.trans (V16_eq m c _).symm)
      (fun b hb => (V16_eq m c b).trans (W16_of_ne m c b fun w e => hb (Finset.mem_image.mpr ⟨w, Finset.mem_univ _, e⟩)))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem rest_of (c : Dev nD) : (iprop(unscopedSems0 c ∗ owes (c : Thread nD τ) (0 : CellTallies nD τ sig Unit) ∅ ∗ Pipeline.launchCred (0 : Dev nD → CellTallies nD τ sig Unit) c ∗ prngReg c (ρ c) ∗ emp) : sProp 𝕄) ⊢ rest c := by
  iintro ⟨-, HO, -, Hp, -⟩
  isplitl [Hp]; · iexists _; iexact Hp
  iexists ∅; iexact HO
set_option backward.isDefEq.respectTransparency.types false in
/-- The program ends from every start, with its arguments as they were. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  frame_cond m emb₁ () Variants.none L lv (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ => rest)
    (by
      iintro ⟨H, -⟩; imodintro
      iapply (show _ ⊢ (bigSep Finset.univ rest : sProp 𝕄) from bigSep_mono fun c _ => rest_of ρ c)
      iexact H)
    (fun c => by iintro ⟨-, H⟩; iexact H)
    (reg0 m) (fun _ => .rfl) (fun _ => .rfl) (reg1 m) (fun c => by rw [V15_outs]; exact .rfl) (fun _ => .rfl)

end Cert.Attn

end
-- ==== Proof.AttnWords.lean ====
module

public import proofs.«01_k».proof.Defs
public import proofs.«01_k».proof.Proof.AttnFrame
public import proofs.«01_k».proof.Proof.Gen.Kernel6
public import proofs.«01_k».proof.Proof.Gen.Reference6Ideal.Run
public import Idealize.ShloMosaic.Lib.Claim

@[expose] public section

/-!
The attention input's frames: over words the program is the ideal form's program.
-/

set_option maxRecDepth 16384

noncomputable section

open Idealize.ShloMosaic Idealize.SL.Sem TcCoe

namespace Cert.AttnWords

set_option maxHeartbeats 8000000 in
/-- The two programs call the same bodies. -/
theorem defs_eq : Cert.Kernel6.defs (F := Bits) = Cert.Kernel6Ideal.defs (F := Bits) := by
  have e : Cert.Kernel6.defs₀ (F := Bits) = Cert.Kernel6Ideal.defs₀ (F := Bits) := by
    unfold Cert.Kernel6.defs₀ Cert.Kernel6Ideal.defs₀
    refine congrArg Defs.onTc (funext fun l => funext fun a => ?_)
    match l, a with
    | ⟨0, _⟩, (t, s) => rfl
    | ⟨1, _⟩, (t, s) => rfl
  exact congrArg (Pipeline.defs (Cert.Kernel6Ideal.pcfgs (F := Bits))) e

set_option maxHeartbeats 8000000 in
/-- The frame over words. -/
theorem words : Cert.quiescent_Kernel6 := fun m ρ _ => by
  have k := Cert.Attn.frame (F := Bits) m ρ
  rw [← defs_eq] at k
  exact k

/-- The ideal form's frame. -/
theorem ideal : Cert.quiescent_Kernel6Ideal := fun m ρ _ => Cert.Attn.frame m ρ

/-- The reference's frame. -/
theorem ref : Cert.quiescent_Reference6Ideal := fun m ρ _ =>
  (θ_run _ _ _).mono (fun r h => ⟨fun c => (h c).2.2.2.2.2.2.2.2.2.2.2, sem_eq_zero_of_no_sems rfl _⟩) (Cert.Reference6Ideal.Value.run m ρ)

end Cert.AttnWords

end
-- ==== Proof.Stream.lean ====
module

public import proofs.«01_k».proof.Proof.Tiles
@[expose] public section

/-!
The stream of rows, the context's before the tokens', over the extended reals.
-/

noncomputable section

open Idealize.ShloMosaic Idealize.SL.Sem
namespace Cert.Stream

abbrev ERow := Fin 1024 → EReal
abbrev EMat := Fin 1024 → Fin 1024 → EReal

/-- A row modulated: the row over its root mean square, scaled and shifted. -/
def hid (u g s b : ERow) : ERow := fun d =>
  u d * Ideal.rsqrt (Ideal.div (∑ e, u e * u e) (Ideal.ofBits .f32 0x44800000#32) + Ideal.ofBits .f32 0x358637BD#32) * g d
    * (1 + s d) + b d
/-- The modulated row projected. -/
def proj {n : ℕ} (u g s b : ERow) (w : Fin 1024 → Fin n → EReal) (k : Fin n) : EReal := ∑ d, hid u g s b d * w d k

/-- Row `a` of the stream. -/
def srow (x0 : FVec Ideal ⟨2, ![256, 1024]⟩ .f32) (x1 : FVec Ideal ⟨2, ![8192, 1024]⟩ .f32) (a : ℕ) : ERow :=
  fun d => if h : a < 256 then x0 (ix2 ⟨a, h⟩ d) else if h' : a - 256 < 8192 then x1 (ix2 ⟨a - 256, h'⟩ d) else 0

/-- The rows come from the context at the first point and from the tokens after it. -/
theorem pick {α : Type} {v1 v2 : α} {n : ℕ} (h : n < 33) : Scalar.select (Scalar.cmpi .eq (BitVec.ofNat 32 n) 0#32) v1 v2 = if n = 0 then v1 else v2 := by
  interval_cases n <;> rfl
end Cert.Stream
end
-- ==== Proof.SsmFwd.lean ====
module

public import proofs.«01_k».proof.Proof.Gen.Kernel7Ideal.Value
public import proofs.«01_k».proof.Proof.Gen.Reference7Ideal.Run
public import proofs.«01_k».proof.Proof.Gen.Reference7Ideal.Read
public import proofs.«01_k».proof.Proof.Stream
public import Idealize.ShloMosaic.Lib.Claim
@[expose] public section

/-!
The scan's input: each row of the stream normed, scaled, shifted and projected, over the extended reals.
-/

set_option maxRecDepth 16384

noncomputable section

open Idealize.ShloMosaic Idealize.SL.Sem
namespace Cert.SsmFwd
open Cert.Kernel7Ideal Cert.Kernel7Ideal.Gen Cert.LossSpec Cert.Tiles Cert.Stream

variable {i : grid0.Coords} {v1 v2 : Vec Ideal S256x1024 .f32} {v4 : Vec Ideal S1x1024 .f32} {v6 v8 : Vec Ideal S1x1x1024 .f32} {v28 : Vec Ideal S1024x2048 .f32}

theorem pay1_at (u : Vec Ideal S256x1024 .f32) (h : Scalar.select (Scalar.cmpi .eq (BitVec.ofNat 32 (i 0).val) 0#32) v1 v2 = u) (r : Fin 256) (k : Fin 2048) :
    k0_pay1 (F := Ideal) i v1 v2 v4 v6 v8 v28 (ix2 r k)
      = proj (fun d => u (ix2 r d)) (fun d => v4 (ix2 0 d)) (fun d => v6 (ix3 0 0 d)) (fun d => v8 (ix3 0 0 d)) (fun d k => v28 (ix2 d k)) k := by
  unfold k0_pay1
  dsimp only
  rw [h]
  pointwise []
  rfl

variable (x0 : (⟨S256x1024, .f32⟩ : BufTy).Contents (Elt Ideal)) (x1 : (⟨S8192x1024, .f32⟩ : BufTy).Contents (Elt Ideal)) (x2 : (⟨S1024, .f32⟩ : BufTy).Contents (Elt Ideal))
  (x3 x4 : (⟨S2x1024, .f32⟩ : BufTy).Contents (Elt Ideal)) (x5 : (⟨S1024x2048, .f32⟩ : BufTy).Contents (Elt Ideal))

section
open Cert.Reference7Ideal.Read
theorem cst_v (i : Cert.Reference7Ideal.S_.Idx) : val_main_cst (F := Ideal) i = 0 := bits_0
theorem cst_2_v (i : Cert.Reference7Ideal.S_.Idx) : val_main_cst_2 (F := Ideal) i = 1 := bits_1
theorem cst_3_v (i : Cert.Reference7Ideal.S_.Idx) : val_main_cst_3 (F := Ideal) i = 0 := bits_0
theorem cst_6_v (i : Cert.Reference7Ideal.S_.Idx) : val_main_cst_6 (F := Ideal) i = 1 := bits_1
/-- A token's row, modulated by the reference. -/
theorem tok_at (a : Fin 8192) (d : Fin 1024) : val_main_v24 (F := Ideal) x1 x2 x3 x4 (ix2 a d)
    = hid (fun d => x1 (ix2 a d)) (fun d => x2 (ix1 d)) (fun d => x3 (ix2 1 d)) (fun d => x4 (ix2 1 d)) d := by
  unfold val_main_v24 val_main_v19 val_main_v12 val_main_v9 val_main_v8 val_main_v7 val_main_v6 val_main_v4 val_main_v2 val_main_v1 val_main_v0
  unfold val_main_v3 val_main_v5 val_main_v11 val_main_v10 val_main_v18 val_main_v17 val_main_v16 val_main_v15 val_main_v14 val_main_v13
  unfold val_main_v23 val_main_v22 val_main_v21 val_main_v20
  pointwise []
  rw [cst_v, cst_2_v, zero_add]
  rfl
/-- A context's row, modulated by the reference. -/
theorem ctx_at (a : Fin 256) (d : Fin 1024) : val_main_v49 (F := Ideal) x0 x2 x3 x4 (ix2 a d)
    = hid (fun d => x0 (ix2 a d)) (fun d => x2 (ix1 d)) (fun d => x3 (ix2 0 d)) (fun d => x4 (ix2 0 d)) d := by
  unfold val_main_v49 val_main_v44 val_main_v37 val_main_v34 val_main_v33 val_main_v32 val_main_v31 val_main_v29 val_main_v27 val_main_v26 val_main_v25
  unfold val_main_v28 val_main_v30 val_main_v36 val_main_v35 val_main_v43 val_main_v42 val_main_v41 val_main_v40 val_main_v39 val_main_v38
  unfold val_main_v48 val_main_v47 val_main_v46 val_main_v45
  pointwise []
  rw [cst_3_v, cst_6_v, zero_add]
  rfl

/-- The projection of row `a` of the stream. -/
def sproj (a : ℕ) (k : Fin 2048) : EReal :=
  proj (srow x0 x1 a) (fun d => x2 (ix1 d)) (fun d => x3 (ix2 (SsminSpec.seg a) d)) (fun d => x4 (ix2 (SsminSpec.seg a) d)) (fun d k => x5 (ix2 d k)) k

theorem v52_at (a : Fin 8448) (k : Fin 2048) : val_main_v52 (F := Ideal) x0 x1 x2 x3 x4 x5 (ix2 a k) = sproj x0 x1 x2 x3 x4 x5 a.val k := by
  unfold val_main_v52 val_main_v50 val_main_v51
  have e0 := ctx_at x0 x2 x3 x4
  have e1 := tok_at x1 x2 x3 x4
  generalize val_main_v49 (F := Ideal) x0 x2 x3 x4 = y0 at e0 ⊢
  generalize val_main_v24 (F := Ideal) x1 x2 x3 x4 = y1 at e1 ⊢
  pointwise []
  simp only [e0, e1]
  unfold sproj proj srow SsminSpec.seg
  have ha := a.isLt
  by_cases h : a.val < 256
  · simp only [dif_pos h, if_pos h]
  · simp only [dif_neg h, if_neg h, dif_pos (show a.val - 256 < 8192 by omega)]
theorem v53_at (a : Fin 8448) (k : Fin 1024) : val_main_v53 (F := Ideal) x0 x1 x2 x3 x4 x5 (ix2 a k) = sproj x0 x1 x2 x3 x4 x5 a.val ⟨k.val, by omega⟩ := by
  have e := v52_at x0 x1 x2 x3 x4 x5
  unfold val_main_v53
  generalize val_main_v52 (F := Ideal) x0 x1 x2 x3 x4 x5 = y at e ⊢
  pointwise []
  rw [e]
theorem v54_at (a : Fin 8448) (k : Fin 1024) : val_main_v54 (F := Ideal) x0 x1 x2 x3 x4 x5 (ix2 a k) = sproj x0 x1 x2 x3 x4 x5 a.val ⟨1024 + k.val, by omega⟩ := by
  have e := v52_at x0 x1 x2 x3 x4 x5
  unfold val_main_v54
  generalize val_main_v52 (F := Ideal) x0 x1 x2 x3 x4 x5 = y at e ⊢
  pointwise []
  rw [e]
end

/-! What the call leaves. -/

/-- The blocks the windows stand on. -/
theorem widx : ∀ t : Fin cfg0.N, win0_0.index t = ![0, 0] ∧ win0_1.index t = ![t.val - 1, 0] ∧ win0_2.index t = ![0, 0]
    ∧ win0_3.index t = ![if t.val = 0 then 0 else 1, 0, 0] ∧ win0_4.index t = ![if t.val = 0 then 0 else 1, 0, 0] ∧ win0_5.index t = ![0, 0] ∧ win0_6.index t = ![t.val, 0] ∧ win0_7.index t = ![t.val, 0]
    ∧ (grid0.coords t 0).val = t.val :=
  (by decide +kernel : ∀ t : Fin grid0.N, _)

variable (m : (ℓ : Loc nD τ sig) → Buf (Elt Ideal) ℓ) (c : Dev nD)

/-- The projection of row `a` of the stream, of the launch's arguments. -/
abbrev mproj (a : ℕ) (k : Fin 2048) : EReal :=
  sproj (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) a k

section
variable (t : Fin cfg0.N)
theorem b0_at (r : Fin 256) (d : Fin 1024) : (iblk m c 0 t : FVec Ideal S256x1024 .f32) (ix2 r d) = (m ((c.tc : Thread nD τ).loc main_arg0) : FVec Ideal S256x1024 .f32) (ix2 r d) := by
  rw [← V_main_arg0 m c]
  blk_ext! [iblk, widx t]
theorem b1_at (r : Fin 256) (d : Fin 1024) (h : 256 * (t.val - 1) + r.val < 8192) : (iblk m c 1 t : FVec Ideal S256x1024 .f32) (ix2 r d)
    = (m ((c.tc : Thread nD τ).loc main_arg1) : FVec Ideal S8192x1024 .f32) (ix2 ⟨256 * (t.val - 1) + r.val, h⟩ d) := by
  rw [← V_main_arg1 m c]
  blk_ext! [iblk, widx t]
theorem b2_at (d : Fin 1024) : (iblk m c 2 t : FVec Ideal S1x1024 .f32) (ix2 0 d) = (m ((c.tc : Thread nD τ).loc main_arg2) : FVec Ideal S1024 .f32) (ix1 d) := by
  have e : (V m c main_v0 : FVec Ideal S1x1024 .f32) = shapeCast S1x1024 (m ((c.tc : Thread nD τ).loc main_arg2) : FVec Ideal S1024 .f32) shapeCasts_S1024_S1x1024 := by
    show StableHlo.after hostOps0 _ (Proc.devRef .tc main_v0) = _
    entry_read
    rfl
  have e' : (V m c main_v0 : FVec Ideal S1x1024 .f32) (ix2 0 d) = (m ((c.tc : Thread nD τ).loc main_arg2) : FVec Ideal S1024 .f32) (ix1 d) := by
    rw [e]
    pointwise []
  rw [← e']
  blk_ext! [iblk, widx t]
theorem b5_at (d : Fin 1024) (k : Fin 2048) : (iblk m c 5 t : FVec Ideal S1024x2048 .f32) (ix2 d k) = (m ((c.tc : Thread nD τ).loc main_arg5) : FVec Ideal S1024x2048 .f32) (ix2 d k) := by
  rw [← V_main_arg5 m c]
  blk_ext! [iblk, widx t]
theorem b3_at (d : Fin 1024) : (iblk m c 3 t : FVec Ideal S1x1x1024 .f32) (ix3 0 0 d) = (m ((c.tc : Thread nD τ).loc main_arg3) : FVec Ideal S2x1024 .f32) (ix2 (sg t.val) d) := by
  have e : (V m c main_v1 : FVec Ideal S2x1x1024 .f32) = shapeCast S2x1x1024 (m ((c.tc : Thread nD τ).loc main_arg3) : FVec Ideal S2x1024 .f32) shapeCasts_S2x1024_S2x1x1024 := by
    show StableHlo.after hostOps0 _ (Proc.devRef .tc main_v1) = _
    entry_read
    rfl
  have e' (s : Fin 2) : (V m c main_v1 : FVec Ideal S2x1x1024 .f32) (ix3 s 0 d) = (m ((c.tc : Thread nD τ).loc main_arg3) : FVec Ideal S2x1024 .f32) (ix2 s d) := by
    rw [e]
    pointwise []
  rw [← e']
  unfold sg
  have w := (widx t).2.2.2.1
  split at w
  · rename_i h; simp only [h, if_true]; blk_ext! [iblk, w]
  · rename_i h; simp only [h, if_false]; blk_ext! [iblk, w]
theorem b4_at (d : Fin 1024) : (iblk m c 4 t : FVec Ideal S1x1x1024 .f32) (ix3 0 0 d) = (m ((c.tc : Thread nD τ).loc main_arg4) : FVec Ideal S2x1024 .f32) (ix2 (sg t.val) d) := by
  have e : (V m c main_v2 : FVec Ideal S2x1x1024 .f32) = shapeCast S2x1x1024 (m ((c.tc : Thread nD τ).loc main_arg4) : FVec Ideal S2x1024 .f32) shapeCasts_S2x1024_S2x1x1024 := by
    show StableHlo.after hostOps0 _ (Proc.devRef .tc main_v2) = _
    entry_read
    rfl
  have e' (s : Fin 2) : (V m c main_v2 : FVec Ideal S2x1x1024 .f32) (ix3 s 0 d) = (m ((c.tc : Thread nD τ).loc main_arg4) : FVec Ideal S2x1024 .f32) (ix2 s d) := by
    rw [e]
    pointwise []
  rw [← e']
  unfold sg
  have w := (widx t).2.2.2.2.1
  split at w
  · rename_i h; simp only [h, if_true]; blk_ext! [iblk, w]
  · rename_i h; simp only [h, if_false]; blk_ext! [iblk, w]

/-- What a point computes: its rows' projections. -/
theorem row_at (r : Fin 256) (k : Fin 2048) :
    k0_pay1 (F := Ideal) (grid0.coords t) (iblk m c 0 t) (iblk m c 1 t) (iblk m c 2 t) (iblk m c 3 t) (iblk m c 4 t) (iblk m c 5 t) (ix2 r k) = mproj m c (256 * t.val + r.val) k := by
  have ht : t.val < 33 := t.isLt
  have hr := r.isLt
  rw [pay1_at (if t.val = 0 then iblk m c 0 t else iblk m c 1 t) (by rw [(widx t).2.2.2.2.2.2.2.2]; exact pick ht) r k]
  unfold mproj sproj
  simp only [b2_at, b3_at, b4_at, b5_at, seg_tile]
  refine congrArg (fun u => proj u _ _ _ _ k) (funext fun d => ?_)
  unfold srow
  by_cases h : t.val = 0
  · rw [if_pos h, dif_pos (by omega)]
    refine (b0_at m c t r d).trans (congrArg _ (congrArg (fun z => ix2 z d) (Fin.ext ?_)))
    show r.val = 256 * t.val + r.val
    omega
  · rw [if_neg h, dif_neg (by omega), dif_pos (by omega)]
    refine (b1_at m c t r d (by omega)).trans (congrArg _ (congrArg (fun z => ix2 z d) (Fin.ext ?_)))
    show 256 * (t.val - 1) + r.val = 256 * t.val + r.val - 256
    omega
end

/-- A point's whole-block store of the scan's input, from whole-block loads. -/
theorem out6_eq (i : grid0.Coords) (x0 x1 : Vec Ideal S256x1024 .f32) (x2 : Vec Ideal S1x1024 .f32) (x3 x4 : Vec Ideal S1x1x1024 .f32) (x5 : Vec Ideal S1024x2048 .f32) :
    out0_6 (F := Ideal) i x0 x1 x2 x3 x4 x5 = k0_pay2 i x0 x1 x2 x3 x4 x5 := by
  unfold out0_6
  rw [View.canon_unit_zero (View.eq_zero_of_forall (by decide)), View.ld_unit_lit _ x0 (by decide), View.ld_unit_lit _ x1 (by decide), View.ld_unit_lit _ x2 (by decide),
    View.ld_unit_lit _ x3 (by decide), View.ld_unit_lit _ x4 (by decide), View.ld_unit_lit _ x5 (by decide)]
/-- The same of the gate. -/
theorem out7_eq (i : grid0.Coords) (x0 x1 : Vec Ideal S256x1024 .f32) (x2 : Vec Ideal S1x1024 .f32) (x3 x4 : Vec Ideal S1x1x1024 .f32) (x5 : Vec Ideal S1024x2048 .f32) :
    out0_7 (F := Ideal) i x0 x1 x2 x3 x4 x5 = k0_pay3 i x0 x1 x2 x3 x4 x5 := by
  unfold out0_7
  rw [View.canon_unit_zero (View.eq_zero_of_forall (by decide)), View.ld_unit_lit _ x0 (by decide), View.ld_unit_lit _ x1 (by decide), View.ld_unit_lit _ x2 (by decide),
    View.ld_unit_lit _ x3 (by decide), View.ld_unit_lit _ x4 (by decide), View.ld_unit_lit _ x5 (by decide)]

/-- The scan's input. -/
theorem arr6 : (dats m 0 c).arrAt 6 cfg0.N = (fun i : S8448x1024.Idx => mproj m c (i 0).val ⟨(i 1).val, Nat.lt_trans (i 1).isLt (by decide)⟩ : FVec Ideal S8448x1024 .f32) := by
  refine (dats m 0 c).arrAt_eq_of_covers 6 _ (by decide +kernel) fun t _ y => ?_
  have e0 : (((cfg0.win 6).blk t).view.emb y 0).val = 256 * t.val + (y 0).val := by blk_simp [widx t] <;> omega
  have e1 : ((cfg0.win 6).blk t).view.emb y 1 = (y 1 : Fin 1024) := Fin.ext (by blk_simp [widx t] <;> omega)
  have key : ∀ (a : ℕ) (d : Fin 1024), a = 256 * t.val + (y 0).val → d = y 1 →
      k0_pay2 (F := Ideal) (grid0.coords t) (iblk m c 0 t) (iblk m c 1 t) (iblk m c 2 t) (iblk m c 3 t) (iblk m c 4 t) (iblk m c 5 t) y = mproj m c a ⟨d.val, by omega⟩ := by
    rintro _ _ rfl rfl
    refine (congrArg _ (ix_row (n := 256) (k := 1024) y)).trans (Eq.trans ?_ (row_at m c t (y 0) ⟨(y 1).val, Nat.lt_trans (y 1).isLt (show 1024 < 2048 by decide)⟩))
    unfold k0_pay2
    generalize k0_pay1 (F := Ideal) (grid0.coords t) (iblk m c 0 t) (iblk m c 1 t) (iblk m c 2 t) (iblk m c 3 t) (iblk m c 4 t) (iblk m c 5 t) = z
    pointwise []
  have k := key _ _ e0 e1
  refine Eq.trans ?_ k
  blk_simp
  rw [after0_6, out6_eq]
/-- The gate. -/
theorem arr7 : (dats m 0 c).arrAt 7 cfg0.N = (fun i : S8448x1024.Idx => mproj m c (i 0).val ⟨1024 + (i 1).val, Nat.add_lt_add_left (i 1).isLt 1024⟩ : FVec Ideal S8448x1024 .f32) := by
  refine (dats m 0 c).arrAt_eq_of_covers 7 _ (by decide +kernel) fun t _ y => ?_
  have e0 : (((cfg0.win 7).blk t).view.emb y 0).val = 256 * t.val + (y 0).val := by blk_simp [widx t] <;> omega
  have e1 : ((cfg0.win 7).blk t).view.emb y 1 = (y 1 : Fin 1024) := Fin.ext (by blk_simp [widx t] <;> omega)
  have key : ∀ (a : ℕ) (d : Fin 1024), a = 256 * t.val + (y 0).val → d = y 1 →
      k0_pay3 (F := Ideal) (grid0.coords t) (iblk m c 0 t) (iblk m c 1 t) (iblk m c 2 t) (iblk m c 3 t) (iblk m c 4 t) (iblk m c 5 t) y = mproj m c a ⟨1024 + d.val, by omega⟩ := by
    rintro _ _ rfl rfl
    refine (congrArg _ (ix_row (n := 256) (k := 1024) y)).trans (Eq.trans ?_ (row_at m c t (y 0) ⟨1024 + (y 1).val, Nat.add_lt_add_left (y 1).isLt 1024⟩))
    unfold k0_pay3
    generalize k0_pay1 (F := Ideal) (grid0.coords t) (iblk m c 0 t) (iblk m c 1 t) (iblk m c 2 t) (iblk m c 3 t) (iblk m c 4 t) (iblk m c 5 t) = z
    pointwise []
  have k := key _ _ e0 e1
  refine Eq.trans ?_ k
  blk_simp
  rw [after0_7, out7_eq]
end Cert.SsmFwd
end
-- ==== Proof.SsmFwdClaim.lean ====
module

public import proofs.«01_k».proof.Defs
public import proofs.«01_k».proof.Proof.SsmFwd
public import proofs.«01_k».proof.Proof.Gen.Kernel7.Frame
@[expose] public section

/-!
The claims of the scan's input.
-/

set_option maxRecDepth 16384

noncomputable section

open Idealize.ShloMosaic Idealize.SL.Sem
namespace Cert.SsmFwd

/-- The call's two results are the reference's, at all arguments. -/
theorem algebraic : Cert.algebraic_Kernel7Ideal_Reference7Ideal := by
  pair_intro
  · run_from Cert.Kernel7Ideal.Value.run_blocks m g
  · refine (θ_run _ _ _).mono (fun r h c => ⟨((h c).1.trans (Cert.Reference7Ideal.Read.val_main_v53_eq (F := Ideal) _ _ _ _ _ _)).trans ?_,
      ((h c).2.1.trans (Cert.Reference7Ideal.Read.val_main_v54_eq (F := Ideal) _ _ _ _ _ _)).trans ?_, (h c).2.2⟩) (Cert.Reference7Ideal.Value.run m' g')
    · clear h
      obtain ⟨a0, a1, a2, a3, a4, a5⟩ := hagree c
      rw [a0, a1, a2, a3, a4, a5]
      refine Eq.trans ?_ (arr6 m c).symm
      exact Cert.Tiles.eq_of_pairs _ _ fun a b => v53_at _ _ _ _ _ _ a b
    · clear h
      obtain ⟨a0, a1, a2, a3, a4, a5⟩ := hagree c
      rw [a0, a1, a2, a3, a4, a5]
      refine Eq.trans ?_ (arr7 m c).symm
      exact Cert.Tiles.eq_of_pairs _ _ fun a b => v54_at _ _ _ _ _ _ a b

/-- The frames of the pair. -/
theorem frames : Cert.quiescent_Kernel7 ∧ Cert.quiescent_Kernel7Ideal ∧ Cert.quiescent_Reference7Ideal :=
  ⟨fun m ρ _ => Cert.Kernel7.Gen.frame m ρ, fun m ρ _ => Cert.Kernel7Ideal.Gen.frame m ρ,
    fun m ρ _ => (θ_run _ _ _).mono (fun r h => ⟨fun c => (h c).2.2, sem_eq_zero_of_no_sems rfl _⟩) (Cert.Reference7Ideal.Value.run m ρ)⟩
end Cert.SsmFwd
end
-- ==== Proof.SsmPost.lean ====
module

public import proofs.«01_k».proof.Proof.Gen.Kernel8Ideal.Value
public import proofs.«01_k».proof.Proof.Gen.Reference8Ideal.Run
public import proofs.«01_k».proof.Proof.Gen.Reference8Ideal.Read
public import proofs.«01_k».proof.Proof.Stream
public import Idealize.ShloMosaic.Lib.Claim
@[expose] public section

/-!
The scan's output branch: gelu, the gated linear unit, the silu gate, the output's product and the residual, over the
extended reals.
-/

set_option maxRecDepth 16384

noncomputable section

open Idealize.ShloMosaic Idealize.SL.Sem
namespace Cert.SsmPost
open Cert.Kernel8Ideal Cert.Kernel8Ideal.Gen Cert.LossSpec Cert.Tiles Cert.Stream

/-- The Gaussian unit. -/
def gelu (y : ERow) : ERow := fun d => Ideal.ofBits .f32 0x3F000000#32 * y d * (1 + Ideal.erf (y d * (((Real.sqrt 2)⁻¹ : ℝ) : EReal)))
/-- The two gates. -/
def gated (y z b : ERow) (wg : EMat) : ERow := fun d =>
  gelu y d * Ideal.logistic ((∑ k, gelu y k * wg k d) + b d) * (z d * Ideal.logistic (z d))
/-- The branch's product. -/
def branch (y z b : ERow) (wg wo : EMat) : ERow := fun d => ∑ k, gated y z b wg k * wo k d

theorem named_root : (Named.named κ "inv_sqrt2" 0x3F3504F3#32 : Ideal .f32) = (((Real.sqrt 2)⁻¹ : ℝ) : EReal) := rfl
/-- Dividing by the root of two is multiplying by its inverse. -/
theorem div_root (y : EReal) : Ideal.div y (Ideal.sqrt (Ideal.ofBits .f32 0x40000000#32)) = y * (((Real.sqrt 2)⁻¹ : ℝ) : EReal) := by
  have e : Ideal.sqrt ((2 : ℝ) : EReal) = ((Real.sqrt 2 : ℝ) : EReal) := by
    show (if (2 : ℝ) < 0 then (⊥ : EReal) else ((Real.sqrt 2 : ℝ) : EReal)) = _
    rw [if_neg (by norm_num)]
  have h : ((Real.sqrt 2 : ℝ) : EReal) ≠ 0 := by
    rw [Ne, EReal.coe_eq_zero]
    positivity
  rw [bits_two, e, Ideal.div, if_neg h, EReal.coe_inv]

variable {v0 v1 v3 v32 : Vec Ideal S256x1024 .f32} {v4 v7 : Vec Ideal S1024x1024 .f32} {v5 : Vec Ideal S1x1024 .f32} {v33 : Vec Ideal S1x1x1024 .f32}

theorem pay2_at (r : Fin 256) (d : Fin 1024) : k0_pay2 (F := Ideal) v0 v1 v3 v4 v5 v7 (ix2 r d)
    = branch (fun d => v0 (ix2 r d) + v1 (ix2 r d)) (fun d => v3 (ix2 r d)) (fun d => v5 (ix2 0 d)) (fun e k => v4 (ix2 e k)) (fun e k => v7 (ix2 e k)) d := by
  unfold k0_pay2
  pointwise []
  simp only [named_root, bits_1, EReal.coe_one]
  rfl
theorem pay1_at (r : Fin 256) (d : Fin 1024) (v28 : FVec Ideal S256x1024 .f32) :
    k0_pay1 (F := Ideal) v28 v32 v33 (ix2 r d) = v32 (ix2 r d) + v33 (ix3 0 0 d) * v28 (ix2 r d) := by
  pointwise [k0_pay1]

variable (x0 : (⟨S256x1024, .f32⟩ : BufTy).Contents (Elt Ideal)) (x1 : (⟨S8192x1024, .f32⟩ : BufTy).Contents (Elt Ideal))
  (x2 x3 x4 : (⟨S8448x1024, .f32⟩ : BufTy).Contents (Elt Ideal)) (x5 : (⟨S2x1024, .f32⟩ : BufTy).Contents (Elt Ideal))
  (x6 : (⟨S1024x1024, .f32⟩ : BufTy).Contents (Elt Ideal)) (x7 : (⟨S1024, .f32⟩ : BufTy).Contents (Elt Ideal)) (x8 : (⟨S1024x1024, .f32⟩ : BufTy).Contents (Elt Ideal))

/-- The branch's product of a row. -/
def brow (a : Fin 8448) : ERow :=
  branch (fun d => x2 (ix2 a d) + x3 (ix2 a d)) (fun d => x4 (ix2 a d)) (fun d => x7 (ix1 d)) (fun e k => x6 (ix2 e k)) (fun e k => x8 (ix2 e k))
/-- A row of the stream after the layer. -/
def orow (a : Fin 8448) : ERow := fun d => srow x0 x1 a.val d + x5 (ix2 (SsminSpec.seg a.val) d) * brow x2 x3 x4 x6 x7 x8 a d

section
open Cert.Reference8Ideal.Read
theorem v11_at (a : Fin 8448) (d : Fin 1024) : val_main_v11 (F := Ideal) x2 x3 (ix2 a d) = gelu (fun d => x2 (ix2 a d) + x3 (ix2 a d)) d := by
  unfold val_main_v11 val_main_v10 val_main_v9 val_main_v8 val_main_v7 val_main_v6 val_main_v5 val_main_v4 val_main_v3 val_main_v2 val_main_v1
  pointwise [val_main_cst, val_main_cst_0, val_main_cst_1]
  show Ideal.ofBits .f32 0x3F000000#32 * _ * (1 + Ideal.erf (Ideal.div _ (Ideal.sqrt (Ideal.ofBits .f32 0x40000000#32)))) = _
  rw [div_root]
  rfl
theorem v24_at (a : Fin 8448) (d : Fin 1024) : val_main_v24 (F := Ideal) x2 x3 x4 x6 x7 (ix2 a d)
    = gated (fun d => x2 (ix2 a d) + x3 (ix2 a d)) (fun d => x4 (ix2 a d)) (fun d => x7 (ix1 d)) (fun e k => x6 (ix2 e k)) d := by
  unfold val_main_v24 val_main_v23 val_main_v22 val_main_v21 val_main_v20 val_main_v19 val_main_v18 val_main_v17 val_main_v16 val_main_v15 val_main_v14 val_main_v13 val_main_v12
  unfold val_main_call0_v5 val_main_call0_v4 val_main_call0_v3 val_main_call0_v2 val_main_call0_v1 val_main_call0_v0
  have e := v11_at x2 x3
  generalize val_main_v11 (F := Ideal) x2 x3 = y at e ⊢
  pointwise [val_main_cst_2, val_main_cst_3, val_main_call0_cst, val_main_call0_cst_0]
  simp only [e, bits_1, EReal.coe_one]
  rfl
theorem v25_at (a : Fin 8448) (d : Fin 1024) : val_main_v25 (F := Ideal) x2 x3 x4 x6 x7 x8 (ix2 a d) = brow x2 x3 x4 x6 x7 x8 a d := by
  unfold val_main_v25
  have e := v24_at x2 x3 x4 x6 x7
  generalize val_main_v24 (F := Ideal) x2 x3 x4 x6 x7 = y at e ⊢
  pointwise []
  simp only [e]
  rfl
theorem v39_at (a : Fin 8448) (d : Fin 1024) : val_main_v39 (F := Ideal) x0 x1 x2 x3 x4 x5 x6 x7 x8 (ix2 a d) = orow x0 x1 x2 x3 x4 x5 x6 x7 x8 a d := by
  unfold val_main_v39 val_main_v0 val_main_v38 val_main_v37 val_main_v36 val_main_v35 val_main_v34 val_main_v33 val_main_v32
  unfold val_main_v31 val_main_v30 val_main_v29 val_main_v28 val_main_v27 val_main_v26
  have e := v25_at x2 x3 x4 x6 x7 x8
  generalize val_main_v25 (F := Ideal) x2 x3 x4 x6 x7 x8 = y at e ⊢
  pointwise []
  simp only [e]
  unfold orow srow SsminSpec.seg
  have ha := a.isLt
  by_cases h : a.val < 256
  · simp only [dif_pos h, if_pos h]
  · simp only [dif_neg h, if_neg h, dif_pos (show a.val - 256 < 8192 by omega)]
    rw [show (⟨256 + (a.val - 256), by omega⟩ : Fin 8448) = a from Fin.ext (Nat.add_sub_of_le (by omega))]
end

/-! What the call leaves. -/

/-- The blocks the windows stand on. -/
theorem widx : ∀ t : Fin cfg0.N, win0_0.index t = ![0, 0] ∧ win0_1.index t = ![t.val - 1, 0] ∧ win0_2.index t = ![t.val, 0] ∧ win0_3.index t = ![t.val, 0]
    ∧ win0_4.index t = ![t.val, 0] ∧ win0_5.index t = ![if t.val = 0 then 0 else 1, 0, 0] ∧ win0_6.index t = ![0, 0] ∧ win0_7.index t = ![0, 0] ∧ win0_8.index t = ![0, 0]
    ∧ win0_9.index t = ![t.val, 0] ∧ (grid0.coords t 0).val = t.val :=
  (by decide +kernel : ∀ t : Fin grid0.N, _)

variable (m : (ℓ : Loc nD τ sig) → Buf (Elt Ideal) ℓ) (c : Dev nD)

/-- The rows of the launch's arguments. -/
abbrev mrow (a : Fin 8448) : ERow :=
  orow (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6)) (m ((c.tc : Thread nD τ).loc main_arg7))
    (m ((c.tc : Thread nD τ).loc main_arg8)) a

section
variable (t : Fin cfg0.N)
theorem b0_at (r : Fin 256) (d : Fin 1024) : (iblk m c 0 t : FVec Ideal S256x1024 .f32) (ix2 r d) = (m ((c.tc : Thread nD τ).loc main_arg0) : FVec Ideal S256x1024 .f32) (ix2 r d) := by
  rw [← V_main_arg0 m c]
  blk_ext! [iblk, widx t]
theorem b1_at (r : Fin 256) (d : Fin 1024) (h : 256 * (t.val - 1) + r.val < 8192) : (iblk m c 1 t : FVec Ideal S256x1024 .f32) (ix2 r d)
    = (m ((c.tc : Thread nD τ).loc main_arg1) : FVec Ideal S8192x1024 .f32) (ix2 ⟨256 * (t.val - 1) + r.val, h⟩ d) := by
  rw [← V_main_arg1 m c]
  blk_ext! [iblk, widx t]
theorem rows_at (r : Fin 256) (d : Fin 1024) (h : 256 * t.val + r.val < 8448) :
    (iblk m c 2 t : FVec Ideal S256x1024 .f32) (ix2 r d) = (m ((c.tc : Thread nD τ).loc main_arg2) : FVec Ideal S8448x1024 .f32) (ix2 ⟨256 * t.val + r.val, h⟩ d)
    ∧ (iblk m c 3 t : FVec Ideal S256x1024 .f32) (ix2 r d) = (m ((c.tc : Thread nD τ).loc main_arg3) : FVec Ideal S8448x1024 .f32) (ix2 ⟨256 * t.val + r.val, h⟩ d)
    ∧ (iblk m c 4 t : FVec Ideal S256x1024 .f32) (ix2 r d) = (m ((c.tc : Thread nD τ).loc main_arg4) : FVec Ideal S8448x1024 .f32) (ix2 ⟨256 * t.val + r.val, h⟩ d) := by
  rw [← V_main_arg2 m c, ← V_main_arg3 m c, ← V_main_arg4 m c]
  refine ⟨?_, ?_, ?_⟩ <;> blk_ext! [iblk, widx t]
theorem b6_at (e d : Fin 1024) : (iblk m c 6 t : FVec Ideal S1024x1024 .f32) (ix2 e d) = (m ((c.tc : Thread nD τ).loc main_arg6) : FVec Ideal S1024x1024 .f32) (ix2 e d) := by
  rw [← V_main_arg6 m c]
  blk_ext! [iblk, widx t]
theorem b8_at (e d : Fin 1024) : (iblk m c 8 t : FVec Ideal S1024x1024 .f32) (ix2 e d) = (m ((c.tc : Thread nD τ).loc main_arg8) : FVec Ideal S1024x1024 .f32) (ix2 e d) := by
  rw [← V_main_arg8 m c]
  blk_ext! [iblk, widx t]
theorem b7_at (d : Fin 1024) : (iblk m c 7 t : FVec Ideal S1x1024 .f32) (ix2 0 d) = (m ((c.tc : Thread nD τ).loc main_arg7) : FVec Ideal S1024 .f32) (ix1 d) := by
  have e : (V m c main_v1 : FVec Ideal S1x1024 .f32) = shapeCast S1x1024 (m ((c.tc : Thread nD τ).loc main_arg7) : FVec Ideal S1024 .f32) shapeCasts_S1024_S1x1024 := by
    show StableHlo.after hostOps0 _ (Proc.devRef .tc main_v1) = _
    entry_read
    rfl
  have e' : (V m c main_v1 : FVec Ideal S1x1024 .f32) (ix2 0 d) = (m ((c.tc : Thread nD τ).loc main_arg7) : FVec Ideal S1024 .f32) (ix1 d) := by
    rw [e]
    pointwise []
  rw [← e']
  blk_ext! [iblk, widx t]
theorem b5_at (d : Fin 1024) : (iblk m c 5 t : FVec Ideal S1x1x1024 .f32) (ix3 0 0 d) = (m ((c.tc : Thread nD τ).loc main_arg5) : FVec Ideal S2x1024 .f32) (ix2 (sg t.val) d) := by
  have e : (V m c main_v0 : FVec Ideal S2x1x1024 .f32) = shapeCast S2x1x1024 (m ((c.tc : Thread nD τ).loc main_arg5) : FVec Ideal S2x1024 .f32) shapeCasts_S2x1024_S2x1x1024 := by
    show StableHlo.after hostOps0 _ (Proc.devRef .tc main_v0) = _
    entry_read
    rfl
  have e' (s : Fin 2) : (V m c main_v0 : FVec Ideal S2x1x1024 .f32) (ix3 s 0 d) = (m ((c.tc : Thread nD τ).loc main_arg5) : FVec Ideal S2x1024 .f32) (ix2 s d) := by
    rw [e]
    pointwise []
  rw [← e']
  unfold sg
  have w := (widx t).2.2.2.2.2.1
  split at w
  · rename_i h; simp only [h, if_true]; blk_ext! [iblk, w]
  · rename_i h; simp only [h, if_false]; blk_ext! [iblk, w]

/-- What a point computes: its rows after the layer. -/
theorem row_at (r : Fin 256) (d : Fin 1024) (h : 256 * t.val + r.val < 8448) :
    k0_pay1 (F := Ideal) (k0_pay2 (iblk m c 2 t) (iblk m c 3 t) (iblk m c 4 t) (iblk m c 6 t) (iblk m c 7 t) (iblk m c 8 t))
      (k0_pay3 (grid0.coords t) (iblk m c 0 t) (iblk m c 1 t)) (iblk m c 5 t) (ix2 r d) = mrow m c ⟨256 * t.val + r.val, h⟩ d := by
  have ht : t.val < 33 := t.isLt
  have hr := r.isLt
  rw [pay1_at, pay2_at]
  have es : k0_pay3 (F := Ideal) (grid0.coords t) (iblk m c 0 t) (iblk m c 1 t) = if t.val = 0 then iblk m c 0 t else iblk m c 1 t := by
    unfold k0_pay3
    rw [(widx t).2.2.2.2.2.2.2.2.2.2]
    exact pick ht
  rw [es]
  unfold mrow orow brow
  simp only [(rows_at m c t r _ h).1, (rows_at m c t r _ h).2.1, (rows_at m c t r _ h).2.2, b5_at, b6_at, b7_at, b8_at, seg_tile]
  refine congrArg (· + _) ?_
  unfold srow
  by_cases h0 : t.val = 0
  · rw [if_pos h0, dif_pos (by omega)]
    refine (b0_at m c t r d).trans (congrArg _ (congrArg (fun z => ix2 z d) (Fin.ext ?_)))
    show r.val = 256 * t.val + r.val
    omega
  · rw [if_neg h0, dif_neg (by omega), dif_pos (by omega)]
    refine (b1_at m c t r d (by omega)).trans (congrArg _ (congrArg (fun z => ix2 z d) (Fin.ext ?_)))
    show 256 * (t.val - 1) + r.val = 256 * t.val + r.val - 256
    omega
end

/-- A point's whole-block store, from whole-block loads. -/
theorem out9_eq (i : grid0.Coords) (x0 x1 x2 x3 x4 : Vec Ideal S256x1024 .f32) (x5 : Vec Ideal S1x1x1024 .f32) (x6 : Vec Ideal S1024x1024 .f32) (x7 : Vec Ideal S1x1024 .f32) (x8 : Vec Ideal S1024x1024 .f32) :
    out0_9 (F := Ideal) i x0 x1 x2 x3 x4 x5 x6 x7 x8 = k0_pay1 (k0_pay2 x2 x3 x4 x6 x7 x8) (k0_pay3 i x0 x1) x5 := by
  unfold out0_9
  rw [View.canon_unit_zero (View.eq_zero_of_forall (by decide)), View.ld_unit_lit _ x0 (by decide), View.ld_unit_lit _ x1 (by decide), View.ld_unit_lit _ x2 (by decide),
    View.ld_unit_lit _ x3 (by decide), View.ld_unit_lit _ x4 (by decide), View.ld_unit_lit _ x5 (by decide), View.ld_unit_lit _ x6 (by decide), View.ld_unit_lit _ x7 (by decide),
    View.ld_unit_lit _ x8 (by decide)]

/-- The stream after the layer. -/
theorem arr9 : (dats m 0 c).arrAt 9 cfg0.N = (fun i : S8448x1024.Idx => mrow m c (i 0) (i 1) : FVec Ideal S8448x1024 .f32) := by
  refine (dats m 0 c).arrAt_eq_of_covers 9 _ (by decide +kernel) fun t _ y => ?_
  have ht : t.val < 33 := t.isLt
  have hy : (y 0).val < 256 := (y 0).isLt
  have e0 : (((cfg0.win 9).blk t).view.emb y 0).val = 256 * t.val + (y 0).val := by blk_simp [widx t] <;> omega
  have e1 : ((cfg0.win 9).blk t).view.emb y 1 = (y 1 : Fin 1024) := Fin.ext (by blk_simp [widx t] <;> omega)
  have key : ∀ (a : Fin 8448) (d : Fin 1024), a = ⟨256 * t.val + (y 0).val, by omega⟩ → d = y 1 →
      k0_pay1 (F := Ideal) (k0_pay2 (iblk m c 2 t) (iblk m c 3 t) (iblk m c 4 t) (iblk m c 6 t) (iblk m c 7 t) (iblk m c 8 t))
        (k0_pay3 (grid0.coords t) (iblk m c 0 t) (iblk m c 1 t)) (iblk m c 5 t) y = mrow m c a d := by
    rintro _ _ rfl rfl
    exact (congrArg _ (ix_row (n := 256) (k := 1024) y)).trans (row_at m c t (y 0) (y 1) (by omega))
  have k := key _ _ (Fin.ext e0) e1
  refine Eq.trans ?_ k
  blk_simp
  rw [after0_9, out9_eq]
end Cert.SsmPost
end
-- ==== Proof.SsmPostClaim.lean ====
module

public import proofs.«01_k».proof.Defs
public import proofs.«01_k».proof.Proof.SsmPost
public import proofs.«01_k».proof.Proof.Gen.Kernel8.Frame
@[expose] public section

/-!
The claims of the scan's output branch.
-/

set_option maxRecDepth 16384

noncomputable section

open Idealize.ShloMosaic Idealize.SL.Sem
namespace Cert.SsmPost

/-- The call's result is the reference's, at all arguments. -/
theorem algebraic : Cert.algebraic_Kernel8Ideal_Reference8Ideal := by
  pair_intro
  · run_from Cert.Kernel8Ideal.Value.run_blocks m g
  · refine (θ_run _ _ _).mono (fun r h c => ⟨((h c).1.trans (Cert.Reference8Ideal.Read.val_main_v39_eq (F := Ideal) _ _)).trans ?_, (h c).2⟩)
      (Cert.Reference8Ideal.Value.run m' g')
    clear h
    obtain ⟨a0, a1, a2, a3, a4, a5, a6, a7, a8⟩ := hagree c
    rw [a0, a1, a2, a3, a4, a5, a6, a7, a8]
    refine Eq.trans ?_ (arr9 m c).symm
    exact Cert.Tiles.eq_of_pairs _ _ fun a b => v39_at _ _ _ _ _ _ _ _ _ a b

/-- The frames of the pair. -/
theorem frames : Cert.quiescent_Kernel8 ∧ Cert.quiescent_Kernel8Ideal ∧ Cert.quiescent_Reference8Ideal :=
  ⟨fun m ρ _ => Cert.Kernel8.Gen.frame m ρ, fun m ρ _ => Cert.Kernel8Ideal.Gen.frame m ρ,
    fun m ρ _ => (θ_run _ _ _).mono (fun r h => ⟨fun c => (h c).2, sem_eq_zero_of_no_sems rfl _⟩) (Cert.Reference8Ideal.Value.run m ρ)⟩

/-- The named constant holds the value the table gives it. -/
theorem preserves : Cert.preserves_Kernel8_Kernel8Ideal :=
  ⟨rfl, fun s => IdealRules.named_const.ideal_named (φ := .f32) _ _ (s := s) _ _ rfl, IdealRules.named_const.ideal_named_scalar (φ := .f32) _ _ _ _ rfl⟩
end Cert.SsmPost
end
-- ==== Proof.ModFwd.lean ====
module

public import proofs.«01_k».proof.Proof.Gen.Kernel9Ideal.Value
public import proofs.«01_k».proof.Proof.Gen.Reference9Ideal.Run
public import proofs.«01_k».proof.Proof.Gen.Reference9Ideal.Read
public import proofs.«01_k».proof.Proof.Tiles
public import Idealize.ShloMosaic.Lib.Claim
@[expose] public section

/-!
The modulation: the conditioning rows through silu, each layer's product and bias, over the extended reals.
-/

set_option maxRecDepth 16384

noncomputable section

open Idealize.ShloMosaic Idealize.SL.Sem
namespace Cert.ModFwd
open Cert.Kernel9Ideal Cert.Kernel9Ideal.Gen Cert.LossSpec Cert.Tiles

variable (x0 : FVec Ideal S16x1024 .f32) (x1 : FVec Ideal S2x1024x384 .f32) (x2 : FVec Ideal S2x384 .f32)

/-- A row's modulation in a layer. -/
def modn (l : Fin 2) (r : Fin 16) (k : Fin 384) : EReal :=
  (∑ d : Fin 1024, x0 (ix2 r d) * Ideal.logistic (x0 (ix2 r d)) * x1 (ix3 l d k)) + x2 (ix2 l k)

/-- The biases with a unit axis. -/
abbrev bias : FVec Ideal S2x1x384 .f32 := shapeCast S2x1x384 x2 shapeCasts_S2x384_S2x1x384

theorem pay_at (r : Fin 16) (k : Fin 384) :
    k0_pay2 (F := Ideal) (View.ld x0 r0_0) (View.ld x1 r0_1) (View.ld (bias x2) r0_2) (ix3 0 r k) = modn x0 x1 x2 0 r k
    ∧ k0_pay3 (F := Ideal) (View.ld x0 r0_0) (View.ld x1 r0_4) (View.ld (bias x2) r0_5) (ix3 0 r k) = modn x0 x1 x2 1 r k := by
  constructor
  · pointwise [k0_pay2, k0_pay1, bias]
    rfl
  · pointwise [k0_pay3, k0_pay1, bias]
    rfl

/-- An index of three coordinates. -/
theorem ix_three {n k l : ℕ} (y : (⟨3, ![n, k, l]⟩ : Shape).Idx) : y = ix3 (y 0) (y 1) (y 2) := by
  funext a; apply Fin.ext; match a with
  | ⟨0, _⟩ => rfl
  | ⟨1, _⟩ => rfl
  | ⟨2, _⟩ => rfl

/-- What the body leaves: both layers' modulations. -/
theorem out3_eq : out0_3 (F := Ideal) x0 x1 (bias x2) = (fun i : S2x16x384.Idx => modn x0 x1 x2 (i 0) (i 1) (i 2) : FVec Ideal S2x16x384 .f32) := by
  funext y
  have k : ∀ (x : S1x16x384.Idx) (l : Fin 2), y 0 = l → y 1 = x 1 → y 2 = x 2 → modn x0 x1 x2 l (x 1) (x 2) = modn x0 x1 x2 (y 0) (y 1) (y 2) := by
    intro x l h0 h1 h2
    rw [h0, h1, h2]
  have hx : ∀ x : S1x16x384.Idx, x = (ix3 0 (x 1) (x 2) : S1x16x384.Idx) := fun x =>
    (ix_three x).trans (congrArg (fun z => ix3 z (x 1) (x 2)) (Subsingleton.elim (α := Fin 1) _ _))
  unfold out0_3
  canon_tiles x h
  · rw [hx x]
    refine ((pay_at x0 x1 x2 _ _).2).trans (k x 1 (Fin.ext ?_) (Fin.ext h1) (Fin.ext h2))
    show (y 0).val = 1
    omega
  · rw [hx x]
    refine ((pay_at x0 x1 x2 _ _).1).trans (k x 0 (Fin.ext ?_) (Fin.ext h1) (Fin.ext h2))
    show (y 0).val = 0
    omega

section
open Cert.Reference9Ideal.Read
theorem v19_at (l : Fin 2) (r : Fin 16) (k : Fin 384) : val_main_v19 (F := Ideal) x0 x1 x2 (ix3 l r k) = modn x0 x1 x2 l r k := by
  unfold val_main_v19 val_main_v18 val_main_v17 val_main_v16 val_main_v15 val_main_v14 val_main_v13 val_main_v12 val_main_v11 val_main_v10 val_main_v9
  unfold val_main_v8 val_main_v7 val_main_v6 val_main_v5 val_main_v4 val_main_v3 val_main_v2 val_main_v1 val_main_v0
  unfold val_main_call0_v5 val_main_call0_v4 val_main_call0_v3 val_main_call0_v2 val_main_call0_v1 val_main_call0_v0
  match l with
  | ⟨0, _⟩ =>
    pointwise [val_main_call0_cst, val_main_call0_cst_0]
    rfl
  | ⟨1, _⟩ =>
    pointwise [val_main_call0_cst, val_main_call0_cst_0]
    rfl
end

/-- The blocks the windows stand on. -/
theorem widx : ∀ t : Fin cfg0.N, win0_0.index t = ![0, 0] ∧ win0_1.index t = ![0, 0, 0] ∧ win0_2.index t = ![0, 0, 0] ∧ win0_3.index t = ![0, 0, 0] :=
  (by decide +kernel : ∀ t : Fin grid0.N, _)

variable (m : (ℓ : Loc nD τ sig) → Buf (Elt Ideal) ℓ) (c : Dev nD)

/-- What the call leaves. -/
theorem arr3 : (dats m 0 c).arrAt 3 cfg0.N = (fun i : S2x16x384.Idx => modn (m ((c.tc : Thread nD τ).loc main_arg0)) (m ((c.tc : Thread nD τ).loc main_arg1))
    (m ((c.tc : Thread nD τ).loc main_arg2)) (i 0) (i 1) (i 2) : FVec Ideal S2x16x384 .f32) := by
  rw [← out3_eq]
  refine (dats m 0 c).arrAt_eq_of_after_last 3 t0_0 (by decide +kernel) _ fun j => ?_
  blk_simp
  rw [after0_3]
  have h0 : iblk m c 0 t0_0 = m ((c.tc : Thread nD τ).loc main_arg0) := by
    rw [← V_main_arg0 m c]
    blk_ext! [iblk, widx t0_0]
  have h1 : iblk m c 1 t0_0 = m ((c.tc : Thread nD τ).loc main_arg1) := by
    rw [← V_main_arg1 m c]
    blk_ext! [iblk, widx t0_0]
  have h2 : iblk m c 2 t0_0 = bias (m ((c.tc : Thread nD τ).loc main_arg2)) := by
    have e : V m c main_v0 = bias (m ((c.tc : Thread nD τ).loc main_arg2)) := by
      entry_read
      rfl
    rw [← e]
    blk_ext! [iblk, widx t0_0]
  rw [h0, h1, h2]
end Cert.ModFwd
end
-- ==== Proof.ModFwdClaim.lean ====
module

public import proofs.«01_k».proof.Defs
public import proofs.«01_k».proof.Proof.ModFwd
public import proofs.«01_k».proof.Proof.Gen.Kernel9.Frame
@[expose] public section

/-!
The claims of the modulation.
-/

set_option maxRecDepth 16394

noncomputable section

open Idealize.ShloMosaic Idealize.SL.Sem
namespace Cert.ModFwd

/-- The call's result is the reference's, at all arguments. -/
theorem algebraic : Cert.algebraic_Kernel9Ideal_Reference9Ideal := by
  pair_intro
  · run_from Cert.Kernel9Ideal.Value.run_blocks m g
  · refine (θ_run _ _ _).mono (fun r h c => ⟨((h c).1.trans (Cert.Reference9Ideal.Read.val_main_v19_eq (F := Ideal) _ _ _)).trans ?_, (h c).2⟩)
      (Cert.Reference9Ideal.Value.run m' g')
    clear h
    obtain ⟨a0, a1, a2⟩ := hagree c
    rw [a0, a1, a2]
    refine Eq.trans ?_ (arr3 m c).symm
    exact Cert.Tiles.eq_of_triples _ _ fun l r k => v19_at _ _ _ l r k

/-- The frames of the pair. -/
theorem frames : Cert.quiescent_Kernel9 ∧ Cert.quiescent_Kernel9Ideal ∧ Cert.quiescent_Reference9Ideal :=
  ⟨fun m ρ _ => Cert.Kernel9.Gen.frame m ρ, fun m ρ _ => Cert.Kernel9Ideal.Gen.frame m ρ,
    fun m ρ _ => (θ_run _ _ _).mono (fun r h => ⟨fun c => (h c).2, sem_eq_zero_of_no_sems rfl _⟩) (Cert.Reference9Ideal.Value.run m ρ)⟩

end Cert.ModFwd
end
-- ==== Proof.AdamW.lean ====
module

public import proofs.«01_k».proof.Proof.Gen.Kernel10Ideal.Value
public import proofs.«01_k».proof.Proof.Gen.Reference10Ideal.Run
public import proofs.«01_k».proof.Proof.Gen.Reference10Ideal.Read
public import proofs.«01_k».proof.Proof.Tiles
public import Idealize.ShloMosaic.Lib.Claim
@[expose] public section

/-!
The optimiser's step on the recurrence layer's input weights, over the extended reals: the sum of the eight parts of the
gradient, the two moments and the change of the weights.
-/

set_option maxRecDepth 16384

noncomputable section

open Idealize.ShloMosaic Idealize.SL.Sem
namespace Cert.AdamW
open Cert.Kernel10Ideal Cert.Kernel10Ideal.Gen Cert.LossSpec Cert.Tiles

/-- The first moment after the step. -/
def first (g a : EReal) : EReal := Ideal.ofBits .f32 0x3F666666#32 * a + Ideal.ofBits .f32 0x3DCCCCCD#32 * g
/-- The second moment after the step. -/
def second (g b : EReal) : EReal := Ideal.ofBits .f32 0x3F7FBE77#32 * b + Ideal.ofBits .f32 0x3A83126F#32 * (g * g)
/-- The change of the weight. -/
def change (w g a b : EReal) : EReal :=
  Ideal.ofBits .f32 0xBA83126F#32 * (Ideal.div (Ideal.div (first g a) (Ideal.ofBits .f32 0x3F26BD02#32))
    (Ideal.sqrt (Ideal.div (second g b) (Ideal.ofBits .f32 0x3C231ACC#32)) + Ideal.ofBits .f32 0x322BCC77#32) + Ideal.ofBits .f32 0x3C23D70A#32 * w)

/-- The sum of the parts. -/
def total {n : ℕ} (x : FVec Ideal ⟨3, ![8, n, 256]⟩ .bf16) (r : Fin n) (k : Fin 256) : EReal := ∑ p : Fin 8, x (ix3 p r k)

section
variable (x0 : Vec Ideal S512x256 .f32) (x1 : Vec Ideal S8x512x256 .bf16) (x2 x3 : Vec Ideal S512x256 .f32) (r : Fin 512) (k : Fin 256)
theorem pay5_at : k0_pay5 (F := Ideal) x0 x1 x2 x3 (ix2 r k) = total x1 r k := by
  unfold total
  rw [Fin.sum_univ_eight]
  pointwise [k0_pay5, k0_pay4]
theorem out4_at : out0_4 (F := Ideal) x0 x1 x2 x3 (ix2 r k) = total x1 r k := by
  unfold out0_4
  rw [View.canon_unit_zero (View.eq_zero_of_forall (by decide))]
  exact pay5_at x0 x1 x2 x3 r k
theorem pay1_at (g : FVec Ideal S512x256 .f32) : k0_pay1 (F := Ideal) g x2 (Scalar.ofBits .f32 0x3F666666#32) (ix2 r k) = first (g (ix2 r k)) (x2 (ix2 r k)) := by
  pointwise [k0_pay1]
  rfl
theorem pay2_at (g : FVec Ideal S512x256 .f32) : k0_pay2 (F := Ideal) g x3 (ix2 r k) = second (g (ix2 r k)) (x3 (ix2 r k)) := by
  pointwise [k0_pay2]
  rfl
theorem out6_at : out0_6 (F := Ideal) x0 x1 x2 x3 (ix2 r k) = first (total x1 r k) (x2 (ix2 r k)) := by
  unfold out0_6
  rw [View.canon_unit_zero (View.eq_zero_of_forall (by decide)), View.ld_unit_lit _ x2 (by decide), pay1_at, pay5_at]
theorem out7_at : out0_7 (F := Ideal) x0 x1 x2 x3 (ix2 r k) = second (total x1 r k) (x3 (ix2 r k)) := by
  unfold out0_7
  rw [View.canon_unit_zero (View.eq_zero_of_forall (by decide)), View.ld_unit_lit _ x3 (by decide), pay2_at, pay5_at]
theorem out5_at : out0_5 (F := Ideal) x0 x1 x2 x3 (ix2 r k) = change (x0 (ix2 r k)) (total x1 r k) (x2 (ix2 r k)) (x3 (ix2 r k)) := by
  unfold out0_5
  rw [View.canon_unit_zero (View.eq_zero_of_forall (by decide)), View.ld_unit_lit _ x0 (by decide), View.ld_unit_lit _ x2 (by decide), View.ld_unit_lit _ x3 (by decide)]
  unfold k0_pay3 change
  rw [← pay5_at x0 x1 x2 x3, ← pay1_at, ← pay2_at]
  rfl
end

section
open Cert.Reference10Ideal.Read
variable (x0 : FVec Ideal S1024x256 .f32) (x1 : FVec Ideal S8x1024x256 .bf16) (x2 x3 : FVec Ideal S1024x256 .f32) (r : Fin 1024) (k : Fin 256)
theorem v1_at : val_main_v1 (F := Ideal) x1 (ix2 r k) = total x1 r k := by
  rw [val_main_v1_apply]
  show Ideal.ofBits .f32 0x00000000#32 + _ = _
  rw [Ideal.ofBits_zero, zero_add]
  refine Finset.sum_congr rfl fun p _ => congrArg x1 ?_
  funext a; match a with
  | ⟨0, _⟩ => rfl
  | ⟨1, _⟩ => rfl
  | ⟨2, _⟩ => rfl
theorem v6_at : val_main_v6 (F := Ideal) x1 x2 (ix2 r k) = first (total x1 r k) (x2 (ix2 r k)) := by
  unfold first
  rw [← v1_at, val_main_v6_apply, val_main_v3_apply, val_main_v5_apply, val_main_v2_apply, val_main_v4_apply]
  rfl
theorem v12_at : val_main_v12 (F := Ideal) x1 x3 (ix2 r k) = second (total x1 r k) (x3 (ix2 r k)) := by
  unfold second
  rw [← v1_at, val_main_v12_apply, val_main_v8_apply, val_main_v11_apply, val_main_v7_apply, val_main_v10_apply]
  rfl
theorem v25_at : val_main_v25 (F := Ideal) x0 x1 x2 x3 (ix2 r k) = change (x0 (ix2 r k)) (total x1 r k) (x2 (ix2 r k)) (x3 (ix2 r k)) := by
  unfold change
  rw [← v6_at, ← v12_at]
  simp only [val_main_v25_apply, val_main_v24_apply, val_main_v23_apply, val_main_v22_apply, val_main_v21_apply, val_main_v20_apply, val_main_v19_apply,
    val_main_v18_apply, val_main_v17_apply, val_main_v16_apply, val_main_v15_apply, val_main_v14_apply, val_main_v13_apply]
  rfl
end

/-- The blocks the windows stand on. -/
theorem widx : ∀ t : Fin cfg0.N, win0_0.index t = ![t.val, 0] ∧ win0_1.index t = ![0, t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] :=
  (by decide +kernel : ∀ t : Fin grid0.N, _)

section
variable (m : (ℓ : Loc nD τ sig) → Buf (Elt Ideal) ℓ) (c : Dev nD)
/-- The weights, the parts of the gradient and the moments. -/
abbrev wt : FVec Ideal S1024x256 .f32 := m ((c.tc : Thread nD τ).loc main_arg0)
abbrev parts : FVec Ideal S8x1024x256 .bf16 := m ((c.tc : Thread nD τ).loc main_arg1)
abbrev mom : FVec Ideal S1024x256 .f32 := m ((c.tc : Thread nD τ).loc main_arg2)
abbrev mom2 : FVec Ideal S1024x256 .f32 := m ((c.tc : Thread nD τ).loc main_arg3)

variable (t : Fin cfg0.N) (r : Fin 512) (k : Fin 256) (a : Fin 1024)
theorem b0_at (h : a.val = 512 * t.val + r.val) : (iblk m c 0 t : FVec Ideal S512x256 .f32) (ix2 r k) = wt m c (ix2 a k) := by
  unfold wt
  rw [← V_main_arg0 m c]
  blk_ext! [iblk, widx t]
theorem b1_at (h : a.val = 512 * t.val + r.val) : total (iblk m c 1 t : FVec Ideal S8x512x256 .bf16) r k = total (parts m c) a k := by
  refine Finset.sum_congr rfl fun p _ => ?_
  unfold parts
  rw [← V_main_arg1 m c]
  blk_ext! [iblk, widx t]
theorem b2_at (h : a.val = 512 * t.val + r.val) : (iblk m c 2 t : FVec Ideal S512x256 .f32) (ix2 r k) = mom m c (ix2 a k) := by
  unfold mom
  rw [← V_main_arg2 m c]
  blk_ext! [iblk, widx t]
theorem b3_at (h : a.val = 512 * t.val + r.val) : (iblk m c 3 t : FVec Ideal S512x256 .f32) (ix2 r k) = mom2 m c (ix2 a k) := by
  unfold mom2
  rw [← V_main_arg3 m c]
  blk_ext! [iblk, widx t]

/-- A result whose blocks hold `v` at the rows of their point holds `v`. -/
theorem rows_of_blocks (v : Fin 1024 → Fin 256 → EReal) (e : S1024x256.Idx) (y : S512x256.Idx) (o : FVec Ideal S512x256 .f32)
    (e0 : (e 0).val = 512 * t.val + (y 0).val) (e1 : (e 1).val = (y 1).val)
    (h : ∀ (r : Fin 512) (k : Fin 256) (a : Fin 1024), a.val = 512 * t.val + r.val → o (ix2 r k) = v a k) : o y = v (e 0) (e 1) := by
  rw [Fin.ext (a := e 1) (b := (y 1 : Fin 256)) e1]
  exact (congrArg o (ix_row (n := 512) (k := 256) y)).trans (h _ _ _ e0)

/-- The values of the four results at a row and a lane. -/
def vg (a : Fin 1024) (k : Fin 256) : EReal := total (parts m c) a k
def vd (a : Fin 1024) (k : Fin 256) : EReal := change (wt m c (ix2 a k)) (total (parts m c) a k) (mom m c (ix2 a k)) (mom2 m c (ix2 a k))
def vm (a : Fin 1024) (k : Fin 256) : EReal := first (total (parts m c) a k) (mom m c (ix2 a k))
def vv (a : Fin 1024) (k : Fin 256) : EReal := second (total (parts m c) a k) (mom2 m c (ix2 a k))

theorem arr4 : (dats m 0 c).arrAt 4 cfg0.N = (fun i : S1024x256.Idx => vg m c (i 0) (i 1) : FVec Ideal S1024x256 .f32) := by
  refine (dats m 0 c).arrAt_eq_of_covers 4 _ (by decide +kernel) fun t _ y => ?_
  refine Eq.trans ?_ (rows_of_blocks t (vg m c) (((cfg0.win 4).blk t).view.emb y) y (out0_4 (iblk m c 0 t) (iblk m c 1 t) (iblk m c 2 t) (iblk m c 3 t))
    (by blk_simp [widx t] <;> omega) (by blk_simp [widx t] <;> omega) fun r k a h => ?_)
  · blk_simp
    rw [after0_4]
  · rw [out4_at, b1_at m c t r k a h, vg]
theorem arr5 : (dats m 0 c).arrAt 5 cfg0.N = (fun i : S1024x256.Idx => vd m c (i 0) (i 1) : FVec Ideal S1024x256 .f32) := by
  refine (dats m 0 c).arrAt_eq_of_covers 5 _ (by decide +kernel) fun t _ y => ?_
  refine Eq.trans ?_ (rows_of_blocks t (vd m c) (((cfg0.win 5).blk t).view.emb y) y (out0_5 (iblk m c 0 t) (iblk m c 1 t) (iblk m c 2 t) (iblk m c 3 t))
    (by blk_simp [widx t] <;> omega) (by blk_simp [widx t] <;> omega) fun r k a h => ?_)
  · blk_simp
    rw [after0_5]
  · rw [out5_at, b0_at m c t r k a h, b1_at m c t r k a h, b2_at m c t r k a h, b3_at m c t r k a h, vd]
theorem arr6 : (dats m 0 c).arrAt 6 cfg0.N = (fun i : S1024x256.Idx => vm m c (i 0) (i 1) : FVec Ideal S1024x256 .f32) := by
  refine (dats m 0 c).arrAt_eq_of_covers 6 _ (by decide +kernel) fun t _ y => ?_
  refine Eq.trans ?_ (rows_of_blocks t (vm m c) (((cfg0.win 6).blk t).view.emb y) y (out0_6 (iblk m c 0 t) (iblk m c 1 t) (iblk m c 2 t) (iblk m c 3 t))
    (by blk_simp [widx t] <;> omega) (by blk_simp [widx t] <;> omega) fun r k a h => ?_)
  · blk_simp
    rw [after0_6]
  · rw [out6_at, b1_at m c t r k a h, b2_at m c t r k a h, vm]
theorem arr7 : (dats m 0 c).arrAt 7 cfg0.N = (fun i : S1024x256.Idx => vv m c (i 0) (i 1) : FVec Ideal S1024x256 .f32) := by
  refine (dats m 0 c).arrAt_eq_of_covers 7 _ (by decide +kernel) fun t _ y => ?_
  refine Eq.trans ?_ (rows_of_blocks t (vv m c) (((cfg0.win 7).blk t).view.emb y) y (out0_7 (iblk m c 0 t) (iblk m c 1 t) (iblk m c 2 t) (iblk m c 3 t))
    (by blk_simp [widx t] <;> omega) (by blk_simp [widx t] <;> omega) fun r k a h => ?_)
  · blk_simp
    rw [after0_7]
  · rw [out7_at, b1_at m c t r k a h, b3_at m c t r k a h, vv]
end
end Cert.AdamW
end
-- ==== Proof.AdamWClaim.lean ====
module

public import proofs.«01_k».proof.Defs
public import proofs.«01_k».proof.Proof.AdamW
public import proofs.«01_k».proof.Proof.Gen.Kernel10.Frame
@[expose] public section

/-!
The claims of the optimiser's step.
-/

set_option maxRecDepth 16384

noncomputable section

open Idealize.ShloMosaic Idealize.SL.Sem
namespace Cert.AdamW
open Cert.Tiles

/-- The call's four results are the reference's, at all arguments. -/
theorem algebraic : Cert.algebraic_Kernel10Ideal_Reference10Ideal := by
  pair_intro
  · run_from Cert.Kernel10Ideal.Value.run_blocks m g
  · refine (θ_run _ _ _).mono (fun r h c => ⟨((h c).1.trans (Cert.Reference10Ideal.Read.val_main_v1_eq (F := Ideal) _)).trans ?_,
      ((h c).2.1.trans (Cert.Reference10Ideal.Read.val_main_v25_eq (F := Ideal) _ _ _ _)).trans ?_,
      ((h c).2.2.1.trans (Cert.Reference10Ideal.Read.val_main_v6_eq (F := Ideal) _ _)).trans ?_,
      ((h c).2.2.2.1.trans (Cert.Reference10Ideal.Read.val_main_v12_eq (F := Ideal) _ _)).trans ?_, (h c).2.2.2.2⟩) (Cert.Reference10Ideal.Value.run m' g')
    all_goals
      clear h
      obtain ⟨a0, a1, a2, a3⟩ := hagree c
    · rw [a1]
      exact (eq_of_pairs _ _ fun a b => v1_at _ a b).trans (arr4 m c).symm
    · rw [a0, a1, a2, a3]
      exact (eq_of_pairs _ _ fun a b => v25_at _ _ _ _ a b).trans (arr5 m c).symm
    · rw [a1, a2]
      exact (eq_of_pairs _ _ fun a b => v6_at _ _ a b).trans (arr6 m c).symm
    · rw [a1, a3]
      exact (eq_of_pairs _ _ fun a b => v12_at _ _ a b).trans (arr7 m c).symm

/-- The frames of the pair. -/
theorem frames : Cert.quiescent_Kernel10 ∧ Cert.quiescent_Kernel10Ideal ∧ Cert.quiescent_Reference10Ideal :=
  ⟨fun m ρ _ => Cert.Kernel10.Gen.frame m ρ, fun m ρ _ => Cert.Kernel10Ideal.Gen.frame m ρ,
    fun m ρ _ => (θ_run _ _ _).mono (fun r h => ⟨fun c => (h c).2.2.2.2, sem_eq_zero_of_no_sems rfl _⟩) (Cert.Reference10Ideal.Value.run m ρ)⟩
end Cert.AdamW
end
-- ==== Proof.AttnFwd.lean ====
module

public import proofs.«01_k».proof.Proof.Gen.Kernel11Ideal.Value
public import proofs.«01_k».proof.Proof.Gen.Reference11Ideal.Run
public import proofs.«01_k».proof.Proof.Gen.Reference11Ideal.Read
public import proofs.«01_k».proof.Proof.Stream
public import proofs.«01_k».proof.Proof.Tiles
public import Idealize.ShloMosaic.Lib.Claim
@[expose] public section

/-!
The attention's input: each row of the stream normed, scaled, shifted and projected, over the extended reals.
-/

set_option maxRecDepth 16384

noncomputable section

open Idealize.ShloMosaic Idealize.SL.Sem
namespace Cert.AttnFwd
open Cert.Kernel11Ideal Cert.Kernel11Ideal.Gen Cert.LossSpec Cert.Tiles Cert.Stream

/-- A lane of the projection, from a result's first one. -/
def lane (o n : ℕ) (h : o + n ≤ 2560) (k : Fin n) : Fin 2560 := ⟨o + k.val, Nat.lt_of_lt_of_le (Nat.add_lt_add_left k.isLt o) h⟩

theorem pay3_at (v0 : Vec Ideal S256x1024 .f32) (v1 : Vec Ideal S1x1024 .f32) (v3 v5 : Vec Ideal S1x1x1024 .f32) (v25 : Vec Ideal S1024x2560 .f32) (r : Fin 256) (k : Fin 2560) :
    k0_pay3 (F := Ideal) v0 v1 v3 v5 v25 (ix2 r k)
      = proj (fun d => v0 (ix2 r d)) (fun d => v1 (ix2 0 d)) (fun d => v3 (ix3 0 0 d)) (fun d => v5 (ix3 0 0 d)) (fun d k => v25 (ix2 d k)) k := by
  pointwise [k0_pay3]
  rfl

section
open Cert.Reference11Ideal.Read
variable (x0 : FVec Ideal S8448x1024 .f32) (x1 : FVec Ideal S1024 .f32) (x2 x3 : FVec Ideal S2x1024 .f32) (x4 : FVec Ideal S1024x2560 .f32)

/-- The projection of row `a`. -/
def sproj (a : Fin 8448) (k : Fin 2560) : EReal :=
  proj (fun d => x0 (ix2 a d)) (fun d => x1 (ix1 d)) (fun d => x2 (ix2 (SsminSpec.seg a.val) d)) (fun d => x3 (ix2 (SsminSpec.seg a.val) d)) (fun d k => x4 (ix2 d k)) k

theorem zero_v (i : Cert.Reference11Ideal.S_.Idx) : val_main_cst (F := Ideal) i = 0 ∧ val_main_cst_3 (F := Ideal) i = 0 := ⟨bits_0, bits_0⟩
theorem one_v (i : Cert.Reference11Ideal.S_.Idx) : val_main_cst_2 (F := Ideal) i = 1 ∧ val_main_cst_6 (F := Ideal) i = 1 := ⟨bits_1, bits_1⟩
/-- A token's row, modulated by the reference. -/
theorem tok_at (a : Fin 8192) (d : Fin 1024) : val_main_v25 (F := Ideal) x0 x1 x2 x3 (ix2 a d)
    = hid (fun d => x0 (ix2 ⟨256 + a.val, by omega⟩ d)) (fun d => x1 (ix1 d)) (fun d => x2 (ix2 1 d)) (fun d => x3 (ix2 1 d)) d := by
  unfold val_main_v25 val_main_v20 val_main_v13 val_main_v10 val_main_v9 val_main_v8 val_main_v7 val_main_v5 val_main_v3 val_main_v2 val_main_v1 val_main_v0
  unfold val_main_v4 val_main_v6 val_main_v12 val_main_v11 val_main_v19 val_main_v18 val_main_v17 val_main_v16 val_main_v15 val_main_v14
  unfold val_main_v24 val_main_v23 val_main_v22 val_main_v21
  pointwise []
  rw [(zero_v _).1, (one_v _).1, zero_add]
  rfl
/-- A context's row, modulated by the reference. -/
theorem ctx_at (a : Fin 256) (d : Fin 1024) : val_main_v51 (F := Ideal) x0 x1 x2 x3 (ix2 a d)
    = hid (fun d => x0 (ix2 ⟨a.val, by omega⟩ d)) (fun d => x1 (ix1 d)) (fun d => x2 (ix2 0 d)) (fun d => x3 (ix2 0 d)) d := by
  unfold val_main_v51 val_main_v46 val_main_v39 val_main_v36 val_main_v35 val_main_v34 val_main_v33 val_main_v31 val_main_v29 val_main_v28 val_main_v27 val_main_v26
  unfold val_main_v30 val_main_v32 val_main_v38 val_main_v37 val_main_v45 val_main_v44 val_main_v43 val_main_v42 val_main_v41 val_main_v40
  unfold val_main_v50 val_main_v49 val_main_v48 val_main_v47
  pointwise []
  rw [(zero_v _).2, (one_v _).2, zero_add]
  rfl
theorem v54_at (a : Fin 8448) (k : Fin 2560) : val_main_v54 (F := Ideal) x0 x1 x2 x3 x4 (ix2 a k) = sproj x0 x1 x2 x3 x4 a k := by
  unfold val_main_v54 val_main_v52 val_main_v53
  have e0 := ctx_at x0 x1 x2 x3
  have e1 := tok_at x0 x1 x2 x3
  generalize val_main_v51 (F := Ideal) x0 x1 x2 x3 = y0 at e0 ⊢
  generalize val_main_v25 (F := Ideal) x0 x1 x2 x3 = y1 at e1 ⊢
  pointwise []
  simp only [e0, e1]
  unfold sproj proj SsminSpec.seg
  by_cases h : a.val < 256
  · simp only [dif_pos h, if_pos h]
  · have e : (⟨256 + (a.val - 256), by omega⟩ : Fin 8448) = a := Fin.ext (show 256 + (a.val - 256) = a.val by omega)
    simp only [dif_neg h, if_neg h, e]
theorem results_at (a : Fin 8448) :
    (∀ k : Fin 256, val_main_v56 (F := Ideal) x0 x1 x2 x3 x4 (ix2 a k) = sproj x0 x1 x2 x3 x4 a (lane 1280 256 (by decide) k))
    ∧ (∀ k : Fin 1024, val_main_v57 (F := Ideal) x0 x1 x2 x3 x4 (ix2 a k) = sproj x0 x1 x2 x3 x4 a (lane 1536 1024 (by decide) k))
    ∧ (∀ k : Fin 1280, val_main_v58 (F := Ideal) x0 x1 x2 x3 x4 (ix2 a k) = sproj x0 x1 x2 x3 x4 a (lane 0 1280 (by decide) k)) := by
  have e := v54_at x0 x1 x2 x3 x4
  unfold val_main_v58 val_main_v57 val_main_v56 val_main_v55
  generalize val_main_v54 (F := Ideal) x0 x1 x2 x3 x4 = y at e ⊢
  refine ⟨fun k => ?_, fun k => ?_, fun k => ?_⟩
  all_goals
    pointwise []
    rw [e]
    unfold lane
    try simp only [Nat.zero_add]
end

/-! What the call leaves. -/

/-- The blocks the windows stand on. -/
theorem widx : ∀ t : Fin cfg0.N, win0_0.index t = ![t.val, 0] ∧ win0_1.index t = ![0, 0]
    ∧ win0_2.index t = ![if t.val = 0 then 0 else 1, 0, 0] ∧ win0_3.index t = ![if t.val = 0 then 0 else 1, 0, 0] ∧ win0_4.index t = ![0, 0]
    ∧ win0_13.index t = ![t.val, 0] ∧ win0_14.index t = ![t.val, 0] ∧ win0_15.index t = ![t.val, 0] :=
  (by decide +kernel : ∀ t : Fin grid0.N, _)

variable (m : (ℓ : Loc nD τ sig) → Buf (Elt Ideal) ℓ) (c : Dev nD)

/-- The projection of row `a`, of the launch's arguments. -/
abbrev mproj (a : Fin 8448) (k : Fin 2560) : EReal :=
  sproj (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) a k

section
variable (t : Fin cfg0.N)
theorem b0_at (r : Fin 256) (d : Fin 1024) (a : Fin 8448) (h : a.val = 256 * t.val + r.val) : (iblk m c 0 t : FVec Ideal S256x1024 .f32) (ix2 r d)
    = (m ((c.tc : Thread nD τ).loc main_arg0) : FVec Ideal S8448x1024 .f32) (ix2 a d) := by
  rw [← V_main_arg0 m c]
  blk_ext! [iblk, widx t]
theorem b1_at (d : Fin 1024) : (iblk m c 1 t : FVec Ideal S1x1024 .f32) (ix2 0 d) = (m ((c.tc : Thread nD τ).loc main_arg1) : FVec Ideal S1024 .f32) (ix1 d) := by
  have e : (V m c main_v48 : FVec Ideal S1x1024 .f32) = shapeCast S1x1024 (m ((c.tc : Thread nD τ).loc main_arg1) : FVec Ideal S1024 .f32) shapeCasts_S1024_S1x1024 := by
    entry_read
    rfl
  have e' : (V m c main_v48 : FVec Ideal S1x1024 .f32) (ix2 0 d) = (m ((c.tc : Thread nD τ).loc main_arg1) : FVec Ideal S1024 .f32) (ix1 d) := by
    rw [e]
    pointwise []
  rw [← e']
  blk_ext! [iblk, widx t]
set_option maxHeartbeats 2000000 in
theorem b2_at (d : Fin 1024) : (iblk m c 2 t : FVec Ideal S1x1x1024 .f32) (ix3 0 0 d) = (m ((c.tc : Thread nD τ).loc main_arg2) : FVec Ideal S2x1024 .f32) (ix2 (sg t.val) d) := by
  have e : (V m c main_v49 : FVec Ideal S2x1x1024 .f32) = shapeCast S2x1x1024 (m ((c.tc : Thread nD τ).loc main_arg2) : FVec Ideal S2x1024 .f32) shapeCasts_S2x1024_S2x1x1024 := by
    entry_read
    rfl
  have e' (s : Fin 2) : (V m c main_v49 : FVec Ideal S2x1x1024 .f32) (ix3 s 0 d) = (m ((c.tc : Thread nD τ).loc main_arg2) : FVec Ideal S2x1024 .f32) (ix2 s d) := by
    rw [e]
    pointwise []
  rw [← e']
  unfold sg
  have w := (widx t).2.2.1
  split at w
  · rename_i h; rw [if_pos h]; blk_ext! [iblk, w]
  · rename_i h; rw [if_neg h]; blk_ext! [iblk, w]
set_option maxHeartbeats 2000000 in
theorem b3_at (d : Fin 1024) : (iblk m c 3 t : FVec Ideal S1x1x1024 .f32) (ix3 0 0 d) = (m ((c.tc : Thread nD τ).loc main_arg3) : FVec Ideal S2x1024 .f32) (ix2 (sg t.val) d) := by
  have e : (V m c main_v50 : FVec Ideal S2x1x1024 .f32) = shapeCast S2x1x1024 (m ((c.tc : Thread nD τ).loc main_arg3) : FVec Ideal S2x1024 .f32) shapeCasts_S2x1024_S2x1x1024 := by
    entry_read
    rfl
  have e' (s : Fin 2) : (V m c main_v50 : FVec Ideal S2x1x1024 .f32) (ix3 s 0 d) = (m ((c.tc : Thread nD τ).loc main_arg3) : FVec Ideal S2x1024 .f32) (ix2 s d) := by
    rw [e]
    pointwise []
  rw [← e']
  unfold sg
  have w := (widx t).2.2.2.1
  split at w
  · rename_i h; rw [if_pos h]; blk_ext! [iblk, w]
  · rename_i h; rw [if_neg h]; blk_ext! [iblk, w]
theorem b4_at (d : Fin 1024) (k : Fin 2560) : (iblk m c 4 t : FVec Ideal S1024x2560 .f32) (ix2 d k) = (m ((c.tc : Thread nD τ).loc main_arg4) : FVec Ideal S1024x2560 .f32) (ix2 d k) := by
  rw [← V_main_arg4 m c]
  blk_ext! [iblk, widx t]

/-- What a point computes: its rows' projections. -/
theorem row_at (r : Fin 256) (a : Fin 8448) (k : Fin 2560) (h : a.val = 256 * t.val + r.val) :
    k0_pay3 (F := Ideal) (iblk m c 0 t) (iblk m c 1 t) (iblk m c 2 t) (iblk m c 3 t) (iblk m c 4 t) (ix2 r k) = mproj m c a k := by
  rw [pay3_at]
  unfold mproj sproj
  simp only [b0_at m c t r _ a h, b1_at, b2_at, b3_at, b4_at, h, seg_tile]

/-- A result whose blocks hold `v` at the rows of their point holds `v`. -/
theorem rows_of_blocks {n : ℕ} (v : Fin 8448 → Fin n → EReal) (e : (⟨2, ![8448, n]⟩ : Shape).Idx) (y : (⟨2, ![256, n]⟩ : Shape).Idx) (o : (⟨2, ![256, n]⟩ : Shape).Idx → EReal)
    (e0 : (e 0).val = 256 * t.val + (y 0).val) (e1 : (e 1).val = (y 1).val)
    (h : ∀ (r : Fin 256) (k : Fin n) (a : Fin 8448), a.val = 256 * t.val + r.val → o (ix2 r k) = v a k) : o y = v (e 0) (e 1) := by
  rw [Fin.ext (a := e 1) (b := (y 1 : Fin n)) e1]
  exact (congrArg o (ix_row (n := 256) (k := n) y)).trans (h _ _ _ e0)
end

/-- The projection from whole-block loads. -/
theorem pay15_eq (x0 : Vec Ideal S256x1024 .f32) (x1 : Vec Ideal S1x1024 .f32) (x2 x3 : Vec Ideal S1x1x1024 .f32) (x4 : Vec Ideal S1024x2560 .f32) (x5 : Vec Ideal S1x1024 .f32)
    (x6 : Vec Ideal S1x256 .f32) (x7 x8 : Vec Ideal S256x128 .f32) (x9 : Vec Ideal S1024x128 .bf16) (x10 : Vec Ideal S256x128 .bf16) :
    k0_pay15 (F := Ideal) x0 x1 x2 x3 x4 x5 x6 x7 x8 x9 x10 = k0_pay3 x0 x1 x2 x3 x4 := by
  unfold k0_pay15
  rw [View.ld_unit_lit _ x0 (by decide), View.ld_unit_lit _ x1 (by decide), View.ld_unit_lit _ x2 (by decide), View.ld_unit_lit _ x3 (by decide), View.ld_unit_lit _ x4 (by decide)]

/-- The values. -/
theorem arr13 : (dats m 0 c).arrAt 13 cfg0.N = (fun i : S8448x256.Idx => mproj m c (i 0) (lane 1280 256 (by decide) (i 1)) : FVec Ideal S8448x256 .bf16) := by
  refine (dats m 0 c).arrAt_eq_of_covers 13 _ (by decide +kernel) fun t _ y => ?_
  refine Eq.trans ?_ (rows_of_blocks t (fun a k => mproj m c a (lane 1280 256 (by decide) k)) (((cfg0.win 13).blk t).view.emb y) y
    (k0_pay14 (F := Ideal) (k0_pay3 (iblk m c 0 t) (iblk m c 1 t) (iblk m c 2 t) (iblk m c 3 t) (iblk m c 4 t)))
    (by blk_simp [widx t] <;> omega) (by blk_simp [widx t] <;> omega) fun r k a h => ?_)
  · blk_simp
    rw [after0_13]
    unfold out0_13
    rw [View.canon_unit_zero (View.eq_zero_of_forall (by decide)), pay15_eq]
  · rw [← row_at m c t r a _ h]
    generalize k0_pay3 (F := Ideal) (iblk m c 0 t) (iblk m c 1 t) (iblk m c 2 t) (iblk m c 3 t) (iblk m c 4 t) = z
    pointwise [k0_pay14]
    rfl
/-- The gate's input. -/
theorem arr14 : (dats m 0 c).arrAt 14 cfg0.N = (fun i : S8448x1024.Idx => mproj m c (i 0) (lane 1536 1024 (by decide) (i 1)) : FVec Ideal S8448x1024 .f32) := by
  refine (dats m 0 c).arrAt_eq_of_covers 14 _ (by decide +kernel) fun t _ y => ?_
  refine Eq.trans ?_ (rows_of_blocks t (fun a k => mproj m c a (lane 1536 1024 (by decide) k)) (((cfg0.win 14).blk t).view.emb y) y
    (k0_pay1 (F := Ideal) (k0_pay3 (iblk m c 0 t) (iblk m c 1 t) (iblk m c 2 t) (iblk m c 3 t) (iblk m c 4 t)))
    (by blk_simp [widx t] <;> omega) (by blk_simp [widx t] <;> omega) fun r k a h => ?_)
  · blk_simp
    rw [after0_14]
    unfold out0_14
    rw [View.canon_unit_zero (View.eq_zero_of_forall (by decide)), pay15_eq]
  · rw [← row_at m c t r a _ h]
    generalize k0_pay3 (F := Ideal) (iblk m c 0 t) (iblk m c 1 t) (iblk m c 2 t) (iblk m c 3 t) (iblk m c 4 t) = z
    pointwise [k0_pay1]
    rfl
/-- The queries and keys before their norms. -/
theorem arr15 : (dats m 0 c).arrAt 15 cfg0.N = (fun i : S8448x1280.Idx => mproj m c (i 0) (lane 0 1280 (by decide) (i 1)) : FVec Ideal S8448x1280 .f32) := by
  refine (dats m 0 c).arrAt_eq_of_covers 15 _ (by decide +kernel) fun t _ y => ?_
  refine Eq.trans ?_ (rows_of_blocks t (fun a k => mproj m c a (lane 0 1280 (by decide) k)) (((cfg0.win 15).blk t).view.emb y) y
    (k0_pay2 (F := Ideal) (k0_pay3 (iblk m c 0 t) (iblk m c 1 t) (iblk m c 2 t) (iblk m c 3 t) (iblk m c 4 t)))
    (by blk_simp [widx t] <;> omega) (by blk_simp [widx t] <;> omega) fun r k a h => ?_)
  · blk_simp
    rw [after0_15]
    unfold out0_15
    rw [View.canon_unit_zero (View.eq_zero_of_forall (by decide)), pay15_eq]
  · rw [← row_at m c t r a _ h]
    generalize k0_pay3 (F := Ideal) (iblk m c 0 t) (iblk m c 1 t) (iblk m c 2 t) (iblk m c 3 t) (iblk m c 4 t) = z
    pointwise [k0_pay2]
    exact congrArg z (congrArg (ix2 r) (Fin.ext (Nat.zero_add _).symm))
end Cert.AttnFwd
end
-- ==== Proof.AttnFwdClaim.lean ====
module

public import proofs.«01_k».proof.Defs
public import proofs.«01_k».proof.Proof.AttnFwd
public import proofs.«01_k».proof.Proof.Gen.Kernel11.Frame
@[expose] public section

/-!
The claims of the attention's input.
-/

set_option maxRecDepth 16384

noncomputable section

open Idealize.ShloMosaic Idealize.SL.Sem
namespace Cert.AttnFwd
open Cert.Tiles

/-- The call's three results are the reference's, at all arguments. -/
theorem algebraic : Cert.algebraic_Kernel11Ideal_Reference11Ideal := by
  pair_intro
  · run_from Cert.Kernel11Ideal.Value.run_blocks m g
  · refine (θ_run _ _ _).mono (fun r h c => ⟨((h c).1.trans (Cert.Reference11Ideal.Read.val_main_v56_eq (F := Ideal) _ _ _ _ _)).trans ?_,
      ((h c).2.1.trans (Cert.Reference11Ideal.Read.val_main_v57_eq (F := Ideal) _ _ _ _ _)).trans ?_,
      ((h c).2.2.1.trans (Cert.Reference11Ideal.Read.val_main_v58_eq (F := Ideal) _ _ _ _ _)).trans ?_, (h c).2.2.2⟩) (Cert.Reference11Ideal.Value.run m' g')
    all_goals
      clear h
      obtain ⟨a0, a1, a2, a3, a4, a5, a6⟩ := hagree c
      rw [a0, a1, a2, a3, a4]
    · exact (eq_of_pairs _ _ fun a b => (results_at _ _ _ _ _ a).1 b).trans (arr13 m c).symm
    · exact (eq_of_pairs _ _ fun a b => (results_at _ _ _ _ _ a).2.1 b).trans (arr14 m c).symm
    · exact (eq_of_pairs _ _ fun a b => (results_at _ _ _ _ _ a).2.2 b).trans (arr15 m c).symm

/-- The frames of the pair. -/
theorem frames : Cert.quiescent_Kernel11 ∧ Cert.quiescent_Kernel11Ideal ∧ Cert.quiescent_Reference11Ideal :=
  ⟨fun m ρ _ => Cert.Kernel11.Gen.frame m ρ, fun m ρ _ => Cert.Kernel11Ideal.Gen.frame m ρ,
    fun m ρ _ => (θ_run _ _ _).mono (fun r h => ⟨fun c => (h c).2.2.2, sem_eq_zero_of_no_sems rfl _⟩) (Cert.Reference11Ideal.Value.run m ρ)⟩
end Cert.AttnFwd
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import Idealize.ShloMosaic.Adequacy
public import Idealize.ShloMosaic.Init
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Pre_finite2
public import proofs.«01_k».proof.Proof.ModClaim
public import proofs.«01_k».proof.Proof.FlashClaim
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Pre_finite4
public import proofs.«01_k».proof.Proof.LossClaim
public import proofs.«01_k».proof.Proof.Gen.Kernel5
public import proofs.«01_k».proof.Proof.Gen.Kernel5Ideal
public import proofs.«01_k».proof.Proof.Gen.Reference5Ideal
public import proofs.«01_k».proof.Proof.Gen.Pre_finite5
public import proofs.«01_k».proof.Proof.SsminClaim
public import proofs.«01_k».proof.Proof.Gen.Kernel3
public import proofs.«01_k».proof.Proof.Gen.Kernel3Ideal
public import proofs.«01_k».proof.Proof.Gen.Reference3Ideal
public import proofs.«01_k».proof.Proof.Gen.Pre_finite3
public import proofs.«01_k».proof.Proof.PostClaim
public import proofs.«01_k».proof.Proof.Gen.Kernel6
public import proofs.«01_k».proof.Proof.Gen.Kernel6Ideal
public import proofs.«01_k».proof.Proof.Gen.Reference6Ideal
public import proofs.«01_k».proof.Proof.AttnWords
public import proofs.«01_k».proof.Proof.Gen.Kernel7
public import proofs.«01_k».proof.Proof.Gen.Kernel7Ideal
public import proofs.«01_k».proof.Proof.Gen.Reference7Ideal
public import proofs.«01_k».proof.Proof.SsmFwdClaim
public import proofs.«01_k».proof.Proof.Gen.Kernel8
public import proofs.«01_k».proof.Proof.Gen.Kernel8Ideal
public import proofs.«01_k».proof.Proof.Gen.Reference8Ideal
public import proofs.«01_k».proof.Proof.SsmPostClaim
public import proofs.«01_k».proof.Proof.Gen.Kernel9
public import proofs.«01_k».proof.Proof.Gen.Kernel9Ideal
public import proofs.«01_k».proof.Proof.Gen.Reference9Ideal
public import proofs.«01_k».proof.Proof.ModFwdClaim
public import proofs.«01_k».proof.Proof.Gen.Kernel10
public import proofs.«01_k».proof.Proof.Gen.Kernel10Ideal
public import proofs.«01_k».proof.Proof.Gen.Reference10Ideal
public import proofs.«01_k».proof.Proof.AdamWClaim
public import proofs.«01_k».proof.Proof.Gen.Kernel11
public import proofs.«01_k».proof.Proof.Gen.Kernel11Ideal
public import proofs.«01_k».proof.Proof.Gen.Reference11Ideal
public import proofs.«01_k».proof.Proof.AttnFwdClaim

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel3.Gen.facts, Cert.Kernel3Ideal.Gen.facts, Cert.Reference3Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts, Cert.Pre_finite.Gen.facts, Cert.Pre_finite2.Gen.facts, Cert.Pre_finite4.Gen.facts, Cert.Pre_finite5.Gen.facts, Cert.Pre_finite3.Gen.facts,
  Cert.FlashClaim.frames.1, Cert.FlashClaim.frames.2.1, Cert.FlashClaim.frames.2.2.1, Cert.FlashClaim.frames.2.2.2.1, Cert.FlashClaim.frames.2.2.2.2,
  Cert.ModClaim.frames.1, Cert.ModClaim.frames.2.1, Cert.ModClaim.frames.2.2.1, Cert.ModClaim.frames.2.2.2.1, Cert.ModClaim.frames.2.2.2.2,
  Cert.LossClaim.frames.1, Cert.LossClaim.frames.2.1, Cert.LossClaim.frames.2.2.1, Cert.LossClaim.frames.2.2.2.1, Cert.LossClaim.frames.2.2.2.2,
  Cert.SsminClaim.frames.1, Cert.SsminClaim.frames.2.1, Cert.SsminClaim.frames.2.2.1, Cert.SsminClaim.frames.2.2.2.1, Cert.SsminClaim.frames.2.2.2.2,
  Cert.PostClaim.frames.1, Cert.PostClaim.frames.2.1, Cert.PostClaim.frames.2.2.1, Cert.PostClaim.frames.2.2.2.1, Cert.PostClaim.frames.2.2.2.2,
  Cert.AttnWords.words, Cert.AttnWords.ideal, Cert.AttnWords.ref,
  Cert.SsmFwd.frames.1, Cert.SsmFwd.frames.2.1, Cert.SsmFwd.frames.2.2,
  Cert.SsmPost.frames.1, Cert.SsmPost.frames.2.1, Cert.SsmPost.frames.2.2,
  Cert.ModFwd.frames.1, Cert.ModFwd.frames.2.1, Cert.ModFwd.frames.2.2,
  Cert.AdamW.frames.1, Cert.AdamW.frames.2.1, Cert.AdamW.frames.2.2,
  Cert.AttnFwd.frames.1, Cert.AttnFwd.frames.2.1, Cert.AttnFwd.frames.2.2,
  trivial, Cert.FlashClaim.algebraic, trivial, Cert.ModClaim.algebraic, trivial, Cert.LossClaim.algebraic, trivial, Cert.SsminClaim.algebraic, Cert.PostClaim.preserves, Cert.PostClaim.algebraic, trivial, trivial, Cert.SsmFwd.algebraic,
  Cert.SsmPost.preserves, Cert.SsmPost.algebraic, trivial, Cert.ModFwd.algebraic, trivial, Cert.AdamW.algebraic, trivial, Cert.AttnFwd.algebraic⟩

end Cert.Proof

end
